-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_bf16 [hPre_within_bf16 : Cert.Pre_within_bf16.Facts] (m : (ℓ : Loc Cert.KernelIdeal.nD Cert.KernelIdeal.τ Cert.KernelIdeal.sig) → Buf (Elt Ideal) ℓ) : Prop :=
  ∀ c : Dev Cert.KernelIdeal.nD,
    (Cert.Pre_within_bf16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_bf16 [hPre_within_bf16 : Cert.Pre_within_bf16.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_bf16.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_within_bf16 [hKernelIdeal : Cert.KernelIdeal.Facts] [hPre_within_bf16 : Cert.Pre_within_bf16.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_bf16 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_within_bf16 [hReferenceIdeal : Cert.ReferenceIdeal.Facts] [hPre_within_bf16 : Cert.Pre_within_bf16.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_bf16 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_within_bf16 [hKernelIdeal : Cert.KernelIdeal.Facts] [hReferenceIdeal : Cert.ReferenceIdeal.Facts] [hPre_within_bf16 : Cert.Pre_within_bf16.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_bf16 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_within_bf16 : Cert.Pre_within_bf16.Facts),
    quiescent_Kernel (hKernel := hKernel)
    ∧ quiescent_KernelIdeal (hKernelIdeal := hKernelIdeal)
    ∧ quiescent_KernelIdeal_pre_within_bf16 (hKernelIdeal := hKernelIdeal) (hPre_within_bf16 := hPre_within_bf16)
    ∧ quiescent_ReferenceIdeal (hReferenceIdeal := hReferenceIdeal)
    ∧ quiescent_ReferenceIdeal_pre_within_bf16 (hReferenceIdeal := hReferenceIdeal) (hPre_within_bf16 := hPre_within_bf16)
    ∧ preserves_Kernel_KernelIdeal
    ∧ algebraic_KernelIdeal_ReferenceIdeal_pre_within_bf16 (hKernelIdeal := hKernelIdeal) (hReferenceIdeal := hReferenceIdeal) (hPre_within_bf16 := hPre_within_bf16)
-- ==== Pre_within_bf16.lean ====
abbrev S2x512x11008 : Shape := ⟨3, ![2, 512, 11008]⟩
abbrev S2x512x4096 : Shape := ⟨3, ![2, 512, 4096]⟩
abbrev S_ : Shape := ⟨0, ![]⟩
abbrev S11008x4096 : Shape := ⟨2, ![11008, 4096]⟩

class Facts : Prop where
  bitsLt_bf16_f32 : FTy.bits .bf16 < FTy.bits .f32
  bcast_S_S2x512x11008 : S_.BroadcastsInDim S2x512x11008 (![] : Fin 0 → Fin S2x512x11008.rank)

variable [Facts]

def fn {F : FTy → Type} [FloatOps F] (main_arg0 : FVec F S2x512x11008 .bf16) (main_arg1 : FVec F S2x512x4096 .fp8e4m3) (main_arg2 : FVec F S_ .f32) (main_arg3 : FVec F S11008x4096 .fp8e4m3) (main_arg4 : FVec F S_ .f32) (main_arg5 : FVec F S11008x4096 .f32) : IVec S2x512x11008 1 :=
  let main_v0 : FVec F S2x512x11008 .f32 := (extf .f32 · bitsLt_bf16_f32) main_arg0
  let main_v1 : FVec F S2x512x11008 .f32 := Host.absf main_v0
  let main_cst : FVec F S_ .f32 := constant S_ .f32 0x7F7F0000#32
  let main_v2 : FVec F S2x512x11008 .f32 := broadcastInDim S2x512x11008 ![] bcast_S_S2x512x11008 main_cst
  let main_v3 : IVec S2x512x11008 1 := cmpf .ole main_v1 main_v2
  main_v3
-- ==== Kernel.lean ====
abbrev S2x512x11008 : Shape := ⟨3, ![2, 512, 11008]⟩
abbrev S2x512x4096 : Shape := ⟨3, ![2, 512, 4096]⟩
abbrev S_ : Shape := ⟨0, ![]⟩
abbrev S11008x4096 : Shape := ⟨2, ![11008, 4096]⟩
abbrev S1x1 : Shape := ⟨2, ![1, 1]⟩
abbrev S1024x11008 : Shape := ⟨2, ![1024, 11008]⟩
abbrev S1024x4096 : Shape := ⟨2, ![1024, 4096]⟩
abbrev S3x256x4096 : Shape := ⟨3, ![3, 256, 4096]⟩
abbrev S2x1024x256 : Shape := ⟨3, ![2, 1024, 256]⟩
abbrev S12x256x1024 : Shape := ⟨3, ![12, 256, 1024]⟩
abbrev S16 : Shape := ⟨1, ![16]⟩
abbrev S3 : Shape := ⟨1, ![3]⟩
abbrev S2 : Shape := ⟨1, ![2]⟩
abbrev S12 : Shape := ⟨1, ![12]⟩
abbrev S8 : Shape := ⟨1, ![8]⟩
abbrev S1 : Shape := ⟨1, ![1]⟩
abbrev S64x11008 : Shape := ⟨2, ![64, 11008]⟩
abbrev S1x256x4096 : Shape := ⟨3, ![1, 256, 4096]⟩
abbrev S256x4096 : Shape := ⟨2, ![256, 4096]⟩
abbrev S1x256x1024 : Shape := ⟨3, ![1, 256, 1024]⟩
abbrev S256x1024 : Shape := ⟨2, ![256, 1024]⟩
abbrev S64x128 : Shape := ⟨2, ![64, 128]⟩
abbrev S1x64x128 : Shape := ⟨3, ![1, 64, 128]⟩
abbrev S1x1x1 : Shape := ⟨3, ![1, 1, 1]⟩
abbrev S1x256 : Shape := ⟨2, ![1, 256]⟩
abbrev S1x1x256 : Shape := ⟨3, ![1, 1, 256]⟩
abbrev S1024x256 : Shape := ⟨2, ![1024, 256]⟩
abbrev S1x1024x256 : Shape := ⟨3, ![1, 1024, 256]⟩
abbrev S1024x512 : Shape := ⟨2, ![1024, 512]⟩
abbrev S1x256x512 : Shape := ⟨3, ![1, 256, 512]⟩
abbrev S256x512 : Shape := ⟨2, ![256, 512]⟩
abbrev S1024x1024 : Shape := ⟨2, ![1024, 1024]⟩
abbrev S128x4096 : Shape := ⟨2, ![128, 4096]⟩

abbrev nBuf : Space → Nat
  | .hbm => 15
  | .vmem => 6
  | .smem => 4
  | _ => 0

abbrev bufTy : (tb : Table) → Fin (tcTables nBuf tb) → BufTy
  | .hbm, ⟨0, _⟩ => ⟨S2x512x11008, .bf16⟩
  | .hbm, ⟨1, _⟩ => ⟨S2x512x4096, .fp8e4m3⟩
  | .hbm, ⟨2, _⟩ => ⟨S_, .f32⟩
  | .hbm, ⟨3, _⟩ => ⟨S11008x4096, .fp8e4m3⟩
  | .hbm, ⟨4, _⟩ => ⟨S_, .f32⟩
  | .hbm, ⟨5, _⟩ => ⟨S11008x4096, .f32⟩
  | .hbm, ⟨6, _⟩ => ⟨S1x1, .f32⟩
  | .hbm, ⟨7, _⟩ => ⟨S1x1, .f32⟩
  | .hbm, ⟨8, _⟩ => ⟨S1024x11008, .bf16⟩
  | .hbm, ⟨9, _⟩ => ⟨S1024x4096, .fp8e4m3⟩
  | .hbm, ⟨10, _⟩ => ⟨S1024x4096, .bf16⟩
  | .hbm, ⟨11, _⟩ => ⟨S11008x4096, .f32⟩
  | .hbm, ⟨12, _⟩ => ⟨S1x1, .f32⟩
  | .hbm, ⟨13, _⟩ => ⟨S1024x11008, .fp8e5m2⟩
  | .hbm, ⟨14, _⟩ => ⟨S1x1, .f32⟩
  | .local _ .vmem, ⟨0, _⟩ => ⟨S1024x11008, .bf16⟩
  | .local _ .vmem, ⟨1, _⟩ => ⟨S1024x4096, .fp8e4m3⟩
  | .local _ .vmem, ⟨2, _⟩ => ⟨S3x256x4096, .fp8e4m3⟩
  | .local _ .vmem, ⟨3, _⟩ => ⟨S2x1024x256, .fp8e5m2⟩
  | .local _ .vmem, ⟨4, _⟩ => ⟨S12x256x1024, .f32⟩
  | .local _ .vmem, ⟨5, _⟩ => ⟨S1024x4096, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S2x512x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32_114 : BitVec 32 := 0#32
  let c16_i32 : BitVec 32 := 16#32
  let v124 : BitVec 32 := Scalar.addi c0_i32_114 c16_i32
  let c1_i32_115 : BitVec 32 := 1#32
  ⟨c0_i32_114, v124, c1_i32_115⟩
def k0_off1 (k0_t1 : Fin k0_t1_loop.trips) : Fin 1 → Nat :=
  let c0_i32_114 : BitVec 32 := 0#32
  let c1_i32_115 : BitVec 32 := 1#32
  let arg24 : BitVec 32 := Scf.iv c0_i32_114 c1_i32_115 k0_t1
  ![arg24.toNat]
def k0_off2 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_277 : BitVec 32 := 64#32
  let v329 : BitVec 32 := Scalar.muli arg24 c64_i32_277
  let c0_i32_278 : BitVec 32 := 0#32
  ![v329.toNat, 0]
def k0_off3 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v335 : Index := Scalar.indexCast v334
  let c0_281 : Index := 0#32
  ![v335.toNat, 0]
def k0_off4 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v339 : Index := Scalar.indexCast v334
  let c128_282 : Index := 128#32
  ![v339.toNat, 128]
def k0_off5 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v343 : Index := Scalar.indexCast v334
  let c256_283 : Index := 256#32
  ![v343.toNat, 256]
def k0_off6 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v347 : Index := Scalar.indexCast v334
  let c384_284 : Index := 384#32
  ![v347.toNat, 384]
def k0_off7 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v351 : Index := Scalar.indexCast v334
  let c512_285 : Index := 512#32
  ![v351.toNat, 512]
def k0_off8 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v355 : Index := Scalar.indexCast v334
  let c640_286 : Index := 640#32
  ![v355.toNat, 640]
def k0_off9 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v359 : Index := Scalar.indexCast v334
  let c768_287 : Index := 768#32
  ![v359.toNat, 768]
def k0_off10 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v363 : Index := Scalar.indexCast v334
  let c896_288 : Index := 896#32
  ![v363.toNat, 896]
def k0_off11 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v367 : Index := Scalar.indexCast v334
  let c1024 : Index := 1024#32
  ![v367.toNat, 1024]
def k0_off12 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v371 : Index := Scalar.indexCast v334
  let c1152 : Index := 1152#32
  ![v371.toNat, 1152]
def k0_off13 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v375 : Index := Scalar.indexCast v334
  let c1280 : Index := 1280#32
  ![v375.toNat, 1280]
def k0_off14 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v379 : Index := Scalar.indexCast v334
  let c1408 : Index := 1408#32
  ![v379.toNat, 1408]
def k0_off15 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v383 : Index := Scalar.indexCast v334
  let c1536 : Index := 1536#32
  ![v383.toNat, 1536]
def k0_off16 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v387 : Index := Scalar.indexCast v334
  let c1664 : Index := 1664#32
  ![v387.toNat, 1664]
def k0_off17 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v391 : Index := Scalar.indexCast v334
  let c1792 : Index := 1792#32
  ![v391.toNat, 1792]
def k0_off18 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v395 : Index := Scalar.indexCast v334
  let c1920 : Index := 1920#32
  ![v395.toNat, 1920]
def k0_off19 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v399 : Index := Scalar.indexCast v334
  let c2048 : Index := 2048#32
  ![v399.toNat, 2048]
def k0_off20 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v403 : Index := Scalar.indexCast v334
  let c2176 : Index := 2176#32
  ![v403.toNat, 2176]
def k0_off21 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v407 : Index := Scalar.indexCast v334
  let c2304 : Index := 2304#32
  ![v407.toNat, 2304]
def k0_off22 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v411 : Index := Scalar.indexCast v334
  let c2432 : Index := 2432#32
  ![v411.toNat, 2432]
def k0_off23 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v415 : Index := Scalar.indexCast v334
  let c2560 : Index := 2560#32
  ![v415.toNat, 2560]
def k0_off24 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v419 : Index := Scalar.indexCast v334
  let c2688 : Index := 2688#32
  ![v419.toNat, 2688]
def k0_off25 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v423 : Index := Scalar.indexCast v334
  let c2816 : Index := 2816#32
  ![v423.toNat, 2816]
def k0_off26 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v427 : Index := Scalar.indexCast v334
  let c2944 : Index := 2944#32
  ![v427.toNat, 2944]
def k0_off27 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v431 : Index := Scalar.indexCast v334
  let c3072 : Index := 3072#32
  ![v431.toNat, 3072]
def k0_off28 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v435 : Index := Scalar.indexCast v334
  let c3200 : Index := 3200#32
  ![v435.toNat, 3200]
def k0_off29 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v439 : Index := Scalar.indexCast v334
  let c3328 : Index := 3328#32
  ![v439.toNat, 3328]
def k0_off30 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v443 : Index := Scalar.indexCast v334
  let c3456 : Index := 3456#32
  ![v443.toNat, 3456]
def k0_off31 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v447 : Index := Scalar.indexCast v334
  let c3584 : Index := 3584#32
  ![v447.toNat, 3584]
def k0_off32 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v451 : Index := Scalar.indexCast v334
  let c3712 : Index := 3712#32
  ![v451.toNat, 3712]
def k0_off33 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v455 : Index := Scalar.indexCast v334
  let c3840 : Index := 3840#32
  ![v455.toNat, 3840]
def k0_off34 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v459 : Index := Scalar.indexCast v334
  let c3968 : Index := 3968#32
  ![v459.toNat, 3968]
def k0_off35 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v463 : Index := Scalar.indexCast v334
  let c4096 : Index := 4096#32
  ![v463.toNat, 4096]
def k0_off36 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v467 : Index := Scalar.indexCast v334
  let c4224 : Index := 4224#32
  ![v467.toNat, 4224]
def k0_off37 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v471 : Index := Scalar.indexCast v334
  let c4352 : Index := 4352#32
  ![v471.toNat, 4352]
def k0_off38 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v475 : Index := Scalar.indexCast v334
  let c4480 : Index := 4480#32
  ![v475.toNat, 4480]
def k0_off39 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v479 : Index := Scalar.indexCast v334
  let c4608 : Index := 4608#32
  ![v479.toNat, 4608]
def k0_off40 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v483 : Index := Scalar.indexCast v334
  let c4736 : Index := 4736#32
  ![v483.toNat, 4736]
def k0_off41 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v487 : Index := Scalar.indexCast v334
  let c4864 : Index := 4864#32
  ![v487.toNat, 4864]
def k0_off42 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v491 : Index := Scalar.indexCast v334
  let c4992 : Index := 4992#32
  ![v491.toNat, 4992]
def k0_off43 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v495 : Index := Scalar.indexCast v334
  let c5120 : Index := 5120#32
  ![v495.toNat, 5120]
def k0_off44 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v499 : Index := Scalar.indexCast v334
  let c5248 : Index := 5248#32
  ![v499.toNat, 5248]
def k0_off45 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v503 : Index := Scalar.indexCast v334
  let c5376 : Index := 5376#32
  ![v503.toNat, 5376]
def k0_off46 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v507 : Index := Scalar.indexCast v334
  let c5504 : Index := 5504#32
  ![v507.toNat, 5504]
def k0_off47 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v511 : Index := Scalar.indexCast v334
  let c5632 : Index := 5632#32
  ![v511.toNat, 5632]
def k0_off48 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v515 : Index := Scalar.indexCast v334
  let c5760 : Index := 5760#32
  ![v515.toNat, 5760]
def k0_off49 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v519 : Index := Scalar.indexCast v334
  let c5888 : Index := 5888#32
  ![v519.toNat, 5888]
def k0_off50 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v523 : Index := Scalar.indexCast v334
  let c6016 : Index := 6016#32
  ![v523.toNat, 6016]
def k0_off51 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v527 : Index := Scalar.indexCast v334
  let c6144 : Index := 6144#32
  ![v527.toNat, 6144]
def k0_off52 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v531 : Index := Scalar.indexCast v334
  let c6272 : Index := 6272#32
  ![v531.toNat, 6272]
def k0_off53 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v535 : Index := Scalar.indexCast v334
  let c6400 : Index := 6400#32
  ![v535.toNat, 6400]
def k0_off54 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v539 : Index := Scalar.indexCast v334
  let c6528 : Index := 6528#32
  ![v539.toNat, 6528]
def k0_off55 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v543 : Index := Scalar.indexCast v334
  let c6656 : Index := 6656#32
  ![v543.toNat, 6656]
def k0_off56 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v547 : Index := Scalar.indexCast v334
  let c6784 : Index := 6784#32
  ![v547.toNat, 6784]
def k0_off57 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v551 : Index := Scalar.indexCast v334
  let c6912 : Index := 6912#32
  ![v551.toNat, 6912]
def k0_off58 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v555 : Index := Scalar.indexCast v334
  let c7040 : Index := 7040#32
  ![v555.toNat, 7040]
def k0_off59 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v559 : Index := Scalar.indexCast v334
  let c7168 : Index := 7168#32
  ![v559.toNat, 7168]
def k0_off60 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v563 : Index := Scalar.indexCast v334
  let c7296 : Index := 7296#32
  ![v563.toNat, 7296]
def k0_off61 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v567 : Index := Scalar.indexCast v334
  let c7424 : Index := 7424#32
  ![v567.toNat, 7424]
def k0_off62 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v571 : Index := Scalar.indexCast v334
  let c7552 : Index := 7552#32
  ![v571.toNat, 7552]
def k0_off63 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v575 : Index := Scalar.indexCast v334
  let c7680 : Index := 7680#32
  ![v575.toNat, 7680]
def k0_off64 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v579 : Index := Scalar.indexCast v334
  let c7808 : Index := 7808#32
  ![v579.toNat, 7808]
def k0_off65 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v583 : Index := Scalar.indexCast v334
  let c7936 : Index := 7936#32
  ![v583.toNat, 7936]
def k0_off66 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v587 : Index := Scalar.indexCast v334
  let c8064 : Index := 8064#32
  ![v587.toNat, 8064]
def k0_off67 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v591 : Index := Scalar.indexCast v334
  let c8192 : Index := 8192#32
  ![v591.toNat, 8192]
def k0_off68 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v595 : Index := Scalar.indexCast v334
  let c8320 : Index := 8320#32
  ![v595.toNat, 8320]
def k0_off69 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v599 : Index := Scalar.indexCast v334
  let c8448 : Index := 8448#32
  ![v599.toNat, 8448]
def k0_off70 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v603 : Index := Scalar.indexCast v334
  let c8576 : Index := 8576#32
  ![v603.toNat, 8576]
def k0_off71 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v607 : Index := Scalar.indexCast v334
  let c8704 : Index := 8704#32
  ![v607.toNat, 8704]
def k0_off72 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v611 : Index := Scalar.indexCast v334
  let c8832 : Index := 8832#32
  ![v611.toNat, 8832]
def k0_off73 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v615 : Index := Scalar.indexCast v334
  let c8960 : Index := 8960#32
  ![v615.toNat, 8960]
def k0_off74 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v619 : Index := Scalar.indexCast v334
  let c9088 : Index := 9088#32
  ![v619.toNat, 9088]
def k0_off75 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v623 : Index := Scalar.indexCast v334
  let c9216 : Index := 9216#32
  ![v623.toNat, 9216]
def k0_off76 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v627 : Index := Scalar.indexCast v334
  let c9344 : Index := 9344#32
  ![v627.toNat, 9344]
def k0_off77 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v631 : Index := Scalar.indexCast v334
  let c9472 : Index := 9472#32
  ![v631.toNat, 9472]
def k0_off78 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v635 : Index := Scalar.indexCast v334
  let c9600 : Index := 9600#32
  ![v635.toNat, 9600]
def k0_off79 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v639 : Index := Scalar.indexCast v334
  let c9728 : Index := 9728#32
  ![v639.toNat, 9728]
def k0_off80 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v643 : Index := Scalar.indexCast v334
  let c9856 : Index := 9856#32
  ![v643.toNat, 9856]
def k0_off81 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v647 : Index := Scalar.indexCast v334
  let c9984 : Index := 9984#32
  ![v647.toNat, 9984]
def k0_off82 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v651 : Index := Scalar.indexCast v334
  let c10112 : Index := 10112#32
  ![v651.toNat, 10112]
def k0_off83 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v655 : Index := Scalar.indexCast v334
  let c10240 : Index := 10240#32
  ![v655.toNat, 10240]
def k0_off84 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v659 : Index := Scalar.indexCast v334
  let c10368 : Index := 10368#32
  ![v659.toNat, 10368]
def k0_off85 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v663 : Index := Scalar.indexCast v334
  let c10496 : Index := 10496#32
  ![v663.toNat, 10496]
def k0_off86 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v667 : Index := Scalar.indexCast v334
  let c10624 : Index := 10624#32
  ![v667.toNat, 10624]
def k0_off87 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v671 : Index := Scalar.indexCast v334
  let c10752 : Index := 10752#32
  ![v671.toNat, 10752]
def k0_off88 (k0_t1 : Fin k0_t1_loop.trips) : Fin 2 → Nat :=
  let c0_i32_114 : BitVec 32 := 0#32
  let c1_i32_115 : BitVec 32 := 1#32
  let arg24 : BitVec 32 := Scf.iv c0_i32_114 c1_i32_115 k0_t1
  let c64_i32_280 : BitVec 32 := 64#32
  let v334 : BitVec 32 := Scalar.muli arg24 c64_i32_280
  let v675 : Index := Scalar.indexCast v334
  let c10880 : Index := 10880#32
  ![v675.toNat, 10880]
@[reducible] def k0_t2_loop : Scf.Loop 32 :=
  let c0_i32_135 : BitVec 32 := 0#32
  let c43_i32 : BitVec 32 := 43#32
  let v176 : BitVec 32 := Scalar.addi c0_i32_135 c43_i32
  let c1_i32_136 : BitVec 32 := 1#32
  ⟨c0_i32_135, v176, c1_i32_136⟩
def k0_cond1 (k0_t2 : Fin k0_t2_loop.trips) : BitVec 1 :=
  let c0_i32_135 : BitVec 32 := 0#32
  let c1_i32_136 : BitVec 32 := 1#32
  let arg24 : BitVec 32 := Scf.iv c0_i32_135 c1_i32_136 k0_t2
  let c2_i32_281 : BitVec 32 := 2#32
  let v333 : BitVec 1 := Scalar.cmpi .sge arg24 c2_i32_281
  let v334 : BitVec 32 := Scalar.extui v333
  let c0_i32_282 : BitVec 32 := 0#32
  let v335 : BitVec 1 := Scalar.cmpi .ne v334 c0_i32_282
  v335

def k0_mult1 (k0_t2 : Fin k0_t2_loop.trips) : BitVec 32 :=
  let c0_i32_135 : BitVec 32 := 0#32
  let c1_i32_136 : BitVec 32 := 1#32
  let arg24 : BitVec 32 := Scf.iv c0_i32_135 c1_i32_136 k0_t2
  let c2_i32_474 : BitVec 32 := 2#32
  let v622 : BitVec 32 := Scalar.subi arg24 c2_i32_474
  let c256_i32_475 : BitVec 32 := 256#32
  let v623 : BitVec 32 := Scalar.muli v622 c256_i32_475
  v623
def k0_off89 (k0_t2 : Fin k0_t2_loop.trips) : Fin 1 → Nat :=
  let c0_i32_135 : BitVec 32 := 0#32
  let c1_i32_136 : BitVec 32 := 1#32
  let arg24 : BitVec 32 := Scf.iv c0_i32_135 c1_i32_136 k0_t2
  let c2_i32_278 : BitVec 32 := 2#32
  let v330 : BitVec 32 := Scalar.remsi arg24 c2_i32_278
  ![v330.toNat]
def k0_off90 (k0_t2 : Fin k0_t2_loop.trips) : Fin 2 → Nat :=
  let c0_i32_476 : BitVec 32 := 0#32
  let c0_i32_135 : BitVec 32 := 0#32
  let c1_i32_136 : BitVec 32 := 1#32
  let arg24 : BitVec 32 := Scf.iv c0_i32_135 c1_i32_136 k0_t2
  let c2_i32_474 : BitVec 32 := 2#32
  let v622 : BitVec 32 := Scalar.subi arg24 c2_i32_474
  let c256_i32_475 : BitVec 32 := 256#32
  let v623 : BitVec 32 := Scalar.muli v622 c256_i32_475
  let v624 : BitVec 32 := v623
  ![0, v624.toNat]
def k0_off91 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c2_i32_278 : BitVec 32 := 2#32
  let v330 : BitVec 32 := Scalar.remsi arg24 c2_i32_278
  let c0_i32_477 : BitVec 32 := 0#32
  let c0_i32_478 : BitVec 32 := 0#32
  ![v330.toNat, 0, 0]
def k0_mult2 (k0_t2 : Fin k0_t2_loop.trips) : BitVec 32 :=
  let c0_i32_135 : BitVec 32 := 0#32
  let c1_i32_136 : BitVec 32 := 1#32
  let arg24 : BitVec 32 := Scf.iv c0_i32_135 c1_i32_136 k0_t2
  let c256_i32_283 : BitVec 32 := 256#32
  let v336 : BitVec 32 := Scalar.muli arg24 c256_i32_283
  v336
def k0_off92 (k0_t2 : Fin k0_t2_loop.trips) : Fin 2 → Nat :=
  let c0_284 : Index := 0#32
  let c0_i32_135 : BitVec 32 := 0#32
  let c1_i32_136 : BitVec 32 := 1#32
  let arg24 : BitVec 32 := Scf.iv c0_i32_135 c1_i32_136 k0_t2
  let c256_i32_283 : BitVec 32 := 256#32
  let v336 : BitVec 32 := Scalar.muli arg24 c256_i32_283
  let v337 : BitVec 32 := v336
  let v338 : Index := Scalar.indexCast v337
  ![0, v338.toNat]
def k0_off93 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c2_i32_278 : BitVec 32 := 2#32
  let v330 : BitVec 32 := Scalar.remsi arg24 c2_i32_278
  let v349 : Index := Scalar.indexCast v330
  let c0_287 : Index := 0#32
  let c0_288 : Index := 0#32
  ![v349.toNat, 0, 0]
def k0_off94 (k0_t2 : Fin k0_t2_loop.trips) : Fin 1 → Nat :=
  let c0_i32_135 : BitVec 32 := 0#32
  let c1_i32_136 : BitVec 32 := 1#32
  let arg24 : BitVec 32 := Scf.iv c0_i32_135 c1_i32_136 k0_t2
  let c3_i32_277 : BitVec 32 := 3#32
  let v329 : BitVec 32 := Scalar.remsi arg24 c3_i32_277
  ![v329.toNat]
def k0_off95 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c3_i32_277 : BitVec 32 := 3#32
  let v329 : BitVec 32 := Scalar.remsi arg24 c3_i32_277
  let c0_i32_290 : BitVec 32 := 0#32
  let c0_i32_291 : BitVec 32 := 0#32
  ![v329.toNat, 0, 0]
def k0_off96 (k0_t2 : Fin k0_t2_loop.trips) : Fin 2 → Nat :=
  let c0_i32_135 : BitVec 32 := 0#32
  let c1_i32_136 : BitVec 32 := 1#32
  let arg24 : BitVec 32 := Scf.iv c0_i32_135 c1_i32_136 k0_t2
  let c256_i32_289 : BitVec 32 := 256#32
  let v353 : BitVec 32 := Scalar.muli arg24 c256_i32_289
  let c0_i32_292 : BitVec 32 := 0#32
  ![v353.toNat, 0]
def k0_off97 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c3_i32_277 : BitVec 32 := 3#32
  let v329 : BitVec 32 := Scalar.remsi arg24 c3_i32_277
  let v363 : Index := Scalar.indexCast v329
  let c0_297 : Index := 0#32
  let c0_298 : Index := 0#32
  ![v363.toNat, 0, 0]
def k0_off98 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c3_i32_277 : BitVec 32 := 3#32
  let v329 : BitVec 32 := Scalar.remsi arg24 c3_i32_277
  let v375 : Index := Scalar.indexCast v329
  let c0_306 : Index := 0#32
  let c512_307 : Index := 512#32
  ![v375.toNat, 0, 512]
def k0_off99 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c3_i32_277 : BitVec 32 := 3#32
  let v329 : BitVec 32 := Scalar.remsi arg24 c3_i32_277
  let v387 : Index := Scalar.indexCast v329
  let c0_314 : Index := 0#32
  let c1024_315 : Index := 1024#32
  ![v387.toNat, 0, 1024]
def k0_off100 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c3_i32_277 : BitVec 32 := 3#32
  let v329 : BitVec 32 := Scalar.remsi arg24 c3_i32_277
  let v399 : Index := Scalar.indexCast v329
  let c0_322 : Index := 0#32
  let c1536_323 : Index := 1536#32
  ![v399.toNat, 0, 1536]
def k0_off101 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c3_i32_277 : BitVec 32 := 3#32
  let v329 : BitVec 32 := Scalar.remsi arg24 c3_i32_277
  let v411 : Index := Scalar.indexCast v329
  let c0_330 : Index := 0#32
  let c2048_331 : Index := 2048#32
  ![v411.toNat, 0, 2048]
def k0_off102 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c3_i32_277 : BitVec 32 := 3#32
  let v329 : BitVec 32 := Scalar.remsi arg24 c3_i32_277
  let v423 : Index := Scalar.indexCast v329
  let c0_338 : Index := 0#32
  let c2560_339 : Index := 2560#32
  ![v423.toNat, 0, 2560]
def k0_off103 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c3_i32_277 : BitVec 32 := 3#32
  let v329 : BitVec 32 := Scalar.remsi arg24 c3_i32_277
  let v435 : Index := Scalar.indexCast v329
  let c0_346 : Index := 0#32
  let c3072_347 : Index := 3072#32
  ![v435.toNat, 0, 3072]
def k0_off104 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c3_i32_277 : BitVec 32 := 3#32
  let v329 : BitVec 32 := Scalar.remsi arg24 c3_i32_277
  let v447 : Index := Scalar.indexCast v329
  let c0_354 : Index := 0#32
  let c3584_355 : Index := 3584#32
  ![v447.toNat, 0, 3584]
def k0_mult3 (k0_t2 : Fin k0_t2_loop.trips) : BitVec 32 :=
  let c0_i32_135 : BitVec 32 := 0#32
  let c1_i32_136 : BitVec 32 := 1#32
  let arg24 : BitVec 32 := Scf.iv c0_i32_135 c1_i32_136 k0_t2
  let c256_i32_359 : BitVec 32 := 256#32
  let v455 : BitVec 32 := Scalar.muli arg24 c256_i32_359
  v455
def k0_off105 (k0_t2 : Fin k0_t2_loop.trips) : Fin 1 → Nat :=
  let c0_i32_135 : BitVec 32 := 0#32
  let c1_i32_136 : BitVec 32 := 1#32
  let arg24 : BitVec 32 := Scf.iv c0_i32_135 c1_i32_136 k0_t2
  let c2_i32_278 : BitVec 32 := 2#32
  let v330 : BitVec 32 := Scalar.remsi arg24 c2_i32_278
  ![v330.toNat]
def k0_off106 (k0_t2 : Fin k0_t2_loop.trips) : Fin 2 → Nat :=
  let c0_i32_360 : BitVec 32 := 0#32
  let c0_i32_135 : BitVec 32 := 0#32
  let c1_i32_136 : BitVec 32 := 1#32
  let arg24 : BitVec 32 := Scf.iv c0_i32_135 c1_i32_136 k0_t2
  let c256_i32_359 : BitVec 32 := 256#32
  let v455 : BitVec 32 := Scalar.muli arg24 c256_i32_359
  let v456 : BitVec 32 := v455
  ![0, v456.toNat]
def k0_off107 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c2_i32_278 : BitVec 32 := 2#32
  let v330 : BitVec 32 := Scalar.remsi arg24 c2_i32_278
  let c0_i32_361 : BitVec 32 := 0#32
  let c0_i32_362 : BitVec 32 := 0#32
  ![v330.toNat, 0, 0]
def k0_cond2 (k0_t2 : Fin k0_t2_loop.trips) : BitVec 1 :=
  let c0_i32_135 : BitVec 32 := 0#32
  let c1_i32_136 : BitVec 32 := 1#32
  let arg24 : BitVec 32 := Scf.iv c0_i32_135 c1_i32_136 k0_t2
  let c3_i32_363 : BitVec 32 := 3#32
  let v462 : BitVec 32 := Scalar.addi arg24 c3_i32_363
  let c43_i32_364 : BitVec 32 := 43#32
  let v463 : BitVec 1 := Scalar.cmpi .slt v462 c43_i32_364
  let v464 : BitVec 32 := Scalar.extui v463
  let c0_i32_365 : BitVec 32 := 0#32
  let v465 : BitVec 1 := Scalar.cmpi .ne v464 c0_i32_365
  v465

def k0_off108 (k0_t2 : Fin k0_t2_loop.trips) : Fin 1 → Nat :=
  let c0_i32_135 : BitVec 32 := 0#32
  let c1_i32_136 : BitVec 32 := 1#32
  let arg24 : BitVec 32 := Scf.iv c0_i32_135 c1_i32_136 k0_t2
  let c3_i32_277 : BitVec 32 := 3#32
  let v329 : BitVec 32 := Scalar.remsi arg24 c3_i32_277
  ![v329.toNat]
def k0_off109 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c3_i32_277 : BitVec 32 := 3#32
  let v329 : BitVec 32 := Scalar.remsi arg24 c3_i32_277
  let c0_i32_476 : BitVec 32 := 0#32
  let c0_i32_477 : BitVec 32 := 0#32
  ![v329.toNat, 0, 0]
def k0_off110 (k0_t2 : Fin k0_t2_loop.trips) : Fin 2 → Nat :=
  let c0_i32_135 : BitVec 32 := 0#32
  let c1_i32_136 : BitVec 32 := 1#32
  let arg24 : BitVec 32 := Scf.iv c0_i32_135 c1_i32_136 k0_t2
  let c3_i32_474 : BitVec 32 := 3#32
  let v622 : BitVec 32 := Scalar.addi arg24 c3_i32_474
  let c256_i32_475 : BitVec 32 := 256#32
  let v623 : BitVec 32 := Scalar.muli v622 c256_i32_475
  let c0_i32_478 : BitVec 32 := 0#32
  ![v623.toNat, 0]
def k0_cond3 (k0_t2 : Fin k0_t2_loop.trips) : BitVec 1 :=
  let c0_i32_135 : BitVec 32 := 0#32
  let c1_i32_136 : BitVec 32 := 1#32
  let arg24 : BitVec 32 := Scf.iv c0_i32_135 c1_i32_136 k0_t2
  let c1_i32_367 : BitVec 32 := 1#32
  let v467 : BitVec 32 := Scalar.subi arg24 c1_i32_367
  let c0_i32_372 : BitVec 32 := 0#32
  let v472 : BitVec 1 := Scalar.cmpi .sge v467 c0_i32_372
  let v473 : BitVec 32 := Scalar.extui v472
  let c0_i32_373 : BitVec 32 := 0#32
  let v474 : BitVec 1 := Scalar.cmpi .ne v473 c0_i32_373
  v474

def k0_off111 (k0_t2 : Fin k0_t2_loop.trips) : Fin 1 → Nat :=
  let c0_i32_135 : BitVec 32 := 0#32
  let c1_i32_136 : BitVec 32 := 1#32
  let arg24 : BitVec 32 := Scf.iv c0_i32_135 c1_i32_136 k0_t2
  let c2_i32_368 : BitVec 32 := 2#32
  let v468 : BitVec 32 := Scalar.addi arg24 c2_i32_368
  let c3_i32_369 : BitVec 32 := 3#32
  let v469 : BitVec 32 := Scalar.remsi v468 c3_i32_369
  let c4_i32_370 : BitVec 32 := 4#32
  let v470 : BitVec 32 := Scalar.muli v469 c4_i32_370
  let c0_i32_371 : BitVec 32 := 0#32
  let v471 : BitVec 32 := Scalar.addi v470 c0_i32_371
  ![v471.toNat]
def k0_off112 (k0_t2 : Fin k0_t2_loop.trips) : Fin 2 → Nat :=
  let c0_i32_135 : BitVec 32 := 0#32
  let c1_i32_136 : BitVec 32 := 1#32
  let arg24 : BitVec 32 := Scf.iv c0_i32_135 c1_i32_136 k0_t2
  let c1_i32_367 : BitVec 32 := 1#32
  let v467 : BitVec 32 := Scalar.subi arg24 c1_i32_367
  let c256_i32_474 : BitVec 32 := 256#32
  let v622 : BitVec 32 := Scalar.muli v467 c256_i32_474
  let c0_i32_475 : BitVec 32 := 0#32
  ![v622.toNat, 0]
def k0_off113 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c2_i32_368 : BitVec 32 := 2#32
  let v468 : BitVec 32 := Scalar.addi arg24 c2_i32_368
  let c3_i32_369 : BitVec 32 := 3#32
  let v469 : BitVec 32 := Scalar.remsi v468 c3_i32_369
  let c4_i32_370 : BitVec 32 := 4#32
  let v470 : BitVec 32 := Scalar.muli v469 c4_i32_370
  let c0_i32_371 : BitVec 32 := 0#32
  let v471 : BitVec 32 := Scalar.addi v470 c0_i32_371
  let c0_i32_476 : BitVec 32 := 0#32
  let c0_i32_477 : BitVec 32 := 0#32
  ![v471.toNat, 0, 0]
def k0_cond4 (k0_t2 : Fin k0_t2_loop.trips) : BitVec 1 :=
  let c0_i32_135 : BitVec 32 := 0#32
  let c1_i32_136 : BitVec 32 := 1#32
  let arg24 : BitVec 32 := Scf.iv c0_i32_135 c1_i32_136 k0_t2
  let c2_i32_368 : BitVec 32 := 2#32
  let v468 : BitVec 32 := Scalar.addi arg24 c2_i32_368
  let c43_i32_374 : BitVec 32 := 43#32
  let v475 : BitVec 1 := Scalar.cmpi .slt v468 c43_i32_374
  let v476 : BitVec 32 := Scalar.extui v475
  let c0_i32_375 : BitVec 32 := 0#32
  let v477 : BitVec 1 := Scalar.cmpi .ne v476 c0_i32_375
  v477

def k0_off114 (k0_t2 : Fin k0_t2_loop.trips) : Fin 1 → Nat :=
  let c0_i32_135 : BitVec 32 := 0#32
  let c1_i32_136 : BitVec 32 := 1#32
  let arg24 : BitVec 32 := Scf.iv c0_i32_135 c1_i32_136 k0_t2
  let c2_i32_368 : BitVec 32 := 2#32
  let v468 : BitVec 32 := Scalar.addi arg24 c2_i32_368
  let c3_i32_369 : BitVec 32 := 3#32
  let v469 : BitVec 32 := Scalar.remsi v468 c3_i32_369
  let c4_i32_370 : BitVec 32 := 4#32
  let v470 : BitVec 32 := Scalar.muli v469 c4_i32_370
  let c0_i32_371 : BitVec 32 := 0#32
  let v471 : BitVec 32 := Scalar.addi v470 c0_i32_371
  ![v471.toNat]
def k0_off115 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c2_i32_368 : BitVec 32 := 2#32
  let v468 : BitVec 32 := Scalar.addi arg24 c2_i32_368
  let c3_i32_369 : BitVec 32 := 3#32
  let v469 : BitVec 32 := Scalar.remsi v468 c3_i32_369
  let c4_i32_370 : BitVec 32 := 4#32
  let v470 : BitVec 32 := Scalar.muli v469 c4_i32_370
  let c0_i32_371 : BitVec 32 := 0#32
  let v471 : BitVec 32 := Scalar.addi v470 c0_i32_371
  let c0_i32_475 : BitVec 32 := 0#32
  let c0_i32_476 : BitVec 32 := 0#32
  ![v471.toNat, 0, 0]
def k0_off116 (k0_t2 : Fin k0_t2_loop.trips) : Fin 2 → Nat :=
  let c0_i32_135 : BitVec 32 := 0#32
  let c1_i32_136 : BitVec 32 := 1#32
  let arg24 : BitVec 32 := Scf.iv c0_i32_135 c1_i32_136 k0_t2
  let c2_i32_368 : BitVec 32 := 2#32
  let v468 : BitVec 32 := Scalar.addi arg24 c2_i32_368
  let c256_i32_474 : BitVec 32 := 256#32
  let v622 : BitVec 32 := Scalar.muli v468 c256_i32_474
  let c0_i32_477 : BitVec 32 := 0#32
  ![v622.toNat, 0]
def k0_off117 (k0_t2 : Fin k0_t2_loop.trips) (c0_i32_366 : BitVec 32) : Fin 1 → Nat :=
  let c0_i32_135 : BitVec 32 := 0#32
  let c1_i32_136 : BitVec 32 := 1#32
  let arg24 : BitVec 32 := Scf.iv c0_i32_135 c1_i32_136 k0_t2
  let c3_i32_279 : BitVec 32 := 3#32
  let v331 : BitVec 32 := Scalar.remsi arg24 c3_i32_279
  let c4_i32_280 : BitVec 32 := 4#32
  let v332 : BitVec 32 := Scalar.muli v331 c4_i32_280
  let v466 : BitVec 32 := Scalar.addi v332 c0_i32_366
  ![v466.toNat]
def k0_off118 (k0_t2 : Fin k0_t2_loop.trips) (c0_i32_366 : BitVec 32) : Fin 3 → Nat :=
  let c0_i32_135 : BitVec 32 := 0#32
  let c1_i32_136 : BitVec 32 := 1#32
  let arg24 : BitVec 32 := Scf.iv c0_i32_135 c1_i32_136 k0_t2
  let c3_i32_279 : BitVec 32 := 3#32
  let v331 : BitVec 32 := Scalar.remsi arg24 c3_i32_279
  let c4_i32_280 : BitVec 32 := 4#32
  let v332 : BitVec 32 := Scalar.muli v331 c4_i32_280
  let v466 : BitVec 32 := Scalar.addi v332 c0_i32_366
  let c0_i32_377 : BitVec 32 := 0#32
  let c0_i32_378 : BitVec 32 := 0#32
  ![v466.toNat, 0, 0]
def k0_off119 (k0_t2 : Fin k0_t2_loop.trips) : Fin 2 → Nat :=
  let c0_i32_135 : BitVec 32 := 0#32
  let c1_i32_136 : BitVec 32 := 1#32
  let arg24 : BitVec 32 := Scf.iv c0_i32_135 c1_i32_136 k0_t2
  let c256_i32_376 : BitVec 32 := 256#32
  let v478 : BitVec 32 := Scalar.muli arg24 c256_i32_376
  let c0_i32_379 : BitVec 32 := 0#32
  ![v478.toNat, 0]
def k0_off120 (k0_t2 : Fin k0_t2_loop.trips) (c0_i32_366 : BitVec 32) : Fin 3 → Nat :=
  let c0_i32_135 : BitVec 32 := 0#32
  let c1_i32_136 : BitVec 32 := 1#32
  let arg24 : BitVec 32 := Scf.iv c0_i32_135 c1_i32_136 k0_t2
  let c3_i32_279 : BitVec 32 := 3#32
  let v331 : BitVec 32 := Scalar.remsi arg24 c3_i32_279
  let c4_i32_280 : BitVec 32 := 4#32
  let v332 : BitVec 32 := Scalar.muli v331 c4_i32_280
  let v466 : BitVec 32 := Scalar.addi v332 c0_i32_366
  let v489 : Index := Scalar.indexCast v466
  let c0_385 : Index := 0#32
  let c0_386 : Index := 0#32
  ![v489.toNat, 0, 0]
def k0_cond5 (k0_t2 : Fin k0_t2_loop.trips) : BitVec 1 :=
  let c0_i32_135 : BitVec 32 := 0#32
  let c1_i32_136 : BitVec 32 := 1#32
  let arg24 : BitVec 32 := Scf.iv c0_i32_135 c1_i32_136 k0_t2
  let c1_i32_394 : BitVec 32 := 1#32
  let v506 : BitVec 32 := Scalar.subi arg24 c1_i32_394
  let c0_i32_399 : BitVec 32 := 0#32
  let v511 : BitVec 1 := Scalar.cmpi .sge v506 c0_i32_399
  let v512 : BitVec 32 := Scalar.extui v511
  let c0_i32_400 : BitVec 32 := 0#32
  let v513 : BitVec 1 := Scalar.cmpi .ne v512 c0_i32_400
  v513

def k0_off121 (k0_t2 : Fin k0_t2_loop.trips) : Fin 1 → Nat :=
  let c0_i32_135 : BitVec 32 := 0#32
  let c1_i32_136 : BitVec 32 := 1#32
  let arg24 : BitVec 32 := Scf.iv c0_i32_135 c1_i32_136 k0_t2
  let c2_i32_395 : BitVec 32 := 2#32
  let v507 : BitVec 32 := Scalar.addi arg24 c2_i32_395
  let c3_i32_396 : BitVec 32 := 3#32
  let v508 : BitVec 32 := Scalar.remsi v507 c3_i32_396
  let c4_i32_397 : BitVec 32 := 4#32
  let v509 : BitVec 32 := Scalar.muli v508 c4_i32_397
  let c1_i32_398 : BitVec 32 := 1#32
  let v510 : BitVec 32 := Scalar.addi v509 c1_i32_398
  ![v510.toNat]
def k0_off122 (k0_t2 : Fin k0_t2_loop.trips) : Fin 2 → Nat :=
  let c0_i32_135 : BitVec 32 := 0#32
  let c1_i32_136 : BitVec 32 := 1#32
  let arg24 : BitVec 32 := Scf.iv c0_i32_135 c1_i32_136 k0_t2
  let c1_i32_394 : BitVec 32 := 1#32
  let v506 : BitVec 32 := Scalar.subi arg24 c1_i32_394
  let c256_i32_474 : BitVec 32 := 256#32
  let v622 : BitVec 32 := Scalar.muli v506 c256_i32_474
  let c1024_i32_475 : BitVec 32 := 1024#32
  ![v622.toNat, 1024]
def k0_off123 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c2_i32_395 : BitVec 32 := 2#32
  let v507 : BitVec 32 := Scalar.addi arg24 c2_i32_395
  let c3_i32_396 : BitVec 32 := 3#32
  let v508 : BitVec 32 := Scalar.remsi v507 c3_i32_396
  let c4_i32_397 : BitVec 32 := 4#32
  let v509 : BitVec 32 := Scalar.muli v508 c4_i32_397
  let c1_i32_398 : BitVec 32 := 1#32
  let v510 : BitVec 32 := Scalar.addi v509 c1_i32_398
  let c0_i32_476 : BitVec 32 := 0#32
  let c0_i32_477 : BitVec 32 := 0#32
  ![v510.toNat, 0, 0]
def k0_cond6 (k0_t2 : Fin k0_t2_loop.trips) : BitVec 1 :=
  let c0_i32_135 : BitVec 32 := 0#32
  let c1_i32_136 : BitVec 32 := 1#32
  let arg24 : BitVec 32 := Scf.iv c0_i32_135 c1_i32_136 k0_t2
  let c2_i32_395 : BitVec 32 := 2#32
  let v507 : BitVec 32 := Scalar.addi arg24 c2_i32_395
  let c43_i32_401 : BitVec 32 := 43#32
  let v514 : BitVec 1 := Scalar.cmpi .slt v507 c43_i32_401
  let v515 : BitVec 32 := Scalar.extui v514
  let c0_i32_402 : BitVec 32 := 0#32
  let v516 : BitVec 1 := Scalar.cmpi .ne v515 c0_i32_402
  v516

def k0_off124 (k0_t2 : Fin k0_t2_loop.trips) : Fin 1 → Nat :=
  let c0_i32_135 : BitVec 32 := 0#32
  let c1_i32_136 : BitVec 32 := 1#32
  let arg24 : BitVec 32 := Scf.iv c0_i32_135 c1_i32_136 k0_t2
  let c2_i32_395 : BitVec 32 := 2#32
  let v507 : BitVec 32 := Scalar.addi arg24 c2_i32_395
  let c3_i32_396 : BitVec 32 := 3#32
  let v508 : BitVec 32 := Scalar.remsi v507 c3_i32_396
  let c4_i32_397 : BitVec 32 := 4#32
  let v509 : BitVec 32 := Scalar.muli v508 c4_i32_397
  let c1_i32_398 : BitVec 32 := 1#32
  let v510 : BitVec 32 := Scalar.addi v509 c1_i32_398
  ![v510.toNat]
def k0_off125 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c2_i32_395 : BitVec 32 := 2#32
  let v507 : BitVec 32 := Scalar.addi arg24 c2_i32_395
  let c3_i32_396 : BitVec 32 := 3#32
  let v508 : BitVec 32 := Scalar.remsi v507 c3_i32_396
  let c4_i32_397 : BitVec 32 := 4#32
  let v509 : BitVec 32 := Scalar.muli v508 c4_i32_397
  let c1_i32_398 : BitVec 32 := 1#32
  let v510 : BitVec 32 := Scalar.addi v509 c1_i32_398
  let c0_i32_475 : BitVec 32 := 0#32
  let c0_i32_476 : BitVec 32 := 0#32
  ![v510.toNat, 0, 0]
def k0_off126 (k0_t2 : Fin k0_t2_loop.trips) : Fin 2 → Nat :=
  let c0_i32_135 : BitVec 32 := 0#32
  let c1_i32_136 : BitVec 32 := 1#32
  let arg24 : BitVec 32 := Scf.iv c0_i32_135 c1_i32_136 k0_t2
  let c2_i32_395 : BitVec 32 := 2#32
  let v507 : BitVec 32 := Scalar.addi arg24 c2_i32_395
  let c256_i32_474 : BitVec 32 := 256#32
  let v622 : BitVec 32 := Scalar.muli v507 c256_i32_474
  let c1024_i32_477 : BitVec 32 := 1024#32
  ![v622.toNat, 1024]
def k0_off127 (k0_t2 : Fin k0_t2_loop.trips) : Fin 2 → Nat :=
  let c0_i32_135 : BitVec 32 := 0#32
  let c1_i32_136 : BitVec 32 := 1#32
  let arg24 : BitVec 32 := Scf.iv c0_i32_135 c1_i32_136 k0_t2
  let c256_i32_403 : BitVec 32 := 256#32
  let v517 : BitVec 32 := Scalar.muli arg24 c256_i32_403
  let c1024_i32_406 : BitVec 32 := 1024#32
  ![v517.toNat, 1024]
def k0_cond7 (k0_t2 : Fin k0_t2_loop.trips) : BitVec 1 :=
  let c0_i32_135 : BitVec 32 := 0#32
  let c1_i32_136 : BitVec 32 := 1#32
  let arg24 : BitVec 32 := Scf.iv c0_i32_135 c1_i32_136 k0_t2
  let c1_i32_421 : BitVec 32 := 1#32
  let v545 : BitVec 32 := Scalar.subi arg24 c1_i32_421
  let c0_i32_426 : BitVec 32 := 0#32
  let v550 : BitVec 1 := Scalar.cmpi .sge v545 c0_i32_426
  let v551 : BitVec 32 := Scalar.extui v550
  let c0_i32_427 : BitVec 32 := 0#32
  let v552 : BitVec 1 := Scalar.cmpi .ne v551 c0_i32_427
  v552

def k0_off128 (k0_t2 : Fin k0_t2_loop.trips) : Fin 1 → Nat :=
  let c0_i32_135 : BitVec 32 := 0#32
  let c1_i32_136 : BitVec 32 := 1#32
  let arg24 : BitVec 32 := Scf.iv c0_i32_135 c1_i32_136 k0_t2
  let c2_i32_422 : BitVec 32 := 2#32
  let v546 : BitVec 32 := Scalar.addi arg24 c2_i32_422
  let c3_i32_423 : BitVec 32 := 3#32
  let v547 : BitVec 32 := Scalar.remsi v546 c3_i32_423
  let c4_i32_424 : BitVec 32 := 4#32
  let v548 : BitVec 32 := Scalar.muli v547 c4_i32_424
  let c2_i32_425 : BitVec 32 := 2#32
  let v549 : BitVec 32 := Scalar.addi v548 c2_i32_425
  ![v549.toNat]
def k0_off129 (k0_t2 : Fin k0_t2_loop.trips) : Fin 2 → Nat :=
  let c0_i32_135 : BitVec 32 := 0#32
  let c1_i32_136 : BitVec 32 := 1#32
  let arg24 : BitVec 32 := Scf.iv c0_i32_135 c1_i32_136 k0_t2
  let c1_i32_421 : BitVec 32 := 1#32
  let v545 : BitVec 32 := Scalar.subi arg24 c1_i32_421
  let c256_i32_474 : BitVec 32 := 256#32
  let v622 : BitVec 32 := Scalar.muli v545 c256_i32_474
  let c2048_i32_475 : BitVec 32 := 2048#32
  ![v622.toNat, 2048]
def k0_off130 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c2_i32_422 : BitVec 32 := 2#32
  let v546 : BitVec 32 := Scalar.addi arg24 c2_i32_422
  let c3_i32_423 : BitVec 32 := 3#32
  let v547 : BitVec 32 := Scalar.remsi v546 c3_i32_423
  let c4_i32_424 : BitVec 32 := 4#32
  let v548 : BitVec 32 := Scalar.muli v547 c4_i32_424
  let c2_i32_425 : BitVec 32 := 2#32
  let v549 : BitVec 32 := Scalar.addi v548 c2_i32_425
  let c0_i32_476 : BitVec 32 := 0#32
  let c0_i32_477 : BitVec 32 := 0#32
  ![v549.toNat, 0, 0]
def k0_cond8 (k0_t2 : Fin k0_t2_loop.trips) : BitVec 1 :=
  let c0_i32_135 : BitVec 32 := 0#32
  let c1_i32_136 : BitVec 32 := 1#32
  let arg24 : BitVec 32 := Scf.iv c0_i32_135 c1_i32_136 k0_t2
  let c2_i32_422 : BitVec 32 := 2#32
  let v546 : BitVec 32 := Scalar.addi arg24 c2_i32_422
  let c43_i32_428 : BitVec 32 := 43#32
  let v553 : BitVec 1 := Scalar.cmpi .slt v546 c43_i32_428
  let v554 : BitVec 32 := Scalar.extui v553
  let c0_i32_429 : BitVec 32 := 0#32
  let v555 : BitVec 1 := Scalar.cmpi .ne v554 c0_i32_429
  v555

def k0_off131 (k0_t2 : Fin k0_t2_loop.trips) : Fin 1 → Nat :=
  let c0_i32_135 : BitVec 32 := 0#32
  let c1_i32_136 : BitVec 32 := 1#32
  let arg24 : BitVec 32 := Scf.iv c0_i32_135 c1_i32_136 k0_t2
  let c2_i32_422 : BitVec 32 := 2#32
  let v546 : BitVec 32 := Scalar.addi arg24 c2_i32_422
  let c3_i32_423 : BitVec 32 := 3#32
  let v547 : BitVec 32 := Scalar.remsi v546 c3_i32_423
  let c4_i32_424 : BitVec 32 := 4#32
  let v548 : BitVec 32 := Scalar.muli v547 c4_i32_424
  let c2_i32_425 : BitVec 32 := 2#32
  let v549 : BitVec 32 := Scalar.addi v548 c2_i32_425
  ![v549.toNat]
def k0_off132 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c2_i32_422 : BitVec 32 := 2#32
  let v546 : BitVec 32 := Scalar.addi arg24 c2_i32_422
  let c3_i32_423 : BitVec 32 := 3#32
  let v547 : BitVec 32 := Scalar.remsi v546 c3_i32_423
  let c4_i32_424 : BitVec 32 := 4#32
  let v548 : BitVec 32 := Scalar.muli v547 c4_i32_424
  let c2_i32_425 : BitVec 32 := 2#32
  let v549 : BitVec 32 := Scalar.addi v548 c2_i32_425
  let c0_i32_475 : BitVec 32 := 0#32
  let c0_i32_476 : BitVec 32 := 0#32
  ![v549.toNat, 0, 0]
def k0_off133 (k0_t2 : Fin k0_t2_loop.trips) : Fin 2 → Nat :=
  let c0_i32_135 : BitVec 32 := 0#32
  let c1_i32_136 : BitVec 32 := 1#32
  let arg24 : BitVec 32 := Scf.iv c0_i32_135 c1_i32_136 k0_t2
  let c2_i32_422 : BitVec 32 := 2#32
  let v546 : BitVec 32 := Scalar.addi arg24 c2_i32_422
  let c256_i32_474 : BitVec 32 := 256#32
  let v622 : BitVec 32 := Scalar.muli v546 c256_i32_474
  let c2048_i32_477 : BitVec 32 := 2048#32
  ![v622.toNat, 2048]
def k0_off134 (k0_t2 : Fin k0_t2_loop.trips) : Fin 2 → Nat :=
  let c0_i32_135 : BitVec 32 := 0#32
  let c1_i32_136 : BitVec 32 := 1#32
  let arg24 : BitVec 32 := Scf.iv c0_i32_135 c1_i32_136 k0_t2
  let c256_i32_430 : BitVec 32 := 256#32
  let v556 : BitVec 32 := Scalar.muli arg24 c256_i32_430
  let c2048_i32_433 : BitVec 32 := 2048#32
  ![v556.toNat, 2048]
def k0_cond9 (k0_t2 : Fin k0_t2_loop.trips) : BitVec 1 :=
  let c0_i32_135 : BitVec 32 := 0#32
  let c1_i32_136 : BitVec 32 := 1#32
  let arg24 : BitVec 32 := Scf.iv c0_i32_135 c1_i32_136 k0_t2
  let c1_i32_448 : BitVec 32 := 1#32
  let v584 : BitVec 32 := Scalar.subi arg24 c1_i32_448
  let c0_i32_453 : BitVec 32 := 0#32
  let v589 : BitVec 1 := Scalar.cmpi .sge v584 c0_i32_453
  let v590 : BitVec 32 := Scalar.extui v589
  let c0_i32_454 : BitVec 32 := 0#32
  let v591 : BitVec 1 := Scalar.cmpi .ne v590 c0_i32_454
  v591

def k0_off135 (k0_t2 : Fin k0_t2_loop.trips) : Fin 1 → Nat :=
  let c0_i32_135 : BitVec 32 := 0#32
  let c1_i32_136 : BitVec 32 := 1#32
  let arg24 : BitVec 32 := Scf.iv c0_i32_135 c1_i32_136 k0_t2
  let c2_i32_449 : BitVec 32 := 2#32
  let v585 : BitVec 32 := Scalar.addi arg24 c2_i32_449
  let c3_i32_450 : BitVec 32 := 3#32
  let v586 : BitVec 32 := Scalar.remsi v585 c3_i32_450
  let c4_i32_451 : BitVec 32 := 4#32
  let v587 : BitVec 32 := Scalar.muli v586 c4_i32_451
  let c3_i32_452 : BitVec 32 := 3#32
  let v588 : BitVec 32 := Scalar.addi v587 c3_i32_452
  ![v588.toNat]
def k0_off136 (k0_t2 : Fin k0_t2_loop.trips) : Fin 2 → Nat :=
  let c0_i32_135 : BitVec 32 := 0#32
  let c1_i32_136 : BitVec 32 := 1#32
  let arg24 : BitVec 32 := Scf.iv c0_i32_135 c1_i32_136 k0_t2
  let c1_i32_448 : BitVec 32 := 1#32
  let v584 : BitVec 32 := Scalar.subi arg24 c1_i32_448
  let c256_i32_474 : BitVec 32 := 256#32
  let v622 : BitVec 32 := Scalar.muli v584 c256_i32_474
  let c3072_i32_475 : BitVec 32 := 3072#32
  ![v622.toNat, 3072]
def k0_off137 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c2_i32_449 : BitVec 32 := 2#32
  let v585 : BitVec 32 := Scalar.addi arg24 c2_i32_449
  let c3_i32_450 : BitVec 32 := 3#32
  let v586 : BitVec 32 := Scalar.remsi v585 c3_i32_450
  let c4_i32_451 : BitVec 32 := 4#32
  let v587 : BitVec 32 := Scalar.muli v586 c4_i32_451
  let c3_i32_452 : BitVec 32 := 3#32
  let v588 : BitVec 32 := Scalar.addi v587 c3_i32_452
  let c0_i32_476 : BitVec 32 := 0#32
  let c0_i32_477 : BitVec 32 := 0#32
  ![v588.toNat, 0, 0]
def k0_cond10 (k0_t2 : Fin k0_t2_loop.trips) : BitVec 1 :=
  let c0_i32_135 : BitVec 32 := 0#32
  let c1_i32_136 : BitVec 32 := 1#32
  let arg24 : BitVec 32 := Scf.iv c0_i32_135 c1_i32_136 k0_t2
  let c2_i32_449 : BitVec 32 := 2#32
  let v585 : BitVec 32 := Scalar.addi arg24 c2_i32_449
  let c43_i32_455 : BitVec 32 := 43#32
  let v592 : BitVec 1 := Scalar.cmpi .slt v585 c43_i32_455
  let v593 : BitVec 32 := Scalar.extui v592
  let c0_i32_456 : BitVec 32 := 0#32
  let v594 : BitVec 1 := Scalar.cmpi .ne v593 c0_i32_456
  v594

def k0_off138 (k0_t2 : Fin k0_t2_loop.trips) : Fin 1 → Nat :=
  let c0_i32_135 : BitVec 32 := 0#32
  let c1_i32_136 : BitVec 32 := 1#32
  let arg24 : BitVec 32 := Scf.iv c0_i32_135 c1_i32_136 k0_t2
  let c2_i32_449 : BitVec 32 := 2#32
  let v585 : BitVec 32 := Scalar.addi arg24 c2_i32_449
  let c3_i32_450 : BitVec 32 := 3#32
  let v586 : BitVec 32 := Scalar.remsi v585 c3_i32_450
  let c4_i32_451 : BitVec 32 := 4#32
  let v587 : BitVec 32 := Scalar.muli v586 c4_i32_451
  let c3_i32_452 : BitVec 32 := 3#32
  let v588 : BitVec 32 := Scalar.addi v587 c3_i32_452
  ![v588.toNat]
def k0_off139 (k0_t2 : Fin k0_t2_loop.trips) : Fin 3 → Nat :=
  let c0_i32_135 : BitVec 32 := 0#32
  let c1_i32_136 : BitVec 32 := 1#32
  let arg24 : BitVec 32 := Scf.iv c0_i32_135 c1_i32_136 k0_t2
  let c2_i32_449 : BitVec 32 := 2#32
  let v585 : BitVec 32 := Scalar.addi arg24 c2_i32_449
  let c3_i32_450 : BitVec 32 := 3#32
  let v586 : BitVec 32 := Scalar.remsi v585 c3_i32_450
  let c4_i32_451 : BitVec 32 := 4#32
  let v587 : BitVec 32 := Scalar.muli v586 c4_i32_451
  let c3_i32_452 : BitVec 32 := 3#32
  let v588 : BitVec 32 := Scalar.addi v587 c3_i32_452
  let c0_i32_475 : BitVec 32 := 0#32
  let c0_i32_476 : BitVec 32 := 0#32
  ![v588.toNat, 0, 0]
def k0_off140 (k0_t2 : Fin k0_t2_loop.trips) : Fin 2 → Nat :=
  let c0_i32_135 : BitVec 32 := 0#32
  let c1_i32_136 : BitVec 32 := 1#32
  let arg24 : BitVec 32 := Scf.iv c0_i32_135 c1_i32_136 k0_t2
  let c2_i32_449 : BitVec 32 := 2#32
  let v585 : BitVec 32 := Scalar.addi arg24 c2_i32_449
  let c256_i32_474 : BitVec 32 := 256#32
  let v622 : BitVec 32 := Scalar.muli v585 c256_i32_474
  let c3072_i32_477 : BitVec 32 := 3072#32
  ![v622.toNat, 3072]
def k0_off141 (k0_t2 : Fin k0_t2_loop.trips) : Fin 2 → Nat :=
  let c0_i32_135 : BitVec 32 := 0#32
  let c1_i32_136 : BitVec 32 := 1#32
  let arg24 : BitVec 32 := Scf.iv c0_i32_135 c1_i32_136 k0_t2
  let c256_i32_457 : BitVec 32 := 256#32
  let v595 : BitVec 32 := Scalar.muli arg24 c256_i32_457
  let c3072_i32_460 : BitVec 32 := 3072#32
  ![v595.toNat, 3072]
def k0_mult4 : BitVec 32 :=
  let c10496_i32 : BitVec 32 := 10496#32
  c10496_i32
def k0_mult5 : BitVec 32 :=
  let c10752_i32_231 : BitVec 32 := 10752#32
  c10752_i32_231
abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x11008 : Shape := ⟨3, ![2, 512, 11008]⟩
abbrev S2x512x4096 : Shape := ⟨3, ![2, 512, 4096]⟩
abbrev S_ : Shape := ⟨0, ![]⟩
abbrev S11008x4096 : Shape := ⟨2, ![11008, 4096]⟩
abbrev S1024x11008 : Shape := ⟨2, ![1024, 11008]⟩
abbrev S1024x4096 : Shape := ⟨2, ![1024, 4096]⟩
abbrev S1x1 : Shape := ⟨2, ![1, 1]⟩
abbrev S1x1024x11008 : Shape := ⟨3, ![1, 1024, 11008]⟩
abbrev S1 : Shape := ⟨1, ![1]⟩
abbrev S1x1x1 : Shape := ⟨3, ![1, 1, 1]⟩
abbrev S1x256 : Shape := ⟨2, ![1, 256]⟩
abbrev S1x1x256 : Shape := ⟨3, ![1, 1, 256]⟩

abbrev nBuf : Space → Nat
  | .hbm => 15
  | .vmem => 11
  | .smem => 0
  | _ => 0

abbrev bufTy : (tb : Table) → Fin (tcTables nBuf tb) → BufTy
  | .hbm, ⟨0, _⟩ => ⟨S2x512x11008, .bf16⟩
  | .hbm, ⟨1, _⟩ => ⟨S2x512x4096, .fp8e4m3⟩
  | .hbm, ⟨2, _⟩ => ⟨S_, .f32⟩
  | .hbm, ⟨3, _⟩ => ⟨S11008x4096, .fp8e4m3⟩
  | .hbm, ⟨4, _⟩ => ⟨S_, .f32⟩
  | .hbm, ⟨5, _⟩ => ⟨S11008x4096, .f32⟩
  | .hbm, ⟨6, _⟩ => ⟨S1024x11008, .bf16⟩
  | .hbm, ⟨7, _⟩ => ⟨S1024x4096, .fp8e4m3⟩
  | .hbm, ⟨8, _⟩ => ⟨S1x1, .f32⟩
  | .hbm, ⟨9, _⟩ => ⟨S1x1, .f32⟩
  | .hbm, ⟨10, _⟩ => ⟨S1024x4096, .bf16⟩
  | .hbm, ⟨11, _⟩ => ⟨S11008x4096, .f32⟩
  | .hbm, ⟨12, _⟩ => ⟨S1x1, .f32⟩
  | .hbm, ⟨13, _⟩ => ⟨S1024x11008, .fp8e5m2⟩
  | .hbm, ⟨14, _⟩ => ⟨S1x1, .f32⟩
  | .local _ .vmem, ⟨0, _⟩ => ⟨S1024x11008, .bf16⟩
  | .local _ .vmem, ⟨1, _⟩ => ⟨S1024x4096, .fp8e4m3⟩
  | .local _ .vmem, ⟨2, _⟩ => ⟨S1x1, .f32⟩
  | .local _ .vmem, ⟨3, _⟩ => ⟨S11008x4096, .fp8e4m3⟩
  | .local _ .vmem, ⟨4, _⟩ => ⟨S1x1, .f32⟩
  | .local _ .vmem, ⟨5, _⟩ => ⟨S11008x4096, .f32⟩
  | .local _ .vmem, ⟨6, _⟩ => ⟨S1024x4096, .bf16⟩
  | .local _ .vmem, ⟨7, _⟩ => ⟨S11008x4096, .f32⟩
  | .local _ .vmem, ⟨8, _⟩ => ⟨S1x1, .f32⟩
  | .local _ .vmem, ⟨9, _⟩ => ⟨S1024x11008, .fp8e5m2⟩
  | .local _ .vmem, ⟨10, _⟩ => ⟨S1x1, .f32⟩
  | _, _ => ⟨S2x512x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1024x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11008x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S11008x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S11008x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x11008 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Steps.lean ====
/-
  Steps of a kernel body over buffers held IN PART. A memref's elements under a predicate of its own indices, at
  contents given index by index (`Hd`), can be split and joined along the predicate, read as a slice's or a squeezed
  slice's elements and back (`Win`), loaded from, stored to, lent to a transfer and handed back at its wait. The
  predicates and the contents of a rank-2 or rank-3 array are stated over natural coordinates.
-/
module

public import Idealize.ShloMosaic.Lib.Pipeline.FrameBody
public import Idealize.ShloMosaic.Lib.Transfers
public import Idealize.ShloMosaic.Lib.Memref
public import Idealize.ShloMosaic.Lib.Tactic
public import Idealize.ShloMosaic.Lib.ValueLayout

@[expose] public section

noncomputable section

namespace Cert.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Val : EltTy → Type}

local notation "𝕄" => MT nD τ sig Unit Val ℕ (Pipeline.UD sig nD τ) ℕ

theorem mem_rset {s : Shape} {r : Rect s} {x : s.Idx} : x ∈ r.set ↔ ∃ y, r.emb y = x := by
  rw [← Rect.map_emb_univ]
  constructor
  · intro h; obtain ⟨y, -, hy⟩ := Finset.mem_map.mp h; exact ⟨y, hy⟩
  · rintro ⟨y, rfl⟩; exact Finset.mem_map_of_mem _ (Finset.mem_univ y)

theorem emb_mem_rset {s : Shape} (r : Rect s) (y : r.shape.Idx) : r.emb y ∈ r.set := mem_rset.mpr ⟨y, rfl⟩

/-- The indices a predicate selects. -/
def sel {s : Shape} (P : s.Idx → Prop) : Finset s.Idx := by classical exact Finset.univ.filter P

theorem mem_sel {s : Shape} {P : s.Idx → Prop} {x : s.Idx} : x ∈ sel P ↔ P x := by
  classical
  unfold sel; rw [Finset.mem_filter]; exact ⟨fun h => h.2, fun h => ⟨Finset.mem_univ _, h⟩⟩

variable {s : Shape} {sp : Space} {e : EltTy}

/-- Core `c` holds at share `q` the elements of `M` whose indices satisfy `P`, and reads `d` there. -/
def Hd (c : Thread nD τ) (M : Memref sig c.2.kind sp s e) (q : PosShare TreeShare) (P : s.Idx → Prop) (d : s.Idx → Val e) :
    sProp 𝕄 :=
  iprop(∃ f, ⌜∀ x, P x → M.view.read Val f x = d x⌝ ∗ (M.view.loc c ↦[M.view.setOn (sel P)]{q} f))

instance Hd_storable (c : Thread nD τ) (M : Memref sig c.2.kind sp s e) (q : PosShare TreeShare) (P : s.Idx → Prop) (d : s.Idx → Val e) :
    BI.Storable (upEmb : UEmb _ 𝕄) (Hd c M q P d) := by
  unfold Hd; infer_instance

section Algebra

variable {c : Thread nD τ} {M : Memref sig c.2.kind sp s e} {q : PosShare TreeShare} {P P₁ P₂ : s.Idx → Prop} {d d' d₁ d₂ : s.Idx → Val e}

/-- The same elements at contents equal on them. -/
theorem Hd_congr (h : ∀ x, P x ↔ P₁ x) (hd : ∀ x, P x → d x = d₁ x) :
    Hd c M q P d ⊢ (Hd c M q P₁ d₁ : sProp 𝕄) := by
  have hs : sel P = sel P₁ := Finset.ext fun x => by rw [mem_sel, mem_sel]; exact h x
  unfold Hd
  rw [hs]
  iintro ⟨%f, %hf, H⟩
  iexists f
  isplitr
  · ipureintro; intro x hx; rw [hf x ((h x).mpr hx)]; exact hd x ((h x).mpr hx)
  · iexact H

/-- Elements held are held in two disjoint parts. -/
theorem Hd_split (h : ∀ x, P x ↔ P₁ x ∨ P₂ x) (hd : ∀ x, P₁ x → P₂ x → False) :
    Hd c M q P d ⊢ (iprop(Hd c M q P₁ d ∗ Hd c M q P₂ d) : sProp 𝕄) := by
  classical
  have hs : M.view.setOn (sel P) = M.view.setOn (sel P₁) ∪ M.view.setOn (sel P₂) := by
    have : sel P = sel P₁ ∪ sel P₂ := Finset.ext fun x => by rw [Finset.mem_union, mem_sel, mem_sel, mem_sel]; exact h x
    rw [this]; exact Finset.map_union _ _
  have hdis : Disjoint (M.view.setOn (sel P₁)) (M.view.setOn (sel P₂)) := by
    refine (Finset.disjoint_map _).mpr (Finset.disjoint_left.mpr fun x h₁ h₂ => ?_)
    exact hd x (mem_sel.mp h₁) (mem_sel.mp h₂)
  unfold Hd
  rw [hs]
  iintro ⟨%f, %hf, H⟩
  ihave H := (pointsTo_union hdis).1 $$ H
  icases H with ⟨H₁, H₂⟩
  isplitl [H₁]
  · iexists f; isplitr
    · ipureintro; intro x hx; exact hf x ((h x).mpr (.inl hx))
    · iexact H₁
  · iexists f; isplitr
    · ipureintro; intro x hx; exact hf x ((h x).mpr (.inr hx))
    · iexact H₂

/-- Two disjoint parts held are held together, at contents that agree with each part's on it. -/
theorem Hd_join (h : ∀ x, P x ↔ P₁ x ∨ P₂ x) (hd : ∀ x, P₁ x → P₂ x → False)
    (e₁ : ∀ x, P₁ x → d₁ x = d x) (e₂ : ∀ x, P₂ x → d₂ x = d x) :
    iprop(Hd c M q P₁ d₁ ∗ Hd c M q P₂ d₂) ⊢ (Hd c M q P d : sProp 𝕄) := by
  classical
  have hs : M.view.setOn (sel P) = M.view.setOn (sel P₁) ∪ M.view.setOn (sel P₂) := by
    have : sel P = sel P₁ ∪ sel P₂ := Finset.ext fun x => by rw [Finset.mem_union, mem_sel, mem_sel, mem_sel]; exact h x
    rw [this]; exact Finset.map_union _ _
  have hdis : Disjoint (M.view.setOn (sel P₁)) (M.view.setOn (sel P₂)) := by
    refine (Finset.disjoint_map _).mpr (Finset.disjoint_left.mpr fun x h₁ h₂ => ?_)
    exact hd x (mem_sel.mp h₁) (mem_sel.mp h₂)
  have hmem : ∀ {R : s.Idx → Prop} (x : s.Idx), M.view.emb x ∈ M.view.setOn (sel R) ↔ R x := fun {R} x => by
    rw [View.mem_setOn]; exact mem_sel
  unfold Hd
  rw [hs]
  iintro ⟨⟨%f, %hf, H₁⟩, ⟨%g, %hg, H₂⟩⟩
  iexists ((M.view.setOn (sel P₂)).piecewise g f)
  isplitr
  · ipureintro
    intro x hx
    rw [View.read_apply]
    by_cases h₂ : P₂ x
    · rw [Finset.piecewise_eq_of_mem _ _ _ ((hmem x).mpr h₂)]
      exact (hg x h₂).trans (e₂ x h₂)
    · rw [Finset.piecewise_eq_of_notMem _ _ _ (fun hh => h₂ ((hmem x).mp hh))]
      have h₁ := ((h x).mp hx).resolve_right h₂
      exact (hf x h₁).trans (e₁ x h₁)
  · iapply (pointsTo_join hdis)
    isplitl [H₁] <;> iassumption

/-- A share is its two halves. -/
theorem Hd_halves : Hd c M q P d ⊢ (iprop(Hd c M q.left P d ∗ Hd c M q.right P d) : sProp 𝕄) := by
  unfold Hd
  iintro ⟨%f, %hf, H⟩
  ihave H := (pointsTo_share (PosShare.mem_left_op_right q)).1 $$ H
  icases H with ⟨Hl, Hr⟩
  isplitl [Hl]
  · iexists f; isplitr; · ipureintro; exact hf
    iexact Hl
  · iexists f; isplitr; · ipureintro; exact hf
    iexact Hr

/-- Two halves are the share. -/
theorem Hd_rejoin : iprop(Hd c M q.left P d ∗ Hd c M q.right P d) ⊢ (Hd c M q P d : sProp 𝕄) := by
  unfold Hd
  iintro ⟨⟨%f, %hf, Hl⟩, ⟨%g, -, Hr⟩⟩
  iapply (show iprop((M.view.loc c ↦[M.view.setOn (sel P)]{q.left} f) ∗ (M.view.loc c ↦[M.view.setOn (sel P)]{q.right} g))
      ⊢ (iprop(∃ f, ⌜∀ x, P x → M.view.read Val f x = d x⌝ ∗ (M.view.loc c ↦[M.view.setOn (sel P)]{q} f)) : sProp 𝕄) from
    pure_elim _ pointsTo_agree fun hv => by
      rw [pointsTo_congr (f := g) (g := f) (fun i hi => ((hv i (Finset.mem_inter.mpr ⟨hi, hi⟩)).1).symm)]
      iintro H
      iexists f; isplitr; · ipureintro; exact hf
      iapply (pointsTo_share (PosShare.mem_left_op_right q)).2; iexact H)
  isplitl [Hl]; · iexact Hl
  iexact Hr

/-- Nothing held, at any contents. -/
theorem Hd_none [hN : ∀ e, Nonempty (Val e)] (h : ∀ x, ¬ P x) : (emp : sProp 𝕄) ⊢ Hd c M q P d := by
  have hs : sel P = ∅ := Finset.eq_empty_of_forall_notMem fun x hx => h x (mem_sel.mp hx)
  unfold Hd
  rw [hs]
  iintro -
  iexists fun _ => Classical.arbitrary _
  isplitr; · ipureintro; intro x hx; exact absurd hx (h x)
  rw [show M.view.setOn (∅ : Finset s.Idx) = ∅ from Finset.map_empty _, pointsTo_empty]; iempintro

/-- The whole of a memref of a whole buffer. -/
theorem Hd_of_pts (f : M.view.ty.Contents Val) (h : ∀ x, P x) (hd : ∀ x, M.view.read Val f x = d x) :
    (M.view.loc c ↦[M.view.set]{q} f) ⊢ (Hd c M q P d : sProp 𝕄) := by
  have hs : sel P = Finset.univ := Finset.ext fun x => by rw [mem_sel]; simp [h x]
  unfold Hd
  rw [hs]
  iintro H
  iexists f
  isplitr; · ipureintro; intro x _; exact hd x
  iexact H

end Algebra

/-! ## Windows -/

/-- The elements of `M'` are those of `M` under `P`, index `y` of `M'` being index `g y` of `M`. -/
structure Win (c : Thread nD τ) {s' : Shape} (M' : Memref sig c.2.kind sp s' e) (M : Memref sig c.2.kind sp s e) (g : s'.Idx → s.Idx)
    (P : s.Idx → Prop) : Prop where
  fwd : ∀ (q : PosShare TreeShare) (d : s.Idx → Val e), Hd c M q P d ⊢ (Hd c M' q (fun _ => True) (fun y => d (g y)) : sProp 𝕄)
  bwd : ∀ (q : PosShare TreeShare) (d : s.Idx → Val e) (d' : s'.Idx → Val e) (_ : ∀ y, d' y = d (g y)),
    Hd c M' q (fun _ => True) d' ⊢ (Hd c M q P d : sProp 𝕄)

/-- A slice of a memref. -/
theorem win_slice (c : Thread nD τ) (M : Memref sig c.2.kind sp s e) (r : Rect s) (hr : ∀ a, r.stride a = 1) (P : s.Idx → Prop)
    (hP : ∀ x, P x ↔ x ∈ r.set) : Win (Val := Val) c (M.slice r hr) M (fun y => r.emb y) P := by
  have hs : sel P = r.set := Finset.ext fun x => by rw [mem_sel]; exact hP x
  have hu : sel (s := r.shape) (fun _ => True) = Finset.univ := Finset.ext fun x => by rw [mem_sel]; simp
  have he : (M.slice r hr).view.setOn (sel (s := r.shape) fun _ => True) = M.view.setOn (sel P) := by
    rw [hs, hu]
    ext i
    simp only [View.setOn, Finset.mem_map, Finset.mem_univ, _root_.true_and]
    constructor
    · rintro ⟨y, rfl⟩; exact ⟨r.emb y, emb_mem_rset r y, rfl⟩
    · rintro ⟨x, hx, rfl⟩
      obtain ⟨y, rfl⟩ := mem_rset.mp hx
      exact ⟨y, rfl⟩
  constructor
  · intro q d
    unfold Hd
    iintro ⟨%f, %hf, H⟩
    iexists f
    isplitr
    · ipureintro; intro y _; exact hf (r.emb y) ((hP _).mpr (emb_mem_rset r y))
    · iapply (Entails.of_eq (congrArg (fun S => (M.view.loc c ↦[S]{q} f : sProp 𝕄)) he.symm)); iexact H
  · intro q d d' hd
    unfold Hd
    iintro ⟨%f, %hf, H⟩
    iexists f
    isplitr
    · ipureintro; intro x hx
      obtain ⟨y, rfl⟩ := mem_rset.mp ((hP x).mp hx)
      exact (hf y trivial).trans (hd y)
    · iapply (Entails.of_eq (congrArg (fun S => (M.view.loc c ↦[S]{q} f : sProp 𝕄)) he)); iexact H

/-- A memref with unit axes dropped. -/
theorem win_squeeze (c : Thread nD τ) (M : Memref sig c.2.kind sp s e) (s' : Shape) (h : s.Squeezes s') :
    Win (Val := Val) c (M.squeeze s' h) M (fun y => Shape.reshapeEquiv h.numel_eq y) (fun _ => True) := by
  have hu : sel (s := s) (fun _ => True) = Finset.univ := Finset.ext fun x => by rw [mem_sel]; simp
  have hu' : sel (s := s') (fun _ => True) = Finset.univ := Finset.ext fun x => by rw [mem_sel]; simp
  have he : (M.squeeze s' h).view.setOn (sel (s := s') fun _ => True) = M.view.setOn (sel (s := s) fun _ => True) := by
    rw [hu, hu']
    ext i
    simp only [View.setOn, Finset.mem_map, Finset.mem_univ, _root_.true_and]
    constructor
    · rintro ⟨y, rfl⟩; exact ⟨Shape.reshapeEquiv h.numel_eq y, rfl⟩
    · rintro ⟨x, rfl⟩
      exact ⟨(Shape.reshapeEquiv h.numel_eq).symm x, congrArg M.view.emb (Equiv.apply_symm_apply _ _)⟩
  constructor
  · intro q d
    unfold Hd
    iintro ⟨%f, %hf, H⟩
    iexists f
    isplitr
    · ipureintro; intro y _; exact hf (Shape.reshapeEquiv h.numel_eq y) trivial
    · iapply (Entails.of_eq (congrArg (fun S => (M.view.loc c ↦[S]{q} f : sProp 𝕄)) he.symm)); iexact H
  · intro q d d' hd
    unfold Hd
    iintro ⟨%f, %hf, H⟩
    iexists f
    isplitr
    · ipureintro; intro x _
      have h1 := hf ((Shape.reshapeEquiv h.numel_eq).symm x) trivial
      have h2 : Shape.reshapeEquiv h.numel_eq ((Shape.reshapeEquiv h.numel_eq).symm x) = x := Equiv.apply_symm_apply _ _
      have h3 := h1.trans (hd _)
      rw [h2] at h3
      rw [← h3]
      exact (congrArg (M.view.read Val f) h2).symm
    · iapply (Entails.of_eq (congrArg (fun S => (M.view.loc c ↦[S]{q} f : sProp 𝕄)) he)); iexact H

/-- A window of a window that is all of it. -/
theorem Win.comp {c : Thread nD τ} {s' s'' : Shape} {M'' : Memref sig c.2.kind sp s'' e} {M' : Memref sig c.2.kind sp s' e}
    {M : Memref sig c.2.kind sp s e} {g' : s''.Idx → s'.Idx} {g : s'.Idx → s.Idx} {P : s.Idx → Prop}
    (h' : Win (Val := Val) c M'' M' g' (fun _ => True)) (h : Win (Val := Val) c M' M g P) :
    Win (Val := Val) c M'' M (fun y => g (g' y)) P where
  fwd q d := (h.fwd q d).trans (h'.fwd q _)
  bwd q d d' hd := (h'.bwd q (fun y => d (g y)) d' hd).trans (h.bwd q d _ fun _ => rfl)

/-- A memref as a window of itself. -/
theorem win_self (c : Thread nD τ) (M : Memref sig c.2.kind sp s e) (P : s.Idx → Prop) (hP : ∀ x, P x) : Win (Val := Val) c M M (fun y => y) P where
  fwd q d := Hd_congr (fun x => iff_of_true (hP x) trivial) fun _ _ => rfl
  bwd q d d' hd := Hd_congr (fun x => iff_of_true trivial (hP x)) fun x _ => hd x

/-! ## Operations -/

section Ops

variable {Λ : Labels} {defs : Defs nD τ sig Val Λ} (𝒱 : Variants) (c : Thread nD τ) (bd : Option 𝒱.V) {α : Type}
variable {Q : α → sProp (MT nD τ sig Unit Val ℕ (Pipeline.UD sig nD τ) ℕ)}

/-- A load of a rectangle held. -/
theorem wp_hload {cs : CoreSpace} {m : Memref sig c.2.kind cs s e} {r : Rect s} {hl : m.view.LoadsAt r.toLoadRect}
    {k : (r.toLoadRect.shape.Idx → Val e) → Prog (TpuEff nD τ sig Val Λ c.2) α} {q : PosShare TreeShare} {P : s.Idx → Prop} {d : s.Idx → Val e}
    (v : r.shape.Idx → Val e) (hP : ∀ y, P (r.emb y)) (hv : ∀ y, d (r.emb y) = v y) :
    Hd c m q P d
      ⊢ iprop((Hd c m q P d -∗ wp frame (wpE defs 𝒱 c bd) Set.univ (k v) Q)
        -∗ wp frame (wpE defs 𝒱 c bd) Set.univ (.op (.load m r.toLoadRect hl) k) Q) := by
  unfold Hd
  iintro ⟨%f, %hf, H⟩ Hk
  have hS : m.view.setOn r.toLoadRect.set ⊆ m.view.setOn (sel P) := by
    refine Finset.map_subset_map.mpr fun x hx => mem_sel.mpr ?_
    obtain ⟨y, rfl⟩ := mem_rset.mp hx
    exact hP y
  have hr : m.view.readAt Val r.toLoadRect f = v := funext fun y => by
    rw [View.readAt_apply]; exact (hf _ (hP y)).trans (hv y)
  iapply (wp_load (defs := defs) 𝒱 c bd (Γ := .empty) Set.univ (hl := hl) hS) $$ H
  rw [hr]
  iintro H
  iapply Hk
  iexists f
  isplitr; · ipureintro; exact hf
  iexact H

/-- A store of a rectangle held, every index of it. -/
theorem wp_hstore {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {P : s.Idx → Prop} {d : s.Idx → Val e}
    (d' : s.Idx → Val e) (hP : ∀ y, P (r.emb y)) (hw : ∀ y, d' (r.emb y) = w y) (ho : ∀ x, P x → x ∉ r.set → d' x = d x) :
    Hd c m fullShare P d
      ⊢ iprop((Hd c m fullShare P d' -∗ wp frame (wpE defs 𝒱 c bd) Set.univ (k ⟨⟩) Q)
        -∗ wp frame (wpE defs 𝒱 c bd) Set.univ (.op (.store m r w Finset.univ hx hm) k) Q) := by
  unfold Hd
  iintro ⟨%f, %hf, H⟩ Hk
  have hS : (m.access r).setOn Finset.univ ⊆ m.view.setOn (sel P) := by
    intro i hi
    obtain ⟨y, -, rfl⟩ := Finset.mem_map.mp hi
    exact Finset.mem_map.mpr ⟨r.emb y, mem_sel.mpr (hP y), rfl⟩
  iapply (wp_store (defs := defs) 𝒱 c bd (Γ := .empty) Set.univ (hx := hx) (hm := hm) (w := w) hS) $$ H
  iintro H
  iapply Hk
  iexists ((m.access r).write Val f w Finset.univ)
  isplitr
  · ipureintro
    intro x hx'
    by_cases hxr : x ∈ r.set
    · obtain ⟨y, rfl⟩ := mem_rset.mp hxr
      rw [hw y]
      exact View.read_write_of_mem (v := m.access r) f w (Finset.mem_univ y)
    · rw [ho x hx' hxr, ← hf x hx', View.read_apply, View.read_apply]
      congr 1
      refine View.write_of_not_mem (v := m.access r) f w Finset.univ (fun hh => hxr ?_)
      obtain ⟨y, -, hy⟩ := Finset.mem_map.mp hh
      have : r.emb y = x := m.view.emb.injective hy
      rw [← this]; exact emb_mem_rset r y
  · iexact H

local notation "EC" => (countersEmb (U := Pipeline.UD sig nD τ) : UEmb Counters 𝕄)

variable {sp' : Space} {s₁ s₂ : Shape}

/-- A transfer in flight on a cell, delivering `D`. -/
abbrev Fl (c : Thread nD τ) (sm : DmaSem sig) (N : ℕ) (D : sProp 𝕄) : sProp 𝕄 :=
  Flight (countersEmb (U := Pipeline.UD sig nD τ) : UEmb Counters 𝕄) c (.dma sm) () N D

/-- A transfer between windows of two buffers held: it comes back, at its wait, with the destination at the source's contents. -/
theorem wp_hdma {src : Memref sig c.2.kind sp s e} {dst : Memref sig c.2.kind sp' s e} {sm sm' : DmaSem sig}
    {Ms : Memref sig c.2.kind sp s₁ e} {Md : Memref sig c.2.kind sp' s₂ e} {gs : s.Idx → s₁.Idx} {gd : s.Idx → s₂.Idx}
    {Ps : s₁.Idx → Prop} {Pd : s₂.Idx → Prop}
    {hsrc : src.view.WordExact} {hdst : dst.view.WordExact} {hsem : DmaTarget.Typed (nD := nD) sp (.dma sm) (.here dst)}
    {k : PUnit → Prog (TpuEff nD τ sig Val Λ c.2) α} {q : PosShare TreeShare} {ds : s₁.Idx → Val e} {dd : s₂.Idx → Val e}
    (hs : Win (Val := Val) c src Ms gs Ps) (hd : Win (Val := Val) c dst Md gd Pd) (dd' : s₂.Idx → Val e) (hv : ∀ y, dd' (gd y) = ds (gs y))
    (hsm : sm = sm') (N : ℕ) (hN : dst.view.amount (.dma sm) = N) (hN0 : 0 < N) :
    iprop(Hd c Ms q Ps ds ∗ Hd c Md fullShare Pd dd ∗ semVal (c, .dma sm') 0)
      ⊢ iprop((Fl c sm' N iprop(Hd c Md fullShare Pd dd' ∗ Hd c Ms q Ps ds) -∗ wp frame (wpE defs 𝒱 c bd) Set.univ (k ⟨⟩) Q)
        -∗ wp frame (wpE defs 𝒱 c bd) Set.univ (.op (.enqueueDma src (.here dst) (.dma sm) hsrc hdst hsem) k) Q) := by
  subst hsm
  have hu : ∀ {S : Shape}, sel (s := S) (fun _ => True) = Finset.univ := Finset.ext fun x => by rw [mem_sel]; simp
  iintro ⟨Hs, Hd, Hv⟩ Hk
  ihave Hs := (hs.fwd q ds) $$ Hs
  ihave Hd := (hd.fwd fullShare dd) $$ Hd
  have hb : ∀ (fs : src.view.ty.Contents Val) (fd : dst.view.ty.Contents Val) (_ : ∀ y, True → src.view.read Val fs y = ds (gs y)),
      iprop((dst.view.loc c ↦[dst.view.set]{fullShare} (dst.view.write Val fd (ReadAs.same.apply (src.view.read Val fs)) Finset.univ))
        ∗ (src.view.loc c ↦[src.view.set]{q} fs)) ⊢ (iprop(Cert.Steps.Hd c Md fullShare Pd dd' ∗ Cert.Steps.Hd c Ms q Ps ds) : sProp 𝕄) := by
    intro fs fd hfs
    iintro ⟨H₁, H₂⟩
    isplitl [H₁]
    · iapply (hd.bwd fullShare dd' (src.view.read Val fs) (fun y => (hfs y trivial).trans (hv y).symm))
      iapply (Hd_of_pts (c := c) (M := dst) (P := fun _ => True) _ (fun _ => trivial) ?_) $$ H₁
      intro x; exact congrFun (View.read_write_univ _ _) x
    · iapply (hs.bwd q ds _ (fun y => rfl))
      iapply (Hd_of_pts (c := c) (M := src) (P := fun _ => True) _ (fun _ => trivial) (fun x => hfs x trivial)) $$ H₂
  unfold Cert.Steps.Hd
  icases Hs with ⟨%fs, %hfs, Hs⟩
  icases Hd with ⟨%fd, %hfd, Hd⟩
  rw [hu]
  ihave Hw := (wp_dmaLocal EC 𝒱 c bd (src := src) (dst := dst) (sm := .dma sm) (via := .same) (hsrc := hsrc) (hdst := hdst) (hsem := hsem) (k := k)
    (q := q) (fs := fs) (Sd := dst.view.set) (fd := fd) () N hN hN0 (Finset.Subset.refl _)) $$ [Hs Hd Hv]
  · isplitl [Hs]; · iexact Hs
    isplitl [Hd]; · iexact Hd
    iexact Hv
  iapply Hw
  iintro HF
  iapply Hk
  iapply (Flight_mono EC c (hb fs fd hfs))
  iexact HF

/-- A wait for a transfer in flight: what it delivers, and its cell back at zero. -/
theorem wp_hwait {κ' : Kind} {sem sem' : DmaSem sig} {srcw : Memref sig c.2.kind sp' s₁ e} {dstw : Memref sig κ' sp s e}
    {hsrc : srcw.view.WordExact} {hdst : dstw.view.WordExact}
    {k : PUnit → Prog (TpuEff nD τ sig Val Λ c.2) α} {N : ℕ} {D : sProp 𝕄} (hsm : sem = sem') (hN : dstw.view.dmaCredit = N) :
    iprop(Fl c sem' N D ∗ ∃ W, owes c 0 W)
      ⊢ iprop((iprop(D ∗ semVal (c, .dma sem') 0 ∗ ∃ W, owes c 0 W) -∗ wp frame (wpE defs 𝒱 c bd) Set.univ (k ⟨⟩) Q)
        -∗ wp frame (wpE defs 𝒱 c bd) Set.univ (.op (.waitDma2 sem srcw dstw hsrc hdst) k) Q) := by
  subst hsm
  iintro ⟨HF, %W, HO⟩ Hk
  iapply (wp_waitLocal EC 𝒱 c bd () hN) $$ [HF HO]
  · isplitl [HF] <;> iassumption
  iintro ⟨HD, Hv, HO⟩
  iapply Hk
  isplitl [HD]; · iexact HD
  isplitl [Hv]; · iexact Hv
  iexists _; iexact HO

end Ops

end Cert.Steps
-- ==== Proof.Boxes.lean ====
/-
  The steps of `Steps.lean` over boxes of a rank-2 array (`H2`: the rows and columns of two half-open ranges), slots of a
  rank-3 array (`H3`: the elements whose first coordinate is the slot's) and a single cell of a semaphore array. Contents are
  functions of natural coordinates.
-/
module

public import proofs.«01_k».proof.Proof.Steps

@[expose] public section

noncomputable section

namespace Cert.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {nD : Nat} {τ : Topo} {sig : RefSig} {Val : EltTy → Type}

local notation "𝕄" => MT nD τ sig Unit Val ℕ (Pipeline.UD sig nD τ) ℕ

variable {sp sp' : Space} {e : EltTy} {a b n m : ℕ}

/-- A vector's entries as a function of natural coordinates (taken modulo the extents). -/
def lift2 {α : Type} [NeZero n] [NeZero m] (w : (⟨2, ![n, m]⟩ : Shape).Idx → α) (i j : ℕ) : α :=
  w (ix2 (Fin.ofNat n i) (Fin.ofNat m j))

theorem lift2_val {α : Type} [NeZero n] [NeZero m] (w : (⟨2, ![n, m]⟩ : Shape).Idx → α) (y : (⟨2, ![n, m]⟩ : Shape).Idx) :
    lift2 w (y 0).val (y 1).val = w y := by
  unfold lift2
  congr 1
  rw [eq_ix2 y]
  congr 1
  · exact Fin.ext (Nat.mod_eq_of_lt (idx2_lt0 y))
  · exact Fin.ext (Nat.mod_eq_of_lt (idx2_lt1 y))

/-- A one-row vector's entries as a function of its last two coordinates. -/
def lift3 {α : Type} [NeZero n] [NeZero m] (w : (⟨3, ![1, n, m]⟩ : Shape).Idx → α) (i j : ℕ) : α :=
  w (ix3 0 (Fin.ofNat n i) (Fin.ofNat m j))

theorem lift3_val {α : Type} [NeZero n] [NeZero m] (w : (⟨3, ![1, n, m]⟩ : Shape).Idx → α) (y : (⟨3, ![1, n, m]⟩ : Shape).Idx) :
    lift3 w (y 1).val (y 2).val = w y := by
  unfold lift3
  congr 1
  rw [eq_ix3 y]
  congr 1
  · exact (Fin.eq_zero _).symm
  · exact Fin.ext (Nat.mod_eq_of_lt (y 1).isLt)
  · exact Fin.ext (Nat.mod_eq_of_lt (y 2).isLt)

/-- The tile of a rank-2 array at an offset. -/
def tile2 {α : Type} (n m : ℕ) (F : ℕ → ℕ → α) (o₀ o₁ : ℕ) : (⟨2, ![n, m]⟩ : Shape).Idx → α := fun y => F (o₀ + (y 0).val) (o₁ + (y 1).val)

/-- The same tile under a leading unit axis. -/
def tile3 {α : Type} (n m : ℕ) (F : ℕ → ℕ → α) (o₀ o₁ : ℕ) : (⟨3, ![1, n, m]⟩ : Shape).Idx → α := fun y => F (o₀ + (y 1).val) (o₁ + (y 2).val)

/-- Rows `[r₀, r₁)` and columns `[c₀, c₁)`. -/
def box (r₀ r₁ c₀ c₁ : ℕ) : (⟨2, ![a, b]⟩ : Shape).Idx → Prop :=
  fun x => (r₀ ≤ (x 0).val ∧ (x 0).val < r₁) ∧ c₀ ≤ (x 1).val ∧ (x 1).val < c₁

/-- A box of a rank-2 array. -/
def H2 (c : Thread nD τ) (M : Memref sig c.2.kind sp ⟨2, ![a, b]⟩ e) (q : PosShare TreeShare) (r₀ r₁ c₀ c₁ : ℕ) (F : ℕ → ℕ → Val e) :
    sProp 𝕄 :=
  Hd c M q (box r₀ r₁ c₀ c₁) fun x => F (x 0).val (x 1).val

/-- A slot of a rank-3 array. -/
def H3 (c : Thread nD τ) (M : Memref sig c.2.kind sp ⟨3, ![n, a, b]⟩ e) (q : PosShare TreeShare) (k : ℕ) (F : ℕ → ℕ → Val e) : sProp 𝕄 :=
  Hd c M q (fun x => (x 0).val = k) fun x => F (x 1).val (x 2).val

/-- The slots of a rank-3 array from `k` on, at some contents. -/
def Hfrom (c : Thread nD τ) (M : Memref sig c.2.kind sp ⟨3, ![n, a, b]⟩ e) (k : ℕ) : sProp 𝕄 :=
  iprop(∃ d, Hd c M fullShare (fun x => k ≤ (x 0).val) d)

section Algebra

variable {c : Thread nD τ} {M : Memref sig c.2.kind sp ⟨2, ![a, b]⟩ e} {q : PosShare TreeShare} {r₀ r₁ r₂ c₀ c₁ c₂ : ℕ} {F F₁ F₂ : ℕ → ℕ → Val e}

theorem H2_congr (h : ∀ i j, r₀ ≤ i → i < r₁ → c₀ ≤ j → j < c₁ → F i j = F₁ i j) :
    H2 c M q r₀ r₁ c₀ c₁ F ⊢ (H2 c M q r₀ r₁ c₀ c₁ F₁ : sProp 𝕄) :=
  Hd_congr (fun _ => Iff.rfl) fun x hx => h _ _ hx.1.1 hx.1.2 hx.2.1 hx.2.2

theorem H2_rows (r₁ : ℕ) (h₀ : r₀ ≤ r₁) (h₁ : r₁ ≤ r₂) :
    H2 c M q r₀ r₂ c₀ c₁ F ⊢ (iprop(H2 c M q r₀ r₁ c₀ c₁ F ∗ H2 c M q r₁ r₂ c₀ c₁ F) : sProp 𝕄) :=
  Hd_split (fun x => by unfold box; omega) fun x hx hy => by unfold box at hx hy; omega

theorem H2_cols (c₁ : ℕ) (h₀ : c₀ ≤ c₁) (h₁ : c₁ ≤ c₂) :
    H2 c M q r₀ r₁ c₀ c₂ F ⊢ (iprop(H2 c M q r₀ r₁ c₀ c₁ F ∗ H2 c M q r₀ r₁ c₁ c₂ F) : sProp 𝕄) :=
  Hd_split (fun x => by unfold box; omega) fun x hx hy => by unfold box at hx hy; omega

theorem H2_joinRows (h₀ : r₀ ≤ r₁) (h₁ : r₁ ≤ r₂) (e₁ : ∀ i j, r₀ ≤ i → i < r₁ → c₀ ≤ j → j < c₁ → F₁ i j = F i j)
    (e₂ : ∀ i j, r₁ ≤ i → i < r₂ → c₀ ≤ j → j < c₁ → F₂ i j = F i j) :
    iprop(H2 c M q r₀ r₁ c₀ c₁ F₁ ∗ H2 c M q r₁ r₂ c₀ c₁ F₂) ⊢ (H2 c M q r₀ r₂ c₀ c₁ F : sProp 𝕄) :=
  Hd_join (fun x => by unfold box; omega) (fun x hx hy => by unfold box at hx hy; omega)
    (fun x hx => e₁ _ _ hx.1.1 hx.1.2 hx.2.1 hx.2.2) fun x hx => e₂ _ _ hx.1.1 hx.1.2 hx.2.1 hx.2.2

theorem H2_joinCols (h₀ : c₀ ≤ c₁) (h₁ : c₁ ≤ c₂) (e₁ : ∀ i j, r₀ ≤ i → i < r₁ → c₀ ≤ j → j < c₁ → F₁ i j = F i j)
    (e₂ : ∀ i j, r₀ ≤ i → i < r₁ → c₁ ≤ j → j < c₂ → F₂ i j = F i j) :
    iprop(H2 c M q r₀ r₁ c₀ c₁ F₁ ∗ H2 c M q r₀ r₁ c₁ c₂ F₂) ⊢ (H2 c M q r₀ r₁ c₀ c₂ F : sProp 𝕄) :=
  Hd_join (fun x => by unfold box; omega) (fun x hx hy => by unfold box at hx hy; omega)
    (fun x hx => e₁ _ _ hx.1.1 hx.1.2 hx.2.1 hx.2.2) fun x hx => e₂ _ _ hx.1.1 hx.1.2 hx.2.1 hx.2.2

/-- An empty box. -/
theorem H2_none [∀ e, Nonempty (Val e)] (h : r₁ ≤ r₀ ∨ c₁ ≤ c₀) : (emp : sProp 𝕄) ⊢ H2 c M q r₀ r₁ c₀ c₁ F :=
  Hd_none fun x hx => by unfold box at hx; omega

/-- A whole rank-2 buffer is its whole box. -/
theorem H2_of_pts (f : M.view.ty.Contents Val) (h : ∀ x, M.view.read Val f x = F (x 0).val (x 1).val) :
    (M.view.loc c ↦[M.view.set]{q} f) ⊢ (H2 c M q 0 a 0 b F : sProp 𝕄) :=
  Hd_of_pts f (fun x => ⟨⟨Nat.zero_le _, idx2_lt0 x⟩, Nat.zero_le _, idx2_lt1 x⟩) h

variable {M₃ : Memref sig c.2.kind sp ⟨3, ![n, a, b]⟩ e} {k : ℕ}

theorem H3_congr (h : ∀ i j, i < a → j < b → F i j = F₁ i j) :
    H3 c M₃ q k F ⊢ (H3 c M₃ q k F₁ : sProp 𝕄) :=
  Hd_congr (fun _ => Iff.rfl) fun x _ => h _ _ (x 1).isLt (x 2).isLt

theorem H3_halves : H3 c M₃ q k F ⊢ (iprop(H3 c M₃ q.left k F ∗ H3 c M₃ q.right k F) : sProp 𝕄) := Hd_halves

theorem H3_rejoin : iprop(H3 c M₃ q.left k F ∗ H3 c M₃ q.right k F) ⊢ (H3 c M₃ q k F : sProp 𝕄) := Hd_rejoin

/-- The first slot of those from `k` on. -/
theorem Hfrom_take [NeZero n] [NeZero a] [NeZero b] (k : ℕ) (hk : k < n) :
    Hfrom c M₃ k ⊢ (iprop((∃ F, H3 c M₃ fullShare k F) ∗ Hfrom c M₃ (k + 1)) : sProp 𝕄) := by
  unfold Hfrom
  iintro ⟨%d, H⟩
  ihave H := (Hd_split (P₁ := fun x => (x 0).val = k) (P₂ := fun x => k + 1 ≤ (x 0).val) (fun x => by omega) (fun x _ _ => by omega)) $$ H
  icases H with ⟨H₁, H₂⟩
  isplitl [H₁]
  · iexists fun i j => d (ix3 ⟨k, hk⟩ (Fin.ofNat a i) (Fin.ofNat b j))
    unfold H3
    iapply (Hd_congr (fun _ => Iff.rfl) ?_) $$ H₁
    intro x hx
    dsimp only
    congr 1
    rw [eq_ix3 x]
    congr 1
    · exact Fin.ext hx
    · exact Fin.ext (Nat.mod_eq_of_lt (x 1).isLt).symm
    · exact Fin.ext (Nat.mod_eq_of_lt (x 2).isLt).symm
  · iexists d; iexact H₂

/-- A slot put back before those after it. -/
theorem Hfrom_put (k : ℕ) : iprop((∃ F, H3 c M₃ fullShare k F) ∗ Hfrom c M₃ (k + 1)) ⊢ (Hfrom c M₃ k : sProp 𝕄) := by
  unfold Hfrom H3
  iintro ⟨⟨%F, H₁⟩, ⟨%d, H₂⟩⟩
  iexists fun x => if (x 0).val = k then F (x 1).val (x 2).val else d x
  iapply (Hd_join (P₁ := fun x => (x 0).val = k) (P₂ := fun x => k + 1 ≤ (x 0).val) (fun x => by omega) (fun x _ _ => by omega)
    (fun x hx => (if_pos hx).symm) (fun x hx => (if_neg (by omega)).symm))
  isplitl [H₁] <;> iassumption

theorem Hfrom_none [∀ e, Nonempty (Val e)] : (emp : sProp 𝕄) ⊢ Hfrom c M₃ n := by
  unfold Hfrom
  iintro H
  iexists fun _ => Classical.arbitrary _
  iapply (Hd_none (fun x hx => absurd (x 0).isLt (Nat.not_lt.mpr hx))) $$ H

/-- A whole rank-3 buffer's slots. -/
theorem Hfrom_of_pts (f : M₃.view.ty.Contents Val) : (M₃.view.loc c ↦[M₃.view.set]{fullShare} f) ⊢ (Hfrom c M₃ 0 : sProp 𝕄) := by
  unfold Hfrom
  iintro H
  iexists M₃.view.read Val f
  iapply (Hd_of_pts f (fun x => Nat.zero_le _) (fun _ => rfl)) $$ H

end Algebra

/-! ## Cells of a semaphore array -/

/-- The `k`-th semaphore of an array. -/
def semAt {α : Type} [NeZero n] (S : SemArray α ⟨1, ![n]⟩) (k : ℕ) : α := S.ix (ix1 (Fin.ofNat n k))

theorem sem_eq {α : Type} [NeZero n] (S : SemArray α ⟨1, ![n]⟩) (off : Fin 1 → ℕ) (hb : ∀ i, off i + (⟨1, ![1]⟩ : Shape).size i ≤ (⟨1, ![n]⟩ : Shape).size i)
    (hs : (⟨1, ![1]⟩ : Shape).Squeezes ⟨0, ![]⟩) (k : ℕ) (h : off 0 = k) :
    ((S.slice (Rect.unit (s := ⟨1, ![n]⟩) off (⟨1, ![1]⟩ : Shape).size hb)).squeeze ⟨0, ![]⟩ hs).sem = semAt S k := by
  show S.ix _ = S.ix _
  congr 1
  funext d
  match d with
  | ⟨0, _⟩ =>
    apply Fin.ext
    have h1 := hb 0
    rw [h] at h1
    have h1 : k + 1 ≤ n := h1
    have h2 := ((Shape.reshapeEquiv hs.numel_eq (fun i : Fin 0 => i.elim0)) 0).isLt
    have h2 : _ < 1 := h2
    show off 0 + 1 * _ = k % n
    rw [h, Nat.mod_eq_of_lt h1]
    have h3 := Nat.lt_one_iff.mp h2
    show k + 1 * ((Shape.reshapeEquiv hs.numel_eq (fun i : Fin 0 => i.elim0)) 0).val = k
    rw [h3]; omega

/-! ## Rectangles -/

/-- A coordinate of a unit-stride rectangle's index. -/
theorem unit_emb {s : Shape} {off size : Fin s.rank → ℕ} {hb : ∀ i, off i + size i ≤ s.size i} (y : (Rect.unit off size hb).shape.Idx) (i : Fin s.rank) :
    ((Rect.unit off size hb).emb y i).val = off i + (y i).val := by
  show off i + 1 * _ = _
  rw [Nat.one_mul]

theorem win2 (c : Thread nD τ) (M : Memref sig c.2.kind sp ⟨2, ![a, b]⟩ e) (off : Fin 2 → ℕ)
    (hb : ∀ i, off i + (⟨2, ![n, m]⟩ : Shape).size i ≤ (⟨2, ![a, b]⟩ : Shape).size i) (hr) (o₀ o₁ : ℕ) (h₀ : off 0 = o₀) (h₁ : off 1 = o₁) :
    Win (Val := Val) c (M.slice (Rect.unit (s := ⟨2, ![a, b]⟩) off (⟨2, ![n, m]⟩ : Shape).size hb) hr) M (fun y => (Rect.unit (s := ⟨2, ![a, b]⟩) off (⟨2, ![n, m]⟩ : Shape).size hb).emb y)
      (box o₀ (o₀ + n) o₁ (o₁ + m)) := by
  refine win_slice c M _ hr _ fun x => ?_
  rw [Rect.mem_set_unit, Fin.forall_fin_two, h₀, h₁]
  exact Iff.rfl

theorem win3 (c : Thread nD τ) {N : ℕ} (M : Memref sig c.2.kind sp ⟨3, ![N, n, m]⟩ e) (off : Fin 3 → ℕ)
    (hb : ∀ i, off i + (⟨3, ![1, n, m]⟩ : Shape).size i ≤ (⟨3, ![N, n, m]⟩ : Shape).size i) (hr) (hq : (⟨3, ![1, n, m]⟩ : Shape).Squeezes ⟨2, ![n, m]⟩)
    (k : ℕ) (h₀ : off 0 = k) :
    Win (Val := Val) c ((M.slice (Rect.unit (s := ⟨3, ![N, n, m]⟩) off (⟨3, ![1, n, m]⟩ : Shape).size hb) hr).squeeze ⟨2, ![n, m]⟩ hq) M
      (fun y => (Rect.unit (s := ⟨3, ![N, n, m]⟩) off (⟨3, ![1, n, m]⟩ : Shape).size hb).emb (Shape.reshapeEquiv hq.numel_eq y))
      (fun x => (x 0).val = k) := by
  refine (win_squeeze c _ _ hq).comp (win_slice c M _ hr _ fun x => ?_)
  rw [Rect.mem_set_unit]
  have h1 : off 1 + n ≤ n := hb 1
  have h2 : off 2 + m ≤ m := hb 2
  constructor
  · intro hx i
    match i with
    | ⟨0, _⟩ => show off 0 ≤ (x 0).val ∧ (x 0).val < off 0 + 1; omega
    | ⟨1, _⟩ => have := (x 1).isLt; have : (x 1).val < n := this; show off 1 ≤ (x 1).val ∧ (x 1).val < off 1 + n; omega
    | ⟨2, _⟩ => have := (x 2).isLt; have : (x 2).val < m := this; show off 2 ≤ (x 2).val ∧ (x 2).val < off 2 + m; omega
  · intro hx
    have := hx 0
    have : off 0 ≤ (x 0).val ∧ (x 0).val < off 0 + 1 := this
    omega

theorem emb3 {N : ℕ} (off : Fin 3 → ℕ)
    (hb : ∀ i, off i + (⟨3, ![1, n, m]⟩ : Shape).size i ≤ (⟨3, ![N, n, m]⟩ : Shape).size i) (hq : (⟨3, ![1, n, m]⟩ : Shape).Squeezes ⟨2, ![n, m]⟩)
    (y : (⟨2, ![n, m]⟩ : Shape).Idx) :
    ((Rect.unit (s := ⟨3, ![N, n, m]⟩) off (⟨3, ![1, n, m]⟩ : Shape).size hb).emb (Shape.reshapeEquiv hq.numel_eq y) 1).val = (y 0).val
    ∧ ((Rect.unit (s := ⟨3, ![N, n, m]⟩) off (⟨3, ![1, n, m]⟩ : Shape).size hb).emb (Shape.reshapeEquiv hq.numel_eq y) 2).val = (y 1).val := by
  have h1 : off 1 + n ≤ n := hb 1
  have h2 : off 2 + m ≤ m := hb 2
  obtain ⟨i, j, rfl⟩ : ∃ (i : Fin n) (j : Fin m), y = ix2 i j := ⟨y 0, y 1, eq_ix2 y⟩
  rw [reshapeEquiv_ix2_1ab]
  constructor
  · show off 1 + 1 * i.val = i.val; omega
  · show off 2 + 1 * j.val = j.val; omega

/-! ## Operations -/

section Ops

variable {Λ : Labels} {defs : Defs nD τ sig Val Λ} (𝒱 : Variants) (c : Thread nD τ) (bd : Option 𝒱.V) {α : Type}
variable {Q : α → sProp (MT nD τ sig Unit Val ℕ (Pipeline.UD sig nD τ) ℕ)}

/-- A load of a rectangle inside a box held. -/
theorem hload2 {cs : CoreSpace} {M : Memref sig c.2.kind cs ⟨2, ![a, b]⟩ e} {off : Fin 2 → ℕ}
    {hb : ∀ i, off i + (⟨2, ![n, m]⟩ : Shape).size i ≤ (⟨2, ![a, b]⟩ : Shape).size i}
    {hl : M.view.LoadsAt (Rect.unit (s := ⟨2, ![a, b]⟩) off (⟨2, ![n, m]⟩ : Shape).size hb).toLoadRect}
    {k : ((⟨2, ![n, m]⟩ : Shape).Idx → Val e) → Prog (TpuEff nD τ sig Val Λ c.2) α} {q : PosShare TreeShare} {r₀ r₁ c₀ c₁ : ℕ} {F : ℕ → ℕ → Val e}
    (o₀ o₁ : ℕ) (h₀ : off 0 = o₀) (h₁ : off 1 = o₁) (hr : r₀ ≤ o₀ ∧ o₀ + n ≤ r₁) (hc : c₀ ≤ o₁ ∧ o₁ + m ≤ c₁) :
    H2 c M q r₀ r₁ c₀ c₁ F
      ⊢ iprop((H2 c M q r₀ r₁ c₀ c₁ F -∗ wp frame (wpE defs 𝒱 c bd) Set.univ (k (tile2 n m F o₀ o₁)) Q)
        -∗ wp frame (wpE defs 𝒱 c bd) Set.univ (.op (.load M (Rect.unit (s := ⟨2, ![a, b]⟩) off (⟨2, ![n, m]⟩ : Shape).size hb).toLoadRect hl) k) Q) := by
  unfold H2
  refine wp_hload 𝒱 c bd (r := Rect.unit (s := ⟨2, ![a, b]⟩) off (⟨2, ![n, m]⟩ : Shape).size hb) (fun y : (⟨2, ![n, m]⟩ : Shape).Idx => F (o₀ + (y 0).val) (o₁ + (y 1).val)) (fun y => ?_) (fun y => ?_)
  · have h2 : (y 0).val < n := (y 0).isLt
    have h3 : (y 1).val < m := (y 1).isLt
    unfold box; rw [unit_emb, unit_emb, h₀, h₁]; omega
  · dsimp only; rw [unit_emb, unit_emb, h₀, h₁]

/-- A load of a rectangle inside a slot held. -/
theorem hload3 {cs : CoreSpace} {N : ℕ} {M : Memref sig c.2.kind cs ⟨3, ![N, a, b]⟩ e} {off : Fin 3 → ℕ}
    {hb : ∀ i, off i + (⟨3, ![1, n, m]⟩ : Shape).size i ≤ (⟨3, ![N, a, b]⟩ : Shape).size i}
    {hl : M.view.LoadsAt (Rect.unit (s := ⟨3, ![N, a, b]⟩) off (⟨3, ![1, n, m]⟩ : Shape).size hb).toLoadRect}
    {k : ((⟨3, ![1, n, m]⟩ : Shape).Idx → Val e) → Prog (TpuEff nD τ sig Val Λ c.2) α} {q : PosShare TreeShare} {F : ℕ → ℕ → Val e}
    (s o₁ o₂ : ℕ) (h₀ : off 0 = s) (h₁ : off 1 = o₁) (h₂ : off 2 = o₂) :
    H3 c M q s F
      ⊢ iprop((H3 c M q s F -∗ wp frame (wpE defs 𝒱 c bd) Set.univ (k (tile3 n m F o₁ o₂)) Q)
        -∗ wp frame (wpE defs 𝒱 c bd) Set.univ (.op (.load M (Rect.unit (s := ⟨3, ![N, a, b]⟩) off (⟨3, ![1, n, m]⟩ : Shape).size hb).toLoadRect hl) k) Q) := by
  unfold H3
  refine wp_hload 𝒱 c bd (r := Rect.unit (s := ⟨3, ![N, a, b]⟩) off (⟨3, ![1, n, m]⟩ : Shape).size hb) (fun y : (⟨3, ![1, n, m]⟩ : Shape).Idx => F (o₁ + (y 1).val) (o₂ + (y 2).val)) (fun y => ?_) (fun y => ?_)
  · have h2 : (y 0).val < 1 := (y 0).isLt
    rw [unit_emb, h₀]; omega
  · dsimp only; rw [unit_emb, unit_emb, h₁, h₂]

/-- A store of a rectangle inside a box held. -/
theorem hstore2 {cs : CoreSpace} {M : Memref sig c.2.kind cs ⟨2, ![a, b]⟩ e} {off : Fin 2 → ℕ}
    {hb : ∀ i, off i + (⟨2, ![n, m]⟩ : Shape).size i ≤ (⟨2, ![a, b]⟩ : Shape).size i} {w : (⟨2, ![n, m]⟩ : Shape).Idx → Val e}
    {hx : (M.access (Rect.unit (s := ⟨2, ![a, b]⟩) off (⟨2, ![n, m]⟩ : Shape).size hb)).Stores Finset.univ} {hm}
    {k : PUnit → Prog (TpuEff nD τ sig Val Λ c.2) α} {r₀ r₁ c₀ c₁ : ℕ} {F : ℕ → ℕ → Val e}
    (F' : ℕ → ℕ → Val e) (o₀ o₁ : ℕ) (h₀ : off 0 = o₀) (h₁ : off 1 = o₁) (hr : r₀ ≤ o₀ ∧ o₀ + n ≤ r₁) (hc : c₀ ≤ o₁ ∧ o₁ + m ≤ c₁)
    (hw : ∀ y : (⟨2, ![n, m]⟩ : Shape).Idx, F' (o₀ + (y 0).val) (o₁ + (y 1).val) = w y)
    (ho : ∀ i j, r₀ ≤ i → i < r₁ → c₀ ≤ j → j < c₁ → (i < o₀ ∨ o₀ + n ≤ i ∨ j < o₁ ∨ o₁ + m ≤ j) → F' i j = F i j) :
    H2 c M fullShare r₀ r₁ c₀ c₁ F
      ⊢ iprop((H2 c M fullShare r₀ r₁ c₀ c₁ F' -∗ wp frame (wpE defs 𝒱 c bd) Set.univ (k ⟨⟩) Q)
        -∗ wp frame (wpE defs 𝒱 c bd) Set.univ (.op (.store M (Rect.unit (s := ⟨2, ![a, b]⟩) off (⟨2, ![n, m]⟩ : Shape).size hb) w Finset.univ hx hm) k) Q) := by
  unfold H2
  refine wp_hstore 𝒱 c bd (fun x => F' (x 0).val (x 1).val) (fun y => ?_) (fun y => ?_) (fun x hx hn => ?_)
  · have h2 : (y 0).val < n := (y 0).isLt
    have h3 : (y 1).val < m := (y 1).isLt
    unfold box; rw [unit_emb, unit_emb, h₀, h₁]; omega
  · dsimp only; rw [unit_emb, unit_emb, h₀, h₁]; exact hw y
  · refine ho _ _ hx.1.1 hx.1.2 hx.2.1 hx.2.2 ?_
    rw [Rect.mem_set_unit, Fin.forall_fin_two, h₀, h₁] at hn
    have hn : ¬ ((o₀ ≤ (x 0).val ∧ (x 0).val < o₀ + n) ∧ (o₁ ≤ (x 1).val ∧ (x 1).val < o₁ + m)) := hn
    omega

/-- A store of a whole slot held. -/
theorem hstore3 {cs : CoreSpace} {N : ℕ} {M : Memref sig c.2.kind cs ⟨3, ![N, n, m]⟩ e} {off : Fin 3 → ℕ}
    {hb : ∀ i, off i + (⟨3, ![1, n, m]⟩ : Shape).size i ≤ (⟨3, ![N, n, m]⟩ : Shape).size i} {w : (⟨3, ![1, n, m]⟩ : Shape).Idx → Val e}
    {hx : (M.access (Rect.unit (s := ⟨3, ![N, n, m]⟩) off (⟨3, ![1, n, m]⟩ : Shape).size hb)).Stores Finset.univ} {hm}
    {k : PUnit → Prog (TpuEff nD τ sig Val Λ c.2) α} {F : ℕ → ℕ → Val e}
    (F' : ℕ → ℕ → Val e) (s : ℕ) (h₀ : off 0 = s) (hw : ∀ y : (⟨3, ![1, n, m]⟩ : Shape).Idx, F' (y 1).val (y 2).val = w y) :
    H3 c M fullShare s F
      ⊢ iprop((H3 c M fullShare s F' -∗ wp frame (wpE defs 𝒱 c bd) Set.univ (k ⟨⟩) Q)
        -∗ wp frame (wpE defs 𝒱 c bd) Set.univ (.op (.store M (Rect.unit (s := ⟨3, ![N, n, m]⟩) off (⟨3, ![1, n, m]⟩ : Shape).size hb) w Finset.univ hx hm) k) Q) := by
  unfold H3
  have hb1 : off 1 + n ≤ n := hb 1
  have hb2 : off 2 + m ≤ m := hb 2
  refine wp_hstore 𝒱 c bd (fun x => F' (x 1).val (x 2).val) (fun y => ?_) (fun y => ?_) (fun x hx hn => ?_)
  · have h2 : (y 0).val < 1 := (y 0).isLt
    rw [unit_emb, h₀]; omega
  · dsimp only
    rw [unit_emb, unit_emb, show off 1 = 0 by omega, show off 2 = 0 by omega, Nat.zero_add, Nat.zero_add]
    exact hw y
  · refine absurd ?_ hn
    rw [Rect.mem_set_unit]
    intro i
    match i with
    | ⟨0, _⟩ => show off 0 ≤ (x 0).val ∧ (x 0).val < off 0 + 1; omega
    | ⟨1, _⟩ => have : (x 1).val < n := (x 1).isLt; show off 1 ≤ (x 1).val ∧ (x 1).val < off 1 + n; omega
    | ⟨2, _⟩ => have : (x 2).val < m := (x 2).isLt; show off 2 ≤ (x 2).val ∧ (x 2).val < off 2 + m; omega

/-- The units a transfer into a memref's buffer credits, for a destination of a given shape. -/
abbrev cr {κ : Kind} {s : Shape} (M : Memref sig κ sp s e) (t : Shape) : ℕ := M.view.ref.dmaCredit t e

/-- A transfer of a box into a box. -/
theorem hdma22 {a' b' : ℕ} {Ms : Memref sig c.2.kind sp ⟨2, ![a, b]⟩ e} {Md : Memref sig c.2.kind sp' ⟨2, ![a', b']⟩ e} {os od : Fin 2 → ℕ}
    {hbs : ∀ i, os i + (⟨2, ![n, m]⟩ : Shape).size i ≤ (⟨2, ![a, b]⟩ : Shape).size i}
    {hbd : ∀ i, od i + (⟨2, ![n, m]⟩ : Shape).size i ≤ (⟨2, ![a', b']⟩ : Shape).size i} {hrs hrd}
    {sm sm' : DmaSem sig} {hsrc hdst hsem} {k : PUnit → Prog (TpuEff nD τ sig Val Λ c.2) α} {q : PosShare TreeShare} {F Fd : ℕ → ℕ → Val e}
    (F' : ℕ → ℕ → Val e) (s₀ s₁ d₀ d₁ : ℕ) (hs₀ : os 0 = s₀) (hs₁ : os 1 = s₁) (hd₀ : od 0 = d₀) (hd₁ : od 1 = d₁) (hsm : sm = sm')
    (hv : ∀ i j, i < n → j < m → F' (d₀ + i) (d₁ + j) = F (s₀ + i) (s₁ + j)) (hn : 0 < (⟨2, ![n, m]⟩ : Shape).numel) :
    iprop(H2 c Ms q s₀ (s₀ + n) s₁ (s₁ + m) F ∗ H2 c Md fullShare d₀ (d₀ + n) d₁ (d₁ + m) Fd ∗ semVal (c, .dma sm') 0)
      ⊢ iprop((Fl c sm' (cr Md ⟨2, ![n, m]⟩) iprop(H2 c Md fullShare d₀ (d₀ + n) d₁ (d₁ + m) F' ∗ H2 c Ms q s₀ (s₀ + n) s₁ (s₁ + m) F)
          -∗ wp frame (wpE defs 𝒱 c bd) Set.univ (k ⟨⟩) Q)
        -∗ wp frame (wpE defs 𝒱 c bd) Set.univ
            (.op (.enqueueDma (Ms.slice (Rect.unit (s := ⟨2, ![a, b]⟩) os (⟨2, ![n, m]⟩ : Shape).size hbs) hrs)
              (.here (Md.slice (Rect.unit (s := ⟨2, ![a', b']⟩) od (⟨2, ![n, m]⟩ : Shape).size hbd) hrd)) (.dma sm) hsrc hdst hsem) k) Q) := by
  unfold H2
  refine wp_hdma 𝒱 c bd (win2 c Ms os hbs hrs s₀ s₁ hs₀ hs₁) (win2 c Md od hbd hrd d₀ d₁ hd₀ hd₁) (fun x => F' (x 0).val (x 1).val) (fun y => ?_) hsm _ rfl
    (sig.dmaCredit_pos _ _ _ _ _ hn)
  dsimp only
  rw [unit_emb, unit_emb, unit_emb, unit_emb, hs₀, hs₁, hd₀, hd₁]
  exact hv _ _ (y 0).isLt (y 1).isLt

/-- A transfer of a whole array into a whole array. -/
theorem hdmaW {Ms : Memref sig c.2.kind sp ⟨2, ![a, b]⟩ e} {Md : Memref sig c.2.kind sp' ⟨2, ![a, b]⟩ e}
    {sm sm' : DmaSem sig} {hsrc hdst hsem} {k : PUnit → Prog (TpuEff nD τ sig Val Λ c.2) α} {q : PosShare TreeShare} {F Fd : ℕ → ℕ → Val e}
    (hsm : sm = sm') (hn : 0 < (⟨2, ![a, b]⟩ : Shape).numel) :
    iprop(H2 c Ms q 0 a 0 b F ∗ H2 c Md fullShare 0 a 0 b Fd ∗ semVal (c, .dma sm') 0)
      ⊢ iprop((Fl c sm' (cr Md ⟨2, ![a, b]⟩) iprop(H2 c Md fullShare 0 a 0 b F ∗ H2 c Ms q 0 a 0 b F)
          -∗ wp frame (wpE defs 𝒱 c bd) Set.univ (k ⟨⟩) Q)
        -∗ wp frame (wpE defs 𝒱 c bd) Set.univ (.op (.enqueueDma Ms (.here Md) (.dma sm) hsrc hdst hsem) k) Q) := by
  unfold H2
  exact wp_hdma 𝒱 c bd (win_self c Ms _ fun x => ⟨⟨Nat.zero_le _, idx2_lt0 x⟩, Nat.zero_le _, idx2_lt1 x⟩)
    (win_self c Md _ fun x => ⟨⟨Nat.zero_le _, idx2_lt0 x⟩, Nat.zero_le _, idx2_lt1 x⟩) _ (fun y => rfl) hsm _ rfl (sig.dmaCredit_pos _ _ _ _ _ hn)

/-- A transfer of a box into a slot. -/
theorem hdma23 {N : ℕ} {Ms : Memref sig c.2.kind sp ⟨2, ![a, b]⟩ e} {Md : Memref sig c.2.kind sp' ⟨3, ![N, n, m]⟩ e} {os : Fin 2 → ℕ} {od : Fin 3 → ℕ}
    {hbs : ∀ i, os i + (⟨2, ![n, m]⟩ : Shape).size i ≤ (⟨2, ![a, b]⟩ : Shape).size i}
    {hbd : ∀ i, od i + (⟨3, ![1, n, m]⟩ : Shape).size i ≤ (⟨3, ![N, n, m]⟩ : Shape).size i} {hrs hrd} {hq : (⟨3, ![1, n, m]⟩ : Shape).Squeezes ⟨2, ![n, m]⟩}
    {sm sm' : DmaSem sig} {hsrc hdst hsem} {k : PUnit → Prog (TpuEff nD τ sig Val Λ c.2) α} {q : PosShare TreeShare} {F Fd : ℕ → ℕ → Val e}
    (F' : ℕ → ℕ → Val e) (s₀ s₁ d₀ : ℕ) (hs₀ : os 0 = s₀) (hs₁ : os 1 = s₁) (hd₀ : od 0 = d₀) (hsm : sm = sm')
    (hv : ∀ i j, i < n → j < m → F' i j = F (s₀ + i) (s₁ + j)) (hn : 0 < (⟨2, ![n, m]⟩ : Shape).numel) :
    iprop(H2 c Ms q s₀ (s₀ + n) s₁ (s₁ + m) F ∗ H3 c Md fullShare d₀ Fd ∗ semVal (c, .dma sm') 0)
      ⊢ iprop((Fl c sm' (cr Md ⟨2, ![n, m]⟩) iprop(H3 c Md fullShare d₀ F' ∗ H2 c Ms q s₀ (s₀ + n) s₁ (s₁ + m) F)
          -∗ wp frame (wpE defs 𝒱 c bd) Set.univ (k ⟨⟩) Q)
        -∗ wp frame (wpE defs 𝒱 c bd) Set.univ
            (.op (.enqueueDma (Ms.slice (Rect.unit (s := ⟨2, ![a, b]⟩) os (⟨2, ![n, m]⟩ : Shape).size hbs) hrs)
              (.here ((Md.slice (Rect.unit (s := ⟨3, ![N, n, m]⟩) od (⟨3, ![1, n, m]⟩ : Shape).size hbd) hrd).squeeze ⟨2, ![n, m]⟩ hq)) (.dma sm) hsrc hdst hsem) k) Q) := by
  unfold H2 H3
  refine wp_hdma 𝒱 c bd (win2 c Ms os hbs hrs s₀ s₁ hs₀ hs₁) (win3 c Md od hbd hrd hq d₀ hd₀) (fun x => F' (x 1).val (x 2).val) (fun y => ?_) hsm _ rfl
    (sig.dmaCredit_pos _ _ _ _ _ hn)
  dsimp only
  rw [(emb3 od hbd hq y).1, (emb3 od hbd hq y).2, unit_emb, unit_emb, hs₀, hs₁]
  exact hv _ _ (y 0).isLt (y 1).isLt

/-- A transfer of a slot into a box. -/
theorem hdma32 {N : ℕ} {Md : Memref sig c.2.kind sp ⟨2, ![a, b]⟩ e} {Ms : Memref sig c.2.kind sp' ⟨3, ![N, n, m]⟩ e} {od : Fin 2 → ℕ} {os : Fin 3 → ℕ}
    {hbd : ∀ i, od i + (⟨2, ![n, m]⟩ : Shape).size i ≤ (⟨2, ![a, b]⟩ : Shape).size i}
    {hbs : ∀ i, os i + (⟨3, ![1, n, m]⟩ : Shape).size i ≤ (⟨3, ![N, n, m]⟩ : Shape).size i} {hrs hrd} {hq : (⟨3, ![1, n, m]⟩ : Shape).Squeezes ⟨2, ![n, m]⟩}
    {sm sm' : DmaSem sig} {hsrc hdst hsem} {k : PUnit → Prog (TpuEff nD τ sig Val Λ c.2) α} {q : PosShare TreeShare} {F Fd : ℕ → ℕ → Val e}
    (F' : ℕ → ℕ → Val e) (s₀ d₀ d₁ : ℕ) (hs₀ : os 0 = s₀) (hd₀ : od 0 = d₀) (hd₁ : od 1 = d₁) (hsm : sm = sm')
    (hv : ∀ i j, i < n → j < m → F' (d₀ + i) (d₁ + j) = F i j) (hn : 0 < (⟨2, ![n, m]⟩ : Shape).numel) :
    iprop(H3 c Ms q s₀ F ∗ H2 c Md fullShare d₀ (d₀ + n) d₁ (d₁ + m) Fd ∗ semVal (c, .dma sm') 0)
      ⊢ iprop((Fl c sm' (cr Md ⟨2, ![n, m]⟩) iprop(H2 c Md fullShare d₀ (d₀ + n) d₁ (d₁ + m) F' ∗ H3 c Ms q s₀ F)
          -∗ wp frame (wpE defs 𝒱 c bd) Set.univ (k ⟨⟩) Q)
        -∗ wp frame (wpE defs 𝒱 c bd) Set.univ
            (.op (.enqueueDma ((Ms.slice (Rect.unit (s := ⟨3, ![N, n, m]⟩) os (⟨3, ![1, n, m]⟩ : Shape).size hbs) hrs).squeeze ⟨2, ![n, m]⟩ hq)
              (.here (Md.slice (Rect.unit (s := ⟨2, ![a, b]⟩) od (⟨2, ![n, m]⟩ : Shape).size hbd) hrd)) (.dma sm) hsrc hdst hsem) k) Q) := by
  unfold H2 H3
  refine wp_hdma 𝒱 c bd (win3 c Ms os hbs hrs hq s₀ hs₀) (win2 c Md od hbd hrd d₀ d₁ hd₀ hd₁) (fun x => F' (x 0).val (x 1).val) (fun y => ?_) hsm _ rfl
    (sig.dmaCredit_pos _ _ _ _ _ hn)
  dsimp only
  rw [(emb3 os hbs hq y).1, (emb3 os hbs hq y).2, unit_emb, unit_emb, hd₀, hd₁]
  exact hv _ _ (y 0).isLt (y 1).isLt

end Ops

end Cert.Steps
-- ==== Proof.Ring.lean ====
/-
  Slots of a staging ring. A slot of a rank-3 array is free (`Slot`), or lent to a transfer that fills it with the next
  rows of an array (`RoleIn`) or that carries it out (`RoleOut`). The lemmas are the guarded starts and waits a
  software pipeline makes on such slots.
-/
module

public import proofs.«01_k».proof.Proof.Boxes

@[expose] public section

noncomputable section

namespace Cert.Steps

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Val : EltTy → Type}

local notation "𝕄" => MT nD τ sig Unit Val ℕ (Pipeline.UD sig nD τ) ℕ

variable {sp sp' : Space} {e : EltTy} {a b n m N : ℕ}

section Roles

variable (c : Thread nD τ)

/-- A free slot: the slot at some contents, and its transfers' cell at zero. -/
def Slot [NeZero N] (R : Memref sig c.2.kind sp ⟨3, ![N, n, m]⟩ e) (S : SemArray (DmaSem sig) ⟨1, ![N]⟩) (k : ℕ) : sProp 𝕄 :=
  iprop((∃ G, H3 c R fullShare k G) ∗ semVal (c, .dma (semAt S k)) 0)

/-- A transfer filling slot `k` with the box of `A` at `(r, s)` is in flight. -/
def FlIn [NeZero N] (A : Memref sig c.2.kind sp' ⟨2, ![a, b]⟩ e) (R : Memref sig c.2.kind sp ⟨3, ![N, n, m]⟩ e) (S : SemArray (DmaSem sig) ⟨1, ![N]⟩)
    (q : PosShare TreeShare) (F : ℕ → ℕ → Val e) (k r s : ℕ) : sProp 𝕄 :=
  Fl c (semAt S k) (cr R ⟨2, ![n, m]⟩) iprop(H3 c R fullShare k (fun i j => F (r + i) (s + j)) ∗ H2 c A q r (r + n) s (s + m) F)

/-- As long as `A` has rows at `r`, the transfer of them is in flight; past the last row the slot is free. -/
def RoleIn [NeZero N] (A : Memref sig c.2.kind sp' ⟨2, ![a, b]⟩ e) (R : Memref sig c.2.kind sp ⟨3, ![N, n, m]⟩ e) (S : SemArray (DmaSem sig) ⟨1, ![N]⟩)
    (q : PosShare TreeShare) (F : ℕ → ℕ → Val e) (k r s l : ℕ) : sProp 𝕄 :=
  if r + n ≤ l then FlIn c A R S q F k r s else Slot c R S k

/-- If `P`, a transfer delivering `B` reads slot `k`; otherwise the slot is free. -/
def RoleOut [NeZero N] (P : Prop) [Decidable P] (R : Memref sig c.2.kind sp ⟨3, ![N, n, m]⟩ e) (S : SemArray (DmaSem sig) ⟨1, ![N]⟩)
    (C k : ℕ) (B : sProp 𝕄) (G : ℕ → ℕ → Val e) : sProp 𝕄 :=
  if P then Fl c (semAt S k) C iprop(B ∗ H3 c R fullShare k G) else Slot c R S k

/-- If `P`, a transfer delivering `B` reads slot `k` through half a share, and the other half is held; otherwise the slot is free. -/
def RoleOutH [NeZero N] (P : Prop) [Decidable P] (R : Memref sig c.2.kind sp ⟨3, ![N, n, m]⟩ e) (S : SemArray (DmaSem sig) ⟨1, ![N]⟩)
    (C k : ℕ) (B : sProp 𝕄) (G : ℕ → ℕ → Val e) : sProp 𝕄 :=
  if P then iprop(Fl c (semAt S k) C iprop(B ∗ H3 c R fullShare.right k G) ∗ H3 c R fullShare.left k G) else Slot c R S k

end Roles

theorem H2_void {c : Thread nD τ} {M : Memref sig c.2.kind sp ⟨2, ![a, b]⟩ e} {q : PosShare TreeShare} {r₀ r₁ s₀ s₁ r₀' r₁' s₀' s₁' : ℕ} {F F' : ℕ → ℕ → Val e}
    (h : r₁ ≤ r₀ ∨ s₁ ≤ s₀) (h' : r₁' ≤ r₀' ∨ s₁' ≤ s₀') :
    H2 c M q r₀ r₁ s₀ s₁ F ⊢ (H2 c M q r₀' r₁' s₀' s₁' F' : sProp 𝕄) :=
  Hd_congr (fun x => by unfold box; omega) fun x hx => by unfold box at hx; omega

section Ops

variable {Λ : Labels} {defs : Defs nD τ sig Val Λ} (𝒱 : Variants) (c : Thread nD τ) (bd : Option 𝒱.V) {α : Type}
variable {Q : α → sProp (MT nD τ sig Unit Val ℕ (Pipeline.UD sig nD τ) ℕ)}

/-- A program that is done. -/
theorem wp_done (x : α) : Q x ⊢ wp frame (wpE defs 𝒱 c bd) Set.univ (Prog.ret x) Q := by
  rw [wp_ret]; exact fupd_intro

/-- A step made only under a condition. -/
theorem guard_step {C : Prop} [Decidable C] {P : C → Prog (TpuEff nD τ sig Val Λ c.2) α} {K : Prog (TpuEff nD τ sig Val Λ c.2) α} {A B : sProp 𝕄}
    (hp : ∀ h, A ⊢ iprop((B -∗ wp frame (wpE defs 𝒱 c bd) Set.univ K Q) -∗ wp frame (wpE defs 𝒱 c bd) Set.univ (P h) Q)) (hn : ¬ C → A ⊢ B) :
    A ⊢ iprop((B -∗ wp frame (wpE defs 𝒱 c bd) Set.univ K Q) -∗ wp frame (wpE defs 𝒱 c bd) Set.univ (if h : C then P h else K) Q) := by
  by_cases h : C
  · rw [dif_pos h]; exact hp h
  · rw [dif_neg h]
    iintro HA Hk
    iapply Hk
    iapply (hn h) $$ HA

variable [NeZero N]

/-- The wait for a slot carried out, made if there was a transfer. -/
theorem gWaitOut {κ' : Kind} {s₁ s₂ : Shape} {e' : EltTy} {C P : Prop} [Decidable C] [Decidable P] (hC : C ↔ P) {R : Memref sig c.2.kind sp ⟨3, ![N, n, m]⟩ e} {S : SemArray (DmaSem sig) ⟨1, ![N]⟩}
    {cd k : ℕ} {B D D' : sProp 𝕄} {G : ℕ → ℕ → Val e}
    {sem : C → DmaSem sig} {srcw : C → Memref sig c.2.kind sp s₁ e'} {dstw : C → Memref sig κ' sp' s₂ e'} {hsrc : ∀ h, (srcw h).view.WordExact} {hdst : ∀ h, (dstw h).view.WordExact}
    {K : Prog (TpuEff nD τ sig Val Λ c.2) α}
    (hsm : ∀ h, sem h = semAt S k) (hN : ∀ h, (dstw h).view.dmaCredit = cd) (hj : P → iprop(B ∗ D) ⊢ D') (hn : ¬ P → D ⊢ D') :
    iprop(RoleOut c P R S cd k B G ∗ D ∗ ∃ W, owes c 0 W)
      ⊢ iprop((iprop(Slot c R S k ∗ D' ∗ ∃ W, owes c 0 W) -∗ wp frame (wpE defs 𝒱 c bd) Set.univ K Q)
        -∗ wp frame (wpE defs 𝒱 c bd) Set.univ (if h : C then .op (.waitDma2 (sem h) (srcw h) (dstw h) (hsrc h) (hdst h)) (fun _ => K) else K) Q) := by
  unfold RoleOut Slot
  refine guard_step 𝒱 c bd (fun h => ?_) (fun h => ?_)
  · rw [if_pos (hC.mp h)]
    iintro ⟨HF, HD, HO⟩ Hk
    iapply (wp_hwait 𝒱 c bd (hsm h) (hN h)) $$ [HF HO]
    · isplitl [HF] <;> iassumption
    iintro ⟨⟨HB, HG⟩, Hv, HO⟩
    iapply Hk
    isplitl [HG Hv]
    · isplitl [HG]
      · iexists G; iexact HG
      · iexact Hv
    isplitl [HB HD]
    · iapply (hj (hC.mp h))
      isplitl [HB] <;> iassumption
    iexact HO
  · rw [if_neg (fun hp => h (hC.mpr hp))]
    iintro ⟨HF, HD, HO⟩
    isplitl [HF]; · iexact HF
    isplitl [HD]
    · iapply (hn (fun hp => h (hC.mpr hp))) $$ HD
    iexact HO

/-- The wait for a slot carried out through half a share, made if there was a transfer. -/
theorem gWaitOutH {κ' : Kind} {s₁ s₂ : Shape} {e' : EltTy} {C P : Prop} [Decidable C] [Decidable P] (hC : C ↔ P) {R : Memref sig c.2.kind sp ⟨3, ![N, n, m]⟩ e} {S : SemArray (DmaSem sig) ⟨1, ![N]⟩}
    {cd k : ℕ} {B D D' : sProp 𝕄} {G : ℕ → ℕ → Val e}
    {sem : C → DmaSem sig} {srcw : C → Memref sig c.2.kind sp s₁ e'} {dstw : C → Memref sig κ' sp' s₂ e'} {hsrc : ∀ h, (srcw h).view.WordExact} {hdst : ∀ h, (dstw h).view.WordExact}
    {K : Prog (TpuEff nD τ sig Val Λ c.2) α}
    (hsm : ∀ h, sem h = semAt S k) (hN : ∀ h, (dstw h).view.dmaCredit = cd) (hj : P → iprop(B ∗ D) ⊢ D') (hn : ¬ P → D ⊢ D') :
    iprop(RoleOutH c P R S cd k B G ∗ D ∗ ∃ W, owes c 0 W)
      ⊢ iprop((iprop(Slot c R S k ∗ D' ∗ ∃ W, owes c 0 W) -∗ wp frame (wpE defs 𝒱 c bd) Set.univ K Q)
        -∗ wp frame (wpE defs 𝒱 c bd) Set.univ (if h : C then .op (.waitDma2 (sem h) (srcw h) (dstw h) (hsrc h) (hdst h)) (fun _ => K) else K) Q) := by
  unfold RoleOutH Slot
  refine guard_step 𝒱 c bd (fun h => ?_) (fun h => ?_)
  · rw [if_pos (hC.mp h)]
    iintro ⟨⟨HF, HL⟩, HD, HO⟩ Hk
    iapply (wp_hwait 𝒱 c bd (hsm h) (hN h)) $$ [HF HO]
    · isplitl [HF] <;> iassumption
    iintro ⟨⟨HB, HG⟩, Hv, HO⟩
    iapply Hk
    isplitl [HG HL Hv]
    · isplitl [HG HL]
      · iexists G
        iapply H3_rejoin
        isplitl [HL] <;> iassumption
      · iexact Hv
    isplitl [HB HD]
    · iapply (hj (hC.mp h))
      isplitl [HB] <;> iassumption
    iexact HO
  · rw [if_neg (fun hp => h (hC.mpr hp))]
    iintro ⟨HF, HD, HO⟩
    isplitl [HF]; · iexact HF
    isplitl [HD]
    · iapply (hn (fun hp => h (hC.mpr hp))) $$ HD
    iexact HO

/-- The start of the transfer filling a free slot with the next rows, made while there are rows. -/
theorem gStartIn {C : Prop} [Decidable C] {A : Memref sig c.2.kind sp' ⟨2, ![a, b]⟩ e} {R : Memref sig c.2.kind sp ⟨3, ![N, n, m]⟩ e} {S : SemArray (DmaSem sig) ⟨1, ![N]⟩}
    {q : PosShare TreeShare} {F : ℕ → ℕ → Val e} {k r s l : ℕ} {P : C → Prog (TpuEff nD τ sig Val Λ c.2) α} {K : Prog (TpuEff nD τ sig Val Λ c.2) α}
    (hC : C ↔ r + n ≤ l) (hl : r + n ≤ l ∨ l ≤ r)
    (hp : ∀ h G, iprop(H2 c A q r (r + n) s (s + m) F ∗ H3 c R fullShare k G ∗ semVal (c, .dma (semAt S k)) 0)
      ⊢ iprop((FlIn c A R S q F k r s -∗ wp frame (wpE defs 𝒱 c bd) Set.univ K Q) -∗ wp frame (wpE defs 𝒱 c bd) Set.univ (P h) Q)) :
    iprop(Slot c R S k ∗ H2 c A q r l s (s + m) F)
      ⊢ iprop((iprop(RoleIn c A R S q F k r s l ∗ H2 c A q (r + n) l s (s + m) F) -∗ wp frame (wpE defs 𝒱 c bd) Set.univ K Q)
        -∗ wp frame (wpE defs 𝒱 c bd) Set.univ (if h : C then P h else K) Q) := by
  unfold RoleIn Slot
  refine guard_step 𝒱 c bd (fun h => ?_) (fun h => ?_)
  · rw [if_pos (hC.mp h)]
    iintro ⟨⟨⟨%G, HG⟩, Hv⟩, HA⟩ Hk
    ihave HA := (H2_rows (r + n) (Nat.le_add_right _ _) (hC.mp h)) $$ HA
    icases HA with ⟨HA, HR⟩
    iapply (hp h G) $$ [HG Hv HA]
    · isplitl [HA]; · iexact HA
      isplitl [HG]; · iexact HG
      iexact Hv
    iintro HF
    iapply Hk
    isplitl [HF]; · iexact HF
    iexact HR
  · have hr : ¬ r + n ≤ l := fun hp => h (hC.mpr hp)
    rw [if_neg hr]
    iintro ⟨HF, HA⟩
    isplitl [HF]; · iexact HF
    iapply (H2_void (Or.inl (by omega)) (Or.inl (by omega))) $$ HA

/-- The wait for a slot being filled: the slot at the rows, which join those before them. -/
theorem waitIn {κ' : Kind} {s₁ s₂ : Shape} {e' : EltTy} {A : Memref sig c.2.kind sp' ⟨2, ![a, b]⟩ e} {R : Memref sig c.2.kind sp ⟨3, ![N, n, m]⟩ e} {S : SemArray (DmaSem sig) ⟨1, ![N]⟩}
    {q : PosShare TreeShare} {F : ℕ → ℕ → Val e} {k r s l : ℕ}
    {sem : DmaSem sig} {srcw : Memref sig c.2.kind sp' s₁ e'} {dstw : Memref sig κ' sp s₂ e'} {hsrc : srcw.view.WordExact} {hdst : dstw.view.WordExact}
    {K : PUnit → Prog (TpuEff nD τ sig Val Λ c.2) α}
    (hr : r + n ≤ l) (hsm : sem = semAt S k) (hN : dstw.view.dmaCredit = cr R ⟨2, ![n, m]⟩) :
    iprop(RoleIn c A R S q F k r s l ∗ H2 c A q 0 r s (s + m) F ∗ ∃ W, owes c 0 W)
      ⊢ iprop((iprop(H3 c R fullShare k (fun i j => F (r + i) (s + j)) ∗ semVal (c, .dma (semAt S k)) 0 ∗ H2 c A q 0 (r + n) s (s + m) F ∗ ∃ W, owes c 0 W)
          -∗ wp frame (wpE defs 𝒱 c bd) Set.univ (K ⟨⟩) Q)
        -∗ wp frame (wpE defs 𝒱 c bd) Set.univ (.op (.waitDma2 sem srcw dstw hsrc hdst) K) Q) := by
  unfold RoleIn FlIn
  rw [if_pos hr]
  iintro ⟨HF, HD, HO⟩ Hk
  iapply (wp_hwait 𝒱 c bd hsm hN) $$ [HF HO]
  · isplitl [HF] <;> iassumption
  iintro ⟨⟨HG, HB⟩, Hv, HO⟩
  iapply Hk
  isplitl [HG]; · iexact HG
  isplitl [Hv]; · iexact Hv
  isplitl [HB HD]
  · iapply (H2_joinRows (Nat.zero_le r) (Nat.le_add_right r n) (fun _ _ _ _ _ _ => rfl) (fun _ _ _ _ _ _ => rfl))
    isplitl [HD] <;> iassumption
  iexact HO

end Ops

end Cert.Steps
-- ==== Proof.Rows.lean ====
/-
  A batch of transfers of bands of rows. Copy `k` of the batch carries rows `[n k, n k + n)` of one rank-2 array to
  the same rows of another and completes on cell `k` of a semaphore array. The copies are started in order and
  waited for in order.
-/
module

public import proofs.«01_k».proof.Proof.Ring

@[expose] public section

noncomputable section

namespace Cert.Steps

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Val : EltTy → Type}

local notation "𝕄" => MT nD τ sig Unit Val ℕ (Pipeline.UD sig nD τ) ℕ

variable {sp sp' : Space} {e : EltTy} {a b a' b' N : ℕ} [NeZero N]

section Defs

variable (c : Thread nD τ)

/-- Cells `k`, `k + 1`, … of a semaphore array, `i` of them, at zero. -/
def Cells (S : SemArray (DmaSem sig) ⟨1, ![N]⟩) : ℕ → ℕ → sProp 𝕄
  | 0, _ => iprop(emp)
  | i + 1, k => iprop(semVal (c, .dma (semAt S k)) 0 ∗ Cells S i (k + 1))

/-- Cells `0`, …, `k - 1` of a semaphore array at zero. -/
def CellsTo (S : SemArray (DmaSem sig) ⟨1, ![N]⟩) : ℕ → sProp 𝕄
  | 0 => iprop(emp)
  | k + 1 => iprop(CellsTo S k ∗ semVal (c, .dma (semAt S k)) 0)

theorem Cells_of_to (S : SemArray (DmaSem sig) ⟨1, ![N]⟩) (k i : ℕ) : iprop(CellsTo c S k ∗ Cells c S i k) ⊢ (Cells c S (k + i) 0 : sProp 𝕄) := by
  induction k generalizing i with
  | zero =>
    rw [Nat.zero_add]
    iintro ⟨_, H⟩
    iexact H
  | succ k ih =>
    rw [Nat.add_right_comm, Nat.add_assoc]
    refine BIBase.Entails.trans ?_ (ih (i + 1))
    rw [CellsTo.eq_2, Cells.eq_2]
    iintro ⟨⟨H, Hv⟩, HC⟩
    isplitl [H]; · iexact H
    isplitl [Hv] <;> iassumption

variable (Ms : Memref sig c.2.kind sp ⟨2, ![a, b]⟩ e) (Md : Memref sig c.2.kind sp' ⟨2, ![a', b']⟩ e) (S : SemArray (DmaSem sig) ⟨1, ![N]⟩)
  (q : PosShare TreeShare) (F : ℕ → ℕ → Val e) (n w : ℕ)

/-- Slots `k`, `k + 1`, … of a ring, `i` of them, free. -/
def Slots {n m : ℕ} (R : Memref sig c.2.kind sp ⟨3, ![N, n, m]⟩ e) (S : SemArray (DmaSem sig) ⟨1, ![N]⟩) : ℕ → ℕ → sProp 𝕄
  | 0, _ => iprop(emp)
  | i + 1, k => iprop(Slot c R S k ∗ Slots R S i (k + 1))

theorem Cells_split (S : SemArray (DmaSem sig) ⟨1, ![N]⟩) (i j k : ℕ) : Cells c S (i + j) k ⊢ (iprop(Cells c S i k ∗ Cells c S j (k + i)) : sProp 𝕄) := by
  induction i generalizing k with
  | zero =>
    rw [Nat.zero_add, Nat.add_zero, Cells.eq_1]
    iintro H
    isplitr; · iempintro
    iexact H
  | succ i ih =>
    rw [Nat.add_right_comm, Cells.eq_2, Cells.eq_2, show k + (i + 1) = (k + 1) + i by omega]
    iintro ⟨Hv, H⟩
    ihave H := (ih (k + 1)) $$ H
    icases H with ⟨H₁, H₂⟩
    isplitl [Hv H₁]
    · isplitl [Hv] <;> iassumption
    iexact H₂

theorem Cells_join (S : SemArray (DmaSem sig) ⟨1, ![N]⟩) (i j k : ℕ) : iprop(Cells c S i k ∗ Cells c S j (k + i)) ⊢ (Cells c S (i + j) k : sProp 𝕄) := by
  induction i generalizing k with
  | zero =>
    rw [Nat.zero_add, Nat.add_zero]
    iintro ⟨_, H⟩
    iexact H
  | succ i ih =>
    rw [Nat.add_right_comm, Cells.eq_2, Cells.eq_2, show k + (i + 1) = (k + 1) + i by omega]
    iintro ⟨⟨Hv, H₁⟩, H₂⟩
    isplitl [Hv]; · iexact Hv
    iapply (ih (k + 1))
    isplitl [H₁] <;> iassumption

theorem Slots_of {n m : ℕ} [NeZero n] [NeZero m] (R : Memref sig c.2.kind sp ⟨3, ![N, n, m]⟩ e) (S : SemArray (DmaSem sig) ⟨1, ![N]⟩) (i k : ℕ) (h : k + i ≤ N) :
    iprop(Hfrom c R k ∗ Cells c S i k) ⊢ (iprop(Slots c R S i k ∗ Hfrom c R (k + i)) : sProp 𝕄) := by
  induction i generalizing k with
  | zero =>
    rw [Slots.eq_1, Cells.eq_1, Nat.add_zero]
    iintro ⟨HR, H⟩
    isplitl [H] <;> iassumption
  | succ i ih =>
    rw [Slots.eq_2, Cells.eq_2, show k + (i + 1) = (k + 1) + i by omega]
    unfold Slot
    iintro ⟨HR, Hv, H⟩
    ihave HR := (Hfrom_take k (by omega)) $$ HR
    icases HR with ⟨HS, HR⟩
    ihave H := (ih (k + 1) (by omega)) $$ [HR H]
    · isplitl [HR] <;> iassumption
    icases H with ⟨H₁, H₂⟩
    isplitr [H₂]
    · isplitl [HS Hv]
      · isplitl [HS] <;> iassumption
      iexact H₁
    iexact H₂

theorem Slots_back {n m : ℕ} (R : Memref sig c.2.kind sp ⟨3, ![N, n, m]⟩ e) (S : SemArray (DmaSem sig) ⟨1, ![N]⟩) (i k : ℕ) :
    iprop(Slots c R S i k ∗ Hfrom c R (k + i)) ⊢ (iprop(Hfrom c R k ∗ Cells c S i k) : sProp 𝕄) := by
  induction i generalizing k with
  | zero =>
    rw [Slots.eq_1, Cells.eq_1, Nat.add_zero]
    iintro ⟨H, HR⟩
    isplitl [HR] <;> iassumption
  | succ i ih =>
    rw [Slots.eq_2, Cells.eq_2, show k + (i + 1) = (k + 1) + i by omega]
    unfold Slot
    iintro ⟨⟨⟨HS, Hv⟩, H⟩, HR⟩
    ihave H := (ih (k + 1)) $$ [HR H]
    · isplitl [H] <;> iassumption
    icases H with ⟨H₁, H₂⟩
    isplitl [HS H₁]
    · iapply (Hfrom_put k)
      isplitl [HS] <;> iassumption
    isplitl [Hv] <;> iassumption

/-- Copy `k` is in flight. -/
def Band (k : ℕ) : sProp 𝕄 :=
  Fl c (semAt S k) (cr Md ⟨2, ![n, w]⟩) iprop(H2 c Md fullShare (n * k) (n * k + n) 0 w F ∗ H2 c Ms q (n * k) (n * k + n) 0 w F)

/-- Copies `0`, …, `k - 1` are in flight. -/
def Bands : ℕ → sProp 𝕄
  | 0 => iprop(emp)
  | k + 1 => iprop(Bands k ∗ Band c Ms Md S q F n w k)

/-- Copies `k`, `k + 1`, … are in flight, `i` of them. -/
def BandsFrom : ℕ → ℕ → sProp 𝕄
  | 0, _ => iprop(emp)
  | i + 1, k => iprop(Band c Ms Md S q F n w k ∗ BandsFrom i (k + 1))

theorem BandsFrom_of (k i : ℕ) : iprop(Bands c Ms Md S q F n w k ∗ BandsFrom c Ms Md S q F n w i k) ⊢ (BandsFrom c Ms Md S q F n w (k + i) 0 : sProp 𝕄) := by
  induction k generalizing i with
  | zero =>
    rw [Nat.zero_add]
    iintro ⟨_, H⟩
    iexact H
  | succ k ih =>
    rw [Nat.add_right_comm, Nat.add_assoc]
    refine BIBase.Entails.trans ?_ (ih (i + 1))
    rw [Bands.eq_2, BandsFrom.eq_2]
    iintro ⟨⟨H, Hv⟩, HC⟩
    isplitl [H]; · iexact H
    isplitl [Hv] <;> iassumption

/-- The first `k` copies started, of `k + i`; the destination's other rows at some contents. -/
def Sent (l i k : ℕ) : sProp 𝕄 :=
  iprop(Bands c Ms Md S q F n w k ∗ (∃ G, H2 c Md fullShare (n * k) l 0 w G) ∗ Cells c S i k)

/-- The first `k` copies complete, `i` more in flight. -/
def Come (i k : ℕ) : sProp 𝕄 :=
  iprop(BandsFrom c Ms Md S q F n w i k ∗ H2 c Md fullShare 0 (n * k) 0 w F ∗ H2 c Ms q 0 (n * k) 0 w F ∗ CellsTo c S k)

/-- All the copies are started: none is waited for yet. -/
theorem Come_of_Sent {l k : ℕ} (hl : l ≤ n * k) :
    iprop(H2 c Ms q (n * k) l 0 w F ∗ Sent c Ms Md S q F n w l 0 k) ⊢ (Come c Ms Md S q F n w k 0 : sProp 𝕄) := by
  unfold Sent Come
  iintro ⟨HS, HB, ⟨%G, HD⟩, HC⟩
  isplitl [HB]
  · rw [show k = k + 0 from rfl]
    iapply (BandsFrom_of c Ms Md S q F n w k 0)
    isplitl [HB]; · iexact HB
    rw [BandsFrom.eq_1]; iempintro
  isplitl [HD]
  · iapply (H2_void (Or.inl hl) (Or.inl (Nat.le_of_eq (Nat.mul_zero n)))) $$ HD
  isplitl [HS]
  · iapply (H2_void (Or.inl hl) (Or.inl (Nat.le_of_eq (Nat.mul_zero n)))) $$ HS
  rw [CellsTo.eq_1]; iempintro

end Defs

section Ops

variable {Λ : Labels} {defs : Defs nD τ sig Val Λ} (𝒱 : Variants) (c : Thread nD τ) (bd : Option 𝒱.V) {α : Type}
variable {Q : α → sProp (MT nD τ sig Unit Val ℕ (Pipeline.UD sig nD τ) ℕ)}

/-- The start of copy `k`, its rows of the source at hand. -/
theorem bandStart {Ms : Memref sig c.2.kind sp ⟨2, ![a, b]⟩ e} {Md : Memref sig c.2.kind sp' ⟨2, ![a', b']⟩ e} {S : SemArray (DmaSem sig) ⟨1, ![N]⟩}
    {n w : ℕ} {os od : Fin 2 → ℕ}
    {hbs : ∀ i, os i + (⟨2, ![n, w]⟩ : Shape).size i ≤ (⟨2, ![a, b]⟩ : Shape).size i}
    {hbd : ∀ i, od i + (⟨2, ![n, w]⟩ : Shape).size i ≤ (⟨2, ![a', b']⟩ : Shape).size i} {hrs hrd}
    {sm : DmaSem sig} {hsrc hdst hsem} {K : PUnit → Prog (TpuEff nD τ sig Val Λ c.2) α} {q : PosShare TreeShare} {F : ℕ → ℕ → Val e}
    {l i : ℕ} (k : ℕ) (hs₀ : os 0 = n * k) (hs₁ : os 1 = 0) (hd₀ : od 0 = n * k) (hd₁ : od 1 = 0) (hsm : sm = semAt S k)
    (hl : n * k + n ≤ l) (hn : 0 < (⟨2, ![n, w]⟩ : Shape).numel) :
    iprop(H2 c Ms q (n * k) (n * k + n) 0 w F ∗ Sent c Ms Md S q F n w l (i + 1) k)
      ⊢ iprop((Sent c Ms Md S q F n w l i (k + 1) -∗ wp frame (wpE defs 𝒱 c bd) Set.univ (K ⟨⟩) Q)
        -∗ wp frame (wpE defs 𝒱 c bd) Set.univ
            (.op (.enqueueDma (Ms.slice (Rect.unit (s := ⟨2, ![a, b]⟩) os (⟨2, ![n, w]⟩ : Shape).size hbs) hrs)
              (.here (Md.slice (Rect.unit (s := ⟨2, ![a', b']⟩) od (⟨2, ![n, w]⟩ : Shape).size hbd) hrd)) (.dma sm) hsrc hdst hsem) K) Q) := by
  have key := fun G => hdma22 (defs := defs) 𝒱 c bd (hrs := hrs) (hrd := hrd) (hbs := hbs) (hbd := hbd) (hsrc := hsrc) (hdst := hdst) (hsem := hsem) (k := K) (q := q) (Q := Q)
    (F := F) (Fd := G) F (n * k) 0 (n * k) 0 hs₀ hs₁ hd₀ hd₁ hsm (fun _ _ _ _ => rfl) hn
  simp only [Nat.zero_add] at key
  unfold Sent
  rw [Cells.eq_2]
  iintro ⟨HS, HB, ⟨%G, HD⟩, Hv, HC⟩ Hk
  ihave HD := (H2_rows (n * k + n) (Nat.le_add_right _ _) hl) $$ HD
  icases HD with ⟨HD, HR⟩
  iapply (key G) $$ [HS HD Hv]
  · isplitl [HS]; · iexact HS
    isplitl [HD] <;> iassumption
  iintro HF
  iapply Hk
  isplitl [HB HF]
  · rw [Bands.eq_2]
    unfold Band
    isplitl [HB] <;> iassumption
  isplitl [HR]
  · iexists G; rw [Nat.mul_succ]; iexact HR
  iexact HC

/-- The start of copy `k`, the source's rows from there on at hand. -/
theorem bandNext {Ms : Memref sig c.2.kind sp ⟨2, ![a, b]⟩ e} {Md : Memref sig c.2.kind sp' ⟨2, ![a', b']⟩ e} {S : SemArray (DmaSem sig) ⟨1, ![N]⟩}
    {n w : ℕ} {os od : Fin 2 → ℕ}
    {hbs : ∀ i, os i + (⟨2, ![n, w]⟩ : Shape).size i ≤ (⟨2, ![a, b]⟩ : Shape).size i}
    {hbd : ∀ i, od i + (⟨2, ![n, w]⟩ : Shape).size i ≤ (⟨2, ![a', b']⟩ : Shape).size i} {hrs hrd}
    {sm : DmaSem sig} {hsrc hdst hsem} {K : PUnit → Prog (TpuEff nD τ sig Val Λ c.2) α} {q : PosShare TreeShare} {F : ℕ → ℕ → Val e}
    {l i : ℕ} (k : ℕ) (hs₀ : os 0 = n * k) (hs₁ : os 1 = 0) (hd₀ : od 0 = n * k) (hd₁ : od 1 = 0) (hsm : sm = semAt S k)
    (hl : n * k + n ≤ l) (hn : 0 < (⟨2, ![n, w]⟩ : Shape).numel) :
    iprop(H2 c Ms q (n * k) l 0 w F ∗ Sent c Ms Md S q F n w l (i + 1) k)
      ⊢ iprop((iprop(H2 c Ms q (n * (k + 1)) l 0 w F ∗ Sent c Ms Md S q F n w l i (k + 1)) -∗ wp frame (wpE defs 𝒱 c bd) Set.univ (K ⟨⟩) Q)
        -∗ wp frame (wpE defs 𝒱 c bd) Set.univ
            (.op (.enqueueDma (Ms.slice (Rect.unit (s := ⟨2, ![a, b]⟩) os (⟨2, ![n, w]⟩ : Shape).size hbs) hrs)
              (.here (Md.slice (Rect.unit (s := ⟨2, ![a', b']⟩) od (⟨2, ![n, w]⟩ : Shape).size hbd) hrd)) (.dma sm) hsrc hdst hsem) K) Q) := by
  iintro ⟨HS, HD⟩ Hk
  ihave HS := (H2_rows (n * k + n) (Nat.le_add_right _ _) hl) $$ HS
  icases HS with ⟨HS, HR⟩
  iapply (bandStart 𝒱 c bd k hs₀ hs₁ hd₀ hd₁ hsm hl hn) $$ [HS HD]
  · isplitl [HS] <;> iassumption
  iintro HF
  iapply Hk
  isplitl [HR]
  · rw [Nat.mul_succ]; iexact HR
  iexact HF

/-- The wait for copy `k`. -/
theorem bandWait {κ' : Kind} {s₁ s₂ : Shape} {e' : EltTy} {Ms : Memref sig c.2.kind sp ⟨2, ![a, b]⟩ e} {Md : Memref sig c.2.kind sp' ⟨2, ![a', b']⟩ e} {S : SemArray (DmaSem sig) ⟨1, ![N]⟩}
    {n w : ℕ} {sem : DmaSem sig} {srcw : Memref sig c.2.kind sp s₁ e'} {dstw : Memref sig κ' sp' s₂ e'} {hsrc : srcw.view.WordExact} {hdst : dstw.view.WordExact}
    {K : PUnit → Prog (TpuEff nD τ sig Val Λ c.2) α} {q : PosShare TreeShare} {F : ℕ → ℕ → Val e} {i : ℕ} (k : ℕ)
    (hsm : sem = semAt S k) (hN : dstw.view.dmaCredit = cr Md ⟨2, ![n, w]⟩) :
    iprop(Come c Ms Md S q F n w (i + 1) k ∗ ∃ W, owes c 0 W)
      ⊢ iprop((iprop(Come c Ms Md S q F n w i (k + 1) ∗ ∃ W, owes c 0 W) -∗ wp frame (wpE defs 𝒱 c bd) Set.univ (K ⟨⟩) Q)
        -∗ wp frame (wpE defs 𝒱 c bd) Set.univ (.op (.waitDma2 sem srcw dstw hsrc hdst) K) Q) := by
  unfold Come
  rw [BandsFrom.eq_2, CellsTo.eq_2]
  unfold Band
  iintro ⟨⟨⟨HF, HB⟩, HD, HS, HC⟩, HO⟩ Hk
  iapply (wp_hwait 𝒱 c bd hsm hN) $$ [HF HO]
  · isplitl [HF] <;> iassumption
  iintro ⟨⟨HD', HS'⟩, Hv, HO⟩
  iapply Hk
  isplitr [HO]
  · isplitl [HB]; · iexact HB
    rw [Nat.mul_succ]
    isplitl [HD HD']
    · iapply (H2_joinRows (Nat.zero_le (n * k)) (Nat.le_add_right _ n) (fun _ _ _ _ _ _ => rfl) (fun _ _ _ _ _ _ => rfl))
      isplitl [HD] <;> iassumption
    isplitl [HS HS']
    · iapply (H2_joinRows (Nat.zero_le (n * k)) (Nat.le_add_right _ n) (fun _ _ _ _ _ _ => rfl) (fun _ _ _ _ _ _ => rfl))
      isplitl [HS] <;> iassumption
    isplitl [HC] <;> iassumption
  iexact HO

/-- A load of the one word of a scalar array. -/
theorem sload {M : Memref sig c.2.kind .smem ⟨2, ![1, 1]⟩ e} {off : Fin 2 → ℕ}
    {hb : ∀ i, off i + (⟨2, ![1, 1]⟩ : Shape).size i ≤ (⟨2, ![1, 1]⟩ : Shape).size i}
    {h1 : (Rect.unit (s := ⟨2, ![1, 1]⟩) off (⟨2, ![1, 1]⟩ : Shape).size hb).shape.numel = 1} {hp : e.packing = 1}
    {K : Val e → Prog (TpuEff nD τ sig Val Λ c.2) α} {q : PosShare TreeShare} {G : ℕ → ℕ → Val e} (h₀ : off 0 = 0) (h₁ : off 1 = 0) :
    H2 c M q 0 1 0 1 G
      ⊢ iprop((H2 c M q 0 1 0 1 G -∗ wp frame (wpE defs 𝒱 c bd) Set.univ (K (G 0 0)) Q)
        -∗ wp frame (wpE defs 𝒱 c bd) Set.univ (smemLoad M (Rect.unit (s := ⟨2, ![1, 1]⟩) off (⟨2, ![1, 1]⟩ : Shape).size hb) h1 hp >>= K) Q) := by
  have key := hload2 (defs := defs) 𝒱 c bd (n := 1) (m := 1) (M := M) (off := off) (hb := hb) (hl := View.loadsAt_rect (View.loads_smem_one hp h1)) (q := q) (F := G) (Q := Q)
    (k := fun f => K (f (Shape.Idx.first (h1.symm ▸ Nat.one_pos)))) (r₀ := 0) (r₁ := 1) (c₀ := 0) (c₁ := 1) 0 0 h₀ h₁ ⟨le_rfl, le_rfl⟩ ⟨le_rfl, le_rfl⟩
  have e : tile2 1 1 G 0 0 (Shape.Idx.first (h1.symm ▸ Nat.one_pos)) = G 0 0 := by
    unfold tile2
    exact congrArg₂ G ((Nat.zero_add _).trans (Nat.lt_one_iff.mp (idx2_lt0 (n0 := 1) (n1 := 1) _))) ((Nat.zero_add _).trans (Nat.lt_one_iff.mp (idx2_lt1 (n0 := 1) (n1 := 1) _)))
  rw [e] at key
  exact key

variable {m : ℕ}

/-- The start of the transfer filling a free slot with the next rows. -/
theorem startIn {A : Memref sig c.2.kind sp' ⟨2, ![a, b]⟩ e} {n : ℕ} {R : Memref sig c.2.kind sp ⟨3, ![N, n, m]⟩ e} {S : SemArray (DmaSem sig) ⟨1, ![N]⟩}
    {q : PosShare TreeShare} {F : ℕ → ℕ → Val e} {k r s l : ℕ} {P K : Prog (TpuEff nD τ sig Val Λ c.2) α}
    (hl : r + n ≤ l)
    (hp : ∀ G, iprop(H2 c A q r (r + n) s (s + m) F ∗ H3 c R fullShare k G ∗ semVal (c, .dma (semAt S k)) 0)
      ⊢ iprop((FlIn c A R S q F k r s -∗ wp frame (wpE defs 𝒱 c bd) Set.univ K Q) -∗ wp frame (wpE defs 𝒱 c bd) Set.univ P Q)) :
    iprop(Slot c R S k ∗ H2 c A q r l s (s + m) F)
      ⊢ iprop((iprop(RoleIn c A R S q F k r s l ∗ H2 c A q (r + n) l s (s + m) F) -∗ wp frame (wpE defs 𝒱 c bd) Set.univ K Q)
        -∗ wp frame (wpE defs 𝒱 c bd) Set.univ P Q) := by
  have := gStartIn (defs := defs) 𝒱 c bd (C := True) (A := A) (R := R) (S := S) (q := q) (F := F) (k := k) (r := r) (s := s) (l := l) (Q := Q)
    (P := fun _ => P) (K := K) ⟨fun _ => hl, fun _ => trivial⟩ (Or.inl hl) (fun _ G => hp G)
  rwa [dif_pos trivial] at this

end Ops

end Cert.Steps
-- ==== Proof.KBase.lean ====
/-
  The kernel's loop over column blocks, in names: where each of its windows starts at a trip (closed forms of the printed
  index arithmetic), and what the kernel computes there (the codes of a block, the accumulator after a number of blocks,
  an output block), as functions of natural coordinates over the arrays it reads.
-/
module

public import proofs.«01_k».proof.Proof.Ring
public import proofs.«01_k».proof.Proof.Gen.Kernel.Skeleton

@[expose] public section

set_option maxRecDepth 16384

noncomputable section

namespace Cert.Kernel.Hand

open Cert.Kernel Cert.Kernel.Gen Cert.Steps
open Idealize.ShloMosaic Idealize.ShloMosaic.TcCoe Idealize.ShloMosaic.ValueIdx
open Idealize.SL.Sem

variable {F : FTy → Type} [FloatOps F]

/-! ## The trips and their windows -/

theorem lt43 (t : Fin k0_t2_loop.trips) : t.val < 43 := by have := t.isLt; have h : k0_t2_loop.trips = 43 := by decide +kernel
                                                           omega
theorem lt16 (t : Fin k0_t1_loop.trips) : t.val < 16 := by have := t.isLt; have h : k0_t1_loop.trips = 16 := by decide +kernel
                                                           omega

theorem cond1 : ∀ t : Fin k0_t2_loop.trips, k0_cond1 t = 1#1 ↔ 2 ≤ t.val := by decide +kernel
theorem cond2 : ∀ t : Fin k0_t2_loop.trips, k0_cond2 t = 1#1 ↔ 256 * (t.val + 3) + 256 ≤ 11008 := by decide +kernel
theorem cond3 : ∀ t : Fin k0_t2_loop.trips, k0_cond3 t = 1#1 ↔ 1 ≤ t.val := by decide +kernel
theorem cond4 : ∀ t : Fin k0_t2_loop.trips, k0_cond4 t = 1#1 ↔ 256 * (t.val + 2) + 256 ≤ 11008 := by decide +kernel
theorem cond5 : ∀ t : Fin k0_t2_loop.trips, k0_cond5 t = 1#1 ↔ 1 ≤ t.val := by decide +kernel
theorem cond6 : ∀ t : Fin k0_t2_loop.trips, k0_cond6 t = 1#1 ↔ 256 * (t.val + 2) + 256 ≤ 11008 := by decide +kernel
theorem cond7 : ∀ t : Fin k0_t2_loop.trips, k0_cond7 t = 1#1 ↔ 1 ≤ t.val := by decide +kernel
theorem cond8 : ∀ t : Fin k0_t2_loop.trips, k0_cond8 t = 1#1 ↔ 256 * (t.val + 2) + 256 ≤ 11008 := by decide +kernel
theorem cond9 : ∀ t : Fin k0_t2_loop.trips, k0_cond9 t = 1#1 ↔ 1 ≤ t.val := by decide +kernel
theorem cond10 : ∀ t : Fin k0_t2_loop.trips, k0_cond10 t = 1#1 ↔ 256 * (t.val + 2) + 256 ≤ 11008 := by decide +kernel

theorem off89 : ∀ t : Fin k0_t2_loop.trips, k0_off89 t 0 = t.val % 2 := by decide +kernel
theorem off92 : ∀ t : Fin k0_t2_loop.trips, k0_off92 t 0 = 0 ∧ k0_off92 t 1 = 256 * t.val := by decide +kernel
theorem off93 : ∀ t : Fin k0_t2_loop.trips, k0_off93 t 0 = t.val % 2 ∧ k0_off93 t 1 = 0 ∧ k0_off93 t 2 = 0 := by decide +kernel
theorem off94 : ∀ t : Fin k0_t2_loop.trips, k0_off94 t 0 = t.val % 3 := by decide +kernel
theorem off97 : ∀ t : Fin k0_t2_loop.trips, k0_off97 t 0 = t.val % 3 ∧ k0_off97 t 1 = 0 ∧ k0_off97 t 2 = 512 * 0 := by decide +kernel
theorem off98 : ∀ t : Fin k0_t2_loop.trips, k0_off98 t 0 = t.val % 3 ∧ k0_off98 t 1 = 0 ∧ k0_off98 t 2 = 512 * 1 := by decide +kernel
theorem off99 : ∀ t : Fin k0_t2_loop.trips, k0_off99 t 0 = t.val % 3 ∧ k0_off99 t 1 = 0 ∧ k0_off99 t 2 = 512 * 2 := by decide +kernel
theorem off100 : ∀ t : Fin k0_t2_loop.trips, k0_off100 t 0 = t.val % 3 ∧ k0_off100 t 1 = 0 ∧ k0_off100 t 2 = 512 * 3 := by decide +kernel
theorem off101 : ∀ t : Fin k0_t2_loop.trips, k0_off101 t 0 = t.val % 3 ∧ k0_off101 t 1 = 0 ∧ k0_off101 t 2 = 512 * 4 := by decide +kernel
theorem off102 : ∀ t : Fin k0_t2_loop.trips, k0_off102 t 0 = t.val % 3 ∧ k0_off102 t 1 = 0 ∧ k0_off102 t 2 = 512 * 5 := by decide +kernel
theorem off103 : ∀ t : Fin k0_t2_loop.trips, k0_off103 t 0 = t.val % 3 ∧ k0_off103 t 1 = 0 ∧ k0_off103 t 2 = 512 * 6 := by decide +kernel
theorem off104 : ∀ t : Fin k0_t2_loop.trips, k0_off104 t 0 = t.val % 3 ∧ k0_off104 t 1 = 0 ∧ k0_off104 t 2 = 512 * 7 := by decide +kernel
theorem off105 : ∀ t : Fin k0_t2_loop.trips, k0_off105 t 0 = t.val % 2 := by decide +kernel
theorem off106 : ∀ t : Fin k0_t2_loop.trips, k0_off106 t 0 = 0 ∧ k0_off106 t 1 = 256 * t.val := by decide +kernel
theorem off107 : ∀ t : Fin k0_t2_loop.trips, k0_off107 t 0 = t.val % 2 := by decide +kernel
theorem off108 : ∀ t : Fin k0_t2_loop.trips, k0_off108 t 0 = (t.val + 3) % 3 := by decide +kernel
theorem off109 : ∀ t : Fin k0_t2_loop.trips, k0_off109 t 0 = (t.val + 3) % 3 := by decide +kernel
theorem off110 : ∀ t : Fin k0_t2_loop.trips, k0_cond2 t = 1#1 → k0_off110 t 0 = 256 * (t.val + 3) ∧ k0_off110 t 1 = 0 := by decide +kernel
theorem off117 : ∀ (t : Fin k0_t2_loop.trips), k0_off117 t 0#32 0 = 4 * (t.val % 3) + 0 ∧ k0_off117 t 1#32 0 = 4 * (t.val % 3) + 1
    ∧ k0_off117 t 2#32 0 = 4 * (t.val % 3) + 2 ∧ k0_off117 t 3#32 0 = 4 * (t.val % 3) + 3 := by decide +kernel
theorem off118 : ∀ (t : Fin k0_t2_loop.trips), k0_off118 t 0#32 0 = 4 * (t.val % 3) + 0 ∧ k0_off118 t 1#32 0 = 4 * (t.val % 3) + 1
    ∧ k0_off118 t 2#32 0 = 4 * (t.val % 3) + 2 ∧ k0_off118 t 3#32 0 = 4 * (t.val % 3) + 3 := by decide +kernel
theorem off120 : ∀ (t : Fin k0_t2_loop.trips), k0_off120 t 0#32 0 = 4 * (t.val % 3) + 0 ∧ k0_off120 t 1#32 0 = 4 * (t.val % 3) + 1
    ∧ k0_off120 t 2#32 0 = 4 * (t.val % 3) + 2 ∧ k0_off120 t 3#32 0 = 4 * (t.val % 3) + 3 := by decide +kernel
theorem off120r : ∀ (t : Fin k0_t2_loop.trips), (k0_off120 t 0#32 1 = 0 ∧ k0_off120 t 0#32 2 = 0) ∧ (k0_off120 t 1#32 1 = 0 ∧ k0_off120 t 1#32 2 = 0)
    ∧ (k0_off120 t 2#32 1 = 0 ∧ k0_off120 t 2#32 2 = 0) ∧ k0_off120 t 3#32 1 = 0 ∧ k0_off120 t 3#32 2 = 0 := by decide +kernel
theorem off111 : ∀ t : Fin k0_t2_loop.trips, k0_off111 t 0 = 4 * ((t.val + 2) % 3) + 0 := by decide +kernel
theorem off121 : ∀ t : Fin k0_t2_loop.trips, k0_off121 t 0 = 4 * ((t.val + 2) % 3) + 1 := by decide +kernel
theorem off128 : ∀ t : Fin k0_t2_loop.trips, k0_off128 t 0 = 4 * ((t.val + 2) % 3) + 2 := by decide +kernel
theorem off135 : ∀ t : Fin k0_t2_loop.trips, k0_off135 t 0 = 4 * ((t.val + 2) % 3) + 3 := by decide +kernel
theorem off114 : ∀ t : Fin k0_t2_loop.trips, k0_off114 t 0 = 4 * ((t.val + 2) % 3) + 0 := by decide +kernel
theorem off124 : ∀ t : Fin k0_t2_loop.trips, k0_off124 t 0 = 4 * ((t.val + 2) % 3) + 1 := by decide +kernel
theorem off131 : ∀ t : Fin k0_t2_loop.trips, k0_off131 t 0 = 4 * ((t.val + 2) % 3) + 2 := by decide +kernel
theorem off138 : ∀ t : Fin k0_t2_loop.trips, k0_off138 t 0 = 4 * ((t.val + 2) % 3) + 3 := by decide +kernel
theorem off115 : ∀ t : Fin k0_t2_loop.trips, k0_off115 t 0 = 4 * ((t.val + 2) % 3) + 0 := by decide +kernel
theorem off125 : ∀ t : Fin k0_t2_loop.trips, k0_off125 t 0 = 4 * ((t.val + 2) % 3) + 1 := by decide +kernel
theorem off132 : ∀ t : Fin k0_t2_loop.trips, k0_off132 t 0 = 4 * ((t.val + 2) % 3) + 2 := by decide +kernel
theorem off139 : ∀ t : Fin k0_t2_loop.trips, k0_off139 t 0 = 4 * ((t.val + 2) % 3) + 3 := by decide +kernel
theorem off116 : ∀ t : Fin k0_t2_loop.trips, k0_off116 t 0 = 256 * (t.val + 2) ∧ k0_off116 t 1 = 1024 * 0 := by decide +kernel
theorem off126 : ∀ t : Fin k0_t2_loop.trips, k0_off126 t 0 = 256 * (t.val + 2) ∧ k0_off126 t 1 = 1024 * 1 := by decide +kernel
theorem off133 : ∀ t : Fin k0_t2_loop.trips, k0_off133 t 0 = 256 * (t.val + 2) ∧ k0_off133 t 1 = 1024 * 2 := by decide +kernel
theorem off140 : ∀ t : Fin k0_t2_loop.trips, k0_off140 t 0 = 256 * (t.val + 2) ∧ k0_off140 t 1 = 1024 * 3 := by decide +kernel
theorem off119 : ∀ t : Fin k0_t2_loop.trips, k0_off119 t 0 = 256 * t.val ∧ k0_off119 t 1 = 1024 * 0 := by decide +kernel
theorem off127 : ∀ t : Fin k0_t2_loop.trips, k0_off127 t 0 = 256 * t.val ∧ k0_off127 t 1 = 1024 * 1 := by decide +kernel
theorem off134 : ∀ t : Fin k0_t2_loop.trips, k0_off134 t 0 = 256 * t.val ∧ k0_off134 t 1 = 1024 * 2 := by decide +kernel
theorem off141 : ∀ t : Fin k0_t2_loop.trips, k0_off141 t 0 = 256 * t.val ∧ k0_off141 t 1 = 1024 * 3 := by decide +kernel

/-! ## What the kernel computes -/

/-- What the loop over column blocks reads: the arrays `dy`, `x`, `w` and `main_grad` by natural coordinates, the inverse
    scale and the scale of the weight gradient. -/
structure In (F : FTy → Type) where
  dy : ℕ → ℕ → Elt F .bf16
  x : ℕ → ℕ → Elt F .fp8e4m3
  w : ℕ → ℕ → Elt F .fp8e4m3
  mg : ℕ → ℕ → Elt F .f32
  iv : FVec F S1x1 .bf16
  ms : FVec F S1x1 .f32

/-- The codes of block `o`, by row and column in the block. -/
def codesT (K : In F) (o i j : ℕ) : Elt F .fp8e5m2 := lift3 (n := 1024) (m := 256) (k0_pay8 K.iv (tile2 1024 256 K.dy 0 (256 * o))) i j
/-- The codes. -/
def codesF (K : In F) (i j : ℕ) : Elt F .fp8e5m2 := codesT K (j / 256) i (j % 256)

/-- The accumulator after `o` blocks. -/
def accF (K : In F) : ℕ → ℕ → ℕ → Elt F .f32
  | 0, i, j => lift2 (n := 1024) (m := 4096) (k0_pay24 (F := F)) i j
  | o + 1, i, j => lift2 (n := 1024) (m := 512) (k0_pay11 (tile2 1024 512 (accF K o) 0 (512 * (j / 512))) (tile3 1024 256 (codesT K o) 0 0)
      (tile3 256 512 (fun i j => K.w (256 * o + i) (0 + j)) 0 (512 * (j / 512)))) i (j % 512)

/-- Output block `(o, n)`, by row and column in the block. -/
def moT (K : In F) (o n i j : ℕ) : Elt F .f32 :=
  lift3 (n := 256) (m := 1024) (k0_pay23 K.ms (tile3 1024 256 (codesT K o) 0 0) (tile2 1024 1024 K.x 0 (1024 * n))
    (tile3 256 1024 (fun i j => K.mg (256 * o + i) (1024 * n + j)) 0 0)) i j
/-- The updated gradient. -/
def moF (K : In F) (i j : ℕ) : Elt F .f32 := moT K (i / 256) (j / 1024) (i % 256) (j % 1024)

theorem codesF_at (K : In F) (o i j : ℕ) (hj : j < 256) : codesF K i (256 * o + j) = codesT K o i j := by
  unfold codesF; rw [show (256 * o + j) / 256 = o by omega, show (256 * o + j) % 256 = j by omega]

theorem moF_at (K : In F) (o n i j : ℕ) (hi : i < 256) (hj : j < 1024) : moF K (256 * o + i) (1024 * n + j) = moT K o n i j := by
  unfold moF
  rw [show (256 * o + i) / 256 = o by omega, show (256 * o + i) % 256 = i by omega, show (1024 * n + j) / 1024 = n by omega,
    show (1024 * n + j) % 1024 = j by omega]

theorem accF_at (K : In F) (o n : ℕ) (y : S1024x512.Idx) :
    accF K (o + 1) (0 + (y 0).val) (512 * n + (y 1).val)
      = k0_pay11 (tile2 1024 512 (accF K o) 0 (512 * n)) (tile3 1024 256 (codesT K o) 0 0)
          (tile3 256 512 (fun i j => K.w (256 * o + i) (0 + j)) 0 (512 * n)) y := by
  have hy : (y 1).val < 512 := (y 1).isLt
  rw [accF, show (512 * n + (y 1).val) / 512 = n by omega, show (512 * n + (y 1).val) % 512 = (y 1).val by omega, Nat.zero_add]
  exact lift2_val _ y

theorem moT_at (K : In F) (o n : ℕ) (y : S1x256x1024.Idx) :
    moT K o n (y 1).val (y 2).val = k0_pay23 K.ms (tile3 1024 256 (codesT K o) 0 0) (tile2 1024 1024 K.x 0 (1024 * n))
      (tile3 256 1024 (fun i j => K.mg (256 * o + i) (1024 * n + j)) 0 0) y :=
  lift3_val _ y

theorem codesT_at (K : In F) (o : ℕ) (y : S1x1024x256.Idx) :
    codesT K o (y 1).val (y 2).val = k0_pay8 K.iv (tile2 1024 256 K.dy 0 (256 * o)) y := lift3_val _ y

/-! ## The printed payloads that compute one thing -/

theorem pay10_eq (a : Vec F S1024x512 .f32) (c : Vec F S1x1024x256 .fp8e5m2) (w : Vec F S1x256x512 .fp8e4m3) : k0_pay10 a (k0_pay9 c) w = k0_pay11 a c w := rfl
theorem pay12_eq : k0_pay12 (F := F) = k0_pay11 := rfl
theorem pay13_eq : k0_pay13 (F := F) = k0_pay11 := rfl
theorem pay14_eq : k0_pay14 (F := F) = k0_pay11 := rfl
theorem pay16_eq (a : Vec F S1024x512 .f32) (c : Vec F S1x1024x256 .fp8e5m2) (w : Vec F S1x256x512 .fp8e4m3) : k0_pay16 (k0_pay15 a c w) = k0_pay11 a c w := rfl
theorem pay17_eq : k0_pay17 (F := F) = k0_pay11 := rfl
theorem pay18_eq : k0_pay18 (F := F) = k0_pay11 := rfl
theorem pay20_eq (s : FVec F S1x1 .f32) (c : Vec F S1x1024x256 .fp8e5m2) (x : Vec F S1024x1024 .fp8e4m3) (r : Vec F S1x256x1024 .f32) :
    k0_pay20 (k0_pay19 s c x r) = k0_pay23 s c x r := rfl
theorem pay22_eq (s : FVec F S1x1 .f32) (c : Vec F S1x1024x256 .fp8e5m2) (x : Vec F S1024x1024 .fp8e4m3) (r : Vec F S1x256x1024 .f32) :
    k0_pay22 s (k0_pay21 c) x r = k0_pay23 s c x r := rfl
theorem pay36_eq (s : FVec F S1x1 .f32) (t : Elt F .f32) (c : Vec F S1x1024x256 .fp8e5m2) (x : Vec F S1024x1024 .fp8e4m3) (r : Vec F S1x256x1024 .f32) :
    k0_pay36 s t c x r = k0_pay23 (k0_pay34 s t) c x r := rfl

end Cert.Kernel.Hand
-- ==== Proof.KAmax.lean ====
/-
  The first loop: each of its 16 trips waits for a band of 64 rows of the gradient and folds the magnitudes of its
  86 tiles of 128 columns into a running maximum.
-/
module

public import proofs.«01_k».proof.Proof.Rows
public import proofs.«01_k».proof.Proof.KBase

@[expose] public section

set_option maxRecDepth 16384

noncomputable section

namespace Cert.Kernel.Hand

open Cert.Kernel Cert.Kernel.Gen Cert.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

theorem lt16' (t : Fin k0_t1_loop.trips) : t.val < 16 := lt16 t

/-- A band's row. -/
theorem row (t : Fin k0_t1_loop.trips) : (Scalar.muli (Scf.iv 0#32 1#32 t) 64#32).toNat = 64 * t.val := by revert t; decide +kernel

theorem cell17 (t : Fin k0_t1_loop.trips) : k0_off1 t 0 = t.val := by revert t; decide +kernel

/-- Tile `j` of band `t`. -/
abbrev T1 (dy : ℕ → ℕ → Elt F .bf16) (t j : ℕ) : Vec F S64x128 .bf16 := tile2 64 128 dy (64 * t) (128 * j)

/-- The running maximum after a band's tiles. -/
def foldT (dy : ℕ → ℕ → Elt F .bf16) (t : ℕ) (m : FVec F S64x128 .bf16) : FVec F S64x128 .bf16 :=
  let m₁ := k0_pay1 m (T1 dy t 0) (T1 dy t 1) (T1 dy t 2) (T1 dy t 3) (T1 dy t 4) (T1 dy t 5) (T1 dy t 6) (T1 dy t 7) (T1 dy t 8)
  let m₂ := k0_pay2 m₁ (T1 dy t 9) (T1 dy t 10) (T1 dy t 11) (T1 dy t 12) (T1 dy t 13) (T1 dy t 14) (T1 dy t 15) (T1 dy t 16) (T1 dy t 17) (T1 dy t 18) (T1 dy t 19) (T1 dy t 20)
  let m₃ := k0_pay3 m₂ (T1 dy t 21) (T1 dy t 22) (T1 dy t 23) (T1 dy t 24) (T1 dy t 25) (T1 dy t 26) (T1 dy t 27) (T1 dy t 28) (T1 dy t 29) (T1 dy t 30) (T1 dy t 31) (T1 dy t 32)
  let m₄ := k0_pay4 m₃ (T1 dy t 33) (T1 dy t 34) (T1 dy t 35) (T1 dy t 36) (T1 dy t 37) (T1 dy t 38) (T1 dy t 39) (T1 dy t 40) (T1 dy t 41) (T1 dy t 42) (T1 dy t 43) (T1 dy t 44)
  let m₅ := k0_pay5 m₄ (T1 dy t 45) (T1 dy t 46) (T1 dy t 47) (T1 dy t 48) (T1 dy t 49) (T1 dy t 50) (T1 dy t 51) (T1 dy t 52) (T1 dy t 53) (T1 dy t 54) (T1 dy t 55) (T1 dy t 56)
  let m₆ := k0_pay6 m₅ (T1 dy t 57) (T1 dy t 58) (T1 dy t 59) (T1 dy t 60) (T1 dy t 61) (T1 dy t 62) (T1 dy t 63) (T1 dy t 64) (T1 dy t 65) (T1 dy t 66) (T1 dy t 67) (T1 dy t 68)
  let m₇ := k0_pay7 m₆ (T1 dy t 69) (T1 dy t 70) (T1 dy t 71) (T1 dy t 72) (T1 dy t 73) (T1 dy t 74) (T1 dy t 75) (T1 dy t 76) (T1 dy t 77) (T1 dy t 78) (T1 dy t 79) (T1 dy t 80)
  k0_pay26 m₇ (T1 dy t 81) (T1 dy t 82) (T1 dy t 83) (T1 dy t 84) (T1 dy t 85)

/-- The running maximum after `t` bands. -/
def amF (dy : ℕ → ℕ → Elt F .bf16) : ℕ → FVec F S64x128 .bf16
  | 0 => k0_pay25
  | t + 1 => foldT dy t (amF dy t)

variable (arg0 : Memref sig .tc .smem S1x1 .f32) (harg0 : arg0.IsWhole) (arg1 : Memref sig .tc .smem S1x1 .f32) (harg1 : arg1.IsWhole)
  (arg2 : Memref sig .tc .hbm S1024x11008 .bf16) (harg2 : arg2.IsWhole) (arg3 : Memref sig .tc .hbm S1024x4096 .fp8e4m3) (harg3 : arg3.IsWhole)
  (arg4 : Memref sig .tc .hbm S11008x4096 .fp8e4m3) (harg4 : arg4.IsWhole) (arg5 : Memref sig .tc .hbm S11008x4096 .f32) (harg5 : arg5.IsWhole)
  (arg6 : Memref sig .tc .hbm S1024x4096 .bf16) (harg6 : arg6.IsWhole) (arg7 : Memref sig .tc .hbm S11008x4096 .f32) (harg7 : arg7.IsWhole)
  (arg8 : Memref sig .tc .smem S1x1 .f32) (harg8 : arg8.IsWhole) (arg9 : Memref sig .tc .hbm S1024x11008 .fp8e5m2) (harg9 : arg9.IsWhole)
  (arg10 : Memref sig .tc .smem S1x1 .f32) (harg10 : arg10.IsWhole) (arg11 : Memref sig .tc .vmem S1024x11008 .bf16) (harg11 : arg11.IsWhole)
  (arg12 : Memref sig .tc .vmem S1024x4096 .fp8e4m3) (harg12 : arg12.IsWhole) (arg13 : Memref sig .tc .vmem S3x256x4096 .fp8e4m3) (harg13 : arg13.IsWhole)
  (arg14 : Memref sig .tc .vmem S2x1024x256 .fp8e5m2) (harg14 : arg14.IsWhole) (arg15 : Memref sig .tc .vmem S12x256x1024 .f32) (harg15 : arg15.IsWhole)
  (arg16 : Memref sig .tc .vmem S1024x4096 .f32) (harg16 : arg16.IsWhole) (arg17 : DmaSems sig S16) (arg18 : DmaSems sig S_) (arg19 : DmaSems sig S3)
  (arg20 : DmaSems sig S2) (arg21 : DmaSems sig S12) (arg22 : DmaSems sig S12) (arg23 : DmaSems sig S8)

variable {defs : Defs nD τ sig (Elt F) Λ₀} (𝒱 : Variants) (c : Dev nD) (bd : Option 𝒱.V)
variable (dy : ℕ → ℕ → Elt F .bf16) (q₂ : PosShare TreeShare) (t : Fin k0_t1_loop.trips)

/-- The gradient's bands: the first `k` at hand, `i` more in flight. -/
def B1 (i k : ℕ) : sProp 𝕄 := Come (c.tc : Thread nD τ) arg2 arg11 arg17 q₂ dy 64 11008 i k

/-- The rows a trip reads. -/
def D1 : sProp 𝕄 := H2 (c.tc : Thread nD τ) arg11 fullShare 0 (64 * (t.val + 1)) 0 11008 dy

theorem part1 (m : FVec F S64x128 .bf16) {i : ℕ} {Q : (Σ' (v334 : BitVec 32) (v370 : FVec F S64x128 .bf16), Vec F S64x128 .bf16) → sProp (MT nD τ sig Unit (Elt F) ℕ (Pipeline.UD sig nD τ) ℕ)} :
    iprop(B1 arg2 arg11 arg17 c dy q₂ (i + 1) t.val ∗ ∃ W, owes (c.tc : Thread nD τ) 0 W)
      ⊢ iprop((∀ v, iprop(B1 arg2 arg11 arg17 c dy q₂ i (t.val + 1) ∗ ∃ W, owes (c.tc : Thread nD τ) 0 W) -∗ Q ⟨v, k0_pay1 m (T1 dy t.val 0) (T1 dy t.val 1) (T1 dy t.val 2) (T1 dy t.val 3) (T1 dy t.val 4) (T1 dy t.val 5) (T1 dy t.val 6) (T1 dy t.val 7) (T1 dy t.val 8), (T1 dy t.val 9)⟩)
        -∗ wp frame (wpE defs 𝒱 (c.tc : Thread nD τ) bd) Set.univ (k0_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 0#32 1#32 t m) Q) := by
  rw [k0_part1_eq_skeleton]
  unfold k0_part1_skel B1
  have ht := lt16' t
  iintro ⟨HC, HO⟩ Hk
  iapply (bandWait 𝒱 (c.tc : Thread nD τ) bd (Ms := arg2) (Md := arg11) (n := 64) (w := 11008) (q := q₂) (F := dy) (i := i) t.val (sem_eq arg17 _ _ _ _ (cell17 t)) rfl) $$ [HC HO]
  · isplitl [HC]; · iexact HC
    iexact HO
  unfold Come
  iintro ⟨⟨HB, HD, HS, HC⟩, HO⟩
  iapply (hload2 𝒱 (c.tc : Thread nD τ) bd (64 * t.val) (128 * 0) (show k0_off3 t 0 = 64 * t.val from row t) (show k0_off3 t 1 = 128 * 0 from rfl) ⟨by omega, by omega⟩ ⟨by omega, by omega⟩) $$ HD
  iintro HD
  iapply (hload2 𝒱 (c.tc : Thread nD τ) bd (64 * t.val) (128 * 1) (show k0_off4 t 0 = 64 * t.val from row t) (show k0_off4 t 1 = 128 * 1 from rfl) ⟨by omega, by omega⟩ ⟨by omega, by omega⟩) $$ HD
  iintro HD
  iapply (hload2 𝒱 (c.tc : Thread nD τ) bd (64 * t.val) (128 * 2) (show k0_off5 t 0 = 64 * t.val from row t) (show k0_off5 t 1 = 128 * 2 from rfl) ⟨by omega, by omega⟩ ⟨by omega, by omega⟩) $$ HD
  iintro HD
  iapply (hload2 𝒱 (c.tc : Thread nD τ) bd (64 * t.val) (128 * 3) (show k0_off6 t 0 = 64 * t.val from row t) (show k0_off6 t 1 = 128 * 3 from rfl) ⟨by omega, by omega⟩ ⟨by omega, by omega⟩) $$ HD
  iintro HD
  iapply (hload2 𝒱 (c.tc : Thread nD τ) bd (64 * t.val) (128 * 4) (show k0_off7 t 0 = 64 * t.val from row t) (show k0_off7 t 1 = 128 * 4 from rfl) ⟨by omega, by omega⟩ ⟨by omega, by omega⟩) $$ HD
  iintro HD
  iapply (hload2 𝒱 (c.tc : Thread nD τ) bd (64 * t.val) (128 * 5) (show k0_off8 t 0 = 64 * t.val from row t) (show k0_off8 t 1 = 128 * 5 from rfl) ⟨by omega, by omega⟩ ⟨by omega, by omega⟩) $$ HD
  iintro HD
  iapply (hload2 𝒱 (c.tc : Thread nD τ) bd (64 * t.val) (128 * 6) (show k0_off9 t 0 = 64 * t.val from row t) (show k0_off9 t 1 = 128 * 6 from rfl) ⟨by omega, by omega⟩ ⟨by omega, by omega⟩) $$ HD
  iintro HD
  iapply (hload2 𝒱 (c.tc : Thread nD τ) bd (64 * t.val) (128 * 7) (show k0_off10 t 0 = 64 * t.val from row t) (show k0_off10 t 1 = 128 * 7 from rfl) ⟨by omega, by omega⟩ ⟨by omega, by omega⟩) $$ HD
  iintro HD
  iapply (hload2 𝒱 (c.tc : Thread nD τ) bd (64 * t.val) (128 * 8) (show k0_off11 t 0 = 64 * t.val from row t) (show k0_off11 t 1 = 128 * 8 from rfl) ⟨by omega, by omega⟩ ⟨by omega, by omega⟩) $$ HD
  iintro HD
  iapply (hload2 𝒱 (c.tc : Thread nD τ) bd (64 * t.val) (128 * 9) (show k0_off12 t 0 = 64 * t.val from row t) (show k0_off12 t 1 = 128 * 9 from rfl) ⟨by omega, by omega⟩ ⟨by omega, by omega⟩) $$ HD
  iintro HD
  iapply (wp_done 𝒱 (c.tc : Thread nD τ) bd)
  iapply Hk
  isplitr [HO]
  · isplitl [HB]; · iexact HB
    isplitl [HD]; · iexact HD
    isplitl [HS]; · iexact HS
    iexact HC
  iexact HO

theorem part2 (v : BitVec 32) (m : FVec F S64x128 .bf16) {Q : (Σ' (w : FVec F S64x128 .bf16), Vec F S64x128 .bf16) → sProp (MT nD τ sig Unit (Elt F) ℕ (Pipeline.UD sig nD τ) ℕ)} :
    D1 arg11 c dy t ⊢ iprop((D1 arg11 c dy t -∗ Q ⟨k0_pay2 m (T1 dy t.val 9) (T1 dy t.val 10) (T1 dy t.val 11) (T1 dy t.val 12) (T1 dy t.val 13) (T1 dy t.val 14) (T1 dy t.val 15) (T1 dy t.val 16) (T1 dy t.val 17) (T1 dy t.val 18) (T1 dy t.val 19) (T1 dy t.val 20), (T1 dy t.val 21)⟩)
        -∗ wp frame (wpE defs 𝒱 (c.tc : Thread nD τ) bd) Set.univ (k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v m (T1 dy t.val 9)) Q) := by
  rw [k0_part2_eq_skeleton]
  unfold k0_part2_skel D1
  have ht := lt16' t
  iintro HD Hk
  iapply (hload2 𝒱 (c.tc : Thread nD τ) bd (64 * t.val) (128 * 10) (show k0_off13 t 0 = 64 * t.val from row t) (show k0_off13 t 1 = 128 * 10 from rfl) ⟨by omega, by omega⟩ ⟨by omega, by omega⟩) $$ HD
  iintro HD
  iapply (hload2 𝒱 (c.tc : Thread nD τ) bd (64 * t.val) (128 * 11) (show k0_off14 t 0 = 64 * t.val from row t) (show k0_off14 t 1 = 128 * 11 from rfl) ⟨by omega, by omega⟩ ⟨by omega, by omega⟩) $$ HD
  iintro HD
  iapply (hload2 𝒱 (c.tc : Thread nD τ) bd (64 * t.val) (128 * 12) (show k0_off15 t 0 = 64 * t.val from row t) (show k0_off15 t 1 = 128 * 12 from rfl) ⟨by omega, by omega⟩ ⟨by omega, by omega⟩) $$ HD
  iintro HD
  iapply (hload2 𝒱 (c.tc : Thread nD τ) bd (64 * t.val) (128 * 13) (show k0_off16 t 0 = 64 * t.val from row t) (show k0_off16 t 1 = 128 * 13 from rfl) ⟨by omega, by omega⟩ ⟨by omega, by omega⟩) $$ HD
  iintro HD
  iapply (hload2 𝒱 (c.tc : Thread nD τ) bd (64 * t.val) (128 * 14) (show k0_off17 t 0 = 64 * t.val from row t) (show k0_off17 t 1 = 128 * 14 from rfl) ⟨by omega, by omega⟩ ⟨by omega, by omega⟩) $$ HD
  iintro HD
  iapply (hload2 𝒱 (c.tc : Thread nD τ) bd (64 * t.val) (128 * 15) (show k0_off18 t 0 = 64 * t.val from row t) (show k0_off18 t 1 = 128 * 15 from rfl) ⟨by omega, by omega⟩ ⟨by omega, by omega⟩) $$ HD
  iintro HD
  iapply (hload2 𝒱 (c.tc : Thread nD τ) bd (64 * t.val) (128 * 16) (show k0_off19 t 0 = 64 * t.val from row t) (show k0_off19 t 1 = 128 * 16 from rfl) ⟨by omega, by omega⟩ ⟨by omega, by omega⟩) $$ HD
  iintro HD
  iapply (hload2 𝒱 (c.tc : Thread nD τ) bd (64 * t.val) (128 * 17) (show k0_off20 t 0 = 64 * t.val from row t) (show k0_off20 t 1 = 128 * 17 from rfl) ⟨by omega, by omega⟩ ⟨by omega, by omega⟩) $$ HD
  iintro HD
  iapply (hload2 𝒱 (c.tc : Thread nD τ) bd (64 * t.val) (128 * 18) (show k0_off21 t 0 = 64 * t.val from row t) (show k0_off21 t 1 = 128 * 18 from rfl) ⟨by omega, by omega⟩ ⟨by omega, by omega⟩) $$ HD
  iintro HD
  iapply (hload2 𝒱 (c.tc : Thread nD τ) bd (64 * t.val) (128 * 19) (show k0_off22 t 0 = 64 * t.val from row t) (show k0_off22 t 1 = 128 * 19 from rfl) ⟨by omega, by omega⟩ ⟨by omega, by omega⟩) $$ HD
  iintro HD
  iapply (hload2 𝒱 (c.tc : Thread nD τ) bd (64 * t.val) (128 * 20) (show k0_off23 t 0 = 64 * t.val from row t) (show k0_off23 t 1 = 128 * 20 from rfl) ⟨by omega, by omega⟩ ⟨by omega, by omega⟩) $$ HD
  iintro HD
  iapply (hload2 𝒱 (c.tc : Thread nD τ) bd (64 * t.val) (128 * 21) (show k0_off24 t 0 = 64 * t.val from row t) (show k0_off24 t 1 = 128 * 21 from rfl) ⟨by omega, by omega⟩ ⟨by omega, by omega⟩) $$ HD
  iintro HD
  iapply (wp_done 𝒱 (c.tc : Thread nD τ) bd)
  iapply Hk
  iexact HD

theorem part3 (v : BitVec 32) (m : FVec F S64x128 .bf16) {Q : (Σ' (w : FVec F S64x128 .bf16), Vec F S64x128 .bf16) → sProp (MT nD τ sig Unit (Elt F) ℕ (Pipeline.UD sig nD τ) ℕ)} :
    D1 arg11 c dy t ⊢ iprop((D1 arg11 c dy t -∗ Q ⟨k0_pay3 m (T1 dy t.val 21) (T1 dy t.val 22) (T1 dy t.val 23) (T1 dy t.val 24) (T1 dy t.val 25) (T1 dy t.val 26) (T1 dy t.val 27) (T1 dy t.val 28) (T1 dy t.val 29) (T1 dy t.val 30) (T1 dy t.val 31) (T1 dy t.val 32), (T1 dy t.val 33)⟩)
        -∗ wp frame (wpE defs 𝒱 (c.tc : Thread nD τ) bd) Set.univ (k0_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v m (T1 dy t.val 21)) Q) := by
  rw [k0_part3_eq_skeleton]
  unfold k0_part3_skel D1
  have ht := lt16' t
  iintro HD Hk
  iapply (hload2 𝒱 (c.tc : Thread nD τ) bd (64 * t.val) (128 * 22) (show k0_off25 t 0 = 64 * t.val from row t) (show k0_off25 t 1 = 128 * 22 from rfl) ⟨by omega, by omega⟩ ⟨by omega, by omega⟩) $$ HD
  iintro HD
  iapply (hload2 𝒱 (c.tc : Thread nD τ) bd (64 * t.val) (128 * 23) (show k0_off26 t 0 = 64 * t.val from row t) (show k0_off26 t 1 = 128 * 23 from rfl) ⟨by omega, by omega⟩ ⟨by omega, by omega⟩) $$ HD
  iintro HD
  iapply (hload2 𝒱 (c.tc : Thread nD τ) bd (64 * t.val) (128 * 24) (show k0_off27 t 0 = 64 * t.val from row t) (show k0_off27 t 1 = 128 * 24 from rfl) ⟨by omega, by omega⟩ ⟨by omega, by omega⟩) $$ HD
  iintro HD
  iapply (hload2 𝒱 (c.tc : Thread nD τ) bd (64 * t.val) (128 * 25) (show k0_off28 t 0 = 64 * t.val from row t) (show k0_off28 t 1 = 128 * 25 from rfl) ⟨by omega, by omega⟩ ⟨by omega, by omega⟩) $$ HD
  iintro HD
  iapply (hload2 𝒱 (c.tc : Thread nD τ) bd (64 * t.val) (128 * 26) (show k0_off29 t 0 = 64 * t.val from row t) (show k0_off29 t 1 = 128 * 26 from rfl) ⟨by omega, by omega⟩ ⟨by omega, by omega⟩) $$ HD
  iintro HD
  iapply (hload2 𝒱 (c.tc : Thread nD τ) bd (64 * t.val) (128 * 27) (show k0_off30 t 0 = 64 * t.val from row t) (show k0_off30 t 1 = 128 * 27 from rfl) ⟨by omega, by omega⟩ ⟨by omega, by omega⟩) $$ HD
  iintro HD
  iapply (hload2 𝒱 (c.tc : Thread nD τ) bd (64 * t.val) (128 * 28) (show k0_off31 t 0 = 64 * t.val from row t) (show k0_off31 t 1 = 128 * 28 from rfl) ⟨by omega, by omega⟩ ⟨by omega, by omega⟩) $$ HD
  iintro HD
  iapply (hload2 𝒱 (c.tc : Thread nD τ) bd (64 * t.val) (128 * 29) (show k0_off32 t 0 = 64 * t.val from row t) (show k0_off32 t 1 = 128 * 29 from rfl) ⟨by omega, by omega⟩ ⟨by omega, by omega⟩) $$ HD
  iintro HD
  iapply (hload2 𝒱 (c.tc : Thread nD τ) bd (64 * t.val) (128 * 30) (show k0_off33 t 0 = 64 * t.val from row t) (show k0_off33 t 1 = 128 * 30 from rfl) ⟨by omega, by omega⟩ ⟨by omega, by omega⟩) $$ HD
  iintro HD
  iapply (hload2 𝒱 (c.tc : Thread nD τ) bd (64 * t.val) (128 * 31) (show k0_off34 t 0 = 64 * t.val from row t) (show k0_off34 t 1 = 128 * 31 from rfl) ⟨by omega, by omega⟩ ⟨by omega, by omega⟩) $$ HD
  iintro HD
  iapply (hload2 𝒱 (c.tc : Thread nD τ) bd (64 * t.val) (128 * 32) (show k0_off35 t 0 = 64 * t.val from row t) (show k0_off35 t 1 = 128 * 32 from rfl) ⟨by omega, by omega⟩ ⟨by omega, by omega⟩) $$ HD
  iintro HD
  iapply (hload2 𝒱 (c.tc : Thread nD τ) bd (64 * t.val) (128 * 33) (show k0_off36 t 0 = 64 * t.val from row t) (show k0_off36 t 1 = 128 * 33 from rfl) ⟨by omega, by omega⟩ ⟨by omega, by omega⟩) $$ HD
  iintro HD
  iapply (wp_done 𝒱 (c.tc : Thread nD τ) bd)
  iapply Hk
  iexact HD

theorem part4 (v : BitVec 32) (m : FVec F S64x128 .bf16) {Q : (Σ' (w : FVec F S64x128 .bf16), Vec F S64x128 .bf16) → sProp (MT nD τ sig Unit (Elt F) ℕ (Pipeline.UD sig nD τ) ℕ)} :
    D1 arg11 c dy t ⊢ iprop((D1 arg11 c dy t -∗ Q ⟨k0_pay4 m (T1 dy t.val 33) (T1 dy t.val 34) (T1 dy t.val 35) (T1 dy t.val 36) (T1 dy t.val 37) (T1 dy t.val 38) (T1 dy t.val 39) (T1 dy t.val 40) (T1 dy t.val 41) (T1 dy t.val 42) (T1 dy t.val 43) (T1 dy t.val 44), (T1 dy t.val 45)⟩)
        -∗ wp frame (wpE defs 𝒱 (c.tc : Thread nD τ) bd) Set.univ (k0_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v m (T1 dy t.val 33)) Q) := by
  rw [k0_part4_eq_skeleton]
  unfold k0_part4_skel D1
  have ht := lt16' t
  iintro HD Hk
  iapply (hload2 𝒱 (c.tc : Thread nD τ) bd (64 * t.val) (128 * 34) (show k0_off37 t 0 = 64 * t.val from row t) (show k0_off37 t 1 = 128 * 34 from rfl) ⟨by omega, by omega⟩ ⟨by omega, by omega⟩) $$ HD
  iintro HD
  iapply (hload2 𝒱 (c.tc : Thread nD τ) bd (64 * t.val) (128 * 35) (show k0_off38 t 0 = 64 * t.val from row t) (show k0_off38 t 1 = 128 * 35 from rfl) ⟨by omega, by omega⟩ ⟨by omega, by omega⟩) $$ HD
  iintro HD
  iapply (hload2 𝒱 (c.tc : Thread nD τ) bd (64 * t.val) (128 * 36) (show k0_off39 t 0 = 64 * t.val from row t) (show k0_off39 t 1 = 128 * 36 from rfl) ⟨by omega, by omega⟩ ⟨by omega, by omega⟩) $$ HD
  iintro HD
  iapply (hload2 𝒱 (c.tc : Thread nD τ) bd (64 * t.val) (128 * 37) (show k0_off40 t 0 = 64 * t.val from row t) (show k0_off40 t 1 = 128 * 37 from rfl) ⟨by omega, by omega⟩ ⟨by omega, by omega⟩) $$ HD
  iintro HD
  iapply (hload2 𝒱 (c.tc : Thread nD τ) bd (64 * t.val) (128 * 38) (show k0_off41 t 0 = 64 * t.val from row t) (show k0_off41 t 1 = 128 * 38 from rfl) ⟨by omega, by omega⟩ ⟨by omega, by omega⟩) $$ HD
  iintro HD
  iapply (hload2 𝒱 (c.tc : Thread nD τ) bd (64 * t.val) (128 * 39) (show k0_off42 t 0 = 64 * t.val from row t) (show k0_off42 t 1 = 128 * 39 from rfl) ⟨by omega, by omega⟩ ⟨by omega, by omega⟩) $$ HD
  iintro HD
  iapply (hload2 𝒱 (c.tc : Thread nD τ) bd (64 * t.val) (128 * 40) (show k0_off43 t 0 = 64 * t.val from row t) (show k0_off43 t 1 = 128 * 40 from rfl) ⟨by omega, by omega⟩ ⟨by omega, by omega⟩) $$ HD
  iintro HD
  iapply (hload2 𝒱 (c.tc : Thread nD τ) bd (64 * t.val) (128 * 41) (show k0_off44 t 0 = 64 * t.val from row t) (show k0_off44 t 1 = 128 * 41 from rfl) ⟨by omega, by omega⟩ ⟨by omega, by omega⟩) $$ HD
  iintro HD
  iapply (hload2 𝒱 (c.tc : Thread nD τ) bd (64 * t.val) (128 * 42) (show k0_off45 t 0 = 64 * t.val from row t) (show k0_off45 t 1 = 128 * 42 from rfl) ⟨by omega, by omega⟩ ⟨by omega, by omega⟩) $$ HD
  iintro HD
  iapply (hload2 𝒱 (c.tc : Thread nD τ) bd (64 * t.val) (128 * 43) (show k0_off46 t 0 = 64 * t.val from row t) (show k0_off46 t 1 = 128 * 43 from rfl) ⟨by omega, by omega⟩ ⟨by omega, by omega⟩) $$ HD
  iintro HD
  iapply (hload2 𝒱 (c.tc : Thread nD τ) bd (64 * t.val) (128 * 44) (show k0_off47 t 0 = 64 * t.val from row t) (show k0_off47 t 1 = 128 * 44 from rfl) ⟨by omega, by omega⟩ ⟨by omega, by omega⟩) $$ HD
  iintro HD
  iapply (hload2 𝒱 (c.tc : Thread nD τ) bd (64 * t.val) (128 * 45) (show k0_off48 t 0 = 64 * t.val from row t) (show k0_off48 t 1 = 128 * 45 from rfl) ⟨by omega, by omega⟩ ⟨by omega, by omega⟩) $$ HD
  iintro HD
  iapply (wp_done 𝒱 (c.tc : Thread nD τ) bd)
  iapply Hk
  iexact HD

theorem part5 (v : BitVec 32) (m : FVec F S64x128 .bf16) {Q : (Σ' (w : FVec F S64x128 .bf16), Vec F S64x128 .bf16) → sProp (MT nD τ sig Unit (Elt F) ℕ (Pipeline.UD sig nD τ) ℕ)} :
    D1 arg11 c dy t ⊢ iprop((D1 arg11 c dy t -∗ Q ⟨k0_pay5 m (T1 dy t.val 45) (T1 dy t.val 46) (T1 dy t.val 47) (T1 dy t.val 48) (T1 dy t.val 49) (T1 dy t.val 50) (T1 dy t.val 51) (T1 dy t.val 52) (T1 dy t.val 53) (T1 dy t.val 54) (T1 dy t.val 55) (T1 dy t.val 56), (T1 dy t.val 57)⟩)
        -∗ wp frame (wpE defs 𝒱 (c.tc : Thread nD τ) bd) Set.univ (k0_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v m (T1 dy t.val 45)) Q) := by
  rw [k0_part5_eq_skeleton]
  unfold k0_part5_skel D1
  have ht := lt16' t
  iintro HD Hk
  iapply (hload2 𝒱 (c.tc : Thread nD τ) bd (64 * t.val) (128 * 46) (show k0_off49 t 0 = 64 * t.val from row t) (show k0_off49 t 1 = 128 * 46 from rfl) ⟨by omega, by omega⟩ ⟨by omega, by omega⟩) $$ HD
  iintro HD
  iapply (hload2 𝒱 (c.tc : Thread nD τ) bd (64 * t.val) (128 * 47) (show k0_off50 t 0 = 64 * t.val from row t) (show k0_off50 t 1 = 128 * 47 from rfl) ⟨by omega, by omega⟩ ⟨by omega, by omega⟩) $$ HD
  iintro HD
  iapply (hload2 𝒱 (c.tc : Thread nD τ) bd (64 * t.val) (128 * 48) (show k0_off51 t 0 = 64 * t.val from row t) (show k0_off51 t 1 = 128 * 48 from rfl) ⟨by omega, by omega⟩ ⟨by omega, by omega⟩) $$ HD
  iintro HD
  iapply (hload2 𝒱 (c.tc : Thread nD τ) bd (64 * t.val) (128 * 49) (show k0_off52 t 0 = 64 * t.val from row t) (show k0_off52 t 1 = 128 * 49 from rfl) ⟨by omega, by omega⟩ ⟨by omega, by omega⟩) $$ HD
  iintro HD
  iapply (hload2 𝒱 (c.tc : Thread nD τ) bd (64 * t.val) (128 * 50) (show k0_off53 t 0 = 64 * t.val from row t) (show k0_off53 t 1 = 128 * 50 from rfl) ⟨by omega, by omega⟩ ⟨by omega, by omega⟩) $$ HD
  iintro HD
  iapply (hload2 𝒱 (c.tc : Thread nD τ) bd (64 * t.val) (128 * 51) (show k0_off54 t 0 = 64 * t.val from row t) (show k0_off54 t 1 = 128 * 51 from rfl) ⟨by omega, by omega⟩ ⟨by omega, by omega⟩) $$ HD
  iintro HD
  iapply (hload2 𝒱 (c.tc : Thread nD τ) bd (64 * t.val) (128 * 52) (show k0_off55 t 0 = 64 * t.val from row t) (show k0_off55 t 1 = 128 * 52 from rfl) ⟨by omega, by omega⟩ ⟨by omega, by omega⟩) $$ HD
  iintro HD
  iapply (hload2 𝒱 (c.tc : Thread nD τ) bd (64 * t.val) (128 * 53) (show k0_off56 t 0 = 64 * t.val from row t) (show k0_off56 t 1 = 128 * 53 from rfl) ⟨by omega, by omega⟩ ⟨by omega, by omega⟩) $$ HD
  iintro HD
  iapply (hload2 𝒱 (c.tc : Thread nD τ) bd (64 * t.val) (128 * 54) (show k0_off57 t 0 = 64 * t.val from row t) (show k0_off57 t 1 = 128 * 54 from rfl) ⟨by omega, by omega⟩ ⟨by omega, by omega⟩) $$ HD
  iintro HD
  iapply (hload2 𝒱 (c.tc : Thread nD τ) bd (64 * t.val) (128 * 55) (show k0_off58 t 0 = 64 * t.val from row t) (show k0_off58 t 1 = 128 * 55 from rfl) ⟨by omega, by omega⟩ ⟨by omega, by omega⟩) $$ HD
  iintro HD
  iapply (hload2 𝒱 (c.tc : Thread nD τ) bd (64 * t.val) (128 * 56) (show k0_off59 t 0 = 64 * t.val from row t) (show k0_off59 t 1 = 128 * 56 from rfl) ⟨by omega, by omega⟩ ⟨by omega, by omega⟩) $$ HD
  iintro HD
  iapply (hload2 𝒱 (c.tc : Thread nD τ) bd (64 * t.val) (128 * 57) (show k0_off60 t 0 = 64 * t.val from row t) (show k0_off60 t 1 = 128 * 57 from rfl) ⟨by omega, by omega⟩ ⟨by omega, by omega⟩) $$ HD
  iintro HD
  iapply (wp_done 𝒱 (c.tc : Thread nD τ) bd)
  iapply Hk
  iexact HD

theorem part6 (v : BitVec 32) (m : FVec F S64x128 .bf16) {Q : (Σ' (w : FVec F S64x128 .bf16), Vec F S64x128 .bf16) → sProp (MT nD τ sig Unit (Elt F) ℕ (Pipeline.UD sig nD τ) ℕ)} :
    D1 arg11 c dy t ⊢ iprop((D1 arg11 c dy t -∗ Q ⟨k0_pay6 m (T1 dy t.val 57) (T1 dy t.val 58) (T1 dy t.val 59) (T1 dy t.val 60) (T1 dy t.val 61) (T1 dy t.val 62) (T1 dy t.val 63) (T1 dy t.val 64) (T1 dy t.val 65) (T1 dy t.val 66) (T1 dy t.val 67) (T1 dy t.val 68), (T1 dy t.val 69)⟩)
        -∗ wp frame (wpE defs 𝒱 (c.tc : Thread nD τ) bd) Set.univ (k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v m (T1 dy t.val 57)) Q) := by
  rw [k0_part6_eq_skeleton]
  unfold k0_part6_skel D1
  have ht := lt16' t
  iintro HD Hk
  iapply (hload2 𝒱 (c.tc : Thread nD τ) bd (64 * t.val) (128 * 58) (show k0_off61 t 0 = 64 * t.val from row t) (show k0_off61 t 1 = 128 * 58 from rfl) ⟨by omega, by omega⟩ ⟨by omega, by omega⟩) $$ HD
  iintro HD
  iapply (hload2 𝒱 (c.tc : Thread nD τ) bd (64 * t.val) (128 * 59) (show k0_off62 t 0 = 64 * t.val from row t) (show k0_off62 t 1 = 128 * 59 from rfl) ⟨by omega, by omega⟩ ⟨by omega, by omega⟩) $$ HD
  iintro HD
  iapply (hload2 𝒱 (c.tc : Thread nD τ) bd (64 * t.val) (128 * 60) (show k0_off63 t 0 = 64 * t.val from row t) (show k0_off63 t 1 = 128 * 60 from rfl) ⟨by omega, by omega⟩ ⟨by omega, by omega⟩) $$ HD
  iintro HD
  iapply (hload2 𝒱 (c.tc : Thread nD τ) bd (64 * t.val) (128 * 61) (show k0_off64 t 0 = 64 * t.val from row t) (show k0_off64 t 1 = 128 * 61 from rfl) ⟨by omega, by omega⟩ ⟨by omega, by omega⟩) $$ HD
  iintro HD
  iapply (hload2 𝒱 (c.tc : Thread nD τ) bd (64 * t.val) (128 * 62) (show k0_off65 t 0 = 64 * t.val from row t) (show k0_off65 t 1 = 128 * 62 from rfl) ⟨by omega, by omega⟩ ⟨by omega, by omega⟩) $$ HD
  iintro HD
  iapply (hload2 𝒱 (c.tc : Thread nD τ) bd (64 * t.val) (128 * 63) (show k0_off66 t 0 = 64 * t.val from row t) (show k0_off66 t 1 = 128 * 63 from rfl) ⟨by omega, by omega⟩ ⟨by omega, by omega⟩) $$ HD
  iintro HD
  iapply (hload2 𝒱 (c.tc : Thread nD τ) bd (64 * t.val) (128 * 64) (show k0_off67 t 0 = 64 * t.val from row t) (show k0_off67 t 1 = 128 * 64 from rfl) ⟨by omega, by omega⟩ ⟨by omega, by omega⟩) $$ HD
  iintro HD
  iapply (hload2 𝒱 (c.tc : Thread nD τ) bd (64 * t.val) (128 * 65) (show k0_off68 t 0 = 64 * t.val from row t) (show k0_off68 t 1 = 128 * 65 from rfl) ⟨by omega, by omega⟩ ⟨by omega, by omega⟩) $$ HD
  iintro HD
  iapply (hload2 𝒱 (c.tc : Thread nD τ) bd (64 * t.val) (128 * 66) (show k0_off69 t 0 = 64 * t.val from row t) (show k0_off69 t 1 = 128 * 66 from rfl) ⟨by omega, by omega⟩ ⟨by omega, by omega⟩) $$ HD
  iintro HD
  iapply (hload2 𝒱 (c.tc : Thread nD τ) bd (64 * t.val) (128 * 67) (show k0_off70 t 0 = 64 * t.val from row t) (show k0_off70 t 1 = 128 * 67 from rfl) ⟨by omega, by omega⟩ ⟨by omega, by omega⟩) $$ HD
  iintro HD
  iapply (hload2 𝒱 (c.tc : Thread nD τ) bd (64 * t.val) (128 * 68) (show k0_off71 t 0 = 64 * t.val from row t) (show k0_off71 t 1 = 128 * 68 from rfl) ⟨by omega, by omega⟩ ⟨by omega, by omega⟩) $$ HD
  iintro HD
  iapply (hload2 𝒱 (c.tc : Thread nD τ) bd (64 * t.val) (128 * 69) (show k0_off72 t 0 = 64 * t.val from row t) (show k0_off72 t 1 = 128 * 69 from rfl) ⟨by omega, by omega⟩ ⟨by omega, by omega⟩) $$ HD
  iintro HD
  iapply (wp_done 𝒱 (c.tc : Thread nD τ) bd)
  iapply Hk
  iexact HD

theorem part7 (v : BitVec 32) (m : FVec F S64x128 .bf16) {Q : (Σ' (w : FVec F S64x128 .bf16), Vec F S64x128 .bf16) → sProp (MT nD τ sig Unit (Elt F) ℕ (Pipeline.UD sig nD τ) ℕ)} :
    D1 arg11 c dy t ⊢ iprop((D1 arg11 c dy t -∗ Q ⟨k0_pay7 m (T1 dy t.val 69) (T1 dy t.val 70) (T1 dy t.val 71) (T1 dy t.val 72) (T1 dy t.val 73) (T1 dy t.val 74) (T1 dy t.val 75) (T1 dy t.val 76) (T1 dy t.val 77) (T1 dy t.val 78) (T1 dy t.val 79) (T1 dy t.val 80), (T1 dy t.val 81)⟩)
        -∗ wp frame (wpE defs 𝒱 (c.tc : Thread nD τ) bd) Set.univ (k0_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v m (T1 dy t.val 69)) Q) := by
  rw [k0_part7_eq_skeleton]
  unfold k0_part7_skel D1
  have ht := lt16' t
  iintro HD Hk
  iapply (hload2 𝒱 (c.tc : Thread nD τ) bd (64 * t.val) (128 * 70) (show k0_off73 t 0 = 64 * t.val from row t) (show k0_off73 t 1 = 128 * 70 from rfl) ⟨by omega, by omega⟩ ⟨by omega, by omega⟩) $$ HD
  iintro HD
  iapply (hload2 𝒱 (c.tc : Thread nD τ) bd (64 * t.val) (128 * 71) (show k0_off74 t 0 = 64 * t.val from row t) (show k0_off74 t 1 = 128 * 71 from rfl) ⟨by omega, by omega⟩ ⟨by omega, by omega⟩) $$ HD
  iintro HD
  iapply (hload2 𝒱 (c.tc : Thread nD τ) bd (64 * t.val) (128 * 72) (show k0_off75 t 0 = 64 * t.val from row t) (show k0_off75 t 1 = 128 * 72 from rfl) ⟨by omega, by omega⟩ ⟨by omega, by omega⟩) $$ HD
  iintro HD
  iapply (hload2 𝒱 (c.tc : Thread nD τ) bd (64 * t.val) (128 * 73) (show k0_off76 t 0 = 64 * t.val from row t) (show k0_off76 t 1 = 128 * 73 from rfl) ⟨by omega, by omega⟩ ⟨by omega, by omega⟩) $$ HD
  iintro HD
  iapply (hload2 𝒱 (c.tc : Thread nD τ) bd (64 * t.val) (128 * 74) (show k0_off77 t 0 = 64 * t.val from row t) (show k0_off77 t 1 = 128 * 74 from rfl) ⟨by omega, by omega⟩ ⟨by omega, by omega⟩) $$ HD
  iintro HD
  iapply (hload2 𝒱 (c.tc : Thread nD τ) bd (64 * t.val) (128 * 75) (show k0_off78 t 0 = 64 * t.val from row t) (show k0_off78 t 1 = 128 * 75 from rfl) ⟨by omega, by omega⟩ ⟨by omega, by omega⟩) $$ HD
  iintro HD
  iapply (hload2 𝒱 (c.tc : Thread nD τ) bd (64 * t.val) (128 * 76) (show k0_off79 t 0 = 64 * t.val from row t) (show k0_off79 t 1 = 128 * 76 from rfl) ⟨by omega, by omega⟩ ⟨by omega, by omega⟩) $$ HD
  iintro HD
  iapply (hload2 𝒱 (c.tc : Thread nD τ) bd (64 * t.val) (128 * 77) (show k0_off80 t 0 = 64 * t.val from row t) (show k0_off80 t 1 = 128 * 77 from rfl) ⟨by omega, by omega⟩ ⟨by omega, by omega⟩) $$ HD
  iintro HD
  iapply (hload2 𝒱 (c.tc : Thread nD τ) bd (64 * t.val) (128 * 78) (show k0_off81 t 0 = 64 * t.val from row t) (show k0_off81 t 1 = 128 * 78 from rfl) ⟨by omega, by omega⟩ ⟨by omega, by omega⟩) $$ HD
  iintro HD
  iapply (hload2 𝒱 (c.tc : Thread nD τ) bd (64 * t.val) (128 * 79) (show k0_off82 t 0 = 64 * t.val from row t) (show k0_off82 t 1 = 128 * 79 from rfl) ⟨by omega, by omega⟩ ⟨by omega, by omega⟩) $$ HD
  iintro HD
  iapply (hload2 𝒱 (c.tc : Thread nD τ) bd (64 * t.val) (128 * 80) (show k0_off83 t 0 = 64 * t.val from row t) (show k0_off83 t 1 = 128 * 80 from rfl) ⟨by omega, by omega⟩ ⟨by omega, by omega⟩) $$ HD
  iintro HD
  iapply (hload2 𝒱 (c.tc : Thread nD τ) bd (64 * t.val) (128 * 81) (show k0_off84 t 0 = 64 * t.val from row t) (show k0_off84 t 1 = 128 * 81 from rfl) ⟨by omega, by omega⟩ ⟨by omega, by omega⟩) $$ HD
  iintro HD
  iapply (wp_done 𝒱 (c.tc : Thread nD τ) bd)
  iapply Hk
  iexact HD

/-- The loop's invariant: `n` bands at hand, the others in flight, the running maximum theirs. -/
def I1 (n : ℕ) (m : FVec F S64x128 .bf16) : sProp 𝕄 :=
  iprop(⌜m = amF dy n⌝ ∗ B1 arg2 arg11 arg17 c dy q₂ (16 - n) n ∗ ∃ W, owes (c.tc : Thread nD τ) 0 W)

theorem t1_body (v122 : FVec F S1024x4096 .f32) (m : FVec F S64x128 .bf16) :
    I1 arg2 arg11 arg17 c dy q₂ t.val m ⊢ wp frame (wpE defs 𝒱 (c.tc : Thread nD τ) bd) Set.univ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 v122 t m) (fun m' => I1 arg2 arg11 arg17 c dy q₂ (t.val + 1) m') := by
  unfold k0_t1_body I1
  have ht := lt16' t
  rw [show 16 - t.val = 16 - (t.val + 1) + 1 by omega]
  iintro ⟨%hm, HB, HO⟩
  subst hm
  rw [wp_bind]
  iapply (part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd dy q₂ t (amF dy t.val)) $$ [HB HO]
  · isplitl [HB]; · iexact HB
    iexact HO
  unfold B1 Come
  iintro %v334 ⟨⟨HB, HD, HS, HC⟩, HO⟩
  rw [wp_bind]
  iapply (part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd dy t v334 _) $$ [HD]
  · unfold D1; iexact HD
  iintro HD
  rw [wp_bind]
  iapply (part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd dy t v334 _) $$ [HD]
  · unfold D1; iexact HD
  iintro HD
  rw [wp_bind]
  iapply (part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd dy t v334 _) $$ [HD]
  · unfold D1; iexact HD
  iintro HD
  rw [wp_bind]
  iapply (part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd dy t v334 _) $$ [HD]
  · unfold D1; iexact HD
  iintro HD
  rw [wp_bind]
  iapply (part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd dy t v334 _) $$ [HD]
  · unfold D1; iexact HD
  iintro HD
  rw [wp_bind]
  iapply (part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd dy t v334 _) $$ [HD]
  · unfold D1; iexact HD
  iintro HD
  unfold D1
  iapply (hload2 𝒱 (c.tc : Thread nD τ) bd (64 * t.val) (128 * 82) (show k0_off85 t 0 = 64 * t.val from row t) (show k0_off85 t 1 = 128 * 82 from rfl) ⟨by omega, by omega⟩ ⟨by omega, by omega⟩) $$ HD
  iintro HD
  iapply (hload2 𝒱 (c.tc : Thread nD τ) bd (64 * t.val) (128 * 83) (show k0_off86 t 0 = 64 * t.val from row t) (show k0_off86 t 1 = 128 * 83 from rfl) ⟨by omega, by omega⟩ ⟨by omega, by omega⟩) $$ HD
  iintro HD
  iapply (hload2 𝒱 (c.tc : Thread nD τ) bd (64 * t.val) (128 * 84) (show k0_off87 t 0 = 64 * t.val from row t) (show k0_off87 t 1 = 128 * 84 from rfl) ⟨by omega, by omega⟩ ⟨by omega, by omega⟩) $$ HD
  iintro HD
  iapply (hload2 𝒱 (c.tc : Thread nD τ) bd (64 * t.val) (128 * 85) (show k0_off88 t 0 = 64 * t.val from row t) (show k0_off88 t 1 = 128 * 85 from rfl) ⟨by omega, by omega⟩ ⟨by omega, by omega⟩) $$ HD
  iintro HD
  iapply (wp_done 𝒱 (c.tc : Thread nD τ) bd)
  isplitr
  · ipureintro; rfl
  isplitr [HO]
  · isplitl [HB]; · iexact HB
    isplitl [HD]; · iexact HD
    isplitl [HS]; · iexact HS
    iexact HC
  iexact HO

end Cert.Kernel.Hand
-- ==== Proof.KChunk.lean ====
/-
  One column chunk of the weight gradient through a trip of the loop over blocks. A chunk's slots of the staging ring are at
  the head of trip `o` in three roles (`CH`): the block before is being carried out, the block of this trip and the next are
  being filled. The lemmas move the chunk from one trip's head to the next.
-/
module

public import proofs.«01_k».proof.Proof.KBase

@[expose] public section

set_option maxRecDepth 16384

noncomputable section

namespace Cert.Kernel.Hand

open Cert.Kernel Cert.Kernel.Gen Cert.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (arg5 arg7 : Memref sig .tc .hbm S11008x4096 .f32) (arg15 : Memref sig .tc .vmem S12x256x1024 .f32) (arg21 arg22 : DmaSems sig S12)
variable (c : Dev nD) (K : In F) (q₅ : PosShare TreeShare) (F₀ : ℕ → ℕ → Elt F .f32)

/-- Block `k` of chunk `n` being filled. -/
def RI (n k : ℕ) : sProp 𝕄 := RoleIn (c.tc : Thread nD τ) arg5 arg15 arg21 q₅ K.mg (4 * (k % 3) + n) (256 * k) (1024 * n) 11008

/-- Block `k - 3` of chunk `n` being carried out, in the slot of block `k`. -/
def RO (n k : ℕ) : sProp 𝕄 :=
  RoleOut (c.tc : Thread nD τ) (3 ≤ k) arg15 arg22 (cr arg7 ⟨2, ![256, 1024]⟩) (4 * (k % 3) + n)
    (H2 (c.tc : Thread nD τ) arg7 fullShare (256 * (k - 3)) (256 * (k - 3) + 256) (1024 * n) (1024 * n + 1024) (moF K)) (moT K (k - 3) n)

/-- The cell of the fills of block `k` of chunk `n`, at zero. -/
def IS (n k : ℕ) : sProp 𝕄 := semVal ((c.tc : Thread nD τ), .dma (semAt arg21 (4 * (k % 3) + n))) 0
/-- The cell of the carries of block `k` of chunk `n`, at zero. -/
def OS (n k : ℕ) : sProp 𝕄 := semVal ((c.tc : Thread nD τ), .dma (semAt arg22 (4 * (k % 3) + n))) 0
/-- The rows of the gradient read from block `k` on. -/
def MGN (n k : ℕ) : sProp 𝕄 := H2 (c.tc : Thread nD τ) arg5 q₅ (256 * k) 11008 (1024 * n) (1024 * n + 1024) K.mg
/-- The rows of the gradient read before block `k`. -/
def MGD (n k : ℕ) : sProp 𝕄 := H2 (c.tc : Thread nD τ) arg5 q₅ 0 (256 * k) (1024 * n) (1024 * n + 1024) K.mg
/-- The rows of the gradient written from block `k` on. -/
def MON (n k : ℕ) : sProp 𝕄 := H2 (c.tc : Thread nD τ) arg7 fullShare (256 * k) 11008 (1024 * n) (1024 * n + 1024) F₀
/-- The rows of the gradient written before block `k`. -/
def MOD (n k : ℕ) : sProp 𝕄 := H2 (c.tc : Thread nD τ) arg7 fullShare 0 (256 * k) (1024 * n) (1024 * n + 1024) (moF K)

/-- What a chunk holds of this trip and the next, up to the wait of this trip's fill. -/
def C0 (n o : ℕ) : sProp 𝕄 :=
  iprop(RI arg5 arg15 arg21 c K q₅ n o ∗ MGD arg5 c K q₅ n o ∗ OS arg22 c n o ∗ MON arg7 c F₀ n o ∗ RI arg5 arg15 arg21 c K q₅ n (o + 1) ∗ OS arg22 c n (o + 1))

/-- A chunk at the head of trip `o`. -/
def CH (n o : ℕ) : sProp 𝕄 :=
  iprop(RO arg7 arg15 arg22 c K n (o + 2) ∗ MOD arg7 c K n (o - 1) ∗ IS arg21 c n (o + 2) ∗ MGN arg5 c K q₅ n (o + 2) ∗ C0 arg5 arg7 arg15 arg21 arg22 c K q₅ F₀ n o)

/-- After the block before is carried out. -/
def M0 (n o : ℕ) : sProp 𝕄 :=
  iprop(Slot (c.tc : Thread nD τ) arg15 arg22 (4 * ((o + 2) % 3) + n) ∗ MOD arg7 c K n o ∗ IS arg21 c n (o + 2) ∗ MGN arg5 c K q₅ n (o + 2) ∗ C0 arg5 arg7 arg15 arg21 arg22 c K q₅ F₀ n o)

/-- After the fill of the block after next is started. -/
def M1 (n o : ℕ) : sProp 𝕄 :=
  iprop(C0 arg5 arg7 arg15 arg21 arg22 c K q₅ F₀ n o ∗ RI arg5 arg15 arg21 c K q₅ n (o + 2) ∗ OS arg22 c n (o + 2) ∗ MGN arg5 c K q₅ n (o + 3) ∗ MOD arg7 c K n o)

/-- What the chunk holds while its slot is in use. -/
def MT0 (n o : ℕ) : sProp 𝕄 :=
  iprop(IS arg21 c n o ∗ MGD arg5 c K q₅ n (o + 1) ∗ OS arg22 c n o ∗ MON arg7 c F₀ n o ∗ RI arg5 arg15 arg21 c K q₅ n (o + 1) ∗ OS arg22 c n (o + 1)
    ∗ RI arg5 arg15 arg21 c K q₅ n (o + 2) ∗ OS arg22 c n (o + 2) ∗ MGN arg5 c K q₅ n (o + 3) ∗ MOD arg7 c K n o)

/-- The slot of block `o` of chunk `n`, as filled. -/
def SG (n o : ℕ) : sProp 𝕄 := H3 (c.tc : Thread nD τ) arg15 fullShare (4 * (o % 3) + n) (fun i j => K.mg (256 * o + i) (1024 * n + j))
/-- The slot of block `o` of chunk `n`, at the block of the result. -/
def SM (n o : ℕ) : sProp 𝕄 := H3 (c.tc : Thread nD τ) arg15 fullShare (4 * (o % 3) + n) (moT K o n)

variable {defs : Defs nD τ sig (Elt F) Λ₀} (𝒱 : Variants) (bd : Option 𝒱.V) {α : Type}
variable {Q : α → sProp (MT nD τ sig Unit (Elt F) ℕ (Pipeline.UD sig nD τ) ℕ)} (n o : ℕ)

/-- The wait for the block before to be carried out. -/
theorem chOut {κ' : Kind} {sp' : Space} {s₁ s₂ : Shape} {e' : EltTy} {C : Prop} [Decidable C] (hC : C ↔ 1 ≤ o)
    {sem : C → DmaSem sig} {srcw : C → Memref sig .tc .vmem s₁ e'} {dstw : C → Memref sig κ' sp' s₂ e'} {hsrc : ∀ h, (srcw h).view.WordExact} {hdst : ∀ h, (dstw h).view.WordExact}
    {KK : Prog (TpuEff nD τ sig (Elt F) Λ₀ .tc) α}
    (hsm : ∀ h, sem h = semAt arg22 (4 * ((o + 2) % 3) + n)) (hN : ∀ h, (dstw h).view.dmaCredit = cr arg7 ⟨2, ![256, 1024]⟩) :
    iprop(CH arg5 arg7 arg15 arg21 arg22 c K q₅ F₀ n o ∗ ∃ W, owes (c.tc : Thread nD τ) 0 W)
      ⊢ iprop((iprop(M0 arg5 arg7 arg15 arg21 arg22 c K q₅ F₀ n o ∗ ∃ W, owes (c.tc : Thread nD τ) 0 W) -∗ wp frame (wpE defs 𝒱 (c.tc : Thread nD τ) bd) Set.univ KK Q)
        -∗ wp frame (wpE defs 𝒱 (c.tc : Thread nD τ) bd) Set.univ (if h : C then .op (.waitDma2 (sem h) (srcw h) (dstw h) (hsrc h) (hdst h)) (fun _ => KK) else KK) Q) := by
  unfold CH M0 RO MOD
  iintro ⟨⟨HR, HD, HS, HN, H0⟩, HO⟩ Hk
  iapply (gWaitOut 𝒱 (c.tc : Thread nD τ) bd (hC.trans (by omega : 1 ≤ o ↔ 3 ≤ o + 2)) (D' := H2 (c.tc : Thread nD τ) arg7 fullShare 0 (256 * o) (1024 * n) (1024 * n + 1024) (moF K))
    (D := H2 (c.tc : Thread nD τ) arg7 fullShare 0 (256 * (o - 1)) (1024 * n) (1024 * n + 1024) (moF K))
    (B := H2 (c.tc : Thread nD τ) arg7 fullShare (256 * (o + 2 - 3)) (256 * (o + 2 - 3) + 256) (1024 * n) (1024 * n + 1024) (moF K)) (R := arg15) (S := arg22) hsm hN ?hj ?hn) $$ [HR HD HO]
  case hj =>
    intro h
    rw [show o + 2 - 3 = o - 1 by omega, show 256 * o = 256 * (o - 1) + 256 by omega]
    iintro ⟨HB, HD⟩
    iapply (H2_joinRows (Nat.zero_le _) (Nat.le_add_right _ _) (fun _ _ _ _ _ _ => rfl) (fun _ _ _ _ _ _ => rfl))
    isplitl [HD]; · iexact HD
    iexact HB
  case hn =>
    intro h
    exact H2_void (Or.inl (by omega)) (Or.inl (by omega))
  · isplitl [HR]; · iexact HR
    isplitl [HD]; · iexact HD
    iexact HO
  iintro ⟨HR, HD, HO⟩
  iapply Hk
  isplitl [HR HD HS HN H0]
  · isplitl [HR]; · iexact HR
    isplitl [HD]; · iexact HD
    isplitl [HS]; · iexact HS
    isplitl [HN]; · iexact HN
    iexact H0
  iexact HO

/-- The start of the fill of the block after next. -/
theorem chIn {C : Prop} [Decidable C] {P : C → Prog (TpuEff nD τ sig (Elt F) Λ₀ .tc) α} {KK : Prog (TpuEff nD τ sig (Elt F) Λ₀ .tc) α}
    (hC : C ↔ 256 * (o + 2) + 256 ≤ 11008)
    (hp : ∀ h G, iprop(H2 (c.tc : Thread nD τ) arg5 q₅ (256 * (o + 2)) (256 * (o + 2) + 256) (1024 * n) (1024 * n + 1024) K.mg ∗ H3 (c.tc : Thread nD τ) arg15 fullShare (4 * ((o + 2) % 3) + n) G
        ∗ semVal ((c.tc : Thread nD τ), .dma (semAt arg21 (4 * ((o + 2) % 3) + n))) 0)
      ⊢ iprop((FlIn (c.tc : Thread nD τ) arg5 arg15 arg21 q₅ K.mg (4 * ((o + 2) % 3) + n) (256 * (o + 2)) (1024 * n) -∗ wp frame (wpE defs 𝒱 (c.tc : Thread nD τ) bd) Set.univ KK Q)
        -∗ wp frame (wpE defs 𝒱 (c.tc : Thread nD τ) bd) Set.univ (P h) Q)) :
    iprop(M0 arg5 arg7 arg15 arg21 arg22 c K q₅ F₀ n o)
      ⊢ iprop((M1 arg5 arg7 arg15 arg21 arg22 c K q₅ F₀ n o -∗ wp frame (wpE defs 𝒱 (c.tc : Thread nD τ) bd) Set.univ KK Q)
        -∗ wp frame (wpE defs 𝒱 (c.tc : Thread nD τ) bd) Set.univ (if h : C then P h else KK) Q) := by
  unfold M0 M1 IS MGN RI OS
  rw [show 256 * (o + 3) = 256 * (o + 2) + 256 by omega]
  iintro ⟨HR, HD, HS, HN, H0⟩ Hk
  unfold Slot
  icases HR with ⟨HG, HV⟩
  iapply (gStartIn 𝒱 (c.tc : Thread nD τ) bd (S := arg21) (l := 11008) hC (by omega) hp) $$ [HG HS HN]
  · unfold Slot
    isplitl [HG HS]
    · isplitl [HG]; · iexact HG
      iexact HS
    iexact HN
  iintro ⟨HR, HN⟩
  iapply Hk
  isplitl [H0]; · iexact H0
  isplitl [HR]; · iexact HR
  isplitl [HV]; · iexact HV
  isplitl [HN]; · iexact HN
  iexact HD

/-- The wait for this trip's block to be filled. -/
theorem chWait {κ' : Kind} {s₁ s₂ : Shape} {e' : EltTy}
    {sem : DmaSem sig} {srcw : Memref sig .tc .hbm s₁ e'} {dstw : Memref sig κ' .vmem s₂ e'} {hsrc : srcw.view.WordExact} {hdst : dstw.view.WordExact}
    {KK : PUnit → Prog (TpuEff nD τ sig (Elt F) Λ₀ .tc) α}
    (ho : o < 43) (hsm : sem = semAt arg21 (4 * (o % 3) + n)) (hN : dstw.view.dmaCredit = cr arg15 ⟨2, ![256, 1024]⟩) :
    iprop(M1 arg5 arg7 arg15 arg21 arg22 c K q₅ F₀ n o ∗ ∃ W, owes (c.tc : Thread nD τ) 0 W)
      ⊢ iprop((iprop(SG arg15 c K n o ∗ MT0 arg5 arg7 arg15 arg21 arg22 c K q₅ F₀ n o ∗ ∃ W, owes (c.tc : Thread nD τ) 0 W)
          -∗ wp frame (wpE defs 𝒱 (c.tc : Thread nD τ) bd) Set.univ (KK ⟨⟩) Q)
        -∗ wp frame (wpE defs 𝒱 (c.tc : Thread nD τ) bd) Set.univ (.op (.waitDma2 sem srcw dstw hsrc hdst) KK) Q) := by
  unfold M1 C0 MT0 SG RI MGD IS
  rw [show ∀ x, 256 * (x + 1) = 256 * x + 256 from fun x => by omega]
  iintro ⟨⟨⟨HI, HD, HOS, HMN, HI1, HOS1⟩, HR⟩, HO⟩ Hk
  iapply (waitIn 𝒱 (c.tc : Thread nD τ) bd (A := arg5) (R := arg15) (q := q₅) (F := K.mg) (r := 256 * o) (s := 1024 * n) (l := 11008) (by omega) hsm hN) $$ [HI HD HO]
  · isplitl [HI]; · iexact HI
    isplitl [HD]; · iexact HD
    iexact HO
  iintro ⟨HG, HV, HD, HO⟩
  iapply Hk
  isplitl [HG]; · iexact HG
  isplitr [HO]
  · isplitl [HV]; · iexact HV
    isplitl [HD]; · iexact HD
    isplitl [HOS]; · iexact HOS
    isplitl [HMN]; · iexact HMN
    isplitl [HI1]; · iexact HI1
    isplitl [HOS1]; · iexact HOS1
    iexact HR
  iexact HO

/-- The start of this trip's block's way out. -/
theorem chGo {od : Fin 2 → ℕ} {os : Fin 3 → ℕ}
    {hbd : ∀ i, od i + S256x1024.size i ≤ S11008x4096.size i}
    {hbs : ∀ i, os i + S1x256x1024.size i ≤ S12x256x1024.size i} {hrs hrd} {hq : S1x256x1024.Squeezes S256x1024}
    {sm : DmaSem sig} {hsrc hdst hsem} {KK : PUnit → Prog (TpuEff nD τ sig (Elt F) Λ₀ .tc) α}
    (ho : o < 43) (hsm : sm = semAt arg22 (4 * (o % 3) + n)) (hs₀ : os 0 = 4 * (o % 3) + n) (hd : od 0 = 256 * o ∧ od 1 = 1024 * n) :
    iprop(SM arg15 c K n o ∗ MT0 arg5 arg7 arg15 arg21 arg22 c K q₅ F₀ n o)
      ⊢ iprop((CH arg5 arg7 arg15 arg21 arg22 c K q₅ F₀ n (o + 1) -∗ wp frame (wpE defs 𝒱 (c.tc : Thread nD τ) bd) Set.univ (KK ⟨⟩) Q)
        -∗ wp frame (wpE defs 𝒱 (c.tc : Thread nD τ) bd) Set.univ (.op (.enqueueDma ((arg15.slice (Rect.unit (s := S12x256x1024) os S1x256x1024.size hbs) hrs).squeeze S256x1024 hq)
              (.here (arg7.slice (Rect.unit (s := S11008x4096) od S256x1024.size hbd) hrd)) (.dma sm) hsrc hdst hsem) KK) Q) := by
  unfold SM MT0 CH C0 OS MON
  rw [show 256 * (o + 1) = 256 * o + 256 by omega]
  iintro ⟨HG, HIS, HD, HOS, HMN, HI1, HOS1, HI2, HOS2, HGN, HMD⟩ Hk
  ihave HMN := (H2_rows (256 * o + 256) (by omega) (by omega)) $$ HMN
  icases HMN with ⟨HB, HMN⟩
  iapply (hdma32 𝒱 (c.tc : Thread nD τ) bd (moF K) (4 * (o % 3) + n) (256 * o) (1024 * n) hs₀ hd.1 hd.2 hsm
    (fun i j hi hj => moF_at K o n i j hi hj) (by decide)) $$ [HG HB HOS]
  · isplitl [HG]; · iexact HG
    isplitl [HB]; · iexact HB
    iexact HOS
  iintro HF
  iapply Hk
  isplitl [HF]
  · unfold RO RoleOut
    rw [if_pos (by omega), show o + 1 + 2 - 3 = o by omega, show (o + 1 + 2) % 3 = o % 3 by omega]
    iexact HF
  isplitl [HMD]; · iexact HMD
  isplitl [HIS]
  · unfold IS; rw [show (o + 1 + 2) % 3 = o % 3 by omega]; iexact HIS
  isplitl [HGN]; · iexact HGN
  isplitl [HI1]; · iexact HI1
  isplitl [HD]; · iexact HD
  isplitl [HOS1]; · iexact HOS1
  isplitl [HMN]; · iexact HMN
  isplitl [HI2]; · iexact HI2
  iexact HOS2

end Cert.Kernel.Hand
-- ==== Proof.KTrip.lean ====
module

public import proofs.«01_k».proof.Proof.KChunk

@[expose] public section

set_option maxRecDepth 16384

noncomputable section

namespace Cert.Kernel.Hand

open Cert.Kernel Cert.Kernel.Gen Cert.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (arg0 : Memref sig .tc .smem S1x1 .f32) (harg0 : arg0.IsWhole) (arg1 : Memref sig .tc .smem S1x1 .f32) (harg1 : arg1.IsWhole)
  (arg2 : Memref sig .tc .hbm S1024x11008 .bf16) (harg2 : arg2.IsWhole) (arg3 : Memref sig .tc .hbm S1024x4096 .fp8e4m3) (harg3 : arg3.IsWhole)
  (arg4 : Memref sig .tc .hbm S11008x4096 .fp8e4m3) (harg4 : arg4.IsWhole) (arg5 : Memref sig .tc .hbm S11008x4096 .f32) (harg5 : arg5.IsWhole)
  (arg6 : Memref sig .tc .hbm S1024x4096 .bf16) (harg6 : arg6.IsWhole) (arg7 : Memref sig .tc .hbm S11008x4096 .f32) (harg7 : arg7.IsWhole)
  (arg8 : Memref sig .tc .smem S1x1 .f32) (harg8 : arg8.IsWhole) (arg9 : Memref sig .tc .hbm S1024x11008 .fp8e5m2) (harg9 : arg9.IsWhole)
  (arg10 : Memref sig .tc .smem S1x1 .f32) (harg10 : arg10.IsWhole) (arg11 : Memref sig .tc .vmem S1024x11008 .bf16) (harg11 : arg11.IsWhole)
  (arg12 : Memref sig .tc .vmem S1024x4096 .fp8e4m3) (harg12 : arg12.IsWhole) (arg13 : Memref sig .tc .vmem S3x256x4096 .fp8e4m3) (harg13 : arg13.IsWhole)
  (arg14 : Memref sig .tc .vmem S2x1024x256 .fp8e5m2) (harg14 : arg14.IsWhole) (arg15 : Memref sig .tc .vmem S12x256x1024 .f32) (harg15 : arg15.IsWhole)
  (arg16 : Memref sig .tc .vmem S1024x4096 .f32) (harg16 : arg16.IsWhole) (arg17 : DmaSems sig S16) (arg18 : DmaSems sig S_) (arg19 : DmaSems sig S3)
  (arg20 : DmaSems sig S2) (arg21 : DmaSems sig S12) (arg22 : DmaSems sig S12) (arg23 : DmaSems sig S8)
variable {defs : Defs nD τ sig (Elt F) Λ₀} (𝒱 : Variants) (c : Dev nD) (bd : Option 𝒱.V)
variable (K : In F) (q₄ q₅ : PosShare TreeShare) (t : Fin k0_t2_loop.trips)

/-- The codes' slot at trip `o`: in flight from two trips before, or free. -/
def RC (o : ℕ) : sProp 𝕄 :=
  RoleOutH (c.tc : Thread nD τ) (2 ≤ o) arg14 arg20 (cr arg9 ⟨2, ![1024, 256]⟩) (o % 2)
    (H2 (c.tc : Thread nD τ) arg9 fullShare 0 (0 + 1024) (256 * (o - 2)) (256 * (o - 2) + 256) (codesF K)) (codesT K (o - 2))

/-- The codes of the first `o` blocks. -/
def CD (o : ℕ) : sProp 𝕄 := H2 (c.tc : Thread nD τ) arg9 fullShare 0 1024 0 (256 * o) (codesF K)

/-- The weights' slot of block `k`: in flight, or free past the last block. -/
def RW (k : ℕ) : sProp 𝕄 := RoleIn (c.tc : Thread nD τ) arg4 arg13 arg19 q₄ K.w (k % 3) (256 * k) 0 11008

/-- The weights' rows before block `k`. -/
def WD (k : ℕ) : sProp 𝕄 := H2 (c.tc : Thread nD τ) arg4 q₄ 0 (256 * k) 0 (0 + 4096) K.w

/-- Column block `n` of the accumulator after `o` blocks. -/
def AC (n o : ℕ) : sProp 𝕄 := H2 (c.tc : Thread nD τ) arg16 fullShare 0 1024 (512 * n) (512 * n + 512) (accF K o)

/-- The codes' slot at the codes of block `o`. -/
def CT (o : ℕ) : sProp 𝕄 := H3 (c.tc : Thread nD τ) arg14 fullShare (o % 2) (codesT K o)

/-- Half of the codes' slot at the codes of block `o`, kept while they are carried out. -/
def CL (o : ℕ) : sProp 𝕄 := H3 (c.tc : Thread nD τ) arg14 fullShare.left (o % 2) (codesT K o)

/-- The codes of block `o` being carried out. -/
def CF (o : ℕ) : sProp 𝕄 :=
  Fl (c.tc : Thread nD τ) (semAt arg20 (o % 2)) (cr arg9 ⟨2, ![1024, 256]⟩)
    iprop(H2 (c.tc : Thread nD τ) arg9 fullShare 0 (0 + 1024) (256 * o) (256 * o + 256) (codesF K)
      ∗ H3 (c.tc : Thread nD τ) arg14 fullShare.right (o % 2) (codesT K o))

/-- The codes in flight and the half kept are the codes' slot two trips on. -/
theorem RC_of (o : ℕ) : iprop(CF arg9 arg14 arg20 c K o ∗ CL arg14 c K o) ⊢ RC arg9 arg14 arg20 c K (o + 2) := by
  unfold RC RoleOutH CF CL
  rw [if_pos (by omega), Nat.add_sub_cancel, Nat.add_mod_right]

/-- The weights' slot at block `o`. -/
def WT (o : ℕ) : sProp 𝕄 := H3 (c.tc : Thread nD τ) arg13 fullShare (o % 3) (fun i j => K.w (256 * o + i) (0 + j))

/-- The gradient held whole. -/
def DY : sProp 𝕄 := H2 (c.tc : Thread nD τ) arg11 fullShare 0 1024 0 11008 K.dy

theorem part8 {Q : (Σ' (arg24 : BitVec 32) (v329 : BitVec 32) (v330 : BitVec 32) (v332 : BitVec 32) (v359 : Vec F S1024x512 .f32), FVec F S1024x256 .fp8e5m2) → sProp (MT nD τ sig Unit (Elt F) ℕ (Pipeline.UD sig nD τ) ℕ)} :
    iprop(RC arg9 arg14 arg20 c K t.val ∗ CD arg9 c K (t.val - 2) ∗ DY arg11 c K ∗ RW arg4 arg13 arg19 c K q₄ t.val ∗ WD arg4 c K q₄ t.val
        ∗ AC arg16 c K 0 t.val ∗ ∃ W, owes (c.tc : Thread nD τ) 0 W)
      ⊢ iprop((∀ a b d e, iprop(CT arg14 c K t.val ∗ semVal ((c.tc : Thread nD τ), .dma (semAt arg20 (t.val % 2))) 0 ∗ CD arg9 c K (t.val - 1) ∗ DY arg11 c K
              ∗ WT arg13 c K t.val ∗ semVal ((c.tc : Thread nD τ), .dma (semAt arg19 (t.val % 3))) 0 ∗ WD arg4 c K q₄ (t.val + 1)
              ∗ AC arg16 c K 0 t.val ∗ ∃ W, owes (c.tc : Thread nD τ) 0 W)
            -∗ Q ⟨a, b, d, e, tile2 1024 512 (accF K t.val) 0 (512 * 0), k0_pay9 (tile3 1024 256 (codesT K t.val) 0 0)⟩)
        -∗ wp frame (wpE defs 𝒱 (c.tc : Thread nD τ) bd) Set.univ (k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 K.iv 0#32 1#32 t) Q) := by
  rw [k0_part8_eq_skeleton]
  unfold k0_part8_skel RC CD RW WD AC DY
  have ht := lt43 t
  iintro ⟨HC, HCD, Hdy, HW, HWD, HA, HO⟩ Hk
  iapply (gWaitOutH 𝒱 (c.tc : Thread nD τ) bd (cond1 t) (D' := H2 (c.tc : Thread nD τ) arg9 fullShare 0 1024 0 (256 * (t.val - 1)) (codesF K))
    (fun h => sem_eq arg20 _ _ _ _ (off89 t)) ?hN ?hj ?hn) $$ [HC HCD HO]
  case hN => exact fun _ => rfl
  case hj =>
    intro h
    rw [show 256 * (t.val - 1) = 256 * (t.val - 2) + 256 by omega]
    iintro ⟨HB, HD⟩
    iapply (H2_joinCols (Nat.zero_le _) (Nat.le_add_right _ _) (fun _ _ _ _ _ _ => rfl) (fun _ _ _ _ _ _ => rfl))
    isplitl [HD]; · iexact HD
    iexact HB
  case hn => exact fun h => H2_void (Or.inr (by omega)) (Or.inr (by omega))
  · isplitl [HC]; · iexact HC
    isplitl [HCD]; · iexact HCD
    iexact HO
  unfold Slot
  iintro ⟨⟨⟨%G, HG⟩, Hcv⟩, HCD, HO⟩
  iapply (hload2 𝒱 (c.tc : Thread nD τ) bd 0 (256 * t.val) (off92 t).1 (off92 t).2 ⟨by omega, by omega⟩ ⟨by omega, by omega⟩) $$ Hdy
  iintro Hdy
  iapply (hload3 𝒱 (c.tc : Thread nD τ) bd (t.val % 2) 0 0 (off93 t).1 (off93 t).2.1 (off93 t).2.2) $$ HG
  iintro HG
  iapply (hstore3 𝒱 (c.tc : Thread nD τ) bd (codesT K t.val) (t.val % 2) (off93 t).1 (codesT_at K t.val)) $$ HG
  iintro HG
  iapply (waitIn 𝒱 (c.tc : Thread nD τ) bd (A := arg4) (R := arg13) (q := q₄) (F := K.w) (r := 256 * t.val) (s := 0) (l := 11008) (by omega) (sem_eq arg19 _ _ _ _ (off94 t)) rfl) $$ [HW HWD HO]
  · isplitl [HW]; · iexact HW
    isplitl [HWD]; · iexact HWD
    iexact HO
  iintro ⟨HW, Hwv, HWD, HO⟩
  iapply (hload2 𝒱 (c.tc : Thread nD τ) bd 0 (512 * 0) rfl rfl ⟨by omega, by omega⟩ ⟨by omega, by omega⟩) $$ HA
  iintro HA
  iapply (hload3 𝒱 (c.tc : Thread nD τ) bd (t.val % 2) 0 0 (off93 t).1 (off93 t).2.1 (off93 t).2.2) $$ HG
  iintro HG
  iapply (wp_done 𝒱 (c.tc : Thread nD τ) bd)
  iapply Hk
  unfold CT WT
  isplitl [HG]; · iexact HG
  isplitl [Hcv]; · iexact Hcv
  isplitl [HCD]; · iexact HCD
  isplitl [Hdy]; · iexact Hdy
  isplitl [HW]; · iexact HW
  isplitl [Hwv]; · iexact Hwv
  isplitl [HWD]; · iexact HWD
  isplitl [HA]; · iexact HA
  iexact HO

theorem part9 (v329 v330 : BitVec 32) {Q : Vec F S1024x512 .f32 → sProp (MT nD τ sig Unit (Elt F) ℕ (Pipeline.UD sig nD τ) ℕ)} :
    iprop(CT arg14 c K t.val ∗ WT arg13 c K t.val ∗ AC arg16 c K 0 t.val ∗ AC arg16 c K 1 t.val ∗ AC arg16 c K 2 t.val ∗ AC arg16 c K 3 t.val)
      ⊢ iprop((iprop(CT arg14 c K t.val ∗ WT arg13 c K t.val ∗ AC arg16 c K 0 (t.val + 1) ∗ AC arg16 c K 1 (t.val + 1) ∗ AC arg16 c K 2 (t.val + 1) ∗ AC arg16 c K 3 t.val) -∗ Q (tile2 1024 512 (accF K t.val) 0 (512 * 3)))
        -∗ wp frame (wpE defs 𝒱 (c.tc : Thread nD τ) bd) Set.univ (k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v329 v330 (tile2 1024 512 (accF K t.val) 0 (512 * 0)) (k0_pay9 (tile3 1024 256 (codesT K t.val) 0 0))) Q) := by
  rw [k0_part9_eq_skeleton]
  unfold k0_part9_skel CT WT AC
  have ht := lt43 t
  iintro ⟨HC, HW, HA0, HA1, HA2, HA3⟩ Hk
  iapply (hload3 𝒱 (c.tc : Thread nD τ) bd (t.val % 3) (0) (512 * 0) (off97 t).1 (off97 t).2.1 (off97 t).2.2) $$ HW
  iintro HW
  iapply (hload2 𝒱 (c.tc : Thread nD τ) bd 0 (512 * 0) rfl rfl ⟨by omega, by omega⟩ ⟨by omega, by omega⟩) $$ HA0
  iintro HA0
  iapply (hstore2 𝒱 (c.tc : Thread nD τ) bd (accF K (t.val + 1)) 0 (512 * 0) rfl rfl ⟨by omega, by omega⟩ ⟨by omega, by omega⟩ (accF_at K t.val 0) (fun i j _ _ _ _ _ => by omega)) $$ HA0
  iintro HA0
  iapply (hload2 𝒱 (c.tc : Thread nD τ) bd 0 (512 * 1) rfl rfl ⟨by omega, by omega⟩ ⟨by omega, by omega⟩) $$ HA1
  iintro HA1
  iapply (hload3 𝒱 (c.tc : Thread nD τ) bd (t.val % 2) (0) (0) (off93 t).1 (off93 t).2.1 (off93 t).2.2) $$ HC
  iintro HC
  iapply (hload3 𝒱 (c.tc : Thread nD τ) bd (t.val % 3) (0) (512 * 1) (off98 t).1 (off98 t).2.1 (off98 t).2.2) $$ HW
  iintro HW
  iapply (hload2 𝒱 (c.tc : Thread nD τ) bd 0 (512 * 1) rfl rfl ⟨by omega, by omega⟩ ⟨by omega, by omega⟩) $$ HA1
  iintro HA1
  iapply (hstore2 𝒱 (c.tc : Thread nD τ) bd (accF K (t.val + 1)) 0 (512 * 1) rfl rfl ⟨by omega, by omega⟩ ⟨by omega, by omega⟩ (accF_at K t.val 1) (fun i j _ _ _ _ _ => by omega)) $$ HA1
  iintro HA1
  iapply (hload2 𝒱 (c.tc : Thread nD τ) bd 0 (512 * 2) rfl rfl ⟨by omega, by omega⟩ ⟨by omega, by omega⟩) $$ HA2
  iintro HA2
  iapply (hload3 𝒱 (c.tc : Thread nD τ) bd (t.val % 2) (0) (0) (off93 t).1 (off93 t).2.1 (off93 t).2.2) $$ HC
  iintro HC
  iapply (hload3 𝒱 (c.tc : Thread nD τ) bd (t.val % 3) (0) (512 * 2) (off99 t).1 (off99 t).2.1 (off99 t).2.2) $$ HW
  iintro HW
  iapply (hload2 𝒱 (c.tc : Thread nD τ) bd 0 (512 * 2) rfl rfl ⟨by omega, by omega⟩ ⟨by omega, by omega⟩) $$ HA2
  iintro HA2
  iapply (hstore2 𝒱 (c.tc : Thread nD τ) bd (accF K (t.val + 1)) 0 (512 * 2) rfl rfl ⟨by omega, by omega⟩ ⟨by omega, by omega⟩ (accF_at K t.val 2) (fun i j _ _ _ _ _ => by omega)) $$ HA2
  iintro HA2
  iapply (hload2 𝒱 (c.tc : Thread nD τ) bd 0 (512 * 3) rfl rfl ⟨by omega, by omega⟩ ⟨by omega, by omega⟩) $$ HA3
  iintro HA3
  iapply (wp_done 𝒱 (c.tc : Thread nD τ) bd)
  iapply Hk
  isplitl [HC]; · iexact HC
  isplitl [HW]; · iexact HW
  isplitl [HA0]; · iexact HA0
  isplitl [HA1]; · iexact HA1
  isplitl [HA2]; · iexact HA2
  iexact HA3

theorem part10 (v329 v330 : BitVec 32) {Q : FVec F S1024x512 .f32 → sProp (MT nD τ sig Unit (Elt F) ℕ (Pipeline.UD sig nD τ) ℕ)} :
    iprop(CT arg14 c K t.val ∗ WT arg13 c K t.val ∗ AC arg16 c K 3 t.val ∗ AC arg16 c K 4 t.val ∗ AC arg16 c K 5 t.val)
      ⊢ iprop((iprop(CT arg14 c K t.val ∗ WT arg13 c K t.val ∗ AC arg16 c K 3 (t.val + 1) ∗ AC arg16 c K 4 (t.val + 1) ∗ AC arg16 c K 5 t.val) -∗ Q (k0_pay15 (tile2 1024 512 (accF K t.val) 0 (512 * 5)) (tile3 1024 256 (codesT K t.val) 0 0) (tile3 256 512 (fun i j => K.w (256 * t.val + i) (0 + j)) 0 (512 * 5))))
        -∗ wp frame (wpE defs 𝒱 (c.tc : Thread nD τ) bd) Set.univ (k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v329 v330 (tile2 1024 512 (accF K t.val) 0 (512 * 3))) Q) := by
  rw [k0_part10_eq_skeleton]
  unfold k0_part10_skel CT WT AC
  have ht := lt43 t
  iintro ⟨HC, HW, HA3, HA4, HA5⟩ Hk
  iapply (hload3 𝒱 (c.tc : Thread nD τ) bd (t.val % 2) (0) (0) (off93 t).1 (off93 t).2.1 (off93 t).2.2) $$ HC
  iintro HC
  iapply (hload3 𝒱 (c.tc : Thread nD τ) bd (t.val % 3) (0) (512 * 3) (off100 t).1 (off100 t).2.1 (off100 t).2.2) $$ HW
  iintro HW
  iapply (hload2 𝒱 (c.tc : Thread nD τ) bd 0 (512 * 3) rfl rfl ⟨by omega, by omega⟩ ⟨by omega, by omega⟩) $$ HA3
  iintro HA3
  iapply (hstore2 𝒱 (c.tc : Thread nD τ) bd (accF K (t.val + 1)) 0 (512 * 3) rfl rfl ⟨by omega, by omega⟩ ⟨by omega, by omega⟩ (accF_at K t.val 3) (fun i j _ _ _ _ _ => by omega)) $$ HA3
  iintro HA3
  iapply (hload2 𝒱 (c.tc : Thread nD τ) bd 0 (512 * 4) rfl rfl ⟨by omega, by omega⟩ ⟨by omega, by omega⟩) $$ HA4
  iintro HA4
  iapply (hload3 𝒱 (c.tc : Thread nD τ) bd (t.val % 2) (0) (0) (off93 t).1 (off93 t).2.1 (off93 t).2.2) $$ HC
  iintro HC
  iapply (hload3 𝒱 (c.tc : Thread nD τ) bd (t.val % 3) (0) (512 * 4) (off101 t).1 (off101 t).2.1 (off101 t).2.2) $$ HW
  iintro HW
  iapply (hload2 𝒱 (c.tc : Thread nD τ) bd 0 (512 * 4) rfl rfl ⟨by omega, by omega⟩ ⟨by omega, by omega⟩) $$ HA4
  iintro HA4
  iapply (hstore2 𝒱 (c.tc : Thread nD τ) bd (accF K (t.val + 1)) 0 (512 * 4) rfl rfl ⟨by omega, by omega⟩ ⟨by omega, by omega⟩ (accF_at K t.val 4) (fun i j _ _ _ _ _ => by omega)) $$ HA4
  iintro HA4
  iapply (hload2 𝒱 (c.tc : Thread nD τ) bd 0 (512 * 5) rfl rfl ⟨by omega, by omega⟩ ⟨by omega, by omega⟩) $$ HA5
  iintro HA5
  iapply (hload3 𝒱 (c.tc : Thread nD τ) bd (t.val % 2) (0) (0) (off93 t).1 (off93 t).2.1 (off93 t).2.2) $$ HC
  iintro HC
  iapply (hload3 𝒱 (c.tc : Thread nD τ) bd (t.val % 3) (0) (512 * 5) (off102 t).1 (off102 t).2.1 (off102 t).2.2) $$ HW
  iintro HW
  iapply (hload2 𝒱 (c.tc : Thread nD τ) bd 0 (512 * 5) rfl rfl ⟨by omega, by omega⟩ ⟨by omega, by omega⟩) $$ HA5
  iintro HA5
  iapply (wp_done 𝒱 (c.tc : Thread nD τ) bd)
  iapply Hk
  isplitl [HC]; · iexact HC
  isplitl [HW]; · iexact HW
  isplitl [HA3]; · iexact HA3
  isplitl [HA4]; · iexact HA4
  iexact HA5

/-- The codes' array from block `o` on. -/
def CN (F₀ : ℕ → ℕ → Elt F .fp8e5m2) (o : ℕ) : sProp 𝕄 := H2 (c.tc : Thread nD τ) arg9 fullShare 0 1024 (256 * o) 11008 F₀

theorem part11 {F₀ : ℕ → ℕ → Elt F .fp8e5m2} (v t₁ t₂ : BitVec 32) {Q : BitVec 32 → sProp (MT nD τ sig Unit (Elt F) ℕ (Pipeline.UD sig nD τ) ℕ)} :
    iprop(CT arg14 c K t.val ∗ WT arg13 c K t.val ∗ AC arg16 c K 5 t.val ∗ AC arg16 c K 6 t.val ∗ AC arg16 c K 7 t.val ∗ semVal ((c.tc : Thread nD τ), .dma (semAt arg20 (t.val % 2))) 0 ∗ CN arg9 c F₀ t.val)
      ⊢ iprop((iprop(∀ v, iprop(CF arg9 arg14 arg20 c K t.val ∗ CL arg14 c K t.val ∗ WT arg13 c K t.val ∗ AC arg16 c K 5 (t.val + 1) ∗ AC arg16 c K 6 (t.val + 1) ∗ AC arg16 c K 7 (t.val + 1) ∗ CN arg9 c F₀ (t.val + 1)) -∗ Q v))
        -∗ wp frame (wpE defs 𝒱 (c.tc : Thread nD τ) bd) Set.univ (k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v t₁ t₂ (k0_pay15 (tile2 1024 512 (accF K t.val) 0 (512 * 5)) (tile3 1024 256 (codesT K t.val) 0 0) (tile3 256 512 (fun i j => K.w (256 * t.val + i) (0 + j)) 0 (512 * 5)))) Q) := by
  rw [k0_part11_eq_skeleton]
  unfold k0_part11_skel WT AC CN
  have ht := lt43 t
  iintro ⟨HC, HW, HA5, HA6, HA7, Hv, HN⟩ Hk
  unfold CT
  iapply (hstore2 𝒱 (c.tc : Thread nD τ) bd (accF K (t.val + 1)) 0 (512 * 5) rfl rfl ⟨by omega, by omega⟩ ⟨by omega, by omega⟩ (accF_at K t.val 5) (fun i j _ _ _ _ _ => by omega)) $$ HA5
  iintro HA5
  iapply (hload2 𝒱 (c.tc : Thread nD τ) bd 0 (512 * 6) rfl rfl ⟨by omega, by omega⟩ ⟨by omega, by omega⟩) $$ HA6
  iintro HA6
  iapply (hload3 𝒱 (c.tc : Thread nD τ) bd (t.val % 2) (0) (0) (off93 t).1 (off93 t).2.1 (off93 t).2.2) $$ HC
  iintro HC
  iapply (hload3 𝒱 (c.tc : Thread nD τ) bd (t.val % 3) (0) (512 * 6) (off103 t).1 (off103 t).2.1 (off103 t).2.2) $$ HW
  iintro HW
  iapply (hload2 𝒱 (c.tc : Thread nD τ) bd 0 (512 * 6) rfl rfl ⟨by omega, by omega⟩ ⟨by omega, by omega⟩) $$ HA6
  iintro HA6
  iapply (hstore2 𝒱 (c.tc : Thread nD τ) bd (accF K (t.val + 1)) 0 (512 * 6) rfl rfl ⟨by omega, by omega⟩ ⟨by omega, by omega⟩ (accF_at K t.val 6) (fun i j _ _ _ _ _ => by omega)) $$ HA6
  iintro HA6
  iapply (hload2 𝒱 (c.tc : Thread nD τ) bd 0 (512 * 7) rfl rfl ⟨by omega, by omega⟩ ⟨by omega, by omega⟩) $$ HA7
  iintro HA7
  iapply (hload3 𝒱 (c.tc : Thread nD τ) bd (t.val % 2) (0) (0) (off93 t).1 (off93 t).2.1 (off93 t).2.2) $$ HC
  iintro HC
  iapply (hload3 𝒱 (c.tc : Thread nD τ) bd (t.val % 3) (0) (512 * 7) (off104 t).1 (off104 t).2.1 (off104 t).2.2) $$ HW
  iintro HW
  iapply (hload2 𝒱 (c.tc : Thread nD τ) bd 0 (512 * 7) rfl rfl ⟨by omega, by omega⟩ ⟨by omega, by omega⟩) $$ HA7
  iintro HA7
  iapply (hstore2 𝒱 (c.tc : Thread nD τ) bd (accF K (t.val + 1)) 0 (512 * 7) rfl rfl ⟨by omega, by omega⟩ ⟨by omega, by omega⟩ (accF_at K t.val 7) (fun i j _ _ _ _ _ => by omega)) $$ HA7
  iintro HA7
  ihave HN := (H2_cols (256 * t.val + 256) (by omega) (by omega)) $$ HN
  icases HN with ⟨HB, HN⟩
  ihave HC := (H3_halves (M₃ := arg14)) $$ HC
  icases HC with ⟨HL, HC⟩
  iapply (hdma32 𝒱 (c.tc : Thread nD τ) bd (codesF K) (t.val % 2) 0 (256 * t.val) (off107 t) (off106 t).1 (off106 t).2 (sem_eq arg20 _ _ _ _ (off105 t))
    (fun i j hi hj => by rw [codesF_at K _ _ _ hj, Nat.zero_add]) (by decide) (Ms := arg14) (q := fullShare.right) (F := codesT K t.val)) $$ [HC HB Hv]
  · isplitl [HC]; · iexact HC
    isplitl [HB]; · iexact HB
    iexact Hv
  iintro HF
  iapply (wp_done 𝒱 (c.tc : Thread nD τ) bd)
  iapply Hk
  unfold CF CL
  isplitl [HF]; · iexact HF
  isplitl [HL]; · iexact HL
  isplitl [HW]; · iexact HW
  isplitl [HA5]; · iexact HA5
  isplitl [HA6]; · iexact HA6
  isplitl [HA7]; · iexact HA7
  iexact HN

/-! ## The chunks -/

/-- The activations held whole. -/
def XV : sProp 𝕄 := H2 (c.tc : Thread nD τ) arg12 fullShare 0 1024 0 4096 K.x

/-- The weights' rows from block `k` on. -/
def WN (k : ℕ) : sProp 𝕄 := H2 (c.tc : Thread nD τ) arg4 q₄ (256 * k) 11008 0 (0 + 4096) K.w

theorem part12 {F₇ : ℕ → ℕ → Elt F .f32} (v₁ v₂ v₃ v₄ : BitVec 32) {Q : FVec F S256x1024 .f32 → sProp (MT nD τ sig Unit (Elt F) ℕ (Pipeline.UD sig nD τ) ℕ)} :
    iprop(WT arg13 c K t.val ∗ semVal ((c.tc : Thread nD τ), .dma (semAt arg19 (t.val % 3))) 0 ∗ WN arg4 c K q₄ (t.val + 3) ∗ CH arg5 arg7 arg15 arg21 arg22 c K q₅ F₇ 0 t.val ∗ CL arg14 c K t.val ∗ XV arg12 c K ∗ ∃ W, owes (c.tc : Thread nD τ) 0 W)
      ⊢ iprop((iprop(RW arg4 arg13 arg19 c K q₄ (t.val + 3) ∗ WN arg4 c K q₄ (t.val + 4) ∗ SG arg15 c K 0 t.val ∗ MT0 arg5 arg7 arg15 arg21 arg22 c K q₅ F₇ 0 t.val ∗ CL arg14 c K t.val ∗ XV arg12 c K ∗ ∃ W, owes (c.tc : Thread nD τ) 0 W) -∗ Q (k0_pay19 K.ms (tile3 1024 256 (codesT K t.val) 0 0) (tile2 1024 1024 K.x 0 (1024 * 0)) (tile3 256 1024 (fun i j => K.mg (256 * t.val + i) (1024 * 0 + j)) 0 0)))
        -∗ wp frame (wpE defs 𝒱 (c.tc : Thread nD τ) bd) Set.univ (k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 K.ms t v₁ v₂ v₃ v₄) Q) := by
  rw [k0_part12_eq_skeleton]
  unfold k0_part12_skel WT WN RW
  have ht := lt43 t
  iintro ⟨HW, HV, HN, HC0, HL, HX, HO⟩ Hk
  rw [show 256 * (t.val + 4) = 256 * (t.val + 3) + 256 by omega]
  iapply (gStartIn 𝒱 (c.tc : Thread nD τ) bd (A := arg4) (R := arg13) (S := arg19) (q := q₄) (F := K.w) (k := (t.val + 3) % 3) (r := 256 * (t.val + 3)) (s := 0) (l := 11008) (cond2 t) (by omega)
    (fun h G => hdma23 𝒱 (c.tc : Thread nD τ) bd _ (256 * (t.val + 3)) 0 ((t.val + 3) % 3) (off110 t h).1 (off110 t h).2 (off109 t)
      (sem_eq arg19 _ _ _ _ (off108 t)) (fun i j _ _ => rfl) (by decide))) $$ [HW HV HN]
  · unfold Slot
    rw [Nat.add_mod_right]
    isplitl [HW HV]
    · isplitl [HW]
      · iexists _; iexact HW
      iexact HV
    iexact HN
  iintro ⟨HW, HN⟩
  iapply (chOut arg5 arg7 arg15 arg21 arg22 c K q₅ F₇ 𝒱 bd 0 t.val (cond3 t) (fun h => sem_eq arg22 _ _ _ _ (off111 t)) ?hN) $$ [HC0 HO]
  case hN => intro h; rfl
  · isplitl [HC0]; · iexact HC0
    iexact HO
  iintro ⟨HC0, HO⟩
  iapply (chIn arg5 arg7 arg15 arg21 arg22 c K q₅ F₇ 𝒱 bd 0 t.val (cond4 t)
    (fun h G => hdma23 𝒱 (c.tc : Thread nD τ) bd _ (256 * (t.val + 2)) (1024 * 0) (4 * ((t.val + 2) % 3) + 0) (off116 t).1 (off116 t).2 (off115 t)
      (sem_eq arg21 _ _ _ _ (off114 t)) (fun i j _ _ => rfl) (by decide))) $$ HC0
  iintro HC0
  iapply (chWait arg5 arg7 arg15 arg21 arg22 c K q₅ F₇ 𝒱 bd 0 t.val ht (sem_eq arg21 _ _ _ _ (off117 t).1) rfl) $$ [HC0 HO]
  · isplitl [HC0]; · iexact HC0
    iexact HO
  iintro ⟨HG0, HC0, HO⟩
  unfold CL
  iapply (hload3 𝒱 (c.tc : Thread nD τ) bd (t.val % 2) (0) (0) (off93 t).1 (off93 t).2.1 (off93 t).2.2) $$ HL
  iintro HL
  unfold XV
  iapply (hload2 𝒱 (c.tc : Thread nD τ) bd 0 (1024 * 0) rfl rfl ⟨by omega, by omega⟩ ⟨by omega, by omega⟩) $$ HX
  iintro HX
  unfold SG
  iapply (hload3 𝒱 (c.tc : Thread nD τ) bd (4 * (t.val % 3) + 0) (0) (0) (off120 t).1 (off120r t).1.1 (off120r t).1.2) $$ HG0
  iintro HG0
  iapply (wp_done 𝒱 (c.tc : Thread nD τ) bd)
  iapply Hk
  isplitl [HW]; · iexact HW
  isplitl [HN]; · iexact HN
  isplitl [HG0]; · iexact HG0
  isplitl [HC0]; · iexact HC0
  isplitl [HL]; · iexact HL
  isplitl [HX]; · iexact HX
  iexact HO

theorem part13 {F₇ : ℕ → ℕ → Elt F .f32} (v₁ v₂ v₃ : BitVec 32) {Q : (Σ' (v505 : BitVec 32) (v525 : FVec F S1024x256 .fp8e5m2), Vec F S1024x1024 .fp8e4m3) → sProp (MT nD τ sig Unit (Elt F) ℕ (Pipeline.UD sig nD τ) ℕ)} :
    iprop(SG arg15 c K 0 t.val ∗ MT0 arg5 arg7 arg15 arg21 arg22 c K q₅ F₇ 0 t.val ∗ CH arg5 arg7 arg15 arg21 arg22 c K q₅ F₇ 1 t.val ∗ CL arg14 c K t.val ∗ XV arg12 c K ∗ ∃ W, owes (c.tc : Thread nD τ) 0 W)
      ⊢ iprop((iprop(∀ v, iprop(CH arg5 arg7 arg15 arg21 arg22 c K q₅ F₇ 0 (t.val + 1) ∗ SG arg15 c K 1 t.val ∗ MT0 arg5 arg7 arg15 arg21 arg22 c K q₅ F₇ 1 t.val ∗ CL arg14 c K t.val ∗ XV arg12 c K ∗ ∃ W, owes (c.tc : Thread nD τ) 0 W) -∗ Q ⟨v, k0_pay21 (tile3 1024 256 (codesT K t.val) 0 0), (tile2 1024 1024 K.x 0 (1024 * 1))⟩))
        -∗ wp frame (wpE defs 𝒱 (c.tc : Thread nD τ) bd) Set.univ (k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v₁ v₂ v₃ (k0_pay19 K.ms (tile3 1024 256 (codesT K t.val) 0 0) (tile2 1024 1024 K.x 0 (1024 * 0)) (tile3 256 1024 (fun i j => K.mg (256 * t.val + i) (1024 * 0 + j)) 0 0))) Q) := by
  rw [k0_part13_eq_skeleton]
  unfold k0_part13_skel SG
  have ht := lt43 t
  iintro ⟨HG0, HC0, HC1, HL, HX, HO⟩ Hk
  iapply (hload3 𝒱 (c.tc : Thread nD τ) bd (4 * (t.val % 3) + 0) (0) (0) (off120 t).1 (off120r t).1.1 (off120r t).1.2) $$ HG0
  iintro HG0
  iapply (hstore3 𝒱 (c.tc : Thread nD τ) bd (moT K t.val 0) (4 * (t.val % 3) + 0) (off120 t).1 (moT_at K t.val 0)) $$ HG0
  iintro HG0
  iapply (chGo arg5 arg7 arg15 arg21 arg22 c K q₅ F₇ 𝒱 bd 0 t.val ht (sem_eq arg22 _ _ _ _ (off117 t).1) (off118 t).1 (off119 t)) $$ [HG0 HC0]
  · unfold SM
    isplitl [HG0]; · iexact HG0
    iexact HC0
  iintro HC0
  iapply (chOut arg5 arg7 arg15 arg21 arg22 c K q₅ F₇ 𝒱 bd 1 t.val (cond5 t) (fun h => sem_eq arg22 _ _ _ _ (off121 t)) ?hN) $$ [HC1 HO]
  case hN => intro h; rfl
  · isplitl [HC1]; · iexact HC1
    iexact HO
  iintro ⟨HC1, HO⟩
  iapply (chIn arg5 arg7 arg15 arg21 arg22 c K q₅ F₇ 𝒱 bd 1 t.val (cond6 t)
    (fun h G => hdma23 𝒱 (c.tc : Thread nD τ) bd _ (256 * (t.val + 2)) (1024 * 1) (4 * ((t.val + 2) % 3) + 1) (off126 t).1 (off126 t).2 (off125 t)
      (sem_eq arg21 _ _ _ _ (off124 t)) (fun i j _ _ => rfl) (by decide))) $$ HC1
  iintro HC1
  iapply (chWait arg5 arg7 arg15 arg21 arg22 c K q₅ F₇ 𝒱 bd 1 t.val ht (sem_eq arg21 _ _ _ _ (off117 t).2.1) rfl) $$ [HC1 HO]
  · isplitl [HC1]; · iexact HC1
    iexact HO
  iintro ⟨HG1, HC1, HO⟩
  unfold CL
  iapply (hload3 𝒱 (c.tc : Thread nD τ) bd (t.val % 2) (0) (0) (off93 t).1 (off93 t).2.1 (off93 t).2.2) $$ HL
  iintro HL
  unfold XV
  iapply (hload2 𝒱 (c.tc : Thread nD τ) bd 0 (1024 * 1) rfl rfl ⟨by omega, by omega⟩ ⟨by omega, by omega⟩) $$ HX
  iintro HX
  unfold SG
  iapply (wp_done 𝒱 (c.tc : Thread nD τ) bd)
  iapply Hk
  isplitl [HC0]; · iexact HC0
  isplitl [HG1]; · iexact HG1
  isplitl [HC1]; · iexact HC1
  isplitl [HL]; · iexact HL
  isplitl [HX]; · iexact HX
  iexact HO

theorem part14 {F₇ : ℕ → ℕ → Elt F .f32} (v₁ v₂ v₃ : BitVec 32) {Q : BitVec 32 → sProp (MT nD τ sig Unit (Elt F) ℕ (Pipeline.UD sig nD τ) ℕ)} :
    iprop(SG arg15 c K 1 t.val ∗ MT0 arg5 arg7 arg15 arg21 arg22 c K q₅ F₇ 1 t.val ∗ CH arg5 arg7 arg15 arg21 arg22 c K q₅ F₇ 2 t.val ∗ ∃ W, owes (c.tc : Thread nD τ) 0 W)
      ⊢ iprop((iprop(∀ v, iprop(CH arg5 arg7 arg15 arg21 arg22 c K q₅ F₇ 1 (t.val + 1) ∗ M1 arg5 arg7 arg15 arg21 arg22 c K q₅ F₇ 2 t.val ∗ ∃ W, owes (c.tc : Thread nD τ) 0 W) -∗ Q v))
        -∗ wp frame (wpE defs 𝒱 (c.tc : Thread nD τ) bd) Set.univ (k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 K.ms t v₁ v₂ v₃ (k0_pay21 (tile3 1024 256 (codesT K t.val) 0 0)) (tile2 1024 1024 K.x 0 (1024 * 1))) Q) := by
  rw [k0_part14_eq_skeleton]
  unfold k0_part14_skel SG
  have ht := lt43 t
  iintro ⟨HG1, HC1, HC2, HO⟩ Hk
  iapply (hload3 𝒱 (c.tc : Thread nD τ) bd (4 * (t.val % 3) + 1) (0) (0) (off120 t).2.1 (off120r t).2.1.1 (off120r t).2.1.2) $$ HG1
  iintro HG1
  iapply (hload3 𝒱 (c.tc : Thread nD τ) bd (4 * (t.val % 3) + 1) (0) (0) (off120 t).2.1 (off120r t).2.1.1 (off120r t).2.1.2) $$ HG1
  iintro HG1
  iapply (hstore3 𝒱 (c.tc : Thread nD τ) bd (moT K t.val 1) (4 * (t.val % 3) + 1) (off120 t).2.1 (moT_at K t.val 1)) $$ HG1
  iintro HG1
  iapply (chGo arg5 arg7 arg15 arg21 arg22 c K q₅ F₇ 𝒱 bd 1 t.val ht (sem_eq arg22 _ _ _ _ (off117 t).2.1) (off118 t).2.1 (off127 t)) $$ [HG1 HC1]
  · unfold SM
    isplitl [HG1]; · iexact HG1
    iexact HC1
  iintro HC1
  iapply (chOut arg5 arg7 arg15 arg21 arg22 c K q₅ F₇ 𝒱 bd 2 t.val (cond7 t) (fun h => sem_eq arg22 _ _ _ _ (off128 t)) ?hN) $$ [HC2 HO]
  case hN => intro h; rfl
  · isplitl [HC2]; · iexact HC2
    iexact HO
  iintro ⟨HC2, HO⟩
  iapply (chIn arg5 arg7 arg15 arg21 arg22 c K q₅ F₇ 𝒱 bd 2 t.val (cond8 t)
    (fun h G => hdma23 𝒱 (c.tc : Thread nD τ) bd _ (256 * (t.val + 2)) (1024 * 2) (4 * ((t.val + 2) % 3) + 2) (off133 t).1 (off133 t).2 (off132 t)
      (sem_eq arg21 _ _ _ _ (off131 t)) (fun i j _ _ => rfl) (by decide))) $$ HC2
  iintro HC2
  iapply (wp_done 𝒱 (c.tc : Thread nD τ) bd)
  iapply Hk
  isplitl [HC1]; · iexact HC1
  isplitl [HC2]; · iexact HC2
  iexact HO

theorem part15 {F₇ : ℕ → ℕ → Elt F .f32} (v₁ v₂ v₃ v₄ : BitVec 32) {Q : (Σ' (v583 : BitVec 32) (v585 : BitVec 32), BitVec 32) → sProp (MT nD τ sig Unit (Elt F) ℕ (Pipeline.UD sig nD τ) ℕ)} :
    iprop(M1 arg5 arg7 arg15 arg21 arg22 c K q₅ F₇ 2 t.val ∗ CH arg5 arg7 arg15 arg21 arg22 c K q₅ F₇ 3 t.val ∗ CL arg14 c K t.val ∗ XV arg12 c K ∗ ∃ W, owes (c.tc : Thread nD τ) 0 W)
      ⊢ iprop((iprop(∀ v, iprop(CH arg5 arg7 arg15 arg21 arg22 c K q₅ F₇ 2 (t.val + 1) ∗ M0 arg5 arg7 arg15 arg21 arg22 c K q₅ F₇ 3 t.val ∗ CL arg14 c K t.val ∗ XV arg12 c K ∗ ∃ W, owes (c.tc : Thread nD τ) 0 W) -∗ Q v))
        -∗ wp frame (wpE defs 𝒱 (c.tc : Thread nD τ) bd) Set.univ (k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 K.ms t v₁ v₂ v₃ v₄) Q) := by
  rw [k0_part15_eq_skeleton]
  unfold k0_part15_skel
  have ht := lt43 t
  iintro ⟨HC2, HC3, HL, HX, HO⟩ Hk
  iapply (chWait arg5 arg7 arg15 arg21 arg22 c K q₅ F₇ 𝒱 bd 2 t.val ht (sem_eq arg21 _ _ _ _ (off117 t).2.2.1) rfl) $$ [HC2 HO]
  · isplitl [HC2]; · iexact HC2
    iexact HO
  iintro ⟨HG2, HC2, HO⟩
  unfold CL
  iapply (hload3 𝒱 (c.tc : Thread nD τ) bd (t.val % 2) (0) (0) (off93 t).1 (off93 t).2.1 (off93 t).2.2) $$ HL
  iintro HL
  unfold XV
  iapply (hload2 𝒱 (c.tc : Thread nD τ) bd 0 (1024 * 2) rfl rfl ⟨by omega, by omega⟩ ⟨by omega, by omega⟩) $$ HX
  iintro HX
  unfold SG
  iapply (hload3 𝒱 (c.tc : Thread nD τ) bd (4 * (t.val % 3) + 2) (0) (0) (off120 t).2.2.1 (off120r t).2.2.1.1 (off120r t).2.2.1.2) $$ HG2
  iintro HG2
  iapply (hload3 𝒱 (c.tc : Thread nD τ) bd (4 * (t.val % 3) + 2) (0) (0) (off120 t).2.2.1 (off120r t).2.2.1.1 (off120r t).2.2.1.2) $$ HG2
  iintro HG2
  iapply (hstore3 𝒱 (c.tc : Thread nD τ) bd (moT K t.val 2) (4 * (t.val % 3) + 2) (off120 t).2.2.1 (moT_at K t.val 2)) $$ HG2
  iintro HG2
  iapply (chGo arg5 arg7 arg15 arg21 arg22 c K q₅ F₇ 𝒱 bd 2 t.val ht (sem_eq arg22 _ _ _ _ (off117 t).2.2.1) (off118 t).2.2.1 (off134 t)) $$ [HG2 HC2]
  · unfold SM
    isplitl [HG2]; · iexact HG2
    iexact HC2
  iintro HC2
  iapply (chOut arg5 arg7 arg15 arg21 arg22 c K q₅ F₇ 𝒱 bd 3 t.val (cond9 t) (fun h => sem_eq arg22 _ _ _ _ (off135 t)) ?hN) $$ [HC3 HO]
  case hN => intro h; rfl
  · isplitl [HC3]; · iexact HC3
    iexact HO
  iintro ⟨HC3, HO⟩
  iapply (wp_done 𝒱 (c.tc : Thread nD τ) bd)
  iapply Hk
  isplitl [HC2]; · iexact HC2
  isplitl [HC3]; · iexact HC3
  isplitl [HL]; · iexact HL
  isplitl [HX]; · iexact HX
  iexact HO

variable (F₇ : ℕ → ℕ → Elt F .f32) (F₉ : ℕ → ℕ → Elt F .fp8e5m2)

/-- What the loop holds at the head of trip `o`. -/
def I2 (o : ℕ) : sProp 𝕄 :=
  iprop(RC arg9 arg14 arg20 c K o ∗ RC arg9 arg14 arg20 c K (o + 1) ∗ CD arg9 c K (o - 2) ∗ CN arg9 c F₉ o ∗ DY arg11 c K ∗ RW arg4 arg13 arg19 c K q₄ o ∗ RW arg4 arg13 arg19 c K q₄ (o + 1) ∗ RW arg4 arg13 arg19 c K q₄ (o + 2) ∗ WD arg4 c K q₄ o ∗ WN arg4 c K q₄ (o + 3) ∗ AC arg16 c K 0 o ∗ AC arg16 c K 1 o ∗ AC arg16 c K 2 o ∗ AC arg16 c K 3 o ∗ AC arg16 c K 4 o ∗ AC arg16 c K 5 o ∗ AC arg16 c K 6 o ∗ AC arg16 c K 7 o ∗ XV arg12 c K ∗ CH arg5 arg7 arg15 arg21 arg22 c K q₅ F₇ 0 o ∗ CH arg5 arg7 arg15 arg21 arg22 c K q₅ F₇ 1 o ∗ CH arg5 arg7 arg15 arg21 arg22 c K q₅ F₇ 2 o ∗ CH arg5 arg7 arg15 arg21 arg22 c K q₅ F₇ 3 o ∗ ∃ W, owes (c.tc : Thread nD τ) 0 W)

/-- A trip of the loop over blocks. -/
theorem t2_body (v131 v157 : FVec F S1x1 .f32) (v163 : IVec S1x1 32) (v170 : Elt F .f32) (hiv : k0_pay31 (F := F) v163 = K.iv) (hms : k0_pay34 v157 v170 = K.ms)
    (t : Fin k0_t2_loop.trips) (x : Unit) :
    I2 arg4 arg5 arg7 arg9 arg11 arg12 arg13 arg14 arg15 arg16 arg19 arg20 arg21 arg22 c K q₄ q₅ F₇ F₉ t.val
      ⊢ wp frame (wpE defs 𝒱 (c.tc : Thread nD τ) bd) Set.univ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 v131 v157 v163 v170 t x) (fun _ => I2 arg4 arg5 arg7 arg9 arg11 arg12 arg13 arg14 arg15 arg16 arg19 arg20 arg21 arg22 c K q₄ q₅ F₇ F₉ (t.val + 1)) := by
  unfold k0_t2_body
  have ht := lt43 t
  rw [hiv, hms]
  unfold I2
  iintro ⟨HR0, HR1, HCD, HCN, HDY, HW0, HW1, HW2, HWD, HWN, HA0, HA1, HA2, HA3, HA4, HA5, HA6, HA7, HX, HC0, HC1, HC2, HC3, HO⟩
  rw [wp_bind]
  iapply (part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₄ t) $$ [HR0 HCD HDY HW0 HWD HA0 HO]
  · isplitl [HR0]; · iexact HR0
    isplitl [HCD]; · iexact HCD
    isplitl [HDY]; · iexact HDY
    isplitl [HW0]; · iexact HW0
    isplitl [HWD]; · iexact HWD
    isplitl [HA0]; · iexact HA0
    iexact HO
  iintro %a80 %a81 %a82 %a83 ⟨HCT, HCV, HCD, HDY, HWT, HWV, HWD, HA0, HO⟩
  rw [wp_bind]
  iapply (part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K t _ _) $$ [HCT HWT HA0 HA1 HA2 HA3]
  · isplitl [HCT]; · iexact HCT
    isplitl [HWT]; · iexact HWT
    isplitl [HA0]; · iexact HA0
    isplitl [HA1]; · iexact HA1
    isplitl [HA2]; · iexact HA2
    iexact HA3
  iintro ⟨HCT, HWT, HA0, HA1, HA2, HA3⟩
  rw [wp_bind]
  iapply (part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K t _ _) $$ [HCT HWT HA3 HA4 HA5]
  · isplitl [HCT]; · iexact HCT
    isplitl [HWT]; · iexact HWT
    isplitl [HA3]; · iexact HA3
    isplitl [HA4]; · iexact HA4
    iexact HA5
  iintro ⟨HCT, HWT, HA3, HA4, HA5⟩
  rw [wp_bind]
  iapply (part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K t _ _ _) $$ [HCT HWT HA5 HA6 HA7 HCV HCN]
  · isplitl [HCT]; · iexact HCT
    isplitl [HWT]; · iexact HWT
    isplitl [HA5]; · iexact HA5
    isplitl [HA6]; · iexact HA6
    isplitl [HA7]; · iexact HA7
    isplitl [HCV]; · iexact HCV
    iexact HCN
  iintro %a110 ⟨HCF, HL, HWT, HA5, HA6, HA7, HCN⟩
  rw [wp_bind]
  iapply (part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₄ q₅ t _ _ _ _) $$ [HWT HWV HWN HC0 HL HX HO]
  · isplitl [HWT]; · iexact HWT
    isplitl [HWV]; · iexact HWV
    isplitl [HWN]; · iexact HWN
    isplitl [HC0]; · iexact HC0
    isplitl [HL]; · iexact HL
    isplitl [HX]; · iexact HX
    iexact HO
  iintro ⟨HW3, HWN, HG0, HC0, HL, HX, HO⟩
  rw [wp_bind]
  iapply (part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₅ t _ _ _) $$ [HG0 HC0 HC1 HL HX HO]
  · isplitl [HG0]; · iexact HG0
    isplitl [HC0]; · iexact HC0
    isplitl [HC1]; · iexact HC1
    isplitl [HL]; · iexact HL
    isplitl [HX]; · iexact HX
    iexact HO
  iintro %a130 ⟨HC0, HG1, HC1, HL, HX, HO⟩
  rw [wp_bind]
  iapply (part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₅ t _ _ _) $$ [HG1 HC1 HC2 HO]
  · isplitl [HG1]; · iexact HG1
    isplitl [HC1]; · iexact HC1
    isplitl [HC2]; · iexact HC2
    iexact HO
  iintro %a140 ⟨HC1, HC2, HO⟩
  rw [wp_bind]
  iapply (part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₅ t _ _ _ _) $$ [HC2 HC3 HL HX HO]
  · isplitl [HC2]; · iexact HC2
    isplitl [HC3]; · iexact HC3
    isplitl [HL]; · iexact HL
    isplitl [HX]; · iexact HX
    iexact HO
  iintro %a150 ⟨HC2, HC3, HL, HX, HO⟩
  iapply (chIn arg5 arg7 arg15 arg21 arg22 c K q₅ F₇ 𝒱 bd 3 t.val (cond10 t)
    (fun h G => hdma23 𝒱 (c.tc : Thread nD τ) bd _ (256 * (t.val + 2)) (1024 * 3) (4 * ((t.val + 2) % 3) + 3) (off140 t).1 (off140 t).2 (off139 t)
      (sem_eq arg21 _ _ _ _ (off138 t)) (fun i j _ _ => rfl) (by decide))) $$ HC3
  iintro HC3
  iapply (chWait arg5 arg7 arg15 arg21 arg22 c K q₅ F₇ 𝒱 bd 3 t.val ht (sem_eq arg21 _ _ _ _ (off117 t).2.2.2) rfl) $$ [HC3 HO]
  · isplitl [HC3]; · iexact HC3
    iexact HO
  iintro ⟨HG3, HC3, HO⟩
  unfold CL
  iapply (hload3 𝒱 (c.tc : Thread nD τ) bd (t.val % 2) (0) (0) (off93 t).1 (off93 t).2.1 (off93 t).2.2) $$ HL
  iintro HL
  unfold XV
  iapply (hload2 𝒱 (c.tc : Thread nD τ) bd 0 (1024 * 3) rfl rfl ⟨by omega, by omega⟩ ⟨by omega, by omega⟩) $$ HX
  iintro HX
  unfold SG
  iapply (hload3 𝒱 (c.tc : Thread nD τ) bd (4 * (t.val % 3) + 3) (0) (0) (off120 t).2.2.2 (off120r t).2.2.2.1 (off120r t).2.2.2.2) $$ HG3
  iintro HG3
  iapply (hload3 𝒱 (c.tc : Thread nD τ) bd (4 * (t.val % 3) + 3) (0) (0) (off120 t).2.2.2 (off120r t).2.2.2.1 (off120r t).2.2.2.2) $$ HG3
  iintro HG3
  rw [pay36_eq, hms]
  iapply (hstore3 𝒱 (c.tc : Thread nD τ) bd (moT K t.val 3) (4 * (t.val % 3) + 3) (off120 t).2.2.2 (moT_at K t.val 3)) $$ HG3
  iintro HG3
  iapply (chGo arg5 arg7 arg15 arg21 arg22 c K q₅ F₇ 𝒱 bd 3 t.val ht (sem_eq arg22 _ _ _ _ (off117 t).2.2.2) (off118 t).2.2.2 (off141 t)) $$ [HG3 HC3]
  · unfold SM
    isplitl [HG3]; · iexact HG3
    iexact HC3
  iintro HC3
  iapply (wp_done 𝒱 (c.tc : Thread nD τ) bd)
  isplitl [HR1]; · iexact HR1
  isplitl [HCF HL]
  · iapply RC_of
    isplitl [HCF]; · iexact HCF
    unfold CL; iexact HL
  isplitl [HCD]; · iexact HCD
  isplitl [HCN]; · iexact HCN
  isplitl [HDY]; · iexact HDY
  isplitl [HW1]; · iexact HW1
  isplitl [HW2]; · iexact HW2
  isplitl [HW3]; · iexact HW3
  isplitl [HWD]; · iexact HWD
  isplitl [HWN]; · iexact HWN
  isplitl [HA0]; · iexact HA0
  isplitl [HA1]; · iexact HA1
  isplitl [HA2]; · iexact HA2
  isplitl [HA3]; · iexact HA3
  isplitl [HA4]; · iexact HA4
  isplitl [HA5]; · iexact HA5
  isplitl [HA6]; · iexact HA6
  isplitl [HA7]; · iexact HA7
  isplitl [HX]; · iexact HX
  isplitl [HC0]; · iexact HC0
  isplitl [HC1]; · iexact HC1
  isplitl [HC2]; · iexact HC2
  isplitl [HC3]; · iexact HC3
  iexact HO

end Cert.Kernel.Hand
-- ==== Proof.KPre.lean ====
/-
  The program up to the second loop: the copies started at the outset (the gradient's bands, the first blocks of the
  weights and of the accumulated gradient, the activations), the accumulator zeroed, the first loop.
-/
module

public import proofs.«01_k».proof.Proof.KAmax
public import proofs.«01_k».proof.Proof.KTrip

@[expose] public section

set_option maxRecDepth 16384

noncomputable section

namespace Cert.Kernel.Hand

open Cert.Kernel Cert.Kernel.Gen Cert.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (arg0 : Memref sig .tc .smem S1x1 .f32) (harg0 : arg0.IsWhole) (arg1 : Memref sig .tc .smem S1x1 .f32) (harg1 : arg1.IsWhole)
  (arg2 : Memref sig .tc .hbm S1024x11008 .bf16) (harg2 : arg2.IsWhole) (arg3 : Memref sig .tc .hbm S1024x4096 .fp8e4m3) (harg3 : arg3.IsWhole)
  (arg4 : Memref sig .tc .hbm S11008x4096 .fp8e4m3) (harg4 : arg4.IsWhole) (arg5 : Memref sig .tc .hbm S11008x4096 .f32) (harg5 : arg5.IsWhole)
  (arg6 : Memref sig .tc .hbm S1024x4096 .bf16) (harg6 : arg6.IsWhole) (arg7 : Memref sig .tc .hbm S11008x4096 .f32) (harg7 : arg7.IsWhole)
  (arg8 : Memref sig .tc .smem S1x1 .f32) (harg8 : arg8.IsWhole) (arg9 : Memref sig .tc .hbm S1024x11008 .fp8e5m2) (harg9 : arg9.IsWhole)
  (arg10 : Memref sig .tc .smem S1x1 .f32) (harg10 : arg10.IsWhole) (arg11 : Memref sig .tc .vmem S1024x11008 .bf16) (harg11 : arg11.IsWhole)
  (arg12 : Memref sig .tc .vmem S1024x4096 .fp8e4m3) (harg12 : arg12.IsWhole) (arg13 : Memref sig .tc .vmem S3x256x4096 .fp8e4m3) (harg13 : arg13.IsWhole)
  (arg14 : Memref sig .tc .vmem S2x1024x256 .fp8e5m2) (harg14 : arg14.IsWhole) (arg15 : Memref sig .tc .vmem S12x256x1024 .f32) (harg15 : arg15.IsWhole)
  (arg16 : Memref sig .tc .vmem S1024x4096 .f32) (harg16 : arg16.IsWhole) (arg17 : DmaSems sig S16) (arg18 : DmaSems sig S_) (arg19 : DmaSems sig S3)
  (arg20 : DmaSems sig S2) (arg21 : DmaSems sig S12) (arg22 : DmaSems sig S12) (arg23 : DmaSems sig S8)

variable {defs : Defs nD τ sig (Elt F) Λ₀} (𝒱 : Variants) (c : Dev nD) (bd : Option 𝒱.V)
variable (K : In F) (q₂ q₃ q₄ q₅ : PosShare TreeShare) (F₇ : ℕ → ℕ → Elt F .f32)

/-- The first `k` bands of the gradient are started, `i` are not. -/
def A1 (i k : ℕ) : sProp 𝕄 :=
  iprop(H2 (c.tc : Thread nD τ) arg2 q₂ (64 * k) 1024 0 11008 K.dy ∗ Sent (c.tc : Thread nD τ) arg2 arg11 arg17 q₂ K.dy 64 11008 1024 i k)

/-- The activations are being copied. -/
def XF : sProp 𝕄 :=
  Fl (c.tc : Thread nD τ) arg18.sem (cr arg12 ⟨2, ![1024, 4096]⟩)
    iprop(H2 (c.tc : Thread nD τ) arg12 fullShare 0 1024 0 4096 K.x ∗ H2 (c.tc : Thread nD τ) arg3 q₃ 0 1024 0 4096 K.x)

/-- The activations before their copy. -/
def X0 : sProp 𝕄 :=
  iprop(H2 (c.tc : Thread nD τ) arg3 q₃ 0 1024 0 4096 K.x ∗ (∃ G, H2 (c.tc : Thread nD τ) arg12 fullShare 0 1024 0 4096 G)
    ∗ semVal ((c.tc : Thread nD τ), .dma arg18.sem) 0)

/-- The accumulator at some contents. -/
def AW : sProp 𝕄 := iprop(∃ G, H2 (c.tc : Thread nD τ) arg16 fullShare 0 1024 0 4096 G)

/-- What chunk `n` holds at first besides its slots to fill. -/
def R0 (n : ℕ) : sProp 𝕄 :=
  iprop(Slot (c.tc : Thread nD τ) arg15 arg22 (4 * (2 % 3) + n) ∗ IS arg21 c n 2 ∗ OS arg22 c n 0 ∗ OS arg22 c n 1
    ∗ H2 (c.tc : Thread nD τ) arg7 fullShare 0 11008 (1024 * n) (1024 * n + 1024) F₇)

/-- Chunk `n` at first. -/
def CI (n : ℕ) : sProp 𝕄 :=
  iprop(Slot (c.tc : Thread nD τ) arg15 arg21 (4 * (0 % 3) + n) ∗ MGN arg5 c K q₅ n 0 ∗ Slot (c.tc : Thread nD τ) arg15 arg21 (4 * (1 % 3) + n)
    ∗ R0 arg7 arg15 arg21 arg22 c F₇ n)

/-- Chunk `n`, its first block being filled. -/
def C1 (n : ℕ) : sProp 𝕄 :=
  iprop(RI arg5 arg15 arg21 c K q₅ n 0 ∗ MGD arg5 c K q₅ n 0 ∗ MGN arg5 c K q₅ n 1 ∗ Slot (c.tc : Thread nD τ) arg15 arg21 (4 * (1 % 3) + n)
    ∗ R0 arg7 arg15 arg21 arg22 c F₇ n)

section

variable {α : Type} {Q : α → sProp (MT nD τ sig Unit (Elt F) ℕ (Pipeline.UD sig nD τ) ℕ)} {P KK : Prog (TpuEff nD τ sig (Elt F) Λ₀ .tc) α} (n k : ℕ)

theorem fill0
    (hp : ∀ G, iprop(H2 (c.tc : Thread nD τ) arg5 q₅ (256 * 0) (256 * 0 + 256) (1024 * n) (1024 * n + 1024) K.mg ∗ H3 (c.tc : Thread nD τ) arg15 fullShare (4 * (0 % 3) + n) G
        ∗ semVal ((c.tc : Thread nD τ), .dma (semAt arg21 (4 * (0 % 3) + n))) 0)
      ⊢ iprop((FlIn (c.tc : Thread nD τ) arg5 arg15 arg21 q₅ K.mg (4 * (0 % 3) + n) (256 * 0) (1024 * n) -∗ wp frame (wpE defs 𝒱 (c.tc : Thread nD τ) bd) Set.univ KK Q)
        -∗ wp frame (wpE defs 𝒱 (c.tc : Thread nD τ) bd) Set.univ P Q)) :
    CI arg5 arg7 arg15 arg21 arg22 c K q₅ F₇ n
      ⊢ iprop((C1 arg5 arg7 arg15 arg21 arg22 c K q₅ F₇ n -∗ wp frame (wpE defs 𝒱 (c.tc : Thread nD τ) bd) Set.univ KK Q)
        -∗ wp frame (wpE defs 𝒱 (c.tc : Thread nD τ) bd) Set.univ P Q) := by
  unfold CI C1 RI MGN MGD
  iintro ⟨HS, HN, H1, HR⟩ Hk
  ihave HN := (H2_rows (256 * 0) (Nat.le_refl _) (by omega)) $$ HN
  icases HN with ⟨HD, HN⟩
  iapply (startIn 𝒱 (c.tc : Thread nD τ) bd (A := arg5) (R := arg15) (S := arg21) (q := q₅) (F := K.mg) (k := 4 * (0 % 3) + n) (r := 256 * 0) (s := 1024 * n) (l := 11008) (by omega) hp) $$ [HS HN]
  · isplitl [HS]; · iexact HS
    iexact HN
  iintro ⟨HI, HN⟩
  iapply Hk
  isplitl [HI]; · iexact HI
  isplitl [HD]; · iexact HD
  isplitl [HN]; · iexact HN
  isplitl [H1]; · iexact H1
  iexact HR

theorem fill1
    (hp : ∀ G, iprop(H2 (c.tc : Thread nD τ) arg5 q₅ (256 * 1) (256 * 1 + 256) (1024 * n) (1024 * n + 1024) K.mg ∗ H3 (c.tc : Thread nD τ) arg15 fullShare (4 * (1 % 3) + n) G
        ∗ semVal ((c.tc : Thread nD τ), .dma (semAt arg21 (4 * (1 % 3) + n))) 0)
      ⊢ iprop((FlIn (c.tc : Thread nD τ) arg5 arg15 arg21 q₅ K.mg (4 * (1 % 3) + n) (256 * 1) (1024 * n) -∗ wp frame (wpE defs 𝒱 (c.tc : Thread nD τ) bd) Set.univ KK Q)
        -∗ wp frame (wpE defs 𝒱 (c.tc : Thread nD τ) bd) Set.univ P Q)) :
    C1 arg5 arg7 arg15 arg21 arg22 c K q₅ F₇ n
      ⊢ iprop((CH arg5 arg7 arg15 arg21 arg22 c K q₅ F₇ n 0 -∗ wp frame (wpE defs 𝒱 (c.tc : Thread nD τ) bd) Set.univ KK Q)
        -∗ wp frame (wpE defs 𝒱 (c.tc : Thread nD τ) bd) Set.univ P Q) := by
  unfold C1 CH C0 R0 RI MGN MGD RO RoleOut
  rw [if_neg (by omega)]
  iintro ⟨HI, HD, HN, HS, HR, His, Ho0, Ho1, H7⟩ Hk
  iapply (startIn 𝒱 (c.tc : Thread nD τ) bd (A := arg5) (R := arg15) (S := arg21) (q := q₅) (F := K.mg) (k := 4 * (1 % 3) + n) (r := 256 * 1) (s := 1024 * n) (l := 11008) (by omega) hp) $$ [HS HN]
  · isplitl [HS]; · iexact HS
    iexact HN
  iintro ⟨HI1, HN⟩
  ihave H7 := (H2_rows (256 * 0) (Nat.le_refl _) (by omega)) $$ H7
  icases H7 with ⟨H7d, H7⟩
  iapply Hk
  isplitl [HR]; · iexact HR
  isplitl [H7d]
  · unfold MOD
    iapply (H2_void (Or.inl (by omega)) (Or.inl (by omega))) $$ H7d
  isplitl [His]; · iexact His
  isplitl [HN]; · iexact HN
  isplitl [HI]; · iexact HI
  isplitl [HD]; · iexact HD
  isplitl [Ho0]; · iexact Ho0
  isplitl [H7]
  · unfold MON; iexact H7
  isplitl [HI1]; · iexact HI1
  iexact Ho1

/-- The start of the fill of the weights' slot with block `k`. -/
theorem fillW (hk : 256 * k + 256 ≤ 11008)
    (hp : ∀ G, iprop(H2 (c.tc : Thread nD τ) arg4 q₄ (256 * k) (256 * k + 256) 0 (0 + 4096) K.w ∗ H3 (c.tc : Thread nD τ) arg13 fullShare (k % 3) G
        ∗ semVal ((c.tc : Thread nD τ), .dma (semAt arg19 (k % 3))) 0)
      ⊢ iprop((FlIn (c.tc : Thread nD τ) arg4 arg13 arg19 q₄ K.w (k % 3) (256 * k) 0 -∗ wp frame (wpE defs 𝒱 (c.tc : Thread nD τ) bd) Set.univ KK Q)
        -∗ wp frame (wpE defs 𝒱 (c.tc : Thread nD τ) bd) Set.univ P Q)) :
    iprop(Slot (c.tc : Thread nD τ) arg13 arg19 (k % 3) ∗ WN arg4 c K q₄ k)
      ⊢ iprop((iprop(RW arg4 arg13 arg19 c K q₄ k ∗ WN arg4 c K q₄ (k + 1)) -∗ wp frame (wpE defs 𝒱 (c.tc : Thread nD τ) bd) Set.univ KK Q)
        -∗ wp frame (wpE defs 𝒱 (c.tc : Thread nD τ) bd) Set.univ P Q) := by
  unfold WN RW
  rw [Nat.mul_succ]
  exact startIn 𝒱 (c.tc : Thread nD τ) bd hk hp

end

theorem part16 {Q : PUnit → sProp (MT nD τ sig Unit (Elt F) ℕ (Pipeline.UD sig nD τ) ℕ)} :
    iprop(A1 arg2 arg11 arg17 c K q₂ 16 0)
      ⊢ iprop((iprop(A1 arg2 arg11 arg17 c K q₂ 10 6) -∗ Q ⟨⟩)
        -∗ wp frame (wpE defs 𝒱 (c.tc : Thread nD τ) bd) Set.univ (k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23) Q) := by
  rw [k0_part16_eq_skeleton]
  unfold k0_part16_skel A1
  iintro ⟨HA, HS⟩ Hk
  iapply (bandNext 𝒱 (c.tc : Thread nD τ) bd (n := 64) (w := 11008) (q := q₂) (F := K.dy) (l := 1024) 0 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 1 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 2 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 3 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 4 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 5 rfl rfl rfl rfl (sem_eq arg17 _ _ _ _ rfl) (by omega) (by decide)) $$ [HA HS]
  · isplitl [HA]; · iexact HA
    iexact HS
  iintro ⟨HA, HS⟩
  iapply (wp_done 𝒱 (c.tc : Thread nD τ) bd)
  iapply Hk
  isplitl [HA]; · iexact HA
  iexact HS

theorem part17 {Q : PUnit → sProp (MT nD τ sig Unit (Elt F) ℕ (Pipeline.UD sig nD τ) ℕ)} :
    iprop(A1 arg2 arg11 arg17 c K q₂ 10 6)
      ⊢ iprop((iprop(A1 arg2 arg11 arg17 c K q₂ 4 12) -∗ Q ⟨⟩)
        -∗ wp frame (wpE defs 𝒱 (c.tc : Thread nD τ) bd) Set.univ (k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23) Q) := by
  rw [k0_part17_eq_skeleton]
  unfold k0_part17_skel A1
  iintro ⟨HA, HS⟩ Hk
  iapply (bandNext 𝒱 (c.tc : Thread nD τ) bd (n := 64) (w := 11008) (q := q₂) (F := K.dy) (l := 1024) 6 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 7 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 8 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 9 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 10 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 11 rfl rfl rfl rfl (sem_eq arg17 _ _ _ _ rfl) (by omega) (by decide)) $$ [HA HS]
  · isplitl [HA]; · iexact HA
    iexact HS
  iintro ⟨HA, HS⟩
  iapply (wp_done 𝒱 (c.tc : Thread nD τ) bd)
  iapply Hk
  isplitl [HA]; · iexact HA
  iexact HS

theorem part18 {Q : PUnit → sProp (MT nD τ sig Unit (Elt F) ℕ (Pipeline.UD sig nD τ) ℕ)} :
    iprop(A1 arg2 arg11 arg17 c K q₂ 4 12 ∗ Slot (c.tc : Thread nD τ) arg13 arg19 (0 % 3) ∗ WN arg4 c K q₄ 0 ∗ X0 arg3 arg12 arg18 c K q₃)
      ⊢ iprop((iprop(A1 arg2 arg11 arg17 c K q₂ 0 16 ∗ RW arg4 arg13 arg19 c K q₄ 0 ∗ WN arg4 c K q₄ 1 ∗ XF arg3 arg12 arg18 c K q₃) -∗ Q ⟨⟩)
        -∗ wp frame (wpE defs 𝒱 (c.tc : Thread nD τ) bd) Set.univ (k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23) Q) := by
  rw [k0_part18_eq_skeleton]
  unfold k0_part18_skel A1 X0 XF
  iintro ⟨⟨HA, HS⟩, HW, HN, HX, ⟨%G, HX2⟩, Hv⟩ Hk
  iapply (bandNext 𝒱 (c.tc : Thread nD τ) bd (n := 64) (w := 11008) (q := q₂) (F := K.dy) (l := 1024) 12 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 13 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 14 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 15 rfl rfl rfl rfl (sem_eq arg17 _ _ _ _ rfl) (by omega) (by decide)) $$ [HA HS]
  · isplitl [HA]; · iexact HA
    iexact HS
  iintro ⟨HA, HS⟩
  iapply (fillW arg4 arg13 arg19 𝒱 c bd K q₄ 0 (by omega)
    (fun G => hdma23 𝒱 (c.tc : Thread nD τ) bd _ (256 * 0) 0 (0 % 3) rfl rfl rfl (sem_eq arg19 _ _ _ _ rfl) (fun i j _ _ => rfl) (by decide))) $$ [HW HN]
  · isplitl [HW]; · iexact HW
    iexact HN
  iintro ⟨HW, HN⟩
  iapply (hdmaW 𝒱 (c.tc : Thread nD τ) bd rfl (by decide)) $$ [HX HX2 Hv]
  · isplitl [HX]; · iexact HX
    isplitl [HX2]; · iexact HX2
    iexact Hv
  iintro HF
  iapply (wp_done 𝒱 (c.tc : Thread nD τ) bd)
  iapply Hk
  isplitl [HA HS]
  · isplitl [HA]; · iexact HA
    iexact HS
  isplitl [HW]; · iexact HW
  isplitl [HN]; · iexact HN
  iexact HF

theorem part19 {Q : PUnit → sProp (MT nD τ sig Unit (Elt F) ℕ (Pipeline.UD sig nD τ) ℕ)} :
    iprop(Slot (c.tc : Thread nD τ) arg13 arg19 (1 % 3) ∗ WN arg4 c K q₄ 1 ∗ CI arg5 arg7 arg15 arg21 arg22 c K q₅ F₇ 0 ∗ CI arg5 arg7 arg15 arg21 arg22 c K q₅ F₇ 1 ∗ CI arg5 arg7 arg15 arg21 arg22 c K q₅ F₇ 2 ∗ CI arg5 arg7 arg15 arg21 arg22 c K q₅ F₇ 3)
      ⊢ iprop((iprop(RW arg4 arg13 arg19 c K q₄ 1 ∗ WN arg4 c K q₄ 2 ∗ C1 arg5 arg7 arg15 arg21 arg22 c K q₅ F₇ 0 ∗ C1 arg5 arg7 arg15 arg21 arg22 c K q₅ F₇ 1 ∗ C1 arg5 arg7 arg15 arg21 arg22 c K q₅ F₇ 2 ∗ C1 arg5 arg7 arg15 arg21 arg22 c K q₅ F₇ 3) -∗ Q ⟨⟩)
        -∗ wp frame (wpE defs 𝒱 (c.tc : Thread nD τ) bd) Set.univ (k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23) Q) := by
  rw [k0_part19_eq_skeleton]
  unfold k0_part19_skel
  iintro ⟨HW, HN, HC0, HC1, HC2, HC3⟩ Hk
  iapply (fill0 arg5 arg7 arg15 arg21 arg22 𝒱 c bd K q₅ F₇ 0
    (fun G => hdma23 𝒱 (c.tc : Thread nD τ) bd _ (256 * 0) (1024 * 0) (4 * (0 % 3) + 0) rfl rfl rfl (sem_eq arg21 _ _ _ _ rfl) (fun i j _ _ => rfl) (by decide))) $$ HC0
  iintro HC0
  iapply (fill0 arg5 arg7 arg15 arg21 arg22 𝒱 c bd K q₅ F₇ 1
    (fun G => hdma23 𝒱 (c.tc : Thread nD τ) bd _ (256 * 0) (1024 * 1) (4 * (0 % 3) + 1) rfl rfl rfl (sem_eq arg21 _ _ _ _ rfl) (fun i j _ _ => rfl) (by decide))) $$ HC1
  iintro HC1
  iapply (fill0 arg5 arg7 arg15 arg21 arg22 𝒱 c bd K q₅ F₇ 2
    (fun G => hdma23 𝒱 (c.tc : Thread nD τ) bd _ (256 * 0) (1024 * 2) (4 * (0 % 3) + 2) rfl rfl rfl (sem_eq arg21 _ _ _ _ rfl) (fun i j _ _ => rfl) (by decide))) $$ HC2
  iintro HC2
  iapply (fill0 arg5 arg7 arg15 arg21 arg22 𝒱 c bd K q₅ F₇ 3
    (fun G => hdma23 𝒱 (c.tc : Thread nD τ) bd _ (256 * 0) (1024 * 3) (4 * (0 % 3) + 3) rfl rfl rfl (sem_eq arg21 _ _ _ _ rfl) (fun i j _ _ => rfl) (by decide))) $$ HC3
  iintro HC3
  iapply (fillW arg4 arg13 arg19 𝒱 c bd K q₄ 1 (by omega)
    (fun G => hdma23 𝒱 (c.tc : Thread nD τ) bd _ (256 * 1) 0 (1 % 3) rfl rfl rfl (sem_eq arg19 _ _ _ _ rfl) (fun i j _ _ => rfl) (by decide))) $$ [HW HN]
  · isplitl [HW]; · iexact HW
    iexact HN
  iintro ⟨HW, HN⟩
  iapply (wp_done 𝒱 (c.tc : Thread nD τ) bd)
  iapply Hk
  isplitl [HW]; · iexact HW
  isplitl [HN]; · iexact HN
  isplitl [HC0]; · iexact HC0
  isplitl [HC1]; · iexact HC1
  isplitl [HC2]; · iexact HC2
  iexact HC3

theorem part20 {Q : FVec F S1024x4096 .f32 → sProp (MT nD τ sig Unit (Elt F) ℕ (Pipeline.UD sig nD τ) ℕ)} :
    iprop(Slot (c.tc : Thread nD τ) arg13 arg19 (2 % 3) ∗ WN arg4 c K q₄ 2 ∗ C1 arg5 arg7 arg15 arg21 arg22 c K q₅ F₇ 0 ∗ C1 arg5 arg7 arg15 arg21 arg22 c K q₅ F₇ 1 ∗ C1 arg5 arg7 arg15 arg21 arg22 c K q₅ F₇ 2 ∗ C1 arg5 arg7 arg15 arg21 arg22 c K q₅ F₇ 3 ∗ AW arg16 c)
      ⊢ iprop((iprop(RW arg4 arg13 arg19 c K q₄ 2 ∗ WN arg4 c K q₄ 3 ∗ CH arg5 arg7 arg15 arg21 arg22 c K q₅ F₇ 0 0 ∗ CH arg5 arg7 arg15 arg21 arg22 c K q₅ F₇ 1 0 ∗ CH arg5 arg7 arg15 arg21 arg22 c K q₅ F₇ 2 0 ∗ CH arg5 arg7 arg15 arg21 arg22 c K q₅ F₇ 3 0 ∗ AW arg16 c) -∗ Q (k0_pay24 (F := F)))
        -∗ wp frame (wpE defs 𝒱 (c.tc : Thread nD τ) bd) Set.univ (k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23) Q) := by
  rw [k0_part20_eq_skeleton]
  unfold k0_part20_skel AW
  iintro ⟨HW, HN, HC0, HC1, HC2, HC3, ⟨%G, HA⟩⟩ Hk
  iapply (fill1 arg5 arg7 arg15 arg21 arg22 𝒱 c bd K q₅ F₇ 0
    (fun G => hdma23 𝒱 (c.tc : Thread nD τ) bd _ (256 * 1) (1024 * 0) (4 * (1 % 3) + 0) rfl rfl rfl (sem_eq arg21 _ _ _ _ rfl) (fun i j _ _ => rfl) (by decide))) $$ HC0
  iintro HC0
  iapply (fill1 arg5 arg7 arg15 arg21 arg22 𝒱 c bd K q₅ F₇ 1
    (fun G => hdma23 𝒱 (c.tc : Thread nD τ) bd _ (256 * 1) (1024 * 1) (4 * (1 % 3) + 1) rfl rfl rfl (sem_eq arg21 _ _ _ _ rfl) (fun i j _ _ => rfl) (by decide))) $$ HC1
  iintro HC1
  iapply (fill1 arg5 arg7 arg15 arg21 arg22 𝒱 c bd K q₅ F₇ 2
    (fun G => hdma23 𝒱 (c.tc : Thread nD τ) bd _ (256 * 1) (1024 * 2) (4 * (1 % 3) + 2) rfl rfl rfl (sem_eq arg21 _ _ _ _ rfl) (fun i j _ _ => rfl) (by decide))) $$ HC2
  iintro HC2
  iapply (fill1 arg5 arg7 arg15 arg21 arg22 𝒱 c bd K q₅ F₇ 3
    (fun G => hdma23 𝒱 (c.tc : Thread nD τ) bd _ (256 * 1) (1024 * 3) (4 * (1 % 3) + 3) rfl rfl rfl (sem_eq arg21 _ _ _ _ rfl) (fun i j _ _ => rfl) (by decide))) $$ HC3
  iintro HC3
  iapply (fillW arg4 arg13 arg19 𝒱 c bd K q₄ 2 (by omega)
    (fun G => hdma23 𝒱 (c.tc : Thread nD τ) bd _ (256 * 2) 0 (2 % 3) rfl rfl rfl (sem_eq arg19 _ _ _ _ rfl) (fun i j _ _ => rfl) (by decide))) $$ [HW HN]
  · isplitl [HW]; · iexact HW
    iexact HN
  iintro ⟨HW, HN⟩
  iapply (hload2 𝒱 (c.tc : Thread nD τ) bd 0 (0) rfl rfl ⟨by omega, by omega⟩ ⟨by omega, by omega⟩) $$ HA
  iintro HA
  iapply (wp_done 𝒱 (c.tc : Thread nD τ) bd)
  iapply Hk
  isplitl [HW]; · iexact HW
  isplitl [HN]; · iexact HN
  isplitl [HC0]; · iexact HC0
  isplitl [HC1]; · iexact HC1
  isplitl [HC2]; · iexact HC2
  isplitl [HC3]; · iexact HC3
  iexists G; iexact HA

theorem part21 {Q : (Σ' (v131 : FVec F S1x1 .f32) (v157 : FVec F S1x1 .f32), IVec S1x1 32) → sProp (MT nD τ sig Unit (Elt F) ℕ (Pipeline.UD sig nD τ) ℕ)} :
    iprop(AW arg16 c ∗ B1 arg2 arg11 arg17 c K.dy q₂ 16 0 ∗ ∃ W, owes (c.tc : Thread nD τ) 0 W)
      ⊢ iprop((iprop(H2 (c.tc : Thread nD τ) arg16 fullShare 0 1024 0 4096 (accF K 0) ∗ B1 arg2 arg11 arg17 c K.dy q₂ 0 16 ∗ ∃ W, owes (c.tc : Thread nD τ) 0 W) -∗ Q ⟨k0_pay27 (amF K.dy 16), k0_pay29 (amF K.dy 16), k0_pay30 (amF K.dy 16)⟩)
        -∗ wp frame (wpE defs 𝒱 (c.tc : Thread nD τ) bd) Set.univ (k0_part21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 (k0_pay24 (F := F))) Q) := by
  rw [k0_part21_eq_skeleton]
  unfold k0_part21_skel AW
  iintro ⟨⟨%G, HA⟩, HB, HO⟩ Hk
  iapply (hstore2 𝒱 (c.tc : Thread nD τ) bd (accF K 0) 0 0 rfl rfl ⟨by omega, by omega⟩ ⟨by omega, by omega⟩ (fun y => by rw [Nat.zero_add, Nat.zero_add]; exact lift2_val (n := 1024) (m := 4096) _ y) (fun i j _ _ _ _ _ => by omega)) $$ HA
  iintro HA
  iapply (Scf.wp_for_bind _ _ _ _ _ _ _ _ _ (fun n m => I1 arg2 arg11 arg17 c K.dy q₂ n m)
    (fun t m => t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K.dy q₂ t k0_pay24 m)) $$ [HB HO]
  · unfold I1
    isplitr
    · ipureintro; rfl
    isplitl [HB]; · iexact HB
    iexact HO
  unfold I1
  iintro %m ⟨%hm, HB, HO⟩
  have hm' : m = amF K.dy 16 := hm
  subst hm'
  iapply (wp_done 𝒱 (c.tc : Thread nD τ) bd)
  iapply Hk
  isplitl [HA]; · iexact HA
  isplitl [HB]; · iexact HB
  iexact HO

end Cert.Kernel.Hand
-- ==== Proof.KTail.lean ====
/-
  The program from the end of the first loop on: the scalar results, the second loop, the gradient of the activations scaled,
  rounded and carried out in eight bands, and the last waits.
-/
module

public import proofs.«01_k».proof.Proof.KPre

@[expose] public section

set_option maxRecDepth 16384

noncomputable section

namespace Cert.Kernel.Hand

open Cert.Kernel Cert.Kernel.Gen Cert.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (arg0 : Memref sig .tc .smem S1x1 .f32) (harg0 : arg0.IsWhole) (arg1 : Memref sig .tc .smem S1x1 .f32) (harg1 : arg1.IsWhole)
  (arg2 : Memref sig .tc .hbm S1024x11008 .bf16) (harg2 : arg2.IsWhole) (arg3 : Memref sig .tc .hbm S1024x4096 .fp8e4m3) (harg3 : arg3.IsWhole)
  (arg4 : Memref sig .tc .hbm S11008x4096 .fp8e4m3) (harg4 : arg4.IsWhole) (arg5 : Memref sig .tc .hbm S11008x4096 .f32) (harg5 : arg5.IsWhole)
  (arg6 : Memref sig .tc .hbm S1024x4096 .bf16) (harg6 : arg6.IsWhole) (arg7 : Memref sig .tc .hbm S11008x4096 .f32) (harg7 : arg7.IsWhole)
  (arg8 : Memref sig .tc .smem S1x1 .f32) (harg8 : arg8.IsWhole) (arg9 : Memref sig .tc .hbm S1024x11008 .fp8e5m2) (harg9 : arg9.IsWhole)
  (arg10 : Memref sig .tc .smem S1x1 .f32) (harg10 : arg10.IsWhole) (arg11 : Memref sig .tc .vmem S1024x11008 .bf16) (harg11 : arg11.IsWhole)
  (arg12 : Memref sig .tc .vmem S1024x4096 .fp8e4m3) (harg12 : arg12.IsWhole) (arg13 : Memref sig .tc .vmem S3x256x4096 .fp8e4m3) (harg13 : arg13.IsWhole)
  (arg14 : Memref sig .tc .vmem S2x1024x256 .fp8e5m2) (harg14 : arg14.IsWhole) (arg15 : Memref sig .tc .vmem S12x256x1024 .f32) (harg15 : arg15.IsWhole)
  (arg16 : Memref sig .tc .vmem S1024x4096 .f32) (harg16 : arg16.IsWhole) (arg17 : DmaSems sig S16) (arg18 : DmaSems sig S_) (arg19 : DmaSems sig S3)
  (arg20 : DmaSems sig S2) (arg21 : DmaSems sig S12) (arg22 : DmaSems sig S12) (arg23 : DmaSems sig S8)

variable {defs : Defs nD τ sig (Elt F) Λ₀} (𝒱 : Variants) (c : Dev nD) (bd : Option 𝒱.V)
variable (K : In F) (q₂ q₃ q₄ q₅ q₀ q₁ : PosShare TreeShare) (F₇ : ℕ → ℕ → Elt F .f32) (F₉ : ℕ → ℕ → Elt F .fp8e5m2)
variable (s : FVec F S1x1 .f32) (G₀ G₁ : ℕ → ℕ → Elt F .f32)

/-- The gradient of the activations, by row and column. -/
def dxF (i j : ℕ) : Elt F .bf16 := lift2 (n := 128) (m := 4096) (k0_pay45 s (tile2 128 4096 (accF K 43) (128 * (i / 128)) 0)) (i % 128) j

theorem dxF_at (k : ℕ) (y : S128x4096.Idx) :
    dxF K s (128 * k + (y 0).val) (0 + (y 1).val) = k0_pay45 s (tile2 128 4096 (accF K 43) (128 * k) 0) y := by
  have h0 : (y 0).val < 128 := (y 0).isLt
  unfold dxF
  rw [show (128 * k + (y 0).val) / 128 = k by omega, show (128 * k + (y 0).val) % 128 = (y 0).val by omega, Nat.zero_add]
  exact lift2_val (n := 128) (m := 4096) _ y

/-- The accumulator at the end of the second loop. -/
def A43 : sProp 𝕄 := H2 (c.tc : Thread nD τ) arg16 fullShare 0 1024 0 4096 (accF K 43)

/-- The rows of the result's staging from band `k` on, still the gradient. -/
def XR (k : ℕ) : sProp 𝕄 := H2 (c.tc : Thread nD τ) arg11 fullShare (128 * k) 1024 0 4096 K.dy

/-- The first `k` bands of the result are on their way, `i` are not. -/
def XS (i k : ℕ) : sProp 𝕄 := Sent (c.tc : Thread nD τ) arg11 arg6 arg23 fullShare (dxF K s) 128 4096 1024 i k

/-- The first `k` bands of the result have arrived, `i` more are on their way. -/
def XC (i k : ℕ) : sProp 𝕄 := Come (c.tc : Thread nD τ) arg11 arg6 arg23 fullShare (dxF K s) 128 4096 i k

/-- What a chunk holds at the very end. -/
def CE (n : ℕ) : sProp 𝕄 :=
  iprop(Slot (c.tc : Thread nD τ) arg15 arg22 (4 * (45 % 3) + n) ∗ IS arg21 c n 45 ∗ Slot (c.tc : Thread nD τ) arg15 arg21 (4 * (43 % 3) + n)
    ∗ Slot (c.tc : Thread nD τ) arg15 arg21 (4 * (44 % 3) + n) ∗ OS arg22 c n 43 ∗ OS arg22 c n 44
    ∗ H2 (c.tc : Thread nD τ) arg5 q₅ 0 11008 (1024 * n) (1024 * n + 1024) K.mg
    ∗ H2 (c.tc : Thread nD τ) arg7 fullShare 0 11008 (1024 * n) (1024 * n + 1024) (moF K))

section

variable {α : Type} {Q : α → sProp (MT nD τ sig Unit (Elt F) ℕ (Pipeline.UD sig nD τ) ℕ)} (n k : ℕ)

/-- The wait for the last block of a chunk. -/
theorem chEnd {κ' : Kind} {sp' : Space} {s₁ s₂ : Shape} {e' : EltTy}
    {sem : DmaSem sig} {srcw : Memref sig .tc .vmem s₁ e'} {dstw : Memref sig κ' sp' s₂ e'} {hsrc : srcw.view.WordExact} {hdst : dstw.view.WordExact}
    {kk : PUnit → Prog (TpuEff nD τ sig (Elt F) Λ₀ .tc) α}
    (hsm : sem = semAt arg22 (4 * (45 % 3) + n)) (hN : dstw.view.dmaCredit = cr arg7 ⟨2, ![256, 1024]⟩) :
    iprop(CH arg5 arg7 arg15 arg21 arg22 c K q₅ F₇ n 43 ∗ ∃ W, owes (c.tc : Thread nD τ) 0 W)
      ⊢ iprop((iprop(CE arg5 arg7 arg15 arg21 arg22 c K q₅ n ∗ ∃ W, owes (c.tc : Thread nD τ) 0 W) -∗ wp frame (wpE defs 𝒱 (c.tc : Thread nD τ) bd) Set.univ (kk ⟨⟩) Q)
        -∗ wp frame (wpE defs 𝒱 (c.tc : Thread nD τ) bd) Set.univ (.op (.waitDma2 sem srcw dstw hsrc hdst) kk) Q) := by
  unfold CH C0 CE RO RI RoleOut RoleIn MOD MGD Slot
  rw [if_pos (by omega), if_neg (by omega), if_neg (by omega)]
  iintro ⟨⟨HF, HD, HS, _, ⟨H1, HG, Ho1, _, H2, Ho2⟩⟩, HO⟩ Hk
  iapply (wp_hwait 𝒱 (c.tc : Thread nD τ) bd hsm hN) $$ [HF HO]
  · isplitl [HF]; · iexact HF
    iexact HO
  iintro ⟨⟨HB, HT⟩, Hv, HO⟩
  iapply Hk
  isplitr [HO]
  · isplitl [HT Hv]
    · isplitl [HT]
      · iexists _; iexact HT
      iexact Hv
    isplitl [HS]; · iexact HS
    isplitl [H1]; · iexact H1
    isplitl [H2]; · iexact H2
    isplitl [Ho1]; · iexact Ho1
    isplitl [Ho2]; · iexact Ho2
    isplitl [HG]; · iexact HG
    iapply (H2_joinRows (r₁ := 256 * 42) (by omega) (by omega) (fun _ _ _ _ _ _ => rfl) (fun _ _ _ _ _ _ => rfl))
    isplitl [HD]; · iexact HD
    iexact HB
  iexact HO

/-- The wait for a block of the codes. -/
theorem cdEnd {κ' : Kind} {sp' : Space} {s₁ s₂ : Shape} {e' : EltTy} (o : ℕ)
    {sem : DmaSem sig} {srcw : Memref sig .tc .vmem s₁ e'} {dstw : Memref sig κ' sp' s₂ e'} {hsrc : srcw.view.WordExact} {hdst : dstw.view.WordExact}
    {kk : PUnit → Prog (TpuEff nD τ sig (Elt F) Λ₀ .tc) α}
    (hsm : sem = semAt arg20 ((o + 2) % 2)) (hN : dstw.view.dmaCredit = cr arg9 ⟨2, ![1024, 256]⟩) :
    iprop(RC arg9 arg14 arg20 c K (o + 2) ∗ CD arg9 c K o ∗ ∃ W, owes (c.tc : Thread nD τ) 0 W)
      ⊢ iprop((iprop(Slot (c.tc : Thread nD τ) arg14 arg20 ((o + 2) % 2) ∗ CD arg9 c K (o + 1) ∗ ∃ W, owes (c.tc : Thread nD τ) 0 W) -∗ wp frame (wpE defs 𝒱 (c.tc : Thread nD τ) bd) Set.univ (kk ⟨⟩) Q)
        -∗ wp frame (wpE defs 𝒱 (c.tc : Thread nD τ) bd) Set.univ (.op (.waitDma2 sem srcw dstw hsrc hdst) kk) Q) := by
  unfold RC RoleOutH CD Slot
  rw [if_pos (by omega), Nat.add_sub_cancel, Nat.mul_succ]
  iintro ⟨⟨HF, HL⟩, HD, HO⟩ Hk
  iapply (wp_hwait 𝒱 (c.tc : Thread nD τ) bd hsm hN) $$ [HF HO]
  · isplitl [HF]; · iexact HF
    iexact HO
  iintro ⟨⟨HB, HT⟩, Hv, HO⟩
  iapply Hk
  isplitl [HT HL Hv]
  · isplitl [HT HL]
    · iexists _
      iapply H3_rejoin
      isplitl [HL] <;> iassumption
    iexact Hv
  isplitl [HB HD]
  · iapply (H2_joinCols (Nat.zero_le _) (Nat.le_add_right _ _) (fun _ _ _ _ _ _ => rfl) (fun _ _ _ _ _ _ => rfl))
    isplitl [HD]; · iexact HD
    iexact HB
  iexact HO

/-- The store of a band of the result. -/
theorem dxStore {off : Fin 2 → ℕ} {hb : ∀ i, off i + S128x4096.size i ≤ S1024x11008.size i} {w : S128x4096.Idx → Elt F .bf16} {hx hm}
    {kk : PUnit → Prog (TpuEff nD τ sig (Elt F) Λ₀ .tc) α} (h₀ : off 0 = 128 * k) (h₁ : off 1 = 0) (hk : k < 8)
    (hw : w = k0_pay45 s (tile2 128 4096 (accF K 43) (128 * k) 0)) :
    XR arg11 c K k
      ⊢ iprop((iprop(H2 (c.tc : Thread nD τ) arg11 fullShare (128 * k) (128 * k + 128) 0 4096 (dxF K s) ∗ XR arg11 c K (k + 1)) -∗ wp frame (wpE defs 𝒱 (c.tc : Thread nD τ) bd) Set.univ (kk ⟨⟩) Q)
        -∗ wp frame (wpE defs 𝒱 (c.tc : Thread nD τ) bd) Set.univ (.op (.store arg11 (Rect.unit (s := S1024x11008) off S128x4096.size hb) w Finset.univ hx hm) kk) Q) := by
  unfold XR
  rw [Nat.mul_succ]
  iintro H Hk
  ihave H := (H2_rows (128 * k + 128) (by omega) (by omega)) $$ H
  icases H with ⟨H, HR⟩
  iapply (hstore2 (n := 128) (m := 4096) 𝒱 (c.tc : Thread nD τ) bd (dxF K s) (128 * k) 0 h₀ h₁ ⟨by omega, by omega⟩ ⟨by omega, by omega⟩
    (fun y => (dxF_at K s k y).trans (congrFun hw.symm y)) (fun i j _ _ _ _ _ => by omega)) $$ H
  iintro H
  iapply Hk
  isplitl [H]; · iexact H
  iexact HR

end

theorem part23 (v191 : FVec F S128x4096 .bf16) (v192 : Vec F S128x4096 .bf16) (h191 : k0_pay39 v191 = k0_pay45 s (tile2 128 4096 (accF K 43) (128 * 1) 0)) {Q : Vec F S128x4096 .f32 → sProp (MT nD τ sig Unit (Elt F) ℕ (Pipeline.UD sig nD τ) ℕ)} :
    iprop(XR arg11 c K 1 ∗ XS arg6 arg11 arg23 c K s 7 1 ∗ A43 arg16 c K)
      ⊢ iprop((iprop(XR arg11 c K 4 ∗ XS arg6 arg11 arg23 c K s 4 4 ∗ A43 arg16 c K) -∗ Q (tile2 128 4096 (accF K 43) (128 * 4) 0))
        -∗ wp frame (wpE defs 𝒱 (c.tc : Thread nD τ) bd) Set.univ (k0_part23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 s v191 v192) Q) := by
  rw [k0_part23_eq_skeleton]
  unfold k0_part23_skel A43 XS
  iintro ⟨HX, HS, HA⟩ Hk
  iapply (dxStore arg11 𝒱 c bd K s 1 rfl rfl (by omega) h191) $$ [HX]
  · unfold XR; iexact HX
  iintro ⟨HB, HX⟩
  iapply (bandStart 𝒱 (c.tc : Thread nD τ) bd (Ms := arg11) (Md := arg6) (n := 128) (w := 4096) (q := fullShare) (F := dxF K s) (l := 1024) (i := 6) 1 rfl rfl rfl rfl (sem_eq arg23 _ _ _ _ rfl) (by omega) (by decide)) $$ [HB HS]
  · isplitl [HB]; · iexact HB
    iexact HS
  iintro HS
  iapply (hload2 𝒱 (c.tc : Thread nD τ) bd (128 * 2) (0) rfl rfl ⟨by omega, by omega⟩ ⟨by omega, by omega⟩) $$ HA
  iintro HA
  unfold XR
  iapply (hload2 𝒱 (c.tc : Thread nD τ) bd (128 * 2) (0) rfl rfl ⟨by omega, by omega⟩ ⟨by omega, by omega⟩) $$ HX
  iintro HX
  iapply (dxStore arg11 𝒱 c bd K s 2 rfl rfl (by omega) rfl) $$ [HX]
  · unfold XR; iexact HX
  iintro ⟨HB, HX⟩
  iapply (bandStart 𝒱 (c.tc : Thread nD τ) bd (Ms := arg11) (Md := arg6) (n := 128) (w := 4096) (q := fullShare) (F := dxF K s) (l := 1024) (i := 5) 2 rfl rfl rfl rfl (sem_eq arg23 _ _ _ _ rfl) (by omega) (by decide)) $$ [HB HS]
  · isplitl [HB]; · iexact HB
    iexact HS
  iintro HS
  iapply (hload2 𝒱 (c.tc : Thread nD τ) bd (128 * 3) (0) rfl rfl ⟨by omega, by omega⟩ ⟨by omega, by omega⟩) $$ HA
  iintro HA
  unfold XR
  iapply (hload2 𝒱 (c.tc : Thread nD τ) bd (128 * 3) (0) rfl rfl ⟨by omega, by omega⟩ ⟨by omega, by omega⟩) $$ HX
  iintro HX
  iapply (dxStore arg11 𝒱 c bd K s 3 rfl rfl (by omega) rfl) $$ [HX]
  · unfold XR; iexact HX
  iintro ⟨HB, HX⟩
  iapply (bandStart 𝒱 (c.tc : Thread nD τ) bd (Ms := arg11) (Md := arg6) (n := 128) (w := 4096) (q := fullShare) (F := dxF K s) (l := 1024) (i := 4) 3 rfl rfl rfl rfl (sem_eq arg23 _ _ _ _ rfl) (by omega) (by decide)) $$ [HB HS]
  · isplitl [HB]; · iexact HB
    iexact HS
  iintro HS
  iapply (hload2 𝒱 (c.tc : Thread nD τ) bd (128 * 4) (0) rfl rfl ⟨by omega, by omega⟩ ⟨by omega, by omega⟩) $$ HA
  iintro HA
  iapply (wp_done 𝒱 (c.tc : Thread nD τ) bd)
  iapply Hk
  isplitl [HX]; · unfold XR; iexact HX
  isplitl [HS]; · iexact HS
  iexact HA

theorem part24 {Q : PUnit → sProp (MT nD τ sig Unit (Elt F) ℕ (Pipeline.UD sig nD τ) ℕ)} :
    iprop(XR arg11 c K 4 ∗ XS arg6 arg11 arg23 c K s 4 4 ∗ A43 arg16 c K)
      ⊢ iprop((iprop(H2 (c.tc : Thread nD τ) arg11 fullShare (128 * 6) (128 * 6 + 128) 0 4096 (dxF K s) ∗ XR arg11 c K 7 ∗ XS arg6 arg11 arg23 c K s 2 6 ∗ A43 arg16 c K) -∗ Q ⟨⟩)
        -∗ wp frame (wpE defs 𝒱 (c.tc : Thread nD τ) bd) Set.univ (k0_part24 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 s (tile2 128 4096 (accF K 43) (128 * 4) 0)) Q) := by
  rw [k0_part24_eq_skeleton]
  unfold k0_part24_skel A43 XS
  iintro ⟨HX, HS, HA⟩ Hk
  unfold XR
  iapply (hload2 𝒱 (c.tc : Thread nD τ) bd (128 * 4) (0) rfl rfl ⟨by omega, by omega⟩ ⟨by omega, by omega⟩) $$ HX
  iintro HX
  iapply (dxStore arg11 𝒱 c bd K s 4 rfl rfl (by omega) rfl) $$ [HX]
  · unfold XR; iexact HX
  iintro ⟨HB, HX⟩
  iapply (bandStart 𝒱 (c.tc : Thread nD τ) bd (Ms := arg11) (Md := arg6) (n := 128) (w := 4096) (q := fullShare) (F := dxF K s) (l := 1024) (i := 3) 4 rfl rfl rfl rfl (sem_eq arg23 _ _ _ _ rfl) (by omega) (by decide)) $$ [HB HS]
  · isplitl [HB]; · iexact HB
    iexact HS
  iintro HS
  iapply (hload2 𝒱 (c.tc : Thread nD τ) bd (128 * 5) (0) rfl rfl ⟨by omega, by omega⟩ ⟨by omega, by omega⟩) $$ HA
  iintro HA
  unfold XR
  iapply (hload2 𝒱 (c.tc : Thread nD τ) bd (128 * 5) (0) rfl rfl ⟨by omega, by omega⟩ ⟨by omega, by omega⟩) $$ HX
  iintro HX
  iapply (dxStore arg11 𝒱 c bd K s 5 rfl rfl (by omega) rfl) $$ [HX]
  · unfold XR; iexact HX
  iintro ⟨HB, HX⟩
  iapply (bandStart 𝒱 (c.tc : Thread nD τ) bd (Ms := arg11) (Md := arg6) (n := 128) (w := 4096) (q := fullShare) (F := dxF K s) (l := 1024) (i := 2) 5 rfl rfl rfl rfl (sem_eq arg23 _ _ _ _ rfl) (by omega) (by decide)) $$ [HB HS]
  · isplitl [HB]; · iexact HB
    iexact HS
  iintro HS
  iapply (hload2 𝒱 (c.tc : Thread nD τ) bd (128 * 6) (0) rfl rfl ⟨by omega, by omega⟩ ⟨by omega, by omega⟩) $$ HA
  iintro HA
  unfold XR
  iapply (hload2 𝒱 (c.tc : Thread nD τ) bd (128 * 6) (0) rfl rfl ⟨by omega, by omega⟩ ⟨by omega, by omega⟩) $$ HX
  iintro HX
  iapply (dxStore arg11 𝒱 c bd K s 6 rfl rfl (by omega) rfl) $$ [HX]
  · unfold XR; iexact HX
  iintro ⟨HB, HX⟩
  iapply (wp_done 𝒱 (c.tc : Thread nD τ) bd)
  iapply Hk
  isplitl [HB]; · iexact HB
  isplitl [HX]; · unfold XR; iexact HX
  isplitl [HS]; · iexact HS
  iexact HA

theorem part25 {Q : PUnit → sProp (MT nD τ sig Unit (Elt F) ℕ (Pipeline.UD sig nD τ) ℕ)} :
    iprop(H2 (c.tc : Thread nD τ) arg11 fullShare (128 * 6) (128 * 6 + 128) 0 4096 (dxF K s) ∗ XR arg11 c K 7 ∗ XS arg6 arg11 arg23 c K s 2 6 ∗ A43 arg16 c K ∗ CH arg5 arg7 arg15 arg21 arg22 c K q₅ F₇ 0 43 ∗ CH arg5 arg7 arg15 arg21 arg22 c K q₅ F₇ 1 43 ∗ ∃ W, owes (c.tc : Thread nD τ) 0 W)
      ⊢ iprop((iprop(XC arg6 arg11 arg23 c K s 8 0 ∗ A43 arg16 c K ∗ CE arg5 arg7 arg15 arg21 arg22 c K q₅ 0 ∗ CE arg5 arg7 arg15 arg21 arg22 c K q₅ 1 ∗ ∃ W, owes (c.tc : Thread nD τ) 0 W) -∗ Q ⟨⟩)
        -∗ wp frame (wpE defs 𝒱 (c.tc : Thread nD τ) bd) Set.univ (k0_part25 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 s) Q) := by
  rw [k0_part25_eq_skeleton]
  unfold k0_part25_skel A43 XS XC
  iintro ⟨HB, HX, HS, HA, HC0, HC1, HO⟩ Hk
  iapply (bandStart 𝒱 (c.tc : Thread nD τ) bd (Ms := arg11) (Md := arg6) (n := 128) (w := 4096) (q := fullShare) (F := dxF K s) (l := 1024) (i := 1) 6 rfl rfl rfl rfl (sem_eq arg23 _ _ _ _ rfl) (by omega) (by decide)) $$ [HB HS]
  · isplitl [HB]; · iexact HB
    iexact HS
  iintro HS
  iapply (hload2 𝒱 (c.tc : Thread nD τ) bd (128 * 7) (0) rfl rfl ⟨by omega, by omega⟩ ⟨by omega, by omega⟩) $$ HA
  iintro HA
  unfold XR
  iapply (hload2 𝒱 (c.tc : Thread nD τ) bd (128 * 7) (0) rfl rfl ⟨by omega, by omega⟩ ⟨by omega, by omega⟩) $$ HX
  iintro HX
  iapply (dxStore arg11 𝒱 c bd K s 7 rfl rfl (by omega) rfl) $$ [HX]
  · unfold XR; iexact HX
  iintro ⟨HB, HX⟩
  iapply (bandStart 𝒱 (c.tc : Thread nD τ) bd (Ms := arg11) (Md := arg6) (n := 128) (w := 4096) (q := fullShare) (F := dxF K s) (l := 1024) (i := 0) 7 rfl rfl rfl rfl (sem_eq arg23 _ _ _ _ rfl) (by omega) (by decide)) $$ [HB HS]
  · isplitl [HB]; · iexact HB
    iexact HS
  iintro HS
  iapply (chEnd arg5 arg7 arg15 arg21 arg22 𝒱 c bd K q₅ F₇ 0 (sem_eq arg22 _ _ _ _ rfl) rfl) $$ [HC0 HO]
  · isplitl [HC0]; · iexact HC0
    iexact HO
  iintro ⟨HC0, HO⟩
  iapply (chEnd arg5 arg7 arg15 arg21 arg22 𝒱 c bd K q₅ F₇ 1 (sem_eq arg22 _ _ _ _ rfl) rfl) $$ [HC1 HO]
  · isplitl [HC1]; · iexact HC1
    iexact HO
  iintro ⟨HC1, HO⟩
  iapply (wp_done 𝒱 (c.tc : Thread nD τ) bd)
  iapply Hk
  isplitl [HX HS]
  · iapply (Come_of_Sent (hl := (by omega : 1024 ≤ 128 * 8)))
    isplitl [HX]
    · unfold XR
      iapply (H2_void (Or.inl (by omega)) (Or.inl (by omega))) $$ HX
    iexact HS
  isplitl [HA]; · iexact HA
  isplitl [HC0]; · iexact HC0
  isplitl [HC1]; · iexact HC1
  iexact HO

theorem part26 {Q : PUnit → sProp (MT nD τ sig Unit (Elt F) ℕ (Pipeline.UD sig nD τ) ℕ)} :
    iprop(XC arg6 arg11 arg23 c K s 8 0 ∗ CH arg5 arg7 arg15 arg21 arg22 c K q₅ F₇ 2 43 ∗ CH arg5 arg7 arg15 arg21 arg22 c K q₅ F₇ 3 43 ∗ RC arg9 arg14 arg20 c K 43 ∗ RC arg9 arg14 arg20 c K 44 ∗ CD arg9 c K 41 ∗ ∃ W, owes (c.tc : Thread nD τ) 0 W)
      ⊢ iprop((iprop(XC arg6 arg11 arg23 c K s 6 2 ∗ CE arg5 arg7 arg15 arg21 arg22 c K q₅ 2 ∗ CE arg5 arg7 arg15 arg21 arg22 c K q₅ 3 ∗ Slot (c.tc : Thread nD τ) arg14 arg20 (43 % 2) ∗ Slot (c.tc : Thread nD τ) arg14 arg20 (44 % 2) ∗ CD arg9 c K 43 ∗ ∃ W, owes (c.tc : Thread nD τ) 0 W) -∗ Q ⟨⟩)
        -∗ wp frame (wpE defs 𝒱 (c.tc : Thread nD τ) bd) Set.univ (k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23) Q) := by
  rw [k0_part26_eq_skeleton]
  unfold k0_part26_skel XC
  iintro ⟨HX, HC2, HC3, HR1, HR2, HD, HO⟩ Hk
  iapply (chEnd arg5 arg7 arg15 arg21 arg22 𝒱 c bd K q₅ F₇ 2 (sem_eq arg22 _ _ _ _ rfl) rfl) $$ [HC2 HO]
  · isplitl [HC2]; · iexact HC2
    iexact HO
  iintro ⟨HC2, HO⟩
  iapply (chEnd arg5 arg7 arg15 arg21 arg22 𝒱 c bd K q₅ F₇ 3 (sem_eq arg22 _ _ _ _ rfl) rfl) $$ [HC3 HO]
  · isplitl [HC3]; · iexact HC3
    iexact HO
  iintro ⟨HC3, HO⟩
  iapply (cdEnd arg9 arg14 arg20 𝒱 c bd K 41 (sem_eq arg20 _ _ _ _ rfl) rfl) $$ [HR1 HD HO]
  · isplitl [HR1]; · iexact HR1
    isplitl [HD]; · iexact HD
    iexact HO
  iintro ⟨HR1, HD, HO⟩
  iapply (cdEnd arg9 arg14 arg20 𝒱 c bd K 42 (sem_eq arg20 _ _ _ _ rfl) rfl) $$ [HR2 HD HO]
  · isplitl [HR2]; · iexact HR2
    isplitl [HD]; · iexact HD
    iexact HO
  iintro ⟨HR2, HD, HO⟩
  iapply (bandWait 𝒱 (c.tc : Thread nD τ) bd (Ms := arg11) (Md := arg6) (n := 128) (w := 4096) (q := fullShare) (F := dxF K s) (i := 7) 0 (sem_eq arg23 _ _ _ _ rfl) rfl) $$ [HX HO]
  · isplitl [HX]; · iexact HX
    iexact HO
  iintro ⟨HX, HO⟩
  iapply (bandWait 𝒱 (c.tc : Thread nD τ) bd (Ms := arg11) (Md := arg6) (n := 128) (w := 4096) (q := fullShare) (F := dxF K s) (i := 6) 1 (sem_eq arg23 _ _ _ _ rfl) rfl) $$ [HX HO]
  · isplitl [HX]; · iexact HX
    iexact HO
  iintro ⟨HX, HO⟩
  iapply (wp_done 𝒱 (c.tc : Thread nD τ) bd)
  iapply Hk
  isplitl [HX]; · iexact HX
  isplitl [HC2]; · iexact HC2
  isplitl [HC3]; · iexact HC3
  isplitl [HR1]; · iexact HR1
  isplitl [HR2]; · iexact HR2
  isplitl [HD]; · iexact HD
  iexact HO

/-- What the second loop takes at its head besides the activations. -/
def J0 : sProp 𝕄 :=
  iprop(RC arg9 arg14 arg20 c K 0 ∗ RC arg9 arg14 arg20 c K 1 ∗ CD arg9 c K 0 ∗ CN arg9 c F₉ 0 ∗ DY arg11 c K ∗ RW arg4 arg13 arg19 c K q₄ 0 ∗ RW arg4 arg13 arg19 c K q₄ 1 ∗ RW arg4 arg13 arg19 c K q₄ 2 ∗ WD arg4 c K q₄ 0 ∗ WN arg4 c K q₄ 3 ∗ AC arg16 c K 0 0 ∗ AC arg16 c K 1 0 ∗ AC arg16 c K 2 0 ∗ AC arg16 c K 3 0 ∗ AC arg16 c K 4 0 ∗ AC arg16 c K 5 0 ∗ AC arg16 c K 6 0 ∗ AC arg16 c K 7 0 ∗ CH arg5 arg7 arg15 arg21 arg22 c K q₅ F₇ 0 0 ∗ CH arg5 arg7 arg15 arg21 arg22 c K q₅ F₇ 1 0 ∗ CH arg5 arg7 arg15 arg21 arg22 c K q₅ F₇ 2 0 ∗ CH arg5 arg7 arg15 arg21 arg22 c K q₅ F₇ 3 0)

/-- What the second loop leaves besides the gradient's copy and the accumulator. -/
def J43 : sProp 𝕄 :=
  iprop(RC arg9 arg14 arg20 c K 43 ∗ RC arg9 arg14 arg20 c K 44 ∗ CD arg9 c K 41 ∗ RW arg4 arg13 arg19 c K q₄ 43 ∗ RW arg4 arg13 arg19 c K q₄ 44 ∗ RW arg4 arg13 arg19 c K q₄ 45 ∗ WD arg4 c K q₄ 43 ∗ XV arg12 c K ∗ CH arg5 arg7 arg15 arg21 arg22 c K q₅ F₇ 0 43 ∗ CH arg5 arg7 arg15 arg21 arg22 c K q₅ F₇ 1 43 ∗ CH arg5 arg7 arg15 arg21 arg22 c K q₅ F₇ 2 43 ∗ CH arg5 arg7 arg15 arg21 arg22 c K q₅ F₇ 3 43)

theorem acJoin : iprop(AC arg16 c K 0 43 ∗ AC arg16 c K 1 43 ∗ AC arg16 c K 2 43 ∗ AC arg16 c K 3 43 ∗ AC arg16 c K 4 43 ∗ AC arg16 c K 5 43 ∗ AC arg16 c K 6 43 ∗ AC arg16 c K 7 43) ⊢ (A43 arg16 c K : sProp 𝕄) := by
  unfold AC A43
  have J : ∀ n, n < 8 → iprop(H2 (c.tc : Thread nD τ) arg16 fullShare 0 1024 0 (512 * n) (accF K 43) ∗ H2 (c.tc : Thread nD τ) arg16 fullShare 0 1024 (512 * n) (512 * n + 512) (accF K 43))
      ⊢ (H2 (c.tc : Thread nD τ) arg16 fullShare 0 1024 0 (512 * (n + 1)) (accF K 43) : sProp 𝕄) := fun n _ =>
    H2_joinCols (Nat.zero_le _) (Nat.le_add_right _ _) (fun _ _ _ _ _ _ => rfl) (fun _ _ _ _ _ _ => rfl)
  iintro ⟨H0, H1, H2, H3, H4, H5, H6, H7⟩
  ihave H1 := (J 1 (by omega)) $$ [H0 H1]
  · isplitl [H0]; · iexact H0
    iexact H1
  ihave H2 := (J 2 (by omega)) $$ [H1 H2]
  · isplitl [H1]; · iexact H1
    iexact H2
  ihave H3 := (J 3 (by omega)) $$ [H2 H3]
  · isplitl [H2]; · iexact H2
    iexact H3
  ihave H4 := (J 4 (by omega)) $$ [H3 H4]
  · isplitl [H3]; · iexact H3
    iexact H4
  ihave H5 := (J 5 (by omega)) $$ [H4 H5]
  · isplitl [H4]; · iexact H4
    iexact H5
  ihave H6 := (J 6 (by omega)) $$ [H5 H6]
  · isplitl [H5]; · iexact H5
    iexact H6
  ihave H7 := (J 7 (by omega)) $$ [H6 H7]
  · isplitl [H6]; · iexact H6
    iexact H7
  iexact H7

theorem acSplit : H2 (c.tc : Thread nD τ) arg16 fullShare 0 1024 0 4096 (accF K 0) ⊢ (iprop(AC arg16 c K 0 0 ∗ AC arg16 c K 1 0 ∗ AC arg16 c K 2 0 ∗ AC arg16 c K 3 0 ∗ AC arg16 c K 4 0 ∗ AC arg16 c K 5 0 ∗ AC arg16 c K 6 0 ∗ AC arg16 c K 7 0) : sProp 𝕄) := by
  unfold AC
  have J : ∀ n, n < 8 → H2 (c.tc : Thread nD τ) arg16 fullShare 0 1024 (512 * n) 4096 (accF K 0)
      ⊢ (iprop(H2 (c.tc : Thread nD τ) arg16 fullShare 0 1024 (512 * n) (512 * n + 512) (accF K 0) ∗ H2 (c.tc : Thread nD τ) arg16 fullShare 0 1024 (512 * (n + 1)) 4096 (accF K 0)) : sProp 𝕄) := fun n _ =>
    H2_cols (512 * n + 512) (by omega) (by omega)
  iintro H
  ihave H := (J 0 (by omega)) $$ H
  icases H with ⟨H0, H⟩
  ihave H := (J 1 (by omega)) $$ H
  icases H with ⟨H1, H⟩
  ihave H := (J 2 (by omega)) $$ H
  icases H with ⟨H2, H⟩
  ihave H := (J 3 (by omega)) $$ H
  icases H with ⟨H3, H⟩
  ihave H := (J 4 (by omega)) $$ H
  icases H with ⟨H4, H⟩
  ihave H := (J 5 (by omega)) $$ H
  icases H with ⟨H5, H⟩
  ihave H := (J 6 (by omega)) $$ H
  icases H with ⟨H6, H⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H

end Cert.Kernel.Hand
-- ==== Proof.KMid.lean ====
/-
  The scalar results, the second loop and the first band of the result.
-/
module

public import proofs.«01_k».proof.Proof.KTail

@[expose] public section

set_option maxRecDepth 16384

noncomputable section

namespace Cert.Kernel.Hand

open Cert.Kernel Cert.Kernel.Gen Cert.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (arg0 : Memref sig .tc .smem S1x1 .f32) (harg0 : arg0.IsWhole) (arg1 : Memref sig .tc .smem S1x1 .f32) (harg1 : arg1.IsWhole)
  (arg2 : Memref sig .tc .hbm S1024x11008 .bf16) (harg2 : arg2.IsWhole) (arg3 : Memref sig .tc .hbm S1024x4096 .fp8e4m3) (harg3 : arg3.IsWhole)
  (arg4 : Memref sig .tc .hbm S11008x4096 .fp8e4m3) (harg4 : arg4.IsWhole) (arg5 : Memref sig .tc .hbm S11008x4096 .f32) (harg5 : arg5.IsWhole)
  (arg6 : Memref sig .tc .hbm S1024x4096 .bf16) (harg6 : arg6.IsWhole) (arg7 : Memref sig .tc .hbm S11008x4096 .f32) (harg7 : arg7.IsWhole)
  (arg8 : Memref sig .tc .smem S1x1 .f32) (harg8 : arg8.IsWhole) (arg9 : Memref sig .tc .hbm S1024x11008 .fp8e5m2) (harg9 : arg9.IsWhole)
  (arg10 : Memref sig .tc .smem S1x1 .f32) (harg10 : arg10.IsWhole) (arg11 : Memref sig .tc .vmem S1024x11008 .bf16) (harg11 : arg11.IsWhole)
  (arg12 : Memref sig .tc .vmem S1024x4096 .fp8e4m3) (harg12 : arg12.IsWhole) (arg13 : Memref sig .tc .vmem S3x256x4096 .fp8e4m3) (harg13 : arg13.IsWhole)
  (arg14 : Memref sig .tc .vmem S2x1024x256 .fp8e5m2) (harg14 : arg14.IsWhole) (arg15 : Memref sig .tc .vmem S12x256x1024 .f32) (harg15 : arg15.IsWhole)
  (arg16 : Memref sig .tc .vmem S1024x4096 .f32) (harg16 : arg16.IsWhole) (arg17 : DmaSems sig S16) (arg18 : DmaSems sig S_) (arg19 : DmaSems sig S3)
  (arg20 : DmaSems sig S2) (arg21 : DmaSems sig S12) (arg22 : DmaSems sig S12) (arg23 : DmaSems sig S8)

variable {defs : Defs nD τ sig (Elt F) Λ₀} (𝒱 : Variants) (c : Dev nD) (bd : Option 𝒱.V)
variable (K : In F) (q₂ q₃ q₄ q₅ q₀ q₁ : PosShare TreeShare) (F₇ : ℕ → ℕ → Elt F .f32) (F₉ : ℕ → ℕ → Elt F .fp8e5m2)
variable (G₀ G₁ : ℕ → ℕ → Elt F .f32)

theorem part22 (v131 : FVec F S1x1 .f32) (hiv : k0_pay31 (F := F) (k0_pay30 (amF K.dy 16)) = K.iv) (hms : k0_pay34 (k0_pay29 (amF K.dy 16)) (G₀ 0 0) = K.ms) {G₈ G₁₀ : ℕ → ℕ → Elt F .f32} {Q : (Σ' (v175 : FVec F S1x1 .f32) (v191 : FVec F S128x4096 .bf16), Vec F S128x4096 .bf16) → sProp (MT nD τ sig Unit (Elt F) ℕ (Pipeline.UD sig nD τ) ℕ)} :
    iprop(H2 (c.tc : Thread nD τ) arg8 fullShare 0 1 0 1 G₈ ∗ H2 (c.tc : Thread nD τ) arg10 fullShare 0 1 0 1 G₁₀ ∗ H2 (c.tc : Thread nD τ) arg0 q₀ 0 1 0 1 G₀ ∗ H2 (c.tc : Thread nD τ) arg1 q₁ 0 1 0 1 G₁ ∗ XF arg3 arg12 arg18 c K q₃ ∗ J0 arg4 arg5 arg7 arg9 arg11 arg13 arg14 arg15 arg16 arg19 arg20 arg21 arg22 c K q₄ q₅ F₇ F₉ ∗ XS arg6 arg11 arg23 c K (k0_pay35 (k0_pay29 (amF K.dy 16)) (G₁ 0 0)) 8 0 ∗ ∃ W, owes (c.tc : Thread nD τ) 0 W)
      ⊢ iprop((iprop(H2 (c.tc : Thread nD τ) arg8 fullShare 0 1 0 1 (fun _ _ => k0_pay32 v131) ∗ H2 (c.tc : Thread nD τ) arg10 fullShare 0 1 0 1 (fun _ _ => k0_pay33 (k0_pay29 (amF K.dy 16))) ∗ H2 (c.tc : Thread nD τ) arg0 q₀ 0 1 0 1 G₀ ∗ H2 (c.tc : Thread nD τ) arg1 q₁ 0 1 0 1 G₁ ∗ H2 (c.tc : Thread nD τ) arg3 q₃ 0 1024 0 4096 K.x ∗ semVal ((c.tc : Thread nD τ), .dma arg18.sem) 0 ∗ J43 arg4 arg5 arg7 arg9 arg12 arg13 arg14 arg15 arg19 arg20 arg21 arg22 c K q₄ q₅ F₇ ∗ A43 arg16 c K ∗ H2 (c.tc : Thread nD τ) arg11 fullShare 0 1024 4096 11008 K.dy ∗ XR arg11 c K 1 ∗ XS arg6 arg11 arg23 c K (k0_pay35 (k0_pay29 (amF K.dy 16)) (G₁ 0 0)) 7 1 ∗ ∃ W, owes (c.tc : Thread nD τ) 0 W) -∗ Q ⟨(k0_pay35 (k0_pay29 (amF K.dy 16)) (G₁ 0 0)), k0_pay38 (k0_pay29 (amF K.dy 16)) (G₁ 0 0) (tile2 128 4096 (accF K 43) (128 * 1) 0), tile2 128 4096 K.dy (128 * 1) 0⟩)
        -∗ wp frame (wpE defs 𝒱 (c.tc : Thread nD τ) bd) Set.univ (k0_part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 v131 (k0_pay29 (amF K.dy 16)) (k0_pay30 (amF K.dy 16))) Q) := by
  rw [k0_part22_eq_skeleton]
  unfold k0_part22_skel XF XS
  iintro ⟨H8, H10, H0, H1, HF, HJ, HS, HO⟩ Hk
  iapply (sload (defs := defs) (Q := Q) (q := fullShare) (G := G₈) 𝒱 (c.tc : Thread nD τ) bd (M := arg8) (off := ![0, 0]) (hb := inb_S1x1_S1x1_0_0) (h1 := numel1_S1x1) (hp := rfl) rfl rfl) $$ H8
  iintro H8
  iapply (hstore2 (e := .f32) (w := fun _ => k0_pay32 v131) (r₀ := 0) (r₁ := 1) (c₀ := 0) (c₁ := 1) (F := G₈) (Q := Q) (defs := defs) (cs := .smem) (M := arg8) (off := ![0, 0]) (hb := inb_S1x1_S1x1_0_0) (n := 1) (m := 1) 𝒱 (c.tc : Thread nD τ) bd (fun _ _ => k0_pay32 v131) 0 0 rfl rfl ⟨by omega, by omega⟩ ⟨by omega, by omega⟩ (fun y => rfl) (fun i j _ _ _ _ _ => by omega)) $$ H8
  iintro H8
  iapply (sload (defs := defs) (Q := Q) (q := fullShare) (G := G₁₀) 𝒱 (c.tc : Thread nD τ) bd (M := arg10) (off := ![0, 0]) (hb := inb_S1x1_S1x1_0_0) (h1 := numel1_S1x1) (hp := rfl) rfl rfl) $$ H10
  iintro H10
  iapply (hstore2 (e := .f32) (w := fun _ => k0_pay33 (k0_pay29 (amF K.dy 16))) (r₀ := 0) (r₁ := 1) (c₀ := 0) (c₁ := 1) (F := G₁₀) (Q := Q) (defs := defs) (cs := .smem) (M := arg10) (off := ![0, 0]) (hb := inb_S1x1_S1x1_0_0) (n := 1) (m := 1) 𝒱 (c.tc : Thread nD τ) bd (fun _ _ => k0_pay33 (k0_pay29 (amF K.dy 16))) 0 0 rfl rfl ⟨by omega, by omega⟩ ⟨by omega, by omega⟩ (fun y => rfl) (fun i j _ _ _ _ _ => by omega)) $$ H10
  iintro H10
  iapply (sload (defs := defs) (Q := Q) (q := q₀) (G := G₀) 𝒱 (c.tc : Thread nD τ) bd (M := arg0) (off := ![0, 0]) (hb := inb_S1x1_S1x1_0_0) (h1 := numel1_S1x1) (hp := rfl) rfl rfl) $$ H0
  iintro H0
  iapply (sload (defs := defs) (Q := Q) (q := q₁) (G := G₁) 𝒱 (c.tc : Thread nD τ) bd (M := arg1) (off := ![0, 0]) (hb := inb_S1x1_S1x1_0_0) (h1 := numel1_S1x1) (hp := rfl) rfl rfl) $$ H1
  iintro H1
  iapply (wp_hwait 𝒱 (c.tc : Thread nD τ) bd rfl rfl) $$ [HF HO]
  · isplitl [HF]; · iexact HF
    iexact HO
  iintro ⟨⟨HX, H3⟩, Hv, HO⟩
  unfold J0
  icases HJ with ⟨HR0, HR1, HCD, HCN, HDY, HW0, HW1, HW2, HWD, HWN, HA0, HA1, HA2, HA3, HA4, HA5, HA6, HA7, HC0, HC1, HC2, HC3⟩
  iapply (Scf.wp_for_bind _ _ _ _ _ _ _ _ _ (fun n _ => I2 arg4 arg5 arg7 arg9 arg11 arg12 arg13 arg14 arg15 arg16 arg19 arg20 arg21 arg22 c K q₄ q₅ F₇ F₉ n)
    (fun t x => t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₄ q₅ F₇ F₉ v131 (k0_pay29 (amF K.dy 16)) (k0_pay30 (amF K.dy 16)) (G₀ 0 0) hiv hms t x)) $$ [HR0 HR1 HCD HCN HDY HW0 HW1 HW2 HWD HWN HA0 HA1 HA2 HA3 HA4 HA5 HA6 HA7 HX HC0 HC1 HC2 HC3 HO]
  · unfold I2 XV
    isplitl [HR0]; · iexact HR0
    isplitl [HR1]; · iexact HR1
    isplitl [HCD]; · iexact HCD
    isplitl [HCN]; · iexact HCN
    isplitl [HDY]; · iexact HDY
    isplitl [HW0]; · iexact HW0
    isplitl [HW1]; · iexact HW1
    isplitl [HW2]; · iexact HW2
    isplitl [HWD]; · iexact HWD
    isplitl [HWN]; · iexact HWN
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HX]; · iexact HX
    isplitl [HC0]; · iexact HC0
    isplitl [HC1]; · iexact HC1
    isplitl [HC2]; · iexact HC2
    isplitl [HC3]; · iexact HC3
    iexact HO
  iintro %u HI
  rw [show Scf.trips k0_t2_loop.lb k0_t2_loop.ub k0_t2_loop.st = 43 by decide +kernel]
  unfold I2
  icases HI with ⟨HR0, HR1, HCD, _, HDY, HW0, HW1, HW2, HWD, _, HA0, HA1, HA2, HA3, HA4, HA5, HA6, HA7, HX5, HC0, HC1, HC2, HC3, HO⟩
  ihave HA := (acJoin arg16 c K) $$ [HA0 HA1 HA2 HA3 HA4 HA5 HA6 HA7]
  · isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    iexact HA7
  unfold A43 DY
  ihave HDY := (H2_cols 4096 (by omega) (by omega)) $$ HDY
  icases HDY with ⟨HX, HY⟩
  iapply (hload2 𝒱 (c.tc : Thread nD τ) bd (128 * 0) (0) rfl rfl ⟨by omega, by omega⟩ ⟨by omega, by omega⟩) $$ HA
  iintro HA
  iapply (hload2 𝒱 (c.tc : Thread nD τ) bd (128 * 0) (0) rfl rfl ⟨by omega, by omega⟩ ⟨by omega, by omega⟩) $$ HX
  iintro HX
  iapply (dxStore arg11 𝒱 c bd K (k0_pay35 (k0_pay29 (amF K.dy 16)) (G₁ 0 0)) 0 rfl rfl (by omega) rfl) $$ [HX]
  · unfold XR; iexact HX
  iintro ⟨HB, HX⟩
  iapply (bandStart 𝒱 (c.tc : Thread nD τ) bd (Ms := arg11) (Md := arg6) (n := 128) (w := 4096) (q := fullShare) (F := dxF K (k0_pay35 (k0_pay29 (amF K.dy 16)) (G₁ 0 0))) (l := 1024) (i := 7) 0 rfl rfl rfl rfl (sem_eq arg23 _ _ _ _ rfl) (by omega) (by decide)) $$ [HB HS]
  · isplitl [HB]; · iexact HB
    iexact HS
  iintro HS
  iapply (hload2 𝒱 (c.tc : Thread nD τ) bd (128 * 1) (0) rfl rfl ⟨by omega, by omega⟩ ⟨by omega, by omega⟩) $$ HA
  iintro HA
  unfold XR
  iapply (hload2 𝒱 (c.tc : Thread nD τ) bd (128 * 1) (0) rfl rfl ⟨by omega, by omega⟩ ⟨by omega, by omega⟩) $$ HX
  iintro HX
  iapply (wp_done 𝒱 (c.tc : Thread nD τ) bd)
  iapply Hk
  isplitl [H8]; · iexact H8
  isplitl [H10]; · iexact H10
  isplitl [H0]; · iexact H0
  isplitl [H1]; · iexact H1
  isplitl [H3]; · iexact H3
  isplitl [Hv]; · iexact Hv
  isplitl [HR0 HR1 HCD HW0 HW1 HW2 HWD HX5 HC0 HC1 HC2 HC3]
  · unfold J43
    isplitl [HR0]; · iexact HR0
    isplitl [HR1]; · iexact HR1
    isplitl [HCD]; · iexact HCD
    isplitl [HW0]; · iexact HW0
    isplitl [HW1]; · iexact HW1
    isplitl [HW2]; · iexact HW2
    isplitl [HWD]; · iexact HWD
    isplitl [HX5]; · iexact HX5
    isplitl [HC0]; · iexact HC0
    isplitl [HC1]; · iexact HC1
    isplitl [HC2]; · iexact HC2
    iexact HC3
  isplitl [HA]; · iexact HA
  isplitl [HY]; · iexact HY
  isplitl [HX]; · iexact HX
  isplitl [HS]; · iexact HS
  iexact HO

end Cert.Kernel.Hand
-- ==== Proof.KBody.lean ====
/-
  The whole program: from the arrays and the cells as it finds them to the arrays as it leaves them.
-/
module

public import proofs.«01_k».proof.Proof.KMid

@[expose] public section

set_option maxRecDepth 16384

noncomputable section

namespace Cert.Kernel.Hand

open Cert.Kernel Cert.Kernel.Gen Cert.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (arg0 : Memref sig .tc .smem S1x1 .f32) (harg0 : arg0.IsWhole) (arg1 : Memref sig .tc .smem S1x1 .f32) (harg1 : arg1.IsWhole)
  (arg2 : Memref sig .tc .hbm S1024x11008 .bf16) (harg2 : arg2.IsWhole) (arg3 : Memref sig .tc .hbm S1024x4096 .fp8e4m3) (harg3 : arg3.IsWhole)
  (arg4 : Memref sig .tc .hbm S11008x4096 .fp8e4m3) (harg4 : arg4.IsWhole) (arg5 : Memref sig .tc .hbm S11008x4096 .f32) (harg5 : arg5.IsWhole)
  (arg6 : Memref sig .tc .hbm S1024x4096 .bf16) (harg6 : arg6.IsWhole) (arg7 : Memref sig .tc .hbm S11008x4096 .f32) (harg7 : arg7.IsWhole)
  (arg8 : Memref sig .tc .smem S1x1 .f32) (harg8 : arg8.IsWhole) (arg9 : Memref sig .tc .hbm S1024x11008 .fp8e5m2) (harg9 : arg9.IsWhole)
  (arg10 : Memref sig .tc .smem S1x1 .f32) (harg10 : arg10.IsWhole) (arg11 : Memref sig .tc .vmem S1024x11008 .bf16) (harg11 : arg11.IsWhole)
  (arg12 : Memref sig .tc .vmem S1024x4096 .fp8e4m3) (harg12 : arg12.IsWhole) (arg13 : Memref sig .tc .vmem S3x256x4096 .fp8e4m3) (harg13 : arg13.IsWhole)
  (arg14 : Memref sig .tc .vmem S2x1024x256 .fp8e5m2) (harg14 : arg14.IsWhole) (arg15 : Memref sig .tc .vmem S12x256x1024 .f32) (harg15 : arg15.IsWhole)
  (arg16 : Memref sig .tc .vmem S1024x4096 .f32) (harg16 : arg16.IsWhole) (arg17 : DmaSems sig S16) (arg18 : DmaSems sig S_) (arg19 : DmaSems sig S3)
  (arg20 : DmaSems sig S2) (arg21 : DmaSems sig S12) (arg22 : DmaSems sig S12) (arg23 : DmaSems sig S8)

variable {defs : Defs nD τ sig (Elt F) Λ₀} (𝒱 : Variants) (c : Dev nD) (bd : Option 𝒱.V)
variable (K : In F) (q₂ q₃ q₄ q₅ q₀ q₁ : PosShare TreeShare) (F₇ : ℕ → ℕ → Elt F .f32) (F₉ : ℕ → ℕ → Elt F .fp8e5m2)
variable (s : FVec F S1x1 .f32) (G₀ G₁ G₈ G₁₀ : ℕ → ℕ → Elt F .f32)

theorem set13 : iprop(Hfrom (c.tc : Thread nD τ) arg13 0 ∗ Cells (c.tc : Thread nD τ) arg19 3 0) ⊢ (iprop(Slot (c.tc : Thread nD τ) arg13 arg19 (0 % 3) ∗ Slot (c.tc : Thread nD τ) arg13 arg19 (1 % 3) ∗ Slot (c.tc : Thread nD τ) arg13 arg19 (2 % 3)) : sProp 𝕄) := by

  iintro ⟨HR, HC⟩
  ihave HC := (Slots_of (c.tc : Thread nD τ) arg13 arg19 3 0 (by omega)) $$ [HR HC]
  · isplitl [HR]; · iexact HR
    iexact HC
  icases HC with ⟨HC, HR⟩
  ihave HC := (show Slots (c.tc : Thread nD τ) arg13 arg19 3 0 ⊢ (iprop(Slot (c.tc : Thread nD τ) arg13 arg19 (0 + 0) ∗ Slot (c.tc : Thread nD τ) arg13 arg19 (0 + 1) ∗ Slot (c.tc : Thread nD τ) arg13 arg19 (0 + 2) ∗ emp) : sProp 𝕄) from .rfl) $$ HC
  icases HC with ⟨H0, H1, H2, _⟩
  isplitl [H0]; · iexact H0
  isplitl [H1]; · iexact H1
  iexact H2

theorem set14 : iprop(Hfrom (c.tc : Thread nD τ) arg14 0 ∗ Cells (c.tc : Thread nD τ) arg20 2 0) ⊢ (iprop(RC arg9 arg14 arg20 c K 0 ∗ RC arg9 arg14 arg20 c K 1) : sProp 𝕄) := by
  unfold RC RoleOutH
  rw [if_neg (by omega), if_neg (by omega)]
  iintro ⟨HR, HC⟩
  ihave HC := (Slots_of (c.tc : Thread nD τ) arg14 arg20 2 0 (by omega)) $$ [HR HC]
  · isplitl [HR]; · iexact HR
    iexact HC
  icases HC with ⟨HC, HR⟩
  ihave HC := (show Slots (c.tc : Thread nD τ) arg14 arg20 2 0 ⊢ (iprop(Slot (c.tc : Thread nD τ) arg14 arg20 (0 + 0) ∗ Slot (c.tc : Thread nD τ) arg14 arg20 (0 + 1) ∗ emp) : sProp 𝕄) from .rfl) $$ HC
  icases HC with ⟨H0, H1, _⟩
  isplitl [H0]; · iexact H0
  iexact H1

section

variable (M : Memref sig .tc .hbm S11008x4096 .f32) (q : PosShare TreeShare) (G : ℕ → ℕ → Elt F .f32)

/-- The four chunks of columns. -/
theorem colsSplit : H2 (c.tc : Thread nD τ) M q 0 11008 0 4096 G ⊢ (iprop(H2 (c.tc : Thread nD τ) M q 0 11008 (1024 * 0) (1024 * 0 + 1024) G ∗ H2 (c.tc : Thread nD τ) M q 0 11008 (1024 * 1) (1024 * 1 + 1024) G ∗ H2 (c.tc : Thread nD τ) M q 0 11008 (1024 * 2) (1024 * 2 + 1024) G ∗ H2 (c.tc : Thread nD τ) M q 0 11008 (1024 * 3) (1024 * 3 + 1024) G) : sProp 𝕄) := by
  have J : ∀ n, n < 4 → H2 (c.tc : Thread nD τ) M q 0 11008 (1024 * n) 4096 G
      ⊢ (iprop(H2 (c.tc : Thread nD τ) M q 0 11008 (1024 * n) (1024 * n + 1024) G ∗ H2 (c.tc : Thread nD τ) M q 0 11008 (1024 * (n + 1)) 4096 G) : sProp 𝕄) := fun n _ =>
    H2_cols (1024 * n + 1024) (by omega) (by omega)
  iintro H
  ihave H := (J 0 (by omega)) $$ H
  icases H with ⟨H0, H⟩
  ihave H := (J 1 (by omega)) $$ H
  icases H with ⟨H1, H⟩
  ihave H := (J 2 (by omega)) $$ H
  icases H with ⟨H2, H⟩
  isplitl [H0]; · iexact H0
  isplitl [H1]; · iexact H1
  isplitl [H2]; · iexact H2
  iexact H

theorem colsJoin : iprop(H2 (c.tc : Thread nD τ) M q 0 11008 (1024 * 0) (1024 * 0 + 1024) G ∗ H2 (c.tc : Thread nD τ) M q 0 11008 (1024 * 1) (1024 * 1 + 1024) G ∗ H2 (c.tc : Thread nD τ) M q 0 11008 (1024 * 2) (1024 * 2 + 1024) G ∗ H2 (c.tc : Thread nD τ) M q 0 11008 (1024 * 3) (1024 * 3 + 1024) G) ⊢ (H2 (c.tc : Thread nD τ) M q 0 11008 0 4096 G : sProp 𝕄) := by
  have J : ∀ n, n < 4 → iprop(H2 (c.tc : Thread nD τ) M q 0 11008 0 (1024 * n) G ∗ H2 (c.tc : Thread nD τ) M q 0 11008 (1024 * n) (1024 * n + 1024) G)
      ⊢ (H2 (c.tc : Thread nD τ) M q 0 11008 0 (1024 * (n + 1)) G : sProp 𝕄) := fun n _ =>
    H2_joinCols (Nat.zero_le _) (Nat.le_add_right _ _) (fun _ _ _ _ _ _ => rfl) (fun _ _ _ _ _ _ => rfl)
  iintro ⟨H0, H1, H2, H3⟩
  ihave H1 := (J 1 (by omega)) $$ [H0 H1]
  · isplitl [H0]; · iexact H0
    iexact H1
  ihave H2 := (J 2 (by omega)) $$ [H1 H2]
  · isplitl [H1]; · iexact H1
    iexact H2
  ihave H3 := (J 3 (by omega)) $$ [H2 H3]
  · isplitl [H2]; · iexact H2
    iexact H3
  iexact H3

end

theorem set15 : iprop(Hfrom (c.tc : Thread nD τ) arg15 0 ∗ Cells (c.tc : Thread nD τ) arg21 12 0 ∗ Cells (c.tc : Thread nD τ) arg22 12 0 ∗ H2 (c.tc : Thread nD τ) arg5 q₅ 0 11008 0 4096 K.mg ∗ H2 (c.tc : Thread nD τ) arg7 fullShare 0 11008 0 4096 F₇) ⊢ (iprop(CI arg5 arg7 arg15 arg21 arg22 c K q₅ F₇ 0 ∗ CI arg5 arg7 arg15 arg21 arg22 c K q₅ F₇ 1 ∗ CI arg5 arg7 arg15 arg21 arg22 c K q₅ F₇ 2 ∗ CI arg5 arg7 arg15 arg21 arg22 c K q₅ F₇ 3) : sProp 𝕄) := by
  unfold CI R0 IS OS MGN
  iintro ⟨HR, HI, HO, HG, HM⟩
  ihave HI := (Cells_split (c.tc : Thread nD τ) arg21 8 4 0) $$ [HI]
  · iexact HI
  icases HI with ⟨HI, HI2⟩
  ihave HO := (Cells_split (c.tc : Thread nD τ) arg22 8 4 0) $$ [HO]
  · iexact HO
  icases HO with ⟨HO, HO2⟩
  ihave HI := (Slots_of (c.tc : Thread nD τ) arg15 arg21 8 0 (by omega)) $$ [HR HI]
  · isplitl [HR]; · iexact HR
    iexact HI
  icases HI with ⟨HI, HR⟩
  ihave HO2 := (Slots_of (c.tc : Thread nD τ) arg15 arg22 4 (0 + 8) (by omega)) $$ [HR HO2]
  · isplitl [HR]; · iexact HR
    iexact HO2
  icases HO2 with ⟨HO2, HR⟩
  ihave HG := (colsSplit c arg5 q₅ K.mg) $$ HG
  icases HG with ⟨g0, g1, g2, g3⟩
  ihave HM := (colsSplit c arg7 fullShare F₇) $$ HM
  icases HM with ⟨m0, m1, m2, m3⟩
  ihave HI := (show Slots (c.tc : Thread nD τ) arg15 arg21 8 0 ⊢ (iprop(Slot (c.tc : Thread nD τ) arg15 arg21 (0 + 0) ∗ Slot (c.tc : Thread nD τ) arg15 arg21 (0 + 1) ∗ Slot (c.tc : Thread nD τ) arg15 arg21 (0 + 2) ∗ Slot (c.tc : Thread nD τ) arg15 arg21 (0 + 3) ∗ Slot (c.tc : Thread nD τ) arg15 arg21 (0 + 4) ∗ Slot (c.tc : Thread nD τ) arg15 arg21 (0 + 5) ∗ Slot (c.tc : Thread nD τ) arg15 arg21 (0 + 6) ∗ Slot (c.tc : Thread nD τ) arg15 arg21 (0 + 7) ∗ emp) : sProp 𝕄) from .rfl) $$ HI
  icases HI with ⟨i0, i1, i2, i3, i4, i5, i6, i7, _⟩
  ihave HO2 := (show Slots (c.tc : Thread nD τ) arg15 arg22 4 (0 + 8) ⊢ (iprop(Slot (c.tc : Thread nD τ) arg15 arg22 ((0 + 8) + 0) ∗ Slot (c.tc : Thread nD τ) arg15 arg22 ((0 + 8) + 1) ∗ Slot (c.tc : Thread nD τ) arg15 arg22 ((0 + 8) + 2) ∗ Slot (c.tc : Thread nD τ) arg15 arg22 ((0 + 8) + 3) ∗ emp) : sProp 𝕄) from .rfl) $$ HO2
  icases HO2 with ⟨o0, o1, o2, o3, _⟩
  ihave HI2 := (show Cells (c.tc : Thread nD τ) arg21 4 (0 + 8) ⊢ (iprop(semVal ((c.tc : Thread nD τ), .dma (semAt arg21 ((0 + 8) + 0))) 0 ∗ semVal ((c.tc : Thread nD τ), .dma (semAt arg21 ((0 + 8) + 1))) 0 ∗ semVal ((c.tc : Thread nD τ), .dma (semAt arg21 ((0 + 8) + 2))) 0 ∗ semVal ((c.tc : Thread nD τ), .dma (semAt arg21 ((0 + 8) + 3))) 0 ∗ emp) : sProp 𝕄) from .rfl) $$ HI2
  icases HI2 with ⟨u0, u1, u2, u3, _⟩
  ihave HO := (show Cells (c.tc : Thread nD τ) arg22 8 0 ⊢ (iprop(semVal ((c.tc : Thread nD τ), .dma (semAt arg22 (0 + 0))) 0 ∗ semVal ((c.tc : Thread nD τ), .dma (semAt arg22 (0 + 1))) 0 ∗ semVal ((c.tc : Thread nD τ), .dma (semAt arg22 (0 + 2))) 0 ∗ semVal ((c.tc : Thread nD τ), .dma (semAt arg22 (0 + 3))) 0 ∗ semVal ((c.tc : Thread nD τ), .dma (semAt arg22 (0 + 4))) 0 ∗ semVal ((c.tc : Thread nD τ), .dma (semAt arg22 (0 + 5))) 0 ∗ semVal ((c.tc : Thread nD τ), .dma (semAt arg22 (0 + 6))) 0 ∗ semVal ((c.tc : Thread nD τ), .dma (semAt arg22 (0 + 7))) 0 ∗ emp) : sProp 𝕄) from .rfl) $$ HO
  icases HO with ⟨v0, v1, v2, v3, v4, v5, v6, v7, _⟩
  isplitl [i0 g0 i4 o0 u0 v0 v4 m0]
  · isplitl [i0]; · iexact i0
    isplitl [g0]; · iexact g0
    isplitl [i4]; · iexact i4
    isplitl [o0]; · iexact o0
    isplitl [u0]; · iexact u0
    isplitl [v0]; · iexact v0
    isplitl [v4]; · iexact v4
    iexact m0
  isplitl [i1 g1 i5 o1 u1 v1 v5 m1]
  · isplitl [i1]; · iexact i1
    isplitl [g1]; · iexact g1
    isplitl [i5]; · iexact i5
    isplitl [o1]; · iexact o1
    isplitl [u1]; · iexact u1
    isplitl [v1]; · iexact v1
    isplitl [v5]; · iexact v5
    iexact m1
  isplitl [i2 g2 i6 o2 u2 v2 v6 m2]
  · isplitl [i2]; · iexact i2
    isplitl [g2]; · iexact g2
    isplitl [i6]; · iexact i6
    isplitl [o2]; · iexact o2
    isplitl [u2]; · iexact u2
    isplitl [v2]; · iexact v2
    isplitl [v6]; · iexact v6
    iexact m2
  isplitl [i3]; · iexact i3
  isplitl [g3]; · iexact g3
  isplitl [i7]; · iexact i7
  isplitl [o3]; · iexact o3
  isplitl [u3]; · iexact u3
  isplitl [v3]; · iexact v3
  isplitl [v7]; · iexact v7
  iexact m3

theorem Slot_cons {N n m : ℕ} [NeZero N] {sp : Space} {e : EltTy} (R : Memref sig .tc sp ⟨3, ![N, n, m]⟩ e) (S : SemArray (DmaSem sig) ⟨1, ![N]⟩) (i k : ℕ) :
    iprop(Slot (c.tc : Thread nD τ) R S k ∗ Slots (c.tc : Thread nD τ) R S i (k + 1)) ⊢ (Slots (c.tc : Thread nD τ) R S (i + 1) k : sProp 𝕄) := .rfl

theorem end13 : iprop(RW arg4 arg13 arg19 c K q₄ 43 ∗ RW arg4 arg13 arg19 c K q₄ 44 ∗ RW arg4 arg13 arg19 c K q₄ 45) ⊢ (iprop(Hfrom (c.tc : Thread nD τ) arg13 0 ∗ Cells (c.tc : Thread nD τ) arg19 3 0) : sProp 𝕄) := by
  unfold RW RoleIn
  rw [if_neg (by omega), if_neg (by omega), if_neg (by omega)]
  iintro ⟨H1, H2, H0⟩
  iapply (Slots_back (c.tc : Thread nD τ) arg13 arg19 3 0)
  isplitl [H0 H1 H2]
  · rw [Slots.eq_2, Slots.eq_2, Slots.eq_2, Slots.eq_1]
    isplitl [H0]; · iexact H0
    isplitl [H1]; · iexact H1
    isplitl [H2]; · iexact H2
    iempintro
  iapply Hfrom_none
  iempintro

theorem end14 : iprop(Slot (c.tc : Thread nD τ) arg14 arg20 (43 % 2) ∗ Slot (c.tc : Thread nD τ) arg14 arg20 (44 % 2)) ⊢ (iprop(Hfrom (c.tc : Thread nD τ) arg14 0 ∗ Cells (c.tc : Thread nD τ) arg20 2 0) : sProp 𝕄) := by
  iintro ⟨H1, H0⟩
  iapply (Slots_back (c.tc : Thread nD τ) arg14 arg20 2 0)
  isplitl [H0 H1]
  · rw [Slots.eq_2, Slots.eq_2, Slots.eq_1]
    isplitl [H0]; · iexact H0
    isplitl [H1]; · iexact H1
    iempintro
  iapply Hfrom_none
  iempintro

theorem end15 : iprop(CE arg5 arg7 arg15 arg21 arg22 c K q₅ 0 ∗ CE arg5 arg7 arg15 arg21 arg22 c K q₅ 1 ∗ CE arg5 arg7 arg15 arg21 arg22 c K q₅ 2 ∗ CE arg5 arg7 arg15 arg21 arg22 c K q₅ 3) ⊢ (iprop(Hfrom (c.tc : Thread nD τ) arg15 0 ∗ Cells (c.tc : Thread nD τ) arg21 12 0 ∗ Cells (c.tc : Thread nD τ) arg22 12 0 ∗ H2 (c.tc : Thread nD τ) arg5 q₅ 0 11008 0 4096 K.mg ∗ H2 (c.tc : Thread nD τ) arg7 fullShare 0 11008 0 4096 (moF K)) : sProp 𝕄) := by
  unfold CE IS OS
  iintro ⟨⟨o0, u0, i0, i4, v0, v4, g0, m0⟩, ⟨o1, u1, i1, i5, v1, v5, g1, m1⟩, ⟨o2, u2, i2, i6, v2, v6, g2, m2⟩, ⟨o3, u3, i3, i7, v3, v7, g3, m3⟩⟩
  ihave HG := (colsJoin c arg5 q₅ K.mg) $$ [g0 g1 g2 g3]
  · isplitl [g0]; · iexact g0
    isplitl [g1]; · iexact g1
    isplitl [g2]; · iexact g2
    iexact g3
  ihave HM := (colsJoin c arg7 fullShare (moF K)) $$ [m0 m1 m2 m3]
  · isplitl [m0]; · iexact m0
    isplitl [m1]; · iexact m1
    isplitl [m2]; · iexact m2
    iexact m3
  ihave HS1 := (show (iprop(Slot (c.tc : Thread nD τ) arg15 arg21 (4) ∗ Slot (c.tc : Thread nD τ) arg15 arg21 (5) ∗ Slot (c.tc : Thread nD τ) arg15 arg21 (6) ∗ Slot (c.tc : Thread nD τ) arg15 arg21 (7) ∗ Slot (c.tc : Thread nD τ) arg15 arg21 (8) ∗ Slot (c.tc : Thread nD τ) arg15 arg21 (9) ∗ Slot (c.tc : Thread nD τ) arg15 arg21 (10) ∗ Slot (c.tc : Thread nD τ) arg15 arg21 (11)) : sProp 𝕄) ⊢ Slots (c.tc : Thread nD τ) arg15 arg21 8 4 from by
      rw [Slots.eq_2, Slots.eq_2, Slots.eq_2, Slots.eq_2, Slots.eq_2, Slots.eq_2, Slots.eq_2, Slots.eq_2, Slots.eq_1]
      iintro ⟨i0, i1, i2, i3, i4, i5, i6, i7⟩
      isplitl [i0]; · iexact i0
      isplitl [i1]; · iexact i1
      isplitl [i2]; · iexact i2
      isplitl [i3]; · iexact i3
      isplitl [i4]; · iexact i4
      isplitl [i5]; · iexact i5
      isplitl [i6]; · iexact i6
      isplitl [i7]; · iexact i7
      iempintro) $$ [i0 i1 i2 i3 i4 i5 i6 i7]
  · isplitl [i0]; · iexact i0
    isplitl [i1]; · iexact i1
    isplitl [i2]; · iexact i2
    isplitl [i3]; · iexact i3
    isplitl [i4]; · iexact i4
    isplitl [i5]; · iexact i5
    isplitl [i6]; · iexact i6
    iexact i7
  ihave HS2 := (show (iprop(Slot (c.tc : Thread nD τ) arg15 arg22 (0) ∗ Slot (c.tc : Thread nD τ) arg15 arg22 (1) ∗ Slot (c.tc : Thread nD τ) arg15 arg22 (2) ∗ Slot (c.tc : Thread nD τ) arg15 arg22 (3)) : sProp 𝕄) ⊢ Slots (c.tc : Thread nD τ) arg15 arg22 4 0 from by
      rw [Slots.eq_2, Slots.eq_2, Slots.eq_2, Slots.eq_2, Slots.eq_1]
      iintro ⟨o0, o1, o2, o3⟩
      isplitl [o0]; · iexact o0
      isplitl [o1]; · iexact o1
      isplitl [o2]; · iexact o2
      isplitl [o3]; · iexact o3
      iempintro) $$ [o0 o1 o2 o3]
  · isplitl [o0]; · iexact o0
    isplitl [o1]; · iexact o1
    isplitl [o2]; · iexact o2
    iexact o3
  ihave HU := (show (iprop(semVal ((c.tc : Thread nD τ), .dma (semAt arg21 (0))) 0 ∗ semVal ((c.tc : Thread nD τ), .dma (semAt arg21 (1))) 0 ∗ semVal ((c.tc : Thread nD τ), .dma (semAt arg21 (2))) 0 ∗ semVal ((c.tc : Thread nD τ), .dma (semAt arg21 (3))) 0) : sProp 𝕄) ⊢ Cells (c.tc : Thread nD τ) arg21 4 0 from by
      rw [Cells.eq_2, Cells.eq_2, Cells.eq_2, Cells.eq_2, Cells.eq_1]
      iintro ⟨u0, u1, u2, u3⟩
      isplitl [u0]; · iexact u0
      isplitl [u1]; · iexact u1
      isplitl [u2]; · iexact u2
      isplitl [u3]; · iexact u3
      iempintro) $$ [u0 u1 u2 u3]
  · isplitl [u0]; · iexact u0
    isplitl [u1]; · iexact u1
    isplitl [u2]; · iexact u2
    iexact u3
  ihave HV := (show (iprop(semVal ((c.tc : Thread nD τ), .dma (semAt arg22 (4))) 0 ∗ semVal ((c.tc : Thread nD τ), .dma (semAt arg22 (5))) 0 ∗ semVal ((c.tc : Thread nD τ), .dma (semAt arg22 (6))) 0 ∗ semVal ((c.tc : Thread nD τ), .dma (semAt arg22 (7))) 0 ∗ semVal ((c.tc : Thread nD τ), .dma (semAt arg22 (8))) 0 ∗ semVal ((c.tc : Thread nD τ), .dma (semAt arg22 (9))) 0 ∗ semVal ((c.tc : Thread nD τ), .dma (semAt arg22 (10))) 0 ∗ semVal ((c.tc : Thread nD τ), .dma (semAt arg22 (11))) 0) : sProp 𝕄) ⊢ Cells (c.tc : Thread nD τ) arg22 8 4 from by
      rw [Cells.eq_2, Cells.eq_2, Cells.eq_2, Cells.eq_2, Cells.eq_2, Cells.eq_2, Cells.eq_2, Cells.eq_2, Cells.eq_1]
      iintro ⟨v0, v1, v2, v3, v4, v5, v6, v7⟩
      isplitl [v0]; · iexact v0
      isplitl [v1]; · iexact v1
      isplitl [v2]; · iexact v2
      isplitl [v3]; · iexact v3
      isplitl [v4]; · iexact v4
      isplitl [v5]; · iexact v5
      isplitl [v6]; · iexact v6
      isplitl [v7]; · iexact v7
      iempintro) $$ [v0 v1 v2 v3 v4 v5 v6 v7]
  · isplitl [v0]; · iexact v0
    isplitl [v1]; · iexact v1
    isplitl [v2]; · iexact v2
    isplitl [v3]; · iexact v3
    isplitl [v4]; · iexact v4
    isplitl [v5]; · iexact v5
    isplitl [v6]; · iexact v6
    iexact v7
  ihave HS1 := (Slots_back (c.tc : Thread nD τ) arg15 arg21 8 4) $$ [HS1]
  · isplitl [HS1]; · iexact HS1
    iapply Hfrom_none
    iempintro
  icases HS1 with ⟨HR, HC1⟩
  ihave HS2 := (Slots_back (c.tc : Thread nD τ) arg15 arg22 4 0) $$ [HS2 HR]
  · isplitl [HS2]; · iexact HS2
    iexact HR
  icases HS2 with ⟨HR, HC2⟩
  isplitl [HR]; · iexact HR
  isplitl [HU HC1]
  · iapply (Cells_join (c.tc : Thread nD τ) arg21 4 8 0)
    isplitl [HU]; · iexact HU
    iexact HC1
  isplitl [HV HC2]
  · iapply (Cells_join (c.tc : Thread nD τ) arg22 4 8 0)
    isplitl [HC2]; · iexact HC2
    iexact HV
  isplitl [HG]; · iexact HG
  iexact HM

/-- The scratch arrays at some contents. -/
def SCR : sProp 𝕄 :=
  iprop((∃ G, H2 (c.tc : Thread nD τ) arg11 fullShare 0 1024 0 11008 G) ∗ (∃ G, H2 (c.tc : Thread nD τ) arg12 fullShare 0 1024 0 4096 G) ∗ Hfrom (c.tc : Thread nD τ) arg13 0 ∗ Hfrom (c.tc : Thread nD τ) arg14 0 ∗ Hfrom (c.tc : Thread nD τ) arg15 0 ∗ (∃ G, H2 (c.tc : Thread nD τ) arg16 fullShare 0 1024 0 4096 G))

/-- Every cell at zero. -/
def SEM : sProp 𝕄 :=
  iprop(Cells (c.tc : Thread nD τ) arg17 16 0 ∗ semVal ((c.tc : Thread nD τ), .dma arg18.sem) 0 ∗ Cells (c.tc : Thread nD τ) arg19 3 0 ∗ Cells (c.tc : Thread nD τ) arg20 2 0 ∗ Cells (c.tc : Thread nD τ) arg21 12 0 ∗ Cells (c.tc : Thread nD τ) arg22 12 0 ∗ Cells (c.tc : Thread nD τ) arg23 8 0)

/-- The inputs. -/
def INP : sProp 𝕄 :=
  iprop(H2 (c.tc : Thread nD τ) arg2 q₂ 0 1024 0 11008 K.dy ∗ H2 (c.tc : Thread nD τ) arg3 q₃ 0 1024 0 4096 K.x ∗ H2 (c.tc : Thread nD τ) arg4 q₄ 0 11008 0 4096 K.w ∗ H2 (c.tc : Thread nD τ) arg5 q₅ 0 11008 0 4096 K.mg)

/-- What the program takes. -/
def BP : sProp 𝕄 :=
  iprop(H2 (c.tc : Thread nD τ) arg0 q₀ 0 1 0 1 G₀ ∗ H2 (c.tc : Thread nD τ) arg1 q₁ 0 1 0 1 G₁ ∗ H2 (c.tc : Thread nD τ) arg8 fullShare 0 1 0 1 G₈ ∗ H2 (c.tc : Thread nD τ) arg10 fullShare 0 1 0 1 G₁₀ ∗ INP arg2 arg3 arg4 arg5 c K q₂ q₃ q₄ q₅ ∗ (∃ G, H2 (c.tc : Thread nD τ) arg6 fullShare 0 1024 0 4096 G) ∗ (∃ G, H2 (c.tc : Thread nD τ) arg7 fullShare 0 11008 0 4096 G) ∗ (∃ G, H2 (c.tc : Thread nD τ) arg9 fullShare 0 1024 0 11008 G)
    ∗ SCR arg11 arg12 arg13 arg14 arg15 arg16 c ∗ SEM arg17 arg18 arg19 arg20 arg21 arg22 arg23 c ∗ ∃ W, owes (c.tc : Thread nD τ) 0 W)

/-- What it leaves. -/
def EP : sProp 𝕄 :=
  iprop(H2 (c.tc : Thread nD τ) arg0 q₀ 0 1 0 1 G₀ ∗ H2 (c.tc : Thread nD τ) arg1 q₁ 0 1 0 1 G₁ ∗ H2 (c.tc : Thread nD τ) arg8 fullShare 0 1 0 1 (fun _ _ => k0_pay32 (k0_pay27 (amF K.dy 16))) ∗ H2 (c.tc : Thread nD τ) arg10 fullShare 0 1 0 1 (fun _ _ => k0_pay33 (k0_pay29 (amF K.dy 16))) ∗ INP arg2 arg3 arg4 arg5 c K q₂ q₃ q₄ q₅ ∗ H2 (c.tc : Thread nD τ) arg6 fullShare 0 1024 0 4096 (dxF K (k0_pay35 (k0_pay29 (amF K.dy 16)) (G₁ 0 0))) ∗ H2 (c.tc : Thread nD τ) arg7 fullShare 0 11008 0 4096 (moF K) ∗ H2 (c.tc : Thread nD τ) arg9 fullShare 0 1024 0 11008 (codesF K)
    ∗ SCR arg11 arg12 arg13 arg14 arg15 arg16 c ∗ SEM arg17 arg18 arg19 arg20 arg21 arg22 arg23 c ∗ ∃ W, owes (c.tc : Thread nD τ) 0 W)

/-- The program. -/
theorem body (hiv : k0_pay31 (F := F) (k0_pay30 (amF K.dy 16)) = K.iv) (hms : k0_pay34 (k0_pay29 (amF K.dy 16)) (G₀ 0 0) = K.ms) {Q : PUnit → sProp (MT nD τ sig Unit (Elt F) ℕ (Pipeline.UD sig nD τ) ℕ)} :
    BP arg0 arg1 arg2 arg3 arg4 arg5 arg6 arg7 arg8 arg9 arg10 arg11 arg12 arg13 arg14 arg15 arg16 arg17 arg18 arg19 arg20 arg21 arg22 arg23 c K q₂ q₃ q₄ q₅ q₀ q₁ G₀ G₁ G₈ G₁₀
      ⊢ iprop((EP arg0 arg1 arg2 arg3 arg4 arg5 arg6 arg7 arg8 arg9 arg10 arg11 arg12 arg13 arg14 arg15 arg16 arg17 arg18 arg19 arg20 arg21 arg22 arg23 c K q₂ q₃ q₄ q₅ q₀ q₁ G₀ G₁ -∗ Q ⟨⟩)
        -∗ wp frame (wpE defs 𝒱 (c.tc : Thread nD τ) bd) Set.univ (cc0_fp8_linear_backward arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23) Q) := by
  rw [cc0_fp8_linear_backward_eq_skeleton]
  unfold cc0_fp8_linear_backward_skel
  rw [k0_part27_eq_skeleton]
  unfold k0_part27_skel BP INP SCR SEM
  iintro ⟨S0, S1, S8, S10, ⟨I2, I3, I4, I5⟩, O6, ⟨%F₇, O7⟩, ⟨%F₉, O9⟩, ⟨V11, V12, V13, V14, V15, V16⟩, ⟨E17, E18, E19, E20, E21, E22, E23⟩, HO⟩ Hk
  ihave V16 := (show iprop(∃ G, H2 (c.tc : Thread nD τ) arg16 fullShare 0 1024 0 4096 G) ⊢ (AW arg16 c : sProp 𝕄) from .rfl) $$ V16
  ihave V13 := (set13 arg13 arg19 c) $$ [V13 E19]
  · isplitl [V13]; · iexact V13
    iexact E19
  icases V13 with ⟨W0, W1, W2⟩
  ihave V14 := (set14 arg9 arg14 arg20 c K) $$ [V14 E20]
  · isplitl [V14]; · iexact V14
    iexact E20
  icases V14 with ⟨R0, R1⟩
  ihave V15 := (set15 arg5 arg7 arg15 arg21 arg22 c K q₅ F₇) $$ [V15 E21 E22 I5 O7]
  · isplitl [V15]; · iexact V15
    isplitl [E21]; · iexact E21
    isplitl [E22]; · iexact E22
    isplitl [I5]; · iexact I5
    iexact O7
  icases V15 with ⟨C0, C1, C2, C3⟩
  ihave I4 := (H2_rows 0 (Nat.le_refl _) (Nat.zero_le _)) $$ I4
  icases I4 with ⟨WD, WN⟩
  ihave WD := (show H2 (c.tc : Thread nD τ) arg4 q₄ 0 0 0 4096 K.w ⊢ (WD arg4 c K q₄ 0 : sProp 𝕄) from .rfl) $$ WD
  ihave WN := (show H2 (c.tc : Thread nD τ) arg4 q₄ 0 11008 0 4096 K.w ⊢ (WN arg4 c K q₄ 0 : sProp 𝕄) from .rfl) $$ WN
  ihave O9 := (H2_cols 0 (Nat.le_refl _) (Nat.zero_le _)) $$ O9
  icases O9 with ⟨CD, CN⟩
  ihave CN := (show H2 (c.tc : Thread nD τ) arg9 fullShare 0 1024 0 11008 F₉ ⊢ (CN arg9 c F₉ 0 : sProp 𝕄) from .rfl) $$ CN
  ihave HA := (show (iprop(H2 (c.tc : Thread nD τ) arg2 q₂ 0 1024 0 11008 K.dy ∗ (∃ G, H2 (c.tc : Thread nD τ) arg11 fullShare 0 1024 0 11008 G) ∗ Cells (c.tc : Thread nD τ) arg17 16 0) : sProp 𝕄) ⊢ A1 arg2 arg11 arg17 c K q₂ 16 0 from by
      unfold A1 Sent
      rw [Bands.eq_1]
      iintro ⟨H, HG, HC⟩
      isplitl [H]; · iexact H
      isplitr; · iempintro
      isplitl [HG]; · iexact HG
      iexact HC) $$ [I2 V11 E17]
  · isplitl [I2]; · iexact I2
    isplitl [V11]; · iexact V11
    iexact E17
  ihave HX := (show (iprop((∃ G, H2 (c.tc : Thread nD τ) arg6 fullShare 0 1024 0 4096 G) ∗ Cells (c.tc : Thread nD τ) arg23 8 0) : sProp 𝕄) ⊢ XS arg6 arg11 arg23 c K (k0_pay35 (k0_pay29 (amF K.dy 16)) (G₁ 0 0)) 8 0 from by
      unfold XS Sent
      rw [Bands.eq_1]
      iintro ⟨HG, HC⟩
      isplitr; · iempintro
      isplitl [HG]; · iexact HG
      iexact HC) $$ [O6 E23]
  · isplitl [O6]; · iexact O6
    iexact E23
  rw [wp_bind]
  rw [wp_bind]
  iapply (part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₂) $$ [HA]
  · iexact HA
  iintro HA
  rw [wp_bind]
  iapply (part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₂) $$ [HA]
  · iexact HA
  iintro HA
  ihave X0 := (show (iprop(H2 (c.tc : Thread nD τ) arg3 q₃ 0 1024 0 4096 K.x ∗ (∃ G, H2 (c.tc : Thread nD τ) arg12 fullShare 0 1024 0 4096 G) ∗ semVal ((c.tc : Thread nD τ), .dma arg18.sem) 0) : sProp 𝕄) ⊢ X0 arg3 arg12 arg18 c K q₃ from .rfl) $$ [I3 V12 E18]
  · isplitl [I3]; · iexact I3
    isplitl [V12]; · iexact V12
    iexact E18
  rw [wp_bind]
  iapply (part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₂ q₃ q₄) $$ [HA W0 WN X0]
  · isplitl [HA]; · iexact HA
    isplitl [W0]; · iexact W0
    isplitl [WN]; · iexact WN
    iexact X0
  iintro ⟨HA, W0, WN, XF⟩
  rw [wp_bind]
  iapply (part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₄ q₅ F₇) $$ [W1 WN C0 C1 C2 C3]
  · isplitl [W1]; · iexact W1
    isplitl [WN]; · iexact WN
    isplitl [C0]; · iexact C0
    isplitl [C1]; · iexact C1
    isplitl [C2]; · iexact C2
    iexact C3
  iintro ⟨W1, WN, C0, C1, C2, C3⟩
  rw [wp_bind]
  iapply (part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₄ q₅ F₇) $$ [W2 WN C0 C1 C2 C3 V16]
  · isplitl [W2]; · iexact W2
    isplitl [WN]; · iexact WN
    isplitl [C0]; · iexact C0
    isplitl [C1]; · iexact C1
    isplitl [C2]; · iexact C2
    isplitl [C3]; · iexact C3
    iexact V16
  iintro ⟨W2, WN, C0, C1, C2, C3, V16⟩
  ihave HB := (show A1 arg2 arg11 arg17 c K q₂ 0 16 ⊢ (B1 arg2 arg11 arg17 c K.dy q₂ 16 0 : sProp 𝕄) from by
      unfold A1 B1
      exact Come_of_Sent _ _ _ _ _ _ _ _ (by omega)) $$ HA
  rw [wp_bind]
  iapply (part21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₂) $$ [V16 HB HO]
  · isplitl [V16]; · iexact V16
    isplitl [HB]; · iexact HB
    iexact HO
  iintro ⟨V16, HB, HO⟩
  unfold B1 Come
  icases HB with ⟨_, DY, I2, E17⟩
  ihave DY := (show H2 (c.tc : Thread nD τ) arg11 fullShare 0 (64 * 16) 0 11008 K.dy ⊢ (DY arg11 c K : sProp 𝕄) from .rfl) $$ DY
  ihave V16 := (acSplit arg16 c K) $$ V16
  icases V16 with ⟨a0, a1, a2, a3, a4, a5, a6, a7⟩
  ihave J := (show (iprop(RC arg9 arg14 arg20 c K 0 ∗ RC arg9 arg14 arg20 c K 1 ∗ CD arg9 c K 0 ∗ CN arg9 c F₉ 0 ∗ DY arg11 c K ∗ RW arg4 arg13 arg19 c K q₄ 0 ∗ RW arg4 arg13 arg19 c K q₄ 1 ∗ RW arg4 arg13 arg19 c K q₄ 2 ∗ WD arg4 c K q₄ 0 ∗ WN arg4 c K q₄ 3 ∗ AC arg16 c K 0 0 ∗ AC arg16 c K 1 0 ∗ AC arg16 c K 2 0 ∗ AC arg16 c K 3 0 ∗ AC arg16 c K 4 0 ∗ AC arg16 c K 5 0 ∗ AC arg16 c K 6 0 ∗ AC arg16 c K 7 0 ∗ CH arg5 arg7 arg15 arg21 arg22 c K q₅ F₇ 0 0 ∗ CH arg5 arg7 arg15 arg21 arg22 c K q₅ F₇ 1 0 ∗ CH arg5 arg7 arg15 arg21 arg22 c K q₅ F₇ 2 0 ∗ CH arg5 arg7 arg15 arg21 arg22 c K q₅ F₇ 3 0) : sProp 𝕄)
      ⊢ J0 arg4 arg5 arg7 arg9 arg11 arg13 arg14 arg15 arg16 arg19 arg20 arg21 arg22 c K q₄ q₅ F₇ F₉ from .rfl) $$ [R0 R1 CD CN DY W0 W1 W2 WD WN a0 a1 a2 a3 a4 a5 a6 a7 C0 C1 C2 C3]
  · isplitl [R0]; · iexact R0
    isplitl [R1]; · iexact R1
    isplitl [CD]
    · unfold CD
      iapply (H2_void (Or.inr (by omega)) (Or.inr (by omega))) $$ CD
    isplitl [CN]; · iexact CN
    isplitl [DY]; · iexact DY
    isplitl [W0]; · iexact W0
    isplitl [W1]; · iexact W1
    isplitl [W2]; · iexact W2
    isplitl [WD]; · iexact WD
    isplitl [WN]; · iexact WN
    isplitl [a0]; · iexact a0
    isplitl [a1]; · iexact a1
    isplitl [a2]; · iexact a2
    isplitl [a3]; · iexact a3
    isplitl [a4]; · iexact a4
    isplitl [a5]; · iexact a5
    isplitl [a6]; · iexact a6
    isplitl [a7]; · iexact a7
    isplitl [C0]; · iexact C0
    isplitl [C1]; · iexact C1
    isplitl [C2]; · iexact C2
    iexact C3
  rw [wp_bind]
  iapply (part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₃ q₄ q₅ q₀ q₁ F₇ F₉ G₀ G₁ (k0_pay27 (amF K.dy 16)) hiv hms) $$ [S8 S10 S0 S1 XF J HX HO]
  · isplitl [S8]; · iexact S8
    isplitl [S10]; · iexact S10
    isplitl [S0]; · iexact S0
    isplitl [S1]; · iexact S1
    isplitl [XF]; · iexact XF
    isplitl [J]; · iexact J
    isplitl [HX]; · iexact HX
    iexact HO
  iintro ⟨S8, S10, S0, S1, I3, E18, J, HA, HY, XR, HX, HO⟩
  rw [wp_bind]
  iapply (part23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K (k0_pay35 (k0_pay29 (amF K.dy 16)) (G₁ 0 0)) (k0_pay38 (k0_pay29 (amF K.dy 16)) (G₁ 0 0) (tile2 128 4096 (accF K 43) (128 * 1) 0)) _ rfl) $$ [XR HX HA]
  · isplitl [XR]; · iexact XR
    isplitl [HX]; · iexact HX
    iexact HA
  iintro ⟨XR, HX, HA⟩
  rw [wp_bind]
  iapply (part24 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K (k0_pay35 (k0_pay29 (amF K.dy 16)) (G₁ 0 0))) $$ [XR HX HA]
  · isplitl [XR]; · iexact XR
    isplitl [HX]; · iexact HX
    iexact HA
  iintro ⟨HB, XR, HX, HA⟩
  unfold J43
  icases J with ⟨R0, R1, CD, W0, W1, W2, WD, V12, C0, C1, C2, C3⟩
  rw [wp_bind]
  iapply (part25 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₅ F₇ (k0_pay35 (k0_pay29 (amF K.dy 16)) (G₁ 0 0))) $$ [HB XR HX HA C0 C1 HO]
  · isplitl [HB]; · iexact HB
    isplitl [XR]; · iexact XR
    isplitl [HX]; · iexact HX
    isplitl [HA]; · iexact HA
    isplitl [C0]; · iexact C0
    isplitl [C1]; · iexact C1
    iexact HO
  iintro ⟨HX, HA, C0, C1, HO⟩
  rw [wp_bind]
  iapply (part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₅ F₇ (k0_pay35 (k0_pay29 (amF K.dy 16)) (G₁ 0 0))) $$ [HX C2 C3 R0 R1 CD HO]
  · isplitl [HX]; · iexact HX
    isplitl [C2]; · iexact C2
    isplitl [C3]; · iexact C3
    isplitl [R0]; · iexact R0
    isplitl [R1]; · iexact R1
    isplitl [CD]; · iexact CD
    iexact HO
  iintro ⟨HX, C2, C3, R0, R1, CD, HO⟩
  unfold XC
  iapply (bandWait 𝒱 (c.tc : Thread nD τ) bd (Ms := arg11) (Md := arg6) (n := 128) (w := 4096) (q := fullShare) (F := dxF K (k0_pay35 (k0_pay29 (amF K.dy 16)) (G₁ 0 0))) (i := 5) 2 (sem_eq arg23 _ _ _ _ rfl) rfl) $$ [HX HO]
  · isplitl [HX]; · iexact HX
    iexact HO
  iintro ⟨HX, HO⟩
  iapply (bandWait 𝒱 (c.tc : Thread nD τ) bd (Ms := arg11) (Md := arg6) (n := 128) (w := 4096) (q := fullShare) (F := dxF K (k0_pay35 (k0_pay29 (amF K.dy 16)) (G₁ 0 0))) (i := 4) 3 (sem_eq arg23 _ _ _ _ rfl) rfl) $$ [HX HO]
  · isplitl [HX]; · iexact HX
    iexact HO
  iintro ⟨HX, HO⟩
  iapply (bandWait 𝒱 (c.tc : Thread nD τ) bd (Ms := arg11) (Md := arg6) (n := 128) (w := 4096) (q := fullShare) (F := dxF K (k0_pay35 (k0_pay29 (amF K.dy 16)) (G₁ 0 0))) (i := 3) 4 (sem_eq arg23 _ _ _ _ rfl) rfl) $$ [HX HO]
  · isplitl [HX]; · iexact HX
    iexact HO
  iintro ⟨HX, HO⟩
  iapply (bandWait 𝒱 (c.tc : Thread nD τ) bd (Ms := arg11) (Md := arg6) (n := 128) (w := 4096) (q := fullShare) (F := dxF K (k0_pay35 (k0_pay29 (amF K.dy 16)) (G₁ 0 0))) (i := 2) 5 (sem_eq arg23 _ _ _ _ rfl) rfl) $$ [HX HO]
  · isplitl [HX]; · iexact HX
    iexact HO
  iintro ⟨HX, HO⟩
  iapply (bandWait 𝒱 (c.tc : Thread nD τ) bd (Ms := arg11) (Md := arg6) (n := 128) (w := 4096) (q := fullShare) (F := dxF K (k0_pay35 (k0_pay29 (amF K.dy 16)) (G₁ 0 0))) (i := 1) 6 (sem_eq arg23 _ _ _ _ rfl) rfl) $$ [HX HO]
  · isplitl [HX]; · iexact HX
    iexact HO
  iintro ⟨HX, HO⟩
  iapply (wp_done 𝒱 (c.tc : Thread nD τ) bd)
  iapply (bandWait 𝒱 (c.tc : Thread nD τ) bd (Ms := arg11) (Md := arg6) (n := 128) (w := 4096) (q := fullShare) (F := dxF K (k0_pay35 (k0_pay29 (amF K.dy 16)) (G₁ 0 0))) (i := 0) 7 (sem_eq arg23 _ _ _ _ rfl) rfl) $$ [HX HO]
  · isplitl [HX]; · iexact HX
    iexact HO
  iintro ⟨HX, HO⟩
  iapply (wp_done 𝒱 (c.tc : Thread nD τ) bd)
  unfold Come
  icases HX with ⟨_, O6, V11, E23⟩
  ihave V13 := (end13 arg4 arg13 arg19 c K q₄) $$ [W0 W1 W2]
  · isplitl [W0]; · iexact W0
    isplitl [W1]; · iexact W1
    iexact W2
  icases V13 with ⟨V13, E19⟩
  ihave V14 := (end14 arg14 arg20 c) $$ [R0 R1]
  · isplitl [R0]; · iexact R0
    iexact R1
  icases V14 with ⟨V14, E20⟩
  ihave V15 := (end15 arg5 arg7 arg15 arg21 arg22 c K q₅) $$ [C0 C1 C2 C3]
  · isplitl [C0]; · iexact C0
    isplitl [C1]; · iexact C1
    isplitl [C2]; · iexact C2
    iexact C3
  icases V15 with ⟨V15, E21, E22, I5, O7⟩
  ihave E17 := (Cells_of_to (c.tc : Thread nD τ) arg17 16 0) $$ [E17]
  · isplitl [E17]; · iexact E17
    rw [Cells.eq_1]
    iempintro
  ihave E23 := (Cells_of_to (c.tc : Thread nD τ) arg23 8 0) $$ [E23]
  · isplitl [E23]; · iexact E23
    rw [Cells.eq_1]
    iempintro
  iapply Hk
  unfold EP INP SCR SEM XV A43 CD WD
  isplitl [S0]; · iexact S0
  isplitl [S1]; · iexact S1
  isplitl [S8]; · iexact S8
  isplitl [S10]; · iexact S10
  isplitl [I2 I3 WD I5]
  · isplitl [I2]; · iexact I2
    isplitl [I3]; · iexact I3
    isplitl [WD]; · iexact WD
    iexact I5
  isplitl [O6]; · iexact O6
  isplitl [O7]; · iexact O7
  isplitl [CD]; · iexact CD
  isplitl [V11 HY V12 V13 V14 V15 HA]
  · isplitl [V11 HY]
    · iexists fun i j => if j < 4096 then dxF K (k0_pay35 (k0_pay29 (amF K.dy 16)) (G₁ 0 0)) i j else K.dy i j
      iapply (H2_joinCols (c₁ := 4096) (F₁ := dxF K (k0_pay35 (k0_pay29 (amF K.dy 16)) (G₁ 0 0))) (F₂ := K.dy) (by omega) (by omega) (fun i j _ _ _ h => (if_pos h).symm) (fun i j _ _ h _ => (if_neg (by omega)).symm))
      isplitl [V11]; · iexact V11
      iexact HY
    isplitl [V12]
    · iexists _; iexact V12
    isplitl [V13]; · iexact V13
    isplitl [V14]; · iexact V14
    isplitl [V15]; · iexact V15
    iexists _; iexact HA
  isplitl [E17 E18 E19 E20 E21 E22 E23]
  · isplitl [E17]; · iexact E17
    isplitl [E18]; · iexact E18
    isplitl [E19]; · iexact E19
    isplitl [E20]; · iexact E20
    isplitl [E21]; · iexact E21
    isplitl [E22]; · iexact E22
    iexact E23
  iexact HO

end Cert.Kernel.Hand
-- ==== Proof.Whole.lean ====
/-
  A whole buffer as the launch lends it (`owns`) against a whole box of it (`H2`), all its slots (`Hfrom`), and a run of the
  semaphore pool against the cells of an array (`Cells`).
-/
module

public import proofs.«01_k».proof.Proof.Rows
public import Idealize.ShloMosaic.Lib.Pipeline.BigSepL

@[expose] public section

noncomputable section

namespace Cert.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {nD : Nat} {τ : Topo} {sig : RefSig} {Val : EltTy → Type}

local notation "𝕄" => MT nD τ sig Unit Val ℕ (Pipeline.UD sig nD τ) ℕ

variable {sp : Space} {e : EltTy} {s : Shape} {a b n N : ℕ} {c : Thread nD τ} {q : PosShare TreeShare}

theorem Hd_of_owns {M : Memref sig c.2.kind sp s e} {P : s.Idx → Prop} {d d' : s.Idx → Val e} (h : ∀ x, P x) (hd : ∀ x, d x = d' x) :
    owns c M q d ⊢ (Hd c M q P d' : sProp 𝕄) := by
  unfold owns
  iintro ⟨%f, %hf, H⟩
  iapply (Hd_of_pts f h fun x => (congrFun hf x).trans (hd x)) $$ H

theorem owns_of_Hd {M : Memref sig c.2.kind sp s e} {P : s.Idx → Prop} {d : s.Idx → Val e} (h : ∀ x, P x) :
    Hd c M q P d ⊢ (owns c M q d : sProp 𝕄) := by
  have hs : sel P = Finset.univ := Finset.ext fun x => by rw [mem_sel]; simp [h x]
  unfold Hd owns
  rw [hs]
  iintro ⟨%f, %hf, H⟩
  iexists f
  isplitr; · ipureintro; exact funext fun x => hf x (h x)
  iexact H

variable {M : Memref sig c.2.kind sp ⟨2, ![a, b]⟩ e} {M₃ : Memref sig c.2.kind sp ⟨3, ![n, a, b]⟩ e}

theorem H2_of_owns [NeZero a] [NeZero b] (d : (⟨2, ![a, b]⟩ : Shape).Idx → Val e) :
    owns c M q d ⊢ (H2 c M q 0 a 0 b (lift2 d) : sProp 𝕄) :=
  Hd_of_owns (fun x => ⟨⟨Nat.zero_le _, idx2_lt0 x⟩, Nat.zero_le _, idx2_lt1 x⟩) fun x => (lift2_val d x).symm

theorem owns_of_H2 {F : ℕ → ℕ → Val e} : H2 c M q 0 a 0 b F ⊢ (owns c M q (fun x => F (x 0).val (x 1).val) : sProp 𝕄) :=
  owns_of_Hd fun x => ⟨⟨Nat.zero_le _, idx2_lt0 x⟩, Nat.zero_le _, idx2_lt1 x⟩

/-- The same at contents given. -/
theorem owns_of_H2_eq {F : ℕ → ℕ → Val e} {d : (⟨2, ![a, b]⟩ : Shape).Idx → Val e} (h : ∀ x, F (x 0).val (x 1).val = d x) :
    H2 c M q 0 a 0 b F ⊢ (owns c M q d : sProp 𝕄) := by
  rw [← show (fun x => F (x 0).val (x 1).val) = d from funext h]
  exact owns_of_H2

theorem H2_of_some [NeZero a] [NeZero b] : iprop(∃ d, owns c M q d) ⊢ (iprop(∃ F, H2 c M q 0 a 0 b F) : sProp 𝕄) := by
  iintro ⟨%d, H⟩
  iexists lift2 d
  iapply (H2_of_owns d) $$ H

theorem some_of_H2 : iprop(∃ F, H2 c M q 0 a 0 b F) ⊢ (iprop(∃ d, owns c M q d) : sProp 𝕄) := by
  iintro ⟨%F, H⟩
  iexists _
  iapply owns_of_H2 $$ H

theorem Hfrom_of_some : iprop(∃ d, owns c M₃ fullShare d) ⊢ (Hfrom c M₃ 0 : sProp 𝕄) := by
  unfold Hfrom
  iintro ⟨%d, H⟩
  iexists d
  iapply (Hd_of_owns (fun x => Nat.zero_le _) fun _ => rfl) $$ H

theorem some_of_Hfrom : Hfrom c M₃ 0 ⊢ (iprop(∃ d, owns c M₃ fullShare d) : sProp 𝕄) := by
  unfold Hfrom
  iintro ⟨%d, H⟩
  iexists d
  iapply (owns_of_Hd fun x => Nat.zero_le _) $$ H

/-- A run of the pool is the cells of the array laid there. -/
theorem Cells_eq [NeZero N] (S : SemArray (DmaSem sig) ⟨1, ![N]⟩) (cell : ℕ → SemLoc sig) (o : ℕ) (h : ∀ k, k < N → cell (o + k) = .dma (semAt S k)) :
    ∀ i k, k + i ≤ N → (BI.bigSepL (List.range' (o + k) i) (fun j => semVal (c, cell j) 0) : sProp 𝕄) = Cells c S i k
  | 0, _, _ => by rw [Cells.eq_1]; rfl
  | i + 1, k, hk => by
    rw [Cells.eq_2, List.range'_succ, BI.bigSepL_cons', h k (by omega)]
    rw [Nat.add_assoc o k 1, Cells_eq S cell o h i (k + 1) (by omega)]

end Cert.Steps

end
-- ==== Proof.KRun.lean ====
/-
  The launch of the whole program: its run to the contents every result ends with, and its frame.
-/
module

public import proofs.«01_k».proof.Proof.KBody
public import proofs.«01_k».proof.Proof.Whole
public import proofs.«01_k».proof.Proof.Gen.Kernel.Frame
public import Idealize.ShloMosaic.Lib.Pipeline.FrameValue

@[expose] public section

set_option maxRecDepth 16384

noncomputable section

namespace Cert.Kernel.Hand

open Cert.Kernel Cert.Kernel.Gen Cert.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main up to the region, at this proof's user algebra. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The operands -/

abbrev m2 : Memref sig .tc .hbm S1024x11008 .bf16 := Memref.whole main_v2
abbrev m3 : Memref sig .tc .hbm S1024x4096 .fp8e4m3 := Memref.whole main_v3
abbrev ma3 : Memref sig .tc .hbm S11008x4096 .fp8e4m3 := Memref.whole main_arg3
abbrev ma5 : Memref sig .tc .hbm S11008x4096 .f32 := Memref.whole main_arg5
abbrev o0 : Memref sig .tc .hbm S1024x4096 .bf16 := Memref.whole main_v4_0
abbrev o1 : Memref sig .tc .hbm S11008x4096 .f32 := Memref.whole main_v4_1
abbrev o3 : Memref sig .tc .hbm S1024x11008 .fp8e5m2 := Memref.whole main_v4_3
abbrev s0 : Memref sig .tc .vmem S1024x11008 .bf16 := Memref.whole cc0_scratch0
abbrev s1 : Memref sig .tc .vmem S1024x4096 .fp8e4m3 := Memref.whole cc0_scratch1
abbrev s2 : Memref sig .tc .vmem S3x256x4096 .fp8e4m3 := Memref.whole cc0_scratch2
abbrev s3 : Memref sig .tc .vmem S2x1024x256 .fp8e5m2 := Memref.whole cc0_scratch3
abbrev s4 : Memref sig .tc .vmem S12x256x1024 .f32 := Memref.whole cc0_scratch4
abbrev s5 : Memref sig .tc .vmem S1024x4096 .f32 := Memref.whole cc0_scratch5

/-- The kernel's own cells, by pool number. -/
def cell (j : ℕ) : SemLoc sig := .dma ⟨j % 58, Nat.mod_lt _ (by decide)⟩
abbrev osem0 : Fin 54 → SemLoc sig := fun j => cell (4 + j.val)
theorem ownSemFacts0 : Pipeline.OwnSemFacts spec0 osem0 := by decide +kernel

theorem finRange54 : (List.finRange 54).map (fun j => 4 + j.val)
    = List.range' 4 16 ++ (List.range' 20 1 ++ (List.range' 21 3 ++ (List.range' 24 2 ++ (List.range' 26 12 ++ (List.range' 38 12 ++ List.range' 50 8))))) := by decide +kernel

theorem univ54 : (Finset.univ : Finset (Fin 54)) = (List.finRange 54).toFinset := by decide +kernel

theorem ownSems00_eq (c : Dev nD) :
    (Pipeline.ownSems0 (Ix := Unit) (Name := ℕ) (U := Pipeline.UD sig nD τ) (Lvl := ℕ) (Val := Elt F) (τ := τ) osem0 c : sProp 𝕄)
      = SEM cc0_scratch6 cc0_scratch7 cc0_scratch8 cc0_scratch9 cc0_scratch10 cc0_scratch11 cc0_scratch12 c := by
  rw [Pipeline.ownSems0_eq_of_list c osem0 (List.finRange 54) univ54 (List.nodup_finRange 54)]
  unfold osem0
  rw [← BI.bigSepL_map (fun j : Fin 54 => 4 + j.val) (List.finRange 54) (fun j => (semVal ((c.tc : Thread nD τ), cell j) 0 : sProp 𝕄)), finRange54,
    BI.bigSepL_append, BI.bigSepL_append, BI.bigSepL_append, BI.bigSepL_append, BI.bigSepL_append, BI.bigSepL_append]
  unfold SEM
  rw [← Cells_eq (c := (c.tc : Thread nD τ)) (Val := Elt F) cc0_scratch6 cell 4 (by decide +kernel) 16 0 (by omega),
    ← Cells_eq (c := (c.tc : Thread nD τ)) (Val := Elt F) cc0_scratch8 cell 21 (by decide +kernel) 3 0 (by omega),
    ← Cells_eq (c := (c.tc : Thread nD τ)) (Val := Elt F) cc0_scratch9 cell 24 (by decide +kernel) 2 0 (by omega),
    ← Cells_eq (c := (c.tc : Thread nD τ)) (Val := Elt F) cc0_scratch10 cell 26 (by decide +kernel) 12 0 (by omega),
    ← Cells_eq (c := (c.tc : Thread nD τ)) (Val := Elt F) cc0_scratch11 cell 38 (by decide +kernel) 12 0 (by omega),
    ← Cells_eq (c := (c.tc : Thread nD τ)) (Val := Elt F) cc0_scratch12 cell 50 (by decide +kernel) 8 0 (by omega)]
  have e : cell 20 = .dma cc0_scratch7.sem := by decide +kernel
  rw [← e]
  rfl

def HB0 : Finset (Ref sig .tc) := {main_v2, main_v3, main_arg3, main_arg5}
theorem HB0_sub : HB0 ⊆ Pipeline.restRefs sig spec0 := by decide
/-- The results the body writes itself. -/
def RW0 : Finset (Ref sig .tc) := {main_v4_0, main_v4_1, main_v4_3}
theorem RW0_sub : RW0 ⊆ Pipeline.restRefs sig spec0 \ HB0 := by decide

theorem hbmPts0_eq (c : Dev nD) :
    (bigSep HB0 (fun b => ((c : Thread nD τ).loc b) ↦{fullShare} V m c b) : sProp 𝕄)
      = iprop(owns (c.tc : Thread nD τ) m2 fullShare (V m c main_v2) ∗ owns (c.tc : Thread nD τ) m3 fullShare (V m c main_v3)
          ∗ owns (c.tc : Thread nD τ) ma3 fullShare (V m c main_arg3) ∗ owns (c.tc : Thread nD τ) ma5 fullShare (V m c main_arg5)) := by
  rw [BI.bigSep_eq_bigSepL_of_eq [main_v2, main_v3, main_arg3, main_arg5] (by decide) (by decide)]
  simp only [m2, m3, ma3, ma5, owns_whole]
  rfl

theorem routed0_eq (c : Dev nD) (W : (b : Ref sig .tc) → Buf (Elt F) ((c.tc : Thread nD τ).loc b)) :
    (Pipeline.routed RW0 c W : sProp 𝕄)
      = iprop(owns (c.tc : Thread nD τ) o0 fullShare (W main_v4_0) ∗ owns (c.tc : Thread nD τ) o1 fullShare (W main_v4_1)
          ∗ owns (c.tc : Thread nD τ) o3 fullShare (W main_v4_3)) := by
  unfold Pipeline.routed
  rw [BI.bigSep_eq_bigSepL_of_eq [main_v4_0, main_v4_1, main_v4_3] (by decide) (by decide)]
  simp only [o0, o1, o3, owns_whole]
  rfl

theorem scoped0_eq (c : Dev nD) :
    (Pipeline.scopedRest (Ix := Unit) (Name := ℕ) (U := Pipeline.UD sig nD τ) (Lvl := ℕ) (Val := Elt F) spec0 c : sProp 𝕄)
      = iprop((∃ d, owns (c.tc : Thread nD τ) s0 fullShare d) ∗ (∃ d, owns (c.tc : Thread nD τ) s1 fullShare d)
          ∗ (∃ d, owns (c.tc : Thread nD τ) s2 fullShare d) ∗ (∃ d, owns (c.tc : Thread nD τ) s3 fullShare d)
          ∗ (∃ d, owns (c.tc : Thread nD τ) s4 fullShare d) ∗ (∃ d, owns (c.tc : Thread nD τ) s5 fullShare d)) := by
  rw [scopedRest0_eq]
  simp only [s0, s1, s2, s3, s4, s5, owns_whole]
  try rfl

/-! ## What the run computes -/

/-- The two scales' words. -/
def xsW (c : Dev nD) : ℕ → ℕ → Elt F .f32 := lift2 (n := 1) (m := 1) (iblk m c 0 t0_0)
def wsW (c : Dev nD) : ℕ → ℕ → Elt F .f32 := lift2 (n := 1) (m := 1) (iblk m c 1 t0_0)
/-- `dy` as a matrix. -/
def dyF (c : Dev nD) : ℕ → ℕ → Elt F .bf16 := lift2 (n := 1024) (m := 11008) (V m c main_v2)
/-- The vector holding the greatest magnitude. -/
def amV (c : Dev nD) := amF (dyF m c) 16
/-- The inputs with the two scalars the loop uses. -/
def KI (c : Dev nD) : In F where
  dy := dyF m c
  x := lift2 (n := 1024) (m := 4096) (V m c main_v3)
  w := lift2 (n := 11008) (m := 4096) (V m c main_arg3)
  mg := lift2 (n := 11008) (m := 4096) (V m c main_arg5)
  iv := k0_pay31 (k0_pay30 (amV m c))
  ms := k0_pay34 (k0_pay29 (amV m c)) (xsW m c 0 0)

def dxV (c : Dev nD) : S1024x4096.Idx → Elt F .bf16 := fun x => dxF (KI m c) (k0_pay35 (k0_pay29 (amV m c)) (wsW m c 0 0)) (x 0).val (x 1).val
def moV (c : Dev nD) : S11008x4096.Idx → Elt F .f32 := fun x => moF (KI m c) (x 0).val (x 1).val
def codesV (c : Dev nD) : S1024x11008.Idx → Elt F .fp8e5m2 := fun x => codesF (KI m c) (x 0).val (x 1).val
def amaxV (c : Dev nD) : S1x1.Idx → Elt F .f32 := fun _ => k0_pay32 (k0_pay27 (amV m c))
def scaleV (c : Dev nD) : S1x1.Idx → Elt F .f32 := fun _ => k0_pay33 (k0_pay29 (amV m c))

/-- The written buffers' contents at the end. -/
def G (c : Dev nD) : (b : Ref sig .tc) → Buf (Elt F) ((c.tc : Thread nD τ).loc b) :=
  Function.update (Function.update (Function.update (fun b => V m c b) main_v4_0 (dxV m c)) main_v4_1 (moV m c)) main_v4_3 (codesV m c)

theorem G_0 (c : Dev nD) : G m c main_v4_0 = dxV m c := by
  unfold G
  rw [Function.update_of_ne (by decide), Function.update_of_ne (by decide), Function.update_self]
theorem G_1 (c : Dev nD) : G m c main_v4_1 = moV m c := by
  unfold G
  rw [Function.update_of_ne (by decide), Function.update_self]
theorem G_3 (c : Dev nD) : G m c main_v4_3 = codesV m c := by
  unfold G
  rw [Function.update_self]

/-- The invariant: before the point the written buffers hold what the launch left in them, after it their results. -/
def ΦK (c : Dev nD) (t : Fin (cfg0.N + 1)) : sProp 𝕄 :=
  Pipeline.ΦDRG osem0 spec0 HB0 RW0 (V m) (if t.val = 0 then V m else G m) c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => amaxV m c
    | ⟨3, _⟩ => scaleV m c
  Φ := ΦK m c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = amaxV m c := by dsimp only [dats]
theorem after0_3 (c : Dev nD) (t : Fin cfg0.N) : (dats m 0 c).after 3 t = scaleV m c := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The scratch as the launch lends it is the scratch as the body takes it, and back. -/
theorem scr_in (c : Dev nD) : (Pipeline.scopedRest (Ix := Unit) (Name := ℕ) (U := Pipeline.UD sig nD τ) (Lvl := ℕ) (Val := Elt F) spec0 c : sProp 𝕄) ⊢ SCR s0 s1 s2 s3 s4 s5 c := by
  rw [scoped0_eq]
  unfold SCR
  iintro ⟨A0, A1, A2, A3, A4, A5⟩
  isplitl [A0]; · iapply (H2_of_some (a := 1024) (b := 11008)) $$ A0
  isplitl [A1]; · iapply (H2_of_some (a := 1024) (b := 4096)) $$ A1
  isplitl [A2]; · iapply Hfrom_of_some $$ A2
  isplitl [A3]; · iapply Hfrom_of_some $$ A3
  isplitl [A4]; · iapply Hfrom_of_some $$ A4
  iapply (H2_of_some (a := 1024) (b := 4096)) $$ A5

theorem scr_out (c : Dev nD) : SCR s0 s1 s2 s3 s4 s5 c ⊢ (Pipeline.scopedRest (Ix := Unit) (Name := ℕ) (U := Pipeline.UD sig nD τ) (Lvl := ℕ) (Val := Elt F) spec0 c : sProp 𝕄) := by
  rw [scoped0_eq]
  unfold SCR
  iintro ⟨A0, A1, A2, A3, A4, A5⟩
  isplitl [A0]; · iapply some_of_H2 $$ A0
  isplitl [A1]; · iapply some_of_H2 $$ A1
  isplitl [A2]; · iapply some_of_Hfrom $$ A2
  isplitl [A3]; · iapply some_of_Hfrom $$ A3
  isplitl [A4]; · iapply some_of_Hfrom $$ A4
  iapply some_of_H2 $$ A5

/-- The inputs likewise. -/
theorem inp_in (c : Dev nD) : (bigSep HB0 (fun b => ((c : Thread nD τ).loc b) ↦{fullShare} V m c b) : sProp 𝕄) ⊢ INP m2 m3 ma3 ma5 c (KI m c) fullShare fullShare fullShare fullShare := by
  rw [hbmPts0_eq]
  unfold INP KI dyF
  iintro ⟨A0, A1, A2, A3⟩
  isplitl [A0]; · iapply (H2_of_owns (a := 1024) (b := 11008)) $$ A0
  isplitl [A1]; · iapply (H2_of_owns (a := 1024) (b := 4096)) $$ A1
  isplitl [A2]; · iapply (H2_of_owns (a := 11008) (b := 4096)) $$ A2
  iapply (H2_of_owns (a := 11008) (b := 4096)) $$ A3

theorem inp_out (c : Dev nD) : INP m2 m3 ma3 ma5 c (KI m c) fullShare fullShare fullShare fullShare ⊢ (bigSep HB0 (fun b => ((c : Thread nD τ).loc b) ↦{fullShare} V m c b) : sProp 𝕄) := by
  rw [hbmPts0_eq]
  unfold INP KI dyF
  iintro ⟨A0, A1, A2, A3⟩
  isplitl [A0]; · iapply (owns_of_H2_eq (lift2_val (n := 1024) (m := 11008) _)) $$ A0
  isplitl [A1]; · iapply (owns_of_H2_eq (lift2_val (n := 1024) (m := 4096) _)) $$ A1
  isplitl [A2]; · iapply (owns_of_H2_eq (lift2_val (n := 11008) (m := 4096) _)) $$ A2
  iapply (owns_of_H2_eq (lift2_val (n := 11008) (m := 4096) _)) $$ A3

/-- The written buffers, at anything before and at the results after. -/
theorem out_in (c : Dev nD) : (Pipeline.routed RW0 c (V m c) : sProp 𝕄)
    ⊢ iprop((∃ G, H2 (c.tc : Thread nD τ) o0 fullShare 0 1024 0 4096 G) ∗ (∃ G, H2 (c.tc : Thread nD τ) o1 fullShare 0 11008 0 4096 G) ∗ (∃ G, H2 (c.tc : Thread nD τ) o3 fullShare 0 1024 0 11008 G)) := by
  rw [routed0_eq]
  iintro ⟨A0, A1, A2⟩
  isplitl [A0]; · iexists _; iapply (H2_of_owns (a := 1024) (b := 4096)) $$ A0
  isplitl [A1]; · iexists _; iapply (H2_of_owns (a := 11008) (b := 4096)) $$ A1
  iexists _; iapply (H2_of_owns (a := 1024) (b := 11008)) $$ A2

theorem out_out (c : Dev nD) :
    iprop(H2 (c.tc : Thread nD τ) o0 fullShare 0 1024 0 4096 (dxF (KI m c) (k0_pay35 (k0_pay29 (amV m c)) (wsW m c 0 0))) ∗ H2 (c.tc : Thread nD τ) o1 fullShare 0 11008 0 4096 (moF (KI m c)) ∗ H2 (c.tc : Thread nD τ) o3 fullShare 0 1024 0 11008 (codesF (KI m c)))
      ⊢ (Pipeline.routed RW0 c (G m c) : sProp 𝕄) := by
  rw [routed0_eq, G_0, G_1, G_3]
  iintro ⟨A0, A1, A2⟩
  isplitl [A0]; · iapply (owns_of_H2_eq (fun _ => rfl)) $$ A0
  isplitl [A1]; · iapply (owns_of_H2_eq (fun _ => rfl)) $$ A1
  iapply (owns_of_H2_eq (fun _ => rfl)) $$ A2

theorem sound_body (c : Dev nD) (t : Fin cfg0.N) :
    bodyPre m c t ⊢ wp frame (wpE (defs₀ (F := F)) Variants.none c none) Set.univ (bodyAt0 t) (fun _ => bodyPost m c t) := by
  have ht := fin_N0 t
  subst ht
  unfold bodyPre bodyPost bodyAt0
  simp only [before0_0, before0_1]
  rw [after0_0, after0_1, after0_2, after0_3,
    show (dats m 0 c).Φ t0_0.castSucc = Pipeline.ΦDRG osem0 spec0 HB0 RW0 (V m) (V m) c from rfl,
    show (dats m 0 c).Φ t0_0.succ = Pipeline.ΦDRG osem0 spec0 HB0 RW0 (V m) (G m) c from rfl,
    Pipeline.ΦDRG_eq, Pipeline.ΦDRG_eq, ownSems00_eq]
  unfold Dat.owesAt Pipeline.owesWithin
  rw [show (dats m 0 c).owed t0_0.castSucc = 0 from rfl, show (dats m 0 c).owed t0_0.succ = 0 from rfl]
  iintro ⟨⟨HS, Hg, HC, HI, HO⟩, ⟨%W, -, HW⟩, ⟨%d0, H0⟩, ⟨%d1, H1⟩, ⟨%d2, H2⟩, ⟨%d3, H3⟩⟩
  ihave HS := (scr_in (F := F) c) $$ HS
  ihave HI := (inp_in m c) $$ HI
  ihave HO := (out_in m c) $$ HO
  icases HO with ⟨O0, O1, O3⟩
  ihave H0 := (H2_of_owns (a := 1) (b := 1) (iblk m c 0 t0_0)) $$ H0
  ihave H1 := (H2_of_owns (a := 1) (b := 1) (iblk m c 1 t0_0)) $$ H1
  ihave H2 := (H2_of_owns (a := 1) (b := 1) _) $$ H2
  ihave H3 := (H2_of_owns (a := 1) (b := 1) _) $$ H3
  iapply (body _ (hstage0_0 0) _ (hstage0_1 0) m2 (Memref.isWhole_whole _) m3 (Memref.isWhole_whole _) ma3 (Memref.isWhole_whole _) ma5 (Memref.isWhole_whole _) o0 (Memref.isWhole_whole _) o1 (Memref.isWhole_whole _) _ (hstage0_2 0) o3 (Memref.isWhole_whole _) _ (hstage0_3 0) s0 (Memref.isWhole_whole _) s1 (Memref.isWhole_whole _) s2 (Memref.isWhole_whole _) s3 (Memref.isWhole_whole _) s4 (Memref.isWhole_whole _) s5 (Memref.isWhole_whole _) cc0_scratch6 cc0_scratch7 cc0_scratch8 cc0_scratch9 cc0_scratch10 cc0_scratch11 cc0_scratch12 Variants.none c none (KI m c) fullShare fullShare fullShare fullShare fullShare fullShare (xsW m c) (wsW m c) _ _ rfl rfl) $$ [H0 H1 H2 H3 HI O0 O1 O3 HS HC HW]
  · unfold BP
    isplitl [H0]; · iexact H0
    isplitl [H1]; · iexact H1
    isplitl [H2]; · iexact H2
    isplitl [H3]; · iexact H3
    isplitl [HI]; · iexact HI
    isplitl [O0]; · iexact O0
    isplitl [O1]; · iexact O1
    isplitl [O3]; · iexact O3
    isplitl [HS]; · iexact HS
    isplitl [HC]; · iexact HC
    iexists _; iexact HW
  unfold EP
  iintro ⟨H0, H1, H2, H3, HI, O0, O1, O3, HS, HC, ⟨%W', HW⟩⟩
  ihave HS := (scr_out (F := F) c) $$ HS
  ihave HI := (inp_out m c) $$ HI
  unfold xsW wsW
  isplitl [HS Hg HC HI O0 O1 O3]
  · isplitl [HS]; · iexact HS
    isplitl [Hg]; · iexact Hg
    isplitl [HC]; · iexact HC
    isplitl [HI]; · iexact HI
    iapply (out_out m c)
    isplitl [O0]; · iexact O0
    isplitl [O1]; · iexact O1
    iexact O3
  isplitl [HW]
  · iexists W'; isplitr; · ipureintro; exact fun _ _ => Or.inl trivial
    iexact HW
  isplitl [H0]; · iapply (owns_of_H2_eq (lift2_val (n := 1) (m := 1) (iblk m c 0 t0_0))) $$ H0
  isplitl [H1]; · iapply (owns_of_H2_eq (lift2_val (n := 1) (m := 1) (iblk m c 1 t0_0))) $$ H1
  isplitl [H2]; · iapply (owns_of_H2_eq (fun _ => rfl)) $$ H2
  iapply (owns_of_H2_eq (fun _ => rfl)) $$ H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePostRG cfgs (dats m) 0 RW0 (V m) (G m) r ∧ r.2.sem = fun _ => 0) :=
  Pipeline.θ_run_frame_dmaRG (Q' := _) cfgs (dats m) (0 : Fin 1) launch0 osem0 defs₀ Variants.none ownSemFacts0 HB0 RW0 HB0_sub RW0_sub m ρ main
    (hbody := fun c => (body_obligation m c).loose) (hshare := fun c => (dats m 0 c).share_full fun _ => rfl)
    (howed := fun _ _ => rfl) (V := V m) (hmain := hmainD m Variants.none) (hA := A_eq m) (G := G m)
    (hin := fun _ => .rfl) (hout := fun _ => .rfl)

/-! ## The two results staged by the launch -/

theorem idx_inj2 : ∀ t t' : Fin cfg0.N, win0_2.index t = win0_2.index t' → t = t' :=
  (by decide +kernel : ∀ t t' : Fin grid0.N, win0_2.index t = win0_2.index t' → t = t')
theorem idx_inj3 : ∀ t t' : Fin cfg0.N, win0_3.index t = win0_3.index t' → t = t' :=
  (by decide +kernel : ∀ t t' : Fin grid0.N, win0_3.index t = win0_3.index t' → t = t')

theorem sub1 (a b : S1x1.Idx) : a = b := funext fun i => Fin.ext (by
  have ha := (a i).isLt
  have hb := (b i).isLt
  have h1 : S1x1.size i = 1 := (by decide : ∀ i : Fin S1x1.rank, S1x1.size i = 1) i
  omega)

theorem amax_end (c : Dev nD) : (dats m 0 c).arrAt 2 cfg0.N = amaxV m c := by
  funext x
  have h := (dats m 0 c).arrAt_emb_eq_flushed 2 (fun t t' _ _ hne => (cfg0.win 2).disjoint_blk fun h => hne (idx_inj2 t t' h)) t0_0 (flush0_2 t0_0) x
  have e : ((cfg0.win 2).blk t0_0).view.emb x = x := sub1 _ _
  rw [e] at h
  rw [h]
  show _root_.cast _ ((cfg0.win 2).cut (grid0.coords t0_0) ((dats m 0 c).after 2 t0_0) x) = _
  rw [after0_2]
  unfold amaxV
  generalize k0_pay32 (k0_pay27 (amV m c)) = v
  rfl

theorem scale_end (c : Dev nD) : (dats m 0 c).arrAt 3 cfg0.N = scaleV m c := by
  funext x
  have h := (dats m 0 c).arrAt_emb_eq_flushed 3 (fun t t' _ _ hne => (cfg0.win 3).disjoint_blk fun h => hne (idx_inj3 t t' h)) t0_0 (flush0_3 t0_0) x
  have e : ((cfg0.win 3).blk t0_0).view.emb x = x := sub1 _ _
  rw [e] at h
  rw [h]
  show _root_.cast _ ((cfg0.win 3).cut (grid0.coords t0_0) ((dats m 0 c).after 3 t0_0) x) = _
  rw [after0_3]
  unfold scaleV
  generalize k0_pay33 (k0_pay29 (amV m c)) = v
  rfl

/-! ## The post -/

/-- Every argument ends as launched, every result at its value, every semaphore at zero. -/
theorem run : θ_run defs (onTc (τ := τ) (main (F := F))) ⟨m, fun _ => 0, ρ⟩ (fun r => (∀ c : Dev nD,
      (r.2.mem ((c.tc : Thread nD τ).loc main_v4_0) = dxV m c
      ∧ r.2.mem ((c.tc : Thread nD τ).loc main_v4_1) = moV m c
      ∧ r.2.mem ((c.tc : Thread nD τ).loc main_v4_2) = amaxV m c
      ∧ r.2.mem ((c.tc : Thread nD τ).loc main_v4_3) = codesV m c
      ∧ r.2.mem ((c.tc : Thread nD τ).loc main_v4_4) = scaleV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨⟨(h.1.2 c main_v4_0 (by decide)).trans (G_0 m c), (h.1.2 c main_v4_1 (by decide)).trans (G_1 m c), ((h.1.1 c).1 2).trans (amax_end m c),
      (h.1.2 c main_v4_3 (by decide)).trans (G_3 m c), ((h.1.1 c).1 3).trans (scale_end m c)⟩,
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c)⟩, h.2⟩) (run_main m ρ)

end Cert.Kernel.Hand

end
-- ==== Proof.KIBase.lean ====
/-
  The kernel's loop over column blocks, in names: where each of its windows starts at a trip (closed forms of the printed
  index arithmetic), and what the kernel computes there (the codes of a block, the accumulator after a number of blocks,
  an output block), as functions of natural coordinates over the arrays it reads.
-/
module

public import proofs.«01_k».proof.Proof.Ring
public import proofs.«01_k».proof.Proof.Gen.KernelIdeal.Skeleton

@[expose] public section

set_option maxRecDepth 16384

noncomputable section

namespace Cert.KernelIdeal.Hand

open Cert.KernelIdeal Cert.KernelIdeal.Gen Cert.Steps
open Idealize.ShloMosaic Idealize.ShloMosaic.TcCoe Idealize.ShloMosaic.ValueIdx
open Idealize.SL.Sem

variable {F : FTy → Type} [FloatOps F]

/-! ## The trips and their windows -/

theorem lt43 (t : Fin k0_t2_loop.trips) : t.val < 43 := by have := t.isLt; have h : k0_t2_loop.trips = 43 := by decide +kernel
                                                           omega
theorem lt16 (t : Fin k0_t1_loop.trips) : t.val < 16 := by have := t.isLt; have h : k0_t1_loop.trips = 16 := by decide +kernel
                                                           omega

theorem cond1 : ∀ t : Fin k0_t2_loop.trips, k0_cond1 t = 1#1 ↔ 2 ≤ t.val := by decide +kernel
theorem cond2 : ∀ t : Fin k0_t2_loop.trips, k0_cond2 t = 1#1 ↔ 256 * (t.val + 3) + 256 ≤ 11008 := by decide +kernel
theorem cond3 : ∀ t : Fin k0_t2_loop.trips, k0_cond3 t = 1#1 ↔ 1 ≤ t.val := by decide +kernel
theorem cond4 : ∀ t : Fin k0_t2_loop.trips, k0_cond4 t = 1#1 ↔ 256 * (t.val + 2) + 256 ≤ 11008 := by decide +kernel
theorem cond5 : ∀ t : Fin k0_t2_loop.trips, k0_cond5 t = 1#1 ↔ 1 ≤ t.val := by decide +kernel
theorem cond6 : ∀ t : Fin k0_t2_loop.trips, k0_cond6 t = 1#1 ↔ 256 * (t.val + 2) + 256 ≤ 11008 := by decide +kernel
theorem cond7 : ∀ t : Fin k0_t2_loop.trips, k0_cond7 t = 1#1 ↔ 1 ≤ t.val := by decide +kernel
theorem cond8 : ∀ t : Fin k0_t2_loop.trips, k0_cond8 t = 1#1 ↔ 256 * (t.val + 2) + 256 ≤ 11008 := by decide +kernel
theorem cond9 : ∀ t : Fin k0_t2_loop.trips, k0_cond9 t = 1#1 ↔ 1 ≤ t.val := by decide +kernel
theorem cond10 : ∀ t : Fin k0_t2_loop.trips, k0_cond10 t = 1#1 ↔ 256 * (t.val + 2) + 256 ≤ 11008 := by decide +kernel

theorem off89 : ∀ t : Fin k0_t2_loop.trips, k0_off89 t 0 = t.val % 2 := by decide +kernel
theorem off92 : ∀ t : Fin k0_t2_loop.trips, k0_off92 t 0 = 0 ∧ k0_off92 t 1 = 256 * t.val := by decide +kernel
theorem off93 : ∀ t : Fin k0_t2_loop.trips, k0_off93 t 0 = t.val % 2 ∧ k0_off93 t 1 = 0 ∧ k0_off93 t 2 = 0 := by decide +kernel
theorem off94 : ∀ t : Fin k0_t2_loop.trips, k0_off94 t 0 = t.val % 3 := by decide +kernel
theorem off97 : ∀ t : Fin k0_t2_loop.trips, k0_off97 t 0 = t.val % 3 ∧ k0_off97 t 1 = 0 ∧ k0_off97 t 2 = 512 * 0 := by decide +kernel
theorem off98 : ∀ t : Fin k0_t2_loop.trips, k0_off98 t 0 = t.val % 3 ∧ k0_off98 t 1 = 0 ∧ k0_off98 t 2 = 512 * 1 := by decide +kernel
theorem off99 : ∀ t : Fin k0_t2_loop.trips, k0_off99 t 0 = t.val % 3 ∧ k0_off99 t 1 = 0 ∧ k0_off99 t 2 = 512 * 2 := by decide +kernel
theorem off100 : ∀ t : Fin k0_t2_loop.trips, k0_off100 t 0 = t.val % 3 ∧ k0_off100 t 1 = 0 ∧ k0_off100 t 2 = 512 * 3 := by decide +kernel
theorem off101 : ∀ t : Fin k0_t2_loop.trips, k0_off101 t 0 = t.val % 3 ∧ k0_off101 t 1 = 0 ∧ k0_off101 t 2 = 512 * 4 := by decide +kernel
theorem off102 : ∀ t : Fin k0_t2_loop.trips, k0_off102 t 0 = t.val % 3 ∧ k0_off102 t 1 = 0 ∧ k0_off102 t 2 = 512 * 5 := by decide +kernel
theorem off103 : ∀ t : Fin k0_t2_loop.trips, k0_off103 t 0 = t.val % 3 ∧ k0_off103 t 1 = 0 ∧ k0_off103 t 2 = 512 * 6 := by decide +kernel
theorem off104 : ∀ t : Fin k0_t2_loop.trips, k0_off104 t 0 = t.val % 3 ∧ k0_off104 t 1 = 0 ∧ k0_off104 t 2 = 512 * 7 := by decide +kernel
theorem off105 : ∀ t : Fin k0_t2_loop.trips, k0_off105 t 0 = t.val % 2 := by decide +kernel
theorem off106 : ∀ t : Fin k0_t2_loop.trips, k0_off106 t 0 = 0 ∧ k0_off106 t 1 = 256 * t.val := by decide +kernel
theorem off107 : ∀ t : Fin k0_t2_loop.trips, k0_off107 t 0 = t.val % 2 := by decide +kernel
theorem off108 : ∀ t : Fin k0_t2_loop.trips, k0_off108 t 0 = (t.val + 3) % 3 := by decide +kernel
theorem off109 : ∀ t : Fin k0_t2_loop.trips, k0_off109 t 0 = (t.val + 3) % 3 := by decide +kernel
theorem off110 : ∀ t : Fin k0_t2_loop.trips, k0_cond2 t = 1#1 → k0_off110 t 0 = 256 * (t.val + 3) ∧ k0_off110 t 1 = 0 := by decide +kernel
theorem off117 : ∀ (t : Fin k0_t2_loop.trips), k0_off117 t 0#32 0 = 4 * (t.val % 3) + 0 ∧ k0_off117 t 1#32 0 = 4 * (t.val % 3) + 1
    ∧ k0_off117 t 2#32 0 = 4 * (t.val % 3) + 2 ∧ k0_off117 t 3#32 0 = 4 * (t.val % 3) + 3 := by decide +kernel
theorem off118 : ∀ (t : Fin k0_t2_loop.trips), k0_off118 t 0#32 0 = 4 * (t.val % 3) + 0 ∧ k0_off118 t 1#32 0 = 4 * (t.val % 3) + 1
    ∧ k0_off118 t 2#32 0 = 4 * (t.val % 3) + 2 ∧ k0_off118 t 3#32 0 = 4 * (t.val % 3) + 3 := by decide +kernel
theorem off120 : ∀ (t : Fin k0_t2_loop.trips), k0_off120 t 0#32 0 = 4 * (t.val % 3) + 0 ∧ k0_off120 t 1#32 0 = 4 * (t.val % 3) + 1
    ∧ k0_off120 t 2#32 0 = 4 * (t.val % 3) + 2 ∧ k0_off120 t 3#32 0 = 4 * (t.val % 3) + 3 := by decide +kernel
theorem off120r : ∀ (t : Fin k0_t2_loop.trips), (k0_off120 t 0#32 1 = 0 ∧ k0_off120 t 0#32 2 = 0) ∧ (k0_off120 t 1#32 1 = 0 ∧ k0_off120 t 1#32 2 = 0)
    ∧ (k0_off120 t 2#32 1 = 0 ∧ k0_off120 t 2#32 2 = 0) ∧ k0_off120 t 3#32 1 = 0 ∧ k0_off120 t 3#32 2 = 0 := by decide +kernel
theorem off111 : ∀ t : Fin k0_t2_loop.trips, k0_off111 t 0 = 4 * ((t.val + 2) % 3) + 0 := by decide +kernel
theorem off121 : ∀ t : Fin k0_t2_loop.trips, k0_off121 t 0 = 4 * ((t.val + 2) % 3) + 1 := by decide +kernel
theorem off128 : ∀ t : Fin k0_t2_loop.trips, k0_off128 t 0 = 4 * ((t.val + 2) % 3) + 2 := by decide +kernel
theorem off135 : ∀ t : Fin k0_t2_loop.trips, k0_off135 t 0 = 4 * ((t.val + 2) % 3) + 3 := by decide +kernel
theorem off114 : ∀ t : Fin k0_t2_loop.trips, k0_off114 t 0 = 4 * ((t.val + 2) % 3) + 0 := by decide +kernel
theorem off124 : ∀ t : Fin k0_t2_loop.trips, k0_off124 t 0 = 4 * ((t.val + 2) % 3) + 1 := by decide +kernel
theorem off131 : ∀ t : Fin k0_t2_loop.trips, k0_off131 t 0 = 4 * ((t.val + 2) % 3) + 2 := by decide +kernel
theorem off138 : ∀ t : Fin k0_t2_loop.trips, k0_off138 t 0 = 4 * ((t.val + 2) % 3) + 3 := by decide +kernel
theorem off115 : ∀ t : Fin k0_t2_loop.trips, k0_off115 t 0 = 4 * ((t.val + 2) % 3) + 0 := by decide +kernel
theorem off125 : ∀ t : Fin k0_t2_loop.trips, k0_off125 t 0 = 4 * ((t.val + 2) % 3) + 1 := by decide +kernel
theorem off132 : ∀ t : Fin k0_t2_loop.trips, k0_off132 t 0 = 4 * ((t.val + 2) % 3) + 2 := by decide +kernel
theorem off139 : ∀ t : Fin k0_t2_loop.trips, k0_off139 t 0 = 4 * ((t.val + 2) % 3) + 3 := by decide +kernel
theorem off116 : ∀ t : Fin k0_t2_loop.trips, k0_off116 t 0 = 256 * (t.val + 2) ∧ k0_off116 t 1 = 1024 * 0 := by decide +kernel
theorem off126 : ∀ t : Fin k0_t2_loop.trips, k0_off126 t 0 = 256 * (t.val + 2) ∧ k0_off126 t 1 = 1024 * 1 := by decide +kernel
theorem off133 : ∀ t : Fin k0_t2_loop.trips, k0_off133 t 0 = 256 * (t.val + 2) ∧ k0_off133 t 1 = 1024 * 2 := by decide +kernel
theorem off140 : ∀ t : Fin k0_t2_loop.trips, k0_off140 t 0 = 256 * (t.val + 2) ∧ k0_off140 t 1 = 1024 * 3 := by decide +kernel
theorem off119 : ∀ t : Fin k0_t2_loop.trips, k0_off119 t 0 = 256 * t.val ∧ k0_off119 t 1 = 1024 * 0 := by decide +kernel
theorem off127 : ∀ t : Fin k0_t2_loop.trips, k0_off127 t 0 = 256 * t.val ∧ k0_off127 t 1 = 1024 * 1 := by decide +kernel
theorem off134 : ∀ t : Fin k0_t2_loop.trips, k0_off134 t 0 = 256 * t.val ∧ k0_off134 t 1 = 1024 * 2 := by decide +kernel
theorem off141 : ∀ t : Fin k0_t2_loop.trips, k0_off141 t 0 = 256 * t.val ∧ k0_off141 t 1 = 1024 * 3 := by decide +kernel

/-! ## What the kernel computes -/

/-- What the loop over column blocks reads: the arrays `dy`, `x`, `w` and `main_grad` by natural coordinates, the inverse
    scale and the scale of the weight gradient. -/
structure In (F : FTy → Type) where
  dy : ℕ → ℕ → Elt F .bf16
  x : ℕ → ℕ → Elt F .fp8e4m3
  w : ℕ → ℕ → Elt F .fp8e4m3
  mg : ℕ → ℕ → Elt F .f32
  iv : FVec F S1x1 .bf16
  ms : FVec F S1x1 .f32

/-- The codes of block `o`, by row and column in the block. -/
def codesT (K : In F) (o i j : ℕ) : Elt F .fp8e5m2 := lift3 (n := 1024) (m := 256) (k0_pay8 K.iv (tile2 1024 256 K.dy 0 (256 * o))) i j
/-- The codes. -/
def codesF (K : In F) (i j : ℕ) : Elt F .fp8e5m2 := codesT K (j / 256) i (j % 256)

/-- The accumulator after `o` blocks. -/
def accF (K : In F) : ℕ → ℕ → ℕ → Elt F .f32
  | 0, i, j => lift2 (n := 1024) (m := 4096) (k0_pay24 (F := F)) i j
  | o + 1, i, j => lift2 (n := 1024) (m := 512) (k0_pay11 (tile2 1024 512 (accF K o) 0 (512 * (j / 512))) (tile3 1024 256 (codesT K o) 0 0)
      (tile3 256 512 (fun i j => K.w (256 * o + i) (0 + j)) 0 (512 * (j / 512)))) i (j % 512)

/-- Output block `(o, n)`, by row and column in the block. -/
def moT (K : In F) (o n i j : ℕ) : Elt F .f32 :=
  lift3 (n := 256) (m := 1024) (k0_pay23 K.ms (tile3 1024 256 (codesT K o) 0 0) (tile2 1024 1024 K.x 0 (1024 * n))
    (tile3 256 1024 (fun i j => K.mg (256 * o + i) (1024 * n + j)) 0 0)) i j
/-- The updated gradient. -/
def moF (K : In F) (i j : ℕ) : Elt F .f32 := moT K (i / 256) (j / 1024) (i % 256) (j % 1024)

theorem codesF_at (K : In F) (o i j : ℕ) (hj : j < 256) : codesF K i (256 * o + j) = codesT K o i j := by
  unfold codesF; rw [show (256 * o + j) / 256 = o by omega, show (256 * o + j) % 256 = j by omega]

theorem moF_at (K : In F) (o n i j : ℕ) (hi : i < 256) (hj : j < 1024) : moF K (256 * o + i) (1024 * n + j) = moT K o n i j := by
  unfold moF
  rw [show (256 * o + i) / 256 = o by omega, show (256 * o + i) % 256 = i by omega, show (1024 * n + j) / 1024 = n by omega,
    show (1024 * n + j) % 1024 = j by omega]

theorem accF_at (K : In F) (o n : ℕ) (y : S1024x512.Idx) :
    accF K (o + 1) (0 + (y 0).val) (512 * n + (y 1).val)
      = k0_pay11 (tile2 1024 512 (accF K o) 0 (512 * n)) (tile3 1024 256 (codesT K o) 0 0)
          (tile3 256 512 (fun i j => K.w (256 * o + i) (0 + j)) 0 (512 * n)) y := by
  have hy : (y 1).val < 512 := (y 1).isLt
  rw [accF, show (512 * n + (y 1).val) / 512 = n by omega, show (512 * n + (y 1).val) % 512 = (y 1).val by omega, Nat.zero_add]
  exact lift2_val _ y

theorem moT_at (K : In F) (o n : ℕ) (y : S1x256x1024.Idx) :
    moT K o n (y 1).val (y 2).val = k0_pay23 K.ms (tile3 1024 256 (codesT K o) 0 0) (tile2 1024 1024 K.x 0 (1024 * n))
      (tile3 256 1024 (fun i j => K.mg (256 * o + i) (1024 * n + j)) 0 0) y :=
  lift3_val _ y

theorem codesT_at (K : In F) (o : ℕ) (y : S1x1024x256.Idx) :
    codesT K o (y 1).val (y 2).val = k0_pay8 K.iv (tile2 1024 256 K.dy 0 (256 * o)) y := lift3_val _ y

/-! ## The printed payloads that compute one thing -/

theorem pay10_eq (a : Vec F S1024x512 .f32) (c : Vec F S1x1024x256 .fp8e5m2) (w : Vec F S1x256x512 .fp8e4m3) : k0_pay10 a (k0_pay9 c) w = k0_pay11 a c w := rfl
theorem pay12_eq : k0_pay12 (F := F) = k0_pay11 := rfl
theorem pay13_eq : k0_pay13 (F := F) = k0_pay11 := rfl
theorem pay14_eq : k0_pay14 (F := F) = k0_pay11 := rfl
theorem pay16_eq (a : Vec F S1024x512 .f32) (c : Vec F S1x1024x256 .fp8e5m2) (w : Vec F S1x256x512 .fp8e4m3) : k0_pay16 (k0_pay15 a c w) = k0_pay11 a c w := rfl
theorem pay17_eq : k0_pay17 (F := F) = k0_pay11 := rfl
theorem pay18_eq : k0_pay18 (F := F) = k0_pay11 := rfl
theorem pay20_eq (s : FVec F S1x1 .f32) (c : Vec F S1x1024x256 .fp8e5m2) (x : Vec F S1024x1024 .fp8e4m3) (r : Vec F S1x256x1024 .f32) :
    k0_pay20 (k0_pay19 s c x r) = k0_pay23 s c x r := rfl
theorem pay22_eq (s : FVec F S1x1 .f32) (c : Vec F S1x1024x256 .fp8e5m2) (x : Vec F S1024x1024 .fp8e4m3) (r : Vec F S1x256x1024 .f32) :
    k0_pay22 s (k0_pay21 c) x r = k0_pay23 s c x r := rfl
theorem pay36_eq (s : FVec F S1x1 .f32) (t : Elt F .f32) (c : Vec F S1x1024x256 .fp8e5m2) (x : Vec F S1024x1024 .fp8e4m3) (r : Vec F S1x256x1024 .f32) :
    k0_pay36 s t c x r = k0_pay23 (k0_pay34 s t) c x r := rfl

end Cert.KernelIdeal.Hand
-- ==== Proof.KIAmax.lean ====
/-
  The first loop: each of its 16 trips waits for a band of 64 rows of the gradient and folds the magnitudes of its
  86 tiles of 128 columns into a running maximum.
-/
module

public import proofs.«01_k».proof.Proof.Rows
public import proofs.«01_k».proof.Proof.KIBase

@[expose] public section

set_option maxRecDepth 16384

noncomputable section

namespace Cert.KernelIdeal.Hand

open Cert.KernelIdeal Cert.KernelIdeal.Gen Cert.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

theorem lt16' (t : Fin k0_t1_loop.trips) : t.val < 16 := lt16 t

/-- A band's row. -/
theorem row (t : Fin k0_t1_loop.trips) : (Scalar.muli (Scf.iv 0#32 1#32 t) 64#32).toNat = 64 * t.val := by revert t; decide +kernel

theorem cell17 (t : Fin k0_t1_loop.trips) : k0_off1 t 0 = t.val := by revert t; decide +kernel

/-- Tile `j` of band `t`. -/
abbrev T1 (dy : ℕ → ℕ → Elt F .bf16) (t j : ℕ) : Vec F S64x128 .bf16 := tile2 64 128 dy (64 * t) (128 * j)

/-- The running maximum after a band's tiles. -/
def foldT (dy : ℕ → ℕ → Elt F .bf16) (t : ℕ) (m : FVec F S64x128 .bf16) : FVec F S64x128 .bf16 :=
  let m₁ := k0_pay1 m (T1 dy t 0) (T1 dy t 1) (T1 dy t 2) (T1 dy t 3) (T1 dy t 4) (T1 dy t 5) (T1 dy t 6) (T1 dy t 7) (T1 dy t 8)
  let m₂ := k0_pay2 m₁ (T1 dy t 9) (T1 dy t 10) (T1 dy t 11) (T1 dy t 12) (T1 dy t 13) (T1 dy t 14) (T1 dy t 15) (T1 dy t 16) (T1 dy t 17) (T1 dy t 18) (T1 dy t 19) (T1 dy t 20)
  let m₃ := k0_pay3 m₂ (T1 dy t 21) (T1 dy t 22) (T1 dy t 23) (T1 dy t 24) (T1 dy t 25) (T1 dy t 26) (T1 dy t 27) (T1 dy t 28) (T1 dy t 29) (T1 dy t 30) (T1 dy t 31) (T1 dy t 32)
  let m₄ := k0_pay4 m₃ (T1 dy t 33) (T1 dy t 34) (T1 dy t 35) (T1 dy t 36) (T1 dy t 37) (T1 dy t 38) (T1 dy t 39) (T1 dy t 40) (T1 dy t 41) (T1 dy t 42) (T1 dy t 43) (T1 dy t 44)
  let m₅ := k0_pay5 m₄ (T1 dy t 45) (T1 dy t 46) (T1 dy t 47) (T1 dy t 48) (T1 dy t 49) (T1 dy t 50) (T1 dy t 51) (T1 dy t 52) (T1 dy t 53) (T1 dy t 54) (T1 dy t 55) (T1 dy t 56)
  let m₆ := k0_pay6 m₅ (T1 dy t 57) (T1 dy t 58) (T1 dy t 59) (T1 dy t 60) (T1 dy t 61) (T1 dy t 62) (T1 dy t 63) (T1 dy t 64) (T1 dy t 65) (T1 dy t 66) (T1 dy t 67) (T1 dy t 68)
  let m₇ := k0_pay7 m₆ (T1 dy t 69) (T1 dy t 70) (T1 dy t 71) (T1 dy t 72) (T1 dy t 73) (T1 dy t 74) (T1 dy t 75) (T1 dy t 76) (T1 dy t 77) (T1 dy t 78) (T1 dy t 79) (T1 dy t 80)
  k0_pay26 m₇ (T1 dy t 81) (T1 dy t 82) (T1 dy t 83) (T1 dy t 84) (T1 dy t 85)

/-- The running maximum after `t` bands. -/
def amF (dy : ℕ → ℕ → Elt F .bf16) : ℕ → FVec F S64x128 .bf16
  | 0 => k0_pay25
  | t + 1 => foldT dy t (amF dy t)

variable (arg0 : Memref sig .tc .smem S1x1 .f32) (harg0 : arg0.IsWhole) (arg1 : Memref sig .tc .smem S1x1 .f32) (harg1 : arg1.IsWhole)
  (arg2 : Memref sig .tc .hbm S1024x11008 .bf16) (harg2 : arg2.IsWhole) (arg3 : Memref sig .tc .hbm S1024x4096 .fp8e4m3) (harg3 : arg3.IsWhole)
  (arg4 : Memref sig .tc .hbm S11008x4096 .fp8e4m3) (harg4 : arg4.IsWhole) (arg5 : Memref sig .tc .hbm S11008x4096 .f32) (harg5 : arg5.IsWhole)
  (arg6 : Memref sig .tc .hbm S1024x4096 .bf16) (harg6 : arg6.IsWhole) (arg7 : Memref sig .tc .hbm S11008x4096 .f32) (harg7 : arg7.IsWhole)
  (arg8 : Memref sig .tc .smem S1x1 .f32) (harg8 : arg8.IsWhole) (arg9 : Memref sig .tc .hbm S1024x11008 .fp8e5m2) (harg9 : arg9.IsWhole)
  (arg10 : Memref sig .tc .smem S1x1 .f32) (harg10 : arg10.IsWhole) (arg11 : Memref sig .tc .vmem S1024x11008 .bf16) (harg11 : arg11.IsWhole)
  (arg12 : Memref sig .tc .vmem S1024x4096 .fp8e4m3) (harg12 : arg12.IsWhole) (arg13 : Memref sig .tc .vmem S3x256x4096 .fp8e4m3) (harg13 : arg13.IsWhole)
  (arg14 : Memref sig .tc .vmem S2x1024x256 .fp8e5m2) (harg14 : arg14.IsWhole) (arg15 : Memref sig .tc .vmem S12x256x1024 .f32) (harg15 : arg15.IsWhole)
  (arg16 : Memref sig .tc .vmem S1024x4096 .f32) (harg16 : arg16.IsWhole) (arg17 : DmaSems sig S16) (arg18 : DmaSems sig S_) (arg19 : DmaSems sig S3)
  (arg20 : DmaSems sig S2) (arg21 : DmaSems sig S12) (arg22 : DmaSems sig S12) (arg23 : DmaSems sig S8)

variable {defs : Defs nD τ sig (Elt F) Λ₀} (𝒱 : Variants) (c : Dev nD) (bd : Option 𝒱.V)
variable (dy : ℕ → ℕ → Elt F .bf16) (q₂ : PosShare TreeShare) (t : Fin k0_t1_loop.trips)

/-- The gradient's bands: the first `k` at hand, `i` more in flight. -/
def B1 (i k : ℕ) : sProp 𝕄 := Come (c.tc : Thread nD τ) arg2 arg11 arg17 q₂ dy 64 11008 i k

/-- The rows a trip reads. -/
def D1 : sProp 𝕄 := H2 (c.tc : Thread nD τ) arg11 fullShare 0 (64 * (t.val + 1)) 0 11008 dy

theorem part1 (m : FVec F S64x128 .bf16) {i : ℕ} {Q : (Σ' (v334 : BitVec 32) (v370 : FVec F S64x128 .bf16), Vec F S64x128 .bf16) → sProp (MT nD τ sig Unit (Elt F) ℕ (Pipeline.UD sig nD τ) ℕ)} :
    iprop(B1 arg2 arg11 arg17 c dy q₂ (i + 1) t.val ∗ ∃ W, owes (c.tc : Thread nD τ) 0 W)
      ⊢ iprop((∀ v, iprop(B1 arg2 arg11 arg17 c dy q₂ i (t.val + 1) ∗ ∃ W, owes (c.tc : Thread nD τ) 0 W) -∗ Q ⟨v, k0_pay1 m (T1 dy t.val 0) (T1 dy t.val 1) (T1 dy t.val 2) (T1 dy t.val 3) (T1 dy t.val 4) (T1 dy t.val 5) (T1 dy t.val 6) (T1 dy t.val 7) (T1 dy t.val 8), (T1 dy t.val 9)⟩)
        -∗ wp frame (wpE defs 𝒱 (c.tc : Thread nD τ) bd) Set.univ (k0_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 0#32 1#32 t m) Q) := by
  rw [k0_part1_eq_skeleton]
  unfold k0_part1_skel B1
  have ht := lt16' t
  iintro ⟨HC, HO⟩ Hk
  iapply (bandWait 𝒱 (c.tc : Thread nD τ) bd (Ms := arg2) (Md := arg11) (n := 64) (w := 11008) (q := q₂) (F := dy) (i := i) t.val (sem_eq arg17 _ _ _ _ (cell17 t)) rfl) $$ [HC HO]
  · isplitl [HC]; · iexact HC
    iexact HO
  unfold Come
  iintro ⟨⟨HB, HD, HS, HC⟩, HO⟩
  iapply (hload2 𝒱 (c.tc : Thread nD τ) bd (64 * t.val) (128 * 0) (show k0_off3 t 0 = 64 * t.val from row t) (show k0_off3 t 1 = 128 * 0 from rfl) ⟨by omega, by omega⟩ ⟨by omega, by omega⟩) $$ HD
  iintro HD
  iapply (hload2 𝒱 (c.tc : Thread nD τ) bd (64 * t.val) (128 * 1) (show k0_off4 t 0 = 64 * t.val from row t) (show k0_off4 t 1 = 128 * 1 from rfl) ⟨by omega, by omega⟩ ⟨by omega, by omega⟩) $$ HD
  iintro HD
  iapply (hload2 𝒱 (c.tc : Thread nD τ) bd (64 * t.val) (128 * 2) (show k0_off5 t 0 = 64 * t.val from row t) (show k0_off5 t 1 = 128 * 2 from rfl) ⟨by omega, by omega⟩ ⟨by omega, by omega⟩) $$ HD
  iintro HD
  iapply (hload2 𝒱 (c.tc : Thread nD τ) bd (64 * t.val) (128 * 3) (show k0_off6 t 0 = 64 * t.val from row t) (show k0_off6 t 1 = 128 * 3 from rfl) ⟨by omega, by omega⟩ ⟨by omega, by omega⟩) $$ HD
  iintro HD
  iapply (hload2 𝒱 (c.tc : Thread nD τ) bd (64 * t.val) (128 * 4) (show k0_off7 t 0 = 64 * t.val from row t) (show k0_off7 t 1 = 128 * 4 from rfl) ⟨by omega, by omega⟩ ⟨by omega, by omega⟩) $$ HD
  iintro HD
  iapply (hload2 𝒱 (c.tc : Thread nD τ) bd (64 * t.val) (128 * 5) (show k0_off8 t 0 = 64 * t.val from row t) (show k0_off8 t 1 = 128 * 5 from rfl) ⟨by omega, by omega⟩ ⟨by omega, by omega⟩) $$ HD
  iintro HD
  iapply (hload2 𝒱 (c.tc : Thread nD τ) bd (64 * t.val) (128 * 6) (show k0_off9 t 0 = 64 * t.val from row t) (show k0_off9 t 1 = 128 * 6 from rfl) ⟨by omega, by omega⟩ ⟨by omega, by omega⟩) $$ HD
  iintro HD
  iapply (hload2 𝒱 (c.tc : Thread nD τ) bd (64 * t.val) (128 * 7) (show k0_off10 t 0 = 64 * t.val from row t) (show k0_off10 t 1 = 128 * 7 from rfl) ⟨by omega, by omega⟩ ⟨by omega, by omega⟩) $$ HD
  iintro HD
  iapply (hload2 𝒱 (c.tc : Thread nD τ) bd (64 * t.val) (128 * 8) (show k0_off11 t 0 = 64 * t.val from row t) (show k0_off11 t 1 = 128 * 8 from rfl) ⟨by omega, by omega⟩ ⟨by omega, by omega⟩) $$ HD
  iintro HD
  iapply (hload2 𝒱 (c.tc : Thread nD τ) bd (64 * t.val) (128 * 9) (show k0_off12 t 0 = 64 * t.val from row t) (show k0_off12 t 1 = 128 * 9 from rfl) ⟨by omega, by omega⟩ ⟨by omega, by omega⟩) $$ HD
  iintro HD
  iapply (wp_done 𝒱 (c.tc : Thread nD τ) bd)
  iapply Hk
  isplitr [HO]
  · isplitl [HB]; · iexact HB
    isplitl [HD]; · iexact HD
    isplitl [HS]; · iexact HS
    iexact HC
  iexact HO

theorem part2 (v : BitVec 32) (m : FVec F S64x128 .bf16) {Q : (Σ' (w : FVec F S64x128 .bf16), Vec F S64x128 .bf16) → sProp (MT nD τ sig Unit (Elt F) ℕ (Pipeline.UD sig nD τ) ℕ)} :
    D1 arg11 c dy t ⊢ iprop((D1 arg11 c dy t -∗ Q ⟨k0_pay2 m (T1 dy t.val 9) (T1 dy t.val 10) (T1 dy t.val 11) (T1 dy t.val 12) (T1 dy t.val 13) (T1 dy t.val 14) (T1 dy t.val 15) (T1 dy t.val 16) (T1 dy t.val 17) (T1 dy t.val 18) (T1 dy t.val 19) (T1 dy t.val 20), (T1 dy t.val 21)⟩)
        -∗ wp frame (wpE defs 𝒱 (c.tc : Thread nD τ) bd) Set.univ (k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v m (T1 dy t.val 9)) Q) := by
  rw [k0_part2_eq_skeleton]
  unfold k0_part2_skel D1
  have ht := lt16' t
  iintro HD Hk
  iapply (hload2 𝒱 (c.tc : Thread nD τ) bd (64 * t.val) (128 * 10) (show k0_off13 t 0 = 64 * t.val from row t) (show k0_off13 t 1 = 128 * 10 from rfl) ⟨by omega, by omega⟩ ⟨by omega, by omega⟩) $$ HD
  iintro HD
  iapply (hload2 𝒱 (c.tc : Thread nD τ) bd (64 * t.val) (128 * 11) (show k0_off14 t 0 = 64 * t.val from row t) (show k0_off14 t 1 = 128 * 11 from rfl) ⟨by omega, by omega⟩ ⟨by omega, by omega⟩) $$ HD
  iintro HD
  iapply (hload2 𝒱 (c.tc : Thread nD τ) bd (64 * t.val) (128 * 12) (show k0_off15 t 0 = 64 * t.val from row t) (show k0_off15 t 1 = 128 * 12 from rfl) ⟨by omega, by omega⟩ ⟨by omega, by omega⟩) $$ HD
  iintro HD
  iapply (hload2 𝒱 (c.tc : Thread nD τ) bd (64 * t.val) (128 * 13) (show k0_off16 t 0 = 64 * t.val from row t) (show k0_off16 t 1 = 128 * 13 from rfl) ⟨by omega, by omega⟩ ⟨by omega, by omega⟩) $$ HD
  iintro HD
  iapply (hload2 𝒱 (c.tc : Thread nD τ) bd (64 * t.val) (128 * 14) (show k0_off17 t 0 = 64 * t.val from row t) (show k0_off17 t 1 = 128 * 14 from rfl) ⟨by omega, by omega⟩ ⟨by omega, by omega⟩) $$ HD
  iintro HD
  iapply (hload2 𝒱 (c.tc : Thread nD τ) bd (64 * t.val) (128 * 15) (show k0_off18 t 0 = 64 * t.val from row t) (show k0_off18 t 1 = 128 * 15 from rfl) ⟨by omega, by omega⟩ ⟨by omega, by omega⟩) $$ HD
  iintro HD
  iapply (hload2 𝒱 (c.tc : Thread nD τ) bd (64 * t.val) (128 * 16) (show k0_off19 t 0 = 64 * t.val from row t) (show k0_off19 t 1 = 128 * 16 from rfl) ⟨by omega, by omega⟩ ⟨by omega, by omega⟩) $$ HD
  iintro HD
  iapply (hload2 𝒱 (c.tc : Thread nD τ) bd (64 * t.val) (128 * 17) (show k0_off20 t 0 = 64 * t.val from row t) (show k0_off20 t 1 = 128 * 17 from rfl) ⟨by omega, by omega⟩ ⟨by omega, by omega⟩) $$ HD
  iintro HD
  iapply (hload2 𝒱 (c.tc : Thread nD τ) bd (64 * t.val) (128 * 18) (show k0_off21 t 0 = 64 * t.val from row t) (show k0_off21 t 1 = 128 * 18 from rfl) ⟨by omega, by omega⟩ ⟨by omega, by omega⟩) $$ HD
  iintro HD
  iapply (hload2 𝒱 (c.tc : Thread nD τ) bd (64 * t.val) (128 * 19) (show k0_off22 t 0 = 64 * t.val from row t) (show k0_off22 t 1 = 128 * 19 from rfl) ⟨by omega, by omega⟩ ⟨by omega, by omega⟩) $$ HD
  iintro HD
  iapply (hload2 𝒱 (c.tc : Thread nD τ) bd (64 * t.val) (128 * 20) (show k0_off23 t 0 = 64 * t.val from row t) (show k0_off23 t 1 = 128 * 20 from rfl) ⟨by omega, by omega⟩ ⟨by omega, by omega⟩) $$ HD
  iintro HD
  iapply (hload2 𝒱 (c.tc : Thread nD τ) bd (64 * t.val) (128 * 21) (show k0_off24 t 0 = 64 * t.val from row t) (show k0_off24 t 1 = 128 * 21 from rfl) ⟨by omega, by omega⟩ ⟨by omega, by omega⟩) $$ HD
  iintro HD
  iapply (wp_done 𝒱 (c.tc : Thread nD τ) bd)
  iapply Hk
  iexact HD

theorem part3 (v : BitVec 32) (m : FVec F S64x128 .bf16) {Q : (Σ' (w : FVec F S64x128 .bf16), Vec F S64x128 .bf16) → sProp (MT nD τ sig Unit (Elt F) ℕ (Pipeline.UD sig nD τ) ℕ)} :
    D1 arg11 c dy t ⊢ iprop((D1 arg11 c dy t -∗ Q ⟨k0_pay3 m (T1 dy t.val 21) (T1 dy t.val 22) (T1 dy t.val 23) (T1 dy t.val 24) (T1 dy t.val 25) (T1 dy t.val 26) (T1 dy t.val 27) (T1 dy t.val 28) (T1 dy t.val 29) (T1 dy t.val 30) (T1 dy t.val 31) (T1 dy t.val 32), (T1 dy t.val 33)⟩)
        -∗ wp frame (wpE defs 𝒱 (c.tc : Thread nD τ) bd) Set.univ (k0_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v m (T1 dy t.val 21)) Q) := by
  rw [k0_part3_eq_skeleton]
  unfold k0_part3_skel D1
  have ht := lt16' t
  iintro HD Hk
  iapply (hload2 𝒱 (c.tc : Thread nD τ) bd (64 * t.val) (128 * 22) (show k0_off25 t 0 = 64 * t.val from row t) (show k0_off25 t 1 = 128 * 22 from rfl) ⟨by omega, by omega⟩ ⟨by omega, by omega⟩) $$ HD
  iintro HD
  iapply (hload2 𝒱 (c.tc : Thread nD τ) bd (64 * t.val) (128 * 23) (show k0_off26 t 0 = 64 * t.val from row t) (show k0_off26 t 1 = 128 * 23 from rfl) ⟨by omega, by omega⟩ ⟨by omega, by omega⟩) $$ HD
  iintro HD
  iapply (hload2 𝒱 (c.tc : Thread nD τ) bd (64 * t.val) (128 * 24) (show k0_off27 t 0 = 64 * t.val from row t) (show k0_off27 t 1 = 128 * 24 from rfl) ⟨by omega, by omega⟩ ⟨by omega, by omega⟩) $$ HD
  iintro HD
  iapply (hload2 𝒱 (c.tc : Thread nD τ) bd (64 * t.val) (128 * 25) (show k0_off28 t 0 = 64 * t.val from row t) (show k0_off28 t 1 = 128 * 25 from rfl) ⟨by omega, by omega⟩ ⟨by omega, by omega⟩) $$ HD
  iintro HD
  iapply (hload2 𝒱 (c.tc : Thread nD τ) bd (64 * t.val) (128 * 26) (show k0_off29 t 0 = 64 * t.val from row t) (show k0_off29 t 1 = 128 * 26 from rfl) ⟨by omega, by omega⟩ ⟨by omega, by omega⟩) $$ HD
  iintro HD
  iapply (hload2 𝒱 (c.tc : Thread nD τ) bd (64 * t.val) (128 * 27) (show k0_off30 t 0 = 64 * t.val from row t) (show k0_off30 t 1 = 128 * 27 from rfl) ⟨by omega, by omega⟩ ⟨by omega, by omega⟩) $$ HD
  iintro HD
  iapply (hload2 𝒱 (c.tc : Thread nD τ) bd (64 * t.val) (128 * 28) (show k0_off31 t 0 = 64 * t.val from row t) (show k0_off31 t 1 = 128 * 28 from rfl) ⟨by omega, by omega⟩ ⟨by omega, by omega⟩) $$ HD
  iintro HD
  iapply (hload2 𝒱 (c.tc : Thread nD τ) bd (64 * t.val) (128 * 29) (show k0_off32 t 0 = 64 * t.val from row t) (show k0_off32 t 1 = 128 * 29 from rfl) ⟨by omega, by omega⟩ ⟨by omega, by omega⟩) $$ HD
  iintro HD
  iapply (hload2 𝒱 (c.tc : Thread nD τ) bd (64 * t.val) (128 * 30) (show k0_off33 t 0 = 64 * t.val from row t) (show k0_off33 t 1 = 128 * 30 from rfl) ⟨by omega, by omega⟩ ⟨by omega, by omega⟩) $$ HD
  iintro HD
  iapply (hload2 𝒱 (c.tc : Thread nD τ) bd (64 * t.val) (128 * 31) (show k0_off34 t 0 = 64 * t.val from row t) (show k0_off34 t 1 = 128 * 31 from rfl) ⟨by omega, by omega⟩ ⟨by omega, by omega⟩) $$ HD
  iintro HD
  iapply (hload2 𝒱 (c.tc : Thread nD τ) bd (64 * t.val) (128 * 32) (show k0_off35 t 0 = 64 * t.val from row t) (show k0_off35 t 1 = 128 * 32 from rfl) ⟨by omega, by omega⟩ ⟨by omega, by omega⟩) $$ HD
  iintro HD
  iapply (hload2 𝒱 (c.tc : Thread nD τ) bd (64 * t.val) (128 * 33) (show k0_off36 t 0 = 64 * t.val from row t) (show k0_off36 t 1 = 128 * 33 from rfl) ⟨by omega, by omega⟩ ⟨by omega, by omega⟩) $$ HD
  iintro HD
  iapply (wp_done 𝒱 (c.tc : Thread nD τ) bd)
  iapply Hk
  iexact HD

theorem part4 (v : BitVec 32) (m : FVec F S64x128 .bf16) {Q : (Σ' (w : FVec F S64x128 .bf16), Vec F S64x128 .bf16) → sProp (MT nD τ sig Unit (Elt F) ℕ (Pipeline.UD sig nD τ) ℕ)} :
    D1 arg11 c dy t ⊢ iprop((D1 arg11 c dy t -∗ Q ⟨k0_pay4 m (T1 dy t.val 33) (T1 dy t.val 34) (T1 dy t.val 35) (T1 dy t.val 36) (T1 dy t.val 37) (T1 dy t.val 38) (T1 dy t.val 39) (T1 dy t.val 40) (T1 dy t.val 41) (T1 dy t.val 42) (T1 dy t.val 43) (T1 dy t.val 44), (T1 dy t.val 45)⟩)
        -∗ wp frame (wpE defs 𝒱 (c.tc : Thread nD τ) bd) Set.univ (k0_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v m (T1 dy t.val 33)) Q) := by
  rw [k0_part4_eq_skeleton]
  unfold k0_part4_skel D1
  have ht := lt16' t
  iintro HD Hk
  iapply (hload2 𝒱 (c.tc : Thread nD τ) bd (64 * t.val) (128 * 34) (show k0_off37 t 0 = 64 * t.val from row t) (show k0_off37 t 1 = 128 * 34 from rfl) ⟨by omega, by omega⟩ ⟨by omega, by omega⟩) $$ HD
  iintro HD
  iapply (hload2 𝒱 (c.tc : Thread nD τ) bd (64 * t.val) (128 * 35) (show k0_off38 t 0 = 64 * t.val from row t) (show k0_off38 t 1 = 128 * 35 from rfl) ⟨by omega, by omega⟩ ⟨by omega, by omega⟩) $$ HD
  iintro HD
  iapply (hload2 𝒱 (c.tc : Thread nD τ) bd (64 * t.val) (128 * 36) (show k0_off39 t 0 = 64 * t.val from row t) (show k0_off39 t 1 = 128 * 36 from rfl) ⟨by omega, by omega⟩ ⟨by omega, by omega⟩) $$ HD
  iintro HD
  iapply (hload2 𝒱 (c.tc : Thread nD τ) bd (64 * t.val) (128 * 37) (show k0_off40 t 0 = 64 * t.val from row t) (show k0_off40 t 1 = 128 * 37 from rfl) ⟨by omega, by omega⟩ ⟨by omega, by omega⟩) $$ HD
  iintro HD
  iapply (hload2 𝒱 (c.tc : Thread nD τ) bd (64 * t.val) (128 * 38) (show k0_off41 t 0 = 64 * t.val from row t) (show k0_off41 t 1 = 128 * 38 from rfl) ⟨by omega, by omega⟩ ⟨by omega, by omega⟩) $$ HD
  iintro HD
  iapply (hload2 𝒱 (c.tc : Thread nD τ) bd (64 * t.val) (128 * 39) (show k0_off42 t 0 = 64 * t.val from row t) (show k0_off42 t 1 = 128 * 39 from rfl) ⟨by omega, by omega⟩ ⟨by omega, by omega⟩) $$ HD
  iintro HD
  iapply (hload2 𝒱 (c.tc : Thread nD τ) bd (64 * t.val) (128 * 40) (show k0_off43 t 0 = 64 * t.val from row t) (show k0_off43 t 1 = 128 * 40 from rfl) ⟨by omega, by omega⟩ ⟨by omega, by omega⟩) $$ HD
  iintro HD
  iapply (hload2 𝒱 (c.tc : Thread nD τ) bd (64 * t.val) (128 * 41) (show k0_off44 t 0 = 64 * t.val from row t) (show k0_off44 t 1 = 128 * 41 from rfl) ⟨by omega, by omega⟩ ⟨by omega, by omega⟩) $$ HD
  iintro HD
  iapply (hload2 𝒱 (c.tc : Thread nD τ) bd (64 * t.val) (128 * 42) (show k0_off45 t 0 = 64 * t.val from row t) (show k0_off45 t 1 = 128 * 42 from rfl) ⟨by omega, by omega⟩ ⟨by omega, by omega⟩) $$ HD
  iintro HD
  iapply (hload2 𝒱 (c.tc : Thread nD τ) bd (64 * t.val) (128 * 43) (show k0_off46 t 0 = 64 * t.val from row t) (show k0_off46 t 1 = 128 * 43 from rfl) ⟨by omega, by omega⟩ ⟨by omega, by omega⟩) $$ HD
  iintro HD
  iapply (hload2 𝒱 (c.tc : Thread nD τ) bd (64 * t.val) (128 * 44) (show k0_off47 t 0 = 64 * t.val from row t) (show k0_off47 t 1 = 128 * 44 from rfl) ⟨by omega, by omega⟩ ⟨by omega, by omega⟩) $$ HD
  iintro HD
  iapply (hload2 𝒱 (c.tc : Thread nD τ) bd (64 * t.val) (128 * 45) (show k0_off48 t 0 = 64 * t.val from row t) (show k0_off48 t 1 = 128 * 45 from rfl) ⟨by omega, by omega⟩ ⟨by omega, by omega⟩) $$ HD
  iintro HD
  iapply (wp_done 𝒱 (c.tc : Thread nD τ) bd)
  iapply Hk
  iexact HD

theorem part5 (v : BitVec 32) (m : FVec F S64x128 .bf16) {Q : (Σ' (w : FVec F S64x128 .bf16), Vec F S64x128 .bf16) → sProp (MT nD τ sig Unit (Elt F) ℕ (Pipeline.UD sig nD τ) ℕ)} :
    D1 arg11 c dy t ⊢ iprop((D1 arg11 c dy t -∗ Q ⟨k0_pay5 m (T1 dy t.val 45) (T1 dy t.val 46) (T1 dy t.val 47) (T1 dy t.val 48) (T1 dy t.val 49) (T1 dy t.val 50) (T1 dy t.val 51) (T1 dy t.val 52) (T1 dy t.val 53) (T1 dy t.val 54) (T1 dy t.val 55) (T1 dy t.val 56), (T1 dy t.val 57)⟩)
        -∗ wp frame (wpE defs 𝒱 (c.tc : Thread nD τ) bd) Set.univ (k0_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v m (T1 dy t.val 45)) Q) := by
  rw [k0_part5_eq_skeleton]
  unfold k0_part5_skel D1
  have ht := lt16' t
  iintro HD Hk
  iapply (hload2 𝒱 (c.tc : Thread nD τ) bd (64 * t.val) (128 * 46) (show k0_off49 t 0 = 64 * t.val from row t) (show k0_off49 t 1 = 128 * 46 from rfl) ⟨by omega, by omega⟩ ⟨by omega, by omega⟩) $$ HD
  iintro HD
  iapply (hload2 𝒱 (c.tc : Thread nD τ) bd (64 * t.val) (128 * 47) (show k0_off50 t 0 = 64 * t.val from row t) (show k0_off50 t 1 = 128 * 47 from rfl) ⟨by omega, by omega⟩ ⟨by omega, by omega⟩) $$ HD
  iintro HD
  iapply (hload2 𝒱 (c.tc : Thread nD τ) bd (64 * t.val) (128 * 48) (show k0_off51 t 0 = 64 * t.val from row t) (show k0_off51 t 1 = 128 * 48 from rfl) ⟨by omega, by omega⟩ ⟨by omega, by omega⟩) $$ HD
  iintro HD
  iapply (hload2 𝒱 (c.tc : Thread nD τ) bd (64 * t.val) (128 * 49) (show k0_off52 t 0 = 64 * t.val from row t) (show k0_off52 t 1 = 128 * 49 from rfl) ⟨by omega, by omega⟩ ⟨by omega, by omega⟩) $$ HD
  iintro HD
  iapply (hload2 𝒱 (c.tc : Thread nD τ) bd (64 * t.val) (128 * 50) (show k0_off53 t 0 = 64 * t.val from row t) (show k0_off53 t 1 = 128 * 50 from rfl) ⟨by omega, by omega⟩ ⟨by omega, by omega⟩) $$ HD
  iintro HD
  iapply (hload2 𝒱 (c.tc : Thread nD τ) bd (64 * t.val) (128 * 51) (show k0_off54 t 0 = 64 * t.val from row t) (show k0_off54 t 1 = 128 * 51 from rfl) ⟨by omega, by omega⟩ ⟨by omega, by omega⟩) $$ HD
  iintro HD
  iapply (hload2 𝒱 (c.tc : Thread nD τ) bd (64 * t.val) (128 * 52) (show k0_off55 t 0 = 64 * t.val from row t) (show k0_off55 t 1 = 128 * 52 from rfl) ⟨by omega, by omega⟩ ⟨by omega, by omega⟩) $$ HD
  iintro HD
  iapply (hload2 𝒱 (c.tc : Thread nD τ) bd (64 * t.val) (128 * 53) (show k0_off56 t 0 = 64 * t.val from row t) (show k0_off56 t 1 = 128 * 53 from rfl) ⟨by omega, by omega⟩ ⟨by omega, by omega⟩) $$ HD
  iintro HD
  iapply (hload2 𝒱 (c.tc : Thread nD τ) bd (64 * t.val) (128 * 54) (show k0_off57 t 0 = 64 * t.val from row t) (show k0_off57 t 1 = 128 * 54 from rfl) ⟨by omega, by omega⟩ ⟨by omega, by omega⟩) $$ HD
  iintro HD
  iapply (hload2 𝒱 (c.tc : Thread nD τ) bd (64 * t.val) (128 * 55) (show k0_off58 t 0 = 64 * t.val from row t) (show k0_off58 t 1 = 128 * 55 from rfl) ⟨by omega, by omega⟩ ⟨by omega, by omega⟩) $$ HD
  iintro HD
  iapply (hload2 𝒱 (c.tc : Thread nD τ) bd (64 * t.val) (128 * 56) (show k0_off59 t 0 = 64 * t.val from row t) (show k0_off59 t 1 = 128 * 56 from rfl) ⟨by omega, by omega⟩ ⟨by omega, by omega⟩) $$ HD
  iintro HD
  iapply (hload2 𝒱 (c.tc : Thread nD τ) bd (64 * t.val) (128 * 57) (show k0_off60 t 0 = 64 * t.val from row t) (show k0_off60 t 1 = 128 * 57 from rfl) ⟨by omega, by omega⟩ ⟨by omega, by omega⟩) $$ HD
  iintro HD
  iapply (wp_done 𝒱 (c.tc : Thread nD τ) bd)
  iapply Hk
  iexact HD

theorem part6 (v : BitVec 32) (m : FVec F S64x128 .bf16) {Q : (Σ' (w : FVec F S64x128 .bf16), Vec F S64x128 .bf16) → sProp (MT nD τ sig Unit (Elt F) ℕ (Pipeline.UD sig nD τ) ℕ)} :
    D1 arg11 c dy t ⊢ iprop((D1 arg11 c dy t -∗ Q ⟨k0_pay6 m (T1 dy t.val 57) (T1 dy t.val 58) (T1 dy t.val 59) (T1 dy t.val 60) (T1 dy t.val 61) (T1 dy t.val 62) (T1 dy t.val 63) (T1 dy t.val 64) (T1 dy t.val 65) (T1 dy t.val 66) (T1 dy t.val 67) (T1 dy t.val 68), (T1 dy t.val 69)⟩)
        -∗ wp frame (wpE defs 𝒱 (c.tc : Thread nD τ) bd) Set.univ (k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v m (T1 dy t.val 57)) Q) := by
  rw [k0_part6_eq_skeleton]
  unfold k0_part6_skel D1
  have ht := lt16' t
  iintro HD Hk
  iapply (hload2 𝒱 (c.tc : Thread nD τ) bd (64 * t.val) (128 * 58) (show k0_off61 t 0 = 64 * t.val from row t) (show k0_off61 t 1 = 128 * 58 from rfl) ⟨by omega, by omega⟩ ⟨by omega, by omega⟩) $$ HD
  iintro HD
  iapply (hload2 𝒱 (c.tc : Thread nD τ) bd (64 * t.val) (128 * 59) (show k0_off62 t 0 = 64 * t.val from row t) (show k0_off62 t 1 = 128 * 59 from rfl) ⟨by omega, by omega⟩ ⟨by omega, by omega⟩) $$ HD
  iintro HD
  iapply (hload2 𝒱 (c.tc : Thread nD τ) bd (64 * t.val) (128 * 60) (show k0_off63 t 0 = 64 * t.val from row t) (show k0_off63 t 1 = 128 * 60 from rfl) ⟨by omega, by omega⟩ ⟨by omega, by omega⟩) $$ HD
  iintro HD
  iapply (hload2 𝒱 (c.tc : Thread nD τ) bd (64 * t.val) (128 * 61) (show k0_off64 t 0 = 64 * t.val from row t) (show k0_off64 t 1 = 128 * 61 from rfl) ⟨by omega, by omega⟩ ⟨by omega, by omega⟩) $$ HD
  iintro HD
  iapply (hload2 𝒱 (c.tc : Thread nD τ) bd (64 * t.val) (128 * 62) (show k0_off65 t 0 = 64 * t.val from row t) (show k0_off65 t 1 = 128 * 62 from rfl) ⟨by omega, by omega⟩ ⟨by omega, by omega⟩) $$ HD
  iintro HD
  iapply (hload2 𝒱 (c.tc : Thread nD τ) bd (64 * t.val) (128 * 63) (show k0_off66 t 0 = 64 * t.val from row t) (show k0_off66 t 1 = 128 * 63 from rfl) ⟨by omega, by omega⟩ ⟨by omega, by omega⟩) $$ HD
  iintro HD
  iapply (hload2 𝒱 (c.tc : Thread nD τ) bd (64 * t.val) (128 * 64) (show k0_off67 t 0 = 64 * t.val from row t) (show k0_off67 t 1 = 128 * 64 from rfl) ⟨by omega, by omega⟩ ⟨by omega, by omega⟩) $$ HD
  iintro HD
  iapply (hload2 𝒱 (c.tc : Thread nD τ) bd (64 * t.val) (128 * 65) (show k0_off68 t 0 = 64 * t.val from row t) (show k0_off68 t 1 = 128 * 65 from rfl) ⟨by omega, by omega⟩ ⟨by omega, by omega⟩) $$ HD
  iintro HD
  iapply (hload2 𝒱 (c.tc : Thread nD τ) bd (64 * t.val) (128 * 66) (show k0_off69 t 0 = 64 * t.val from row t) (show k0_off69 t 1 = 128 * 66 from rfl) ⟨by omega, by omega⟩ ⟨by omega, by omega⟩) $$ HD
  iintro HD
  iapply (hload2 𝒱 (c.tc : Thread nD τ) bd (64 * t.val) (128 * 67) (show k0_off70 t 0 = 64 * t.val from row t) (show k0_off70 t 1 = 128 * 67 from rfl) ⟨by omega, by omega⟩ ⟨by omega, by omega⟩) $$ HD
  iintro HD
  iapply (hload2 𝒱 (c.tc : Thread nD τ) bd (64 * t.val) (128 * 68) (show k0_off71 t 0 = 64 * t.val from row t) (show k0_off71 t 1 = 128 * 68 from rfl) ⟨by omega, by omega⟩ ⟨by omega, by omega⟩) $$ HD
  iintro HD
  iapply (hload2 𝒱 (c.tc : Thread nD τ) bd (64 * t.val) (128 * 69) (show k0_off72 t 0 = 64 * t.val from row t) (show k0_off72 t 1 = 128 * 69 from rfl) ⟨by omega, by omega⟩ ⟨by omega, by omega⟩) $$ HD
  iintro HD
  iapply (wp_done 𝒱 (c.tc : Thread nD τ) bd)
  iapply Hk
  iexact HD

theorem part7 (v : BitVec 32) (m : FVec F S64x128 .bf16) {Q : (Σ' (w : FVec F S64x128 .bf16), Vec F S64x128 .bf16) → sProp (MT nD τ sig Unit (Elt F) ℕ (Pipeline.UD sig nD τ) ℕ)} :
    D1 arg11 c dy t ⊢ iprop((D1 arg11 c dy t -∗ Q ⟨k0_pay7 m (T1 dy t.val 69) (T1 dy t.val 70) (T1 dy t.val 71) (T1 dy t.val 72) (T1 dy t.val 73) (T1 dy t.val 74) (T1 dy t.val 75) (T1 dy t.val 76) (T1 dy t.val 77) (T1 dy t.val 78) (T1 dy t.val 79) (T1 dy t.val 80), (T1 dy t.val 81)⟩)
        -∗ wp frame (wpE defs 𝒱 (c.tc : Thread nD τ) bd) Set.univ (k0_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v m (T1 dy t.val 69)) Q) := by
  rw [k0_part7_eq_skeleton]
  unfold k0_part7_skel D1
  have ht := lt16' t
  iintro HD Hk
  iapply (hload2 𝒱 (c.tc : Thread nD τ) bd (64 * t.val) (128 * 70) (show k0_off73 t 0 = 64 * t.val from row t) (show k0_off73 t 1 = 128 * 70 from rfl) ⟨by omega, by omega⟩ ⟨by omega, by omega⟩) $$ HD
  iintro HD
  iapply (hload2 𝒱 (c.tc : Thread nD τ) bd (64 * t.val) (128 * 71) (show k0_off74 t 0 = 64 * t.val from row t) (show k0_off74 t 1 = 128 * 71 from rfl) ⟨by omega, by omega⟩ ⟨by omega, by omega⟩) $$ HD
  iintro HD
  iapply (hload2 𝒱 (c.tc : Thread nD τ) bd (64 * t.val) (128 * 72) (show k0_off75 t 0 = 64 * t.val from row t) (show k0_off75 t 1 = 128 * 72 from rfl) ⟨by omega, by omega⟩ ⟨by omega, by omega⟩) $$ HD
  iintro HD
  iapply (hload2 𝒱 (c.tc : Thread nD τ) bd (64 * t.val) (128 * 73) (show k0_off76 t 0 = 64 * t.val from row t) (show k0_off76 t 1 = 128 * 73 from rfl) ⟨by omega, by omega⟩ ⟨by omega, by omega⟩) $$ HD
  iintro HD
  iapply (hload2 𝒱 (c.tc : Thread nD τ) bd (64 * t.val) (128 * 74) (show k0_off77 t 0 = 64 * t.val from row t) (show k0_off77 t 1 = 128 * 74 from rfl) ⟨by omega, by omega⟩ ⟨by omega, by omega⟩) $$ HD
  iintro HD
  iapply (hload2 𝒱 (c.tc : Thread nD τ) bd (64 * t.val) (128 * 75) (show k0_off78 t 0 = 64 * t.val from row t) (show k0_off78 t 1 = 128 * 75 from rfl) ⟨by omega, by omega⟩ ⟨by omega, by omega⟩) $$ HD
  iintro HD
  iapply (hload2 𝒱 (c.tc : Thread nD τ) bd (64 * t.val) (128 * 76) (show k0_off79 t 0 = 64 * t.val from row t) (show k0_off79 t 1 = 128 * 76 from rfl) ⟨by omega, by omega⟩ ⟨by omega, by omega⟩) $$ HD
  iintro HD
  iapply (hload2 𝒱 (c.tc : Thread nD τ) bd (64 * t.val) (128 * 77) (show k0_off80 t 0 = 64 * t.val from row t) (show k0_off80 t 1 = 128 * 77 from rfl) ⟨by omega, by omega⟩ ⟨by omega, by omega⟩) $$ HD
  iintro HD
  iapply (hload2 𝒱 (c.tc : Thread nD τ) bd (64 * t.val) (128 * 78) (show k0_off81 t 0 = 64 * t.val from row t) (show k0_off81 t 1 = 128 * 78 from rfl) ⟨by omega, by omega⟩ ⟨by omega, by omega⟩) $$ HD
  iintro HD
  iapply (hload2 𝒱 (c.tc : Thread nD τ) bd (64 * t.val) (128 * 79) (show k0_off82 t 0 = 64 * t.val from row t) (show k0_off82 t 1 = 128 * 79 from rfl) ⟨by omega, by omega⟩ ⟨by omega, by omega⟩) $$ HD
  iintro HD
  iapply (hload2 𝒱 (c.tc : Thread nD τ) bd (64 * t.val) (128 * 80) (show k0_off83 t 0 = 64 * t.val from row t) (show k0_off83 t 1 = 128 * 80 from rfl) ⟨by omega, by omega⟩ ⟨by omega, by omega⟩) $$ HD
  iintro HD
  iapply (hload2 𝒱 (c.tc : Thread nD τ) bd (64 * t.val) (128 * 81) (show k0_off84 t 0 = 64 * t.val from row t) (show k0_off84 t 1 = 128 * 81 from rfl) ⟨by omega, by omega⟩ ⟨by omega, by omega⟩) $$ HD
  iintro HD
  iapply (wp_done 𝒱 (c.tc : Thread nD τ) bd)
  iapply Hk
  iexact HD

/-- The loop's invariant: `n` bands at hand, the others in flight, the running maximum theirs. -/
def I1 (n : ℕ) (m : FVec F S64x128 .bf16) : sProp 𝕄 :=
  iprop(⌜m = amF dy n⌝ ∗ B1 arg2 arg11 arg17 c dy q₂ (16 - n) n ∗ ∃ W, owes (c.tc : Thread nD τ) 0 W)

theorem t1_body (v122 : FVec F S1024x4096 .f32) (m : FVec F S64x128 .bf16) :
    I1 arg2 arg11 arg17 c dy q₂ t.val m ⊢ wp frame (wpE defs 𝒱 (c.tc : Thread nD τ) bd) Set.univ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 v122 t m) (fun m' => I1 arg2 arg11 arg17 c dy q₂ (t.val + 1) m') := by
  unfold k0_t1_body I1
  have ht := lt16' t
  rw [show 16 - t.val = 16 - (t.val + 1) + 1 by omega]
  iintro ⟨%hm, HB, HO⟩
  subst hm
  rw [wp_bind]
  iapply (part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd dy q₂ t (amF dy t.val)) $$ [HB HO]
  · isplitl [HB]; · iexact HB
    iexact HO
  unfold B1 Come
  iintro %v334 ⟨⟨HB, HD, HS, HC⟩, HO⟩
  rw [wp_bind]
  iapply (part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd dy t v334 _) $$ [HD]
  · unfold D1; iexact HD
  iintro HD
  rw [wp_bind]
  iapply (part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd dy t v334 _) $$ [HD]
  · unfold D1; iexact HD
  iintro HD
  rw [wp_bind]
  iapply (part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd dy t v334 _) $$ [HD]
  · unfold D1; iexact HD
  iintro HD
  rw [wp_bind]
  iapply (part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd dy t v334 _) $$ [HD]
  · unfold D1; iexact HD
  iintro HD
  rw [wp_bind]
  iapply (part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd dy t v334 _) $$ [HD]
  · unfold D1; iexact HD
  iintro HD
  rw [wp_bind]
  iapply (part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd dy t v334 _) $$ [HD]
  · unfold D1; iexact HD
  iintro HD
  unfold D1
  iapply (hload2 𝒱 (c.tc : Thread nD τ) bd (64 * t.val) (128 * 82) (show k0_off85 t 0 = 64 * t.val from row t) (show k0_off85 t 1 = 128 * 82 from rfl) ⟨by omega, by omega⟩ ⟨by omega, by omega⟩) $$ HD
  iintro HD
  iapply (hload2 𝒱 (c.tc : Thread nD τ) bd (64 * t.val) (128 * 83) (show k0_off86 t 0 = 64 * t.val from row t) (show k0_off86 t 1 = 128 * 83 from rfl) ⟨by omega, by omega⟩ ⟨by omega, by omega⟩) $$ HD
  iintro HD
  iapply (hload2 𝒱 (c.tc : Thread nD τ) bd (64 * t.val) (128 * 84) (show k0_off87 t 0 = 64 * t.val from row t) (show k0_off87 t 1 = 128 * 84 from rfl) ⟨by omega, by omega⟩ ⟨by omega, by omega⟩) $$ HD
  iintro HD
  iapply (hload2 𝒱 (c.tc : Thread nD τ) bd (64 * t.val) (128 * 85) (show k0_off88 t 0 = 64 * t.val from row t) (show k0_off88 t 1 = 128 * 85 from rfl) ⟨by omega, by omega⟩ ⟨by omega, by omega⟩) $$ HD
  iintro HD
  iapply (wp_done 𝒱 (c.tc : Thread nD τ) bd)
  isplitr
  · ipureintro; rfl
  isplitr [HO]
  · isplitl [HB]; · iexact HB
    isplitl [HD]; · iexact HD
    isplitl [HS]; · iexact HS
    iexact HC
  iexact HO

end Cert.KernelIdeal.Hand
-- ==== Proof.KIChunk.lean ====
/-
  One column chunk of the weight gradient through a trip of the loop over blocks. A chunk's slots of the staging ring are at
  the head of trip `o` in three roles (`CH`): the block before is being carried out, the block of this trip and the next are
  being filled. The lemmas move the chunk from one trip's head to the next.
-/
module

public import proofs.«01_k».proof.Proof.KIBase

@[expose] public section

set_option maxRecDepth 16384

noncomputable section

namespace Cert.KernelIdeal.Hand

open Cert.KernelIdeal Cert.KernelIdeal.Gen Cert.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (arg5 arg7 : Memref sig .tc .hbm S11008x4096 .f32) (arg15 : Memref sig .tc .vmem S12x256x1024 .f32) (arg21 arg22 : DmaSems sig S12)
variable (c : Dev nD) (K : In F) (q₅ : PosShare TreeShare) (F₀ : ℕ → ℕ → Elt F .f32)

/-- Block `k` of chunk `n` being filled. -/
def RI (n k : ℕ) : sProp 𝕄 := RoleIn (c.tc : Thread nD τ) arg5 arg15 arg21 q₅ K.mg (4 * (k % 3) + n) (256 * k) (1024 * n) 11008

/-- Block `k - 3` of chunk `n` being carried out, in the slot of block `k`. -/
def RO (n k : ℕ) : sProp 𝕄 :=
  RoleOut (c.tc : Thread nD τ) (3 ≤ k) arg15 arg22 (cr arg7 ⟨2, ![256, 1024]⟩) (4 * (k % 3) + n)
    (H2 (c.tc : Thread nD τ) arg7 fullShare (256 * (k - 3)) (256 * (k - 3) + 256) (1024 * n) (1024 * n + 1024) (moF K)) (moT K (k - 3) n)

/-- The cell of the fills of block `k` of chunk `n`, at zero. -/
def IS (n k : ℕ) : sProp 𝕄 := semVal ((c.tc : Thread nD τ), .dma (semAt arg21 (4 * (k % 3) + n))) 0
/-- The cell of the carries of block `k` of chunk `n`, at zero. -/
def OS (n k : ℕ) : sProp 𝕄 := semVal ((c.tc : Thread nD τ), .dma (semAt arg22 (4 * (k % 3) + n))) 0
/-- The rows of the gradient read from block `k` on. -/
def MGN (n k : ℕ) : sProp 𝕄 := H2 (c.tc : Thread nD τ) arg5 q₅ (256 * k) 11008 (1024 * n) (1024 * n + 1024) K.mg
/-- The rows of the gradient read before block `k`. -/
def MGD (n k : ℕ) : sProp 𝕄 := H2 (c.tc : Thread nD τ) arg5 q₅ 0 (256 * k) (1024 * n) (1024 * n + 1024) K.mg
/-- The rows of the gradient written from block `k` on. -/
def MON (n k : ℕ) : sProp 𝕄 := H2 (c.tc : Thread nD τ) arg7 fullShare (256 * k) 11008 (1024 * n) (1024 * n + 1024) F₀
/-- The rows of the gradient written before block `k`. -/
def MOD (n k : ℕ) : sProp 𝕄 := H2 (c.tc : Thread nD τ) arg7 fullShare 0 (256 * k) (1024 * n) (1024 * n + 1024) (moF K)

/-- What a chunk holds of this trip and the next, up to the wait of this trip's fill. -/
def C0 (n o : ℕ) : sProp 𝕄 :=
  iprop(RI arg5 arg15 arg21 c K q₅ n o ∗ MGD arg5 c K q₅ n o ∗ OS arg22 c n o ∗ MON arg7 c F₀ n o ∗ RI arg5 arg15 arg21 c K q₅ n (o + 1) ∗ OS arg22 c n (o + 1))

/-- A chunk at the head of trip `o`. -/
def CH (n o : ℕ) : sProp 𝕄 :=
  iprop(RO arg7 arg15 arg22 c K n (o + 2) ∗ MOD arg7 c K n (o - 1) ∗ IS arg21 c n (o + 2) ∗ MGN arg5 c K q₅ n (o + 2) ∗ C0 arg5 arg7 arg15 arg21 arg22 c K q₅ F₀ n o)

/-- After the block before is carried out. -/
def M0 (n o : ℕ) : sProp 𝕄 :=
  iprop(Slot (c.tc : Thread nD τ) arg15 arg22 (4 * ((o + 2) % 3) + n) ∗ MOD arg7 c K n o ∗ IS arg21 c n (o + 2) ∗ MGN arg5 c K q₅ n (o + 2) ∗ C0 arg5 arg7 arg15 arg21 arg22 c K q₅ F₀ n o)

/-- After the fill of the block after next is started. -/
def M1 (n o : ℕ) : sProp 𝕄 :=
  iprop(C0 arg5 arg7 arg15 arg21 arg22 c K q₅ F₀ n o ∗ RI arg5 arg15 arg21 c K q₅ n (o + 2) ∗ OS arg22 c n (o + 2) ∗ MGN arg5 c K q₅ n (o + 3) ∗ MOD arg7 c K n o)

/-- What the chunk holds while its slot is in use. -/
def MT0 (n o : ℕ) : sProp 𝕄 :=
  iprop(IS arg21 c n o ∗ MGD arg5 c K q₅ n (o + 1) ∗ OS arg22 c n o ∗ MON arg7 c F₀ n o ∗ RI arg5 arg15 arg21 c K q₅ n (o + 1) ∗ OS arg22 c n (o + 1)
    ∗ RI arg5 arg15 arg21 c K q₅ n (o + 2) ∗ OS arg22 c n (o + 2) ∗ MGN arg5 c K q₅ n (o + 3) ∗ MOD arg7 c K n o)

/-- The slot of block `o` of chunk `n`, as filled. -/
def SG (n o : ℕ) : sProp 𝕄 := H3 (c.tc : Thread nD τ) arg15 fullShare (4 * (o % 3) + n) (fun i j => K.mg (256 * o + i) (1024 * n + j))
/-- The slot of block `o` of chunk `n`, at the block of the result. -/
def SM (n o : ℕ) : sProp 𝕄 := H3 (c.tc : Thread nD τ) arg15 fullShare (4 * (o % 3) + n) (moT K o n)

variable {defs : Defs nD τ sig (Elt F) Λ₀} (𝒱 : Variants) (bd : Option 𝒱.V) {α : Type}
variable {Q : α → sProp (MT nD τ sig Unit (Elt F) ℕ (Pipeline.UD sig nD τ) ℕ)} (n o : ℕ)

/-- The wait for the block before to be carried out. -/
theorem chOut {κ' : Kind} {sp' : Space} {s₁ s₂ : Shape} {e' : EltTy} {C : Prop} [Decidable C] (hC : C ↔ 1 ≤ o)
    {sem : C → DmaSem sig} {srcw : C → Memref sig .tc .vmem s₁ e'} {dstw : C → Memref sig κ' sp' s₂ e'} {hsrc : ∀ h, (srcw h).view.WordExact} {hdst : ∀ h, (dstw h).view.WordExact}
    {KK : Prog (TpuEff nD τ sig (Elt F) Λ₀ .tc) α}
    (hsm : ∀ h, sem h = semAt arg22 (4 * ((o + 2) % 3) + n)) (hN : ∀ h, (dstw h).view.dmaCredit = cr arg7 ⟨2, ![256, 1024]⟩) :
    iprop(CH arg5 arg7 arg15 arg21 arg22 c K q₅ F₀ n o ∗ ∃ W, owes (c.tc : Thread nD τ) 0 W)
      ⊢ iprop((iprop(M0 arg5 arg7 arg15 arg21 arg22 c K q₅ F₀ n o ∗ ∃ W, owes (c.tc : Thread nD τ) 0 W) -∗ wp frame (wpE defs 𝒱 (c.tc : Thread nD τ) bd) Set.univ KK Q)
        -∗ wp frame (wpE defs 𝒱 (c.tc : Thread nD τ) bd) Set.univ (if h : C then .op (.waitDma2 (sem h) (srcw h) (dstw h) (hsrc h) (hdst h)) (fun _ => KK) else KK) Q) := by
  unfold CH M0 RO MOD
  iintro ⟨⟨HR, HD, HS, HN, H0⟩, HO⟩ Hk
  iapply (gWaitOut 𝒱 (c.tc : Thread nD τ) bd (hC.trans (by omega : 1 ≤ o ↔ 3 ≤ o + 2)) (D' := H2 (c.tc : Thread nD τ) arg7 fullShare 0 (256 * o) (1024 * n) (1024 * n + 1024) (moF K))
    (D := H2 (c.tc : Thread nD τ) arg7 fullShare 0 (256 * (o - 1)) (1024 * n) (1024 * n + 1024) (moF K))
    (B := H2 (c.tc : Thread nD τ) arg7 fullShare (256 * (o + 2 - 3)) (256 * (o + 2 - 3) + 256) (1024 * n) (1024 * n + 1024) (moF K)) (R := arg15) (S := arg22) hsm hN ?hj ?hn) $$ [HR HD HO]
  case hj =>
    intro h
    rw [show o + 2 - 3 = o - 1 by omega, show 256 * o = 256 * (o - 1) + 256 by omega]
    iintro ⟨HB, HD⟩
    iapply (H2_joinRows (Nat.zero_le _) (Nat.le_add_right _ _) (fun _ _ _ _ _ _ => rfl) (fun _ _ _ _ _ _ => rfl))
    isplitl [HD]; · iexact HD
    iexact HB
  case hn =>
    intro h
    exact H2_void (Or.inl (by omega)) (Or.inl (by omega))
  · isplitl [HR]; · iexact HR
    isplitl [HD]; · iexact HD
    iexact HO
  iintro ⟨HR, HD, HO⟩
  iapply Hk
  isplitl [HR HD HS HN H0]
  · isplitl [HR]; · iexact HR
    isplitl [HD]; · iexact HD
    isplitl [HS]; · iexact HS
    isplitl [HN]; · iexact HN
    iexact H0
  iexact HO

/-- The start of the fill of the block after next. -/
theorem chIn {C : Prop} [Decidable C] {P : C → Prog (TpuEff nD τ sig (Elt F) Λ₀ .tc) α} {KK : Prog (TpuEff nD τ sig (Elt F) Λ₀ .tc) α}
    (hC : C ↔ 256 * (o + 2) + 256 ≤ 11008)
    (hp : ∀ h G, iprop(H2 (c.tc : Thread nD τ) arg5 q₅ (256 * (o + 2)) (256 * (o + 2) + 256) (1024 * n) (1024 * n + 1024) K.mg ∗ H3 (c.tc : Thread nD τ) arg15 fullShare (4 * ((o + 2) % 3) + n) G
        ∗ semVal ((c.tc : Thread nD τ), .dma (semAt arg21 (4 * ((o + 2) % 3) + n))) 0)
      ⊢ iprop((FlIn (c.tc : Thread nD τ) arg5 arg15 arg21 q₅ K.mg (4 * ((o + 2) % 3) + n) (256 * (o + 2)) (1024 * n) -∗ wp frame (wpE defs 𝒱 (c.tc : Thread nD τ) bd) Set.univ KK Q)
        -∗ wp frame (wpE defs 𝒱 (c.tc : Thread nD τ) bd) Set.univ (P h) Q)) :
    iprop(M0 arg5 arg7 arg15 arg21 arg22 c K q₅ F₀ n o)
      ⊢ iprop((M1 arg5 arg7 arg15 arg21 arg22 c K q₅ F₀ n o -∗ wp frame (wpE defs 𝒱 (c.tc : Thread nD τ) bd) Set.univ KK Q)
        -∗ wp frame (wpE defs 𝒱 (c.tc : Thread nD τ) bd) Set.univ (if h : C then P h else KK) Q) := by
  unfold M0 M1 IS MGN RI OS
  rw [show 256 * (o + 3) = 256 * (o + 2) + 256 by omega]
  iintro ⟨HR, HD, HS, HN, H0⟩ Hk
  unfold Slot
  icases HR with ⟨HG, HV⟩
  iapply (gStartIn 𝒱 (c.tc : Thread nD τ) bd (S := arg21) (l := 11008) hC (by omega) hp) $$ [HG HS HN]
  · unfold Slot
    isplitl [HG HS]
    · isplitl [HG]; · iexact HG
      iexact HS
    iexact HN
  iintro ⟨HR, HN⟩
  iapply Hk
  isplitl [H0]; · iexact H0
  isplitl [HR]; · iexact HR
  isplitl [HV]; · iexact HV
  isplitl [HN]; · iexact HN
  iexact HD

/-- The wait for this trip's block to be filled. -/
theorem chWait {κ' : Kind} {s₁ s₂ : Shape} {e' : EltTy}
    {sem : DmaSem sig} {srcw : Memref sig .tc .hbm s₁ e'} {dstw : Memref sig κ' .vmem s₂ e'} {hsrc : srcw.view.WordExact} {hdst : dstw.view.WordExact}
    {KK : PUnit → Prog (TpuEff nD τ sig (Elt F) Λ₀ .tc) α}
    (ho : o < 43) (hsm : sem = semAt arg21 (4 * (o % 3) + n)) (hN : dstw.view.dmaCredit = cr arg15 ⟨2, ![256, 1024]⟩) :
    iprop(M1 arg5 arg7 arg15 arg21 arg22 c K q₅ F₀ n o ∗ ∃ W, owes (c.tc : Thread nD τ) 0 W)
      ⊢ iprop((iprop(SG arg15 c K n o ∗ MT0 arg5 arg7 arg15 arg21 arg22 c K q₅ F₀ n o ∗ ∃ W, owes (c.tc : Thread nD τ) 0 W)
          -∗ wp frame (wpE defs 𝒱 (c.tc : Thread nD τ) bd) Set.univ (KK ⟨⟩) Q)
        -∗ wp frame (wpE defs 𝒱 (c.tc : Thread nD τ) bd) Set.univ (.op (.waitDma2 sem srcw dstw hsrc hdst) KK) Q) := by
  unfold M1 C0 MT0 SG RI MGD IS
  rw [show ∀ x, 256 * (x + 1) = 256 * x + 256 from fun x => by omega]
  iintro ⟨⟨⟨HI, HD, HOS, HMN, HI1, HOS1⟩, HR⟩, HO⟩ Hk
  iapply (waitIn 𝒱 (c.tc : Thread nD τ) bd (A := arg5) (R := arg15) (q := q₅) (F := K.mg) (r := 256 * o) (s := 1024 * n) (l := 11008) (by omega) hsm hN) $$ [HI HD HO]
  · isplitl [HI]; · iexact HI
    isplitl [HD]; · iexact HD
    iexact HO
  iintro ⟨HG, HV, HD, HO⟩
  iapply Hk
  isplitl [HG]; · iexact HG
  isplitr [HO]
  · isplitl [HV]; · iexact HV
    isplitl [HD]; · iexact HD
    isplitl [HOS]; · iexact HOS
    isplitl [HMN]; · iexact HMN
    isplitl [HI1]; · iexact HI1
    isplitl [HOS1]; · iexact HOS1
    iexact HR
  iexact HO

/-- The start of this trip's block's way out. -/
theorem chGo {od : Fin 2 → ℕ} {os : Fin 3 → ℕ}
    {hbd : ∀ i, od i + S256x1024.size i ≤ S11008x4096.size i}
    {hbs : ∀ i, os i + S1x256x1024.size i ≤ S12x256x1024.size i} {hrs hrd} {hq : S1x256x1024.Squeezes S256x1024}
    {sm : DmaSem sig} {hsrc hdst hsem} {KK : PUnit → Prog (TpuEff nD τ sig (Elt F) Λ₀ .tc) α}
    (ho : o < 43) (hsm : sm = semAt arg22 (4 * (o % 3) + n)) (hs₀ : os 0 = 4 * (o % 3) + n) (hd : od 0 = 256 * o ∧ od 1 = 1024 * n) :
    iprop(SM arg15 c K n o ∗ MT0 arg5 arg7 arg15 arg21 arg22 c K q₅ F₀ n o)
      ⊢ iprop((CH arg5 arg7 arg15 arg21 arg22 c K q₅ F₀ n (o + 1) -∗ wp frame (wpE defs 𝒱 (c.tc : Thread nD τ) bd) Set.univ (KK ⟨⟩) Q)
        -∗ wp frame (wpE defs 𝒱 (c.tc : Thread nD τ) bd) Set.univ (.op (.enqueueDma ((arg15.slice (Rect.unit (s := S12x256x1024) os S1x256x1024.size hbs) hrs).squeeze S256x1024 hq)
              (.here (arg7.slice (Rect.unit (s := S11008x4096) od S256x1024.size hbd) hrd)) (.dma sm) hsrc hdst hsem) KK) Q) := by
  unfold SM MT0 CH C0 OS MON
  rw [show 256 * (o + 1) = 256 * o + 256 by omega]
  iintro ⟨HG, HIS, HD, HOS, HMN, HI1, HOS1, HI2, HOS2, HGN, HMD⟩ Hk
  ihave HMN := (H2_rows (256 * o + 256) (by omega) (by omega)) $$ HMN
  icases HMN with ⟨HB, HMN⟩
  iapply (hdma32 𝒱 (c.tc : Thread nD τ) bd (moF K) (4 * (o % 3) + n) (256 * o) (1024 * n) hs₀ hd.1 hd.2 hsm
    (fun i j hi hj => moF_at K o n i j hi hj) (by decide)) $$ [HG HB HOS]
  · isplitl [HG]; · iexact HG
    isplitl [HB]; · iexact HB
    iexact HOS
  iintro HF
  iapply Hk
  isplitl [HF]
  · unfold RO RoleOut
    rw [if_pos (by omega), show o + 1 + 2 - 3 = o by omega, show (o + 1 + 2) % 3 = o % 3 by omega]
    iexact HF
  isplitl [HMD]; · iexact HMD
  isplitl [HIS]
  · unfold IS; rw [show (o + 1 + 2) % 3 = o % 3 by omega]; iexact HIS
  isplitl [HGN]; · iexact HGN
  isplitl [HI1]; · iexact HI1
  isplitl [HD]; · iexact HD
  isplitl [HOS1]; · iexact HOS1
  isplitl [HMN]; · iexact HMN
  isplitl [HI2]; · iexact HI2
  iexact HOS2

end Cert.KernelIdeal.Hand
-- ==== Proof.KITrip.lean ====
module

public import proofs.«01_k».proof.Proof.KIChunk

@[expose] public section

set_option maxRecDepth 16384

noncomputable section

namespace Cert.KernelIdeal.Hand

open Cert.KernelIdeal Cert.KernelIdeal.Gen Cert.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (arg0 : Memref sig .tc .smem S1x1 .f32) (harg0 : arg0.IsWhole) (arg1 : Memref sig .tc .smem S1x1 .f32) (harg1 : arg1.IsWhole)
  (arg2 : Memref sig .tc .hbm S1024x11008 .bf16) (harg2 : arg2.IsWhole) (arg3 : Memref sig .tc .hbm S1024x4096 .fp8e4m3) (harg3 : arg3.IsWhole)
  (arg4 : Memref sig .tc .hbm S11008x4096 .fp8e4m3) (harg4 : arg4.IsWhole) (arg5 : Memref sig .tc .hbm S11008x4096 .f32) (harg5 : arg5.IsWhole)
  (arg6 : Memref sig .tc .hbm S1024x4096 .bf16) (harg6 : arg6.IsWhole) (arg7 : Memref sig .tc .hbm S11008x4096 .f32) (harg7 : arg7.IsWhole)
  (arg8 : Memref sig .tc .smem S1x1 .f32) (harg8 : arg8.IsWhole) (arg9 : Memref sig .tc .hbm S1024x11008 .fp8e5m2) (harg9 : arg9.IsWhole)
  (arg10 : Memref sig .tc .smem S1x1 .f32) (harg10 : arg10.IsWhole) (arg11 : Memref sig .tc .vmem S1024x11008 .bf16) (harg11 : arg11.IsWhole)
  (arg12 : Memref sig .tc .vmem S1024x4096 .fp8e4m3) (harg12 : arg12.IsWhole) (arg13 : Memref sig .tc .vmem S3x256x4096 .fp8e4m3) (harg13 : arg13.IsWhole)
  (arg14 : Memref sig .tc .vmem S2x1024x256 .fp8e5m2) (harg14 : arg14.IsWhole) (arg15 : Memref sig .tc .vmem S12x256x1024 .f32) (harg15 : arg15.IsWhole)
  (arg16 : Memref sig .tc .vmem S1024x4096 .f32) (harg16 : arg16.IsWhole) (arg17 : DmaSems sig S16) (arg18 : DmaSems sig S_) (arg19 : DmaSems sig S3)
  (arg20 : DmaSems sig S2) (arg21 : DmaSems sig S12) (arg22 : DmaSems sig S12) (arg23 : DmaSems sig S8)
variable {defs : Defs nD τ sig (Elt F) Λ₀} (𝒱 : Variants) (c : Dev nD) (bd : Option 𝒱.V)
variable (K : In F) (q₄ q₅ : PosShare TreeShare) (t : Fin k0_t2_loop.trips)

/-- The codes' slot at trip `o`: in flight from two trips before, or free. -/
def RC (o : ℕ) : sProp 𝕄 :=
  RoleOutH (c.tc : Thread nD τ) (2 ≤ o) arg14 arg20 (cr arg9 ⟨2, ![1024, 256]⟩) (o % 2)
    (H2 (c.tc : Thread nD τ) arg9 fullShare 0 (0 + 1024) (256 * (o - 2)) (256 * (o - 2) + 256) (codesF K)) (codesT K (o - 2))

/-- The codes of the first `o` blocks. -/
def CD (o : ℕ) : sProp 𝕄 := H2 (c.tc : Thread nD τ) arg9 fullShare 0 1024 0 (256 * o) (codesF K)

/-- The weights' slot of block `k`: in flight, or free past the last block. -/
def RW (k : ℕ) : sProp 𝕄 := RoleIn (c.tc : Thread nD τ) arg4 arg13 arg19 q₄ K.w (k % 3) (256 * k) 0 11008

/-- The weights' rows before block `k`. -/
def WD (k : ℕ) : sProp 𝕄 := H2 (c.tc : Thread nD τ) arg4 q₄ 0 (256 * k) 0 (0 + 4096) K.w

/-- Column block `n` of the accumulator after `o` blocks. -/
def AC (n o : ℕ) : sProp 𝕄 := H2 (c.tc : Thread nD τ) arg16 fullShare 0 1024 (512 * n) (512 * n + 512) (accF K o)

/-- The codes' slot at the codes of block `o`. -/
def CT (o : ℕ) : sProp 𝕄 := H3 (c.tc : Thread nD τ) arg14 fullShare (o % 2) (codesT K o)

/-- Half of the codes' slot at the codes of block `o`, kept while they are carried out. -/
def CL (o : ℕ) : sProp 𝕄 := H3 (c.tc : Thread nD τ) arg14 fullShare.left (o % 2) (codesT K o)

/-- The codes of block `o` being carried out. -/
def CF (o : ℕ) : sProp 𝕄 :=
  Fl (c.tc : Thread nD τ) (semAt arg20 (o % 2)) (cr arg9 ⟨2, ![1024, 256]⟩)
    iprop(H2 (c.tc : Thread nD τ) arg9 fullShare 0 (0 + 1024) (256 * o) (256 * o + 256) (codesF K)
      ∗ H3 (c.tc : Thread nD τ) arg14 fullShare.right (o % 2) (codesT K o))

/-- The codes in flight and the half kept are the codes' slot two trips on. -/
theorem RC_of (o : ℕ) : iprop(CF arg9 arg14 arg20 c K o ∗ CL arg14 c K o) ⊢ RC arg9 arg14 arg20 c K (o + 2) := by
  unfold RC RoleOutH CF CL
  rw [if_pos (by omega), Nat.add_sub_cancel, Nat.add_mod_right]

/-- The weights' slot at block `o`. -/
def WT (o : ℕ) : sProp 𝕄 := H3 (c.tc : Thread nD τ) arg13 fullShare (o % 3) (fun i j => K.w (256 * o + i) (0 + j))

/-- The gradient held whole. -/
def DY : sProp 𝕄 := H2 (c.tc : Thread nD τ) arg11 fullShare 0 1024 0 11008 K.dy

theorem part8 {Q : (Σ' (arg24 : BitVec 32) (v329 : BitVec 32) (v330 : BitVec 32) (v332 : BitVec 32) (v359 : Vec F S1024x512 .f32), FVec F S1024x256 .fp8e5m2) → sProp (MT nD τ sig Unit (Elt F) ℕ (Pipeline.UD sig nD τ) ℕ)} :
    iprop(RC arg9 arg14 arg20 c K t.val ∗ CD arg9 c K (t.val - 2) ∗ DY arg11 c K ∗ RW arg4 arg13 arg19 c K q₄ t.val ∗ WD arg4 c K q₄ t.val
        ∗ AC arg16 c K 0 t.val ∗ ∃ W, owes (c.tc : Thread nD τ) 0 W)
      ⊢ iprop((∀ a b d e, iprop(CT arg14 c K t.val ∗ semVal ((c.tc : Thread nD τ), .dma (semAt arg20 (t.val % 2))) 0 ∗ CD arg9 c K (t.val - 1) ∗ DY arg11 c K
              ∗ WT arg13 c K t.val ∗ semVal ((c.tc : Thread nD τ), .dma (semAt arg19 (t.val % 3))) 0 ∗ WD arg4 c K q₄ (t.val + 1)
              ∗ AC arg16 c K 0 t.val ∗ ∃ W, owes (c.tc : Thread nD τ) 0 W)
            -∗ Q ⟨a, b, d, e, tile2 1024 512 (accF K t.val) 0 (512 * 0), k0_pay9 (tile3 1024 256 (codesT K t.val) 0 0)⟩)
        -∗ wp frame (wpE defs 𝒱 (c.tc : Thread nD τ) bd) Set.univ (k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 K.iv 0#32 1#32 t) Q) := by
  rw [k0_part8_eq_skeleton]
  unfold k0_part8_skel RC CD RW WD AC DY
  have ht := lt43 t
  iintro ⟨HC, HCD, Hdy, HW, HWD, HA, HO⟩ Hk
  iapply (gWaitOutH 𝒱 (c.tc : Thread nD τ) bd (cond1 t) (D' := H2 (c.tc : Thread nD τ) arg9 fullShare 0 1024 0 (256 * (t.val - 1)) (codesF K))
    (fun h => sem_eq arg20 _ _ _ _ (off89 t)) ?hN ?hj ?hn) $$ [HC HCD HO]
  case hN => exact fun _ => rfl
  case hj =>
    intro h
    rw [show 256 * (t.val - 1) = 256 * (t.val - 2) + 256 by omega]
    iintro ⟨HB, HD⟩
    iapply (H2_joinCols (Nat.zero_le _) (Nat.le_add_right _ _) (fun _ _ _ _ _ _ => rfl) (fun _ _ _ _ _ _ => rfl))
    isplitl [HD]; · iexact HD
    iexact HB
  case hn => exact fun h => H2_void (Or.inr (by omega)) (Or.inr (by omega))
  · isplitl [HC]; · iexact HC
    isplitl [HCD]; · iexact HCD
    iexact HO
  unfold Slot
  iintro ⟨⟨⟨%G, HG⟩, Hcv⟩, HCD, HO⟩
  iapply (hload2 𝒱 (c.tc : Thread nD τ) bd 0 (256 * t.val) (off92 t).1 (off92 t).2 ⟨by omega, by omega⟩ ⟨by omega, by omega⟩) $$ Hdy
  iintro Hdy
  iapply (hload3 𝒱 (c.tc : Thread nD τ) bd (t.val % 2) 0 0 (off93 t).1 (off93 t).2.1 (off93 t).2.2) $$ HG
  iintro HG
  iapply (hstore3 𝒱 (c.tc : Thread nD τ) bd (codesT K t.val) (t.val % 2) (off93 t).1 (codesT_at K t.val)) $$ HG
  iintro HG
  iapply (waitIn 𝒱 (c.tc : Thread nD τ) bd (A := arg4) (R := arg13) (q := q₄) (F := K.w) (r := 256 * t.val) (s := 0) (l := 11008) (by omega) (sem_eq arg19 _ _ _ _ (off94 t)) rfl) $$ [HW HWD HO]
  · isplitl [HW]; · iexact HW
    isplitl [HWD]; · iexact HWD
    iexact HO
  iintro ⟨HW, Hwv, HWD, HO⟩
  iapply (hload2 𝒱 (c.tc : Thread nD τ) bd 0 (512 * 0) rfl rfl ⟨by omega, by omega⟩ ⟨by omega, by omega⟩) $$ HA
  iintro HA
  iapply (hload3 𝒱 (c.tc : Thread nD τ) bd (t.val % 2) 0 0 (off93 t).1 (off93 t).2.1 (off93 t).2.2) $$ HG
  iintro HG
  iapply (wp_done 𝒱 (c.tc : Thread nD τ) bd)
  iapply Hk
  unfold CT WT
  isplitl [HG]; · iexact HG
  isplitl [Hcv]; · iexact Hcv
  isplitl [HCD]; · iexact HCD
  isplitl [Hdy]; · iexact Hdy
  isplitl [HW]; · iexact HW
  isplitl [Hwv]; · iexact Hwv
  isplitl [HWD]; · iexact HWD
  isplitl [HA]; · iexact HA
  iexact HO

theorem part9 (v329 v330 : BitVec 32) {Q : Vec F S1024x512 .f32 → sProp (MT nD τ sig Unit (Elt F) ℕ (Pipeline.UD sig nD τ) ℕ)} :
    iprop(CT arg14 c K t.val ∗ WT arg13 c K t.val ∗ AC arg16 c K 0 t.val ∗ AC arg16 c K 1 t.val ∗ AC arg16 c K 2 t.val ∗ AC arg16 c K 3 t.val)
      ⊢ iprop((iprop(CT arg14 c K t.val ∗ WT arg13 c K t.val ∗ AC arg16 c K 0 (t.val + 1) ∗ AC arg16 c K 1 (t.val + 1) ∗ AC arg16 c K 2 (t.val + 1) ∗ AC arg16 c K 3 t.val) -∗ Q (tile2 1024 512 (accF K t.val) 0 (512 * 3)))
        -∗ wp frame (wpE defs 𝒱 (c.tc : Thread nD τ) bd) Set.univ (k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v329 v330 (tile2 1024 512 (accF K t.val) 0 (512 * 0)) (k0_pay9 (tile3 1024 256 (codesT K t.val) 0 0))) Q) := by
  rw [k0_part9_eq_skeleton]
  unfold k0_part9_skel CT WT AC
  have ht := lt43 t
  iintro ⟨HC, HW, HA0, HA1, HA2, HA3⟩ Hk
  iapply (hload3 𝒱 (c.tc : Thread nD τ) bd (t.val % 3) (0) (512 * 0) (off97 t).1 (off97 t).2.1 (off97 t).2.2) $$ HW
  iintro HW
  iapply (hload2 𝒱 (c.tc : Thread nD τ) bd 0 (512 * 0) rfl rfl ⟨by omega, by omega⟩ ⟨by omega, by omega⟩) $$ HA0
  iintro HA0
  iapply (hstore2 𝒱 (c.tc : Thread nD τ) bd (accF K (t.val + 1)) 0 (512 * 0) rfl rfl ⟨by omega, by omega⟩ ⟨by omega, by omega⟩ (accF_at K t.val 0) (fun i j _ _ _ _ _ => by omega)) $$ HA0
  iintro HA0
  iapply (hload2 𝒱 (c.tc : Thread nD τ) bd 0 (512 * 1) rfl rfl ⟨by omega, by omega⟩ ⟨by omega, by omega⟩) $$ HA1
  iintro HA1
  iapply (hload3 𝒱 (c.tc : Thread nD τ) bd (t.val % 2) (0) (0) (off93 t).1 (off93 t).2.1 (off93 t).2.2) $$ HC
  iintro HC
  iapply (hload3 𝒱 (c.tc : Thread nD τ) bd (t.val % 3) (0) (512 * 1) (off98 t).1 (off98 t).2.1 (off98 t).2.2) $$ HW
  iintro HW
  iapply (hload2 𝒱 (c.tc : Thread nD τ) bd 0 (512 * 1) rfl rfl ⟨by omega, by omega⟩ ⟨by omega, by omega⟩) $$ HA1
  iintro HA1
  iapply (hstore2 𝒱 (c.tc : Thread nD τ) bd (accF K (t.val + 1)) 0 (512 * 1) rfl rfl ⟨by omega, by omega⟩ ⟨by omega, by omega⟩ (accF_at K t.val 1) (fun i j _ _ _ _ _ => by omega)) $$ HA1
  iintro HA1
  iapply (hload2 𝒱 (c.tc : Thread nD τ) bd 0 (512 * 2) rfl rfl ⟨by omega, by omega⟩ ⟨by omega, by omega⟩) $$ HA2
  iintro HA2
  iapply (hload3 𝒱 (c.tc : Thread nD τ) bd (t.val % 2) (0) (0) (off93 t).1 (off93 t).2.1 (off93 t).2.2) $$ HC
  iintro HC
  iapply (hload3 𝒱 (c.tc : Thread nD τ) bd (t.val % 3) (0) (512 * 2) (off99 t).1 (off99 t).2.1 (off99 t).2.2) $$ HW
  iintro HW
  iapply (hload2 𝒱 (c.tc : Thread nD τ) bd 0 (512 * 2) rfl rfl ⟨by omega, by omega⟩ ⟨by omega, by omega⟩) $$ HA2
  iintro HA2
  iapply (hstore2 𝒱 (c.tc : Thread nD τ) bd (accF K (t.val + 1)) 0 (512 * 2) rfl rfl ⟨by omega, by omega⟩ ⟨by omega, by omega⟩ (accF_at K t.val 2) (fun i j _ _ _ _ _ => by omega)) $$ HA2
  iintro HA2
  iapply (hload2 𝒱 (c.tc : Thread nD τ) bd 0 (512 * 3) rfl rfl ⟨by omega, by omega⟩ ⟨by omega, by omega⟩) $$ HA3
  iintro HA3
  iapply (wp_done 𝒱 (c.tc : Thread nD τ) bd)
  iapply Hk
  isplitl [HC]; · iexact HC
  isplitl [HW]; · iexact HW
  isplitl [HA0]; · iexact HA0
  isplitl [HA1]; · iexact HA1
  isplitl [HA2]; · iexact HA2
  iexact HA3

theorem part10 (v329 v330 : BitVec 32) {Q : FVec F S1024x512 .f32 → sProp (MT nD τ sig Unit (Elt F) ℕ (Pipeline.UD sig nD τ) ℕ)} :
    iprop(CT arg14 c K t.val ∗ WT arg13 c K t.val ∗ AC arg16 c K 3 t.val ∗ AC arg16 c K 4 t.val ∗ AC arg16 c K 5 t.val)
      ⊢ iprop((iprop(CT arg14 c K t.val ∗ WT arg13 c K t.val ∗ AC arg16 c K 3 (t.val + 1) ∗ AC arg16 c K 4 (t.val + 1) ∗ AC arg16 c K 5 t.val) -∗ Q (k0_pay15 (tile2 1024 512 (accF K t.val) 0 (512 * 5)) (tile3 1024 256 (codesT K t.val) 0 0) (tile3 256 512 (fun i j => K.w (256 * t.val + i) (0 + j)) 0 (512 * 5))))
        -∗ wp frame (wpE defs 𝒱 (c.tc : Thread nD τ) bd) Set.univ (k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v329 v330 (tile2 1024 512 (accF K t.val) 0 (512 * 3))) Q) := by
  rw [k0_part10_eq_skeleton]
  unfold k0_part10_skel CT WT AC
  have ht := lt43 t
  iintro ⟨HC, HW, HA3, HA4, HA5⟩ Hk
  iapply (hload3 𝒱 (c.tc : Thread nD τ) bd (t.val % 2) (0) (0) (off93 t).1 (off93 t).2.1 (off93 t).2.2) $$ HC
  iintro HC
  iapply (hload3 𝒱 (c.tc : Thread nD τ) bd (t.val % 3) (0) (512 * 3) (off100 t).1 (off100 t).2.1 (off100 t).2.2) $$ HW
  iintro HW
  iapply (hload2 𝒱 (c.tc : Thread nD τ) bd 0 (512 * 3) rfl rfl ⟨by omega, by omega⟩ ⟨by omega, by omega⟩) $$ HA3
  iintro HA3
  iapply (hstore2 𝒱 (c.tc : Thread nD τ) bd (accF K (t.val + 1)) 0 (512 * 3) rfl rfl ⟨by omega, by omega⟩ ⟨by omega, by omega⟩ (accF_at K t.val 3) (fun i j _ _ _ _ _ => by omega)) $$ HA3
  iintro HA3
  iapply (hload2 𝒱 (c.tc : Thread nD τ) bd 0 (512 * 4) rfl rfl ⟨by omega, by omega⟩ ⟨by omega, by omega⟩) $$ HA4
  iintro HA4
  iapply (hload3 𝒱 (c.tc : Thread nD τ) bd (t.val % 2) (0) (0) (off93 t).1 (off93 t).2.1 (off93 t).2.2) $$ HC
  iintro HC
  iapply (hload3 𝒱 (c.tc : Thread nD τ) bd (t.val % 3) (0) (512 * 4) (off101 t).1 (off101 t).2.1 (off101 t).2.2) $$ HW
  iintro HW
  iapply (hload2 𝒱 (c.tc : Thread nD τ) bd 0 (512 * 4) rfl rfl ⟨by omega, by omega⟩ ⟨by omega, by omega⟩) $$ HA4
  iintro HA4
  iapply (hstore2 𝒱 (c.tc : Thread nD τ) bd (accF K (t.val + 1)) 0 (512 * 4) rfl rfl ⟨by omega, by omega⟩ ⟨by omega, by omega⟩ (accF_at K t.val 4) (fun i j _ _ _ _ _ => by omega)) $$ HA4
  iintro HA4
  iapply (hload2 𝒱 (c.tc : Thread nD τ) bd 0 (512 * 5) rfl rfl ⟨by omega, by omega⟩ ⟨by omega, by omega⟩) $$ HA5
  iintro HA5
  iapply (hload3 𝒱 (c.tc : Thread nD τ) bd (t.val % 2) (0) (0) (off93 t).1 (off93 t).2.1 (off93 t).2.2) $$ HC
  iintro HC
  iapply (hload3 𝒱 (c.tc : Thread nD τ) bd (t.val % 3) (0) (512 * 5) (off102 t).1 (off102 t).2.1 (off102 t).2.2) $$ HW
  iintro HW
  iapply (hload2 𝒱 (c.tc : Thread nD τ) bd 0 (512 * 5) rfl rfl ⟨by omega, by omega⟩ ⟨by omega, by omega⟩) $$ HA5
  iintro HA5
  iapply (wp_done 𝒱 (c.tc : Thread nD τ) bd)
  iapply Hk
  isplitl [HC]; · iexact HC
  isplitl [HW]; · iexact HW
  isplitl [HA3]; · iexact HA3
  isplitl [HA4]; · iexact HA4
  iexact HA5

/-- The codes' array from block `o` on. -/
def CN (F₀ : ℕ → ℕ → Elt F .fp8e5m2) (o : ℕ) : sProp 𝕄 := H2 (c.tc : Thread nD τ) arg9 fullShare 0 1024 (256 * o) 11008 F₀

theorem part11 {F₀ : ℕ → ℕ → Elt F .fp8e5m2} (v t₁ t₂ : BitVec 32) {Q : BitVec 32 → sProp (MT nD τ sig Unit (Elt F) ℕ (Pipeline.UD sig nD τ) ℕ)} :
    iprop(CT arg14 c K t.val ∗ WT arg13 c K t.val ∗ AC arg16 c K 5 t.val ∗ AC arg16 c K 6 t.val ∗ AC arg16 c K 7 t.val ∗ semVal ((c.tc : Thread nD τ), .dma (semAt arg20 (t.val % 2))) 0 ∗ CN arg9 c F₀ t.val)
      ⊢ iprop((iprop(∀ v, iprop(CF arg9 arg14 arg20 c K t.val ∗ CL arg14 c K t.val ∗ WT arg13 c K t.val ∗ AC arg16 c K 5 (t.val + 1) ∗ AC arg16 c K 6 (t.val + 1) ∗ AC arg16 c K 7 (t.val + 1) ∗ CN arg9 c F₀ (t.val + 1)) -∗ Q v))
        -∗ wp frame (wpE defs 𝒱 (c.tc : Thread nD τ) bd) Set.univ (k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v t₁ t₂ (k0_pay15 (tile2 1024 512 (accF K t.val) 0 (512 * 5)) (tile3 1024 256 (codesT K t.val) 0 0) (tile3 256 512 (fun i j => K.w (256 * t.val + i) (0 + j)) 0 (512 * 5)))) Q) := by
  rw [k0_part11_eq_skeleton]
  unfold k0_part11_skel WT AC CN
  have ht := lt43 t
  iintro ⟨HC, HW, HA5, HA6, HA7, Hv, HN⟩ Hk
  unfold CT
  iapply (hstore2 𝒱 (c.tc : Thread nD τ) bd (accF K (t.val + 1)) 0 (512 * 5) rfl rfl ⟨by omega, by omega⟩ ⟨by omega, by omega⟩ (accF_at K t.val 5) (fun i j _ _ _ _ _ => by omega)) $$ HA5
  iintro HA5
  iapply (hload2 𝒱 (c.tc : Thread nD τ) bd 0 (512 * 6) rfl rfl ⟨by omega, by omega⟩ ⟨by omega, by omega⟩) $$ HA6
  iintro HA6
  iapply (hload3 𝒱 (c.tc : Thread nD τ) bd (t.val % 2) (0) (0) (off93 t).1 (off93 t).2.1 (off93 t).2.2) $$ HC
  iintro HC
  iapply (hload3 𝒱 (c.tc : Thread nD τ) bd (t.val % 3) (0) (512 * 6) (off103 t).1 (off103 t).2.1 (off103 t).2.2) $$ HW
  iintro HW
  iapply (hload2 𝒱 (c.tc : Thread nD τ) bd 0 (512 * 6) rfl rfl ⟨by omega, by omega⟩ ⟨by omega, by omega⟩) $$ HA6
  iintro HA6
  iapply (hstore2 𝒱 (c.tc : Thread nD τ) bd (accF K (t.val + 1)) 0 (512 * 6) rfl rfl ⟨by omega, by omega⟩ ⟨by omega, by omega⟩ (accF_at K t.val 6) (fun i j _ _ _ _ _ => by omega)) $$ HA6
  iintro HA6
  iapply (hload2 𝒱 (c.tc : Thread nD τ) bd 0 (512 * 7) rfl rfl ⟨by omega, by omega⟩ ⟨by omega, by omega⟩) $$ HA7
  iintro HA7
  iapply (hload3 𝒱 (c.tc : Thread nD τ) bd (t.val % 2) (0) (0) (off93 t).1 (off93 t).2.1 (off93 t).2.2) $$ HC
  iintro HC
  iapply (hload3 𝒱 (c.tc : Thread nD τ) bd (t.val % 3) (0) (512 * 7) (off104 t).1 (off104 t).2.1 (off104 t).2.2) $$ HW
  iintro HW
  iapply (hload2 𝒱 (c.tc : Thread nD τ) bd 0 (512 * 7) rfl rfl ⟨by omega, by omega⟩ ⟨by omega, by omega⟩) $$ HA7
  iintro HA7
  iapply (hstore2 𝒱 (c.tc : Thread nD τ) bd (accF K (t.val + 1)) 0 (512 * 7) rfl rfl ⟨by omega, by omega⟩ ⟨by omega, by omega⟩ (accF_at K t.val 7) (fun i j _ _ _ _ _ => by omega)) $$ HA7
  iintro HA7
  ihave HN := (H2_cols (256 * t.val + 256) (by omega) (by omega)) $$ HN
  icases HN with ⟨HB, HN⟩
  ihave HC := (H3_halves (M₃ := arg14)) $$ HC
  icases HC with ⟨HL, HC⟩
  iapply (hdma32 𝒱 (c.tc : Thread nD τ) bd (codesF K) (t.val % 2) 0 (256 * t.val) (off107 t) (off106 t).1 (off106 t).2 (sem_eq arg20 _ _ _ _ (off105 t))
    (fun i j hi hj => by rw [codesF_at K _ _ _ hj, Nat.zero_add]) (by decide) (Ms := arg14) (q := fullShare.right) (F := codesT K t.val)) $$ [HC HB Hv]
  · isplitl [HC]; · iexact HC
    isplitl [HB]; · iexact HB
    iexact Hv
  iintro HF
  iapply (wp_done 𝒱 (c.tc : Thread nD τ) bd)
  iapply Hk
  unfold CF CL
  isplitl [HF]; · iexact HF
  isplitl [HL]; · iexact HL
  isplitl [HW]; · iexact HW
  isplitl [HA5]; · iexact HA5
  isplitl [HA6]; · iexact HA6
  isplitl [HA7]; · iexact HA7
  iexact HN

/-! ## The chunks -/

/-- The activations held whole. -/
def XV : sProp 𝕄 := H2 (c.tc : Thread nD τ) arg12 fullShare 0 1024 0 4096 K.x

/-- The weights' rows from block `k` on. -/
def WN (k : ℕ) : sProp 𝕄 := H2 (c.tc : Thread nD τ) arg4 q₄ (256 * k) 11008 0 (0 + 4096) K.w

theorem part12 {F₇ : ℕ → ℕ → Elt F .f32} (v₁ v₂ v₃ v₄ : BitVec 32) {Q : FVec F S256x1024 .f32 → sProp (MT nD τ sig Unit (Elt F) ℕ (Pipeline.UD sig nD τ) ℕ)} :
    iprop(WT arg13 c K t.val ∗ semVal ((c.tc : Thread nD τ), .dma (semAt arg19 (t.val % 3))) 0 ∗ WN arg4 c K q₄ (t.val + 3) ∗ CH arg5 arg7 arg15 arg21 arg22 c K q₅ F₇ 0 t.val ∗ CL arg14 c K t.val ∗ XV arg12 c K ∗ ∃ W, owes (c.tc : Thread nD τ) 0 W)
      ⊢ iprop((iprop(RW arg4 arg13 arg19 c K q₄ (t.val + 3) ∗ WN arg4 c K q₄ (t.val + 4) ∗ SG arg15 c K 0 t.val ∗ MT0 arg5 arg7 arg15 arg21 arg22 c K q₅ F₇ 0 t.val ∗ CL arg14 c K t.val ∗ XV arg12 c K ∗ ∃ W, owes (c.tc : Thread nD τ) 0 W) -∗ Q (k0_pay19 K.ms (tile3 1024 256 (codesT K t.val) 0 0) (tile2 1024 1024 K.x 0 (1024 * 0)) (tile3 256 1024 (fun i j => K.mg (256 * t.val + i) (1024 * 0 + j)) 0 0)))
        -∗ wp frame (wpE defs 𝒱 (c.tc : Thread nD τ) bd) Set.univ (k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 K.ms t v₁ v₂ v₃ v₄) Q) := by
  rw [k0_part12_eq_skeleton]
  unfold k0_part12_skel WT WN RW
  have ht := lt43 t
  iintro ⟨HW, HV, HN, HC0, HL, HX, HO⟩ Hk
  rw [show 256 * (t.val + 4) = 256 * (t.val + 3) + 256 by omega]
  iapply (gStartIn 𝒱 (c.tc : Thread nD τ) bd (A := arg4) (R := arg13) (S := arg19) (q := q₄) (F := K.w) (k := (t.val + 3) % 3) (r := 256 * (t.val + 3)) (s := 0) (l := 11008) (cond2 t) (by omega)
    (fun h G => hdma23 𝒱 (c.tc : Thread nD τ) bd _ (256 * (t.val + 3)) 0 ((t.val + 3) % 3) (off110 t h).1 (off110 t h).2 (off109 t)
      (sem_eq arg19 _ _ _ _ (off108 t)) (fun i j _ _ => rfl) (by decide))) $$ [HW HV HN]
  · unfold Slot
    rw [Nat.add_mod_right]
    isplitl [HW HV]
    · isplitl [HW]
      · iexists _; iexact HW
      iexact HV
    iexact HN
  iintro ⟨HW, HN⟩
  iapply (chOut arg5 arg7 arg15 arg21 arg22 c K q₅ F₇ 𝒱 bd 0 t.val (cond3 t) (fun h => sem_eq arg22 _ _ _ _ (off111 t)) ?hN) $$ [HC0 HO]
  case hN => intro h; rfl
  · isplitl [HC0]; · iexact HC0
    iexact HO
  iintro ⟨HC0, HO⟩
  iapply (chIn arg5 arg7 arg15 arg21 arg22 c K q₅ F₇ 𝒱 bd 0 t.val (cond4 t)
    (fun h G => hdma23 𝒱 (c.tc : Thread nD τ) bd _ (256 * (t.val + 2)) (1024 * 0) (4 * ((t.val + 2) % 3) + 0) (off116 t).1 (off116 t).2 (off115 t)
      (sem_eq arg21 _ _ _ _ (off114 t)) (fun i j _ _ => rfl) (by decide))) $$ HC0
  iintro HC0
  iapply (chWait arg5 arg7 arg15 arg21 arg22 c K q₅ F₇ 𝒱 bd 0 t.val ht (sem_eq arg21 _ _ _ _ (off117 t).1) rfl) $$ [HC0 HO]
  · isplitl [HC0]; · iexact HC0
    iexact HO
  iintro ⟨HG0, HC0, HO⟩
  unfold CL
  iapply (hload3 𝒱 (c.tc : Thread nD τ) bd (t.val % 2) (0) (0) (off93 t).1 (off93 t).2.1 (off93 t).2.2) $$ HL
  iintro HL
  unfold XV
  iapply (hload2 𝒱 (c.tc : Thread nD τ) bd 0 (1024 * 0) rfl rfl ⟨by omega, by omega⟩ ⟨by omega, by omega⟩) $$ HX
  iintro HX
  unfold SG
  iapply (hload3 𝒱 (c.tc : Thread nD τ) bd (4 * (t.val % 3) + 0) (0) (0) (off120 t).1 (off120r t).1.1 (off120r t).1.2) $$ HG0
  iintro HG0
  iapply (wp_done 𝒱 (c.tc : Thread nD τ) bd)
  iapply Hk
  isplitl [HW]; · iexact HW
  isplitl [HN]; · iexact HN
  isplitl [HG0]; · iexact HG0
  isplitl [HC0]; · iexact HC0
  isplitl [HL]; · iexact HL
  isplitl [HX]; · iexact HX
  iexact HO

theorem part13 {F₇ : ℕ → ℕ → Elt F .f32} (v₁ v₂ v₃ : BitVec 32) {Q : (Σ' (v505 : BitVec 32) (v525 : FVec F S1024x256 .fp8e5m2), Vec F S1024x1024 .fp8e4m3) → sProp (MT nD τ sig Unit (Elt F) ℕ (Pipeline.UD sig nD τ) ℕ)} :
    iprop(SG arg15 c K 0 t.val ∗ MT0 arg5 arg7 arg15 arg21 arg22 c K q₅ F₇ 0 t.val ∗ CH arg5 arg7 arg15 arg21 arg22 c K q₅ F₇ 1 t.val ∗ CL arg14 c K t.val ∗ XV arg12 c K ∗ ∃ W, owes (c.tc : Thread nD τ) 0 W)
      ⊢ iprop((iprop(∀ v, iprop(CH arg5 arg7 arg15 arg21 arg22 c K q₅ F₇ 0 (t.val + 1) ∗ SG arg15 c K 1 t.val ∗ MT0 arg5 arg7 arg15 arg21 arg22 c K q₅ F₇ 1 t.val ∗ CL arg14 c K t.val ∗ XV arg12 c K ∗ ∃ W, owes (c.tc : Thread nD τ) 0 W) -∗ Q ⟨v, k0_pay21 (tile3 1024 256 (codesT K t.val) 0 0), (tile2 1024 1024 K.x 0 (1024 * 1))⟩))
        -∗ wp frame (wpE defs 𝒱 (c.tc : Thread nD τ) bd) Set.univ (k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 t v₁ v₂ v₃ (k0_pay19 K.ms (tile3 1024 256 (codesT K t.val) 0 0) (tile2 1024 1024 K.x 0 (1024 * 0)) (tile3 256 1024 (fun i j => K.mg (256 * t.val + i) (1024 * 0 + j)) 0 0))) Q) := by
  rw [k0_part13_eq_skeleton]
  unfold k0_part13_skel SG
  have ht := lt43 t
  iintro ⟨HG0, HC0, HC1, HL, HX, HO⟩ Hk
  iapply (hload3 𝒱 (c.tc : Thread nD τ) bd (4 * (t.val % 3) + 0) (0) (0) (off120 t).1 (off120r t).1.1 (off120r t).1.2) $$ HG0
  iintro HG0
  iapply (hstore3 𝒱 (c.tc : Thread nD τ) bd (moT K t.val 0) (4 * (t.val % 3) + 0) (off120 t).1 (moT_at K t.val 0)) $$ HG0
  iintro HG0
  iapply (chGo arg5 arg7 arg15 arg21 arg22 c K q₅ F₇ 𝒱 bd 0 t.val ht (sem_eq arg22 _ _ _ _ (off117 t).1) (off118 t).1 (off119 t)) $$ [HG0 HC0]
  · unfold SM
    isplitl [HG0]; · iexact HG0
    iexact HC0
  iintro HC0
  iapply (chOut arg5 arg7 arg15 arg21 arg22 c K q₅ F₇ 𝒱 bd 1 t.val (cond5 t) (fun h => sem_eq arg22 _ _ _ _ (off121 t)) ?hN) $$ [HC1 HO]
  case hN => intro h; rfl
  · isplitl [HC1]; · iexact HC1
    iexact HO
  iintro ⟨HC1, HO⟩
  iapply (chIn arg5 arg7 arg15 arg21 arg22 c K q₅ F₇ 𝒱 bd 1 t.val (cond6 t)
    (fun h G => hdma23 𝒱 (c.tc : Thread nD τ) bd _ (256 * (t.val + 2)) (1024 * 1) (4 * ((t.val + 2) % 3) + 1) (off126 t).1 (off126 t).2 (off125 t)
      (sem_eq arg21 _ _ _ _ (off124 t)) (fun i j _ _ => rfl) (by decide))) $$ HC1
  iintro HC1
  iapply (chWait arg5 arg7 arg15 arg21 arg22 c K q₅ F₇ 𝒱 bd 1 t.val ht (sem_eq arg21 _ _ _ _ (off117 t).2.1) rfl) $$ [HC1 HO]
  · isplitl [HC1]; · iexact HC1
    iexact HO
  iintro ⟨HG1, HC1, HO⟩
  unfold CL
  iapply (hload3 𝒱 (c.tc : Thread nD τ) bd (t.val % 2) (0) (0) (off93 t).1 (off93 t).2.1 (off93 t).2.2) $$ HL
  iintro HL
  unfold XV
  iapply (hload2 𝒱 (c.tc : Thread nD τ) bd 0 (1024 * 1) rfl rfl ⟨by omega, by omega⟩ ⟨by omega, by omega⟩) $$ HX
  iintro HX
  unfold SG
  iapply (wp_done 𝒱 (c.tc : Thread nD τ) bd)
  iapply Hk
  isplitl [HC0]; · iexact HC0
  isplitl [HG1]; · iexact HG1
  isplitl [HC1]; · iexact HC1
  isplitl [HL]; · iexact HL
  isplitl [HX]; · iexact HX
  iexact HO

theorem part14 {F₇ : ℕ → ℕ → Elt F .f32} (v₁ v₂ v₃ : BitVec 32) {Q : BitVec 32 → sProp (MT nD τ sig Unit (Elt F) ℕ (Pipeline.UD sig nD τ) ℕ)} :
    iprop(SG arg15 c K 1 t.val ∗ MT0 arg5 arg7 arg15 arg21 arg22 c K q₅ F₇ 1 t.val ∗ CH arg5 arg7 arg15 arg21 arg22 c K q₅ F₇ 2 t.val ∗ ∃ W, owes (c.tc : Thread nD τ) 0 W)
      ⊢ iprop((iprop(∀ v, iprop(CH arg5 arg7 arg15 arg21 arg22 c K q₅ F₇ 1 (t.val + 1) ∗ M1 arg5 arg7 arg15 arg21 arg22 c K q₅ F₇ 2 t.val ∗ ∃ W, owes (c.tc : Thread nD τ) 0 W) -∗ Q v))
        -∗ wp frame (wpE defs 𝒱 (c.tc : Thread nD τ) bd) Set.univ (k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 K.ms t v₁ v₂ v₃ (k0_pay21 (tile3 1024 256 (codesT K t.val) 0 0)) (tile2 1024 1024 K.x 0 (1024 * 1))) Q) := by
  rw [k0_part14_eq_skeleton]
  unfold k0_part14_skel SG
  have ht := lt43 t
  iintro ⟨HG1, HC1, HC2, HO⟩ Hk
  iapply (hload3 𝒱 (c.tc : Thread nD τ) bd (4 * (t.val % 3) + 1) (0) (0) (off120 t).2.1 (off120r t).2.1.1 (off120r t).2.1.2) $$ HG1
  iintro HG1
  iapply (hload3 𝒱 (c.tc : Thread nD τ) bd (4 * (t.val % 3) + 1) (0) (0) (off120 t).2.1 (off120r t).2.1.1 (off120r t).2.1.2) $$ HG1
  iintro HG1
  iapply (hstore3 𝒱 (c.tc : Thread nD τ) bd (moT K t.val 1) (4 * (t.val % 3) + 1) (off120 t).2.1 (moT_at K t.val 1)) $$ HG1
  iintro HG1
  iapply (chGo arg5 arg7 arg15 arg21 arg22 c K q₅ F₇ 𝒱 bd 1 t.val ht (sem_eq arg22 _ _ _ _ (off117 t).2.1) (off118 t).2.1 (off127 t)) $$ [HG1 HC1]
  · unfold SM
    isplitl [HG1]; · iexact HG1
    iexact HC1
  iintro HC1
  iapply (chOut arg5 arg7 arg15 arg21 arg22 c K q₅ F₇ 𝒱 bd 2 t.val (cond7 t) (fun h => sem_eq arg22 _ _ _ _ (off128 t)) ?hN) $$ [HC2 HO]
  case hN => intro h; rfl
  · isplitl [HC2]; · iexact HC2
    iexact HO
  iintro ⟨HC2, HO⟩
  iapply (chIn arg5 arg7 arg15 arg21 arg22 c K q₅ F₇ 𝒱 bd 2 t.val (cond8 t)
    (fun h G => hdma23 𝒱 (c.tc : Thread nD τ) bd _ (256 * (t.val + 2)) (1024 * 2) (4 * ((t.val + 2) % 3) + 2) (off133 t).1 (off133 t).2 (off132 t)
      (sem_eq arg21 _ _ _ _ (off131 t)) (fun i j _ _ => rfl) (by decide))) $$ HC2
  iintro HC2
  iapply (wp_done 𝒱 (c.tc : Thread nD τ) bd)
  iapply Hk
  isplitl [HC1]; · iexact HC1
  isplitl [HC2]; · iexact HC2
  iexact HO

theorem part15 {F₇ : ℕ → ℕ → Elt F .f32} (v₁ v₂ v₃ v₄ : BitVec 32) {Q : (Σ' (v583 : BitVec 32) (v585 : BitVec 32), BitVec 32) → sProp (MT nD τ sig Unit (Elt F) ℕ (Pipeline.UD sig nD τ) ℕ)} :
    iprop(M1 arg5 arg7 arg15 arg21 arg22 c K q₅ F₇ 2 t.val ∗ CH arg5 arg7 arg15 arg21 arg22 c K q₅ F₇ 3 t.val ∗ CL arg14 c K t.val ∗ XV arg12 c K ∗ ∃ W, owes (c.tc : Thread nD τ) 0 W)
      ⊢ iprop((iprop(∀ v, iprop(CH arg5 arg7 arg15 arg21 arg22 c K q₅ F₇ 2 (t.val + 1) ∗ M0 arg5 arg7 arg15 arg21 arg22 c K q₅ F₇ 3 t.val ∗ CL arg14 c K t.val ∗ XV arg12 c K ∗ ∃ W, owes (c.tc : Thread nD τ) 0 W) -∗ Q v))
        -∗ wp frame (wpE defs 𝒱 (c.tc : Thread nD τ) bd) Set.univ (k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 K.ms t v₁ v₂ v₃ v₄) Q) := by
  rw [k0_part15_eq_skeleton]
  unfold k0_part15_skel
  have ht := lt43 t
  iintro ⟨HC2, HC3, HL, HX, HO⟩ Hk
  iapply (chWait arg5 arg7 arg15 arg21 arg22 c K q₅ F₇ 𝒱 bd 2 t.val ht (sem_eq arg21 _ _ _ _ (off117 t).2.2.1) rfl) $$ [HC2 HO]
  · isplitl [HC2]; · iexact HC2
    iexact HO
  iintro ⟨HG2, HC2, HO⟩
  unfold CL
  iapply (hload3 𝒱 (c.tc : Thread nD τ) bd (t.val % 2) (0) (0) (off93 t).1 (off93 t).2.1 (off93 t).2.2) $$ HL
  iintro HL
  unfold XV
  iapply (hload2 𝒱 (c.tc : Thread nD τ) bd 0 (1024 * 2) rfl rfl ⟨by omega, by omega⟩ ⟨by omega, by omega⟩) $$ HX
  iintro HX
  unfold SG
  iapply (hload3 𝒱 (c.tc : Thread nD τ) bd (4 * (t.val % 3) + 2) (0) (0) (off120 t).2.2.1 (off120r t).2.2.1.1 (off120r t).2.2.1.2) $$ HG2
  iintro HG2
  iapply (hload3 𝒱 (c.tc : Thread nD τ) bd (4 * (t.val % 3) + 2) (0) (0) (off120 t).2.2.1 (off120r t).2.2.1.1 (off120r t).2.2.1.2) $$ HG2
  iintro HG2
  iapply (hstore3 𝒱 (c.tc : Thread nD τ) bd (moT K t.val 2) (4 * (t.val % 3) + 2) (off120 t).2.2.1 (moT_at K t.val 2)) $$ HG2
  iintro HG2
  iapply (chGo arg5 arg7 arg15 arg21 arg22 c K q₅ F₇ 𝒱 bd 2 t.val ht (sem_eq arg22 _ _ _ _ (off117 t).2.2.1) (off118 t).2.2.1 (off134 t)) $$ [HG2 HC2]
  · unfold SM
    isplitl [HG2]; · iexact HG2
    iexact HC2
  iintro HC2
  iapply (chOut arg5 arg7 arg15 arg21 arg22 c K q₅ F₇ 𝒱 bd 3 t.val (cond9 t) (fun h => sem_eq arg22 _ _ _ _ (off135 t)) ?hN) $$ [HC3 HO]
  case hN => intro h; rfl
  · isplitl [HC3]; · iexact HC3
    iexact HO
  iintro ⟨HC3, HO⟩
  iapply (wp_done 𝒱 (c.tc : Thread nD τ) bd)
  iapply Hk
  isplitl [HC2]; · iexact HC2
  isplitl [HC3]; · iexact HC3
  isplitl [HL]; · iexact HL
  isplitl [HX]; · iexact HX
  iexact HO

variable (F₇ : ℕ → ℕ → Elt F .f32) (F₉ : ℕ → ℕ → Elt F .fp8e5m2)

/-- What the loop holds at the head of trip `o`. -/
def I2 (o : ℕ) : sProp 𝕄 :=
  iprop(RC arg9 arg14 arg20 c K o ∗ RC arg9 arg14 arg20 c K (o + 1) ∗ CD arg9 c K (o - 2) ∗ CN arg9 c F₉ o ∗ DY arg11 c K ∗ RW arg4 arg13 arg19 c K q₄ o ∗ RW arg4 arg13 arg19 c K q₄ (o + 1) ∗ RW arg4 arg13 arg19 c K q₄ (o + 2) ∗ WD arg4 c K q₄ o ∗ WN arg4 c K q₄ (o + 3) ∗ AC arg16 c K 0 o ∗ AC arg16 c K 1 o ∗ AC arg16 c K 2 o ∗ AC arg16 c K 3 o ∗ AC arg16 c K 4 o ∗ AC arg16 c K 5 o ∗ AC arg16 c K 6 o ∗ AC arg16 c K 7 o ∗ XV arg12 c K ∗ CH arg5 arg7 arg15 arg21 arg22 c K q₅ F₇ 0 o ∗ CH arg5 arg7 arg15 arg21 arg22 c K q₅ F₇ 1 o ∗ CH arg5 arg7 arg15 arg21 arg22 c K q₅ F₇ 2 o ∗ CH arg5 arg7 arg15 arg21 arg22 c K q₅ F₇ 3 o ∗ ∃ W, owes (c.tc : Thread nD τ) 0 W)

/-- A trip of the loop over blocks. -/
theorem t2_body (v131 v157 : FVec F S1x1 .f32) (v163 : IVec S1x1 32) (v170 : Elt F .f32) (hiv : k0_pay31 (F := F) v163 = K.iv) (hms : k0_pay34 v157 v170 = K.ms)
    (t : Fin k0_t2_loop.trips) (x : Unit) :
    I2 arg4 arg5 arg7 arg9 arg11 arg12 arg13 arg14 arg15 arg16 arg19 arg20 arg21 arg22 c K q₄ q₅ F₇ F₉ t.val
      ⊢ wp frame (wpE defs 𝒱 (c.tc : Thread nD τ) bd) Set.univ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 v131 v157 v163 v170 t x) (fun _ => I2 arg4 arg5 arg7 arg9 arg11 arg12 arg13 arg14 arg15 arg16 arg19 arg20 arg21 arg22 c K q₄ q₅ F₇ F₉ (t.val + 1)) := by
  unfold k0_t2_body
  have ht := lt43 t
  rw [hiv, hms]
  unfold I2
  iintro ⟨HR0, HR1, HCD, HCN, HDY, HW0, HW1, HW2, HWD, HWN, HA0, HA1, HA2, HA3, HA4, HA5, HA6, HA7, HX, HC0, HC1, HC2, HC3, HO⟩
  rw [wp_bind]
  iapply (part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₄ t) $$ [HR0 HCD HDY HW0 HWD HA0 HO]
  · isplitl [HR0]; · iexact HR0
    isplitl [HCD]; · iexact HCD
    isplitl [HDY]; · iexact HDY
    isplitl [HW0]; · iexact HW0
    isplitl [HWD]; · iexact HWD
    isplitl [HA0]; · iexact HA0
    iexact HO
  iintro %a80 %a81 %a82 %a83 ⟨HCT, HCV, HCD, HDY, HWT, HWV, HWD, HA0, HO⟩
  rw [wp_bind]
  iapply (part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K t _ _) $$ [HCT HWT HA0 HA1 HA2 HA3]
  · isplitl [HCT]; · iexact HCT
    isplitl [HWT]; · iexact HWT
    isplitl [HA0]; · iexact HA0
    isplitl [HA1]; · iexact HA1
    isplitl [HA2]; · iexact HA2
    iexact HA3
  iintro ⟨HCT, HWT, HA0, HA1, HA2, HA3⟩
  rw [wp_bind]
  iapply (part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K t _ _) $$ [HCT HWT HA3 HA4 HA5]
  · isplitl [HCT]; · iexact HCT
    isplitl [HWT]; · iexact HWT
    isplitl [HA3]; · iexact HA3
    isplitl [HA4]; · iexact HA4
    iexact HA5
  iintro ⟨HCT, HWT, HA3, HA4, HA5⟩
  rw [wp_bind]
  iapply (part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K t _ _ _) $$ [HCT HWT HA5 HA6 HA7 HCV HCN]
  · isplitl [HCT]; · iexact HCT
    isplitl [HWT]; · iexact HWT
    isplitl [HA5]; · iexact HA5
    isplitl [HA6]; · iexact HA6
    isplitl [HA7]; · iexact HA7
    isplitl [HCV]; · iexact HCV
    iexact HCN
  iintro %a110 ⟨HCF, HL, HWT, HA5, HA6, HA7, HCN⟩
  rw [wp_bind]
  iapply (part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₄ q₅ t _ _ _ _) $$ [HWT HWV HWN HC0 HL HX HO]
  · isplitl [HWT]; · iexact HWT
    isplitl [HWV]; · iexact HWV
    isplitl [HWN]; · iexact HWN
    isplitl [HC0]; · iexact HC0
    isplitl [HL]; · iexact HL
    isplitl [HX]; · iexact HX
    iexact HO
  iintro ⟨HW3, HWN, HG0, HC0, HL, HX, HO⟩
  rw [wp_bind]
  iapply (part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₅ t _ _ _) $$ [HG0 HC0 HC1 HL HX HO]
  · isplitl [HG0]; · iexact HG0
    isplitl [HC0]; · iexact HC0
    isplitl [HC1]; · iexact HC1
    isplitl [HL]; · iexact HL
    isplitl [HX]; · iexact HX
    iexact HO
  iintro %a130 ⟨HC0, HG1, HC1, HL, HX, HO⟩
  rw [wp_bind]
  iapply (part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₅ t _ _ _) $$ [HG1 HC1 HC2 HO]
  · isplitl [HG1]; · iexact HG1
    isplitl [HC1]; · iexact HC1
    isplitl [HC2]; · iexact HC2
    iexact HO
  iintro %a140 ⟨HC1, HC2, HO⟩
  rw [wp_bind]
  iapply (part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₅ t _ _ _ _) $$ [HC2 HC3 HL HX HO]
  · isplitl [HC2]; · iexact HC2
    isplitl [HC3]; · iexact HC3
    isplitl [HL]; · iexact HL
    isplitl [HX]; · iexact HX
    iexact HO
  iintro %a150 ⟨HC2, HC3, HL, HX, HO⟩
  iapply (chIn arg5 arg7 arg15 arg21 arg22 c K q₅ F₇ 𝒱 bd 3 t.val (cond10 t)
    (fun h G => hdma23 𝒱 (c.tc : Thread nD τ) bd _ (256 * (t.val + 2)) (1024 * 3) (4 * ((t.val + 2) % 3) + 3) (off140 t).1 (off140 t).2 (off139 t)
      (sem_eq arg21 _ _ _ _ (off138 t)) (fun i j _ _ => rfl) (by decide))) $$ HC3
  iintro HC3
  iapply (chWait arg5 arg7 arg15 arg21 arg22 c K q₅ F₇ 𝒱 bd 3 t.val ht (sem_eq arg21 _ _ _ _ (off117 t).2.2.2) rfl) $$ [HC3 HO]
  · isplitl [HC3]; · iexact HC3
    iexact HO
  iintro ⟨HG3, HC3, HO⟩
  unfold CL
  iapply (hload3 𝒱 (c.tc : Thread nD τ) bd (t.val % 2) (0) (0) (off93 t).1 (off93 t).2.1 (off93 t).2.2) $$ HL
  iintro HL
  unfold XV
  iapply (hload2 𝒱 (c.tc : Thread nD τ) bd 0 (1024 * 3) rfl rfl ⟨by omega, by omega⟩ ⟨by omega, by omega⟩) $$ HX
  iintro HX
  unfold SG
  iapply (hload3 𝒱 (c.tc : Thread nD τ) bd (4 * (t.val % 3) + 3) (0) (0) (off120 t).2.2.2 (off120r t).2.2.2.1 (off120r t).2.2.2.2) $$ HG3
  iintro HG3
  iapply (hload3 𝒱 (c.tc : Thread nD τ) bd (4 * (t.val % 3) + 3) (0) (0) (off120 t).2.2.2 (off120r t).2.2.2.1 (off120r t).2.2.2.2) $$ HG3
  iintro HG3
  rw [pay36_eq, hms]
  iapply (hstore3 𝒱 (c.tc : Thread nD τ) bd (moT K t.val 3) (4 * (t.val % 3) + 3) (off120 t).2.2.2 (moT_at K t.val 3)) $$ HG3
  iintro HG3
  iapply (chGo arg5 arg7 arg15 arg21 arg22 c K q₅ F₇ 𝒱 bd 3 t.val ht (sem_eq arg22 _ _ _ _ (off117 t).2.2.2) (off118 t).2.2.2 (off141 t)) $$ [HG3 HC3]
  · unfold SM
    isplitl [HG3]; · iexact HG3
    iexact HC3
  iintro HC3
  iapply (wp_done 𝒱 (c.tc : Thread nD τ) bd)
  isplitl [HR1]; · iexact HR1
  isplitl [HCF HL]
  · iapply RC_of
    isplitl [HCF]; · iexact HCF
    unfold CL; iexact HL
  isplitl [HCD]; · iexact HCD
  isplitl [HCN]; · iexact HCN
  isplitl [HDY]; · iexact HDY
  isplitl [HW1]; · iexact HW1
  isplitl [HW2]; · iexact HW2
  isplitl [HW3]; · iexact HW3
  isplitl [HWD]; · iexact HWD
  isplitl [HWN]; · iexact HWN
  isplitl [HA0]; · iexact HA0
  isplitl [HA1]; · iexact HA1
  isplitl [HA2]; · iexact HA2
  isplitl [HA3]; · iexact HA3
  isplitl [HA4]; · iexact HA4
  isplitl [HA5]; · iexact HA5
  isplitl [HA6]; · iexact HA6
  isplitl [HA7]; · iexact HA7
  isplitl [HX]; · iexact HX
  isplitl [HC0]; · iexact HC0
  isplitl [HC1]; · iexact HC1
  isplitl [HC2]; · iexact HC2
  isplitl [HC3]; · iexact HC3
  iexact HO

end Cert.KernelIdeal.Hand
-- ==== Proof.KIPre.lean ====
/-
  The program up to the second loop: the copies started at the outset (the gradient's bands, the first blocks of the
  weights and of the accumulated gradient, the activations), the accumulator zeroed, the first loop.
-/
module

public import proofs.«01_k».proof.Proof.KIAmax
public import proofs.«01_k».proof.Proof.KITrip

@[expose] public section

set_option maxRecDepth 16384

noncomputable section

namespace Cert.KernelIdeal.Hand

open Cert.KernelIdeal Cert.KernelIdeal.Gen Cert.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (arg0 : Memref sig .tc .smem S1x1 .f32) (harg0 : arg0.IsWhole) (arg1 : Memref sig .tc .smem S1x1 .f32) (harg1 : arg1.IsWhole)
  (arg2 : Memref sig .tc .hbm S1024x11008 .bf16) (harg2 : arg2.IsWhole) (arg3 : Memref sig .tc .hbm S1024x4096 .fp8e4m3) (harg3 : arg3.IsWhole)
  (arg4 : Memref sig .tc .hbm S11008x4096 .fp8e4m3) (harg4 : arg4.IsWhole) (arg5 : Memref sig .tc .hbm S11008x4096 .f32) (harg5 : arg5.IsWhole)
  (arg6 : Memref sig .tc .hbm S1024x4096 .bf16) (harg6 : arg6.IsWhole) (arg7 : Memref sig .tc .hbm S11008x4096 .f32) (harg7 : arg7.IsWhole)
  (arg8 : Memref sig .tc .smem S1x1 .f32) (harg8 : arg8.IsWhole) (arg9 : Memref sig .tc .hbm S1024x11008 .fp8e5m2) (harg9 : arg9.IsWhole)
  (arg10 : Memref sig .tc .smem S1x1 .f32) (harg10 : arg10.IsWhole) (arg11 : Memref sig .tc .vmem S1024x11008 .bf16) (harg11 : arg11.IsWhole)
  (arg12 : Memref sig .tc .vmem S1024x4096 .fp8e4m3) (harg12 : arg12.IsWhole) (arg13 : Memref sig .tc .vmem S3x256x4096 .fp8e4m3) (harg13 : arg13.IsWhole)
  (arg14 : Memref sig .tc .vmem S2x1024x256 .fp8e5m2) (harg14 : arg14.IsWhole) (arg15 : Memref sig .tc .vmem S12x256x1024 .f32) (harg15 : arg15.IsWhole)
  (arg16 : Memref sig .tc .vmem S1024x4096 .f32) (harg16 : arg16.IsWhole) (arg17 : DmaSems sig S16) (arg18 : DmaSems sig S_) (arg19 : DmaSems sig S3)
  (arg20 : DmaSems sig S2) (arg21 : DmaSems sig S12) (arg22 : DmaSems sig S12) (arg23 : DmaSems sig S8)

variable {defs : Defs nD τ sig (Elt F) Λ₀} (𝒱 : Variants) (c : Dev nD) (bd : Option 𝒱.V)
variable (K : In F) (q₂ q₃ q₄ q₅ : PosShare TreeShare) (F₇ : ℕ → ℕ → Elt F .f32)

/-- The first `k` bands of the gradient are started, `i` are not. -/
def A1 (i k : ℕ) : sProp 𝕄 :=
  iprop(H2 (c.tc : Thread nD τ) arg2 q₂ (64 * k) 1024 0 11008 K.dy ∗ Sent (c.tc : Thread nD τ) arg2 arg11 arg17 q₂ K.dy 64 11008 1024 i k)

/-- The activations are being copied. -/
def XF : sProp 𝕄 :=
  Fl (c.tc : Thread nD τ) arg18.sem (cr arg12 ⟨2, ![1024, 4096]⟩)
    iprop(H2 (c.tc : Thread nD τ) arg12 fullShare 0 1024 0 4096 K.x ∗ H2 (c.tc : Thread nD τ) arg3 q₃ 0 1024 0 4096 K.x)

/-- The activations before their copy. -/
def X0 : sProp 𝕄 :=
  iprop(H2 (c.tc : Thread nD τ) arg3 q₃ 0 1024 0 4096 K.x ∗ (∃ G, H2 (c.tc : Thread nD τ) arg12 fullShare 0 1024 0 4096 G)
    ∗ semVal ((c.tc : Thread nD τ), .dma arg18.sem) 0)

/-- The accumulator at some contents. -/
def AW : sProp 𝕄 := iprop(∃ G, H2 (c.tc : Thread nD τ) arg16 fullShare 0 1024 0 4096 G)

/-- What chunk `n` holds at first besides its slots to fill. -/
def R0 (n : ℕ) : sProp 𝕄 :=
  iprop(Slot (c.tc : Thread nD τ) arg15 arg22 (4 * (2 % 3) + n) ∗ IS arg21 c n 2 ∗ OS arg22 c n 0 ∗ OS arg22 c n 1
    ∗ H2 (c.tc : Thread nD τ) arg7 fullShare 0 11008 (1024 * n) (1024 * n + 1024) F₇)

/-- Chunk `n` at first. -/
def CI (n : ℕ) : sProp 𝕄 :=
  iprop(Slot (c.tc : Thread nD τ) arg15 arg21 (4 * (0 % 3) + n) ∗ MGN arg5 c K q₅ n 0 ∗ Slot (c.tc : Thread nD τ) arg15 arg21 (4 * (1 % 3) + n)
    ∗ R0 arg7 arg15 arg21 arg22 c F₇ n)

/-- Chunk `n`, its first block being filled. -/
def C1 (n : ℕ) : sProp 𝕄 :=
  iprop(RI arg5 arg15 arg21 c K q₅ n 0 ∗ MGD arg5 c K q₅ n 0 ∗ MGN arg5 c K q₅ n 1 ∗ Slot (c.tc : Thread nD τ) arg15 arg21 (4 * (1 % 3) + n)
    ∗ R0 arg7 arg15 arg21 arg22 c F₇ n)

section

variable {α : Type} {Q : α → sProp (MT nD τ sig Unit (Elt F) ℕ (Pipeline.UD sig nD τ) ℕ)} {P KK : Prog (TpuEff nD τ sig (Elt F) Λ₀ .tc) α} (n k : ℕ)

theorem fill0
    (hp : ∀ G, iprop(H2 (c.tc : Thread nD τ) arg5 q₅ (256 * 0) (256 * 0 + 256) (1024 * n) (1024 * n + 1024) K.mg ∗ H3 (c.tc : Thread nD τ) arg15 fullShare (4 * (0 % 3) + n) G
        ∗ semVal ((c.tc : Thread nD τ), .dma (semAt arg21 (4 * (0 % 3) + n))) 0)
      ⊢ iprop((FlIn (c.tc : Thread nD τ) arg5 arg15 arg21 q₅ K.mg (4 * (0 % 3) + n) (256 * 0) (1024 * n) -∗ wp frame (wpE defs 𝒱 (c.tc : Thread nD τ) bd) Set.univ KK Q)
        -∗ wp frame (wpE defs 𝒱 (c.tc : Thread nD τ) bd) Set.univ P Q)) :
    CI arg5 arg7 arg15 arg21 arg22 c K q₅ F₇ n
      ⊢ iprop((C1 arg5 arg7 arg15 arg21 arg22 c K q₅ F₇ n -∗ wp frame (wpE defs 𝒱 (c.tc : Thread nD τ) bd) Set.univ KK Q)
        -∗ wp frame (wpE defs 𝒱 (c.tc : Thread nD τ) bd) Set.univ P Q) := by
  unfold CI C1 RI MGN MGD
  iintro ⟨HS, HN, H1, HR⟩ Hk
  ihave HN := (H2_rows (256 * 0) (Nat.le_refl _) (by omega)) $$ HN
  icases HN with ⟨HD, HN⟩
  iapply (startIn 𝒱 (c.tc : Thread nD τ) bd (A := arg5) (R := arg15) (S := arg21) (q := q₅) (F := K.mg) (k := 4 * (0 % 3) + n) (r := 256 * 0) (s := 1024 * n) (l := 11008) (by omega) hp) $$ [HS HN]
  · isplitl [HS]; · iexact HS
    iexact HN
  iintro ⟨HI, HN⟩
  iapply Hk
  isplitl [HI]; · iexact HI
  isplitl [HD]; · iexact HD
  isplitl [HN]; · iexact HN
  isplitl [H1]; · iexact H1
  iexact HR

theorem fill1
    (hp : ∀ G, iprop(H2 (c.tc : Thread nD τ) arg5 q₅ (256 * 1) (256 * 1 + 256) (1024 * n) (1024 * n + 1024) K.mg ∗ H3 (c.tc : Thread nD τ) arg15 fullShare (4 * (1 % 3) + n) G
        ∗ semVal ((c.tc : Thread nD τ), .dma (semAt arg21 (4 * (1 % 3) + n))) 0)
      ⊢ iprop((FlIn (c.tc : Thread nD τ) arg5 arg15 arg21 q₅ K.mg (4 * (1 % 3) + n) (256 * 1) (1024 * n) -∗ wp frame (wpE defs 𝒱 (c.tc : Thread nD τ) bd) Set.univ KK Q)
        -∗ wp frame (wpE defs 𝒱 (c.tc : Thread nD τ) bd) Set.univ P Q)) :
    C1 arg5 arg7 arg15 arg21 arg22 c K q₅ F₇ n
      ⊢ iprop((CH arg5 arg7 arg15 arg21 arg22 c K q₅ F₇ n 0 -∗ wp frame (wpE defs 𝒱 (c.tc : Thread nD τ) bd) Set.univ KK Q)
        -∗ wp frame (wpE defs 𝒱 (c.tc : Thread nD τ) bd) Set.univ P Q) := by
  unfold C1 CH C0 R0 RI MGN MGD RO RoleOut
  rw [if_neg (by omega)]
  iintro ⟨HI, HD, HN, HS, HR, His, Ho0, Ho1, H7⟩ Hk
  iapply (startIn 𝒱 (c.tc : Thread nD τ) bd (A := arg5) (R := arg15) (S := arg21) (q := q₅) (F := K.mg) (k := 4 * (1 % 3) + n) (r := 256 * 1) (s := 1024 * n) (l := 11008) (by omega) hp) $$ [HS HN]
  · isplitl [HS]; · iexact HS
    iexact HN
  iintro ⟨HI1, HN⟩
  ihave H7 := (H2_rows (256 * 0) (Nat.le_refl _) (by omega)) $$ H7
  icases H7 with ⟨H7d, H7⟩
  iapply Hk
  isplitl [HR]; · iexact HR
  isplitl [H7d]
  · unfold MOD
    iapply (H2_void (Or.inl (by omega)) (Or.inl (by omega))) $$ H7d
  isplitl [His]; · iexact His
  isplitl [HN]; · iexact HN
  isplitl [HI]; · iexact HI
  isplitl [HD]; · iexact HD
  isplitl [Ho0]; · iexact Ho0
  isplitl [H7]
  · unfold MON; iexact H7
  isplitl [HI1]; · iexact HI1
  iexact Ho1

/-- The start of the fill of the weights' slot with block `k`. -/
theorem fillW (hk : 256 * k + 256 ≤ 11008)
    (hp : ∀ G, iprop(H2 (c.tc : Thread nD τ) arg4 q₄ (256 * k) (256 * k + 256) 0 (0 + 4096) K.w ∗ H3 (c.tc : Thread nD τ) arg13 fullShare (k % 3) G
        ∗ semVal ((c.tc : Thread nD τ), .dma (semAt arg19 (k % 3))) 0)
      ⊢ iprop((FlIn (c.tc : Thread nD τ) arg4 arg13 arg19 q₄ K.w (k % 3) (256 * k) 0 -∗ wp frame (wpE defs 𝒱 (c.tc : Thread nD τ) bd) Set.univ KK Q)
        -∗ wp frame (wpE defs 𝒱 (c.tc : Thread nD τ) bd) Set.univ P Q)) :
    iprop(Slot (c.tc : Thread nD τ) arg13 arg19 (k % 3) ∗ WN arg4 c K q₄ k)
      ⊢ iprop((iprop(RW arg4 arg13 arg19 c K q₄ k ∗ WN arg4 c K q₄ (k + 1)) -∗ wp frame (wpE defs 𝒱 (c.tc : Thread nD τ) bd) Set.univ KK Q)
        -∗ wp frame (wpE defs 𝒱 (c.tc : Thread nD τ) bd) Set.univ P Q) := by
  unfold WN RW
  rw [Nat.mul_succ]
  exact startIn 𝒱 (c.tc : Thread nD τ) bd hk hp

end

theorem part16 {Q : PUnit → sProp (MT nD τ sig Unit (Elt F) ℕ (Pipeline.UD sig nD τ) ℕ)} :
    iprop(A1 arg2 arg11 arg17 c K q₂ 16 0)
      ⊢ iprop((iprop(A1 arg2 arg11 arg17 c K q₂ 10 6) -∗ Q ⟨⟩)
        -∗ wp frame (wpE defs 𝒱 (c.tc : Thread nD τ) bd) Set.univ (k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23) Q) := by
  rw [k0_part16_eq_skeleton]
  unfold k0_part16_skel A1
  iintro ⟨HA, HS⟩ Hk
  iapply (bandNext 𝒱 (c.tc : Thread nD τ) bd (n := 64) (w := 11008) (q := q₂) (F := K.dy) (l := 1024) 0 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 1 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 2 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 3 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 4 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 5 rfl rfl rfl rfl (sem_eq arg17 _ _ _ _ rfl) (by omega) (by decide)) $$ [HA HS]
  · isplitl [HA]; · iexact HA
    iexact HS
  iintro ⟨HA, HS⟩
  iapply (wp_done 𝒱 (c.tc : Thread nD τ) bd)
  iapply Hk
  isplitl [HA]; · iexact HA
  iexact HS

theorem part17 {Q : PUnit → sProp (MT nD τ sig Unit (Elt F) ℕ (Pipeline.UD sig nD τ) ℕ)} :
    iprop(A1 arg2 arg11 arg17 c K q₂ 10 6)
      ⊢ iprop((iprop(A1 arg2 arg11 arg17 c K q₂ 4 12) -∗ Q ⟨⟩)
        -∗ wp frame (wpE defs 𝒱 (c.tc : Thread nD τ) bd) Set.univ (k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23) Q) := by
  rw [k0_part17_eq_skeleton]
  unfold k0_part17_skel A1
  iintro ⟨HA, HS⟩ Hk
  iapply (bandNext 𝒱 (c.tc : Thread nD τ) bd (n := 64) (w := 11008) (q := q₂) (F := K.dy) (l := 1024) 6 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 7 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 8 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 9 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 10 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 11 rfl rfl rfl rfl (sem_eq arg17 _ _ _ _ rfl) (by omega) (by decide)) $$ [HA HS]
  · isplitl [HA]; · iexact HA
    iexact HS
  iintro ⟨HA, HS⟩
  iapply (wp_done 𝒱 (c.tc : Thread nD τ) bd)
  iapply Hk
  isplitl [HA]; · iexact HA
  iexact HS

theorem part18 {Q : PUnit → sProp (MT nD τ sig Unit (Elt F) ℕ (Pipeline.UD sig nD τ) ℕ)} :
    iprop(A1 arg2 arg11 arg17 c K q₂ 4 12 ∗ Slot (c.tc : Thread nD τ) arg13 arg19 (0 % 3) ∗ WN arg4 c K q₄ 0 ∗ X0 arg3 arg12 arg18 c K q₃)
      ⊢ iprop((iprop(A1 arg2 arg11 arg17 c K q₂ 0 16 ∗ RW arg4 arg13 arg19 c K q₄ 0 ∗ WN arg4 c K q₄ 1 ∗ XF arg3 arg12 arg18 c K q₃) -∗ Q ⟨⟩)
        -∗ wp frame (wpE defs 𝒱 (c.tc : Thread nD τ) bd) Set.univ (k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23) Q) := by
  rw [k0_part18_eq_skeleton]
  unfold k0_part18_skel A1 X0 XF
  iintro ⟨⟨HA, HS⟩, HW, HN, HX, ⟨%G, HX2⟩, Hv⟩ Hk
  iapply (bandNext 𝒱 (c.tc : Thread nD τ) bd (n := 64) (w := 11008) (q := q₂) (F := K.dy) (l := 1024) 12 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 13 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 14 rfl rfl rfl rfl (sem_eq arg17 _ _ _ _ rfl) (by omega) (by decide)) $$ [HA HS]
  · isplitl [HA]; · iexact HA
    iexact HS
  iintro ⟨HA, HS⟩
  iapply (bandNext 𝒱 (c.tc : Thread nD τ) bd (n := 64) (w := 11008) (q := q₂) (F := K.dy) (l := 1024) 15 rfl rfl rfl rfl (sem_eq arg17 _ _ _ _ rfl) (by omega) (by decide)) $$ [HA HS]
  · isplitl [HA]; · iexact HA
    iexact HS
  iintro ⟨HA, HS⟩
  iapply (fillW arg4 arg13 arg19 𝒱 c bd K q₄ 0 (by omega)
    (fun G => hdma23 𝒱 (c.tc : Thread nD τ) bd _ (256 * 0) 0 (0 % 3) rfl rfl rfl (sem_eq arg19 _ _ _ _ rfl) (fun i j _ _ => rfl) (by decide))) $$ [HW HN]
  · isplitl [HW]; · iexact HW
    iexact HN
  iintro ⟨HW, HN⟩
  iapply (hdmaW 𝒱 (c.tc : Thread nD τ) bd rfl (by decide)) $$ [HX HX2 Hv]
  · isplitl [HX]; · iexact HX
    isplitl [HX2]; · iexact HX2
    iexact Hv
  iintro HF
  iapply (wp_done 𝒱 (c.tc : Thread nD τ) bd)
  iapply Hk
  isplitl [HA HS]
  · isplitl [HA]; · iexact HA
    iexact HS
  isplitl [HW]; · iexact HW
  isplitl [HN]; · iexact HN
  iexact HF

theorem part19 {Q : PUnit → sProp (MT nD τ sig Unit (Elt F) ℕ (Pipeline.UD sig nD τ) ℕ)} :
    iprop(Slot (c.tc : Thread nD τ) arg13 arg19 (1 % 3) ∗ WN arg4 c K q₄ 1 ∗ CI arg5 arg7 arg15 arg21 arg22 c K q₅ F₇ 0 ∗ CI arg5 arg7 arg15 arg21 arg22 c K q₅ F₇ 1 ∗ CI arg5 arg7 arg15 arg21 arg22 c K q₅ F₇ 2 ∗ CI arg5 arg7 arg15 arg21 arg22 c K q₅ F₇ 3)
      ⊢ iprop((iprop(RW arg4 arg13 arg19 c K q₄ 1 ∗ WN arg4 c K q₄ 2 ∗ C1 arg5 arg7 arg15 arg21 arg22 c K q₅ F₇ 0 ∗ C1 arg5 arg7 arg15 arg21 arg22 c K q₅ F₇ 1 ∗ C1 arg5 arg7 arg15 arg21 arg22 c K q₅ F₇ 2 ∗ C1 arg5 arg7 arg15 arg21 arg22 c K q₅ F₇ 3) -∗ Q ⟨⟩)
        -∗ wp frame (wpE defs 𝒱 (c.tc : Thread nD τ) bd) Set.univ (k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23) Q) := by
  rw [k0_part19_eq_skeleton]
  unfold k0_part19_skel
  iintro ⟨HW, HN, HC0, HC1, HC2, HC3⟩ Hk
  iapply (fill0 arg5 arg7 arg15 arg21 arg22 𝒱 c bd K q₅ F₇ 0
    (fun G => hdma23 𝒱 (c.tc : Thread nD τ) bd _ (256 * 0) (1024 * 0) (4 * (0 % 3) + 0) rfl rfl rfl (sem_eq arg21 _ _ _ _ rfl) (fun i j _ _ => rfl) (by decide))) $$ HC0
  iintro HC0
  iapply (fill0 arg5 arg7 arg15 arg21 arg22 𝒱 c bd K q₅ F₇ 1
    (fun G => hdma23 𝒱 (c.tc : Thread nD τ) bd _ (256 * 0) (1024 * 1) (4 * (0 % 3) + 1) rfl rfl rfl (sem_eq arg21 _ _ _ _ rfl) (fun i j _ _ => rfl) (by decide))) $$ HC1
  iintro HC1
  iapply (fill0 arg5 arg7 arg15 arg21 arg22 𝒱 c bd K q₅ F₇ 2
    (fun G => hdma23 𝒱 (c.tc : Thread nD τ) bd _ (256 * 0) (1024 * 2) (4 * (0 % 3) + 2) rfl rfl rfl (sem_eq arg21 _ _ _ _ rfl) (fun i j _ _ => rfl) (by decide))) $$ HC2
  iintro HC2
  iapply (fill0 arg5 arg7 arg15 arg21 arg22 𝒱 c bd K q₅ F₇ 3
    (fun G => hdma23 𝒱 (c.tc : Thread nD τ) bd _ (256 * 0) (1024 * 3) (4 * (0 % 3) + 3) rfl rfl rfl (sem_eq arg21 _ _ _ _ rfl) (fun i j _ _ => rfl) (by decide))) $$ HC3
  iintro HC3
  iapply (fillW arg4 arg13 arg19 𝒱 c bd K q₄ 1 (by omega)
    (fun G => hdma23 𝒱 (c.tc : Thread nD τ) bd _ (256 * 1) 0 (1 % 3) rfl rfl rfl (sem_eq arg19 _ _ _ _ rfl) (fun i j _ _ => rfl) (by decide))) $$ [HW HN]
  · isplitl [HW]; · iexact HW
    iexact HN
  iintro ⟨HW, HN⟩
  iapply (wp_done 𝒱 (c.tc : Thread nD τ) bd)
  iapply Hk
  isplitl [HW]; · iexact HW
  isplitl [HN]; · iexact HN
  isplitl [HC0]; · iexact HC0
  isplitl [HC1]; · iexact HC1
  isplitl [HC2]; · iexact HC2
  iexact HC3

theorem part20 {Q : FVec F S1024x4096 .f32 → sProp (MT nD τ sig Unit (Elt F) ℕ (Pipeline.UD sig nD τ) ℕ)} :
    iprop(Slot (c.tc : Thread nD τ) arg13 arg19 (2 % 3) ∗ WN arg4 c K q₄ 2 ∗ C1 arg5 arg7 arg15 arg21 arg22 c K q₅ F₇ 0 ∗ C1 arg5 arg7 arg15 arg21 arg22 c K q₅ F₇ 1 ∗ C1 arg5 arg7 arg15 arg21 arg22 c K q₅ F₇ 2 ∗ C1 arg5 arg7 arg15 arg21 arg22 c K q₅ F₇ 3 ∗ AW arg16 c)
      ⊢ iprop((iprop(RW arg4 arg13 arg19 c K q₄ 2 ∗ WN arg4 c K q₄ 3 ∗ CH arg5 arg7 arg15 arg21 arg22 c K q₅ F₇ 0 0 ∗ CH arg5 arg7 arg15 arg21 arg22 c K q₅ F₇ 1 0 ∗ CH arg5 arg7 arg15 arg21 arg22 c K q₅ F₇ 2 0 ∗ CH arg5 arg7 arg15 arg21 arg22 c K q₅ F₇ 3 0 ∗ AW arg16 c) -∗ Q (k0_pay24 (F := F)))
        -∗ wp frame (wpE defs 𝒱 (c.tc : Thread nD τ) bd) Set.univ (k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23) Q) := by
  rw [k0_part20_eq_skeleton]
  unfold k0_part20_skel AW
  iintro ⟨HW, HN, HC0, HC1, HC2, HC3, ⟨%G, HA⟩⟩ Hk
  iapply (fill1 arg5 arg7 arg15 arg21 arg22 𝒱 c bd K q₅ F₇ 0
    (fun G => hdma23 𝒱 (c.tc : Thread nD τ) bd _ (256 * 1) (1024 * 0) (4 * (1 % 3) + 0) rfl rfl rfl (sem_eq arg21 _ _ _ _ rfl) (fun i j _ _ => rfl) (by decide))) $$ HC0
  iintro HC0
  iapply (fill1 arg5 arg7 arg15 arg21 arg22 𝒱 c bd K q₅ F₇ 1
    (fun G => hdma23 𝒱 (c.tc : Thread nD τ) bd _ (256 * 1) (1024 * 1) (4 * (1 % 3) + 1) rfl rfl rfl (sem_eq arg21 _ _ _ _ rfl) (fun i j _ _ => rfl) (by decide))) $$ HC1
  iintro HC1
  iapply (fill1 arg5 arg7 arg15 arg21 arg22 𝒱 c bd K q₅ F₇ 2
    (fun G => hdma23 𝒱 (c.tc : Thread nD τ) bd _ (256 * 1) (1024 * 2) (4 * (1 % 3) + 2) rfl rfl rfl (sem_eq arg21 _ _ _ _ rfl) (fun i j _ _ => rfl) (by decide))) $$ HC2
  iintro HC2
  iapply (fill1 arg5 arg7 arg15 arg21 arg22 𝒱 c bd K q₅ F₇ 3
    (fun G => hdma23 𝒱 (c.tc : Thread nD τ) bd _ (256 * 1) (1024 * 3) (4 * (1 % 3) + 3) rfl rfl rfl (sem_eq arg21 _ _ _ _ rfl) (fun i j _ _ => rfl) (by decide))) $$ HC3
  iintro HC3
  iapply (fillW arg4 arg13 arg19 𝒱 c bd K q₄ 2 (by omega)
    (fun G => hdma23 𝒱 (c.tc : Thread nD τ) bd _ (256 * 2) 0 (2 % 3) rfl rfl rfl (sem_eq arg19 _ _ _ _ rfl) (fun i j _ _ => rfl) (by decide))) $$ [HW HN]
  · isplitl [HW]; · iexact HW
    iexact HN
  iintro ⟨HW, HN⟩
  iapply (hload2 𝒱 (c.tc : Thread nD τ) bd 0 (0) rfl rfl ⟨by omega, by omega⟩ ⟨by omega, by omega⟩) $$ HA
  iintro HA
  iapply (wp_done 𝒱 (c.tc : Thread nD τ) bd)
  iapply Hk
  isplitl [HW]; · iexact HW
  isplitl [HN]; · iexact HN
  isplitl [HC0]; · iexact HC0
  isplitl [HC1]; · iexact HC1
  isplitl [HC2]; · iexact HC2
  isplitl [HC3]; · iexact HC3
  iexists G; iexact HA

theorem part21 {Q : (Σ' (v131 : FVec F S1x1 .f32) (v157 : FVec F S1x1 .f32), IVec S1x1 32) → sProp (MT nD τ sig Unit (Elt F) ℕ (Pipeline.UD sig nD τ) ℕ)} :
    iprop(AW arg16 c ∗ B1 arg2 arg11 arg17 c K.dy q₂ 16 0 ∗ ∃ W, owes (c.tc : Thread nD τ) 0 W)
      ⊢ iprop((iprop(H2 (c.tc : Thread nD τ) arg16 fullShare 0 1024 0 4096 (accF K 0) ∗ B1 arg2 arg11 arg17 c K.dy q₂ 0 16 ∗ ∃ W, owes (c.tc : Thread nD τ) 0 W) -∗ Q ⟨k0_pay27 (amF K.dy 16), k0_pay29 (amF K.dy 16), k0_pay30 (amF K.dy 16)⟩)
        -∗ wp frame (wpE defs 𝒱 (c.tc : Thread nD τ) bd) Set.univ (k0_part21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 (k0_pay24 (F := F))) Q) := by
  rw [k0_part21_eq_skeleton]
  unfold k0_part21_skel AW
  iintro ⟨⟨%G, HA⟩, HB, HO⟩ Hk
  iapply (hstore2 𝒱 (c.tc : Thread nD τ) bd (accF K 0) 0 0 rfl rfl ⟨by omega, by omega⟩ ⟨by omega, by omega⟩ (fun y => by rw [Nat.zero_add, Nat.zero_add]; exact lift2_val (n := 1024) (m := 4096) _ y) (fun i j _ _ _ _ _ => by omega)) $$ HA
  iintro HA
  iapply (Scf.wp_for_bind _ _ _ _ _ _ _ _ _ (fun n m => I1 arg2 arg11 arg17 c K.dy q₂ n m)
    (fun t m => t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K.dy q₂ t k0_pay24 m)) $$ [HB HO]
  · unfold I1
    isplitr
    · ipureintro; rfl
    isplitl [HB]; · iexact HB
    iexact HO
  unfold I1
  iintro %m ⟨%hm, HB, HO⟩
  have hm' : m = amF K.dy 16 := hm
  subst hm'
  iapply (wp_done 𝒱 (c.tc : Thread nD τ) bd)
  iapply Hk
  isplitl [HA]; · iexact HA
  isplitl [HB]; · iexact HB
  iexact HO

end Cert.KernelIdeal.Hand
-- ==== Proof.KITail.lean ====
/-
  The program from the end of the first loop on: the scalar results, the second loop, the gradient of the activations scaled,
  rounded and carried out in eight bands, and the last waits.
-/
module

public import proofs.«01_k».proof.Proof.KIPre

@[expose] public section

set_option maxRecDepth 16384

noncomputable section

namespace Cert.KernelIdeal.Hand

open Cert.KernelIdeal Cert.KernelIdeal.Gen Cert.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (arg0 : Memref sig .tc .smem S1x1 .f32) (harg0 : arg0.IsWhole) (arg1 : Memref sig .tc .smem S1x1 .f32) (harg1 : arg1.IsWhole)
  (arg2 : Memref sig .tc .hbm S1024x11008 .bf16) (harg2 : arg2.IsWhole) (arg3 : Memref sig .tc .hbm S1024x4096 .fp8e4m3) (harg3 : arg3.IsWhole)
  (arg4 : Memref sig .tc .hbm S11008x4096 .fp8e4m3) (harg4 : arg4.IsWhole) (arg5 : Memref sig .tc .hbm S11008x4096 .f32) (harg5 : arg5.IsWhole)
  (arg6 : Memref sig .tc .hbm S1024x4096 .bf16) (harg6 : arg6.IsWhole) (arg7 : Memref sig .tc .hbm S11008x4096 .f32) (harg7 : arg7.IsWhole)
  (arg8 : Memref sig .tc .smem S1x1 .f32) (harg8 : arg8.IsWhole) (arg9 : Memref sig .tc .hbm S1024x11008 .fp8e5m2) (harg9 : arg9.IsWhole)
  (arg10 : Memref sig .tc .smem S1x1 .f32) (harg10 : arg10.IsWhole) (arg11 : Memref sig .tc .vmem S1024x11008 .bf16) (harg11 : arg11.IsWhole)
  (arg12 : Memref sig .tc .vmem S1024x4096 .fp8e4m3) (harg12 : arg12.IsWhole) (arg13 : Memref sig .tc .vmem S3x256x4096 .fp8e4m3) (harg13 : arg13.IsWhole)
  (arg14 : Memref sig .tc .vmem S2x1024x256 .fp8e5m2) (harg14 : arg14.IsWhole) (arg15 : Memref sig .tc .vmem S12x256x1024 .f32) (harg15 : arg15.IsWhole)
  (arg16 : Memref sig .tc .vmem S1024x4096 .f32) (harg16 : arg16.IsWhole) (arg17 : DmaSems sig S16) (arg18 : DmaSems sig S_) (arg19 : DmaSems sig S3)
  (arg20 : DmaSems sig S2) (arg21 : DmaSems sig S12) (arg22 : DmaSems sig S12) (arg23 : DmaSems sig S8)

variable {defs : Defs nD τ sig (Elt F) Λ₀} (𝒱 : Variants) (c : Dev nD) (bd : Option 𝒱.V)
variable (K : In F) (q₂ q₃ q₄ q₅ q₀ q₁ : PosShare TreeShare) (F₇ : ℕ → ℕ → Elt F .f32) (F₉ : ℕ → ℕ → Elt F .fp8e5m2)
variable (s : FVec F S1x1 .f32) (G₀ G₁ : ℕ → ℕ → Elt F .f32)

/-- The gradient of the activations, by row and column. -/
def dxF (i j : ℕ) : Elt F .bf16 := lift2 (n := 128) (m := 4096) (k0_pay45 s (tile2 128 4096 (accF K 43) (128 * (i / 128)) 0)) (i % 128) j

theorem dxF_at (k : ℕ) (y : S128x4096.Idx) :
    dxF K s (128 * k + (y 0).val) (0 + (y 1).val) = k0_pay45 s (tile2 128 4096 (accF K 43) (128 * k) 0) y := by
  have h0 : (y 0).val < 128 := (y 0).isLt
  unfold dxF
  rw [show (128 * k + (y 0).val) / 128 = k by omega, show (128 * k + (y 0).val) % 128 = (y 0).val by omega, Nat.zero_add]
  exact lift2_val (n := 128) (m := 4096) _ y

/-- The accumulator at the end of the second loop. -/
def A43 : sProp 𝕄 := H2 (c.tc : Thread nD τ) arg16 fullShare 0 1024 0 4096 (accF K 43)

/-- The rows of the result's staging from band `k` on, still the gradient. -/
def XR (k : ℕ) : sProp 𝕄 := H2 (c.tc : Thread nD τ) arg11 fullShare (128 * k) 1024 0 4096 K.dy

/-- The first `k` bands of the result are on their way, `i` are not. -/
def XS (i k : ℕ) : sProp 𝕄 := Sent (c.tc : Thread nD τ) arg11 arg6 arg23 fullShare (dxF K s) 128 4096 1024 i k

/-- The first `k` bands of the result have arrived, `i` more are on their way. -/
def XC (i k : ℕ) : sProp 𝕄 := Come (c.tc : Thread nD τ) arg11 arg6 arg23 fullShare (dxF K s) 128 4096 i k

/-- What a chunk holds at the very end. -/
def CE (n : ℕ) : sProp 𝕄 :=
  iprop(Slot (c.tc : Thread nD τ) arg15 arg22 (4 * (45 % 3) + n) ∗ IS arg21 c n 45 ∗ Slot (c.tc : Thread nD τ) arg15 arg21 (4 * (43 % 3) + n)
    ∗ Slot (c.tc : Thread nD τ) arg15 arg21 (4 * (44 % 3) + n) ∗ OS arg22 c n 43 ∗ OS arg22 c n 44
    ∗ H2 (c.tc : Thread nD τ) arg5 q₅ 0 11008 (1024 * n) (1024 * n + 1024) K.mg
    ∗ H2 (c.tc : Thread nD τ) arg7 fullShare 0 11008 (1024 * n) (1024 * n + 1024) (moF K))

section

variable {α : Type} {Q : α → sProp (MT nD τ sig Unit (Elt F) ℕ (Pipeline.UD sig nD τ) ℕ)} (n k : ℕ)

/-- The wait for the last block of a chunk. -/
theorem chEnd {κ' : Kind} {sp' : Space} {s₁ s₂ : Shape} {e' : EltTy}
    {sem : DmaSem sig} {srcw : Memref sig .tc .vmem s₁ e'} {dstw : Memref sig κ' sp' s₂ e'} {hsrc : srcw.view.WordExact} {hdst : dstw.view.WordExact}
    {kk : PUnit → Prog (TpuEff nD τ sig (Elt F) Λ₀ .tc) α}
    (hsm : sem = semAt arg22 (4 * (45 % 3) + n)) (hN : dstw.view.dmaCredit = cr arg7 ⟨2, ![256, 1024]⟩) :
    iprop(CH arg5 arg7 arg15 arg21 arg22 c K q₅ F₇ n 43 ∗ ∃ W, owes (c.tc : Thread nD τ) 0 W)
      ⊢ iprop((iprop(CE arg5 arg7 arg15 arg21 arg22 c K q₅ n ∗ ∃ W, owes (c.tc : Thread nD τ) 0 W) -∗ wp frame (wpE defs 𝒱 (c.tc : Thread nD τ) bd) Set.univ (kk ⟨⟩) Q)
        -∗ wp frame (wpE defs 𝒱 (c.tc : Thread nD τ) bd) Set.univ (.op (.waitDma2 sem srcw dstw hsrc hdst) kk) Q) := by
  unfold CH C0 CE RO RI RoleOut RoleIn MOD MGD Slot
  rw [if_pos (by omega), if_neg (by omega), if_neg (by omega)]
  iintro ⟨⟨HF, HD, HS, _, ⟨H1, HG, Ho1, _, H2, Ho2⟩⟩, HO⟩ Hk
  iapply (wp_hwait 𝒱 (c.tc : Thread nD τ) bd hsm hN) $$ [HF HO]
  · isplitl [HF]; · iexact HF
    iexact HO
  iintro ⟨⟨HB, HT⟩, Hv, HO⟩
  iapply Hk
  isplitr [HO]
  · isplitl [HT Hv]
    · isplitl [HT]
      · iexists _; iexact HT
      iexact Hv
    isplitl [HS]; · iexact HS
    isplitl [H1]; · iexact H1
    isplitl [H2]; · iexact H2
    isplitl [Ho1]; · iexact Ho1
    isplitl [Ho2]; · iexact Ho2
    isplitl [HG]; · iexact HG
    iapply (H2_joinRows (r₁ := 256 * 42) (by omega) (by omega) (fun _ _ _ _ _ _ => rfl) (fun _ _ _ _ _ _ => rfl))
    isplitl [HD]; · iexact HD
    iexact HB
  iexact HO

/-- The wait for a block of the codes. -/
theorem cdEnd {κ' : Kind} {sp' : Space} {s₁ s₂ : Shape} {e' : EltTy} (o : ℕ)
    {sem : DmaSem sig} {srcw : Memref sig .tc .vmem s₁ e'} {dstw : Memref sig κ' sp' s₂ e'} {hsrc : srcw.view.WordExact} {hdst : dstw.view.WordExact}
    {kk : PUnit → Prog (TpuEff nD τ sig (Elt F) Λ₀ .tc) α}
    (hsm : sem = semAt arg20 ((o + 2) % 2)) (hN : dstw.view.dmaCredit = cr arg9 ⟨2, ![1024, 256]⟩) :
    iprop(RC arg9 arg14 arg20 c K (o + 2) ∗ CD arg9 c K o ∗ ∃ W, owes (c.tc : Thread nD τ) 0 W)
      ⊢ iprop((iprop(Slot (c.tc : Thread nD τ) arg14 arg20 ((o + 2) % 2) ∗ CD arg9 c K (o + 1) ∗ ∃ W, owes (c.tc : Thread nD τ) 0 W) -∗ wp frame (wpE defs 𝒱 (c.tc : Thread nD τ) bd) Set.univ (kk ⟨⟩) Q)
        -∗ wp frame (wpE defs 𝒱 (c.tc : Thread nD τ) bd) Set.univ (.op (.waitDma2 sem srcw dstw hsrc hdst) kk) Q) := by
  unfold RC RoleOutH CD Slot
  rw [if_pos (by omega), Nat.add_sub_cancel, Nat.mul_succ]
  iintro ⟨⟨HF, HL⟩, HD, HO⟩ Hk
  iapply (wp_hwait 𝒱 (c.tc : Thread nD τ) bd hsm hN) $$ [HF HO]
  · isplitl [HF]; · iexact HF
    iexact HO
  iintro ⟨⟨HB, HT⟩, Hv, HO⟩
  iapply Hk
  isplitl [HT HL Hv]
  · isplitl [HT HL]
    · iexists _
      iapply H3_rejoin
      isplitl [HL] <;> iassumption
    iexact Hv
  isplitl [HB HD]
  · iapply (H2_joinCols (Nat.zero_le _) (Nat.le_add_right _ _) (fun _ _ _ _ _ _ => rfl) (fun _ _ _ _ _ _ => rfl))
    isplitl [HD]; · iexact HD
    iexact HB
  iexact HO

/-- The store of a band of the result. -/
theorem dxStore {off : Fin 2 → ℕ} {hb : ∀ i, off i + S128x4096.size i ≤ S1024x11008.size i} {w : S128x4096.Idx → Elt F .bf16} {hx hm}
    {kk : PUnit → Prog (TpuEff nD τ sig (Elt F) Λ₀ .tc) α} (h₀ : off 0 = 128 * k) (h₁ : off 1 = 0) (hk : k < 8)
    (hw : w = k0_pay45 s (tile2 128 4096 (accF K 43) (128 * k) 0)) :
    XR arg11 c K k
      ⊢ iprop((iprop(H2 (c.tc : Thread nD τ) arg11 fullShare (128 * k) (128 * k + 128) 0 4096 (dxF K s) ∗ XR arg11 c K (k + 1)) -∗ wp frame (wpE defs 𝒱 (c.tc : Thread nD τ) bd) Set.univ (kk ⟨⟩) Q)
        -∗ wp frame (wpE defs 𝒱 (c.tc : Thread nD τ) bd) Set.univ (.op (.store arg11 (Rect.unit (s := S1024x11008) off S128x4096.size hb) w Finset.univ hx hm) kk) Q) := by
  unfold XR
  rw [Nat.mul_succ]
  iintro H Hk
  ihave H := (H2_rows (128 * k + 128) (by omega) (by omega)) $$ H
  icases H with ⟨H, HR⟩
  iapply (hstore2 (n := 128) (m := 4096) 𝒱 (c.tc : Thread nD τ) bd (dxF K s) (128 * k) 0 h₀ h₁ ⟨by omega, by omega⟩ ⟨by omega, by omega⟩
    (fun y => (dxF_at K s k y).trans (congrFun hw.symm y)) (fun i j _ _ _ _ _ => by omega)) $$ H
  iintro H
  iapply Hk
  isplitl [H]; · iexact H
  iexact HR

end

theorem part23 (v191 : FVec F S128x4096 .bf16) (v192 : Vec F S128x4096 .bf16) (h191 : k0_pay39 v191 = k0_pay45 s (tile2 128 4096 (accF K 43) (128 * 1) 0)) {Q : Vec F S128x4096 .f32 → sProp (MT nD τ sig Unit (Elt F) ℕ (Pipeline.UD sig nD τ) ℕ)} :
    iprop(XR arg11 c K 1 ∗ XS arg6 arg11 arg23 c K s 7 1 ∗ A43 arg16 c K)
      ⊢ iprop((iprop(XR arg11 c K 4 ∗ XS arg6 arg11 arg23 c K s 4 4 ∗ A43 arg16 c K) -∗ Q (tile2 128 4096 (accF K 43) (128 * 4) 0))
        -∗ wp frame (wpE defs 𝒱 (c.tc : Thread nD τ) bd) Set.univ (k0_part23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 s v191 v192) Q) := by
  rw [k0_part23_eq_skeleton]
  unfold k0_part23_skel A43 XS
  iintro ⟨HX, HS, HA⟩ Hk
  iapply (dxStore arg11 𝒱 c bd K s 1 rfl rfl (by omega) h191) $$ [HX]
  · unfold XR; iexact HX
  iintro ⟨HB, HX⟩
  iapply (bandStart 𝒱 (c.tc : Thread nD τ) bd (Ms := arg11) (Md := arg6) (n := 128) (w := 4096) (q := fullShare) (F := dxF K s) (l := 1024) (i := 6) 1 rfl rfl rfl rfl (sem_eq arg23 _ _ _ _ rfl) (by omega) (by decide)) $$ [HB HS]
  · isplitl [HB]; · iexact HB
    iexact HS
  iintro HS
  iapply (hload2 𝒱 (c.tc : Thread nD τ) bd (128 * 2) (0) rfl rfl ⟨by omega, by omega⟩ ⟨by omega, by omega⟩) $$ HA
  iintro HA
  unfold XR
  iapply (hload2 𝒱 (c.tc : Thread nD τ) bd (128 * 2) (0) rfl rfl ⟨by omega, by omega⟩ ⟨by omega, by omega⟩) $$ HX
  iintro HX
  iapply (dxStore arg11 𝒱 c bd K s 2 rfl rfl (by omega) rfl) $$ [HX]
  · unfold XR; iexact HX
  iintro ⟨HB, HX⟩
  iapply (bandStart 𝒱 (c.tc : Thread nD τ) bd (Ms := arg11) (Md := arg6) (n := 128) (w := 4096) (q := fullShare) (F := dxF K s) (l := 1024) (i := 5) 2 rfl rfl rfl rfl (sem_eq arg23 _ _ _ _ rfl) (by omega) (by decide)) $$ [HB HS]
  · isplitl [HB]; · iexact HB
    iexact HS
  iintro HS
  iapply (hload2 𝒱 (c.tc : Thread nD τ) bd (128 * 3) (0) rfl rfl ⟨by omega, by omega⟩ ⟨by omega, by omega⟩) $$ HA
  iintro HA
  unfold XR
  iapply (hload2 𝒱 (c.tc : Thread nD τ) bd (128 * 3) (0) rfl rfl ⟨by omega, by omega⟩ ⟨by omega, by omega⟩) $$ HX
  iintro HX
  iapply (dxStore arg11 𝒱 c bd K s 3 rfl rfl (by omega) rfl) $$ [HX]
  · unfold XR; iexact HX
  iintro ⟨HB, HX⟩
  iapply (bandStart 𝒱 (c.tc : Thread nD τ) bd (Ms := arg11) (Md := arg6) (n := 128) (w := 4096) (q := fullShare) (F := dxF K s) (l := 1024) (i := 4) 3 rfl rfl rfl rfl (sem_eq arg23 _ _ _ _ rfl) (by omega) (by decide)) $$ [HB HS]
  · isplitl [HB]; · iexact HB
    iexact HS
  iintro HS
  iapply (hload2 𝒱 (c.tc : Thread nD τ) bd (128 * 4) (0) rfl rfl ⟨by omega, by omega⟩ ⟨by omega, by omega⟩) $$ HA
  iintro HA
  iapply (wp_done 𝒱 (c.tc : Thread nD τ) bd)
  iapply Hk
  isplitl [HX]; · unfold XR; iexact HX
  isplitl [HS]; · iexact HS
  iexact HA

theorem part24 {Q : PUnit → sProp (MT nD τ sig Unit (Elt F) ℕ (Pipeline.UD sig nD τ) ℕ)} :
    iprop(XR arg11 c K 4 ∗ XS arg6 arg11 arg23 c K s 4 4 ∗ A43 arg16 c K)
      ⊢ iprop((iprop(H2 (c.tc : Thread nD τ) arg11 fullShare (128 * 6) (128 * 6 + 128) 0 4096 (dxF K s) ∗ XR arg11 c K 7 ∗ XS arg6 arg11 arg23 c K s 2 6 ∗ A43 arg16 c K) -∗ Q ⟨⟩)
        -∗ wp frame (wpE defs 𝒱 (c.tc : Thread nD τ) bd) Set.univ (k0_part24 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 s (tile2 128 4096 (accF K 43) (128 * 4) 0)) Q) := by
  rw [k0_part24_eq_skeleton]
  unfold k0_part24_skel A43 XS
  iintro ⟨HX, HS, HA⟩ Hk
  unfold XR
  iapply (hload2 𝒱 (c.tc : Thread nD τ) bd (128 * 4) (0) rfl rfl ⟨by omega, by omega⟩ ⟨by omega, by omega⟩) $$ HX
  iintro HX
  iapply (dxStore arg11 𝒱 c bd K s 4 rfl rfl (by omega) rfl) $$ [HX]
  · unfold XR; iexact HX
  iintro ⟨HB, HX⟩
  iapply (bandStart 𝒱 (c.tc : Thread nD τ) bd (Ms := arg11) (Md := arg6) (n := 128) (w := 4096) (q := fullShare) (F := dxF K s) (l := 1024) (i := 3) 4 rfl rfl rfl rfl (sem_eq arg23 _ _ _ _ rfl) (by omega) (by decide)) $$ [HB HS]
  · isplitl [HB]; · iexact HB
    iexact HS
  iintro HS
  iapply (hload2 𝒱 (c.tc : Thread nD τ) bd (128 * 5) (0) rfl rfl ⟨by omega, by omega⟩ ⟨by omega, by omega⟩) $$ HA
  iintro HA
  unfold XR
  iapply (hload2 𝒱 (c.tc : Thread nD τ) bd (128 * 5) (0) rfl rfl ⟨by omega, by omega⟩ ⟨by omega, by omega⟩) $$ HX
  iintro HX
  iapply (dxStore arg11 𝒱 c bd K s 5 rfl rfl (by omega) rfl) $$ [HX]
  · unfold XR; iexact HX
  iintro ⟨HB, HX⟩
  iapply (bandStart 𝒱 (c.tc : Thread nD τ) bd (Ms := arg11) (Md := arg6) (n := 128) (w := 4096) (q := fullShare) (F := dxF K s) (l := 1024) (i := 2) 5 rfl rfl rfl rfl (sem_eq arg23 _ _ _ _ rfl) (by omega) (by decide)) $$ [HB HS]
  · isplitl [HB]; · iexact HB
    iexact HS
  iintro HS
  iapply (hload2 𝒱 (c.tc : Thread nD τ) bd (128 * 6) (0) rfl rfl ⟨by omega, by omega⟩ ⟨by omega, by omega⟩) $$ HA
  iintro HA
  unfold XR
  iapply (hload2 𝒱 (c.tc : Thread nD τ) bd (128 * 6) (0) rfl rfl ⟨by omega, by omega⟩ ⟨by omega, by omega⟩) $$ HX
  iintro HX
  iapply (dxStore arg11 𝒱 c bd K s 6 rfl rfl (by omega) rfl) $$ [HX]
  · unfold XR; iexact HX
  iintro ⟨HB, HX⟩
  iapply (wp_done 𝒱 (c.tc : Thread nD τ) bd)
  iapply Hk
  isplitl [HB]; · iexact HB
  isplitl [HX]; · unfold XR; iexact HX
  isplitl [HS]; · iexact HS
  iexact HA

theorem part25 {Q : PUnit → sProp (MT nD τ sig Unit (Elt F) ℕ (Pipeline.UD sig nD τ) ℕ)} :
    iprop(H2 (c.tc : Thread nD τ) arg11 fullShare (128 * 6) (128 * 6 + 128) 0 4096 (dxF K s) ∗ XR arg11 c K 7 ∗ XS arg6 arg11 arg23 c K s 2 6 ∗ A43 arg16 c K ∗ CH arg5 arg7 arg15 arg21 arg22 c K q₅ F₇ 0 43 ∗ CH arg5 arg7 arg15 arg21 arg22 c K q₅ F₇ 1 43 ∗ ∃ W, owes (c.tc : Thread nD τ) 0 W)
      ⊢ iprop((iprop(XC arg6 arg11 arg23 c K s 8 0 ∗ A43 arg16 c K ∗ CE arg5 arg7 arg15 arg21 arg22 c K q₅ 0 ∗ CE arg5 arg7 arg15 arg21 arg22 c K q₅ 1 ∗ ∃ W, owes (c.tc : Thread nD τ) 0 W) -∗ Q ⟨⟩)
        -∗ wp frame (wpE defs 𝒱 (c.tc : Thread nD τ) bd) Set.univ (k0_part25 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 s) Q) := by
  rw [k0_part25_eq_skeleton]
  unfold k0_part25_skel A43 XS XC
  iintro ⟨HB, HX, HS, HA, HC0, HC1, HO⟩ Hk
  iapply (bandStart 𝒱 (c.tc : Thread nD τ) bd (Ms := arg11) (Md := arg6) (n := 128) (w := 4096) (q := fullShare) (F := dxF K s) (l := 1024) (i := 1) 6 rfl rfl rfl rfl (sem_eq arg23 _ _ _ _ rfl) (by omega) (by decide)) $$ [HB HS]
  · isplitl [HB]; · iexact HB
    iexact HS
  iintro HS
  iapply (hload2 𝒱 (c.tc : Thread nD τ) bd (128 * 7) (0) rfl rfl ⟨by omega, by omega⟩ ⟨by omega, by omega⟩) $$ HA
  iintro HA
  unfold XR
  iapply (hload2 𝒱 (c.tc : Thread nD τ) bd (128 * 7) (0) rfl rfl ⟨by omega, by omega⟩ ⟨by omega, by omega⟩) $$ HX
  iintro HX
  iapply (dxStore arg11 𝒱 c bd K s 7 rfl rfl (by omega) rfl) $$ [HX]
  · unfold XR; iexact HX
  iintro ⟨HB, HX⟩
  iapply (bandStart 𝒱 (c.tc : Thread nD τ) bd (Ms := arg11) (Md := arg6) (n := 128) (w := 4096) (q := fullShare) (F := dxF K s) (l := 1024) (i := 0) 7 rfl rfl rfl rfl (sem_eq arg23 _ _ _ _ rfl) (by omega) (by decide)) $$ [HB HS]
  · isplitl [HB]; · iexact HB
    iexact HS
  iintro HS
  iapply (chEnd arg5 arg7 arg15 arg21 arg22 𝒱 c bd K q₅ F₇ 0 (sem_eq arg22 _ _ _ _ rfl) rfl) $$ [HC0 HO]
  · isplitl [HC0]; · iexact HC0
    iexact HO
  iintro ⟨HC0, HO⟩
  iapply (chEnd arg5 arg7 arg15 arg21 arg22 𝒱 c bd K q₅ F₇ 1 (sem_eq arg22 _ _ _ _ rfl) rfl) $$ [HC1 HO]
  · isplitl [HC1]; · iexact HC1
    iexact HO
  iintro ⟨HC1, HO⟩
  iapply (wp_done 𝒱 (c.tc : Thread nD τ) bd)
  iapply Hk
  isplitl [HX HS]
  · iapply (Come_of_Sent (hl := (by omega : 1024 ≤ 128 * 8)))
    isplitl [HX]
    · unfold XR
      iapply (H2_void (Or.inl (by omega)) (Or.inl (by omega))) $$ HX
    iexact HS
  isplitl [HA]; · iexact HA
  isplitl [HC0]; · iexact HC0
  isplitl [HC1]; · iexact HC1
  iexact HO

theorem part26 {Q : PUnit → sProp (MT nD τ sig Unit (Elt F) ℕ (Pipeline.UD sig nD τ) ℕ)} :
    iprop(XC arg6 arg11 arg23 c K s 8 0 ∗ CH arg5 arg7 arg15 arg21 arg22 c K q₅ F₇ 2 43 ∗ CH arg5 arg7 arg15 arg21 arg22 c K q₅ F₇ 3 43 ∗ RC arg9 arg14 arg20 c K 43 ∗ RC arg9 arg14 arg20 c K 44 ∗ CD arg9 c K 41 ∗ ∃ W, owes (c.tc : Thread nD τ) 0 W)
      ⊢ iprop((iprop(XC arg6 arg11 arg23 c K s 6 2 ∗ CE arg5 arg7 arg15 arg21 arg22 c K q₅ 2 ∗ CE arg5 arg7 arg15 arg21 arg22 c K q₅ 3 ∗ Slot (c.tc : Thread nD τ) arg14 arg20 (43 % 2) ∗ Slot (c.tc : Thread nD τ) arg14 arg20 (44 % 2) ∗ CD arg9 c K 43 ∗ ∃ W, owes (c.tc : Thread nD τ) 0 W) -∗ Q ⟨⟩)
        -∗ wp frame (wpE defs 𝒱 (c.tc : Thread nD τ) bd) Set.univ (k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23) Q) := by
  rw [k0_part26_eq_skeleton]
  unfold k0_part26_skel XC
  iintro ⟨HX, HC2, HC3, HR1, HR2, HD, HO⟩ Hk
  iapply (chEnd arg5 arg7 arg15 arg21 arg22 𝒱 c bd K q₅ F₇ 2 (sem_eq arg22 _ _ _ _ rfl) rfl) $$ [HC2 HO]
  · isplitl [HC2]; · iexact HC2
    iexact HO
  iintro ⟨HC2, HO⟩
  iapply (chEnd arg5 arg7 arg15 arg21 arg22 𝒱 c bd K q₅ F₇ 3 (sem_eq arg22 _ _ _ _ rfl) rfl) $$ [HC3 HO]
  · isplitl [HC3]; · iexact HC3
    iexact HO
  iintro ⟨HC3, HO⟩
  iapply (cdEnd arg9 arg14 arg20 𝒱 c bd K 41 (sem_eq arg20 _ _ _ _ rfl) rfl) $$ [HR1 HD HO]
  · isplitl [HR1]; · iexact HR1
    isplitl [HD]; · iexact HD
    iexact HO
  iintro ⟨HR1, HD, HO⟩
  iapply (cdEnd arg9 arg14 arg20 𝒱 c bd K 42 (sem_eq arg20 _ _ _ _ rfl) rfl) $$ [HR2 HD HO]
  · isplitl [HR2]; · iexact HR2
    isplitl [HD]; · iexact HD
    iexact HO
  iintro ⟨HR2, HD, HO⟩
  iapply (bandWait 𝒱 (c.tc : Thread nD τ) bd (Ms := arg11) (Md := arg6) (n := 128) (w := 4096) (q := fullShare) (F := dxF K s) (i := 7) 0 (sem_eq arg23 _ _ _ _ rfl) rfl) $$ [HX HO]
  · isplitl [HX]; · iexact HX
    iexact HO
  iintro ⟨HX, HO⟩
  iapply (bandWait 𝒱 (c.tc : Thread nD τ) bd (Ms := arg11) (Md := arg6) (n := 128) (w := 4096) (q := fullShare) (F := dxF K s) (i := 6) 1 (sem_eq arg23 _ _ _ _ rfl) rfl) $$ [HX HO]
  · isplitl [HX]; · iexact HX
    iexact HO
  iintro ⟨HX, HO⟩
  iapply (wp_done 𝒱 (c.tc : Thread nD τ) bd)
  iapply Hk
  isplitl [HX]; · iexact HX
  isplitl [HC2]; · iexact HC2
  isplitl [HC3]; · iexact HC3
  isplitl [HR1]; · iexact HR1
  isplitl [HR2]; · iexact HR2
  isplitl [HD]; · iexact HD
  iexact HO

/-- What the second loop takes at its head besides the activations. -/
def J0 : sProp 𝕄 :=
  iprop(RC arg9 arg14 arg20 c K 0 ∗ RC arg9 arg14 arg20 c K 1 ∗ CD arg9 c K 0 ∗ CN arg9 c F₉ 0 ∗ DY arg11 c K ∗ RW arg4 arg13 arg19 c K q₄ 0 ∗ RW arg4 arg13 arg19 c K q₄ 1 ∗ RW arg4 arg13 arg19 c K q₄ 2 ∗ WD arg4 c K q₄ 0 ∗ WN arg4 c K q₄ 3 ∗ AC arg16 c K 0 0 ∗ AC arg16 c K 1 0 ∗ AC arg16 c K 2 0 ∗ AC arg16 c K 3 0 ∗ AC arg16 c K 4 0 ∗ AC arg16 c K 5 0 ∗ AC arg16 c K 6 0 ∗ AC arg16 c K 7 0 ∗ CH arg5 arg7 arg15 arg21 arg22 c K q₅ F₇ 0 0 ∗ CH arg5 arg7 arg15 arg21 arg22 c K q₅ F₇ 1 0 ∗ CH arg5 arg7 arg15 arg21 arg22 c K q₅ F₇ 2 0 ∗ CH arg5 arg7 arg15 arg21 arg22 c K q₅ F₇ 3 0)

/-- What the second loop leaves besides the gradient's copy and the accumulator. -/
def J43 : sProp 𝕄 :=
  iprop(RC arg9 arg14 arg20 c K 43 ∗ RC arg9 arg14 arg20 c K 44 ∗ CD arg9 c K 41 ∗ RW arg4 arg13 arg19 c K q₄ 43 ∗ RW arg4 arg13 arg19 c K q₄ 44 ∗ RW arg4 arg13 arg19 c K q₄ 45 ∗ WD arg4 c K q₄ 43 ∗ XV arg12 c K ∗ CH arg5 arg7 arg15 arg21 arg22 c K q₅ F₇ 0 43 ∗ CH arg5 arg7 arg15 arg21 arg22 c K q₅ F₇ 1 43 ∗ CH arg5 arg7 arg15 arg21 arg22 c K q₅ F₇ 2 43 ∗ CH arg5 arg7 arg15 arg21 arg22 c K q₅ F₇ 3 43)

theorem acJoin : iprop(AC arg16 c K 0 43 ∗ AC arg16 c K 1 43 ∗ AC arg16 c K 2 43 ∗ AC arg16 c K 3 43 ∗ AC arg16 c K 4 43 ∗ AC arg16 c K 5 43 ∗ AC arg16 c K 6 43 ∗ AC arg16 c K 7 43) ⊢ (A43 arg16 c K : sProp 𝕄) := by
  unfold AC A43
  have J : ∀ n, n < 8 → iprop(H2 (c.tc : Thread nD τ) arg16 fullShare 0 1024 0 (512 * n) (accF K 43) ∗ H2 (c.tc : Thread nD τ) arg16 fullShare 0 1024 (512 * n) (512 * n + 512) (accF K 43))
      ⊢ (H2 (c.tc : Thread nD τ) arg16 fullShare 0 1024 0 (512 * (n + 1)) (accF K 43) : sProp 𝕄) := fun n _ =>
    H2_joinCols (Nat.zero_le _) (Nat.le_add_right _ _) (fun _ _ _ _ _ _ => rfl) (fun _ _ _ _ _ _ => rfl)
  iintro ⟨H0, H1, H2, H3, H4, H5, H6, H7⟩
  ihave H1 := (J 1 (by omega)) $$ [H0 H1]
  · isplitl [H0]; · iexact H0
    iexact H1
  ihave H2 := (J 2 (by omega)) $$ [H1 H2]
  · isplitl [H1]; · iexact H1
    iexact H2
  ihave H3 := (J 3 (by omega)) $$ [H2 H3]
  · isplitl [H2]; · iexact H2
    iexact H3
  ihave H4 := (J 4 (by omega)) $$ [H3 H4]
  · isplitl [H3]; · iexact H3
    iexact H4
  ihave H5 := (J 5 (by omega)) $$ [H4 H5]
  · isplitl [H4]; · iexact H4
    iexact H5
  ihave H6 := (J 6 (by omega)) $$ [H5 H6]
  · isplitl [H5]; · iexact H5
    iexact H6
  ihave H7 := (J 7 (by omega)) $$ [H6 H7]
  · isplitl [H6]; · iexact H6
    iexact H7
  iexact H7

theorem acSplit : H2 (c.tc : Thread nD τ) arg16 fullShare 0 1024 0 4096 (accF K 0) ⊢ (iprop(AC arg16 c K 0 0 ∗ AC arg16 c K 1 0 ∗ AC arg16 c K 2 0 ∗ AC arg16 c K 3 0 ∗ AC arg16 c K 4 0 ∗ AC arg16 c K 5 0 ∗ AC arg16 c K 6 0 ∗ AC arg16 c K 7 0) : sProp 𝕄) := by
  unfold AC
  have J : ∀ n, n < 8 → H2 (c.tc : Thread nD τ) arg16 fullShare 0 1024 (512 * n) 4096 (accF K 0)
      ⊢ (iprop(H2 (c.tc : Thread nD τ) arg16 fullShare 0 1024 (512 * n) (512 * n + 512) (accF K 0) ∗ H2 (c.tc : Thread nD τ) arg16 fullShare 0 1024 (512 * (n + 1)) 4096 (accF K 0)) : sProp 𝕄) := fun n _ =>
    H2_cols (512 * n + 512) (by omega) (by omega)
  iintro H
  ihave H := (J 0 (by omega)) $$ H
  icases H with ⟨H0, H⟩
  ihave H := (J 1 (by omega)) $$ H
  icases H with ⟨H1, H⟩
  ihave H := (J 2 (by omega)) $$ H
  icases H with ⟨H2, H⟩
  ihave H := (J 3 (by omega)) $$ H
  icases H with ⟨H3, H⟩
  ihave H := (J 4 (by omega)) $$ H
  icases H with ⟨H4, H⟩
  ihave H := (J 5 (by omega)) $$ H
  icases H with ⟨H5, H⟩
  ihave H := (J 6 (by omega)) $$ H
  icases H with ⟨H6, H⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H

end Cert.KernelIdeal.Hand
-- ==== Proof.KIMid.lean ====
/-
  The scalar results, the second loop and the first band of the result.
-/
module

public import proofs.«01_k».proof.Proof.KITail

@[expose] public section

set_option maxRecDepth 16384

noncomputable section

namespace Cert.KernelIdeal.Hand

open Cert.KernelIdeal Cert.KernelIdeal.Gen Cert.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (arg0 : Memref sig .tc .smem S1x1 .f32) (harg0 : arg0.IsWhole) (arg1 : Memref sig .tc .smem S1x1 .f32) (harg1 : arg1.IsWhole)
  (arg2 : Memref sig .tc .hbm S1024x11008 .bf16) (harg2 : arg2.IsWhole) (arg3 : Memref sig .tc .hbm S1024x4096 .fp8e4m3) (harg3 : arg3.IsWhole)
  (arg4 : Memref sig .tc .hbm S11008x4096 .fp8e4m3) (harg4 : arg4.IsWhole) (arg5 : Memref sig .tc .hbm S11008x4096 .f32) (harg5 : arg5.IsWhole)
  (arg6 : Memref sig .tc .hbm S1024x4096 .bf16) (harg6 : arg6.IsWhole) (arg7 : Memref sig .tc .hbm S11008x4096 .f32) (harg7 : arg7.IsWhole)
  (arg8 : Memref sig .tc .smem S1x1 .f32) (harg8 : arg8.IsWhole) (arg9 : Memref sig .tc .hbm S1024x11008 .fp8e5m2) (harg9 : arg9.IsWhole)
  (arg10 : Memref sig .tc .smem S1x1 .f32) (harg10 : arg10.IsWhole) (arg11 : Memref sig .tc .vmem S1024x11008 .bf16) (harg11 : arg11.IsWhole)
  (arg12 : Memref sig .tc .vmem S1024x4096 .fp8e4m3) (harg12 : arg12.IsWhole) (arg13 : Memref sig .tc .vmem S3x256x4096 .fp8e4m3) (harg13 : arg13.IsWhole)
  (arg14 : Memref sig .tc .vmem S2x1024x256 .fp8e5m2) (harg14 : arg14.IsWhole) (arg15 : Memref sig .tc .vmem S12x256x1024 .f32) (harg15 : arg15.IsWhole)
  (arg16 : Memref sig .tc .vmem S1024x4096 .f32) (harg16 : arg16.IsWhole) (arg17 : DmaSems sig S16) (arg18 : DmaSems sig S_) (arg19 : DmaSems sig S3)
  (arg20 : DmaSems sig S2) (arg21 : DmaSems sig S12) (arg22 : DmaSems sig S12) (arg23 : DmaSems sig S8)

variable {defs : Defs nD τ sig (Elt F) Λ₀} (𝒱 : Variants) (c : Dev nD) (bd : Option 𝒱.V)
variable (K : In F) (q₂ q₃ q₄ q₅ q₀ q₁ : PosShare TreeShare) (F₇ : ℕ → ℕ → Elt F .f32) (F₉ : ℕ → ℕ → Elt F .fp8e5m2)
variable (G₀ G₁ : ℕ → ℕ → Elt F .f32)

theorem part22 (v131 : FVec F S1x1 .f32) (hiv : k0_pay31 (F := F) (k0_pay30 (amF K.dy 16)) = K.iv) (hms : k0_pay34 (k0_pay29 (amF K.dy 16)) (G₀ 0 0) = K.ms) {G₈ G₁₀ : ℕ → ℕ → Elt F .f32} {Q : (Σ' (v175 : FVec F S1x1 .f32) (v191 : FVec F S128x4096 .bf16), Vec F S128x4096 .bf16) → sProp (MT nD τ sig Unit (Elt F) ℕ (Pipeline.UD sig nD τ) ℕ)} :
    iprop(H2 (c.tc : Thread nD τ) arg8 fullShare 0 1 0 1 G₈ ∗ H2 (c.tc : Thread nD τ) arg10 fullShare 0 1 0 1 G₁₀ ∗ H2 (c.tc : Thread nD τ) arg0 q₀ 0 1 0 1 G₀ ∗ H2 (c.tc : Thread nD τ) arg1 q₁ 0 1 0 1 G₁ ∗ XF arg3 arg12 arg18 c K q₃ ∗ J0 arg4 arg5 arg7 arg9 arg11 arg13 arg14 arg15 arg16 arg19 arg20 arg21 arg22 c K q₄ q₅ F₇ F₉ ∗ XS arg6 arg11 arg23 c K (k0_pay35 (k0_pay29 (amF K.dy 16)) (G₁ 0 0)) 8 0 ∗ ∃ W, owes (c.tc : Thread nD τ) 0 W)
      ⊢ iprop((iprop(H2 (c.tc : Thread nD τ) arg8 fullShare 0 1 0 1 (fun _ _ => k0_pay32 v131) ∗ H2 (c.tc : Thread nD τ) arg10 fullShare 0 1 0 1 (fun _ _ => k0_pay33 (k0_pay29 (amF K.dy 16))) ∗ H2 (c.tc : Thread nD τ) arg0 q₀ 0 1 0 1 G₀ ∗ H2 (c.tc : Thread nD τ) arg1 q₁ 0 1 0 1 G₁ ∗ H2 (c.tc : Thread nD τ) arg3 q₃ 0 1024 0 4096 K.x ∗ semVal ((c.tc : Thread nD τ), .dma arg18.sem) 0 ∗ J43 arg4 arg5 arg7 arg9 arg12 arg13 arg14 arg15 arg19 arg20 arg21 arg22 c K q₄ q₅ F₇ ∗ A43 arg16 c K ∗ H2 (c.tc : Thread nD τ) arg11 fullShare 0 1024 4096 11008 K.dy ∗ XR arg11 c K 1 ∗ XS arg6 arg11 arg23 c K (k0_pay35 (k0_pay29 (amF K.dy 16)) (G₁ 0 0)) 7 1 ∗ ∃ W, owes (c.tc : Thread nD τ) 0 W) -∗ Q ⟨(k0_pay35 (k0_pay29 (amF K.dy 16)) (G₁ 0 0)), k0_pay38 (k0_pay29 (amF K.dy 16)) (G₁ 0 0) (tile2 128 4096 (accF K 43) (128 * 1) 0), tile2 128 4096 K.dy (128 * 1) 0⟩)
        -∗ wp frame (wpE defs 𝒱 (c.tc : Thread nD τ) bd) Set.univ (k0_part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 v131 (k0_pay29 (amF K.dy 16)) (k0_pay30 (amF K.dy 16))) Q) := by
  rw [k0_part22_eq_skeleton]
  unfold k0_part22_skel XF XS
  iintro ⟨H8, H10, H0, H1, HF, HJ, HS, HO⟩ Hk
  iapply (sload (defs := defs) (Q := Q) (q := fullShare) (G := G₈) 𝒱 (c.tc : Thread nD τ) bd (M := arg8) (off := ![0, 0]) (hb := inb_S1x1_S1x1_0_0) (h1 := numel1_S1x1) (hp := rfl) rfl rfl) $$ H8
  iintro H8
  iapply (hstore2 (e := .f32) (w := fun _ => k0_pay32 v131) (r₀ := 0) (r₁ := 1) (c₀ := 0) (c₁ := 1) (F := G₈) (Q := Q) (defs := defs) (cs := .smem) (M := arg8) (off := ![0, 0]) (hb := inb_S1x1_S1x1_0_0) (n := 1) (m := 1) 𝒱 (c.tc : Thread nD τ) bd (fun _ _ => k0_pay32 v131) 0 0 rfl rfl ⟨by omega, by omega⟩ ⟨by omega, by omega⟩ (fun y => rfl) (fun i j _ _ _ _ _ => by omega)) $$ H8
  iintro H8
  iapply (sload (defs := defs) (Q := Q) (q := fullShare) (G := G₁₀) 𝒱 (c.tc : Thread nD τ) bd (M := arg10) (off := ![0, 0]) (hb := inb_S1x1_S1x1_0_0) (h1 := numel1_S1x1) (hp := rfl) rfl rfl) $$ H10
  iintro H10
  iapply (hstore2 (e := .f32) (w := fun _ => k0_pay33 (k0_pay29 (amF K.dy 16))) (r₀ := 0) (r₁ := 1) (c₀ := 0) (c₁ := 1) (F := G₁₀) (Q := Q) (defs := defs) (cs := .smem) (M := arg10) (off := ![0, 0]) (hb := inb_S1x1_S1x1_0_0) (n := 1) (m := 1) 𝒱 (c.tc : Thread nD τ) bd (fun _ _ => k0_pay33 (k0_pay29 (amF K.dy 16))) 0 0 rfl rfl ⟨by omega, by omega⟩ ⟨by omega, by omega⟩ (fun y => rfl) (fun i j _ _ _ _ _ => by omega)) $$ H10
  iintro H10
  iapply (sload (defs := defs) (Q := Q) (q := q₀) (G := G₀) 𝒱 (c.tc : Thread nD τ) bd (M := arg0) (off := ![0, 0]) (hb := inb_S1x1_S1x1_0_0) (h1 := numel1_S1x1) (hp := rfl) rfl rfl) $$ H0
  iintro H0
  iapply (sload (defs := defs) (Q := Q) (q := q₁) (G := G₁) 𝒱 (c.tc : Thread nD τ) bd (M := arg1) (off := ![0, 0]) (hb := inb_S1x1_S1x1_0_0) (h1 := numel1_S1x1) (hp := rfl) rfl rfl) $$ H1
  iintro H1
  iapply (wp_hwait 𝒱 (c.tc : Thread nD τ) bd rfl rfl) $$ [HF HO]
  · isplitl [HF]; · iexact HF
    iexact HO
  iintro ⟨⟨HX, H3⟩, Hv, HO⟩
  unfold J0
  icases HJ with ⟨HR0, HR1, HCD, HCN, HDY, HW0, HW1, HW2, HWD, HWN, HA0, HA1, HA2, HA3, HA4, HA5, HA6, HA7, HC0, HC1, HC2, HC3⟩
  iapply (Scf.wp_for_bind _ _ _ _ _ _ _ _ _ (fun n _ => I2 arg4 arg5 arg7 arg9 arg11 arg12 arg13 arg14 arg15 arg16 arg19 arg20 arg21 arg22 c K q₄ q₅ F₇ F₉ n)
    (fun t x => t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₄ q₅ F₇ F₉ v131 (k0_pay29 (amF K.dy 16)) (k0_pay30 (amF K.dy 16)) (G₀ 0 0) hiv hms t x)) $$ [HR0 HR1 HCD HCN HDY HW0 HW1 HW2 HWD HWN HA0 HA1 HA2 HA3 HA4 HA5 HA6 HA7 HX HC0 HC1 HC2 HC3 HO]
  · unfold I2 XV
    isplitl [HR0]; · iexact HR0
    isplitl [HR1]; · iexact HR1
    isplitl [HCD]; · iexact HCD
    isplitl [HCN]; · iexact HCN
    isplitl [HDY]; · iexact HDY
    isplitl [HW0]; · iexact HW0
    isplitl [HW1]; · iexact HW1
    isplitl [HW2]; · iexact HW2
    isplitl [HWD]; · iexact HWD
    isplitl [HWN]; · iexact HWN
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HX]; · iexact HX
    isplitl [HC0]; · iexact HC0
    isplitl [HC1]; · iexact HC1
    isplitl [HC2]; · iexact HC2
    isplitl [HC3]; · iexact HC3
    iexact HO
  iintro %u HI
  rw [show Scf.trips k0_t2_loop.lb k0_t2_loop.ub k0_t2_loop.st = 43 by decide +kernel]
  unfold I2
  icases HI with ⟨HR0, HR1, HCD, _, HDY, HW0, HW1, HW2, HWD, _, HA0, HA1, HA2, HA3, HA4, HA5, HA6, HA7, HX5, HC0, HC1, HC2, HC3, HO⟩
  ihave HA := (acJoin arg16 c K) $$ [HA0 HA1 HA2 HA3 HA4 HA5 HA6 HA7]
  · isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    iexact HA7
  unfold A43 DY
  ihave HDY := (H2_cols 4096 (by omega) (by omega)) $$ HDY
  icases HDY with ⟨HX, HY⟩
  iapply (hload2 𝒱 (c.tc : Thread nD τ) bd (128 * 0) (0) rfl rfl ⟨by omega, by omega⟩ ⟨by omega, by omega⟩) $$ HA
  iintro HA
  iapply (hload2 𝒱 (c.tc : Thread nD τ) bd (128 * 0) (0) rfl rfl ⟨by omega, by omega⟩ ⟨by omega, by omega⟩) $$ HX
  iintro HX
  iapply (dxStore arg11 𝒱 c bd K (k0_pay35 (k0_pay29 (amF K.dy 16)) (G₁ 0 0)) 0 rfl rfl (by omega) rfl) $$ [HX]
  · unfold XR; iexact HX
  iintro ⟨HB, HX⟩
  iapply (bandStart 𝒱 (c.tc : Thread nD τ) bd (Ms := arg11) (Md := arg6) (n := 128) (w := 4096) (q := fullShare) (F := dxF K (k0_pay35 (k0_pay29 (amF K.dy 16)) (G₁ 0 0))) (l := 1024) (i := 7) 0 rfl rfl rfl rfl (sem_eq arg23 _ _ _ _ rfl) (by omega) (by decide)) $$ [HB HS]
  · isplitl [HB]; · iexact HB
    iexact HS
  iintro HS
  iapply (hload2 𝒱 (c.tc : Thread nD τ) bd (128 * 1) (0) rfl rfl ⟨by omega, by omega⟩ ⟨by omega, by omega⟩) $$ HA
  iintro HA
  unfold XR
  iapply (hload2 𝒱 (c.tc : Thread nD τ) bd (128 * 1) (0) rfl rfl ⟨by omega, by omega⟩ ⟨by omega, by omega⟩) $$ HX
  iintro HX
  iapply (wp_done 𝒱 (c.tc : Thread nD τ) bd)
  iapply Hk
  isplitl [H8]; · iexact H8
  isplitl [H10]; · iexact H10
  isplitl [H0]; · iexact H0
  isplitl [H1]; · iexact H1
  isplitl [H3]; · iexact H3
  isplitl [Hv]; · iexact Hv
  isplitl [HR0 HR1 HCD HW0 HW1 HW2 HWD HX5 HC0 HC1 HC2 HC3]
  · unfold J43
    isplitl [HR0]; · iexact HR0
    isplitl [HR1]; · iexact HR1
    isplitl [HCD]; · iexact HCD
    isplitl [HW0]; · iexact HW0
    isplitl [HW1]; · iexact HW1
    isplitl [HW2]; · iexact HW2
    isplitl [HWD]; · iexact HWD
    isplitl [HX5]; · iexact HX5
    isplitl [HC0]; · iexact HC0
    isplitl [HC1]; · iexact HC1
    isplitl [HC2]; · iexact HC2
    iexact HC3
  isplitl [HA]; · iexact HA
  isplitl [HY]; · iexact HY
  isplitl [HX]; · iexact HX
  isplitl [HS]; · iexact HS
  iexact HO

end Cert.KernelIdeal.Hand
-- ==== Proof.KIBody.lean ====
/-
  The whole program: from the arrays and the cells as it finds them to the arrays as it leaves them.
-/
module

public import proofs.«01_k».proof.Proof.KIMid

@[expose] public section

set_option maxRecDepth 16384

noncomputable section

namespace Cert.KernelIdeal.Hand

open Cert.KernelIdeal Cert.KernelIdeal.Gen Cert.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (arg0 : Memref sig .tc .smem S1x1 .f32) (harg0 : arg0.IsWhole) (arg1 : Memref sig .tc .smem S1x1 .f32) (harg1 : arg1.IsWhole)
  (arg2 : Memref sig .tc .hbm S1024x11008 .bf16) (harg2 : arg2.IsWhole) (arg3 : Memref sig .tc .hbm S1024x4096 .fp8e4m3) (harg3 : arg3.IsWhole)
  (arg4 : Memref sig .tc .hbm S11008x4096 .fp8e4m3) (harg4 : arg4.IsWhole) (arg5 : Memref sig .tc .hbm S11008x4096 .f32) (harg5 : arg5.IsWhole)
  (arg6 : Memref sig .tc .hbm S1024x4096 .bf16) (harg6 : arg6.IsWhole) (arg7 : Memref sig .tc .hbm S11008x4096 .f32) (harg7 : arg7.IsWhole)
  (arg8 : Memref sig .tc .smem S1x1 .f32) (harg8 : arg8.IsWhole) (arg9 : Memref sig .tc .hbm S1024x11008 .fp8e5m2) (harg9 : arg9.IsWhole)
  (arg10 : Memref sig .tc .smem S1x1 .f32) (harg10 : arg10.IsWhole) (arg11 : Memref sig .tc .vmem S1024x11008 .bf16) (harg11 : arg11.IsWhole)
  (arg12 : Memref sig .tc .vmem S1024x4096 .fp8e4m3) (harg12 : arg12.IsWhole) (arg13 : Memref sig .tc .vmem S3x256x4096 .fp8e4m3) (harg13 : arg13.IsWhole)
  (arg14 : Memref sig .tc .vmem S2x1024x256 .fp8e5m2) (harg14 : arg14.IsWhole) (arg15 : Memref sig .tc .vmem S12x256x1024 .f32) (harg15 : arg15.IsWhole)
  (arg16 : Memref sig .tc .vmem S1024x4096 .f32) (harg16 : arg16.IsWhole) (arg17 : DmaSems sig S16) (arg18 : DmaSems sig S_) (arg19 : DmaSems sig S3)
  (arg20 : DmaSems sig S2) (arg21 : DmaSems sig S12) (arg22 : DmaSems sig S12) (arg23 : DmaSems sig S8)

variable {defs : Defs nD τ sig (Elt F) Λ₀} (𝒱 : Variants) (c : Dev nD) (bd : Option 𝒱.V)
variable (K : In F) (q₂ q₃ q₄ q₅ q₀ q₁ : PosShare TreeShare) (F₇ : ℕ → ℕ → Elt F .f32) (F₉ : ℕ → ℕ → Elt F .fp8e5m2)
variable (s : FVec F S1x1 .f32) (G₀ G₁ G₈ G₁₀ : ℕ → ℕ → Elt F .f32)

theorem set13 : iprop(Hfrom (c.tc : Thread nD τ) arg13 0 ∗ Cells (c.tc : Thread nD τ) arg19 3 0) ⊢ (iprop(Slot (c.tc : Thread nD τ) arg13 arg19 (0 % 3) ∗ Slot (c.tc : Thread nD τ) arg13 arg19 (1 % 3) ∗ Slot (c.tc : Thread nD τ) arg13 arg19 (2 % 3)) : sProp 𝕄) := by

  iintro ⟨HR, HC⟩
  ihave HC := (Slots_of (c.tc : Thread nD τ) arg13 arg19 3 0 (by omega)) $$ [HR HC]
  · isplitl [HR]; · iexact HR
    iexact HC
  icases HC with ⟨HC, HR⟩
  ihave HC := (show Slots (c.tc : Thread nD τ) arg13 arg19 3 0 ⊢ (iprop(Slot (c.tc : Thread nD τ) arg13 arg19 (0 + 0) ∗ Slot (c.tc : Thread nD τ) arg13 arg19 (0 + 1) ∗ Slot (c.tc : Thread nD τ) arg13 arg19 (0 + 2) ∗ emp) : sProp 𝕄) from .rfl) $$ HC
  icases HC with ⟨H0, H1, H2, _⟩
  isplitl [H0]; · iexact H0
  isplitl [H1]; · iexact H1
  iexact H2

theorem set14 : iprop(Hfrom (c.tc : Thread nD τ) arg14 0 ∗ Cells (c.tc : Thread nD τ) arg20 2 0) ⊢ (iprop(RC arg9 arg14 arg20 c K 0 ∗ RC arg9 arg14 arg20 c K 1) : sProp 𝕄) := by
  unfold RC RoleOutH
  rw [if_neg (by omega), if_neg (by omega)]
  iintro ⟨HR, HC⟩
  ihave HC := (Slots_of (c.tc : Thread nD τ) arg14 arg20 2 0 (by omega)) $$ [HR HC]
  · isplitl [HR]; · iexact HR
    iexact HC
  icases HC with ⟨HC, HR⟩
  ihave HC := (show Slots (c.tc : Thread nD τ) arg14 arg20 2 0 ⊢ (iprop(Slot (c.tc : Thread nD τ) arg14 arg20 (0 + 0) ∗ Slot (c.tc : Thread nD τ) arg14 arg20 (0 + 1) ∗ emp) : sProp 𝕄) from .rfl) $$ HC
  icases HC with ⟨H0, H1, _⟩
  isplitl [H0]; · iexact H0
  iexact H1

section

variable (M : Memref sig .tc .hbm S11008x4096 .f32) (q : PosShare TreeShare) (G : ℕ → ℕ → Elt F .f32)

/-- The four chunks of columns. -/
theorem colsSplit : H2 (c.tc : Thread nD τ) M q 0 11008 0 4096 G ⊢ (iprop(H2 (c.tc : Thread nD τ) M q 0 11008 (1024 * 0) (1024 * 0 + 1024) G ∗ H2 (c.tc : Thread nD τ) M q 0 11008 (1024 * 1) (1024 * 1 + 1024) G ∗ H2 (c.tc : Thread nD τ) M q 0 11008 (1024 * 2) (1024 * 2 + 1024) G ∗ H2 (c.tc : Thread nD τ) M q 0 11008 (1024 * 3) (1024 * 3 + 1024) G) : sProp 𝕄) := by
  have J : ∀ n, n < 4 → H2 (c.tc : Thread nD τ) M q 0 11008 (1024 * n) 4096 G
      ⊢ (iprop(H2 (c.tc : Thread nD τ) M q 0 11008 (1024 * n) (1024 * n + 1024) G ∗ H2 (c.tc : Thread nD τ) M q 0 11008 (1024 * (n + 1)) 4096 G) : sProp 𝕄) := fun n _ =>
    H2_cols (1024 * n + 1024) (by omega) (by omega)
  iintro H
  ihave H := (J 0 (by omega)) $$ H
  icases H with ⟨H0, H⟩
  ihave H := (J 1 (by omega)) $$ H
  icases H with ⟨H1, H⟩
  ihave H := (J 2 (by omega)) $$ H
  icases H with ⟨H2, H⟩
  isplitl [H0]; · iexact H0
  isplitl [H1]; · iexact H1
  isplitl [H2]; · iexact H2
  iexact H

theorem colsJoin : iprop(H2 (c.tc : Thread nD τ) M q 0 11008 (1024 * 0) (1024 * 0 + 1024) G ∗ H2 (c.tc : Thread nD τ) M q 0 11008 (1024 * 1) (1024 * 1 + 1024) G ∗ H2 (c.tc : Thread nD τ) M q 0 11008 (1024 * 2) (1024 * 2 + 1024) G ∗ H2 (c.tc : Thread nD τ) M q 0 11008 (1024 * 3) (1024 * 3 + 1024) G) ⊢ (H2 (c.tc : Thread nD τ) M q 0 11008 0 4096 G : sProp 𝕄) := by
  have J : ∀ n, n < 4 → iprop(H2 (c.tc : Thread nD τ) M q 0 11008 0 (1024 * n) G ∗ H2 (c.tc : Thread nD τ) M q 0 11008 (1024 * n) (1024 * n + 1024) G)
      ⊢ (H2 (c.tc : Thread nD τ) M q 0 11008 0 (1024 * (n + 1)) G : sProp 𝕄) := fun n _ =>
    H2_joinCols (Nat.zero_le _) (Nat.le_add_right _ _) (fun _ _ _ _ _ _ => rfl) (fun _ _ _ _ _ _ => rfl)
  iintro ⟨H0, H1, H2, H3⟩
  ihave H1 := (J 1 (by omega)) $$ [H0 H1]
  · isplitl [H0]; · iexact H0
    iexact H1
  ihave H2 := (J 2 (by omega)) $$ [H1 H2]
  · isplitl [H1]; · iexact H1
    iexact H2
  ihave H3 := (J 3 (by omega)) $$ [H2 H3]
  · isplitl [H2]; · iexact H2
    iexact H3
  iexact H3

end

theorem set15 : iprop(Hfrom (c.tc : Thread nD τ) arg15 0 ∗ Cells (c.tc : Thread nD τ) arg21 12 0 ∗ Cells (c.tc : Thread nD τ) arg22 12 0 ∗ H2 (c.tc : Thread nD τ) arg5 q₅ 0 11008 0 4096 K.mg ∗ H2 (c.tc : Thread nD τ) arg7 fullShare 0 11008 0 4096 F₇) ⊢ (iprop(CI arg5 arg7 arg15 arg21 arg22 c K q₅ F₇ 0 ∗ CI arg5 arg7 arg15 arg21 arg22 c K q₅ F₇ 1 ∗ CI arg5 arg7 arg15 arg21 arg22 c K q₅ F₇ 2 ∗ CI arg5 arg7 arg15 arg21 arg22 c K q₅ F₇ 3) : sProp 𝕄) := by
  unfold CI R0 IS OS MGN
  iintro ⟨HR, HI, HO, HG, HM⟩
  ihave HI := (Cells_split (c.tc : Thread nD τ) arg21 8 4 0) $$ [HI]
  · iexact HI
  icases HI with ⟨HI, HI2⟩
  ihave HO := (Cells_split (c.tc : Thread nD τ) arg22 8 4 0) $$ [HO]
  · iexact HO
  icases HO with ⟨HO, HO2⟩
  ihave HI := (Slots_of (c.tc : Thread nD τ) arg15 arg21 8 0 (by omega)) $$ [HR HI]
  · isplitl [HR]; · iexact HR
    iexact HI
  icases HI with ⟨HI, HR⟩
  ihave HO2 := (Slots_of (c.tc : Thread nD τ) arg15 arg22 4 (0 + 8) (by omega)) $$ [HR HO2]
  · isplitl [HR]; · iexact HR
    iexact HO2
  icases HO2 with ⟨HO2, HR⟩
  ihave HG := (colsSplit c arg5 q₅ K.mg) $$ HG
  icases HG with ⟨g0, g1, g2, g3⟩
  ihave HM := (colsSplit c arg7 fullShare F₇) $$ HM
  icases HM with ⟨m0, m1, m2, m3⟩
  ihave HI := (show Slots (c.tc : Thread nD τ) arg15 arg21 8 0 ⊢ (iprop(Slot (c.tc : Thread nD τ) arg15 arg21 (0 + 0) ∗ Slot (c.tc : Thread nD τ) arg15 arg21 (0 + 1) ∗ Slot (c.tc : Thread nD τ) arg15 arg21 (0 + 2) ∗ Slot (c.tc : Thread nD τ) arg15 arg21 (0 + 3) ∗ Slot (c.tc : Thread nD τ) arg15 arg21 (0 + 4) ∗ Slot (c.tc : Thread nD τ) arg15 arg21 (0 + 5) ∗ Slot (c.tc : Thread nD τ) arg15 arg21 (0 + 6) ∗ Slot (c.tc : Thread nD τ) arg15 arg21 (0 + 7) ∗ emp) : sProp 𝕄) from .rfl) $$ HI
  icases HI with ⟨i0, i1, i2, i3, i4, i5, i6, i7, _⟩
  ihave HO2 := (show Slots (c.tc : Thread nD τ) arg15 arg22 4 (0 + 8) ⊢ (iprop(Slot (c.tc : Thread nD τ) arg15 arg22 ((0 + 8) + 0) ∗ Slot (c.tc : Thread nD τ) arg15 arg22 ((0 + 8) + 1) ∗ Slot (c.tc : Thread nD τ) arg15 arg22 ((0 + 8) + 2) ∗ Slot (c.tc : Thread nD τ) arg15 arg22 ((0 + 8) + 3) ∗ emp) : sProp 𝕄) from .rfl) $$ HO2
  icases HO2 with ⟨o0, o1, o2, o3, _⟩
  ihave HI2 := (show Cells (c.tc : Thread nD τ) arg21 4 (0 + 8) ⊢ (iprop(semVal ((c.tc : Thread nD τ), .dma (semAt arg21 ((0 + 8) + 0))) 0 ∗ semVal ((c.tc : Thread nD τ), .dma (semAt arg21 ((0 + 8) + 1))) 0 ∗ semVal ((c.tc : Thread nD τ), .dma (semAt arg21 ((0 + 8) + 2))) 0 ∗ semVal ((c.tc : Thread nD τ), .dma (semAt arg21 ((0 + 8) + 3))) 0 ∗ emp) : sProp 𝕄) from .rfl) $$ HI2
  icases HI2 with ⟨u0, u1, u2, u3, _⟩
  ihave HO := (show Cells (c.tc : Thread nD τ) arg22 8 0 ⊢ (iprop(semVal ((c.tc : Thread nD τ), .dma (semAt arg22 (0 + 0))) 0 ∗ semVal ((c.tc : Thread nD τ), .dma (semAt arg22 (0 + 1))) 0 ∗ semVal ((c.tc : Thread nD τ), .dma (semAt arg22 (0 + 2))) 0 ∗ semVal ((c.tc : Thread nD τ), .dma (semAt arg22 (0 + 3))) 0 ∗ semVal ((c.tc : Thread nD τ), .dma (semAt arg22 (0 + 4))) 0 ∗ semVal ((c.tc : Thread nD τ), .dma (semAt arg22 (0 + 5))) 0 ∗ semVal ((c.tc : Thread nD τ), .dma (semAt arg22 (0 + 6))) 0 ∗ semVal ((c.tc : Thread nD τ), .dma (semAt arg22 (0 + 7))) 0 ∗ emp) : sProp 𝕄) from .rfl) $$ HO
  icases HO with ⟨v0, v1, v2, v3, v4, v5, v6, v7, _⟩
  isplitl [i0 g0 i4 o0 u0 v0 v4 m0]
  · isplitl [i0]; · iexact i0
    isplitl [g0]; · iexact g0
    isplitl [i4]; · iexact i4
    isplitl [o0]; · iexact o0
    isplitl [u0]; · iexact u0
    isplitl [v0]; · iexact v0
    isplitl [v4]; · iexact v4
    iexact m0
  isplitl [i1 g1 i5 o1 u1 v1 v5 m1]
  · isplitl [i1]; · iexact i1
    isplitl [g1]; · iexact g1
    isplitl [i5]; · iexact i5
    isplitl [o1]; · iexact o1
    isplitl [u1]; · iexact u1
    isplitl [v1]; · iexact v1
    isplitl [v5]; · iexact v5
    iexact m1
  isplitl [i2 g2 i6 o2 u2 v2 v6 m2]
  · isplitl [i2]; · iexact i2
    isplitl [g2]; · iexact g2
    isplitl [i6]; · iexact i6
    isplitl [o2]; · iexact o2
    isplitl [u2]; · iexact u2
    isplitl [v2]; · iexact v2
    isplitl [v6]; · iexact v6
    iexact m2
  isplitl [i3]; · iexact i3
  isplitl [g3]; · iexact g3
  isplitl [i7]; · iexact i7
  isplitl [o3]; · iexact o3
  isplitl [u3]; · iexact u3
  isplitl [v3]; · iexact v3
  isplitl [v7]; · iexact v7
  iexact m3

theorem Slot_cons {N n m : ℕ} [NeZero N] {sp : Space} {e : EltTy} (R : Memref sig .tc sp ⟨3, ![N, n, m]⟩ e) (S : SemArray (DmaSem sig) ⟨1, ![N]⟩) (i k : ℕ) :
    iprop(Slot (c.tc : Thread nD τ) R S k ∗ Slots (c.tc : Thread nD τ) R S i (k + 1)) ⊢ (Slots (c.tc : Thread nD τ) R S (i + 1) k : sProp 𝕄) := .rfl

theorem end13 : iprop(RW arg4 arg13 arg19 c K q₄ 43 ∗ RW arg4 arg13 arg19 c K q₄ 44 ∗ RW arg4 arg13 arg19 c K q₄ 45) ⊢ (iprop(Hfrom (c.tc : Thread nD τ) arg13 0 ∗ Cells (c.tc : Thread nD τ) arg19 3 0) : sProp 𝕄) := by
  unfold RW RoleIn
  rw [if_neg (by omega), if_neg (by omega), if_neg (by omega)]
  iintro ⟨H1, H2, H0⟩
  iapply (Slots_back (c.tc : Thread nD τ) arg13 arg19 3 0)
  isplitl [H0 H1 H2]
  · rw [Slots.eq_2, Slots.eq_2, Slots.eq_2, Slots.eq_1]
    isplitl [H0]; · iexact H0
    isplitl [H1]; · iexact H1
    isplitl [H2]; · iexact H2
    iempintro
  iapply Hfrom_none
  iempintro

theorem end14 : iprop(Slot (c.tc : Thread nD τ) arg14 arg20 (43 % 2) ∗ Slot (c.tc : Thread nD τ) arg14 arg20 (44 % 2)) ⊢ (iprop(Hfrom (c.tc : Thread nD τ) arg14 0 ∗ Cells (c.tc : Thread nD τ) arg20 2 0) : sProp 𝕄) := by
  iintro ⟨H1, H0⟩
  iapply (Slots_back (c.tc : Thread nD τ) arg14 arg20 2 0)
  isplitl [H0 H1]
  · rw [Slots.eq_2, Slots.eq_2, Slots.eq_1]
    isplitl [H0]; · iexact H0
    isplitl [H1]; · iexact H1
    iempintro
  iapply Hfrom_none
  iempintro

theorem end15 : iprop(CE arg5 arg7 arg15 arg21 arg22 c K q₅ 0 ∗ CE arg5 arg7 arg15 arg21 arg22 c K q₅ 1 ∗ CE arg5 arg7 arg15 arg21 arg22 c K q₅ 2 ∗ CE arg5 arg7 arg15 arg21 arg22 c K q₅ 3) ⊢ (iprop(Hfrom (c.tc : Thread nD τ) arg15 0 ∗ Cells (c.tc : Thread nD τ) arg21 12 0 ∗ Cells (c.tc : Thread nD τ) arg22 12 0 ∗ H2 (c.tc : Thread nD τ) arg5 q₅ 0 11008 0 4096 K.mg ∗ H2 (c.tc : Thread nD τ) arg7 fullShare 0 11008 0 4096 (moF K)) : sProp 𝕄) := by
  unfold CE IS OS
  iintro ⟨⟨o0, u0, i0, i4, v0, v4, g0, m0⟩, ⟨o1, u1, i1, i5, v1, v5, g1, m1⟩, ⟨o2, u2, i2, i6, v2, v6, g2, m2⟩, ⟨o3, u3, i3, i7, v3, v7, g3, m3⟩⟩
  ihave HG := (colsJoin c arg5 q₅ K.mg) $$ [g0 g1 g2 g3]
  · isplitl [g0]; · iexact g0
    isplitl [g1]; · iexact g1
    isplitl [g2]; · iexact g2
    iexact g3
  ihave HM := (colsJoin c arg7 fullShare (moF K)) $$ [m0 m1 m2 m3]
  · isplitl [m0]; · iexact m0
    isplitl [m1]; · iexact m1
    isplitl [m2]; · iexact m2
    iexact m3
  ihave HS1 := (show (iprop(Slot (c.tc : Thread nD τ) arg15 arg21 (4) ∗ Slot (c.tc : Thread nD τ) arg15 arg21 (5) ∗ Slot (c.tc : Thread nD τ) arg15 arg21 (6) ∗ Slot (c.tc : Thread nD τ) arg15 arg21 (7) ∗ Slot (c.tc : Thread nD τ) arg15 arg21 (8) ∗ Slot (c.tc : Thread nD τ) arg15 arg21 (9) ∗ Slot (c.tc : Thread nD τ) arg15 arg21 (10) ∗ Slot (c.tc : Thread nD τ) arg15 arg21 (11)) : sProp 𝕄) ⊢ Slots (c.tc : Thread nD τ) arg15 arg21 8 4 from by
      rw [Slots.eq_2, Slots.eq_2, Slots.eq_2, Slots.eq_2, Slots.eq_2, Slots.eq_2, Slots.eq_2, Slots.eq_2, Slots.eq_1]
      iintro ⟨i0, i1, i2, i3, i4, i5, i6, i7⟩
      isplitl [i0]; · iexact i0
      isplitl [i1]; · iexact i1
      isplitl [i2]; · iexact i2
      isplitl [i3]; · iexact i3
      isplitl [i4]; · iexact i4
      isplitl [i5]; · iexact i5
      isplitl [i6]; · iexact i6
      isplitl [i7]; · iexact i7
      iempintro) $$ [i0 i1 i2 i3 i4 i5 i6 i7]
  · isplitl [i0]; · iexact i0
    isplitl [i1]; · iexact i1
    isplitl [i2]; · iexact i2
    isplitl [i3]; · iexact i3
    isplitl [i4]; · iexact i4
    isplitl [i5]; · iexact i5
    isplitl [i6]; · iexact i6
    iexact i7
  ihave HS2 := (show (iprop(Slot (c.tc : Thread nD τ) arg15 arg22 (0) ∗ Slot (c.tc : Thread nD τ) arg15 arg22 (1) ∗ Slot (c.tc : Thread nD τ) arg15 arg22 (2) ∗ Slot (c.tc : Thread nD τ) arg15 arg22 (3)) : sProp 𝕄) ⊢ Slots (c.tc : Thread nD τ) arg15 arg22 4 0 from by
      rw [Slots.eq_2, Slots.eq_2, Slots.eq_2, Slots.eq_2, Slots.eq_1]
      iintro ⟨o0, o1, o2, o3⟩
      isplitl [o0]; · iexact o0
      isplitl [o1]; · iexact o1
      isplitl [o2]; · iexact o2
      isplitl [o3]; · iexact o3
      iempintro) $$ [o0 o1 o2 o3]
  · isplitl [o0]; · iexact o0
    isplitl [o1]; · iexact o1
    isplitl [o2]; · iexact o2
    iexact o3
  ihave HU := (show (iprop(semVal ((c.tc : Thread nD τ), .dma (semAt arg21 (0))) 0 ∗ semVal ((c.tc : Thread nD τ), .dma (semAt arg21 (1))) 0 ∗ semVal ((c.tc : Thread nD τ), .dma (semAt arg21 (2))) 0 ∗ semVal ((c.tc : Thread nD τ), .dma (semAt arg21 (3))) 0) : sProp 𝕄) ⊢ Cells (c.tc : Thread nD τ) arg21 4 0 from by
      rw [Cells.eq_2, Cells.eq_2, Cells.eq_2, Cells.eq_2, Cells.eq_1]
      iintro ⟨u0, u1, u2, u3⟩
      isplitl [u0]; · iexact u0
      isplitl [u1]; · iexact u1
      isplitl [u2]; · iexact u2
      isplitl [u3]; · iexact u3
      iempintro) $$ [u0 u1 u2 u3]
  · isplitl [u0]; · iexact u0
    isplitl [u1]; · iexact u1
    isplitl [u2]; · iexact u2
    iexact u3
  ihave HV := (show (iprop(semVal ((c.tc : Thread nD τ), .dma (semAt arg22 (4))) 0 ∗ semVal ((c.tc : Thread nD τ), .dma (semAt arg22 (5))) 0 ∗ semVal ((c.tc : Thread nD τ), .dma (semAt arg22 (6))) 0 ∗ semVal ((c.tc : Thread nD τ), .dma (semAt arg22 (7))) 0 ∗ semVal ((c.tc : Thread nD τ), .dma (semAt arg22 (8))) 0 ∗ semVal ((c.tc : Thread nD τ), .dma (semAt arg22 (9))) 0 ∗ semVal ((c.tc : Thread nD τ), .dma (semAt arg22 (10))) 0 ∗ semVal ((c.tc : Thread nD τ), .dma (semAt arg22 (11))) 0) : sProp 𝕄) ⊢ Cells (c.tc : Thread nD τ) arg22 8 4 from by
      rw [Cells.eq_2, Cells.eq_2, Cells.eq_2, Cells.eq_2, Cells.eq_2, Cells.eq_2, Cells.eq_2, Cells.eq_2, Cells.eq_1]
      iintro ⟨v0, v1, v2, v3, v4, v5, v6, v7⟩
      isplitl [v0]; · iexact v0
      isplitl [v1]; · iexact v1
      isplitl [v2]; · iexact v2
      isplitl [v3]; · iexact v3
      isplitl [v4]; · iexact v4
      isplitl [v5]; · iexact v5
      isplitl [v6]; · iexact v6
      isplitl [v7]; · iexact v7
      iempintro) $$ [v0 v1 v2 v3 v4 v5 v6 v7]
  · isplitl [v0]; · iexact v0
    isplitl [v1]; · iexact v1
    isplitl [v2]; · iexact v2
    isplitl [v3]; · iexact v3
    isplitl [v4]; · iexact v4
    isplitl [v5]; · iexact v5
    isplitl [v6]; · iexact v6
    iexact v7
  ihave HS1 := (Slots_back (c.tc : Thread nD τ) arg15 arg21 8 4) $$ [HS1]
  · isplitl [HS1]; · iexact HS1
    iapply Hfrom_none
    iempintro
  icases HS1 with ⟨HR, HC1⟩
  ihave HS2 := (Slots_back (c.tc : Thread nD τ) arg15 arg22 4 0) $$ [HS2 HR]
  · isplitl [HS2]; · iexact HS2
    iexact HR
  icases HS2 with ⟨HR, HC2⟩
  isplitl [HR]; · iexact HR
  isplitl [HU HC1]
  · iapply (Cells_join (c.tc : Thread nD τ) arg21 4 8 0)
    isplitl [HU]; · iexact HU
    iexact HC1
  isplitl [HV HC2]
  · iapply (Cells_join (c.tc : Thread nD τ) arg22 4 8 0)
    isplitl [HC2]; · iexact HC2
    iexact HV
  isplitl [HG]; · iexact HG
  iexact HM

/-- The scratch arrays at some contents. -/
def SCR : sProp 𝕄 :=
  iprop((∃ G, H2 (c.tc : Thread nD τ) arg11 fullShare 0 1024 0 11008 G) ∗ (∃ G, H2 (c.tc : Thread nD τ) arg12 fullShare 0 1024 0 4096 G) ∗ Hfrom (c.tc : Thread nD τ) arg13 0 ∗ Hfrom (c.tc : Thread nD τ) arg14 0 ∗ Hfrom (c.tc : Thread nD τ) arg15 0 ∗ (∃ G, H2 (c.tc : Thread nD τ) arg16 fullShare 0 1024 0 4096 G))

/-- Every cell at zero. -/
def SEM : sProp 𝕄 :=
  iprop(Cells (c.tc : Thread nD τ) arg17 16 0 ∗ semVal ((c.tc : Thread nD τ), .dma arg18.sem) 0 ∗ Cells (c.tc : Thread nD τ) arg19 3 0 ∗ Cells (c.tc : Thread nD τ) arg20 2 0 ∗ Cells (c.tc : Thread nD τ) arg21 12 0 ∗ Cells (c.tc : Thread nD τ) arg22 12 0 ∗ Cells (c.tc : Thread nD τ) arg23 8 0)

/-- The inputs. -/
def INP : sProp 𝕄 :=
  iprop(H2 (c.tc : Thread nD τ) arg2 q₂ 0 1024 0 11008 K.dy ∗ H2 (c.tc : Thread nD τ) arg3 q₃ 0 1024 0 4096 K.x ∗ H2 (c.tc : Thread nD τ) arg4 q₄ 0 11008 0 4096 K.w ∗ H2 (c.tc : Thread nD τ) arg5 q₅ 0 11008 0 4096 K.mg)

/-- What the program takes. -/
def BP : sProp 𝕄 :=
  iprop(H2 (c.tc : Thread nD τ) arg0 q₀ 0 1 0 1 G₀ ∗ H2 (c.tc : Thread nD τ) arg1 q₁ 0 1 0 1 G₁ ∗ H2 (c.tc : Thread nD τ) arg8 fullShare 0 1 0 1 G₈ ∗ H2 (c.tc : Thread nD τ) arg10 fullShare 0 1 0 1 G₁₀ ∗ INP arg2 arg3 arg4 arg5 c K q₂ q₃ q₄ q₅ ∗ (∃ G, H2 (c.tc : Thread nD τ) arg6 fullShare 0 1024 0 4096 G) ∗ (∃ G, H2 (c.tc : Thread nD τ) arg7 fullShare 0 11008 0 4096 G) ∗ (∃ G, H2 (c.tc : Thread nD τ) arg9 fullShare 0 1024 0 11008 G)
    ∗ SCR arg11 arg12 arg13 arg14 arg15 arg16 c ∗ SEM arg17 arg18 arg19 arg20 arg21 arg22 arg23 c ∗ ∃ W, owes (c.tc : Thread nD τ) 0 W)

/-- What it leaves. -/
def EP : sProp 𝕄 :=
  iprop(H2 (c.tc : Thread nD τ) arg0 q₀ 0 1 0 1 G₀ ∗ H2 (c.tc : Thread nD τ) arg1 q₁ 0 1 0 1 G₁ ∗ H2 (c.tc : Thread nD τ) arg8 fullShare 0 1 0 1 (fun _ _ => k0_pay32 (k0_pay27 (amF K.dy 16))) ∗ H2 (c.tc : Thread nD τ) arg10 fullShare 0 1 0 1 (fun _ _ => k0_pay33 (k0_pay29 (amF K.dy 16))) ∗ INP arg2 arg3 arg4 arg5 c K q₂ q₃ q₄ q₅ ∗ H2 (c.tc : Thread nD τ) arg6 fullShare 0 1024 0 4096 (dxF K (k0_pay35 (k0_pay29 (amF K.dy 16)) (G₁ 0 0))) ∗ H2 (c.tc : Thread nD τ) arg7 fullShare 0 11008 0 4096 (moF K) ∗ H2 (c.tc : Thread nD τ) arg9 fullShare 0 1024 0 11008 (codesF K)
    ∗ SCR arg11 arg12 arg13 arg14 arg15 arg16 c ∗ SEM arg17 arg18 arg19 arg20 arg21 arg22 arg23 c ∗ ∃ W, owes (c.tc : Thread nD τ) 0 W)

/-- The program. -/
theorem body (hiv : k0_pay31 (F := F) (k0_pay30 (amF K.dy 16)) = K.iv) (hms : k0_pay34 (k0_pay29 (amF K.dy 16)) (G₀ 0 0) = K.ms) {Q : PUnit → sProp (MT nD τ sig Unit (Elt F) ℕ (Pipeline.UD sig nD τ) ℕ)} :
    BP arg0 arg1 arg2 arg3 arg4 arg5 arg6 arg7 arg8 arg9 arg10 arg11 arg12 arg13 arg14 arg15 arg16 arg17 arg18 arg19 arg20 arg21 arg22 arg23 c K q₂ q₃ q₄ q₅ q₀ q₁ G₀ G₁ G₈ G₁₀
      ⊢ iprop((EP arg0 arg1 arg2 arg3 arg4 arg5 arg6 arg7 arg8 arg9 arg10 arg11 arg12 arg13 arg14 arg15 arg16 arg17 arg18 arg19 arg20 arg21 arg22 arg23 c K q₂ q₃ q₄ q₅ q₀ q₁ G₀ G₁ -∗ Q ⟨⟩)
        -∗ wp frame (wpE defs 𝒱 (c.tc : Thread nD τ) bd) Set.univ (cc0_fp8_linear_backward arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23) Q) := by
  rw [cc0_fp8_linear_backward_eq_skeleton]
  unfold cc0_fp8_linear_backward_skel
  rw [k0_part27_eq_skeleton]
  unfold k0_part27_skel BP INP SCR SEM
  iintro ⟨S0, S1, S8, S10, ⟨I2, I3, I4, I5⟩, O6, ⟨%F₇, O7⟩, ⟨%F₉, O9⟩, ⟨V11, V12, V13, V14, V15, V16⟩, ⟨E17, E18, E19, E20, E21, E22, E23⟩, HO⟩ Hk
  ihave V16 := (show iprop(∃ G, H2 (c.tc : Thread nD τ) arg16 fullShare 0 1024 0 4096 G) ⊢ (AW arg16 c : sProp 𝕄) from .rfl) $$ V16
  ihave V13 := (set13 arg13 arg19 c) $$ [V13 E19]
  · isplitl [V13]; · iexact V13
    iexact E19
  icases V13 with ⟨W0, W1, W2⟩
  ihave V14 := (set14 arg9 arg14 arg20 c K) $$ [V14 E20]
  · isplitl [V14]; · iexact V14
    iexact E20
  icases V14 with ⟨R0, R1⟩
  ihave V15 := (set15 arg5 arg7 arg15 arg21 arg22 c K q₅ F₇) $$ [V15 E21 E22 I5 O7]
  · isplitl [V15]; · iexact V15
    isplitl [E21]; · iexact E21
    isplitl [E22]; · iexact E22
    isplitl [I5]; · iexact I5
    iexact O7
  icases V15 with ⟨C0, C1, C2, C3⟩
  ihave I4 := (H2_rows 0 (Nat.le_refl _) (Nat.zero_le _)) $$ I4
  icases I4 with ⟨WD, WN⟩
  ihave WD := (show H2 (c.tc : Thread nD τ) arg4 q₄ 0 0 0 4096 K.w ⊢ (WD arg4 c K q₄ 0 : sProp 𝕄) from .rfl) $$ WD
  ihave WN := (show H2 (c.tc : Thread nD τ) arg4 q₄ 0 11008 0 4096 K.w ⊢ (WN arg4 c K q₄ 0 : sProp 𝕄) from .rfl) $$ WN
  ihave O9 := (H2_cols 0 (Nat.le_refl _) (Nat.zero_le _)) $$ O9
  icases O9 with ⟨CD, CN⟩
  ihave CN := (show H2 (c.tc : Thread nD τ) arg9 fullShare 0 1024 0 11008 F₉ ⊢ (CN arg9 c F₉ 0 : sProp 𝕄) from .rfl) $$ CN
  ihave HA := (show (iprop(H2 (c.tc : Thread nD τ) arg2 q₂ 0 1024 0 11008 K.dy ∗ (∃ G, H2 (c.tc : Thread nD τ) arg11 fullShare 0 1024 0 11008 G) ∗ Cells (c.tc : Thread nD τ) arg17 16 0) : sProp 𝕄) ⊢ A1 arg2 arg11 arg17 c K q₂ 16 0 from by
      unfold A1 Sent
      rw [Bands.eq_1]
      iintro ⟨H, HG, HC⟩
      isplitl [H]; · iexact H
      isplitr; · iempintro
      isplitl [HG]; · iexact HG
      iexact HC) $$ [I2 V11 E17]
  · isplitl [I2]; · iexact I2
    isplitl [V11]; · iexact V11
    iexact E17
  ihave HX := (show (iprop((∃ G, H2 (c.tc : Thread nD τ) arg6 fullShare 0 1024 0 4096 G) ∗ Cells (c.tc : Thread nD τ) arg23 8 0) : sProp 𝕄) ⊢ XS arg6 arg11 arg23 c K (k0_pay35 (k0_pay29 (amF K.dy 16)) (G₁ 0 0)) 8 0 from by
      unfold XS Sent
      rw [Bands.eq_1]
      iintro ⟨HG, HC⟩
      isplitr; · iempintro
      isplitl [HG]; · iexact HG
      iexact HC) $$ [O6 E23]
  · isplitl [O6]; · iexact O6
    iexact E23
  rw [wp_bind]
  rw [wp_bind]
  iapply (part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₂) $$ [HA]
  · iexact HA
  iintro HA
  rw [wp_bind]
  iapply (part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₂) $$ [HA]
  · iexact HA
  iintro HA
  ihave X0 := (show (iprop(H2 (c.tc : Thread nD τ) arg3 q₃ 0 1024 0 4096 K.x ∗ (∃ G, H2 (c.tc : Thread nD τ) arg12 fullShare 0 1024 0 4096 G) ∗ semVal ((c.tc : Thread nD τ), .dma arg18.sem) 0) : sProp 𝕄) ⊢ X0 arg3 arg12 arg18 c K q₃ from .rfl) $$ [I3 V12 E18]
  · isplitl [I3]; · iexact I3
    isplitl [V12]; · iexact V12
    iexact E18
  rw [wp_bind]
  iapply (part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₂ q₃ q₄) $$ [HA W0 WN X0]
  · isplitl [HA]; · iexact HA
    isplitl [W0]; · iexact W0
    isplitl [WN]; · iexact WN
    iexact X0
  iintro ⟨HA, W0, WN, XF⟩
  rw [wp_bind]
  iapply (part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₄ q₅ F₇) $$ [W1 WN C0 C1 C2 C3]
  · isplitl [W1]; · iexact W1
    isplitl [WN]; · iexact WN
    isplitl [C0]; · iexact C0
    isplitl [C1]; · iexact C1
    isplitl [C2]; · iexact C2
    iexact C3
  iintro ⟨W1, WN, C0, C1, C2, C3⟩
  rw [wp_bind]
  iapply (part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₄ q₅ F₇) $$ [W2 WN C0 C1 C2 C3 V16]
  · isplitl [W2]; · iexact W2
    isplitl [WN]; · iexact WN
    isplitl [C0]; · iexact C0
    isplitl [C1]; · iexact C1
    isplitl [C2]; · iexact C2
    isplitl [C3]; · iexact C3
    iexact V16
  iintro ⟨W2, WN, C0, C1, C2, C3, V16⟩
  ihave HB := (show A1 arg2 arg11 arg17 c K q₂ 0 16 ⊢ (B1 arg2 arg11 arg17 c K.dy q₂ 16 0 : sProp 𝕄) from by
      unfold A1 B1
      exact Come_of_Sent _ _ _ _ _ _ _ _ (by omega)) $$ HA
  rw [wp_bind]
  iapply (part21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₂) $$ [V16 HB HO]
  · isplitl [V16]; · iexact V16
    isplitl [HB]; · iexact HB
    iexact HO
  iintro ⟨V16, HB, HO⟩
  unfold B1 Come
  icases HB with ⟨_, DY, I2, E17⟩
  ihave DY := (show H2 (c.tc : Thread nD τ) arg11 fullShare 0 (64 * 16) 0 11008 K.dy ⊢ (DY arg11 c K : sProp 𝕄) from .rfl) $$ DY
  ihave V16 := (acSplit arg16 c K) $$ V16
  icases V16 with ⟨a0, a1, a2, a3, a4, a5, a6, a7⟩
  ihave J := (show (iprop(RC arg9 arg14 arg20 c K 0 ∗ RC arg9 arg14 arg20 c K 1 ∗ CD arg9 c K 0 ∗ CN arg9 c F₉ 0 ∗ DY arg11 c K ∗ RW arg4 arg13 arg19 c K q₄ 0 ∗ RW arg4 arg13 arg19 c K q₄ 1 ∗ RW arg4 arg13 arg19 c K q₄ 2 ∗ WD arg4 c K q₄ 0 ∗ WN arg4 c K q₄ 3 ∗ AC arg16 c K 0 0 ∗ AC arg16 c K 1 0 ∗ AC arg16 c K 2 0 ∗ AC arg16 c K 3 0 ∗ AC arg16 c K 4 0 ∗ AC arg16 c K 5 0 ∗ AC arg16 c K 6 0 ∗ AC arg16 c K 7 0 ∗ CH arg5 arg7 arg15 arg21 arg22 c K q₅ F₇ 0 0 ∗ CH arg5 arg7 arg15 arg21 arg22 c K q₅ F₇ 1 0 ∗ CH arg5 arg7 arg15 arg21 arg22 c K q₅ F₇ 2 0 ∗ CH arg5 arg7 arg15 arg21 arg22 c K q₅ F₇ 3 0) : sProp 𝕄)
      ⊢ J0 arg4 arg5 arg7 arg9 arg11 arg13 arg14 arg15 arg16 arg19 arg20 arg21 arg22 c K q₄ q₅ F₇ F₉ from .rfl) $$ [R0 R1 CD CN DY W0 W1 W2 WD WN a0 a1 a2 a3 a4 a5 a6 a7 C0 C1 C2 C3]
  · isplitl [R0]; · iexact R0
    isplitl [R1]; · iexact R1
    isplitl [CD]
    · unfold CD
      iapply (H2_void (Or.inr (by omega)) (Or.inr (by omega))) $$ CD
    isplitl [CN]; · iexact CN
    isplitl [DY]; · iexact DY
    isplitl [W0]; · iexact W0
    isplitl [W1]; · iexact W1
    isplitl [W2]; · iexact W2
    isplitl [WD]; · iexact WD
    isplitl [WN]; · iexact WN
    isplitl [a0]; · iexact a0
    isplitl [a1]; · iexact a1
    isplitl [a2]; · iexact a2
    isplitl [a3]; · iexact a3
    isplitl [a4]; · iexact a4
    isplitl [a5]; · iexact a5
    isplitl [a6]; · iexact a6
    isplitl [a7]; · iexact a7
    isplitl [C0]; · iexact C0
    isplitl [C1]; · iexact C1
    isplitl [C2]; · iexact C2
    iexact C3
  rw [wp_bind]
  iapply (part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₃ q₄ q₅ q₀ q₁ F₇ F₉ G₀ G₁ (k0_pay27 (amF K.dy 16)) hiv hms) $$ [S8 S10 S0 S1 XF J HX HO]
  · isplitl [S8]; · iexact S8
    isplitl [S10]; · iexact S10
    isplitl [S0]; · iexact S0
    isplitl [S1]; · iexact S1
    isplitl [XF]; · iexact XF
    isplitl [J]; · iexact J
    isplitl [HX]; · iexact HX
    iexact HO
  iintro ⟨S8, S10, S0, S1, I3, E18, J, HA, HY, XR, HX, HO⟩
  rw [wp_bind]
  iapply (part23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K (k0_pay35 (k0_pay29 (amF K.dy 16)) (G₁ 0 0)) (k0_pay38 (k0_pay29 (amF K.dy 16)) (G₁ 0 0) (tile2 128 4096 (accF K 43) (128 * 1) 0)) _ rfl) $$ [XR HX HA]
  · isplitl [XR]; · iexact XR
    isplitl [HX]; · iexact HX
    iexact HA
  iintro ⟨XR, HX, HA⟩
  rw [wp_bind]
  iapply (part24 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K (k0_pay35 (k0_pay29 (amF K.dy 16)) (G₁ 0 0))) $$ [XR HX HA]
  · isplitl [XR]; · iexact XR
    isplitl [HX]; · iexact HX
    iexact HA
  iintro ⟨HB, XR, HX, HA⟩
  unfold J43
  icases J with ⟨R0, R1, CD, W0, W1, W2, WD, V12, C0, C1, C2, C3⟩
  rw [wp_bind]
  iapply (part25 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₅ F₇ (k0_pay35 (k0_pay29 (amF K.dy 16)) (G₁ 0 0))) $$ [HB XR HX HA C0 C1 HO]
  · isplitl [HB]; · iexact HB
    isplitl [XR]; · iexact XR
    isplitl [HX]; · iexact HX
    isplitl [HA]; · iexact HA
    isplitl [C0]; · iexact C0
    isplitl [C1]; · iexact C1
    iexact HO
  iintro ⟨HX, HA, C0, C1, HO⟩
  rw [wp_bind]
  iapply (part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 𝒱 c bd K q₅ F₇ (k0_pay35 (k0_pay29 (amF K.dy 16)) (G₁ 0 0))) $$ [HX C2 C3 R0 R1 CD HO]
  · isplitl [HX]; · iexact HX
    isplitl [C2]; · iexact C2
    isplitl [C3]; · iexact C3
    isplitl [R0]; · iexact R0
    isplitl [R1]; · iexact R1
    isplitl [CD]; · iexact CD
    iexact HO
  iintro ⟨HX, C2, C3, R0, R1, CD, HO⟩
  unfold XC
  iapply (bandWait 𝒱 (c.tc : Thread nD τ) bd (Ms := arg11) (Md := arg6) (n := 128) (w := 4096) (q := fullShare) (F := dxF K (k0_pay35 (k0_pay29 (amF K.dy 16)) (G₁ 0 0))) (i := 5) 2 (sem_eq arg23 _ _ _ _ rfl) rfl) $$ [HX HO]
  · isplitl [HX]; · iexact HX
    iexact HO
  iintro ⟨HX, HO⟩
  iapply (bandWait 𝒱 (c.tc : Thread nD τ) bd (Ms := arg11) (Md := arg6) (n := 128) (w := 4096) (q := fullShare) (F := dxF K (k0_pay35 (k0_pay29 (amF K.dy 16)) (G₁ 0 0))) (i := 4) 3 (sem_eq arg23 _ _ _ _ rfl) rfl) $$ [HX HO]
  · isplitl [HX]; · iexact HX
    iexact HO
  iintro ⟨HX, HO⟩
  iapply (bandWait 𝒱 (c.tc : Thread nD τ) bd (Ms := arg11) (Md := arg6) (n := 128) (w := 4096) (q := fullShare) (F := dxF K (k0_pay35 (k0_pay29 (amF K.dy 16)) (G₁ 0 0))) (i := 3) 4 (sem_eq arg23 _ _ _ _ rfl) rfl) $$ [HX HO]
  · isplitl [HX]; · iexact HX
    iexact HO
  iintro ⟨HX, HO⟩
  iapply (bandWait 𝒱 (c.tc : Thread nD τ) bd (Ms := arg11) (Md := arg6) (n := 128) (w := 4096) (q := fullShare) (F := dxF K (k0_pay35 (k0_pay29 (amF K.dy 16)) (G₁ 0 0))) (i := 2) 5 (sem_eq arg23 _ _ _ _ rfl) rfl) $$ [HX HO]
  · isplitl [HX]; · iexact HX
    iexact HO
  iintro ⟨HX, HO⟩
  iapply (bandWait 𝒱 (c.tc : Thread nD τ) bd (Ms := arg11) (Md := arg6) (n := 128) (w := 4096) (q := fullShare) (F := dxF K (k0_pay35 (k0_pay29 (amF K.dy 16)) (G₁ 0 0))) (i := 1) 6 (sem_eq arg23 _ _ _ _ rfl) rfl) $$ [HX HO]
  · isplitl [HX]; · iexact HX
    iexact HO
  iintro ⟨HX, HO⟩
  iapply (wp_done 𝒱 (c.tc : Thread nD τ) bd)
  iapply (bandWait 𝒱 (c.tc : Thread nD τ) bd (Ms := arg11) (Md := arg6) (n := 128) (w := 4096) (q := fullShare) (F := dxF K (k0_pay35 (k0_pay29 (amF K.dy 16)) (G₁ 0 0))) (i := 0) 7 (sem_eq arg23 _ _ _ _ rfl) rfl) $$ [HX HO]
  · isplitl [HX]; · iexact HX
    iexact HO
  iintro ⟨HX, HO⟩
  iapply (wp_done 𝒱 (c.tc : Thread nD τ) bd)
  unfold Come
  icases HX with ⟨_, O6, V11, E23⟩
  ihave V13 := (end13 arg4 arg13 arg19 c K q₄) $$ [W0 W1 W2]
  · isplitl [W0]; · iexact W0
    isplitl [W1]; · iexact W1
    iexact W2
  icases V13 with ⟨V13, E19⟩
  ihave V14 := (end14 arg14 arg20 c) $$ [R0 R1]
  · isplitl [R0]; · iexact R0
    iexact R1
  icases V14 with ⟨V14, E20⟩
  ihave V15 := (end15 arg5 arg7 arg15 arg21 arg22 c K q₅) $$ [C0 C1 C2 C3]
  · isplitl [C0]; · iexact C0
    isplitl [C1]; · iexact C1
    isplitl [C2]; · iexact C2
    iexact C3
  icases V15 with ⟨V15, E21, E22, I5, O7⟩
  ihave E17 := (Cells_of_to (c.tc : Thread nD τ) arg17 16 0) $$ [E17]
  · isplitl [E17]; · iexact E17
    rw [Cells.eq_1]
    iempintro
  ihave E23 := (Cells_of_to (c.tc : Thread nD τ) arg23 8 0) $$ [E23]
  · isplitl [E23]; · iexact E23
    rw [Cells.eq_1]
    iempintro
  iapply Hk
  unfold EP INP SCR SEM XV A43 CD WD
  isplitl [S0]; · iexact S0
  isplitl [S1]; · iexact S1
  isplitl [S8]; · iexact S8
  isplitl [S10]; · iexact S10
  isplitl [I2 I3 WD I5]
  · isplitl [I2]; · iexact I2
    isplitl [I3]; · iexact I3
    isplitl [WD]; · iexact WD
    iexact I5
  isplitl [O6]; · iexact O6
  isplitl [O7]; · iexact O7
  isplitl [CD]; · iexact CD
  isplitl [V11 HY V12 V13 V14 V15 HA]
  · isplitl [V11 HY]
    · iexists fun i j => if j < 4096 then dxF K (k0_pay35 (k0_pay29 (amF K.dy 16)) (G₁ 0 0)) i j else K.dy i j
      iapply (H2_joinCols (c₁ := 4096) (F₁ := dxF K (k0_pay35 (k0_pay29 (amF K.dy 16)) (G₁ 0 0))) (F₂ := K.dy) (by omega) (by omega) (fun i j _ _ _ h => (if_pos h).symm) (fun i j _ _ h _ => (if_neg (by omega)).symm))
      isplitl [V11]; · iexact V11
      iexact HY
    isplitl [V12]
    · iexists _; iexact V12
    isplitl [V13]; · iexact V13
    isplitl [V14]; · iexact V14
    isplitl [V15]; · iexact V15
    iexists _; iexact HA
  isplitl [E17 E18 E19 E20 E21 E22 E23]
  · isplitl [E17]; · iexact E17
    isplitl [E18]; · iexact E18
    isplitl [E19]; · iexact E19
    isplitl [E20]; · iexact E20
    isplitl [E21]; · iexact E21
    isplitl [E22]; · iexact E22
    iexact E23
  iexact HO

end Cert.KernelIdeal.Hand
-- ==== Proof.KIRun.lean ====
/-
  The launch of the whole program: its run to the contents every result ends with, and its frame.
-/
module

public import proofs.«01_k».proof.Proof.KIBody
public import proofs.«01_k».proof.Proof.Whole
public import proofs.«01_k».proof.Proof.Gen.KernelIdeal.Frame
public import Idealize.ShloMosaic.Lib.Pipeline.FrameValue

@[expose] public section

set_option maxRecDepth 16384

noncomputable section

namespace Cert.KernelIdeal.Hand

open Cert.KernelIdeal Cert.KernelIdeal.Gen Cert.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main up to the region, at this proof's user algebra. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The operands -/

abbrev m2 : Memref sig .tc .hbm S1024x11008 .bf16 := Memref.whole main_v2
abbrev m3 : Memref sig .tc .hbm S1024x4096 .fp8e4m3 := Memref.whole main_v3
abbrev ma3 : Memref sig .tc .hbm S11008x4096 .fp8e4m3 := Memref.whole main_arg3
abbrev ma5 : Memref sig .tc .hbm S11008x4096 .f32 := Memref.whole main_arg5
abbrev o0 : Memref sig .tc .hbm S1024x4096 .bf16 := Memref.whole main_v4_0
abbrev o1 : Memref sig .tc .hbm S11008x4096 .f32 := Memref.whole main_v4_1
abbrev o3 : Memref sig .tc .hbm S1024x11008 .fp8e5m2 := Memref.whole main_v4_3
abbrev s0 : Memref sig .tc .vmem S1024x11008 .bf16 := Memref.whole cc0_scratch0
abbrev s1 : Memref sig .tc .vmem S1024x4096 .fp8e4m3 := Memref.whole cc0_scratch1
abbrev s2 : Memref sig .tc .vmem S3x256x4096 .fp8e4m3 := Memref.whole cc0_scratch2
abbrev s3 : Memref sig .tc .vmem S2x1024x256 .fp8e5m2 := Memref.whole cc0_scratch3
abbrev s4 : Memref sig .tc .vmem S12x256x1024 .f32 := Memref.whole cc0_scratch4
abbrev s5 : Memref sig .tc .vmem S1024x4096 .f32 := Memref.whole cc0_scratch5

/-- The kernel's own cells, by pool number. -/
def cell (j : ℕ) : SemLoc sig := .dma ⟨j % 58, Nat.mod_lt _ (by decide)⟩
abbrev osem0 : Fin 54 → SemLoc sig := fun j => cell (4 + j.val)
theorem ownSemFacts0 : Pipeline.OwnSemFacts spec0 osem0 := by decide +kernel

theorem finRange54 : (List.finRange 54).map (fun j => 4 + j.val)
    = List.range' 4 16 ++ (List.range' 20 1 ++ (List.range' 21 3 ++ (List.range' 24 2 ++ (List.range' 26 12 ++ (List.range' 38 12 ++ List.range' 50 8))))) := by decide +kernel

theorem univ54 : (Finset.univ : Finset (Fin 54)) = (List.finRange 54).toFinset := by decide +kernel

theorem ownSems00_eq (c : Dev nD) :
    (Pipeline.ownSems0 (Ix := Unit) (Name := ℕ) (U := Pipeline.UD sig nD τ) (Lvl := ℕ) (Val := Elt F) (τ := τ) osem0 c : sProp 𝕄)
      = SEM cc0_scratch6 cc0_scratch7 cc0_scratch8 cc0_scratch9 cc0_scratch10 cc0_scratch11 cc0_scratch12 c := by
  rw [Pipeline.ownSems0_eq_of_list c osem0 (List.finRange 54) univ54 (List.nodup_finRange 54)]
  unfold osem0
  rw [← BI.bigSepL_map (fun j : Fin 54 => 4 + j.val) (List.finRange 54) (fun j => (semVal ((c.tc : Thread nD τ), cell j) 0 : sProp 𝕄)), finRange54,
    BI.bigSepL_append, BI.bigSepL_append, BI.bigSepL_append, BI.bigSepL_append, BI.bigSepL_append, BI.bigSepL_append]
  unfold SEM
  rw [← Cells_eq (c := (c.tc : Thread nD τ)) (Val := Elt F) cc0_scratch6 cell 4 (by decide +kernel) 16 0 (by omega),
    ← Cells_eq (c := (c.tc : Thread nD τ)) (Val := Elt F) cc0_scratch8 cell 21 (by decide +kernel) 3 0 (by omega),
    ← Cells_eq (c := (c.tc : Thread nD τ)) (Val := Elt F) cc0_scratch9 cell 24 (by decide +kernel) 2 0 (by omega),
    ← Cells_eq (c := (c.tc : Thread nD τ)) (Val := Elt F) cc0_scratch10 cell 26 (by decide +kernel) 12 0 (by omega),
    ← Cells_eq (c := (c.tc : Thread nD τ)) (Val := Elt F) cc0_scratch11 cell 38 (by decide +kernel) 12 0 (by omega),
    ← Cells_eq (c := (c.tc : Thread nD τ)) (Val := Elt F) cc0_scratch12 cell 50 (by decide +kernel) 8 0 (by omega)]
  have e : cell 20 = .dma cc0_scratch7.sem := by decide +kernel
  rw [← e]
  rfl

def HB0 : Finset (Ref sig .tc) := {main_v2, main_v3, main_arg3, main_arg5}
theorem HB0_sub : HB0 ⊆ Pipeline.restRefs sig spec0 := by decide
/-- The results the body writes itself. -/
def RW0 : Finset (Ref sig .tc) := {main_v4_0, main_v4_1, main_v4_3}
theorem RW0_sub : RW0 ⊆ Pipeline.restRefs sig spec0 \ HB0 := by decide

theorem hbmPts0_eq (c : Dev nD) :
    (bigSep HB0 (fun b => ((c : Thread nD τ).loc b) ↦{fullShare} V m c b) : sProp 𝕄)
      = iprop(owns (c.tc : Thread nD τ) m2 fullShare (V m c main_v2) ∗ owns (c.tc : Thread nD τ) m3 fullShare (V m c main_v3)
          ∗ owns (c.tc : Thread nD τ) ma3 fullShare (V m c main_arg3) ∗ owns (c.tc : Thread nD τ) ma5 fullShare (V m c main_arg5)) := by
  rw [BI.bigSep_eq_bigSepL_of_eq [main_v2, main_v3, main_arg3, main_arg5] (by decide) (by decide)]
  simp only [m2, m3, ma3, ma5, owns_whole]
  rfl

theorem routed0_eq (c : Dev nD) (W : (b : Ref sig .tc) → Buf (Elt F) ((c.tc : Thread nD τ).loc b)) :
    (Pipeline.routed RW0 c W : sProp 𝕄)
      = iprop(owns (c.tc : Thread nD τ) o0 fullShare (W main_v4_0) ∗ owns (c.tc : Thread nD τ) o1 fullShare (W main_v4_1)
          ∗ owns (c.tc : Thread nD τ) o3 fullShare (W main_v4_3)) := by
  unfold Pipeline.routed
  rw [BI.bigSep_eq_bigSepL_of_eq [main_v4_0, main_v4_1, main_v4_3] (by decide) (by decide)]
  simp only [o0, o1, o3, owns_whole]
  rfl

theorem scoped0_eq (c : Dev nD) :
    (Pipeline.scopedRest (Ix := Unit) (Name := ℕ) (U := Pipeline.UD sig nD τ) (Lvl := ℕ) (Val := Elt F) spec0 c : sProp 𝕄)
      = iprop((∃ d, owns (c.tc : Thread nD τ) s0 fullShare d) ∗ (∃ d, owns (c.tc : Thread nD τ) s1 fullShare d)
          ∗ (∃ d, owns (c.tc : Thread nD τ) s2 fullShare d) ∗ (∃ d, owns (c.tc : Thread nD τ) s3 fullShare d)
          ∗ (∃ d, owns (c.tc : Thread nD τ) s4 fullShare d) ∗ (∃ d, owns (c.tc : Thread nD τ) s5 fullShare d)) := by
  rw [scopedRest0_eq]
  simp only [s0, s1, s2, s3, s4, s5, owns_whole]
  try rfl

/-! ## What the run computes -/

/-- The two scales' words. -/
def xsW (c : Dev nD) : ℕ → ℕ → Elt F .f32 := lift2 (n := 1) (m := 1) (iblk m c 0 t0_0)
def wsW (c : Dev nD) : ℕ → ℕ → Elt F .f32 := lift2 (n := 1) (m := 1) (iblk m c 1 t0_0)
/-- `dy` as a matrix. -/
def dyF (c : Dev nD) : ℕ → ℕ → Elt F .bf16 := lift2 (n := 1024) (m := 11008) (V m c main_v2)
/-- The vector holding the greatest magnitude. -/
def amV (c : Dev nD) := amF (dyF m c) 16
/-- The inputs with the two scalars the loop uses. -/
def KI (c : Dev nD) : In F where
  dy := dyF m c
  x := lift2 (n := 1024) (m := 4096) (V m c main_v3)
  w := lift2 (n := 11008) (m := 4096) (V m c main_arg3)
  mg := lift2 (n := 11008) (m := 4096) (V m c main_arg5)
  iv := k0_pay31 (k0_pay30 (amV m c))
  ms := k0_pay34 (k0_pay29 (amV m c)) (xsW m c 0 0)

def dxV (c : Dev nD) : S1024x4096.Idx → Elt F .bf16 := fun x => dxF (KI m c) (k0_pay35 (k0_pay29 (amV m c)) (wsW m c 0 0)) (x 0).val (x 1).val
def moV (c : Dev nD) : S11008x4096.Idx → Elt F .f32 := fun x => moF (KI m c) (x 0).val (x 1).val
def codesV (c : Dev nD) : S1024x11008.Idx → Elt F .fp8e5m2 := fun x => codesF (KI m c) (x 0).val (x 1).val
def amaxV (c : Dev nD) : S1x1.Idx → Elt F .f32 := fun _ => k0_pay32 (k0_pay27 (amV m c))
def scaleV (c : Dev nD) : S1x1.Idx → Elt F .f32 := fun _ => k0_pay33 (k0_pay29 (amV m c))

/-- The written buffers' contents at the end. -/
def G (c : Dev nD) : (b : Ref sig .tc) → Buf (Elt F) ((c.tc : Thread nD τ).loc b) :=
  Function.update (Function.update (Function.update (fun b => V m c b) main_v4_0 (dxV m c)) main_v4_1 (moV m c)) main_v4_3 (codesV m c)

theorem G_0 (c : Dev nD) : G m c main_v4_0 = dxV m c := by
  unfold G
  rw [Function.update_of_ne (by decide), Function.update_of_ne (by decide), Function.update_self]
theorem G_1 (c : Dev nD) : G m c main_v4_1 = moV m c := by
  unfold G
  rw [Function.update_of_ne (by decide), Function.update_self]
theorem G_3 (c : Dev nD) : G m c main_v4_3 = codesV m c := by
  unfold G
  rw [Function.update_self]

/-- The invariant: before the point the written buffers hold what the launch left in them, after it their results. -/
def ΦK (c : Dev nD) (t : Fin (cfg0.N + 1)) : sProp 𝕄 :=
  Pipeline.ΦDRG osem0 spec0 HB0 RW0 (V m) (if t.val = 0 then V m else G m) c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => amaxV m c
    | ⟨3, _⟩ => scaleV m c
  Φ := ΦK m c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = amaxV m c := by dsimp only [dats]
theorem after0_3 (c : Dev nD) (t : Fin cfg0.N) : (dats m 0 c).after 3 t = scaleV m c := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The scratch as the launch lends it is the scratch as the body takes it, and back. -/
theorem scr_in (c : Dev nD) : (Pipeline.scopedRest (Ix := Unit) (Name := ℕ) (U := Pipeline.UD sig nD τ) (Lvl := ℕ) (Val := Elt F) spec0 c : sProp 𝕄) ⊢ SCR s0 s1 s2 s3 s4 s5 c := by
  rw [scoped0_eq]
  unfold SCR
  iintro ⟨A0, A1, A2, A3, A4, A5⟩
  isplitl [A0]; · iapply (H2_of_some (a := 1024) (b := 11008)) $$ A0
  isplitl [A1]; · iapply (H2_of_some (a := 1024) (b := 4096)) $$ A1
  isplitl [A2]; · iapply Hfrom_of_some $$ A2
  isplitl [A3]; · iapply Hfrom_of_some $$ A3
  isplitl [A4]; · iapply Hfrom_of_some $$ A4
  iapply (H2_of_some (a := 1024) (b := 4096)) $$ A5

theorem scr_out (c : Dev nD) : SCR s0 s1 s2 s3 s4 s5 c ⊢ (Pipeline.scopedRest (Ix := Unit) (Name := ℕ) (U := Pipeline.UD sig nD τ) (Lvl := ℕ) (Val := Elt F) spec0 c : sProp 𝕄) := by
  rw [scoped0_eq]
  unfold SCR
  iintro ⟨A0, A1, A2, A3, A4, A5⟩
  isplitl [A0]; · iapply some_of_H2 $$ A0
  isplitl [A1]; · iapply some_of_H2 $$ A1
  isplitl [A2]; · iapply some_of_Hfrom $$ A2
  isplitl [A3]; · iapply some_of_Hfrom $$ A3
  isplitl [A4]; · iapply some_of_Hfrom $$ A4
  iapply some_of_H2 $$ A5

/-- The inputs likewise. -/
theorem inp_in (c : Dev nD) : (bigSep HB0 (fun b => ((c : Thread nD τ).loc b) ↦{fullShare} V m c b) : sProp 𝕄) ⊢ INP m2 m3 ma3 ma5 c (KI m c) fullShare fullShare fullShare fullShare := by
  rw [hbmPts0_eq]
  unfold INP KI dyF
  iintro ⟨A0, A1, A2, A3⟩
  isplitl [A0]; · iapply (H2_of_owns (a := 1024) (b := 11008)) $$ A0
  isplitl [A1]; · iapply (H2_of_owns (a := 1024) (b := 4096)) $$ A1
  isplitl [A2]; · iapply (H2_of_owns (a := 11008) (b := 4096)) $$ A2
  iapply (H2_of_owns (a := 11008) (b := 4096)) $$ A3

theorem inp_out (c : Dev nD) : INP m2 m3 ma3 ma5 c (KI m c) fullShare fullShare fullShare fullShare ⊢ (bigSep HB0 (fun b => ((c : Thread nD τ).loc b) ↦{fullShare} V m c b) : sProp 𝕄) := by
  rw [hbmPts0_eq]
  unfold INP KI dyF
  iintro ⟨A0, A1, A2, A3⟩
  isplitl [A0]; · iapply (owns_of_H2_eq (lift2_val (n := 1024) (m := 11008) _)) $$ A0
  isplitl [A1]; · iapply (owns_of_H2_eq (lift2_val (n := 1024) (m := 4096) _)) $$ A1
  isplitl [A2]; · iapply (owns_of_H2_eq (lift2_val (n := 11008) (m := 4096) _)) $$ A2
  iapply (owns_of_H2_eq (lift2_val (n := 11008) (m := 4096) _)) $$ A3

/-- The written buffers, at anything before and at the results after. -/
theorem out_in (c : Dev nD) : (Pipeline.routed RW0 c (V m c) : sProp 𝕄)
    ⊢ iprop((∃ G, H2 (c.tc : Thread nD τ) o0 fullShare 0 1024 0 4096 G) ∗ (∃ G, H2 (c.tc : Thread nD τ) o1 fullShare 0 11008 0 4096 G) ∗ (∃ G, H2 (c.tc : Thread nD τ) o3 fullShare 0 1024 0 11008 G)) := by
  rw [routed0_eq]
  iintro ⟨A0, A1, A2⟩
  isplitl [A0]; · iexists _; iapply (H2_of_owns (a := 1024) (b := 4096)) $$ A0
  isplitl [A1]; · iexists _; iapply (H2_of_owns (a := 11008) (b := 4096)) $$ A1
  iexists _; iapply (H2_of_owns (a := 1024) (b := 11008)) $$ A2

theorem out_out (c : Dev nD) :
    iprop(H2 (c.tc : Thread nD τ) o0 fullShare 0 1024 0 4096 (dxF (KI m c) (k0_pay35 (k0_pay29 (amV m c)) (wsW m c 0 0))) ∗ H2 (c.tc : Thread nD τ) o1 fullShare 0 11008 0 4096 (moF (KI m c)) ∗ H2 (c.tc : Thread nD τ) o3 fullShare 0 1024 0 11008 (codesF (KI m c)))
      ⊢ (Pipeline.routed RW0 c (G m c) : sProp 𝕄) := by
  rw [routed0_eq, G_0, G_1, G_3]
  iintro ⟨A0, A1, A2⟩
  isplitl [A0]; · iapply (owns_of_H2_eq (fun _ => rfl)) $$ A0
  isplitl [A1]; · iapply (owns_of_H2_eq (fun _ => rfl)) $$ A1
  iapply (owns_of_H2_eq (fun _ => rfl)) $$ A2

theorem sound_body (c : Dev nD) (t : Fin cfg0.N) :
    bodyPre m c t ⊢ wp frame (wpE (defs₀ (F := F)) Variants.none c none) Set.univ (bodyAt0 t) (fun _ => bodyPost m c t) := by
  have ht := fin_N0 t
  subst ht
  unfold bodyPre bodyPost bodyAt0
  simp only [before0_0, before0_1]
  rw [after0_0, after0_1, after0_2, after0_3,
    show (dats m 0 c).Φ t0_0.castSucc = Pipeline.ΦDRG osem0 spec0 HB0 RW0 (V m) (V m) c from rfl,
    show (dats m 0 c).Φ t0_0.succ = Pipeline.ΦDRG osem0 spec0 HB0 RW0 (V m) (G m) c from rfl,
    Pipeline.ΦDRG_eq, Pipeline.ΦDRG_eq, ownSems00_eq]
  unfold Dat.owesAt Pipeline.owesWithin
  rw [show (dats m 0 c).owed t0_0.castSucc = 0 from rfl, show (dats m 0 c).owed t0_0.succ = 0 from rfl]
  iintro ⟨⟨HS, Hg, HC, HI, HO⟩, ⟨%W, -, HW⟩, ⟨%d0, H0⟩, ⟨%d1, H1⟩, ⟨%d2, H2⟩, ⟨%d3, H3⟩⟩
  ihave HS := (scr_in (F := F) c) $$ HS
  ihave HI := (inp_in m c) $$ HI
  ihave HO := (out_in m c) $$ HO
  icases HO with ⟨O0, O1, O3⟩
  ihave H0 := (H2_of_owns (a := 1) (b := 1) (iblk m c 0 t0_0)) $$ H0
  ihave H1 := (H2_of_owns (a := 1) (b := 1) (iblk m c 1 t0_0)) $$ H1
  ihave H2 := (H2_of_owns (a := 1) (b := 1) _) $$ H2
  ihave H3 := (H2_of_owns (a := 1) (b := 1) _) $$ H3
  iapply (body _ (hstage0_0 0) _ (hstage0_1 0) m2 (Memref.isWhole_whole _) m3 (Memref.isWhole_whole _) ma3 (Memref.isWhole_whole _) ma5 (Memref.isWhole_whole _) o0 (Memref.isWhole_whole _) o1 (Memref.isWhole_whole _) _ (hstage0_2 0) o3 (Memref.isWhole_whole _) _ (hstage0_3 0) s0 (Memref.isWhole_whole _) s1 (Memref.isWhole_whole _) s2 (Memref.isWhole_whole _) s3 (Memref.isWhole_whole _) s4 (Memref.isWhole_whole _) s5 (Memref.isWhole_whole _) cc0_scratch6 cc0_scratch7 cc0_scratch8 cc0_scratch9 cc0_scratch10 cc0_scratch11 cc0_scratch12 Variants.none c none (KI m c) fullShare fullShare fullShare fullShare fullShare fullShare (xsW m c) (wsW m c) _ _ rfl rfl) $$ [H0 H1 H2 H3 HI O0 O1 O3 HS HC HW]
  · unfold BP
    isplitl [H0]; · iexact H0
    isplitl [H1]; · iexact H1
    isplitl [H2]; · iexact H2
    isplitl [H3]; · iexact H3
    isplitl [HI]; · iexact HI
    isplitl [O0]; · iexact O0
    isplitl [O1]; · iexact O1
    isplitl [O3]; · iexact O3
    isplitl [HS]; · iexact HS
    isplitl [HC]; · iexact HC
    iexists _; iexact HW
  unfold EP
  iintro ⟨H0, H1, H2, H3, HI, O0, O1, O3, HS, HC, ⟨%W', HW⟩⟩
  ihave HS := (scr_out (F := F) c) $$ HS
  ihave HI := (inp_out m c) $$ HI
  unfold xsW wsW
  isplitl [HS Hg HC HI O0 O1 O3]
  · isplitl [HS]; · iexact HS
    isplitl [Hg]; · iexact Hg
    isplitl [HC]; · iexact HC
    isplitl [HI]; · iexact HI
    iapply (out_out m c)
    isplitl [O0]; · iexact O0
    isplitl [O1]; · iexact O1
    iexact O3
  isplitl [HW]
  · iexists W'; isplitr; · ipureintro; exact fun _ _ => Or.inl trivial
    iexact HW
  isplitl [H0]; · iapply (owns_of_H2_eq (lift2_val (n := 1) (m := 1) (iblk m c 0 t0_0))) $$ H0
  isplitl [H1]; · iapply (owns_of_H2_eq (lift2_val (n := 1) (m := 1) (iblk m c 1 t0_0))) $$ H1
  isplitl [H2]; · iapply (owns_of_H2_eq (fun _ => rfl)) $$ H2
  iapply (owns_of_H2_eq (fun _ => rfl)) $$ H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePostRG cfgs (dats m) 0 RW0 (V m) (G m) r ∧ r.2.sem = fun _ => 0) :=
  Pipeline.θ_run_frame_dmaRG (Q' := _) cfgs (dats m) (0 : Fin 1) launch0 osem0 defs₀ Variants.none ownSemFacts0 HB0 RW0 HB0_sub RW0_sub m ρ main
    (hbody := fun c => (body_obligation m c).loose) (hshare := fun c => (dats m 0 c).share_full fun _ => rfl)
    (howed := fun _ _ => rfl) (V := V m) (hmain := hmainD m Variants.none) (hA := A_eq m) (G := G m)
    (hin := fun _ => .rfl) (hout := fun _ => .rfl)

/-! ## The two results staged by the launch -/

theorem idx_inj2 : ∀ t t' : Fin cfg0.N, win0_2.index t = win0_2.index t' → t = t' :=
  (by decide +kernel : ∀ t t' : Fin grid0.N, win0_2.index t = win0_2.index t' → t = t')
theorem idx_inj3 : ∀ t t' : Fin cfg0.N, win0_3.index t = win0_3.index t' → t = t' :=
  (by decide +kernel : ∀ t t' : Fin grid0.N, win0_3.index t = win0_3.index t' → t = t')

theorem sub1 (a b : S1x1.Idx) : a = b := funext fun i => Fin.ext (by
  have ha := (a i).isLt
  have hb := (b i).isLt
  have h1 : S1x1.size i = 1 := (by decide : ∀ i : Fin S1x1.rank, S1x1.size i = 1) i
  omega)

theorem amax_end (c : Dev nD) : (dats m 0 c).arrAt 2 cfg0.N = amaxV m c := by
  funext x
  have h := (dats m 0 c).arrAt_emb_eq_flushed 2 (fun t t' _ _ hne => (cfg0.win 2).disjoint_blk fun h => hne (idx_inj2 t t' h)) t0_0 (flush0_2 t0_0) x
  have e : ((cfg0.win 2).blk t0_0).view.emb x = x := sub1 _ _
  rw [e] at h
  rw [h]
  show _root_.cast _ ((cfg0.win 2).cut (grid0.coords t0_0) ((dats m 0 c).after 2 t0_0) x) = _
  rw [after0_2]
  unfold amaxV
  generalize k0_pay32 (k0_pay27 (amV m c)) = v
  rfl

theorem scale_end (c : Dev nD) : (dats m 0 c).arrAt 3 cfg0.N = scaleV m c := by
  funext x
  have h := (dats m 0 c).arrAt_emb_eq_flushed 3 (fun t t' _ _ hne => (cfg0.win 3).disjoint_blk fun h => hne (idx_inj3 t t' h)) t0_0 (flush0_3 t0_0) x
  have e : ((cfg0.win 3).blk t0_0).view.emb x = x := sub1 _ _
  rw [e] at h
  rw [h]
  show _root_.cast _ ((cfg0.win 3).cut (grid0.coords t0_0) ((dats m 0 c).after 3 t0_0) x) = _
  rw [after0_3]
  unfold scaleV
  generalize k0_pay33 (k0_pay29 (amV m c)) = v
  rfl

/-! ## The post -/

/-- Every argument ends as launched, every result at its value, every semaphore at zero. -/
theorem run : θ_run defs (onTc (τ := τ) (main (F := F))) ⟨m, fun _ => 0, ρ⟩ (fun r => (∀ c : Dev nD,
      (r.2.mem ((c.tc : Thread nD τ).loc main_v4_0) = dxV m c
      ∧ r.2.mem ((c.tc : Thread nD τ).loc main_v4_1) = moV m c
      ∧ r.2.mem ((c.tc : Thread nD τ).loc main_v4_2) = amaxV m c
      ∧ r.2.mem ((c.tc : Thread nD τ).loc main_v4_3) = codesV m c
      ∧ r.2.mem ((c.tc : Thread nD τ).loc main_v4_4) = scaleV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨⟨(h.1.2 c main_v4_0 (by decide)).trans (G_0 m c), (h.1.2 c main_v4_1 (by decide)).trans (G_1 m c), ((h.1.1 c).1 2).trans (amax_end m c),
      (h.1.2 c main_v4_3 (by decide)).trans (G_3 m c), ((h.1.1 c).1 3).trans (scale_end m c)⟩,
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c)⟩, h.2⟩) (run_main m ρ)

end Cert.KernelIdeal.Hand

end
-- ==== Proof.Binade.lean ====
/-
  The scale of the quantiser over the extended reals: the exponent field of a ratio, found as the greatest power of two
  that is at most it, and the least power of two above it, found by comparison with every power.
-/
module

public import Idealize.ShloMosaic.PureOps.Ideal.Laws
public import Idealize.ShloMosaic.PureOps.Reduce
public import Idealize.ShloMosaic.Lib.ValueIdx
public import Mathlib.Algebra.Order.Archimedean.Basic
public import Mathlib.Data.Finset.Fold

@[expose] public section

noncomputable section

namespace Cert.Value

open Idealize.ShloMosaic Idealize.ShloMosaic.ValueIdx

/-! ## Reductions of a whole array to one element -/

section Total
variable {s t : Shape} {axes : List (Fin s.rank)} {φ : FTy}

theorem drop_all (h : s.Reduces axes t) (ht : ∀ b, t.size b = 1) (j : t.Idx) :
    (Finset.univ.filter fun i => h.drop i = j) = Finset.univ :=
  Finset.filter_true_of_mem fun i _ => funext fun b => Fin.ext (by
    have := (h.drop i b).isLt; have := (j b).isLt; have := ht b; omega)

/-- A maximum over every element is at most `b` exactly when every element is. -/
theorem max_le_iff_all (src : FVec Ideal s φ) (acc : BitVec φ.bits) (h : s.Reduces axes t) (ht : ∀ b, t.size b = 1)
    (hφ : FKind.Formats φ) (hacc : acc = FKind.maximumf.neutral φ hφ) (j : t.Idx) (b : EReal) :
    multiReduction .maximumf axes t src acc h hφ hacc j ≤ b ↔ Ideal.ofBits φ acc ≤ b ∧ ∀ i, src i ≤ b := by
  rw [multiReduction_maximumf_eq_fold, drop_all h ht]
  exact (Finset.fold_max_le b).trans (by simp)

/-- A minimum over every element is at least `b` exactly when every element is. -/
theorem le_min_iff_all (src : FVec Ideal s φ) (acc : BitVec φ.bits) (h : s.Reduces axes t) (ht : ∀ b, t.size b = 1)
    (hφ : FKind.Formats φ) (hacc : acc = FKind.minimumf.neutral φ hφ) (j : t.Idx) (b : EReal) :
    b ≤ multiReduction .minimumf axes t src acc h hφ hacc j ↔ b ≤ Ideal.ofBits φ acc ∧ ∀ i, b ≤ src i := by
  rw [multiReduction_minimumf_eq_fold, drop_all h ht]
  exact (Finset.le_fold_min b).trans (by simp)

theorem toInt_maxsi (x y : BitVec 32) : (IntOp.maxsi x y).toInt = max x.toInt y.toInt := by
  unfold IntOp.maxsi
  split_ifs with h <;> simp only [BitVec.slt, decide_eq_true_eq] at h <;> omega

/-- A signed maximum over every element, read as an integer. -/
theorem toInt_maxI_le (src : IVec s 32) (acc : BitVec 32) (h : s.Reduces axes t) (ht : ∀ b, t.size b = 1)
    (hacc : acc = IKind.maxsi.neutral) (j : t.Idx) (b : ℤ) :
    (multiReductionI .maxsi axes t src acc h hacc j).toInt ≤ b ↔ acc.toInt ≤ b ∧ ∀ i, (src i).toInt ≤ b := by
  rw [multiReductionI_eq_fold, drop_all h ht]
  have e : (Finset.univ.fold IKind.maxsi.op acc src).toInt = Finset.univ.fold max acc.toInt (fun i => (src i).toInt) :=
    (Finset.fold_hom (m := BitVec.toInt) (op := IKind.maxsi.op) (op' := max) (fun x y => toInt_maxsi x y)).symm
  rw [e]
  exact (Finset.fold_max_le b).trans (by simp)

end Total

/-! ## The powers of two -/

/-- The bits of the word whose exponent field is `k` and whose fraction is zero. -/
theorem word_fields : ∀ k : Fin 256, ((BitVec.ofNat 32 k.val <<< 23).extractLsb' 23 8).toNat = k.val
    ∧ ((BitVec.ofNat 32 k.val <<< 23).extractLsb' 0 23).toNat = 0 ∧ ((BitVec.ofNat 32 k.val <<< 23).extractLsb' (8 + 23) 1 == 1#1) = false := by
  decide +kernel

/-- What that word denotes. -/
def word (k : ℕ) : EReal := Ideal.ofBits .f32 (BitVec.ofNat 32 k <<< 23)

theorem word_eq (k : ℕ) (hk : k < 256) :
    word k = if k = 255 then ⊤ else if k = 0 then 0 else (((2 : ℝ) ^ ((k : ℤ) - 127) : ℝ) : EReal) := by
  obtain ⟨h1, h2, h3⟩ := word_fields ⟨k, hk⟩
  dsimp only at h1 h2 h3
  unfold word Ideal.ofBits Ideal.ieee
  simp only [h1, h2, h3]
  by_cases a : k = 255
  · subst a; rfl
  · rw [if_neg (show ¬ k = 2 ^ 8 - 1 by omega), if_neg a]
    by_cases b : k = 0
    · rw [if_pos b, if_pos b]
      refine (congrArg Real.toEReal ?_).trans EReal.coe_zero
      rw [Nat.cast_zero, mul_zero, zero_mul]
    · rw [if_neg b, if_neg b]
      refine congrArg Real.toEReal ?_
      have e : (2 : ℝ) ^ (23 : ℕ) = (2 : ℝ) ^ (23 : ℤ) := by norm_num
      simp only [Bool.false_eq_true, if_false, one_mul, Nat.add_zero, Nat.cast_pow, Nat.cast_ofNat]
      rw [e, ← zpow_add₀ (by norm_num : (2 : ℝ) ≠ 0)]
      refine congrArg (fun z : ℤ => (2 : ℝ) ^ z) ?_
      norm_num

theorem word_of_pos (k : ℕ) (h0 : 0 < k) (h1 : k < 255) : word k = (((2 : ℝ) ^ ((k : ℤ) - 127) : ℝ) : EReal) := by
  rw [word_eq k (by omega), if_neg (by omega), if_neg (by omega)]

/-- A ratio is below the least normal number, or lies in one binade. -/
theorem binade (r : ℝ) (h1 : r < (2 : ℝ) ^ (113 : ℤ)) :
    r < (2 : ℝ) ^ (-126 : ℤ) ∨ ∃ n : ℕ, 1 ≤ n ∧ n ≤ 239 ∧ (2 : ℝ) ^ ((n : ℤ) - 127) ≤ r ∧ r < (2 : ℝ) ^ ((n : ℤ) - 126) := by
  rcases lt_or_ge r ((2 : ℝ) ^ (-126 : ℤ)) with h | h
  · exact .inl h
  · right
    have hr : 0 < r := lt_of_lt_of_le (by positivity) h
    obtain ⟨z, hz1, hz2⟩ := exists_mem_Ico_zpow hr (by norm_num : (1 : ℝ) < 2)
    have a1 : z < 113 := (zpow_lt_zpow_iff_right₀ (by norm_num : (1 : ℝ) < 2)).1 (lt_of_le_of_lt hz1 h1)
    have a2 : -126 < z + 1 := (zpow_lt_zpow_iff_right₀ (by norm_num : (1 : ℝ) < 2)).1 (lt_of_le_of_lt h hz2)
    refine ⟨(z + 127).toNat, by omega, by omega, ?_, ?_⟩
    · rw [show (((z + 127).toNat : ℕ) : ℤ) - 127 = z by omega]; exact hz1
    · rw [show (((z + 127).toNat : ℕ) : ℤ) - 126 = z + 1 by omega]; exact hz2

/-- Below the least normal number only the zero word is at most the ratio. -/
theorem word_le_small (r : ℝ) (h0 : 0 ≤ r) (h : r < (2 : ℝ) ^ (-126 : ℤ)) (k : ℕ) (hk : k < 256) : word k ≤ (r : EReal) ↔ k ≤ 0 := by
  rw [word_eq k hk]
  split_ifs with a b
  · simp [a]
  · simp [b, h0]
  · refine iff_of_false ?_ (by omega)
    rw [EReal.coe_le_coe_iff, not_le]
    exact lt_of_lt_of_le h (zpow_le_zpow_right₀ (by norm_num) (by omega))

/-- In a binade the words at most the ratio are those up to its exponent field. -/
theorem word_le_binade (r : ℝ) (n : ℕ) (h1 : 1 ≤ n) (h2 : n ≤ 239) (hl : (2 : ℝ) ^ ((n : ℤ) - 127) ≤ r) (hu : r < (2 : ℝ) ^ ((n : ℤ) - 126))
    (k : ℕ) (hk : k < 256) : word k ≤ (r : EReal) ↔ k ≤ n := by
  rw [word_eq k hk]
  split_ifs with a b
  · refine iff_of_false (by simp) (by omega)
  · refine iff_of_true ?_ (by omega)
    exact EReal.coe_nonneg.2 (le_trans (by positivity) hl)
  · rw [EReal.coe_le_coe_iff]
    constructor
    · intro h
      have := (zpow_lt_zpow_iff_right₀ (by norm_num : (1 : ℝ) < 2)).1 (lt_of_le_of_lt h hu)
      omega
    · intro h
      exact le_trans (zpow_le_zpow_right₀ (by norm_num) (by omega)) hl

/-! ## The exponent field -/

abbrev S1x1x256 : Shape := ⟨3, ![1, 1, 256]⟩
abbrev S1 : Shape := ⟨1, ![1]⟩

/-- The signed maximum of the indices up to `n`, the rest read as zero, is `n`. -/
theorem field_eq (sel : IVec S1x1x256 32) (n : ℕ) (hn : n < 256)
    (hs : ∀ i, sel i = if (i 2).val ≤ n then BitVec.ofNat 32 (i 2).val else 0#32) (h : S1x1x256.Reduces [1, 2] S1)
    (hacc : 2147483648#32 = IKind.maxsi.neutral) (j : S1.Idx) :
    multiReductionI .maxsi [1, 2] S1 sel 2147483648#32 h hacc j = BitVec.ofNat 32 n := by
  have ti : ∀ k : ℕ, k < 256 → (BitVec.ofNat 32 k).toInt = k := fun k hk => by
    have e : (BitVec.ofNat 32 k).toNat = k := by rw [BitVec.toNat_ofNat]; omega
    rw [BitVec.toInt_eq_toNat_of_lt (by omega), e]
  have key : ∀ b : ℤ, (multiReductionI .maxsi [1, 2] S1 sel 2147483648#32 h hacc j).toInt ≤ b ↔ (n : ℤ) ≤ b := by
    intro b
    rw [toInt_maxI_le _ _ _ (by decide)]
    constructor
    · rintro ⟨-, ha⟩
      have := ha (ix3 0 0 ⟨n, hn⟩)
      rw [hs] at this
      simp only [ix3] at this
      rw [if_pos (by exact le_refl n)] at this
      exact (ti n hn) ▸ this
    · intro hb
      refine ⟨?_, fun i => ?_⟩
      · have : (2147483648#32 : BitVec 32).toInt = -2147483648 := by decide
        omega
      · have hi : (i 2).val < 256 := (i 2).isLt
        rw [hs]; split_ifs with c
        · rw [ti _ hi]; omega
        · have : (0#32 : BitVec 32).toInt = 0 := by decide
          omega
  apply BitVec.eq_of_toInt_eq
  rw [ti n hn]
  exact le_antisymm ((key _).2 le_rfl) ((key _).1 le_rfl)

/-! ## The least power above -/

/-- The least of the powers above a ratio below `2 ^ m`, at least `2 ^ (m - 1)`, is `2 ^ m`. -/
theorem least_eq (sel : FVec Ideal S1x1x256 .f32) (r : ℝ) (m : ℤ) (h1 : -125 ≤ m) (h2 : m ≤ 130) (hl : (2 : ℝ) ^ (m - 1) ≤ r) (hu : r < (2 : ℝ) ^ m)
    (hs : ∀ i, sel i = if r < (2 : ℝ) ^ (((i 2).val : ℤ) - 125) then (((2 : ℝ) ^ (((i 2).val : ℤ) - 125) : ℝ) : EReal) else ⊤)
    (h : S1x1x256.Reduces [1, 2] S1) (hφ : FKind.Formats .f32) (hacc : 0x7F800000#32 = FKind.minimumf.neutral .f32 hφ) (j : S1.Idx) :
    multiReduction .minimumf [1, 2] S1 sel 0x7F800000#32 h hφ hacc j = (((2 : ℝ) ^ m : ℝ) : EReal) := by
  have top : Ideal.ofBits .f32 0x7F800000#32 = ⊤ := by simp [Ideal.ofBits, Ideal.ieee]
  have key : ∀ b : EReal, b ≤ multiReduction .minimumf [1, 2] S1 sel 0x7F800000#32 h hφ hacc j ↔ b ≤ (((2 : ℝ) ^ m : ℝ) : EReal) := by
    intro b
    rw [le_min_iff_all _ _ _ (by decide), top]
    constructor
    · rintro ⟨-, ha⟩
      have := ha (ix3 0 0 ⟨(m + 125).toNat, by omega⟩)
      rw [hs] at this
      have e : ((((ix3 0 0 ⟨(m + 125).toNat, by omega⟩ : S1x1x256.Idx) 2).val : ℕ) : ℤ) - 125 = m := by
        show (((m + 125).toNat : ℕ) : ℤ) - 125 = m
        omega
      rw [e, if_pos hu] at this
      exact this
    · intro hb
      refine ⟨le_top, fun i => ?_⟩
      rw [hs]; split_ifs with c
      · refine le_trans hb (EReal.coe_le_coe_iff.2 (zpow_le_zpow_right₀ (by norm_num) ?_))
        have := (zpow_lt_zpow_iff_right₀ (by norm_num : (1 : ℝ) < 2)).1 (lt_of_le_of_lt hl c)
        omega
      · exact le_top
  exact le_antisymm ((key _).1 le_rfl) ((key _).2 le_rfl)

end Cert.Value

end

end
-- ==== Proof.KScale.lean ====
/-
  The kernel's scale and its inverse over the extended reals, from the largest magnitude.
-/
module

public import proofs.«01_k».proof.Proof.Binade
public import proofs.«01_k».proof.Proof.KIBase
public import Idealize.ShloMosaic.Lib.Pipeline.Value

@[expose] public section

set_option maxRecDepth 16384

noncomputable section

namespace Cert.Value

open Cert.KernelIdeal Cert.KernelIdeal.Gen
open Idealize.ShloMosaic Idealize.ShloMosaic.ValueIdx

/-- The rounded reciprocal of the largest code. -/
def rcp : ℝ := 9586981 * (2 : ℝ) ^ (-39 : ℤ)

theorem rcp_val : Ideal.ofBits .f32 0x37924925#32 = ((rcp : ℝ) : EReal) := by
  simp [Ideal.ofBits, Ideal.ieee, rcp, -EReal.coe_mul]

/-- What the comparisons select: an index where its power of two is at most the ratio, else zero. -/
def selW (v : FVec Ideal Cert.KernelIdeal.S64x128 .bf16) : IVec Cert.KernelIdeal.S1x1x256 32 :=
  shapeCast Cert.KernelIdeal.S1x1x256 (select (cmpf .ole
      (bitcastToFloat (F := Ideal) .f32 (shli (iota .tc S1x256 32 [1] iota_S1x256_d1_w32) (broadcast S1x256 23#32)))
      (broadcastTo S1x256 (mulf (k0_pay27 v) (broadcast S1x1 (Scalar.ofBits (F := Ideal) .f32 0x37924925#32))) broadcasts_S1x1_S1x256))
    (iota .tc S1x256 32 [1] iota_S1x256_d1_w32) (broadcast S1x256 0#32)) shapeCasts_S1x256_S1x1x256

/-- The field: the greatest index selected. -/
def fieldW (v : FVec Ideal Cert.KernelIdeal.S64x128 .bf16) : IVec Cert.KernelIdeal.S1 32 :=
  multiReductionI .maxsi [1, 2] Cert.KernelIdeal.S1 (selW v) 2147483648#32 reduces_S1x1x256_S1 rfl

theorem pay28_field (v : FVec Ideal Cert.KernelIdeal.S64x128 .bf16) :
    k0_pay28 v = (have w := broadcast S1x1 (extractAt ![0, 0, 0] (shapeCast S1x1x1 (fieldW v) shapeCasts_S1_S1x1x1) inpos_S1x1x1_p0_0_0)
      select (cmpi .eq w (broadcast S1x1 0#32)) (broadcast S1x1 0#32) (subi w (broadcast S1x1 126#32))) := by
  unfold k0_pay28 fieldW selW
  rfl

theorem pay28_eq (v : FVec Ideal Cert.KernelIdeal.S64x128 .bf16) (y : S1x1.Idx) (x : BitVec 32) (hx : ∀ j, fieldW v j = x) :
    k0_pay28 v y = Scalar.select (IntOp.cmpi .eq x 0#32) 0#32 (IntOp.subi x 126#32) := by
  rw [pay28_field, show fieldW v = fun _ => x from funext hx]
  rfl

theorem selW_apply (v : FVec Ideal Cert.KernelIdeal.S64x128 .bf16) (M : ℝ) (hM : k0_pay27 v = fun _ => (M : EReal)) (i : Cert.KernelIdeal.S1x1x256.Idx) :
    selW v i = if word (i 2).val ≤ ((M * rcp : ℝ) : EReal) then BitVec.ofNat 32 (i 2).val else 0#32 := by
  unfold selW
  rw [shapeCast_addUnit_apply, hM]
  have e : mulf (F := Ideal) (φ := .f32) (s := S1x1) (fun _ => (M : EReal)) (broadcast S1x1 (Scalar.ofBits (F := Ideal) .f32 0x37924925#32)) = fun _ => ((M * rcp : ℝ) : EReal) := by
    funext _
    show (M : EReal) * Ideal.ofBits .f32 0x37924925#32 = _
    rw [rcp_val, EReal.coe_mul]
  rw [e]
  have hi : iota .tc S1x256 32 [1] iota_S1x256_d1_w32 (fun a => i a.succ) = BitVec.ofNat 32 (i 2).val := iota_single_apply _ _ _ _ _ _
  have hw : bitcastToFloat (F := Ideal) .f32 (shli (iota .tc S1x256 32 [1] iota_S1x256_d1_w32) (broadcast S1x256 23#32)) (fun a => i a.succ) = word (i 2).val := by
    show Ideal.ofBits .f32 (IntOp.shli .vector (iota .tc S1x256 32 [1] iota_S1x256_d1_w32 (fun a => i a.succ)) 23#32) = _
    rw [hi]; rfl
  show Scalar.select (Ideal.cmp .ole (bitcastToFloat (F := Ideal) .f32 (shli (iota .tc S1x256 32 [1] iota_S1x256_d1_w32) (broadcast S1x256 23#32)) (fun a => i a.succ)) ((M * rcp : ℝ) : EReal))
    (iota .tc S1x256 32 [1] iota_S1x256_d1_w32 (fun a => i a.succ)) 0#32 = _
  rw [hw, hi]
  unfold Ideal.cmp Scalar.select
  by_cases h : word (i 2).val ≤ ((M * rcp : ℝ) : EReal)
  · rw [if_pos h, decide_eq_true h]; rfl
  · rw [if_neg h, decide_eq_false h]; rfl

theorem field_val (v : FVec Ideal Cert.KernelIdeal.S64x128 .bf16) (M : ℝ) (hM : k0_pay27 v = fun _ => (M : EReal)) (n : ℕ) (hn : n < 256)
    (h : ∀ k, k < 256 → (word k ≤ ((M * rcp : ℝ) : EReal) ↔ k ≤ n)) (j : Cert.KernelIdeal.S1.Idx) : fieldW v j = BitVec.ofNat 32 n :=
  field_eq _ n hn (fun i => by
    rw [selW_apply v M hM]
    exact if_congr (h _ (i 2).isLt) rfl rfl) _ _ _

theorem shift_word : ∀ n : Fin 240, IntOp.shli .vector (IntOp.addi (Scalar.select (IntOp.cmpi .eq (BitVec.ofNat 32 n.val) 0#32) 0#32 (IntOp.subi (BitVec.ofNat 32 n.val) 126#32)) 127#32) 23#32
      = BitVec.ofNat 32 (if n.val = 0 then 127 else n.val + 1) <<< 23
    ∧ IntOp.shli .vector (IntOp.addi (IntOp.subi 0#32 (Scalar.select (IntOp.cmpi .eq (BitVec.ofNat 32 n.val) 0#32) 0#32 (IntOp.subi (BitVec.ofNat 32 n.val) 126#32))) 127#32) 23#32
      = BitVec.ofNat 32 (if n.val = 0 then 127 else 253 - n.val) <<< 23 := by decide +kernel

/-- The scale and its inverse from the field. -/
theorem scale_word (v : FVec Ideal Cert.KernelIdeal.S64x128 .bf16) (M : ℝ) (hM : k0_pay27 v = fun _ => (M : EReal)) (n : ℕ) (hn : n < 240)
    (h : ∀ k, k < 256 → (word k ≤ ((M * rcp : ℝ) : EReal) ↔ k ≤ n)) :
    k0_pay29 v = (fun _ => word (if n = 0 then 127 else n + 1)) ∧ k0_pay31 (F := Ideal) (k0_pay30 v) = fun _ => (word (if n = 0 then 127 else 253 - n) : Ideal .bf16) := by
  obtain ⟨h1, h2⟩ := shift_word ⟨n, hn⟩
  dsimp only at h1 h2
  constructor
  · funext y
    have e := pay28_eq v y _ (field_val v M hM n (by omega) h)
    show Ideal.ofBits .f32 (IntOp.shli .vector (IntOp.addi (k0_pay28 v y) 127#32) 23#32) = _
    rw [e, h1]; rfl
  · funext y
    have e := pay28_eq v y _ (field_val v M hM n (by omega) h)
    show Ideal.ofBits .f32 (IntOp.shli .vector (IntOp.addi (IntOp.subi 0#32 (k0_pay28 v y)) 127#32) 23#32) = _
    rw [e, h2]; rfl

/-- The scale of the quantiser at a ratio: the least power of two above it, and one below the least normal number. -/
theorem kernel_scale (v : FVec Ideal Cert.KernelIdeal.S64x128 .bf16) (M : ℝ) (h0 : 0 ≤ M * rcp) (h1 : M * rcp < (2 : ℝ) ^ (113 : ℤ))
    (hM : k0_pay27 v = fun _ => (M : EReal)) :
    (M * rcp < (2 : ℝ) ^ (-126 : ℤ) ∧ k0_pay29 v = (fun _ => 1) ∧ k0_pay31 (F := Ideal) (k0_pay30 v) = fun _ => (1 : EReal))
    ∨ ∃ m : ℤ, -125 ≤ m ∧ m ≤ 113 ∧ (2 : ℝ) ^ (-126 : ℤ) ≤ M * rcp ∧ (2 : ℝ) ^ (m - 1) ≤ M * rcp ∧ M * rcp < (2 : ℝ) ^ m
      ∧ k0_pay29 v = (fun _ => (((2 : ℝ) ^ m : ℝ) : EReal)) ∧ k0_pay31 (F := Ideal) (k0_pay30 v) = fun _ => ((((2 : ℝ) ^ (-m) : ℝ) : EReal) : Ideal .bf16) := by
  rcases binade _ h1 with h | ⟨n, hn1, hn2, hl, hu⟩
  · left
    obtain ⟨a, b⟩ := scale_word v M hM 0 (by omega) (fun k hk => word_le_small _ h0 h k hk)
    have e : word 127 = 1 := by
      rw [word_of_pos 127 (by omega) (by omega)]; norm_num
    exact ⟨h, by rw [a, if_pos rfl, e], by rw [b, if_pos rfl, e]⟩
  · right
    obtain ⟨a, b⟩ := scale_word v M hM n (by omega) (fun k hk => word_le_binade _ n hn1 hn2 hl hu k hk)
    refine ⟨(n : ℤ) - 126, by omega, by omega, ?_, ?_, hu, ?_, ?_⟩
    · exact le_trans (zpow_le_zpow_right₀ (by norm_num) (by omega)) hl
    · rw [show (n : ℤ) - 126 - 1 = n - 127 by ring]; exact hl
    · rw [a, if_neg (by omega), word_of_pos _ (by omega) (by omega)]
      rw [show (((n + 1 : ℕ) : ℤ)) - 127 = n - 126 by push_cast; ring]
    · rw [b, if_neg (by omega), word_of_pos _ (by omega) (by omega)]
      rw [show (((253 - n : ℕ) : ℤ)) - 127 = -(n - 126) by omega]

end Cert.Value

end

end
-- ==== Proof.Amax.lean ====
/-
  The largest magnitude over the extended reals: the kernel's running maximum over tiles is the reference's maximum
  over the whole gradient.
-/
module

public import proofs.«01_k».proof.Proof.Binade
public import proofs.«01_k».proof.Proof.KIAmax
public import proofs.«01_k».proof.Proof.Gen.ReferenceIdeal.Frame
public import Idealize.ShloMosaic.Lib.Pipeline.Value

@[expose] public section

set_option maxRecDepth 16384

noncomputable section

namespace Cert.Value

open Cert.Steps
open Idealize.ShloMosaic Idealize.ShloMosaic.ValueIdx

/-- The magnitude of an extended real. -/
def mag (x : EReal) : EReal := max x (-x)

theorem mag_nonneg (x : EReal) : 0 ≤ mag x := by
  unfold mag
  rcases le_total 0 x with h | h
  · exact le_max_of_le_left h
  · exact le_max_of_le_right (by simpa using EReal.neg_le_neg_iff.mpr h)

/-- A running maximum of `n` values from `a`. -/
def runMax (g : ℕ → EReal) (a : EReal) : ℕ → EReal
  | 0 => a
  | n + 1 => max (runMax g a n) (g n)

theorem runMax_le (g : ℕ → EReal) (a b : EReal) (n : ℕ) : runMax g a n ≤ b ↔ a ≤ b ∧ ∀ j, j < n → g j ≤ b := by
  induction n with
  | zero => simp [runMax]
  | succ n ih =>
    rw [runMax, max_le_iff, ih]
    constructor
    · rintro ⟨⟨h, h1⟩, h2⟩
      exact ⟨h, fun j hj => by rcases Nat.lt_succ_iff_lt_or_eq.mp hj with h | rfl; exacts [h1 j h, h2]⟩
    · rintro ⟨h, h1⟩
      exact ⟨⟨h, fun j hj => h1 j (by omega)⟩, h1 n (by omega)⟩

theorem foldT_eq (dy : ℕ → ℕ → EReal) (t : ℕ) (m : FVec Ideal Cert.KernelIdeal.S64x128 .bf16) (y : Cert.KernelIdeal.S64x128.Idx) :
    Cert.KernelIdeal.Hand.foldT (F := Ideal) dy t m y
      = runMax (fun j => mag (dy (64 * t + (y 0).val) (128 * j + (y 1).val))) (m y) 86 := rfl

theorem amF_le (dy : ℕ → ℕ → EReal) (y : Cert.KernelIdeal.S64x128.Idx) (b : EReal) (n : ℕ) :
    Cert.KernelIdeal.Hand.amF (F := Ideal) dy n y ≤ b
      ↔ 0 ≤ b ∧ ∀ t, t < n → ∀ j, j < 86 → mag (dy (64 * t + (y 0).val) (128 * j + (y 1).val)) ≤ b := by
  induction n with
  | zero =>
    have e : Cert.KernelIdeal.Hand.amF (F := Ideal) dy 0 y = 0 := by
      unfold Cert.KernelIdeal.Hand.amF Cert.KernelIdeal.Gen.k0_pay25
      show Ideal.ofBits .bf16 0x0000#16 = 0
      simp [Ideal.ofBits, Ideal.ieee]
    simp [e]
  | succ n ih =>
    rw [show Cert.KernelIdeal.Hand.amF (F := Ideal) dy (n + 1) y = Cert.KernelIdeal.Hand.foldT (F := Ideal) dy n (Cert.KernelIdeal.Hand.amF dy n) y from rfl,
      foldT_eq, runMax_le, ih]
    constructor
    · rintro ⟨⟨h, h1⟩, h2⟩
      exact ⟨h, fun t ht => by rcases Nat.lt_succ_iff_lt_or_eq.mp ht with h | rfl; exacts [h1 t h, h2]⟩
    · rintro ⟨h, h1⟩
      exact ⟨⟨h, fun t ht => h1 t (by omega)⟩, h1 n (by omega)⟩

theorem ninf (hφ : FKind.Formats .f32) : Ideal.ofBits .f32 (FKind.maximumf.neutral .f32 hφ) = ⊥ := by
  have e : FKind.maximumf.neutral .f32 hφ = 0xFF800000#32 := rfl
  rw [e]
  simp [Ideal.ofBits, Ideal.ieee]

/-- The maximum of the kernel's 64 by 128 partial maxima. -/
def redK (v : FVec Ideal Cert.KernelIdeal.S64x128 .bf16) : FVec Ideal Cert.KernelIdeal.S1 .f32 :=
  multiReduction .maximumf [1, 2] Cert.KernelIdeal.S1 (shapeCast Cert.KernelIdeal.S1x64x128 (extf .f32 v Cert.KernelIdeal.Gen.bitsLt_bf16_f32) Cert.KernelIdeal.Gen.shapeCasts_S64x128_S1x64x128)
    0xFF800000#32 Cert.KernelIdeal.Gen.reduces_S1x64x128_S1 (.inl rfl) rfl

theorem redK_le (v : FVec Ideal Cert.KernelIdeal.S64x128 .bf16) (j : Cert.KernelIdeal.S1.Idx) (b : EReal) : redK v j ≤ b ↔ ∀ i, v i ≤ b := by
  unfold redK
  refine (max_le_iff_all _ _ _ (by decide) (.inl rfl) rfl _ b).trans ?_
  rw [ninf]
  refine ⟨fun h => ?_, fun h => ⟨bot_le, fun i => h _⟩⟩
  exact ((Shape.reshapeEquiv Cert.KernelIdeal.Gen.shapeCasts_S64x128_S1x64x128).forall_congr_right (q := fun i => v i ≤ b)).mp h.2

/-- The maximum of the reference's magnitudes. -/
def redR (A : FVec Ideal Cert.ReferenceIdeal.S1024x11008 .bf16) : FVec Ideal Cert.ReferenceIdeal.S1 .f32 :=
  multiReduction .maximumf [1, 2] Cert.ReferenceIdeal.S1 (shapeCast Cert.ReferenceIdeal.S1x1024x11008 (absf (Cert.ReferenceIdeal.Gen.k0_pay3 (F := Ideal) A)) Cert.ReferenceIdeal.Gen.shapeCasts_S1024x11008_S1x1024x11008)
    0xFF800000#32 Cert.ReferenceIdeal.Gen.reduces_S1x1024x11008_S1 (.inl rfl) rfl

theorem pay3_eq (A : FVec Ideal Cert.ReferenceIdeal.S1024x11008 .bf16) : Cert.ReferenceIdeal.Gen.k0_pay3 (F := Ideal) A = A := by
  unfold Cert.ReferenceIdeal.Gen.k0_pay3
  rw [shapeCast_self]
  rfl

theorem redR_le (A : FVec Ideal Cert.ReferenceIdeal.S1024x11008 .bf16) (j : Cert.ReferenceIdeal.S1.Idx) (b : EReal) : redR A j ≤ b ↔ ∀ i, mag (A i) ≤ b := by
  unfold redR
  refine (max_le_iff_all _ _ _ (by decide) (.inl rfl) rfl _ b).trans ?_
  rw [ninf, pay3_eq]
  refine ⟨fun h => ?_, fun h => ⟨bot_le, fun i => h _⟩⟩
  exact ((Shape.reshapeEquiv Cert.ReferenceIdeal.Gen.shapeCasts_S1024x11008_S1x1024x11008).forall_congr_right (q := fun i => mag (A i) ≤ b)).mp h.2

/-- One element, read out and spread. -/
theorem spread_one (w : FVec Ideal Cert.KernelIdeal.S1 .f32) :
    ∃ j, (broadcast Cert.KernelIdeal.S1x1 (extractAt ![0, 0, 0] (shapeCast Cert.KernelIdeal.S1x1x1 w Cert.KernelIdeal.Gen.shapeCasts_S1_S1x1x1) Cert.KernelIdeal.Gen.inpos_S1x1x1_p0_0_0)
      : FVec Ideal Cert.KernelIdeal.S1x1 .f32) = fun _ => w j := ⟨_, rfl⟩

theorem pay27_red (v : FVec Ideal Cert.KernelIdeal.S64x128 .bf16) : ∃ j, Cert.KernelIdeal.Gen.k0_pay27 (F := Ideal) v = fun _ => redK v j := by
  obtain ⟨j, h⟩ := spread_one (redK v)
  exact ⟨j, by rw [← h]; unfold Cert.KernelIdeal.Gen.k0_pay27 redK; rfl⟩

theorem pay4_red (A : FVec Ideal Cert.ReferenceIdeal.S1024x11008 .bf16) : ∃ j, Cert.ReferenceIdeal.Gen.k0_pay4 (F := Ideal) A = fun _ => redR A j := by
  obtain ⟨j, h⟩ := spread_one (redR A)
  exact ⟨j, by rw [← h]; unfold Cert.ReferenceIdeal.Gen.k0_pay4 redR; rfl⟩

theorem pay27_le (v : FVec Ideal Cert.KernelIdeal.S64x128 .bf16) (y : Cert.KernelIdeal.S1x1.Idx) (b : EReal) :
    Cert.KernelIdeal.Gen.k0_pay27 (F := Ideal) v y ≤ b ↔ ∀ i, v i ≤ b := by
  obtain ⟨j, h⟩ := pay27_red v
  rw [h]; exact redK_le v j b

theorem pay4_le (A : FVec Ideal Cert.ReferenceIdeal.S1024x11008 .bf16) (y : Cert.ReferenceIdeal.S1x1.Idx) (b : EReal) :
    Cert.ReferenceIdeal.Gen.k0_pay4 (F := Ideal) A y ≤ b ↔ ∀ i, mag (A i) ≤ b := by
  obtain ⟨j, h⟩ := pay4_red A
  rw [h]; exact redR_le A j b

/-- The two largest magnitudes agree. -/
theorem amax_eq (A : FVec Ideal Cert.ReferenceIdeal.S1024x11008 .bf16) :
    Cert.KernelIdeal.Gen.k0_pay27 (F := Ideal) (Cert.KernelIdeal.Hand.amF (F := Ideal) (lift2 (n := 1024) (m := 11008) A) 16)
      = Cert.ReferenceIdeal.Gen.k0_pay4 (F := Ideal) A := by
  funext y
  have key : ∀ b, Cert.KernelIdeal.Gen.k0_pay27 (F := Ideal) (Cert.KernelIdeal.Hand.amF (F := Ideal) (lift2 (n := 1024) (m := 11008) A) 16) y ≤ b
      ↔ Cert.ReferenceIdeal.Gen.k0_pay4 (F := Ideal) A y ≤ b := by
    intro b
    rw [pay27_le, pay4_le]
    constructor
    · intro h i
      have h0 : (i 0).val < 1024 := (i 0).isLt
      have h1 : (i 1).val < 11008 := (i 1).isLt
      have := ((amF_le _ _ _ _).mp (h (ix2 ⟨(i 0).val % 64, by omega⟩ ⟨(i 1).val % 128, by omega⟩))).2 ((i 0).val / 64) (by omega) ((i 1).val / 128) (by omega)
      rw [show 64 * ((i 0).val / 64) + ((ix2 (⟨(i 0).val % 64, by omega⟩ : Fin 64) (⟨(i 1).val % 128, by omega⟩ : Fin 128)) 0).val = (i 0).val from Nat.div_add_mod _ _,
        show 128 * ((i 1).val / 128) + ((ix2 (⟨(i 0).val % 64, by omega⟩ : Fin 64) (⟨(i 1).val % 128, by omega⟩ : Fin 128)) 1).val = (i 1).val from Nat.div_add_mod _ _,
        lift2_val] at this
      exact this
    · intro h i
      exact (amF_le _ _ _ _).mpr ⟨(mag_nonneg _).trans (h (ix2 0 0)), fun t _ j _ => h _⟩
  exact le_antisymm ((key _).mpr le_rfl) ((key _).mp le_rfl)

end Cert.Value

end

end
-- ==== Proof.RScale.lean ====
/-
  The reference's scale over the extended reals, from the largest magnitude, and the two scales side by side.
-/
module

public import proofs.«01_k».proof.Proof.KScale
public import proofs.«01_k».proof.Proof.Amax

@[expose] public section

set_option maxRecDepth 16384

noncomputable section

namespace Cert.Value

open Cert.ReferenceIdeal Cert.ReferenceIdeal.Gen
open Idealize.ShloMosaic Idealize.ShloMosaic.ValueIdx

/-- The exponents the reference ranges over. -/
theorem exponent_toInt : ∀ k : Fin 256, (IntOp.subi (BitVec.ofNat 32 k.val) 125#32).toInt = (k.val : ℤ) - 125 := by decide +kernel

/-- What the reference selects: a power of two where it exceeds the ratio, else infinity. -/
def selR (q : FVec Ideal Cert.ReferenceIdeal.S1x1 .f32) : FVec Ideal Cert.ReferenceIdeal.S1x1x256 .f32 :=
  have p := exp2 (F := Ideal) (sitofp (F := Ideal) .f32 (subi (iota .tc S1x256 32 [1] iota_S1x256_d1_w32) (broadcast S1x256 125#32)))
  shapeCast Cert.ReferenceIdeal.S1x1x256 (select (cmpf .ogt p (broadcastTo S1x256 q broadcasts_S1x1_S1x256)) p
    (broadcast S1x256 (Scalar.ofBits (F := Ideal) .f32 0x7F800000#32))) shapeCasts_S1x256_S1x1x256

/-- The least power of two selected. -/
def leastR (q : FVec Ideal Cert.ReferenceIdeal.S1x1 .f32) : FVec Ideal Cert.ReferenceIdeal.S1 .f32 :=
  multiReduction .minimumf [1, 2] Cert.ReferenceIdeal.S1 (selR q) 0x7F800000#32 reduces_S1x1x256_S1 (.inl rfl) rfl

/-- The choice between one and the least power. -/
def pick (q : FVec Ideal Cert.ReferenceIdeal.S1x1 .f32) (w : FVec Ideal Cert.ReferenceIdeal.S1 .f32) : FVec Ideal Cert.ReferenceIdeal.S1x1 .f32 :=
  select (cmpf .olt q (broadcast S1x1 (Scalar.ofBits (F := Ideal) .f32 0x00800000#32))) (broadcast S1x1 (Scalar.ofBits (F := Ideal) .f32 0x3F800000#32))
    (broadcast S1x1 (extractAt ![0, 0, 0] (shapeCast S1x1x1 w shapeCasts_S1_S1x1x1) inpos_S1x1x1_p0_0_0))

theorem pick_at (r : EReal) (w : FVec Ideal Cert.ReferenceIdeal.S1 .f32) :
    ∃ j, pick (fun _ => r) w = fun _ => Scalar.select (Ideal.cmp .olt r (Ideal.ofBits .f32 0x00800000#32)) (Ideal.ofBits .f32 0x3F800000#32) (w j) := ⟨_, rfl⟩

theorem pay5_least (A : FVec Ideal S1024x11008 .bf16) :
    k0_pay5 (F := Ideal) A = (fun q => pick q (leastR q)) (mulf (k0_pay4 (F := Ideal) A) (broadcast S1x1 (Scalar.ofBits (F := Ideal) .f32 0x37924925#32))) := by
  unfold k0_pay5 leastR selR pick
  rfl

theorem pinf : Ideal.ofBits .f32 0x7F800000#32 = ⊤ := by simp [Ideal.ofBits, Ideal.ieee]

theorem one_f32 : Ideal.ofBits .f32 0x3F800000#32 = 1 := by
  have h := word_of_pos 127 (by omega) (by omega)
  rw [show (((127 : ℕ) : ℤ)) - 127 = 0 by norm_num] at h
  exact h.trans (by norm_num)

theorem least_normal : Ideal.ofBits .f32 0x00800000#32 = (((2 : ℝ) ^ (-126 : ℤ) : ℝ) : EReal) := by
  have h := word_of_pos 1 (by omega) (by omega)
  rw [show (((1 : ℕ) : ℤ)) - 127 = -126 by norm_num] at h
  exact h

theorem selR_apply (r : ℝ) (i : Cert.ReferenceIdeal.S1x1x256.Idx) :
    selR (fun _ => (r : EReal)) i
      = if r < (2 : ℝ) ^ (((i 2).val : ℤ) - 125) then (((2 : ℝ) ^ (((i 2).val : ℤ) - 125) : ℝ) : EReal) else ⊤ := by
  unfold selR
  rw [shapeCast_addUnit_apply]
  have hi : iota .tc S1x256 32 [1] iota_S1x256_d1_w32 (fun a => i a.succ) = BitVec.ofNat 32 (i 2).val := iota_single_apply _ _ _ _ _ _
  have hp : exp2 (F := Ideal) (sitofp (F := Ideal) .f32 (subi (iota .tc S1x256 32 [1] iota_S1x256_d1_w32) (broadcast S1x256 125#32))) (fun a => i a.succ)
      = (((2 : ℝ) ^ (((i 2).val : ℤ) - 125) : ℝ) : EReal) := by
    show Ideal.exp2 ((((IntOp.subi (iota .tc S1x256 32 [1] iota_S1x256_d1_w32 (fun a => i a.succ)) 125#32).toInt : ℝ)) : EReal) = _
    rw [hi, exponent_toInt ⟨(i 2).val, (i 2).isLt⟩]
    exact congrArg Real.toEReal (Real.rpow_intCast 2 _)
  show Scalar.select (Ideal.cmp .ogt (exp2 (F := Ideal) (sitofp (F := Ideal) .f32 (subi (iota .tc S1x256 32 [1] iota_S1x256_d1_w32) (broadcast S1x256 125#32))) (fun a => i a.succ)) (r : EReal))
    (exp2 (F := Ideal) (sitofp (F := Ideal) .f32 (subi (iota .tc S1x256 32 [1] iota_S1x256_d1_w32) (broadcast S1x256 125#32))) (fun a => i a.succ)) (Ideal.ofBits .f32 0x7F800000#32) = _
  rw [hp, pinf]
  unfold Ideal.cmp Scalar.select
  by_cases h : r < (2 : ℝ) ^ (((i 2).val : ℤ) - 125)
  · rw [if_pos h, decide_eq_true (EReal.coe_lt_coe_iff.mpr h)]; rfl
  · rw [if_neg h, decide_eq_false (fun h' => h (EReal.coe_lt_coe_iff.mp h'))]; rfl

theorem pay5_val (A : FVec Ideal S1024x11008 .bf16) (M : ℝ) (hM : k0_pay4 (F := Ideal) A = fun _ => (M : EReal)) :
    ∃ j, k0_pay5 (F := Ideal) A = fun _ => if M * rcp < (2 : ℝ) ^ (-126 : ℤ) then 1 else leastR (fun _ => ((M * rcp : ℝ) : EReal)) j := by
  have e : mulf (F := Ideal) (φ := .f32) (s := S1x1) (k0_pay4 (F := Ideal) A) (broadcast S1x1 (Scalar.ofBits (F := Ideal) .f32 0x37924925#32)) = fun _ => ((M * rcp : ℝ) : EReal) := by
    funext _
    rw [hM]
    show (M : EReal) * Ideal.ofBits .f32 0x37924925#32 = _
    rw [rcp_val, EReal.coe_mul]
  obtain ⟨j, h⟩ := pick_at ((M * rcp : ℝ) : EReal) (leastR (fun _ => ((M * rcp : ℝ) : EReal)))
  refine ⟨j, ?_⟩
  rw [pay5_least, e]
  refine h.trans (funext fun _ => ?_)
  rw [least_normal, one_f32]
  unfold Ideal.cmp Scalar.select
  by_cases h : M * rcp < (2 : ℝ) ^ (-126 : ℤ)
  · rw [if_pos h, decide_eq_true (EReal.coe_lt_coe_iff.mpr h)]; rfl
  · rw [if_neg h, decide_eq_false (fun h' => h (EReal.coe_lt_coe_iff.mp h'))]; rfl

/-- The two scales agree, and the kernel's second factor is the inverse of the scale. -/
theorem scales (A : FVec Ideal S1024x11008 .bf16) (M : ℝ) (h0 : 0 ≤ M * rcp) (h1 : M * rcp < (2 : ℝ) ^ (113 : ℤ))
    (v : FVec Ideal Cert.KernelIdeal.S64x128 .bf16) (hv : Cert.KernelIdeal.Gen.k0_pay27 (F := Ideal) v = k0_pay4 (F := Ideal) A)
    (hM : k0_pay4 (F := Ideal) A = fun _ => (M : EReal)) :
    ∃ s : ℝ, 0 < s ∧ Cert.KernelIdeal.Gen.k0_pay29 (F := Ideal) v = (fun _ => (s : EReal)) ∧ k0_pay5 (F := Ideal) A = (fun _ => (s : EReal))
      ∧ Cert.KernelIdeal.Gen.k0_pay31 (F := Ideal) (Cert.KernelIdeal.Gen.k0_pay30 (F := Ideal) v) = fun _ => ((s⁻¹ : ℝ) : EReal) := by
  rcases kernel_scale v M h0 h1 (hv.trans hM) with ⟨h, a, b⟩ | ⟨m, hm1, hm2, hn, hl, hu, a, b⟩
  · refine ⟨1, one_pos, a, ?_, by rw [b]; simp⟩
    obtain ⟨j, e⟩ := pay5_val A M hM
    rw [e, if_pos h]; rfl
  · refine ⟨(2 : ℝ) ^ m, by positivity, a, ?_, by rw [b, zpow_neg]⟩
    obtain ⟨j, e⟩ := pay5_val A M hM
    rw [e, if_neg (not_lt.mpr hn)]
    exact funext fun _ => least_eq _ _ m hm1 (by omega) hl hu (fun i => selR_apply _ i) _ _ _ j

end Cert.Value

end

end
-- ==== Proof.Inputs.lean ====
/-
  What the kernel's region starts from: the host's reshapes of the arguments; and the precondition as a bound on the
  greatest magnitude.
-/
module

public import proofs.«01_k».proof.Proof.KIRun
public import proofs.«01_k».proof.Proof.RScale
public import proofs.«01_k».proof.Pre_within_bf16
public import proofs.«01_k».proof.Proof.Gen.Pre_within_bf16
public import Idealize.ShloMosaic.Lib.Claim

@[expose] public section

set_option maxRecDepth 16384

noncomputable section

namespace Cert.KernelIdeal.Hand

open Cert.Steps Cert.KernelIdeal Cert.KernelIdeal.Gen
open Idealize.ShloMosaic Idealize.SL.Sem
open Idealize.ShloMosaic.Pipeline (Dat Cfg Window)

variable {F : FTy → Type} [FloatOps F]
variable (m : (ℓ : Loc nD τ sig) → Buf (Elt F) ℓ)

/-! ## The host's reshapes -/

theorem V0 (c : Dev nD) (h) : V m c main_v0 = shapeCast S1x1 (m ((c.tc : Thread nD τ).loc main_arg2)) h := by
  entry_read
  rfl
theorem V1 (c : Dev nD) (h) : V m c main_v1 = shapeCast S1x1 (m ((c.tc : Thread nD τ).loc main_arg4)) h := by
  entry_read
  rfl
theorem V2 (c : Dev nD) (h) : V m c main_v2 = shapeCast S1024x11008 (m ((c.tc : Thread nD τ).loc main_arg0)) h := by
  entry_read
  rfl
theorem V3 (c : Dev nD) (h) : V m c main_v3 = shapeCast S1024x4096 (m ((c.tc : Thread nD τ).loc main_arg1)) h := by
  entry_read
  rfl

theorem in0 (c : Dev nD) : iblk m c 0 t0_0 = V m c main_v0 := by
  funext x
  refine (View.read_apply _ _).trans ?_
  rw [show ((cfg0.win 0).blk t0_0).view.emb x = x from sub1 _ _]
  rfl
theorem in1 (c : Dev nD) : iblk m c 1 t0_0 = V m c main_v1 := by
  funext x
  refine (View.read_apply _ _).trans ?_
  rw [show ((cfg0.win 1).blk t0_0).view.emb x = x from sub1 _ _]
  rfl

/-- The scalar scales, by the reshape's one element. -/
theorem xs_eq (c : Dev nD) (y : S1x1.Idx) : xsW m c 0 0 = V m c main_v0 y := by
  unfold xsW
  rw [in0]
  exact congrArg (V m c main_v0) (sub1 _ _)
theorem ws_eq (c : Dev nD) (y : S1x1.Idx) : wsW m c 0 0 = V m c main_v1 y := by
  unfold wsW
  rw [in1]
  exact congrArg (V m c main_v1) (sub1 _ _)

end Cert.KernelIdeal.Hand

namespace Cert.Value

open Idealize.ShloMosaic

/-! ## The precondition -/

/-- The bound the precondition states, as a real number. -/
def bound : ℝ := 16711680 * (2 : ℝ) ^ (104 : ℤ)

theorem bound_val : Ideal.ofBits .f32 0x7F7F0000#32 = (bound : EReal) := by
  simp [Ideal.ofBits, Ideal.ieee, bound, -EReal.coe_mul]

theorem bound_ok : bound * rcp < (2 : ℝ) ^ (113 : ℤ) := by
  unfold bound rcp
  norm_num

theorem within_le (a0 : FVec Ideal Cert.Pre_within_bf16.S2x512x11008 .bf16) (a1 a2 a3 a4 a5)
    (h : Cert.Pre_within_bf16.fn (F := Ideal) a0 a1 a2 a3 a4 a5 = fun _ => 1#1) (i) : mag (a0 i) ≤ (bound : EReal) := by
  have e : Ideal.cmp .ole (mag (a0 i)) (Ideal.ofBits .f32 0x7F7F0000#32) = 1#1 := congrFun h i
  rw [bound_val] at e
  by_contra hc
  unfold Ideal.cmp at e
  dsimp only at e
  rw [decide_eq_false hc] at e
  exact absurd e (by decide)

/-- A reshape's element is one of the elements reshaped. -/
theorem cast_mem {α : Type} {s t : Shape} (v : s.Idx → α) (h) (y : t.Idx) : ∃ i, shapeCast t v h y = v i := ⟨_, rfl⟩

/-- So the greatest magnitude is a real number the two scales are computed from. -/
theorem amax_real (A : FVec Ideal Cert.ReferenceIdeal.S1024x11008 .bf16) (hA : ∀ i, mag (A i) ≤ (bound : EReal)) :
    ∃ M : ℝ, Cert.ReferenceIdeal.Gen.k0_pay4 (F := Ideal) A = (fun _ => (M : EReal)) ∧ 0 ≤ M * rcp ∧ M * rcp < (2 : ℝ) ^ (113 : ℤ) := by
  obtain ⟨j, hj⟩ := pay4_red A
  have hr : 0 < rcp := by unfold rcp; norm_num
  have up : redR A j ≤ (bound : EReal) := (redR_le A j _).mpr hA
  have lo : (0 : EReal) ≤ redR A j := by
    have h := (redR_le A j (redR A j)).mp le_rfl (fun a => ⟨0, by revert a; decide⟩)
    exact (mag_nonneg _).trans h
  rw [hj]
  generalize (redR A j : EReal) = r at up lo
  induction r using EReal.rec with
  | bot => exact absurd lo (by simp)
  | top => exact absurd up (by simp)
  | coe M =>
    have h1 : M ≤ bound := EReal.coe_le_coe_iff.mp up
    have h0 : 0 ≤ M := EReal.coe_nonneg.mp lo
    exact ⟨M, rfl, mul_nonneg h0 hr.le, (mul_le_mul_of_nonneg_right h1 hr.le).trans_lt bound_ok⟩

end Cert.Value

end
-- ==== Proof.Products.lean ====
/-
  The printed payloads read at an index over the extended reals: the codes, the products and the scaling, of the kernel
  and of the reference.
-/
module

public import proofs.«01_k».proof.Proof.KITail
public import proofs.«01_k».proof.Proof.Amax
public import Idealize.ShloMosaic.Lib.MatmulPlain
public import Idealize.ShloMosaic.Lib.ValueLayout

@[expose] public section

set_option maxRecDepth 16384

noncomputable section

namespace Cert.Value

open Cert.Steps
open Idealize.ShloMosaic Idealize.ShloMosaic.ValueIdx
open scoped BigOperators

/-! ## A product with the left operand transposed -/

/-- `[K,M]ᵀ × [K,N]`. -/
def transposedLhs (M K N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

theorem matmul_transposedLhs_apply {M K N : ℕ} (wf : DotDims.WF ⟨2, ![K, M]⟩ ⟨2, ![K, N]⟩ ⟨2, ![M, N]⟩ [0] [0] [1] [1] [] []) {φ₁ φ₂ : FTy}
    (prec : Option ContractPrecision) (lhs : FVec Ideal ⟨2, ![K, M]⟩ φ₁) (rhs : FVec Ideal ⟨2, ![K, N]⟩ φ₂) (acc : FVec Ideal ⟨2, ![M, N]⟩ .f32)
    (r : Fin M) (c : Fin N) :
    FloatOps.matmul (transposedLhs M K N wf) prec lhs rhs acc (ix2 r c) = acc (ix2 r c) + ∑ k : Fin K, lhs (ix2 k r) * rhs (ix2 k c) := by
  have hr : (transposedLhs M K N wf).contr.rank = 1 := rfl
  have hs : (transposedLhs M K N wf).contr.size ⟨0, by omega⟩ = K := rfl
  rw [Ideal.matmul_apply, ← Equiv.sum_comp (contrEquiv1 (transposedLhs M K N wf) K hr hs).symm]
  refine congrArg (acc (ix2 r c) + ·) (Finset.sum_congr rfl fun k _ => ?_)
  have hk := contrEquiv1_symm_val (transposedLhs M K N wf) K hr hs k
  have el : (transposedLhs M K N wf).lhsIdx (ix2 r c) ((contrEquiv1 (transposedLhs M K N wf) K hr hs).symm k) = ix2 k r := by
    funext a; apply Fin.ext
    match a with
    | ⟨0, _⟩ => exact hk
    | ⟨1, _⟩ => rfl
  have er : (transposedLhs M K N wf).rhsIdx (ix2 r c) ((contrEquiv1 (transposedLhs M K N wf) K hr hs).symm k) = ix2 k c := by
    funext a; apply Fin.ext
    match a with
    | ⟨0, _⟩ => exact hk
    | ⟨1, _⟩ => rfl
  rw [el, er]

/-! ## The codes -/

/-- The clip to the range of the codes. -/
def clip (x : EReal) : EReal := min (Ideal.ofBits .f32 0x47600000#32) (max (Ideal.ofBits .f32 0xC7600000#32) x)

theorem div_coe (x : EReal) (s : ℝ) (hs : 0 < s) : Ideal.div x (s : EReal) = x * ((s⁻¹ : ℝ) : EReal) := by
  unfold Ideal.div
  rw [if_neg (by exact_mod_cast hs.ne'), EReal.coe_inv]

section Kernel
open Cert.KernelIdeal Cert.KernelIdeal.Gen

theorem pay8_apply (u : EReal) (d : Vec Ideal S1024x256 .bf16) (i : Fin 1024) (j : Fin 256) :
    k0_pay8 (F := Ideal) (fun _ => u) d (ix3 0 i j) = clip (d (ix2 i j) * u) := by
  unfold k0_pay8
  refine (shapeCast_ab_1ab_apply _ _ 0 i j).trans ?_
  rfl

theorem pay11_apply (a : Vec Ideal S1024x512 .f32) (c : Vec Ideal S1x1024x256 .fp8e5m2) (w : Vec Ideal S1x256x512 .fp8e4m3) (i : Fin 1024) (j : Fin 512) :
    k0_pay11 (F := Ideal) a c w (ix2 i j) = a (ix2 i j) + ∑ k : Fin 256, c (ix3 0 i k) * w (ix3 0 k j) := by
  unfold k0_pay11
  rw [shapeCast_self]
  refine congrArg (a (ix2 i j) + ·) ((Ideal.matmul_plain_apply (M := 1024) (K := 256) (N := 512) none _ _ _ i j).trans ?_)
  rw [show constant (F := Ideal) (⟨2, ![1024, 512]⟩ : Shape) .f32 0x00000000#32 (ix2 i j) = 0 from Ideal.ofBits_zero_f32, zero_add]
  refine Finset.sum_congr rfl fun k _ => ?_
  rw [shapeCast_1ab_ab_apply, shapeCast_1ab_ab_apply]

theorem pay23_apply (u : EReal) (c : Vec Ideal S1x1024x256 .fp8e5m2) (x : Vec Ideal S1024x1024 .fp8e4m3) (r : Vec Ideal S1x256x1024 .f32) (i : Fin 256) (j : Fin 1024) :
    k0_pay23 (F := Ideal) (fun _ => u) c x r (ix3 0 i j) = r (ix3 0 i j) + (∑ k : Fin 1024, c (ix3 0 k i) * x (ix2 k j)) * u := by
  unfold k0_pay23
  refine (shapeCast_ab_1ab_apply _ _ 0 i j).trans ?_
  refine congr (congrArg (fun a b : EReal => a + b) (shapeCast_1ab_ab_apply _ _ i j)) (congrArg (· * u)
    ((matmul_transposedLhs_apply (M := 256) (K := 1024) (N := 1024) _ none _ _ _ i j).trans ?_))
  rw [show constant (F := Ideal) (⟨2, ![256, 1024]⟩ : Shape) .f32 0x00000000#32 (ix2 i j) = 0 from Ideal.ofBits_zero_f32, zero_add]
  refine Finset.sum_congr rfl fun k _ => ?_
  rw [shapeCast_1ab_ab_apply]

theorem pay24_apply (y : S1024x4096.Idx) : k0_pay24 (F := Ideal) y = 0 := by
  unfold k0_pay24
  rw [shapeCast_self]
  exact Ideal.ofBits_zero_f32

theorem pay45_apply (u : EReal) (a : Vec Ideal S128x4096 .f32) (y : S128x4096.Idx) : k0_pay45 (F := Ideal) (fun _ => u) a y = a y * u := by
  unfold k0_pay45
  rw [shapeCast_self]
  rfl

end Kernel

section Reference
open Cert.ReferenceIdeal Cert.ReferenceIdeal.Gen

theorem rpay6_apply (A : FVec Ideal S1024x11008 .bf16) (s : ℝ) (hs : 0 < s) (h : k0_pay5 (F := Ideal) A = fun _ => (s : EReal)) (y : S1024x11008.Idx) :
    k0_pay6 (F := Ideal) A y = clip (A y * ((s⁻¹ : ℝ) : EReal)) := by
  unfold k0_pay6
  rw [h, pay3_eq]
  rw [← div_coe _ s hs]
  rfl

theorem rpay1_apply (v c : EReal) (C : FVec Ideal S1024x11008 .bf16) (w : Vec Ideal S11008x4096 .fp8e4m3) (i : Fin 1024) (j : Fin 4096) :
    k0_pay1 (F := Ideal) (fun _ => v) C w (fun _ => c) (ix2 i j) = (∑ k : Fin 11008, C (ix2 i k) * w (ix2 k j)) * (v * c) := by
  unfold k0_pay1
  refine congrArg (· * (v * c)) ((Ideal.matmul_plain_apply (M := 1024) (K := 11008) (N := 4096) none _ _ _ i j).trans ?_)
  rw [show constant (F := Ideal) (⟨2, ![1024, 4096]⟩ : Shape) .f32 0x00000000#32 (ix2 i j) = 0 from Ideal.ofBits_zero_f32, zero_add]
  rfl

theorem rpay2_apply (v c : EReal) (C : FVec Ideal S1024x11008 .bf16) (x : Vec Ideal S1024x4096 .fp8e4m3) (r : Vec Ideal S11008x4096 .f32) (i : Fin 11008) (j : Fin 4096) :
    k0_pay2 (F := Ideal) (fun _ => v) C x r (fun _ => c) (ix2 i j) = r (ix2 i j) + (∑ k : Fin 1024, C (ix2 k i) * x (ix2 k j)) * (v * c) := by
  unfold k0_pay2
  rw [shapeCast_self x]
  refine congrArg (fun a => r (ix2 i j) + a * (v * c)) ((matmul_transposedLhs_apply (M := 11008) (K := 1024) (N := 4096) _ none _ _ _ i j).trans ?_)
  rw [show constant (F := Ideal) (⟨2, ![11008, 4096]⟩ : Shape) .f32 0x00000000#32 (ix2 i j) = 0 from Ideal.ofBits_zero_f32, zero_add]
  rfl

end Reference

end Cert.Value

end

end
-- ==== Proof.Sums.lean ====
/-
  What the kernel computes, over the extended reals, as plain sums: the codes, the accumulator after each column block, and
  the two gradients.
-/
module

public import proofs.«01_k».proof.Proof.Products

@[expose] public section

set_option maxRecDepth 16384

noncomputable section

namespace Cert.Value

open Cert.Steps Cert.KernelIdeal Cert.KernelIdeal.Gen Cert.KernelIdeal.Hand
open Idealize.ShloMosaic Idealize.ShloMosaic.ValueIdx
open scoped BigOperators

variable (K : In Ideal) (u : EReal) (hu : K.iv = fun _ => u)

include hu in
theorem codesT_val (o i j : ℕ) (hi : i < 1024) (hj : j < 256) : codesT K o i j = clip (K.dy i (256 * o + j) * u) := by
  have h := codesT_at K o (ix3 (0 : Fin 1) (⟨i, hi⟩ : Fin 1024) (⟨j, hj⟩ : Fin 256))
  refine h.trans ?_
  rw [hu, pay8_apply]
  show clip (K.dy (0 + i) (256 * o + j) * u) = _
  rw [Nat.zero_add]

include hu in
theorem codesF_val (i j : ℕ) (hi : i < 1024) : codesF K i j = clip (K.dy i j * u) := by
  unfold codesF
  rw [codesT_val K u hu _ _ _ hi (by omega), Nat.div_add_mod]

include hu in
/-- The accumulator after `o` blocks is the sum over their `256 o` columns. -/
theorem accF_val (o i j : ℕ) (hi : i < 1024) (hj : j < 4096) :
    accF K o i j = ∑ k ∈ Finset.range (256 * o), clip (K.dy i k * u) * K.w k j := by
  induction o with
  | zero => exact (pay24_apply (ix2 (Fin.ofNat 1024 i) (Fin.ofNat 4096 j))).trans (by simp)
  | succ o ih =>
    have h := accF_at K o (j / 512) (ix2 (⟨i, hi⟩ : Fin 1024) (⟨j % 512, by omega⟩ : Fin 512))
    have e1 : 0 + ((ix2 (⟨i, hi⟩ : Fin 1024) (⟨j % 512, by omega⟩ : Fin 512)) 0).val = i := Nat.zero_add _
    have e2 : 512 * (j / 512) + ((ix2 (⟨i, hi⟩ : Fin 1024) (⟨j % 512, by omega⟩ : Fin 512)) 1).val = j := Nat.div_add_mod _ _
    rw [e1, e2, pay11_apply] at h
    rw [h, Nat.mul_succ, Finset.sum_range_add]
    refine congr (congrArg (fun a b : EReal => a + b) ?_) ?_
    · show accF K o (0 + i) (512 * (j / 512) + j % 512) = _
      rw [Nat.zero_add, Nat.div_add_mod, ih]
    · rw [Finset.sum_range]
      refine Finset.sum_congr rfl fun k _ => ?_
      show codesT K o (0 + i) (0 + k.val) * K.w (256 * o + (0 + k.val)) (0 + (512 * (j / 512) + j % 512)) = _
      rw [Nat.zero_add, Nat.zero_add, Nat.zero_add, Nat.div_add_mod, codesT_val K u hu o i k.val hi k.isLt]

include hu in
theorem dxF_val (z : EReal) (i j : ℕ) (hi : i < 1024) (hj : j < 4096) :
    dxF K (fun _ => z) i j = (∑ k : Fin 11008, clip (K.dy i k.val * u) * K.w k.val j) * z := by
  have h := dxF_at K (fun _ => z) (i / 128) (ix2 (⟨i % 128, by omega⟩ : Fin 128) (⟨j, hj⟩ : Fin 4096))
  have e1 : 128 * (i / 128) + ((ix2 (⟨i % 128, by omega⟩ : Fin 128) (⟨j, hj⟩ : Fin 4096)) 0).val = i := Nat.div_add_mod _ _
  have e2 : 0 + ((ix2 (⟨i % 128, by omega⟩ : Fin 128) (⟨j, hj⟩ : Fin 4096)) 1).val = j := Nat.zero_add _
  rw [e1, e2, pay45_apply] at h
  rw [h]
  refine congrArg (· * z) ?_
  show accF K 43 (128 * (i / 128) + i % 128) (0 + j) = _
  rw [Nat.div_add_mod, Nat.zero_add, accF_val K u hu 43 i j hi hj, Finset.sum_range]

include hu in
theorem moF_val (z : EReal) (hz : K.ms = fun _ => z) (i j : ℕ) :
    moF K i j = K.mg i j + (∑ k : Fin 1024, clip (K.dy k.val i * u) * K.x k.val j) * z := by
  unfold moF
  have h := moT_at K (i / 256) (j / 1024) (ix3 (0 : Fin 1) (⟨i % 256, by omega⟩ : Fin 256) (⟨j % 1024, by omega⟩ : Fin 1024))
  rw [hz, pay23_apply] at h
  refine h.trans (congr (congrArg (fun a b : EReal => a + b) ?_) (congrArg (· * z) (Finset.sum_congr rfl fun k _ => ?_)))
  · show K.mg (256 * (i / 256) + (0 + i % 256)) (1024 * (j / 1024) + (0 + j % 1024)) = _
    rw [Nat.zero_add, Nat.zero_add, Nat.div_add_mod, Nat.div_add_mod]
  · show codesT K (i / 256) (0 + k.val) (0 + i % 256) * K.x (0 + k.val) (1024 * (j / 1024) + j % 1024) = _
    rw [Nat.zero_add, Nat.zero_add, Nat.div_add_mod, codesT_val K u hu _ _ _ k.isLt (by omega), Nat.div_add_mod]

end Cert.Value

end

end
-- ==== Proof.RRun.lean ====
/-
  The reference's run, its five results read out: each array as the printed payloads of the arrays the region starts
  from. The one grid point covers every array whole, so a window's block is its array.
-/
module

public import proofs.«01_k».proof.Proof.Gen.ReferenceIdeal.Frame
public import Idealize.ShloMosaic.Lib.Pipeline.Value
public import Idealize.ShloMosaic.Lib.Pipeline.ValueKit
public import Idealize.ShloMosaic.Lib.Claim

@[expose] public section

set_option maxRecDepth 16384

noncomputable section

namespace Cert.ReferenceIdeal.Hand

open Cert.ReferenceIdeal Cert.ReferenceIdeal.Gen
open Idealize.ShloMosaic Idealize.SL.Sem
open Idealize.ShloMosaic.Pipeline (Dat Cfg Window)

variable {F : FTy → Type} [FloatOps F]
variable (m : (ℓ : Loc nD τ sig) → Buf (Elt F) ℓ) (ρ : Dev nD → PrngReg)

/-! ## The blocks are the arrays -/

theorem in0 (c : Dev nD) : iblk m c 0 t0_0 = V m c main_v0 := by
  funext x
  refine (View.read_apply _ _).trans ?_
  have e : ((cfg0.win 0).blk t0_0).view.emb x = x :=
    funext fun a => Fin.ext (Window.rect_emb_val_of_index_zero (cfg0.win 0) t0_0 a (by revert a; decide) x)
  rw [e]
  rfl

theorem in1 (c : Dev nD) : iblk m c 1 t0_0 = V m c main_v1 := by
  funext x
  refine (View.read_apply _ _).trans ?_
  have e : ((cfg0.win 1).blk t0_0).view.emb x = x :=
    funext fun a => Fin.ext (Window.rect_emb_val_of_index_zero (cfg0.win 1) t0_0 a (by revert a; decide) x)
  rw [e]
  rfl

theorem in2 (c : Dev nD) : iblk m c 2 t0_0 = V m c main_v2 := by
  funext x
  refine (View.read_apply _ _).trans ?_
  have e : ((cfg0.win 2).blk t0_0).view.emb x = x :=
    funext fun a => Fin.ext (Window.rect_emb_val_of_index_zero (cfg0.win 2) t0_0 a (by revert a; decide) x)
  rw [e]
  rfl

theorem in3 (c : Dev nD) : iblk m c 3 t0_0 = V m c main_arg3 := by
  funext x
  refine (View.read_apply _ _).trans ?_
  have e : ((cfg0.win 3).blk t0_0).view.emb x = x :=
    funext fun a => Fin.ext (Window.rect_emb_val_of_index_zero (cfg0.win 3) t0_0 a (by revert a; decide) x)
  rw [e]
  rfl

theorem in4 (c : Dev nD) : iblk m c 4 t0_0 = V m c main_v3 := by
  funext x
  refine (View.read_apply _ _).trans ?_
  have e : ((cfg0.win 4).blk t0_0).view.emb x = x :=
    funext fun a => Fin.ext (Window.rect_emb_val_of_index_zero (cfg0.win 4) t0_0 a (by revert a; decide) x)
  rw [e]
  rfl

theorem in5 (c : Dev nD) : iblk m c 5 t0_0 = V m c main_arg5 := by
  funext x
  refine (View.read_apply _ _).trans ?_
  have e : ((cfg0.win 5).blk t0_0).view.emb x = x :=
    funext fun a => Fin.ext (Window.rect_emb_val_of_index_zero (cfg0.win 5) t0_0 a (by revert a; decide) x)
  rw [e]
  rfl

theorem idx_inj6 : ∀ t t' : Fin cfg0.N, win0_6.index t = win0_6.index t' → t = t' :=
  (by decide +kernel : ∀ t t' : Fin grid0.N, win0_6.index t = win0_6.index t' → t = t')

theorem end6 (c : Dev nD) : (dats m 0 c).arrAt 6 cfg0.N = out0_6 (V m c main_v0) (V m c main_v1) (V m c main_v2) (V m c main_arg3) (V m c main_v3) (V m c main_arg5) := by
  funext x
  have h := (dats m 0 c).arrAt_emb_eq_flushed 6 (fun t t' _ _ hne => (cfg0.win 6).disjoint_blk fun h => hne (idx_inj6 t t' h)) t0_0 (flush0_6 t0_0) x
  have e : ((cfg0.win 6).blk t0_0).view.emb x = x :=
    funext fun a => Fin.ext (Window.rect_emb_val_of_index_zero (cfg0.win 6) t0_0 a (by revert a; decide) x)
  rw [e] at h
  rw [h]
  show _root_.cast _ ((cfg0.win 6).cut (grid0.coords t0_0) ((dats m 0 c).after 6 t0_0) x) = _
  rw [after0_6, in0, in1, in2, in3, in4, in5]
  generalize out0_6 (F := F) _ _ _ _ _ _ = v
  rfl

theorem idx_inj7 : ∀ t t' : Fin cfg0.N, win0_7.index t = win0_7.index t' → t = t' :=
  (by decide +kernel : ∀ t t' : Fin grid0.N, win0_7.index t = win0_7.index t' → t = t')

theorem end7 (c : Dev nD) : (dats m 0 c).arrAt 7 cfg0.N = out0_7 (V m c main_v0) (V m c main_v1) (V m c main_v2) (V m c main_arg3) (V m c main_v3) (V m c main_arg5) := by
  funext x
  have h := (dats m 0 c).arrAt_emb_eq_flushed 7 (fun t t' _ _ hne => (cfg0.win 7).disjoint_blk fun h => hne (idx_inj7 t t' h)) t0_0 (flush0_7 t0_0) x
  have e : ((cfg0.win 7).blk t0_0).view.emb x = x :=
    funext fun a => Fin.ext (Window.rect_emb_val_of_index_zero (cfg0.win 7) t0_0 a (by revert a; decide) x)
  rw [e] at h
  rw [h]
  show _root_.cast _ ((cfg0.win 7).cut (grid0.coords t0_0) ((dats m 0 c).after 7 t0_0) x) = _
  rw [after0_7, in0, in1, in2, in3, in4, in5]
  generalize out0_7 (F := F) _ _ _ _ _ _ = v
  rfl

theorem idx_inj8 : ∀ t t' : Fin cfg0.N, win0_8.index t = win0_8.index t' → t = t' :=
  (by decide +kernel : ∀ t t' : Fin grid0.N, win0_8.index t = win0_8.index t' → t = t')

theorem end8 (c : Dev nD) : (dats m 0 c).arrAt 8 cfg0.N = out0_8 (V m c main_v0) (V m c main_v1) (V m c main_v2) (V m c main_arg3) (V m c main_v3) (V m c main_arg5) := by
  funext x
  have h := (dats m 0 c).arrAt_emb_eq_flushed 8 (fun t t' _ _ hne => (cfg0.win 8).disjoint_blk fun h => hne (idx_inj8 t t' h)) t0_0 (flush0_8 t0_0) x
  have e : ((cfg0.win 8).blk t0_0).view.emb x = x :=
    funext fun a => Fin.ext (Window.rect_emb_val_of_index_zero (cfg0.win 8) t0_0 a (by revert a; decide) x)
  rw [e] at h
  rw [h]
  show _root_.cast _ ((cfg0.win 8).cut (grid0.coords t0_0) ((dats m 0 c).after 8 t0_0) x) = _
  rw [after0_8, in0, in1, in2, in3, in4, in5]
  generalize out0_8 (F := F) _ _ _ _ _ _ = v
  rfl

theorem idx_inj9 : ∀ t t' : Fin cfg0.N, win0_9.index t = win0_9.index t' → t = t' :=
  (by decide +kernel : ∀ t t' : Fin grid0.N, win0_9.index t = win0_9.index t' → t = t')

theorem end9 (c : Dev nD) : (dats m 0 c).arrAt 9 cfg0.N = out0_9 (V m c main_v0) (V m c main_v1) (V m c main_v2) (V m c main_arg3) (V m c main_v3) (V m c main_arg5) := by
  funext x
  have h := (dats m 0 c).arrAt_emb_eq_flushed 9 (fun t t' _ _ hne => (cfg0.win 9).disjoint_blk fun h => hne (idx_inj9 t t' h)) t0_0 (flush0_9 t0_0) x
  have e : ((cfg0.win 9).blk t0_0).view.emb x = x :=
    funext fun a => Fin.ext (Window.rect_emb_val_of_index_zero (cfg0.win 9) t0_0 a (by revert a; decide) x)
  rw [e] at h
  rw [h]
  show _root_.cast _ ((cfg0.win 9).cut (grid0.coords t0_0) ((dats m 0 c).after 9 t0_0) x) = _
  rw [after0_9, in0, in1, in2, in3, in4, in5]
  generalize out0_9 (F := F) _ _ _ _ _ _ = v
  rfl

theorem idx_inj10 : ∀ t t' : Fin cfg0.N, win0_10.index t = win0_10.index t' → t = t' :=
  (by decide +kernel : ∀ t t' : Fin grid0.N, win0_10.index t = win0_10.index t' → t = t')

theorem end10 (c : Dev nD) : (dats m 0 c).arrAt 10 cfg0.N = out0_10 (V m c main_v0) (V m c main_v1) (V m c main_v2) (V m c main_arg3) (V m c main_v3) (V m c main_arg5) := by
  funext x
  have h := (dats m 0 c).arrAt_emb_eq_flushed 10 (fun t t' _ _ hne => (cfg0.win 10).disjoint_blk fun h => hne (idx_inj10 t t' h)) t0_0 (flush0_10 t0_0) x
  have e : ((cfg0.win 10).blk t0_0).view.emb x = x :=
    funext fun a => Fin.ext (Window.rect_emb_val_of_index_zero (cfg0.win 10) t0_0 a (by revert a; decide) x)
  rw [e] at h
  rw [h]
  show _root_.cast _ ((cfg0.win 10).cut (grid0.coords t0_0) ((dats m 0 c).after 10 t0_0) x) = _
  rw [after0_10, in0, in1, in2, in3, in4, in5]
  generalize out0_10 (F := F) _ _ _ _ _ _ = v
  rfl

/-! ## The five results -/

section
variable (x0 : Vec F S1024x11008 .bf16) (x1 : Vec F S1024x4096 .fp8e4m3) (x2 : Vec F S1x1 .f32) (x3 : Vec F S11008x4096 .fp8e4m3) (x4 : Vec F S1x1 .f32) (x5 : Vec F S11008x4096 .f32)

theorem zero2 (a : Fin 2) : (![0, 0] : Fin 2 → Nat) a = 0 := by revert a; decide

theorem out6_eq : out0_6 x0 x1 x2 x3 x4 x5 = k0_pay1 (k0_pay5 x0) (k0_pay7 x0) x3 x4 := by
  unfold out0_6 k0_pay8 k0_pay9
  refine (View.canon_cons_unit_lit _ _ _ zero2).trans ?_
  rw [show View.ld x0 r0_0 = x0 from View.ld_unit_lit _ _ zero2, show View.ld x3 r0_2 = x3 from View.ld_unit_lit _ _ zero2,
    show View.ld x4 r0_1 = x4 from View.ld_unit_lit _ _ zero2]

theorem out7_eq : out0_7 x0 x1 x2 x3 x4 x5 = k0_pay2 (k0_pay5 x0) (k0_pay7 x0) x1 x5 x2 := by
  unfold out0_7 k0_pay8 k0_pay9
  refine (View.canon_cons_unit_lit _ _ _ zero2).trans ?_
  rw [show View.ld x0 r0_0 = x0 from View.ld_unit_lit _ _ zero2, show View.ld x1 r0_3 = x1 from View.ld_unit_lit _ _ zero2,
    show View.ld x5 r0_2 = x5 from View.ld_unit_lit _ _ zero2, show View.ld x2 r0_1 = x2 from View.ld_unit_lit _ _ zero2]

theorem out8_eq : out0_8 x0 x1 x2 x3 x4 x5 = k0_pay4 x0 := by
  unfold out0_8
  refine (View.canon_cons_unit_lit _ _ _ zero2).trans ?_
  rw [show View.ld x0 r0_0 = x0 from View.ld_unit_lit _ _ zero2]

theorem out9_eq : out0_9 x0 x1 x2 x3 x4 x5 = k0_pay6 x0 := by
  unfold out0_9
  refine (View.canon_cons_unit_lit _ _ _ zero2).trans ?_
  rw [show View.ld x0 r0_0 = x0 from View.ld_unit_lit _ _ zero2]

theorem out10_eq : out0_10 x0 x1 x2 x3 x4 x5 = k0_pay5 x0 := by
  unfold out0_10
  refine (View.canon_cons_unit_lit _ _ _ zero2).trans ?_
  rw [show View.ld x0 r0_0 = x0 from View.ld_unit_lit _ _ zero2]

end

/-! ## The host's reshapes -/

theorem V0 (c : Dev nD) (h) : V m c main_v0 = shapeCast S1024x11008 (m ((c.tc : Thread nD τ).loc main_arg0)) h := by
  entry_read
  rfl
theorem V1 (c : Dev nD) (h) : V m c main_v1 = shapeCast S1024x4096 (m ((c.tc : Thread nD τ).loc main_arg1)) h := by
  entry_read
  rfl
theorem V2 (c : Dev nD) (h) : V m c main_v2 = shapeCast S1x1 (m ((c.tc : Thread nD τ).loc main_arg2)) h := by
  entry_read
  rfl
theorem V3 (c : Dev nD) (h) : V m c main_v3 = shapeCast S1x1 (m ((c.tc : Thread nD τ).loc main_arg4)) h := by
  entry_read
  rfl

/-! ## The run -/

/-- Every argument ends as launched, every result at its payload of the region's arrays, every semaphore at zero. -/
theorem run : θ_run defs (onTc (τ := τ) (main (F := F))) ⟨m, fun _ => 0, ρ⟩ (fun r => ∀ c : Dev nD,
      (r.2.mem ((c.tc : Thread nD τ).loc main_v4_0) = k0_pay1 (k0_pay5 (V m c main_v0)) (k0_pay7 (V m c main_v0)) (V m c main_arg3) (V m c main_v3)
      ∧ r.2.mem ((c.tc : Thread nD τ).loc main_v4_1) = k0_pay2 (k0_pay5 (V m c main_v0)) (k0_pay7 (V m c main_v0)) (V m c main_v1) (V m c main_arg5) (V m c main_v2)
      ∧ r.2.mem ((c.tc : Thread nD τ).loc main_v4_2) = k0_pay4 (V m c main_v0)
      ∧ r.2.mem ((c.tc : Thread nD τ).loc main_v4_3) = k0_pay6 (V m c main_v0)
      ∧ r.2.mem ((c.tc : Thread nD τ).loc main_v4_4) = k0_pay5 (V m c main_v0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨⟨((h.1 c).1 6).trans ?_, ((h.1 c).1 7).trans ?_, ((h.1 c).1 8).trans ?_, ((h.1 c).1 9).trans ?_, ((h.1 c).1 10).trans ?_⟩, h.2 c⟩)
    (θ_run_and (run_main m ρ) (unchanged m ρ))
  · exact (end6 m c).trans (out6_eq _ _ _ _ _ _)
  · exact (end7 m c).trans (out7_eq _ _ _ _ _ _)
  · exact (end8 m c).trans (out8_eq _ _ _ _ _ _)
  · exact (end9 m c).trans (out9_eq _ _ _ _ _ _)
  · exact (end10 m c).trans (out10_eq _ _ _ _ _ _)

end Cert.ReferenceIdeal.Hand

end
-- ==== Proof.Agree.lean ====
/-
  The kernel's five results and the reference's, equal over the extended reals where the greatest magnitude is a real
  number.
-/
module

public import proofs.«01_k».proof.Proof.Inputs
public import proofs.«01_k».proof.Proof.Sums
public import proofs.«01_k».proof.Proof.RRun

@[expose] public section

set_option maxRecDepth 16384

noncomputable section

namespace Cert.Value

open Cert.Steps Cert.KernelIdeal.Hand
open Idealize.ShloMosaic hiding ix2 ix3 eq_ix2
open Idealize.ShloMosaic.ValueIdx
open scoped BigOperators

section
variable (K : In Ideal) (A : FVec Ideal Cert.ReferenceIdeal.S1024x11008 .bf16) (hdy : K.dy = lift2 (n := 1024) (m := 11008) A)
variable (s : ℝ) (hs : 0 < s) (hiv : K.iv = fun _ => ((s⁻¹ : ℝ) : EReal))
variable (h5 : Cert.ReferenceIdeal.Gen.k0_pay5 (F := Ideal) A = fun _ => (s : EReal))

include hdy hs hiv h5

theorem codes_agree (i : Fin 1024) (k : Fin 11008) :
    clip (K.dy i.val k.val * ((s⁻¹ : ℝ) : EReal)) = Cert.ReferenceIdeal.Gen.k0_pay6 (F := Ideal) A (ix2 i k) := by
  rw [rpay6_apply A s hs h5, hdy]
  exact congrArg (fun a : EReal => clip (a * ((s⁻¹ : ℝ) : EReal))) (lift2_val (n := 1024) (m := 11008) A (ix2 i k))

theorem codes_eq (y : Cert.ReferenceIdeal.S1024x11008.Idx) :
    codesF K (y 0).val (y 1).val = Cert.ReferenceIdeal.Gen.k0_pay6 (F := Ideal) A y := by
  rw [codesF_val K _ hiv _ _ (y 0).isLt]
  refine (codes_agree K A hdy s hs hiv h5 (y 0) (y 1)).trans (congrArg _ ?_)
  exact (eq_ix2 y).symm

theorem dx_eq (W : FVec Ideal Cert.ReferenceIdeal.S11008x4096 .fp8e4m3) (hw : K.w = lift2 (n := 11008) (m := 4096) W) (c : EReal)
    (y : Cert.ReferenceIdeal.S1024x4096.Idx) :
    dxF K (fun _ => (s : EReal) * c) (y 0).val (y 1).val
      = Cert.ReferenceIdeal.Gen.k0_pay1 (F := Ideal) (Cert.ReferenceIdeal.Gen.k0_pay5 A) (Cert.ReferenceIdeal.Gen.k0_pay7 A) W (fun _ => c) y := by
  rw [dxF_val K _ hiv _ _ _ (y 0).isLt (y 1).isLt, h5]
  refine .trans ?_ (congrArg _ (eq_ix2 y).symm)
  refine ((rpay1_apply _ c _ W (y 0) (y 1)).trans (congrArg (· * ((s : EReal) * c)) (Finset.sum_congr rfl fun k _ => ?_))).symm
  refine congr (congrArg (fun a b : EReal => a * b) (codes_agree K A hdy s hs hiv h5 (y 0) k).symm) ?_
  rw [hw]
  exact (lift2_val (n := 11008) (m := 4096) W (ix2 k (y 1))).symm

theorem mo_eq (X : FVec Ideal Cert.ReferenceIdeal.S1024x4096 .fp8e4m3) (hx : K.x = lift2 (n := 1024) (m := 4096) X)
    (R : FVec Ideal Cert.ReferenceIdeal.S11008x4096 .f32) (hr : K.mg = lift2 (n := 11008) (m := 4096) R) (c : EReal) (hms : K.ms = fun _ => (s : EReal) * c)
    (y : Cert.ReferenceIdeal.S11008x4096.Idx) :
    moF K (y 0).val (y 1).val
      = Cert.ReferenceIdeal.Gen.k0_pay2 (F := Ideal) (Cert.ReferenceIdeal.Gen.k0_pay5 A) (Cert.ReferenceIdeal.Gen.k0_pay7 A) X R (fun _ => c) y := by
  rw [moF_val K _ hiv _ hms, h5]
  refine .trans ?_ (congrArg _ (eq_ix2 y).symm)
  refine ((rpay2_apply _ c _ X R (y 0) (y 1)).trans ?_).symm
  refine congr (congrArg (fun a b : EReal => a + b) ?_) (congrArg (· * ((s : EReal) * c)) (Finset.sum_congr rfl fun k _ => ?_))
  · rw [hr]
    exact (lift2_val (n := 11008) (m := 4096) R (ix2 (y 0) (y 1))).symm
  · refine congr (congrArg (fun a b : EReal => a * b) (codes_agree K A hdy s hs hiv h5 k (y 0)).symm) ?_
    rw [hx]
    exact (lift2_val (n := 1024) (m := 4096) X (ix2 k (y 1))).symm

end

end Cert.Value

end
-- ==== Proof.Algebraic.lean ====
/-
  The algebraic claim: from memories that agree on the arguments, the kernel and the reference end with equal results over
  the extended reals.
-/
module

public import proofs.«01_k».proof.Defs
public import proofs.«01_k».proof.Proof.Agree

@[expose] public section

set_option maxRecDepth 16384

noncomputable section

namespace Cert.Value

open Cert.Steps
open Idealize.ShloMosaic Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- What the two regions start from is the same: the arrays by position. -/
structure Same : Prop where
  dy : Cert.KernelIdeal.Gen.V m c Cert.KernelIdeal.main_v2 = Cert.ReferenceIdeal.Gen.V m' c Cert.ReferenceIdeal.main_v0
  x : Cert.KernelIdeal.Gen.V m c Cert.KernelIdeal.main_v3 = Cert.ReferenceIdeal.Gen.V m' c Cert.ReferenceIdeal.main_v1
  xs : Cert.KernelIdeal.Gen.V m c Cert.KernelIdeal.main_v0 = Cert.ReferenceIdeal.Gen.V m' c Cert.ReferenceIdeal.main_v2
  w : Cert.KernelIdeal.Gen.V m c Cert.KernelIdeal.main_arg3 = Cert.ReferenceIdeal.Gen.V m' c Cert.ReferenceIdeal.main_arg3
  ws : Cert.KernelIdeal.Gen.V m c Cert.KernelIdeal.main_v1 = Cert.ReferenceIdeal.Gen.V m' c Cert.ReferenceIdeal.main_v3
  mg : Cert.KernelIdeal.Gen.V m c Cert.KernelIdeal.main_arg5 = Cert.ReferenceIdeal.Gen.V m' c Cert.ReferenceIdeal.main_arg5

theorem same
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Same m m' c where
  dy := (Cert.KernelIdeal.Hand.V2 m c Cert.KernelIdeal.Gen.facts.shapeCasts_S2x512x11008_S1024x11008).trans (.trans (congrArg (fun v => shapeCast Cert.KernelIdeal.S1024x11008 v _) h.1.symm) (Cert.ReferenceIdeal.Hand.V0 m' c _).symm)
  x := (Cert.KernelIdeal.Hand.V3 m c Cert.KernelIdeal.Gen.facts.shapeCasts_S2x512x4096_S1024x4096).trans (.trans (congrArg (fun v => shapeCast Cert.KernelIdeal.S1024x4096 v _) h.2.1.symm) (Cert.ReferenceIdeal.Hand.V1 m' c _).symm)
  xs := (Cert.KernelIdeal.Hand.V0 m c Cert.KernelIdeal.Gen.facts.shapeCasts_S_S1x1).trans (.trans (congrArg (fun v => shapeCast Cert.KernelIdeal.S1x1 v _) h.2.2.1.symm) (Cert.ReferenceIdeal.Hand.V2 m' c _).symm)
  w := (Cert.KernelIdeal.Gen.V_main_arg3 m c).trans (h.2.2.2.1.symm.trans (Cert.ReferenceIdeal.Gen.V_main_arg3 m' c).symm)
  ws := (Cert.KernelIdeal.Hand.V1 m c Cert.KernelIdeal.Gen.facts.shapeCasts_S_S1x1).trans (.trans (congrArg (fun v => shapeCast Cert.KernelIdeal.S1x1 v _) h.2.2.2.2.1.symm) (Cert.ReferenceIdeal.Hand.V3 m' c _).symm)
  mg := (Cert.KernelIdeal.Gen.V_main_arg5 m c).trans (h.2.2.2.2.2.symm.trans (Cert.ReferenceIdeal.Gen.V_main_arg5 m' c).symm)

/-- A `[1, 1]` array is its one element everywhere. -/
theorem const1 {α : Type} (v : Cert.KernelIdeal.S1x1.Idx → α) (y : Cert.KernelIdeal.S1x1.Idx) : v = fun _ => v y :=
  funext fun _ => congrArg v (Cert.KernelIdeal.Hand.sub1 _ _)

theorem mul34 (s : ℝ) (t : EReal) : Cert.KernelIdeal.Gen.k0_pay34 (F := Ideal) (fun _ => (s : EReal)) t = fun _ => (s : EReal) * t := rfl
theorem mul35 (s : ℝ) (t : EReal) : Cert.KernelIdeal.Gen.k0_pay35 (F := Ideal) (fun _ => (s : EReal)) t = fun _ => (s : EReal) * t := rfl
theorem get32 (v : EReal) : Cert.KernelIdeal.Gen.k0_pay32 (F := Ideal) (fun _ => v) = v := rfl
theorem get33 (v : EReal) : Cert.KernelIdeal.Gen.k0_pay33 (F := Ideal) (fun _ => v) = v := rfl

/-- The five results are equal. -/
theorem values (h : Same m m' c) (hA : ∀ i, mag (Cert.ReferenceIdeal.Gen.V m' c Cert.ReferenceIdeal.main_v0 i) ≤ (bound : EReal)) :
    let A := Cert.ReferenceIdeal.Gen.V m' c Cert.ReferenceIdeal.main_v0
    Cert.ReferenceIdeal.Gen.k0_pay1 (F := Ideal) (Cert.ReferenceIdeal.Gen.k0_pay5 A) (Cert.ReferenceIdeal.Gen.k0_pay7 A)
        (Cert.ReferenceIdeal.Gen.V m' c Cert.ReferenceIdeal.main_arg3) (Cert.ReferenceIdeal.Gen.V m' c Cert.ReferenceIdeal.main_v3) = Cert.KernelIdeal.Hand.dxV m c
      ∧ Cert.ReferenceIdeal.Gen.k0_pay2 (F := Ideal) (Cert.ReferenceIdeal.Gen.k0_pay5 A) (Cert.ReferenceIdeal.Gen.k0_pay7 A)
        (Cert.ReferenceIdeal.Gen.V m' c Cert.ReferenceIdeal.main_v1) (Cert.ReferenceIdeal.Gen.V m' c Cert.ReferenceIdeal.main_arg5)
        (Cert.ReferenceIdeal.Gen.V m' c Cert.ReferenceIdeal.main_v2) = Cert.KernelIdeal.Hand.moV m c
      ∧ Cert.ReferenceIdeal.Gen.k0_pay4 (F := Ideal) A = Cert.KernelIdeal.Hand.amaxV m c
      ∧ Cert.ReferenceIdeal.Gen.k0_pay6 (F := Ideal) A = Cert.KernelIdeal.Hand.codesV m c
      ∧ Cert.ReferenceIdeal.Gen.k0_pay5 (F := Ideal) A = Cert.KernelIdeal.Hand.scaleV m c := by
  intro A
  obtain ⟨M, hM, h0, h1⟩ := amax_real A hA
  have hdy : Cert.KernelIdeal.Hand.dyF m c = lift2 (n := 1024) (m := 11008) A := by
    unfold Cert.KernelIdeal.Hand.dyF
    exact congrArg (lift2 (n := 1024) (m := 11008)) h.dy
  have hv : Cert.KernelIdeal.Gen.k0_pay27 (F := Ideal) (Cert.KernelIdeal.Hand.amV m c) = Cert.ReferenceIdeal.Gen.k0_pay4 (F := Ideal) A := by
    unfold Cert.KernelIdeal.Hand.amV
    rw [hdy]
    exact amax_eq A
  obtain ⟨s, hs, h29, h5, h31⟩ := scales A M h0 h1 _ hv hM
  let y0 : Cert.KernelIdeal.S1x1.Idx := fun a => ⟨0, by revert a; decide⟩
  have hxs : Cert.ReferenceIdeal.Gen.V m' c Cert.ReferenceIdeal.main_v2 = fun _ => Cert.KernelIdeal.Hand.xsW m c 0 0 := by
    rw [Cert.KernelIdeal.Hand.xs_eq m c y0, h.xs]
    exact const1 _ y0
  have hws : Cert.ReferenceIdeal.Gen.V m' c Cert.ReferenceIdeal.main_v3 = fun _ => Cert.KernelIdeal.Hand.wsW m c 0 0 := by
    rw [Cert.KernelIdeal.Hand.ws_eq m c y0, h.ws]
    exact const1 _ y0
  refine ⟨funext fun y => ?_, funext fun y => ?_, ?_, funext fun y => ?_, ?_⟩
  · unfold Cert.KernelIdeal.Hand.dxV
    rw [hws, h29, mul35]
    exact (dx_eq (Cert.KernelIdeal.Hand.KI m c) A hdy s hs h31 h5 _ (congrArg (lift2 (n := 11008) (m := 4096)) h.w) _ y).symm
  · unfold Cert.KernelIdeal.Hand.moV
    rw [hxs]
    refine (mo_eq (Cert.KernelIdeal.Hand.KI m c) A hdy s hs h31 h5 _ (congrArg (lift2 (n := 1024) (m := 4096)) h.x) _
      (congrArg (lift2 (n := 11008) (m := 4096)) h.mg) _ ?_ y).symm
    show Cert.KernelIdeal.Gen.k0_pay34 (F := Ideal) (Cert.KernelIdeal.Gen.k0_pay29 (Cert.KernelIdeal.Hand.amV m c)) (Cert.KernelIdeal.Hand.xsW m c 0 0) = _
    rw [h29, mul34]
  · unfold Cert.KernelIdeal.Hand.amaxV
    rw [hv, hM, get32]
  · unfold Cert.KernelIdeal.Hand.codesV
    exact (codes_eq (Cert.KernelIdeal.Hand.KI m c) A hdy s hs h31 h5 y).symm
  · unfold Cert.KernelIdeal.Hand.scaleV
    rw [h29, h5, get33]

/-- The algebraic claim. -/
theorem algebraic : Cert.algebraic_KernelIdeal_ReferenceIdeal_pre_within_bf16 (hKernelIdeal := Cert.KernelIdeal.Gen.facts)
    (hReferenceIdeal := Cert.ReferenceIdeal.Gen.facts) (hPre_within_bf16 := Cert.Pre_within_bf16.Gen.facts) := by
  intro m g m' g' hpre hagree
  have hval := fun c => values m m' c (same m m' c (hagree c)) fun i => by
    rw [Cert.ReferenceIdeal.Hand.V0 m' c Cert.KernelIdeal.Gen.facts.shapeCasts_S2x512x11008_S1024x11008, (hagree c).1]
    obtain ⟨k, hk⟩ := cast_mem (t := Cert.ReferenceIdeal.S1024x11008) (m ((c.tc : Thread Cert.KernelIdeal.nD Cert.KernelIdeal.τ).loc Cert.KernelIdeal.main_arg0)) Cert.KernelIdeal.Gen.facts.shapeCasts_S2x512x11008_S1024x11008 i
    rw [hk]
    exact within_le _ _ _ _ _ _ (hpre c) k
  refine ⟨Cert.KernelIdeal.Hand.dxV m, Cert.KernelIdeal.Hand.moV m, Cert.KernelIdeal.Hand.amaxV m, Cert.KernelIdeal.Hand.codesV m, Cert.KernelIdeal.Hand.scaleV m, ?_, ?_⟩
  · exact (θ_run _ _ _).mono (fun r h c => ⟨(h.1 c).1.1, (h.1 c).1.2.1, (h.1 c).1.2.2.1, (h.1 c).1.2.2.2.1, (h.1 c).1.2.2.2.2, (h.1 c).2⟩)
      (Cert.KernelIdeal.Hand.run m g)
  · exact (θ_run _ _ _).mono (fun r h c => ⟨(h c).1.1.trans (hval c).1, (h c).1.2.1.trans (hval c).2.1, (h c).1.2.2.1.trans (hval c).2.2.1,
      (h c).1.2.2.2.1.trans (hval c).2.2.2.1, (h c).1.2.2.2.2.trans (hval c).2.2.2.2, (h c).2⟩) (Cert.ReferenceIdeal.Hand.run m' g')

end Cert.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_within_bf16
public import proofs.«01_k».proof.Proof.KRun
public import proofs.«01_k».proof.Proof.KIRun
public import proofs.«01_k».proof.Proof.Algebraic

@[expose] public section

namespace Cert.Proof
open Idealize.ShloMosaic

/-- The kernel's frame: its launch theorem, of which only the arguments and the counters are kept. -/
theorem frame_Kernel : Cert.quiescent_Kernel (hKernel := Cert.Kernel.Gen.facts) := fun m g _ =>
  (θ_run Cert.Kernel.defs _ _).mono (fun _ h => ⟨fun c => (h.1 c).2, h.2⟩) (Cert.Kernel.Hand.run m g)

/-- The frame of the kernel over the extended reals. -/
theorem frame_KernelIdeal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Hand.run m g)

/-- The frames, the idealization and the equality of the five results. A frame under the precondition is the frame
    itself. -/
theorem claim : Cert.Claim := ⟨Cert.Kernel.Gen.facts, Cert.KernelIdeal.Gen.facts, Cert.ReferenceIdeal.Gen.facts, Cert.Pre_within_bf16.Gen.facts,
  frame_Kernel, frame_KernelIdeal, fun m g _ => frame_KernelIdeal m g trivial,
  fun m g _ => Cert.ReferenceIdeal.Gen.frame m g, fun m g _ => Cert.ReferenceIdeal.Gen.frame m g, trivial, Cert.Value.algebraic⟩

end Cert.Proof

end
